-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v63) = v3 c
          ∧ r.2.mem ((c.tc : Thread Cert.Reference2Ideal.nD Cert.Reference2Ideal.τ).loc Cert.Reference2Ideal.main_v80) = v4 c
          ∧ r.2.mem ((c.tc : Thread Cert.Reference2Ideal.nD Cert.Reference2Ideal.τ).loc Cert.Reference2Ideal.main_v82) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v61) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_in_range.lean ====
abbrev S2x16x1024 : Shape := ⟨3, ![2, 16, 1024]⟩
abbrev S16384x1024 : Shape := ⟨2, ![16384, 1024]⟩
abbrev S16x1024x2816 : Shape := ⟨3, ![16, 1024, 2816]⟩
abbrev S16x2816x1024 : Shape := ⟨3, ![16, 2816, 1024]⟩
abbrev S_ : Shape := ⟨0, ![]⟩

class Facts : Prop where
  bcast_S_S2x16x1024 : S_.BroadcastsInDim S2x16x1024 (![] : Fin 0 → Fin S2x16x1024.rank)

variable [Facts]

def fn {F : FTy → Type} [FloatOps F] (main_arg0 : IVec S2x16x1024 32) (main_arg1 : FVec F S16384x1024 .f32) (main_arg2 : FVec F S16x1024x2816 .f32) (main_arg3 : FVec F S16x1024x2816 .f32) (main_arg4 : FVec F S16x2816x1024 .f32) : IVec S2x16x1024 1 :=
  let main_c : IVec S_ 32 := constantI S_ 32 0#32
  let main_v0 : IVec S2x16x1024 32 := broadcastInDim S2x16x1024 ![] bcast_S_S2x16x1024 main_c
  let main_v1 : IVec S2x16x1024 1 := cmpi .sge main_arg0 main_v0
  let main_c_0 : IVec S_ 32 := constantI S_ 32 8192#32
  let main_v2 : IVec S2x16x1024 32 := broadcastInDim S2x16x1024 ![] bcast_S_S2x16x1024 main_c_0
  let main_v3 : IVec S2x16x1024 1 := cmpi .slt main_arg0 main_v2
  let main_v4 : IVec S2x16x1024 1 := andi main_v1 main_v3
  main_v4
-- ==== Kernel.lean ====
abbrev S2x16x1024 : Shape := ⟨3, ![2, 16, 1024]⟩
abbrev S16384x1024 : Shape := ⟨2, ![16384, 1024]⟩
abbrev S16x1024x2816 : Shape := ⟨3, ![16, 1024, 2816]⟩
abbrev S16x2816x1024 : Shape := ⟨3, ![16, 2816, 1024]⟩
abbrev S2 : Shape := ⟨1, ![2]⟩
abbrev S_ : Shape := ⟨0, ![]⟩
abbrev S2x1x1 : Shape := ⟨3, ![2, 1, 1]⟩
abbrev S16x2x1024 : Shape := ⟨3, ![16, 2, 1024]⟩
abbrev S16x2048 : Shape := ⟨2, ![16, 2048]⟩
abbrev S1x2048 : Shape := ⟨2, ![1, 2048]⟩
abbrev S1x0x2048 : Shape := ⟨3, ![1, 0, 2048]⟩
abbrev S0x2048 : Shape := ⟨2, ![0, 2048]⟩
abbrev S16x1 : Shape := ⟨2, ![16, 1]⟩
abbrev S16x1x0 : Shape := ⟨3, ![16, 1, 0]⟩
abbrev S16x0 : Shape := ⟨2, ![16, 0]⟩
abbrev S16x1x64 : Shape := ⟨3, ![16, 1, 64]⟩
abbrev S16x64 : Shape := ⟨2, ![16, 64]⟩
abbrev S16x2112 : Shape := ⟨2, ![16, 2112]⟩
abbrev S33792 : Shape := ⟨1, ![33792]⟩
abbrev S2x16x1024x1024 : Shape := ⟨4, ![2, 16, 1024, 1024]⟩
abbrev S1x1024x256 : Shape := ⟨3, ![1, 1024, 256]⟩
abbrev S1x256x1024 : Shape := ⟨3, ![1, 256, 1024]⟩
abbrev S2x1x1024x1024 : Shape := ⟨4, ![2, 1, 1024, 1024]⟩
abbrev S2x11x192x1024 : Shape := ⟨4, ![2, 11, 192, 1024]⟩
abbrev S2048x1024 : Shape := ⟨2, ![2048, 1024]⟩
abbrev S1 : Shape := ⟨1, ![1]⟩
abbrev S1x1x1x1024 : Shape := ⟨4, ![1, 1, 1, 1024]⟩
abbrev S1x1024 : Shape := ⟨2, ![1, 1024]⟩
abbrev S1x1x192x1024 : Shape := ⟨4, ![1, 1, 192, 1024]⟩
abbrev S192x1024 : Shape := ⟨2, ![192, 1024]⟩
abbrev S1x1x128x1024 : Shape := ⟨4, ![1, 1, 128, 1024]⟩
abbrev S128x1024 : Shape := ⟨2, ![128, 1024]⟩
abbrev S1024x256 : Shape := ⟨2, ![1024, 256]⟩
abbrev S256x1024 : Shape := ⟨2, ![256, 1024]⟩
abbrev S1024x1024 : Shape := ⟨2, ![1024, 1024]⟩
abbrev S1x1x1024x1024 : Shape := ⟨4, ![1, 1, 1024, 1024]⟩

abbrev nBuf : Space → Nat
  | .hbm => 30
  | .vmem => 10
  | .smem => 1
  | _ => 0

abbrev bufTy : (tb : Table) → Fin (tcTables nBuf tb) → BufTy
  | .hbm, ⟨0, _⟩ => ⟨S2x16x1024, .i32⟩
  | .hbm, ⟨1, _⟩ => ⟨S16384x1024, .f32⟩
  | .hbm, ⟨2, _⟩ => ⟨S16x1024x2816, .f32⟩
  | .hbm, ⟨3, _⟩ => ⟨S16x1024x2816, .f32⟩
  | .hbm, ⟨4, _⟩ => ⟨S16x2816x1024, .f32⟩
  | .hbm, ⟨5, _⟩ => ⟨S2, .i32⟩
  | .hbm, ⟨6, _⟩ => ⟨S_, .i32⟩
  | .hbm, ⟨7, _⟩ => ⟨S2, .i32⟩
  | .hbm, ⟨8, _⟩ => ⟨S2, .i32⟩
  | .hbm, ⟨9, _⟩ => ⟨S2x1x1, .i32⟩
  | .hbm, ⟨10, _⟩ => ⟨S2x16x1024, .i32⟩
  | .hbm, ⟨11, _⟩ => ⟨S2x16x1024, .i32⟩
  | .hbm, ⟨12, _⟩ => ⟨S16x2x1024, .i32⟩
  | .hbm, ⟨13, _⟩ => ⟨S16x2048, .i32⟩
  | .hbm, ⟨14, _⟩ => ⟨S_, .i32⟩
  | .hbm, ⟨15, _⟩ => ⟨S1x2048, .i32⟩
  | .hbm, ⟨16, _⟩ => ⟨S1x0x2048, .i32⟩
  | .hbm, ⟨17, _⟩ => ⟨S0x2048, .i32⟩
  | .hbm, ⟨18, _⟩ => ⟨S1x2048, .i32⟩
  | .hbm, ⟨19, _⟩ => ⟨S1x0x2048, .i32⟩
  | .hbm, ⟨20, _⟩ => ⟨S0x2048, .i32⟩
  | .hbm, ⟨21, _⟩ => ⟨S16x2048, .i32⟩
  | .hbm, ⟨22, _⟩ => ⟨S16x1, .i32⟩
  | .hbm, ⟨23, _⟩ => ⟨S16x1x0, .i32⟩
  | .hbm, ⟨24, _⟩ => ⟨S16x0, .i32⟩
  | .hbm, ⟨25, _⟩ => ⟨S16x1, .i32⟩
  | .hbm, ⟨26, _⟩ => ⟨S16x1x64, .i32⟩
  | .hbm, ⟨27, _⟩ => ⟨S16x64, .i32⟩
  | .hbm, ⟨28, _⟩ => ⟨S16x2112, .i32⟩
  | .hbm, ⟨29, _⟩ => ⟨S2x16x1024x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x256x1024, .f32⟩
  | .local _ .vmem, ⟨5, _⟩ => ⟨S1x256x1024, .f32⟩
  | .local _ .vmem, ⟨6, _⟩ => ⟨S2x1x1024x1024, .f32⟩
  | .local _ .vmem, ⟨7, _⟩ => ⟨S2x1x1024x1024, .f32⟩
  | .local _ .vmem, ⟨8, _⟩ => ⟨S2x11x192x1024, .f32⟩
  | .local _ .vmem, ⟨9, _⟩ => ⟨S2048x1024, .bf16⟩
  | .local _ .smem, ⟨0, _⟩ => ⟨S33792, .i32⟩
  | _, _ => ⟨S2x16x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_v8 : Ref sig .tc := ⟨.hbm, 28, rfl⟩
abbrev main_v10 : Ref sig .tc := ⟨.hbm, 29, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

abbrev pre0 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

@[reducible] def k0_t1_loop : Scf.Loop 32 :=
  let c0_i32_1197 : BitVec 32 := 0#32
  let c192_i32_1198 : BitVec 32 := 192#32
  let v2366 : BitVec 32 := Scalar.addi c0_i32_1197 c192_i32_1198
  let c1_i32_1199 : BitVec 32 := 1#32
  ⟨c0_i32_1197, v2366, c1_i32_1199⟩
def k0_off1 (k0_t1 : Fin k0_t1_loop.trips) : Fin 1 → Nat :=
  let c0_i32_1241 : BitVec 32 := 0#32
  let c0_i32_1197 : BitVec 32 := 0#32
  let c1_i32_1199 : BitVec 32 := 1#32
  let arg11 : BitVec 32 := Scf.iv c0_i32_1197 c1_i32_1199 k0_t1
  let v2377 : BitVec 32 := Scalar.addi c0_i32_1241 arg11
  let v2378 : Index := Scalar.indexCast v2377
  ![v2378.toNat]
def k0_off2 (k0_t1 : Fin k0_t1_loop.trips) : Fin 4 → Nat :=
  let c0_i32_1242 : BitVec 32 := 0#32
  let c0_i32_1243 : BitVec 32 := 0#32
  let c0_i32_1197 : BitVec 32 := 0#32
  let c1_i32_1199 : BitVec 32 := 1#32
  let arg11 : BitVec 32 := Scf.iv c0_i32_1197 c1_i32_1199 k0_t1
  let c0_i32_1245 : BitVec 32 := 0#32
  ![0, 0, arg11.toNat, 0]
def k0_off3 (v2379 : BitVec 32) : Fin 2 → Nat :=
  let c0_i32_1246 : BitVec 32 := 0#32
  ![v2379.toNat, 0]

def k0_chk1 (i : grid0.Coords) (v2379 : BitVec 32) : Prop :=
  (∀ (k0_h1 : k0_cond1 i = 1#1), ∀ a, (k0_off3 v2379) a + S1x1024.size a ≤ S16384x1024.size a)
theorem k0_off3_inb : ∀ (i : grid0.Coords) (v2379 : BitVec 32) (k0_hw1 : k0_chk1 i v2379), ∀ (k0_h1 : k0_cond1 i = 1#1), ∀ a, (k0_off3 v2379) a + S1x1024.size a ≤ S16384x1024.size a := fun i v2379 k0_hw1 k0_h1 => k0_hw1 k0_h1

@[reducible] def k0_t2_loop : Scf.Loop 32 :=
  let c0_i32_1201 : BitVec 32 := 0#32
  let c192_i32_1202 : BitVec 32 := 192#32
  let v2367 : BitVec 32 := Scalar.addi c0_i32_1201 c192_i32_1202
  let c1_i32_1203 : BitVec 32 := 1#32
  ⟨c0_i32_1201, v2367, c1_i32_1203⟩
def k0_off4 (k0_t2 : Fin k0_t2_loop.trips) : Fin 1 → Nat :=
  let c192_i32_1241 : BitVec 32 := 192#32
  let c0_i32_1201 : BitVec 32 := 0#32
  let c1_i32_1203 : BitVec 32 := 1#32
  let arg11 : BitVec 32 := Scf.iv c0_i32_1201 c1_i32_1203 k0_t2
  let v2377 : BitVec 32 := Scalar.addi c192_i32_1241 arg11
  let v2378 : Index := Scalar.indexCast v2377
  ![v2378.toNat]
def k0_off5 (k0_t2 : Fin k0_t2_loop.trips) : Fin 4 → Nat :=
  let c0_i32_1242 : BitVec 32 := 0#32
  let c1_i32_1243 : BitVec 32 := 1#32
  let c0_i32_1201 : BitVec 32 := 0#32
  let c1_i32_1203 : BitVec 32 := 1#32
  let arg11 : BitVec 32 := Scf.iv c0_i32_1201 c1_i32_1203 k0_t2
  let c0_i32_1245 : BitVec 32 := 0#32
  ![0, 1, arg11.toNat, 0]
def k0_off6 (v2379 : BitVec 32) : Fin 2 → Nat :=
  let c0_i32_1246 : BitVec 32 := 0#32
  ![v2379.toNat, 0]

def k0_chk2 (i : grid0.Coords) (v2379 : BitVec 32) : Prop :=
  (∀ (k0_h1 : k0_cond1 i = 1#1), ∀ a, (k0_off6 v2379) a + S1x1024.size a ≤ S16384x1024.size a)
theorem k0_off6_inb : ∀ (i : grid0.Coords) (v2379 : BitVec 32) (k0_hw2 : k0_chk2 i v2379), ∀ (k0_h1 : k0_cond1 i = 1#1), ∀ a, (k0_off6 v2379) a + S1x1024.size a ≤ S16384x1024.size a := fun i v2379 k0_hw2 k0_h1 => k0_hw2 k0_h1

@[reducible] def k0_t3_loop : Scf.Loop 32 :=
  let c0_i32_1205 : BitVec 32 := 0#32
  let c192_i32_1206 : BitVec 32 := 192#32
  let v2368 : BitVec 32 := Scalar.addi c0_i32_1205 c192_i32_1206
  let c1_i32_1207 : BitVec 32 := 1#32
  ⟨c0_i32_1205, v2368, c1_i32_1207⟩
def k0_off7 (k0_t3 : Fin k0_t3_loop.trips) : Fin 1 → Nat :=
  let c384_i32 : BitVec 32 := 384#32
  let c0_i32_1205 : BitVec 32 := 0#32
  let c1_i32_1207 : BitVec 32 := 1#32
  let arg11 : BitVec 32 := Scf.iv c0_i32_1205 c1_i32_1207 k0_t3
  let v2377 : BitVec 32 := Scalar.addi c384_i32 arg11
  let v2378 : Index := Scalar.indexCast v2377
  ![v2378.toNat]
def k0_off8 (k0_t3 : Fin k0_t3_loop.trips) : Fin 4 → Nat :=
  let c0_i32_1241 : BitVec 32 := 0#32
  let c2_i32_1242 : BitVec 32 := 2#32
  let c0_i32_1205 : BitVec 32 := 0#32
  let c1_i32_1207 : BitVec 32 := 1#32
  let arg11 : BitVec 32 := Scf.iv c0_i32_1205 c1_i32_1207 k0_t3
  let c0_i32_1244 : BitVec 32 := 0#32
  ![0, 2, arg11.toNat, 0]
def k0_off9 (v2379 : BitVec 32) : Fin 2 → Nat :=
  let c0_i32_1245 : BitVec 32 := 0#32
  ![v2379.toNat, 0]

def k0_chk3 (i : grid0.Coords) (v2379 : BitVec 32) : Prop :=
  (∀ (k0_h1 : k0_cond1 i = 1#1), ∀ a, (k0_off9 v2379) a + S1x1024.size a ≤ S16384x1024.size a)
theorem k0_off9_inb : ∀ (i : grid0.Coords) (v2379 : BitVec 32) (k0_hw3 : k0_chk3 i v2379), ∀ (k0_h1 : k0_cond1 i = 1#1), ∀ a, (k0_off9 v2379) a + S1x1024.size a ≤ S16384x1024.size a := fun i v2379 k0_hw3 k0_h1 => k0_hw3 k0_h1

@[reducible] def k0_t4_loop : Scf.Loop 32 :=
  let c0_i32_1209 : BitVec 32 := 0#32
  let c192_i32_1210 : BitVec 32 := 192#32
  let v2369 : BitVec 32 := Scalar.addi c0_i32_1209 c192_i32_1210
  let c1_i32_1211 : BitVec 32 := 1#32
  ⟨c0_i32_1209, v2369, c1_i32_1211⟩
def k0_off10 (k0_t4 : Fin k0_t4_loop.trips) : Fin 1 → Nat :=
  let c576_i32 : BitVec 32 := 576#32
  let c0_i32_1209 : BitVec 32 := 0#32
  let c1_i32_1211 : BitVec 32 := 1#32
  let arg11 : BitVec 32 := Scf.iv c0_i32_1209 c1_i32_1211 k0_t4
  let v2377 : BitVec 32 := Scalar.addi c576_i32 arg11
  let v2378 : Index := Scalar.indexCast v2377
  ![v2378.toNat]
def k0_off11 (k0_t4 : Fin k0_t4_loop.trips) : Fin 4 → Nat :=
  let c0_i32_1241 : BitVec 32 := 0#32
  let c3_i32_1242 : BitVec 32 := 3#32
  let c0_i32_1209 : BitVec 32 := 0#32
  let c1_i32_1211 : BitVec 32 := 1#32
  let arg11 : BitVec 32 := Scf.iv c0_i32_1209 c1_i32_1211 k0_t4
  let c0_i32_1244 : BitVec 32 := 0#32
  ![0, 3, arg11.toNat, 0]
def k0_off12 (v2379 : BitVec 32) : Fin 2 → Nat :=
  let c0_i32_1245 : BitVec 32 := 0#32
  ![v2379.toNat, 0]

def k0_chk4 (i : grid0.Coords) (v2379 : BitVec 32) : Prop :=
  (∀ (k0_h1 : k0_cond1 i = 1#1), ∀ a, (k0_off12 v2379) a + S1x1024.size a ≤ S16384x1024.size a)
theorem k0_off12_inb : ∀ (i : grid0.Coords) (v2379 : BitVec 32) (k0_hw4 : k0_chk4 i v2379), ∀ (k0_h1 : k0_cond1 i = 1#1), ∀ a, (k0_off12 v2379) a + S1x1024.size a ≤ S16384x1024.size a := fun i v2379 k0_hw4 k0_h1 => k0_hw4 k0_h1

@[reducible] def k0_t5_loop : Scf.Loop 32 :=
  let c0_i32_1213 : BitVec 32 := 0#32
  let c192_i32_1214 : BitVec 32 := 192#32
  let v2370 : BitVec 32 := Scalar.addi c0_i32_1213 c192_i32_1214
  let c1_i32_1215 : BitVec 32 := 1#32
  ⟨c0_i32_1213, v2370, c1_i32_1215⟩
def k0_off13 (k0_t5 : Fin k0_t5_loop.trips) : Fin 1 → Nat :=
  let c768_i32 : BitVec 32 := 768#32
  let c0_i32_1213 : BitVec 32 := 0#32
  let c1_i32_1215 : BitVec 32 := 1#32
  let arg11 : BitVec 32 := Scf.iv c0_i32_1213 c1_i32_1215 k0_t5
  let v2377 : BitVec 32 := Scalar.addi c768_i32 arg11
  let v2378 : Index := Scalar.indexCast v2377
  ![v2378.toNat]
def k0_off14 (k0_t5 : Fin k0_t5_loop.trips) : Fin 4 → Nat :=
  let c0_i32_1241 : BitVec 32 := 0#32
  let c4_i32_1242 : BitVec 32 := 4#32
  let c0_i32_1213 : BitVec 32 := 0#32
  let c1_i32_1215 : BitVec 32 := 1#32
  let arg11 : BitVec 32 := Scf.iv c0_i32_1213 c1_i32_1215 k0_t5
  let c0_i32_1244 : BitVec 32 := 0#32
  ![0, 4, arg11.toNat, 0]
def k0_off15 (v2379 : BitVec 32) : Fin 2 → Nat :=
  let c0_i32_1245 : BitVec 32 := 0#32
  ![v2379.toNat, 0]

def k0_chk5 (i : grid0.Coords) (v2379 : BitVec 32) : Prop :=
  (∀ (k0_h1 : k0_cond1 i = 1#1), ∀ a, (k0_off15 v2379) a + S1x1024.size a ≤ S16384x1024.size a)
theorem k0_off15_inb : ∀ (i : grid0.Coords) (v2379 : BitVec 32) (k0_hw5 : k0_chk5 i v2379), ∀ (k0_h1 : k0_cond1 i = 1#1), ∀ a, (k0_off15 v2379) a + S1x1024.size a ≤ S16384x1024.size a := fun i v2379 k0_hw5 k0_h1 => k0_hw5 k0_h1

@[reducible] def k0_t6_loop : Scf.Loop 32 :=
  let c0_i32_1217 : BitVec 32 := 0#32
  let c192_i32_1218 : BitVec 32 := 192#32
  let v2371 : BitVec 32 := Scalar.addi c0_i32_1217 c192_i32_1218
  let c1_i32_1219 : BitVec 32 := 1#32
  ⟨c0_i32_1217, v2371, c1_i32_1219⟩
def k0_off16 (k0_t6 : Fin k0_t6_loop.trips) : Fin 1 → Nat :=
  let c960_i32 : BitVec 32 := 960#32
  let c0_i32_1217 : BitVec 32 := 0#32
  let c1_i32_1219 : BitVec 32 := 1#32
  let arg11 : BitVec 32 := Scf.iv c0_i32_1217 c1_i32_1219 k0_t6
  let v2377 : BitVec 32 := Scalar.addi c960_i32 arg11
  let v2378 : Index := Scalar.indexCast v2377
  ![v2378.toNat]
def k0_off17 (k0_t6 : Fin k0_t6_loop.trips) : Fin 4 → Nat :=
  let c0_i32_1241 : BitVec 32 := 0#32
  let c5_i32_1242 : BitVec 32 := 5#32
  let c0_i32_1217 : BitVec 32 := 0#32
  let c1_i32_1219 : BitVec 32 := 1#32
  let arg11 : BitVec 32 := Scf.iv c0_i32_1217 c1_i32_1219 k0_t6
  let c0_i32_1244 : BitVec 32 := 0#32
  ![0, 5, arg11.toNat, 0]
def k0_off18 (v2379 : BitVec 32) : Fin 2 → Nat :=
  let c0_i32_1245 : BitVec 32 := 0#32
  ![v2379.toNat, 0]

def k0_chk6 (i : grid0.Coords) (v2379 : BitVec 32) : Prop :=
  (∀ (k0_h1 : k0_cond1 i = 1#1), ∀ a, (k0_off18 v2379) a + S1x1024.size a ≤ S16384x1024.size a)
theorem k0_off18_inb : ∀ (i : grid0.Coords) (v2379 : BitVec 32) (k0_hw6 : k0_chk6 i v2379), ∀ (k0_h1 : k0_cond1 i = 1#1), ∀ a, (k0_off18 v2379) a + S1x1024.size a ≤ S16384x1024.size a := fun i v2379 k0_hw6 k0_h1 => k0_hw6 k0_h1

@[reducible] def k0_t7_loop : Scf.Loop 32 :=
  let c0_i32_1221 : BitVec 32 := 0#32
  let c192_i32_1222 : BitVec 32 := 192#32
  let v2372 : BitVec 32 := Scalar.addi c0_i32_1221 c192_i32_1222
  let c1_i32_1223 : BitVec 32 := 1#32
  ⟨c0_i32_1221, v2372, c1_i32_1223⟩
def k0_off19 (k0_t7 : Fin k0_t7_loop.trips) : Fin 1 → Nat :=
  let c1152_i32 : BitVec 32 := 1152#32
  let c0_i32_1221 : BitVec 32 := 0#32
  let c1_i32_1223 : BitVec 32 := 1#32
  let arg11 : BitVec 32 := Scf.iv c0_i32_1221 c1_i32_1223 k0_t7
  let v2377 : BitVec 32 := Scalar.addi c1152_i32 arg11
  let v2378 : Index := Scalar.indexCast v2377
  ![v2378.toNat]
def k0_off20 (k0_t7 : Fin k0_t7_loop.trips) : Fin 4 → Nat :=
  let c0_i32_1241 : BitVec 32 := 0#32
  let c6_i32_1242 : BitVec 32 := 6#32
  let c0_i32_1221 : BitVec 32 := 0#32
  let c1_i32_1223 : BitVec 32 := 1#32
  let arg11 : BitVec 32 := Scf.iv c0_i32_1221 c1_i32_1223 k0_t7
  let c0_i32_1244 : BitVec 32 := 0#32
  ![0, 6, arg11.toNat, 0]
def k0_off21 (v2379 : BitVec 32) : Fin 2 → Nat :=
  let c0_i32_1245 : BitVec 32 := 0#32
  ![v2379.toNat, 0]

def k0_chk7 (i : grid0.Coords) (v2379 : BitVec 32) : Prop :=
  (∀ (k0_h1 : k0_cond1 i = 1#1), ∀ a, (k0_off21 v2379) a + S1x1024.size a ≤ S16384x1024.size a)
theorem k0_off21_inb : ∀ (i : grid0.Coords) (v2379 : BitVec 32) (k0_hw7 : k0_chk7 i v2379), ∀ (k0_h1 : k0_cond1 i = 1#1), ∀ a, (k0_off21 v2379) a + S1x1024.size a ≤ S16384x1024.size a := fun i v2379 k0_hw7 k0_h1 => k0_hw7 k0_h1

@[reducible] def k0_t8_loop : Scf.Loop 32 :=
  let c0_i32_1225 : BitVec 32 := 0#32
  let c192_i32_1226 : BitVec 32 := 192#32
  let v2373 : BitVec 32 := Scalar.addi c0_i32_1225 c192_i32_1226
  let c1_i32_1227 : BitVec 32 := 1#32
  ⟨c0_i32_1225, v2373, c1_i32_1227⟩
def k0_off22 (k0_t8 : Fin k0_t8_loop.trips) : Fin 1 → Nat :=
  let c1344_i32 : BitVec 32 := 1344#32
  let c0_i32_1225 : BitVec 32 := 0#32
  let c1_i32_1227 : BitVec 32 := 1#32
  let arg11 : BitVec 32 := Scf.iv c0_i32_1225 c1_i32_1227 k0_t8
  let v2377 : BitVec 32 := Scalar.addi c1344_i32 arg11
  let v2378 : Index := Scalar.indexCast v2377
  ![v2378.toNat]
def k0_off23 (k0_t8 : Fin k0_t8_loop.trips) : Fin 4 → Nat :=
  let c0_i32_1241 : BitVec 32 := 0#32
  let c7_i32_1242 : BitVec 32 := 7#32
  let c0_i32_1225 : BitVec 32 := 0#32
  let c1_i32_1227 : BitVec 32 := 1#32
  let arg11 : BitVec 32 := Scf.iv c0_i32_1225 c1_i32_1227 k0_t8
  let c0_i32_1244 : BitVec 32 := 0#32
  ![0, 7, arg11.toNat, 0]
def k0_off24 (v2379 : BitVec 32) : Fin 2 → Nat :=
  let c0_i32_1245 : BitVec 32 := 0#32
  ![v2379.toNat, 0]

def k0_chk8 (i : grid0.Coords) (v2379 : BitVec 32) : Prop :=
  (∀ (k0_h1 : k0_cond1 i = 1#1), ∀ a, (k0_off24 v2379) a + S1x1024.size a ≤ S16384x1024.size a)
theorem k0_off24_inb : ∀ (i : grid0.Coords) (v2379 : BitVec 32) (k0_hw8 : k0_chk8 i v2379), ∀ (k0_h1 : k0_cond1 i = 1#1), ∀ a, (k0_off24 v2379) a + S1x1024.size a ≤ S16384x1024.size a := fun i v2379 k0_hw8 k0_h1 => k0_hw8 k0_h1

@[reducible] def k0_t9_loop : Scf.Loop 32 :=
  let c0_i32_1229 : BitVec 32 := 0#32
  let c192_i32_1230 : BitVec 32 := 192#32
  let v2374 : BitVec 32 := Scalar.addi c0_i32_1229 c192_i32_1230
  let c1_i32_1231 : BitVec 32 := 1#32
  ⟨c0_i32_1229, v2374, c1_i32_1231⟩
def k0_off25 (k0_t9 : Fin k0_t9_loop.trips) : Fin 1 → Nat :=
  let c1536_i32 : BitVec 32 := 1536#32
  let c0_i32_1229 : BitVec 32 := 0#32
  let c1_i32_1231 : BitVec 32 := 1#32
  let arg11 : BitVec 32 := Scf.iv c0_i32_1229 c1_i32_1231 k0_t9
  let v2377 : BitVec 32 := Scalar.addi c1536_i32 arg11
  let v2378 : Index := Scalar.indexCast v2377
  ![v2378.toNat]
def k0_off26 (k0_t9 : Fin k0_t9_loop.trips) : Fin 4 → Nat :=
  let c0_i32_1241 : BitVec 32 := 0#32
  let c8_i32_1242 : BitVec 32 := 8#32
  let c0_i32_1229 : BitVec 32 := 0#32
  let c1_i32_1231 : BitVec 32 := 1#32
  let arg11 : BitVec 32 := Scf.iv c0_i32_1229 c1_i32_1231 k0_t9
  let c0_i32_1244 : BitVec 32 := 0#32
  ![0, 8, arg11.toNat, 0]
def k0_off27 (v2379 : BitVec 32) : Fin 2 → Nat :=
  let c0_i32_1245 : BitVec 32 := 0#32
  ![v2379.toNat, 0]

def k0_chk9 (i : grid0.Coords) (v2379 : BitVec 32) : Prop :=
  (∀ (k0_h1 : k0_cond1 i = 1#1), ∀ a, (k0_off27 v2379) a + S1x1024.size a ≤ S16384x1024.size a)
theorem k0_off27_inb : ∀ (i : grid0.Coords) (v2379 : BitVec 32) (k0_hw9 : k0_chk9 i v2379), ∀ (k0_h1 : k0_cond1 i = 1#1), ∀ a, (k0_off27 v2379) a + S1x1024.size a ≤ S16384x1024.size a := fun i v2379 k0_hw9 k0_h1 => k0_hw9 k0_h1

@[reducible] def k0_t10_loop : Scf.Loop 32 :=
  let c0_i32_1233 : BitVec 32 := 0#32
  let c192_i32_1234 : BitVec 32 := 192#32
  let v2375 : BitVec 32 := Scalar.addi c0_i32_1233 c192_i32_1234
  let c1_i32_1235 : BitVec 32 := 1#32
  ⟨c0_i32_1233, v2375, c1_i32_1235⟩
def k0_off28 (k0_t10 : Fin k0_t10_loop.trips) : Fin 1 → Nat :=
  let c1728_i32 : BitVec 32 := 1728#32
  let c0_i32_1233 : BitVec 32 := 0#32
  let c1_i32_1235 : BitVec 32 := 1#32
  let arg11 : BitVec 32 := Scf.iv c0_i32_1233 c1_i32_1235 k0_t10
  let v2377 : BitVec 32 := Scalar.addi c1728_i32 arg11
  let v2378 : Index := Scalar.indexCast v2377
  ![v2378.toNat]
def k0_off29 (k0_t10 : Fin k0_t10_loop.trips) : Fin 4 → Nat :=
  let c0_i32_1241 : BitVec 32 := 0#32
  let c9_i32_1242 : BitVec 32 := 9#32
  let c0_i32_1233 : BitVec 32 := 0#32
  let c1_i32_1235 : BitVec 32 := 1#32
  let arg11 : BitVec 32 := Scf.iv c0_i32_1233 c1_i32_1235 k0_t10
  let c0_i32_1244 : BitVec 32 := 0#32
  ![0, 9, arg11.toNat, 0]
def k0_off30 (v2379 : BitVec 32) : Fin 2 → Nat :=
  let c0_i32_1245 : BitVec 32 := 0#32
  ![v2379.toNat, 0]

def k0_chk10 (i : grid0.Coords) (v2379 : BitVec 32) : Prop :=
  (∀ (k0_h1 : k0_cond1 i = 1#1), ∀ a, (k0_off30 v2379) a + S1x1024.size a ≤ S16384x1024.size a)
theorem k0_off30_inb : ∀ (i : grid0.Coords) (v2379 : BitVec 32) (k0_hw10 : k0_chk10 i v2379), ∀ (k0_h1 : k0_cond1 i = 1#1), ∀ a, (k0_off30 v2379) a + S1x1024.size a ≤ S16384x1024.size a := fun i v2379 k0_hw10 k0_h1 => k0_hw10 k0_h1

@[reducible] def k0_t11_loop : Scf.Loop 32 :=
  let c0_i32_1237 : BitVec 32 := 0#32
  let c192_i32_1238 : BitVec 32 := 192#32
  let v2376 : BitVec 32 := Scalar.addi c0_i32_1237 c192_i32_1238
  let c1_i32_1239 : BitVec 32 := 1#32
  ⟨c0_i32_1237, v2376, c1_i32_1239⟩
def k0_off31 (k0_t11 : Fin k0_t11_loop.trips) : Fin 1 → Nat :=
  let c1920_i32 : BitVec 32 := 1920#32
  let c0_i32_1237 : BitVec 32 := 0#32
  let c1_i32_1239 : BitVec 32 := 1#32
  let arg11 : BitVec 32 := Scf.iv c0_i32_1237 c1_i32_1239 k0_t11
  let v2377 : BitVec 32 := Scalar.addi c1920_i32 arg11
  let v2378 : Index := Scalar.indexCast v2377
  ![v2378.toNat]
def k0_off32 (k0_t11 : Fin k0_t11_loop.trips) : Fin 4 → Nat :=
  let c0_i32_1241 : BitVec 32 := 0#32
  let c10_i32_1242 : BitVec 32 := 10#32
  let c0_i32_1237 : BitVec 32 := 0#32
  let c1_i32_1239 : BitVec 32 := 1#32
  let arg11 : BitVec 32 := Scf.iv c0_i32_1237 c1_i32_1239 k0_t11
  let c0_i32_1244 : BitVec 32 := 0#32
  ![0, 10, arg11.toNat, 0]
def k0_off33 (v2379 : BitVec 32) : Fin 2 → Nat :=
  let c0_i32_1245 : BitVec 32 := 0#32
  ![v2379.toNat, 0]

def k0_chk11 (i : grid0.Coords) (v2379 : BitVec 32) : Prop :=
  (∀ (k0_h1 : k0_cond1 i = 1#1), ∀ a, (k0_off33 v2379) a + S1x1024.size a ≤ S16384x1024.size a)
theorem k0_off33_inb : ∀ (i : grid0.Coords) (v2379 : BitVec 32) (k0_hw11 : k0_chk11 i v2379), ∀ (k0_h1 : k0_cond1 i = 1#1), ∀ a, (k0_off33 v2379) a + S1x1024.size a ≤ S16384x1024.size a := fun i v2379 k0_hw11 k0_h1 => k0_hw11 k0_h1

def k0_cond2 (i : grid0.Coords) : BitVec 1 :=
  let arg1 : BitVec 32 := BitVec.ofNat 32 (i 1).val
  let c0_i32_6 : BitVec 32 := 0#32
  let v15 : BitVec 1 := Scalar.cmpi .eq arg1 c0_i32_6
  let v16 : BitVec 32 := Scalar.extui v15
  let c0_i32_7 : BitVec 32 := 0#32
  let v17 : BitVec 1 := Scalar.cmpi .ne v16 c0_i32_7
  v17

@[reducible] def k0_t12_loop : Scf.Loop 32 :=
  let c0_i32_1197 : BitVec 32 := 0#32
  let c2112_i32_1198 : BitVec 32 := 2112#32
  let v2366 : BitVec 32 := Scalar.addi c0_i32_1197 c2112_i32_1198
  let c1_i32_1199 : BitVec 32 := 1#32
  ⟨c0_i32_1197, v2366, c1_i32_1199⟩
def k0_off34 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off35 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_1241 : BitVec 32 := 0#32
  let c0_i32_1242 : BitVec 32 := 0#32
  let c0_i32_1243 : BitVec 32 := 0#32
  ![v9.toNat, 0, 0, 0]
def k0_off36 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2367 : Index := Scalar.indexCast v9
  let c0_1200 : Index := 0#32
  let c0_1201 : Index := 0#32
  let c0_1202 : Index := 0#32
  ![v2367.toNat, 0, 0, 0]
def k0_off37 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2374 : Index := Scalar.indexCast v9
  let c1_1205 : Index := 1#32
  let c0_1206 : Index := 0#32
  let c0_1207 : Index := 0#32
  ![v2374.toNat, 1, 0, 0]
def k0_off38 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2381 : Index := Scalar.indexCast v9
  let c2 : Index := 2#32
  let c0_1209 : Index := 0#32
  let c0_1210 : Index := 0#32
  ![v2381.toNat, 2, 0, 0]
def k0_off39 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2388 : Index := Scalar.indexCast v9
  let c3 : Index := 3#32
  let c0_1212 : Index := 0#32
  let c0_1213 : Index := 0#32
  ![v2388.toNat, 3, 0, 0]
def k0_off40 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2395 : Index := Scalar.indexCast v9
  let c4 : Index := 4#32
  let c0_1215 : Index := 0#32
  let c0_1216 : Index := 0#32
  ![v2395.toNat, 4, 0, 0]
def k0_off41 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2402 : Index := Scalar.indexCast v9
  let c5 : Index := 5#32
  let c0_1218 : Index := 0#32
  let c0_1219 : Index := 0#32
  ![v2402.toNat, 5, 0, 0]
def k0_off42 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2409 : Index := Scalar.indexCast v9
  let c6 : Index := 6#32
  let c0_1221 : Index := 0#32
  let c0_1222 : Index := 0#32
  ![v2409.toNat, 6, 0, 0]
def k0_off43 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2416 : Index := Scalar.indexCast v9
  let c7 : Index := 7#32
  let c0_1224 : Index := 0#32
  let c0_1225 : Index := 0#32
  ![v2416.toNat, 7, 0, 0]
def k0_off44 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2423 : Index := Scalar.indexCast v9
  let c8 : Index := 8#32
  let c0_1227 : Index := 0#32
  let c0_1228 : Index := 0#32
  ![v2423.toNat, 8, 0, 0]
def k0_off45 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2430 : Index := Scalar.indexCast v9
  let c9 : Index := 9#32
  let c0_1230 : Index := 0#32
  let c0_1231 : Index := 0#32
  ![v2430.toNat, 9, 0, 0]
def k0_off46 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2437 : Index := Scalar.indexCast v9
  let c10 : Index := 10#32
  let c0_1233 : Index := 0#32
  let c0_1234 : Index := 0#32
  ![v2437.toNat, 10, 0, 0]
def k0_off47 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32 : BitVec 32 := 2112#32
  let v21 : BitVec 32 := Scalar.muli v19 c2112_i32
  let arg1 : BitVec 32 := BitVec.ofNat 32 (i 1).val
  let c192_i32 : BitVec 32 := 192#32
  let v22 : BitVec 32 := Scalar.muli arg1 c192_i32
  let v23 : BitVec 32 := Scalar.addi v21 v22
  let c0_i32_10 : BitVec 32 := 0#32
  let v24 : BitVec 32 := Scalar.addi v23 c0_i32_10
  let v25 : Index := Scalar.indexCast v24
  ![v25.toNat]
def k0_off48 (i : grid0.Coords) : Fin 1 → Nat :=
  let c1_i32_9 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : BitVec 32 := Scalar.subi c1_i32_9 v9
  ![v20.toNat]
def k0_off49 (i : grid0.Coords) : Fin 4 → Nat :=
  let c1_i32_9 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : BitVec 32 := Scalar.subi c1_i32_9 v9
  let arg1 : BitVec 32 := BitVec.ofNat 32 (i 1).val
  let c0_i32_11 : BitVec 32 := 0#32
  let c0_i32_12 : BitVec 32 := 0#32
  ![v20.toNat, arg1.toNat, 0, 0]
def k0_off50 (v26 : BitVec 32) : Fin 2 → Nat :=
  let c0_i32_13 : BitVec 32 := 0#32
  ![v26.toNat, 0]

def k0_chk12 (v26 : BitVec 32) : Prop :=
  (∀ a, (k0_off50 v26) a + S1x1024.size a ≤ S16384x1024.size a)
theorem k0_off50_inb : ∀ (v26 : BitVec 32) (k0_hw12 : k0_chk12 v26), ∀ a, (k0_off50 v26) a + S1x1024.size a ≤ S16384x1024.size a := fun v26 k0_hw12 => k0_hw12

def k0_off51 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_15 : BitVec 32 := 2112#32
  let v33 : BitVec 32 := Scalar.muli v19 c2112_i32_15
  let arg1 : BitVec 32 := BitVec.ofNat 32 (i 1).val
  let c192_i32_16 : BitVec 32 := 192#32
  let v34 : BitVec 32 := Scalar.muli arg1 c192_i32_16
  let v35 : BitVec 32 := Scalar.addi v33 v34
  let c1_i32_17 : BitVec 32 := 1#32
  let v36 : BitVec 32 := Scalar.addi v35 c1_i32_17
  let v37 : Index := Scalar.indexCast v36
  ![v37.toNat]
def k0_off52 (i : grid0.Coords) : Fin 1 → Nat :=
  let c1_i32_14 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_14 v9
  ![v32.toNat]
def k0_off53 (i : grid0.Coords) : Fin 4 → Nat :=
  let c1_i32_14 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_14 v9
  let arg1 : BitVec 32 := BitVec.ofNat 32 (i 1).val
  let c1_i32_18 : BitVec 32 := 1#32
  let c0_i32_19 : BitVec 32 := 0#32
  ![v32.toNat, arg1.toNat, 1, 0]
def k0_off54 (v38 : BitVec 32) : Fin 2 → Nat :=
  let c0_i32_20 : BitVec 32 := 0#32
  ![v38.toNat, 0]

def k0_chk13 (v38 : BitVec 32) : Prop :=
  (∀ a, (k0_off54 v38) a + S1x1024.size a ≤ S16384x1024.size a)
theorem k0_off54_inb : ∀ (v38 : BitVec 32) (k0_hw13 : k0_chk13 v38), ∀ a, (k0_off54 v38) a + S1x1024.size a ≤ S16384x1024.size a := fun v38 k0_hw13 => k0_hw13

def k0_off55 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_22 : BitVec 32 := 2112#32
  let v45 : BitVec 32 := Scalar.muli v19 c2112_i32_22
  let arg1 : BitVec 32 := BitVec.ofNat 32 (i 1).val
  let c192_i32_23 : BitVec 32 := 192#32
  let v46 : BitVec 32 := Scalar.muli arg1 c192_i32_23
  let v47 : BitVec 32 := Scalar.addi v45 v46
  let c2_i32_24 : BitVec 32 := 2#32
  let v48 : BitVec 32 := Scalar.addi v47 c2_i32_24
  let v49 : Index := Scalar.indexCast v48
  ![v49.toNat]
def k0_off56 (i : grid0.Coords) : Fin 1 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v44 : BitVec 32 := Scalar.subi c1_i32_21 v9
  ![v44.toNat]
def k0_off57 (i : grid0.Coords) : Fin 4 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v44 : BitVec 32 := Scalar.subi c1_i32_21 v9
  let arg1 : BitVec 32 := BitVec.ofNat 32 (i 1).val
  let c2_i32_25 : BitVec 32 := 2#32
  let c0_i32_26 : BitVec 32 := 0#32
  ![v44.toNat, arg1.toNat, 2, 0]
def k0_off58 (v50 : BitVec 32) : Fin 2 → Nat :=
  let c0_i32_27 : BitVec 32 := 0#32
  ![v50.toNat, 0]

def k0_chk14 (v50 : BitVec 32) : Prop :=
  (∀ a, (k0_off58 v50) a + S1x1024.size a ≤ S16384x1024.size a)
theorem k0_off58_inb : ∀ (v50 : BitVec 32) (k0_hw14 : k0_chk14 v50), ∀ a, (k0_off58 v50) a + S1x1024.size a ≤ S16384x1024.size a := fun v50 k0_hw14 => k0_hw14

def k0_off59 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_29 : BitVec 32 := 2112#32
  let v57 : BitVec 32 := Scalar.muli v19 c2112_i32_29
  let arg1 : BitVec 32 := BitVec.ofNat 32 (i 1).val
  let c192_i32_30 : BitVec 32 := 192#32
  let v58 : BitVec 32 := Scalar.muli arg1 c192_i32_30
  let v59 : BitVec 32 := Scalar.addi v57 v58
  let c3_i32 : BitVec 32 := 3#32
  let v60 : BitVec 32 := Scalar.addi v59 c3_i32
  let v61 : Index := Scalar.indexCast v60
  ![v61.toNat]
def k0_off60 (i : grid0.Coords) : Fin 1 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_28 v9
  ![v56.toNat]
def k0_off61 (i : grid0.Coords) : Fin 4 → Nat :=
  let c1_i32_28 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v56 : BitVec 32 := Scalar.subi c1_i32_28 v9
  let arg1 : BitVec 32 := BitVec.ofNat 32 (i 1).val
  let c3_i32_31 : BitVec 32 := 3#32
  let c0_i32_32 : BitVec 32 := 0#32
  ![v56.toNat, arg1.toNat, 3, 0]
def k0_off62 (v62 : BitVec 32) : Fin 2 → Nat :=
  let c0_i32_33 : BitVec 32 := 0#32
  ![v62.toNat, 0]

def k0_chk15 (v62 : BitVec 32) : Prop :=
  (∀ a, (k0_off62 v62) a + S1x1024.size a ≤ S16384x1024.size a)
theorem k0_off62_inb : ∀ (v62 : BitVec 32) (k0_hw15 : k0_chk15 v62), ∀ a, (k0_off62 v62) a + S1x1024.size a ≤ S16384x1024.size a := fun v62 k0_hw15 => k0_hw15

def k0_off63 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_35 : BitVec 32 := 2112#32
  let v69 : BitVec 32 := Scalar.muli v19 c2112_i32_35
  let arg1 : BitVec 32 := BitVec.ofNat 32 (i 1).val
  let c192_i32_36 : BitVec 32 := 192#32
  let v70 : BitVec 32 := Scalar.muli arg1 c192_i32_36
  let v71 : BitVec 32 := Scalar.addi v69 v70
  let c4_i32 : BitVec 32 := 4#32
  let v72 : BitVec 32 := Scalar.addi v71 c4_i32
  let v73 : Index := Scalar.indexCast v72
  ![v73.toNat]
def k0_off64 (i : grid0.Coords) : Fin 1 → Nat :=
  let c1_i32_34 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : BitVec 32 := Scalar.subi c1_i32_34 v9
  ![v68.toNat]
def k0_off65 (i : grid0.Coords) : Fin 4 → Nat :=
  let c1_i32_34 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v68 : BitVec 32 := Scalar.subi c1_i32_34 v9
  let arg1 : BitVec 32 := BitVec.ofNat 32 (i 1).val
  let c4_i32_37 : BitVec 32 := 4#32
  let c0_i32_38 : BitVec 32 := 0#32
  ![v68.toNat, arg1.toNat, 4, 0]
def k0_off66 (v74 : BitVec 32) : Fin 2 → Nat :=
  let c0_i32_39 : BitVec 32 := 0#32
  ![v74.toNat, 0]

def k0_chk16 (v74 : BitVec 32) : Prop :=
  (∀ a, (k0_off66 v74) a + S1x1024.size a ≤ S16384x1024.size a)
theorem k0_off66_inb : ∀ (v74 : BitVec 32) (k0_hw16 : k0_chk16 v74), ∀ a, (k0_off66 v74) a + S1x1024.size a ≤ S16384x1024.size a := fun v74 k0_hw16 => k0_hw16

def k0_off67 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_41 : BitVec 32 := 2112#32
  let v81 : BitVec 32 := Scalar.muli v19 c2112_i32_41
  let arg1 : BitVec 32 := BitVec.ofNat 32 (i 1).val
  let c192_i32_42 : BitVec 32 := 192#32
  let v82 : BitVec 32 := Scalar.muli arg1 c192_i32_42
  let v83 : BitVec 32 := Scalar.addi v81 v82
  let c5_i32 : BitVec 32 := 5#32
  let v84 : BitVec 32 := Scalar.addi v83 c5_i32
  let v85 : Index := Scalar.indexCast v84
  ![v85.toNat]
def k0_off68 (i : grid0.Coords) : Fin 1 → Nat :=
  let c1_i32_40 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : BitVec 32 := Scalar.subi c1_i32_40 v9
  ![v80.toNat]
def k0_off69 (i : grid0.Coords) : Fin 4 → Nat :=
  let c1_i32_40 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v80 : BitVec 32 := Scalar.subi c1_i32_40 v9
  let arg1 : BitVec 32 := BitVec.ofNat 32 (i 1).val
  let c5_i32_43 : BitVec 32 := 5#32
  let c0_i32_44 : BitVec 32 := 0#32
  ![v80.toNat, arg1.toNat, 5, 0]
def k0_off70 (v86 : BitVec 32) : Fin 2 → Nat :=
  let c0_i32_45 : BitVec 32 := 0#32
  ![v86.toNat, 0]

def k0_chk17 (v86 : BitVec 32) : Prop :=
  (∀ a, (k0_off70 v86) a + S1x1024.size a ≤ S16384x1024.size a)
theorem k0_off70_inb : ∀ (v86 : BitVec 32) (k0_hw17 : k0_chk17 v86), ∀ a, (k0_off70 v86) a + S1x1024.size a ≤ S16384x1024.size a := fun v86 k0_hw17 => k0_hw17

def k0_off71 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_47 : BitVec 32 := 2112#32
  let v93 : BitVec 32 := Scalar.muli v19 c2112_i32_47
  let arg1 : BitVec 32 := BitVec.ofNat 32 (i 1).val
  let c192_i32_48 : BitVec 32 := 192#32
  let v94 : BitVec 32 := Scalar.muli arg1 c192_i32_48
  let v95 : BitVec 32 := Scalar.addi v93 v94
  let c6_i32 : BitVec 32 := 6#32
  let v96 : BitVec 32 := Scalar.addi v95 c6_i32
  let v97 : Index := Scalar.indexCast v96
  ![v97.toNat]
def k0_off72 (i : grid0.Coords) : Fin 1 → Nat :=
  let c1_i32_46 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v92 : BitVec 32 := Scalar.subi c1_i32_46 v9
  ![v92.toNat]
def k0_off73 (i : grid0.Coords) : Fin 4 → Nat :=
  let c1_i32_46 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v92 : BitVec 32 := Scalar.subi c1_i32_46 v9
  let arg1 : BitVec 32 := BitVec.ofNat 32 (i 1).val
  let c6_i32_49 : BitVec 32 := 6#32
  let c0_i32_50 : BitVec 32 := 0#32
  ![v92.toNat, arg1.toNat, 6, 0]
def k0_off74 (v98 : BitVec 32) : Fin 2 → Nat :=
  let c0_i32_51 : BitVec 32 := 0#32
  ![v98.toNat, 0]

def k0_chk18 (v98 : BitVec 32) : Prop :=
  (∀ a, (k0_off74 v98) a + S1x1024.size a ≤ S16384x1024.size a)
theorem k0_off74_inb : ∀ (v98 : BitVec 32) (k0_hw18 : k0_chk18 v98), ∀ a, (k0_off74 v98) a + S1x1024.size a ≤ S16384x1024.size a := fun v98 k0_hw18 => k0_hw18

def k0_off75 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_53 : BitVec 32 := 2112#32
  let v105 : BitVec 32 := Scalar.muli v19 c2112_i32_53
  let arg1 : BitVec 32 := BitVec.ofNat 32 (i 1).val
  let c192_i32_54 : BitVec 32 := 192#32
  let v106 : BitVec 32 := Scalar.muli arg1 c192_i32_54
  let v107 : BitVec 32 := Scalar.addi v105 v106
  let c7_i32 : BitVec 32 := 7#32
  let v108 : BitVec 32 := Scalar.addi v107 c7_i32
  let v109 : Index := Scalar.indexCast v108
  ![v109.toNat]
def k0_off76 (i : grid0.Coords) : Fin 1 → Nat :=
  let c1_i32_52 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v104 : BitVec 32 := Scalar.subi c1_i32_52 v9
  ![v104.toNat]
def k0_off77 (i : grid0.Coords) : Fin 4 → Nat :=
  let c1_i32_52 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v104 : BitVec 32 := Scalar.subi c1_i32_52 v9
  let arg1 : BitVec 32 := BitVec.ofNat 32 (i 1).val
  let c7_i32_55 : BitVec 32 := 7#32
  let c0_i32_56 : BitVec 32 := 0#32
  ![v104.toNat, arg1.toNat, 7, 0]
def k0_off78 (v110 : BitVec 32) : Fin 2 → Nat :=
  let c0_i32_57 : BitVec 32 := 0#32
  ![v110.toNat, 0]

def k0_chk19 (v110 : BitVec 32) : Prop :=
  (∀ a, (k0_off78 v110) a + S1x1024.size a ≤ S16384x1024.size a)
theorem k0_off78_inb : ∀ (v110 : BitVec 32) (k0_hw19 : k0_chk19 v110), ∀ a, (k0_off78 v110) a + S1x1024.size a ≤ S16384x1024.size a := fun v110 k0_hw19 => k0_hw19

def k0_off79 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_59 : BitVec 32 := 2112#32
  let v117 : BitVec 32 := Scalar.muli v19 c2112_i32_59
  let arg1 : BitVec 32 := BitVec.ofNat 32 (i 1).val
  let c192_i32_60 : BitVec 32 := 192#32
  let v118 : BitVec 32 := Scalar.muli arg1 c192_i32_60
  let v119 : BitVec 32 := Scalar.addi v117 v118
  let c8_i32 : BitVec 32 := 8#32
  let v120 : BitVec 32 := Scalar.addi v119 c8_i32
  let v121 : Index := Scalar.indexCast v120
  ![v121.toNat]
def k0_off80 (i : grid0.Coords) : Fin 1 → Nat :=
  let c1_i32_58 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v116 : BitVec 32 := Scalar.subi c1_i32_58 v9
  ![v116.toNat]
def k0_off81 (i : grid0.Coords) : Fin 4 → Nat :=
  let c1_i32_58 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v116 : BitVec 32 := Scalar.subi c1_i32_58 v9
  let arg1 : BitVec 32 := BitVec.ofNat 32 (i 1).val
  let c8_i32_61 : BitVec 32 := 8#32
  let c0_i32_62 : BitVec 32 := 0#32
  ![v116.toNat, arg1.toNat, 8, 0]
def k0_off82 (v122 : BitVec 32) : Fin 2 → Nat :=
  let c0_i32_63 : BitVec 32 := 0#32
  ![v122.toNat, 0]

def k0_chk20 (v122 : BitVec 32) : Prop :=
  (∀ a, (k0_off82 v122) a + S1x1024.size a ≤ S16384x1024.size a)
theorem k0_off82_inb : ∀ (v122 : BitVec 32) (k0_hw20 : k0_chk20 v122), ∀ a, (k0_off82 v122) a + S1x1024.size a ≤ S16384x1024.size a := fun v122 k0_hw20 => k0_hw20

def k0_off83 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_65 : BitVec 32 := 2112#32
  let v129 : BitVec 32 := Scalar.muli v19 c2112_i32_65
  let arg1 : BitVec 32 := BitVec.ofNat 32 (i 1).val
  let c192_i32_66 : BitVec 32 := 192#32
  let v130 : BitVec 32 := Scalar.muli arg1 c192_i32_66
  let v131 : BitVec 32 := Scalar.addi v129 v130
  let c9_i32 : BitVec 32 := 9#32
  let v132 : BitVec 32 := Scalar.addi v131 c9_i32
  let v133 : Index := Scalar.indexCast v132
  ![v133.toNat]
def k0_off84 (i : grid0.Coords) : Fin 1 → Nat :=
  let c1_i32_64 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v128 : BitVec 32 := Scalar.subi c1_i32_64 v9
  ![v128.toNat]
def k0_off85 (i : grid0.Coords) : Fin 4 → Nat :=
  let c1_i32_64 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v128 : BitVec 32 := Scalar.subi c1_i32_64 v9
  let arg1 : BitVec 32 := BitVec.ofNat 32 (i 1).val
  let c9_i32_67 : BitVec 32 := 9#32
  let c0_i32_68 : BitVec 32 := 0#32
  ![v128.toNat, arg1.toNat, 9, 0]
def k0_off86 (v134 : BitVec 32) : Fin 2 → Nat :=
  let c0_i32_69 : BitVec 32 := 0#32
  ![v134.toNat, 0]

def k0_chk21 (v134 : BitVec 32) : Prop :=
  (∀ a, (k0_off86 v134) a + S1x1024.size a ≤ S16384x1024.size a)
theorem k0_off86_inb : ∀ (v134 : BitVec 32) (k0_hw21 : k0_chk21 v134), ∀ a, (k0_off86 v134) a + S1x1024.size a ≤ S16384x1024.size a := fun v134 k0_hw21 => k0_hw21

def k0_off87 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_71 : BitVec 32 := 2112#32
  let v141 : BitVec 32 := Scalar.muli v19 c2112_i32_71
  let arg1 : BitVec 32 := BitVec.ofNat 32 (i 1).val
  let c192_i32_72 : BitVec 32 := 192#32
  let v142 : BitVec 32 := Scalar.muli arg1 c192_i32_72
  let v143 : BitVec 32 := Scalar.addi v141 v142
  let c10_i32 : BitVec 32 := 10#32
  let v144 : BitVec 32 := Scalar.addi v143 c10_i32
  let v145 : Index := Scalar.indexCast v144
  ![v145.toNat]
def k0_off88 (i : grid0.Coords) : Fin 1 → Nat :=
  let c1_i32_70 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v140 : BitVec 32 := Scalar.subi c1_i32_70 v9
  ![v140.toNat]
def k0_off89 (i : grid0.Coords) : Fin 4 → Nat :=
  let c1_i32_70 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v140 : BitVec 32 := Scalar.subi c1_i32_70 v9
  let arg1 : BitVec 32 := BitVec.ofNat 32 (i 1).val
  let c10_i32_73 : BitVec 32 := 10#32
  let c0_i32_74 : BitVec 32 := 0#32
  ![v140.toNat, arg1.toNat, 10, 0]
def k0_off90 (v146 : BitVec 32) : Fin 2 → Nat :=
  let c0_i32_75 : BitVec 32 := 0#32
  ![v146.toNat, 0]

def k0_chk22 (v146 : BitVec 32) : Prop :=
  (∀ a, (k0_off90 v146) a + S1x1024.size a ≤ S16384x1024.size a)
theorem k0_off90_inb : ∀ (v146 : BitVec 32) (k0_hw22 : k0_chk22 v146), ∀ a, (k0_off90 v146) a + S1x1024.size a ≤ S16384x1024.size a := fun v146 k0_hw22 => k0_hw22

def k0_off91 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_77 : BitVec 32 := 2112#32
  let v153 : BitVec 32 := Scalar.muli v19 c2112_i32_77
  let arg1 : BitVec 32 := BitVec.ofNat 32 (i 1).val
  let c192_i32_78 : BitVec 32 := 192#32
  let v154 : BitVec 32 := Scalar.muli arg1 c192_i32_78
  let v155 : BitVec 32 := Scalar.addi v153 v154
  let c11_i32 : BitVec 32 := 11#32
  let v156 : BitVec 32 := Scalar.addi v155 c11_i32
  let v157 : Index := Scalar.indexCast v156
  ![v157.toNat]
def k0_off92 (i : grid0.Coords) : Fin 1 → Nat :=
  let c1_i32_76 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v152 : BitVec 32 := Scalar.subi c1_i32_76 v9
  ![v152.toNat]
def k0_off93 (i : grid0.Coords) : Fin 4 → Nat :=
  let c1_i32_76 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v152 : BitVec 32 := Scalar.subi c1_i32_76 v9
  let arg1 : BitVec 32 := BitVec.ofNat 32 (i 1).val
  let c11_i32_79 : BitVec 32 := 11#32
  let c0_i32_80 : BitVec 32 := 0#32
  ![v152.toNat, arg1.toNat, 11, 0]
def k0_off94 (v158 : BitVec 32) : Fin 2 → Nat :=
  let c0_i32_81 : BitVec 32 := 0#32
  ![v158.toNat, 0]

def k0_chk23 (v158 : BitVec 32) : Prop :=
  (∀ a, (k0_off94 v158) a + S1x1024.size a ≤ S16384x1024.size a)
theorem k0_off94_inb : ∀ (v158 : BitVec 32) (k0_hw23 : k0_chk23 v158), ∀ a, (k0_off94 v158) a + S1x1024.size a ≤ S16384x1024.size a := fun v158 k0_hw23 => k0_hw23

def k0_off95 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_83 : BitVec 32 := 2112#32
  let v165 : BitVec 32 := Scalar.muli v19 c2112_i32_83
  let arg1 : BitVec 32 := BitVec.ofNat 32 (i 1).val
  let c192_i32_84 : BitVec 32 := 192#32
  let v166 : BitVec 32 := Scalar.muli arg1 c192_i32_84
  let v167 : BitVec 32 := Scalar.addi v165 v166
  let c12_i32 : BitVec 32 := 12#32
  let v168 : BitVec 32 := Scalar.addi v167 c12_i32
  let v169 : Index := Scalar.indexCast v168
  ![v169.toNat]
def k0_off96 (i : grid0.Coords) : Fin 1 → Nat :=
  let c1_i32_82 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v164 : BitVec 32 := Scalar.subi c1_i32_82 v9
  ![v164.toNat]
def k0_off97 (i : grid0.Coords) : Fin 4 → Nat :=
  let c1_i32_82 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v164 : BitVec 32 := Scalar.subi c1_i32_82 v9
  let arg1 : BitVec 32 := BitVec.ofNat 32 (i 1).val
  let c12_i32_85 : BitVec 32 := 12#32
  let c0_i32_86 : BitVec 32 := 0#32
  ![v164.toNat, arg1.toNat, 12, 0]
def k0_off98 (v170 : BitVec 32) : Fin 2 → Nat :=
  let c0_i32_87 : BitVec 32 := 0#32
  ![v170.toNat, 0]

def k0_chk24 (v170 : BitVec 32) : Prop :=
  (∀ a, (k0_off98 v170) a + S1x1024.size a ≤ S16384x1024.size a)
theorem k0_off98_inb : ∀ (v170 : BitVec 32) (k0_hw24 : k0_chk24 v170), ∀ a, (k0_off98 v170) a + S1x1024.size a ≤ S16384x1024.size a := fun v170 k0_hw24 => k0_hw24

def k0_off99 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_89 : BitVec 32 := 2112#32
  let v177 : BitVec 32 := Scalar.muli v19 c2112_i32_89
  let arg1 : BitVec 32 := BitVec.ofNat 32 (i 1).val
  let c192_i32_90 : BitVec 32 := 192#32
  let v178 : BitVec 32 := Scalar.muli arg1 c192_i32_90
  let v179 : BitVec 32 := Scalar.addi v177 v178
  let c13_i32 : BitVec 32 := 13#32
  let v180 : BitVec 32 := Scalar.addi v179 c13_i32
  let v181 : Index := Scalar.indexCast v180
  ![v181.toNat]
def k0_off100 (i : grid0.Coords) : Fin 1 → Nat :=
  let c1_i32_88 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v176 : BitVec 32 := Scalar.subi c1_i32_88 v9
  ![v176.toNat]
def k0_off101 (i : grid0.Coords) : Fin 4 → Nat :=
  let c1_i32_88 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v176 : BitVec 32 := Scalar.subi c1_i32_88 v9
  let arg1 : BitVec 32 := BitVec.ofNat 32 (i 1).val
  let c13_i32_91 : BitVec 32 := 13#32
  let c0_i32_92 : BitVec 32 := 0#32
  ![v176.toNat, arg1.toNat, 13, 0]
def k0_off102 (v182 : BitVec 32) : Fin 2 → Nat :=
  let c0_i32_93 : BitVec 32 := 0#32
  ![v182.toNat, 0]

def k0_chk25 (v182 : BitVec 32) : Prop :=
  (∀ a, (k0_off102 v182) a + S1x1024.size a ≤ S16384x1024.size a)
theorem k0_off102_inb : ∀ (v182 : BitVec 32) (k0_hw25 : k0_chk25 v182), ∀ a, (k0_off102 v182) a + S1x1024.size a ≤ S16384x1024.size a := fun v182 k0_hw25 => k0_hw25

def k0_off103 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_95 : BitVec 32 := 2112#32
  let v189 : BitVec 32 := Scalar.muli v19 c2112_i32_95
  let arg1 : BitVec 32 := BitVec.ofNat 32 (i 1).val
  let c192_i32_96 : BitVec 32 := 192#32
  let v190 : BitVec 32 := Scalar.muli arg1 c192_i32_96
  let v191 : BitVec 32 := Scalar.addi v189 v190
  let c14_i32 : BitVec 32 := 14#32
  let v192 : BitVec 32 := Scalar.addi v191 c14_i32
  let v193 : Index := Scalar.indexCast v192
  ![v193.toNat]
def k0_off104 (i : grid0.Coords) : Fin 1 → Nat :=
  let c1_i32_94 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v188 : BitVec 32 := Scalar.subi c1_i32_94 v9
  ![v188.toNat]
def k0_off105 (i : grid0.Coords) : Fin 4 → Nat :=
  let c1_i32_94 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v188 : BitVec 32 := Scalar.subi c1_i32_94 v9
  let arg1 : BitVec 32 := BitVec.ofNat 32 (i 1).val
  let c14_i32_97 : BitVec 32 := 14#32
  let c0_i32_98 : BitVec 32 := 0#32
  ![v188.toNat, arg1.toNat, 14, 0]
def k0_off106 (v194 : BitVec 32) : Fin 2 → Nat :=
  let c0_i32_99 : BitVec 32 := 0#32
  ![v194.toNat, 0]

def k0_chk26 (v194 : BitVec 32) : Prop :=
  (∀ a, (k0_off106 v194) a + S1x1024.size a ≤ S16384x1024.size a)
theorem k0_off106_inb : ∀ (v194 : BitVec 32) (k0_hw26 : k0_chk26 v194), ∀ a, (k0_off106 v194) a + S1x1024.size a ≤ S16384x1024.size a := fun v194 k0_hw26 => k0_hw26

def k0_off107 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_101 : BitVec 32 := 2112#32
  let v201 : BitVec 32 := Scalar.muli v19 c2112_i32_101
  let arg1 : BitVec 32 := BitVec.ofNat 32 (i 1).val
  let c192_i32_102 : BitVec 32 := 192#32
  let v202 : BitVec 32 := Scalar.muli arg1 c192_i32_102
  let v203 : BitVec 32 := Scalar.addi v201 v202
  let c15_i32_103 : BitVec 32 := 15#32
  let v204 : BitVec 32 := Scalar.addi v203 c15_i32_103
  let v205 : Index := Scalar.indexCast v204
  ![v205.toNat]
def k0_off108 (i : grid0.Coords) : Fin 1 → Nat :=
  let c1_i32_100 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v200 : BitVec 32 := Scalar.subi c1_i32_100 v9
  ![v200.toNat]
def k0_off109 (i : grid0.Coords) : Fin 4 → Nat :=
  let c1_i32_100 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v200 : BitVec 32 := Scalar.subi c1_i32_100 v9
  let arg1 : BitVec 32 := BitVec.ofNat 32 (i 1).val
  let c15_i32_104 : BitVec 32 := 15#32
  let c0_i32_105 : BitVec 32 := 0#32
  ![v200.toNat, arg1.toNat, 15, 0]
def k0_off110 (v206 : BitVec 32) : Fin 2 → Nat :=
  let c0_i32_106 : BitVec 32 := 0#32
  ![v206.toNat, 0]

def k0_chk27 (v206 : BitVec 32) : Prop :=
  (∀ a, (k0_off110 v206) a + S1x1024.size a ≤ S16384x1024.size a)
theorem k0_off110_inb : ∀ (v206 : BitVec 32) (k0_hw27 : k0_chk27 v206), ∀ a, (k0_off110 v206) a + S1x1024.size a ≤ S16384x1024.size a := fun v206 k0_hw27 => k0_hw27

def k0_off111 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_108 : BitVec 32 := 2112#32
  let v213 : BitVec 32 := Scalar.muli v19 c2112_i32_108
  let arg1 : BitVec 32 := BitVec.ofNat 32 (i 1).val
  let c192_i32_109 : BitVec 32 := 192#32
  let v214 : BitVec 32 := Scalar.muli arg1 c192_i32_109
  let v215 : BitVec 32 := Scalar.addi v213 v214
  let c16_i32 : BitVec 32 := 16#32
  let v216 : BitVec 32 := Scalar.addi v215 c16_i32
  let v217 : Index := Scalar.indexCast v216
  ![v217.toNat]
def k0_off112 (i : grid0.Coords) : Fin 1 → Nat :=
  let c1_i32_107 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v212 : BitVec 32 := Scalar.subi c1_i32_107 v9
  ![v212.toNat]
def k0_off113 (i : grid0.Coords) : Fin 4 → Nat :=
  let c1_i32_107 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v212 : BitVec 32 := Scalar.subi c1_i32_107 v9
  let arg1 : BitVec 32 := BitVec.ofNat 32 (i 1).val
  let c16_i32_110 : BitVec 32 := 16#32
  let c0_i32_111 : BitVec 32 := 0#32
  ![v212.toNat, arg1.toNat, 16, 0]
def k0_off114 (v218 : BitVec 32) : Fin 2 → Nat :=
  let c0_i32_112 : BitVec 32 := 0#32
  ![v218.toNat, 0]

def k0_chk28 (v218 : BitVec 32) : Prop :=
  (∀ a, (k0_off114 v218) a + S1x1024.size a ≤ S16384x1024.size a)
theorem k0_off114_inb : ∀ (v218 : BitVec 32) (k0_hw28 : k0_chk28 v218), ∀ a, (k0_off114 v218) a + S1x1024.size a ≤ S16384x1024.size a := fun v218 k0_hw28 => k0_hw28

def k0_off115 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_114 : BitVec 32 := 2112#32
  let v225 : BitVec 32 := Scalar.muli v19 c2112_i32_114
  let arg1 : BitVec 32 := BitVec.ofNat 32 (i 1).val
  let c192_i32_115 : BitVec 32 := 192#32
  let v226 : BitVec 32 := Scalar.muli arg1 c192_i32_115
  let v227 : BitVec 32 := Scalar.addi v225 v226
  let c17_i32 : BitVec 32 := 17#32
  let v228 : BitVec 32 := Scalar.addi v227 c17_i32
  let v229 : Index := Scalar.indexCast v228
  ![v229.toNat]
def k0_off116 (i : grid0.Coords) : Fin 1 → Nat :=
  let c1_i32_113 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v224 : BitVec 32 := Scalar.subi c1_i32_113 v9
  ![v224.toNat]
def k0_off117 (i : grid0.Coords) : Fin 4 → Nat :=
  let c1_i32_113 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v224 : BitVec 32 := Scalar.subi c1_i32_113 v9
  let arg1 : BitVec 32 := BitVec.ofNat 32 (i 1).val
  let c17_i32_116 : BitVec 32 := 17#32
  let c0_i32_117 : BitVec 32 := 0#32
  ![v224.toNat, arg1.toNat, 17, 0]
def k0_off118 (v230 : BitVec 32) : Fin 2 → Nat :=
  let c0_i32_118 : BitVec 32 := 0#32
  ![v230.toNat, 0]

def k0_chk29 (v230 : BitVec 32) : Prop :=
  (∀ a, (k0_off118 v230) a + S1x1024.size a ≤ S16384x1024.size a)
theorem k0_off118_inb : ∀ (v230 : BitVec 32) (k0_hw29 : k0_chk29 v230), ∀ a, (k0_off118 v230) a + S1x1024.size a ≤ S16384x1024.size a := fun v230 k0_hw29 => k0_hw29

def k0_off119 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_120 : BitVec 32 := 2112#32
  let v237 : BitVec 32 := Scalar.muli v19 c2112_i32_120
  let arg1 : BitVec 32 := BitVec.ofNat 32 (i 1).val
  let c192_i32_121 : BitVec 32 := 192#32
  let v238 : BitVec 32 := Scalar.muli arg1 c192_i32_121
  let v239 : BitVec 32 := Scalar.addi v237 v238
  let c18_i32 : BitVec 32 := 18#32
  let v240 : BitVec 32 := Scalar.addi v239 c18_i32
  let v241 : Index := Scalar.indexCast v240
  ![v241.toNat]
def k0_off120 (i : grid0.Coords) : Fin 1 → Nat :=
  let c1_i32_119 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v236 : BitVec 32 := Scalar.subi c1_i32_119 v9
  ![v236.toNat]
def k0_off121 (i : grid0.Coords) : Fin 4 → Nat :=
  let c1_i32_119 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v236 : BitVec 32 := Scalar.subi c1_i32_119 v9
  let arg1 : BitVec 32 := BitVec.ofNat 32 (i 1).val
  let c18_i32_122 : BitVec 32 := 18#32
  let c0_i32_123 : BitVec 32 := 0#32
  ![v236.toNat, arg1.toNat, 18, 0]
def k0_off122 (v242 : BitVec 32) : Fin 2 → Nat :=
  let c0_i32_124 : BitVec 32 := 0#32
  ![v242.toNat, 0]

def k0_chk30 (v242 : BitVec 32) : Prop :=
  (∀ a, (k0_off122 v242) a + S1x1024.size a ≤ S16384x1024.size a)
theorem k0_off122_inb : ∀ (v242 : BitVec 32) (k0_hw30 : k0_chk30 v242), ∀ a, (k0_off122 v242) a + S1x1024.size a ≤ S16384x1024.size a := fun v242 k0_hw30 => k0_hw30

def k0_off123 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_126 : BitVec 32 := 2112#32
  let v249 : BitVec 32 := Scalar.muli v19 c2112_i32_126
  let arg1 : BitVec 32 := BitVec.ofNat 32 (i 1).val
  let c192_i32_127 : BitVec 32 := 192#32
  let v250 : BitVec 32 := Scalar.muli arg1 c192_i32_127
  let v251 : BitVec 32 := Scalar.addi v249 v250
  let c19_i32 : BitVec 32 := 19#32
  let v252 : BitVec 32 := Scalar.addi v251 c19_i32
  let v253 : Index := Scalar.indexCast v252
  ![v253.toNat]
def k0_off124 (i : grid0.Coords) : Fin 1 → Nat :=
  let c1_i32_125 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v248 : BitVec 32 := Scalar.subi c1_i32_125 v9
  ![v248.toNat]
def k0_off125 (i : grid0.Coords) : Fin 4 → Nat :=
  let c1_i32_125 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v248 : BitVec 32 := Scalar.subi c1_i32_125 v9
  let arg1 : BitVec 32 := BitVec.ofNat 32 (i 1).val
  let c19_i32_128 : BitVec 32 := 19#32
  let c0_i32_129 : BitVec 32 := 0#32
  ![v248.toNat, arg1.toNat, 19, 0]
def k0_off126 (v254 : BitVec 32) : Fin 2 → Nat :=
  let c0_i32_130 : BitVec 32 := 0#32
  ![v254.toNat, 0]

def k0_chk31 (v254 : BitVec 32) : Prop :=
  (∀ a, (k0_off126 v254) a + S1x1024.size a ≤ S16384x1024.size a)
theorem k0_off126_inb : ∀ (v254 : BitVec 32) (k0_hw31 : k0_chk31 v254), ∀ a, (k0_off126 v254) a + S1x1024.size a ≤ S16384x1024.size a := fun v254 k0_hw31 => k0_hw31

def k0_off127 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_132 : BitVec 32 := 2112#32
  let v261 : BitVec 32 := Scalar.muli v19 c2112_i32_132
  let arg1 : BitVec 32 := BitVec.ofNat 32 (i 1).val
  let c192_i32_133 : BitVec 32 := 192#32
  let v262 : BitVec 32 := Scalar.muli arg1 c192_i32_133
  let v263 : BitVec 32 := Scalar.addi v261 v262
  let c20_i32 : BitVec 32 := 20#32
  let v264 : BitVec 32 := Scalar.addi v263 c20_i32
  let v265 : Index := Scalar.indexCast v264
  ![v265.toNat]
def k0_off128 (i : grid0.Coords) : Fin 1 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v260 : BitVec 32 := Scalar.subi c1_i32_131 v9
  ![v260.toNat]
def k0_off129 (i : grid0.Coords) : Fin 4 → Nat :=
  let c1_i32_131 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v260 : BitVec 32 := Scalar.subi c1_i32_131 v9
  let arg1 : BitVec 32 := BitVec.ofNat 32 (i 1).val
  let c20_i32_134 : BitVec 32 := 20#32
  let c0_i32_135 : BitVec 32 := 0#32
  ![v260.toNat, arg1.toNat, 20, 0]
def k0_off130 (v266 : BitVec 32) : Fin 2 → Nat :=
  let c0_i32_136 : BitVec 32 := 0#32
  ![v266.toNat, 0]

def k0_chk32 (v266 : BitVec 32) : Prop :=
  (∀ a, (k0_off130 v266) a + S1x1024.size a ≤ S16384x1024.size a)
theorem k0_off130_inb : ∀ (v266 : BitVec 32) (k0_hw32 : k0_chk32 v266), ∀ a, (k0_off130 v266) a + S1x1024.size a ≤ S16384x1024.size a := fun v266 k0_hw32 => k0_hw32

def k0_off131 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_138 : BitVec 32 := 2112#32
  let v273 : BitVec 32 := Scalar.muli v19 c2112_i32_138
  let arg1 : BitVec 32 := BitVec.ofNat 32 (i 1).val
  let c192_i32_139 : BitVec 32 := 192#32
  let v274 : BitVec 32 := Scalar.muli arg1 c192_i32_139
  let v275 : BitVec 32 := Scalar.addi v273 v274
  let c21_i32 : BitVec 32 := 21#32
  let v276 : BitVec 32 := Scalar.addi v275 c21_i32
  let v277 : Index := Scalar.indexCast v276
  ![v277.toNat]
def k0_off132 (i : grid0.Coords) : Fin 1 → Nat :=
  let c1_i32_137 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v272 : BitVec 32 := Scalar.subi c1_i32_137 v9
  ![v272.toNat]
def k0_off133 (i : grid0.Coords) : Fin 4 → Nat :=
  let c1_i32_137 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v272 : BitVec 32 := Scalar.subi c1_i32_137 v9
  let arg1 : BitVec 32 := BitVec.ofNat 32 (i 1).val
  let c21_i32_140 : BitVec 32 := 21#32
  let c0_i32_141 : BitVec 32 := 0#32
  ![v272.toNat, arg1.toNat, 21, 0]
def k0_off134 (v278 : BitVec 32) : Fin 2 → Nat :=
  let c0_i32_142 : BitVec 32 := 0#32
  ![v278.toNat, 0]

def k0_chk33 (v278 : BitVec 32) : Prop :=
  (∀ a, (k0_off134 v278) a + S1x1024.size a ≤ S16384x1024.size a)
theorem k0_off134_inb : ∀ (v278 : BitVec 32) (k0_hw33 : k0_chk33 v278), ∀ a, (k0_off134 v278) a + S1x1024.size a ≤ S16384x1024.size a := fun v278 k0_hw33 => k0_hw33

def k0_off135 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_144 : BitVec 32 := 2112#32
  let v285 : BitVec 32 := Scalar.muli v19 c2112_i32_144
  let arg1 : BitVec 32 := BitVec.ofNat 32 (i 1).val
  let c192_i32_145 : BitVec 32 := 192#32
  let v286 : BitVec 32 := Scalar.muli arg1 c192_i32_145
  let v287 : BitVec 32 := Scalar.addi v285 v286
  let c22_i32 : BitVec 32 := 22#32
  let v288 : BitVec 32 := Scalar.addi v287 c22_i32
  let v289 : Index := Scalar.indexCast v288
  ![v289.toNat]
def k0_off136 (i : grid0.Coords) : Fin 1 → Nat :=
  let c1_i32_143 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v284 : BitVec 32 := Scalar.subi c1_i32_143 v9
  ![v284.toNat]
def k0_off137 (i : grid0.Coords) : Fin 4 → Nat :=
  let c1_i32_143 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v284 : BitVec 32 := Scalar.subi c1_i32_143 v9
  let arg1 : BitVec 32 := BitVec.ofNat 32 (i 1).val
  let c22_i32_146 : BitVec 32 := 22#32
  let c0_i32_147 : BitVec 32 := 0#32
  ![v284.toNat, arg1.toNat, 22, 0]
def k0_off138 (v290 : BitVec 32) : Fin 2 → Nat :=
  let c0_i32_148 : BitVec 32 := 0#32
  ![v290.toNat, 0]

def k0_chk34 (v290 : BitVec 32) : Prop :=
  (∀ a, (k0_off138 v290) a + S1x1024.size a ≤ S16384x1024.size a)
theorem k0_off138_inb : ∀ (v290 : BitVec 32) (k0_hw34 : k0_chk34 v290), ∀ a, (k0_off138 v290) a + S1x1024.size a ≤ S16384x1024.size a := fun v290 k0_hw34 => k0_hw34

def k0_off139 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_150 : BitVec 32 := 2112#32
  let v297 : BitVec 32 := Scalar.muli v19 c2112_i32_150
  let arg1 : BitVec 32 := BitVec.ofNat 32 (i 1).val
  let c192_i32_151 : BitVec 32 := 192#32
  let v298 : BitVec 32 := Scalar.muli arg1 c192_i32_151
  let v299 : BitVec 32 := Scalar.addi v297 v298
  let c23_i32 : BitVec 32 := 23#32
  let v300 : BitVec 32 := Scalar.addi v299 c23_i32
  let v301 : Index := Scalar.indexCast v300
  ![v301.toNat]
def k0_off140 (i : grid0.Coords) : Fin 1 → Nat :=
  let c1_i32_149 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v296 : BitVec 32 := Scalar.subi c1_i32_149 v9
  ![v296.toNat]
def k0_off141 (i : grid0.Coords) : Fin 4 → Nat :=
  let c1_i32_149 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v296 : BitVec 32 := Scalar.subi c1_i32_149 v9
  let arg1 : BitVec 32 := BitVec.ofNat 32 (i 1).val
  let c23_i32_152 : BitVec 32 := 23#32
  let c0_i32_153 : BitVec 32 := 0#32
  ![v296.toNat, arg1.toNat, 23, 0]
def k0_off142 (v302 : BitVec 32) : Fin 2 → Nat :=
  let c0_i32_154 : BitVec 32 := 0#32
  ![v302.toNat, 0]

def k0_chk35 (v302 : BitVec 32) : Prop :=
  (∀ a, (k0_off142 v302) a + S1x1024.size a ≤ S16384x1024.size a)
theorem k0_off142_inb : ∀ (v302 : BitVec 32) (k0_hw35 : k0_chk35 v302), ∀ a, (k0_off142 v302) a + S1x1024.size a ≤ S16384x1024.size a := fun v302 k0_hw35 => k0_hw35

def k0_off143 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_156 : BitVec 32 := 2112#32
  let v309 : BitVec 32 := Scalar.muli v19 c2112_i32_156
  let arg1 : BitVec 32 := BitVec.ofNat 32 (i 1).val
  let c192_i32_157 : BitVec 32 := 192#32
  let v310 : BitVec 32 := Scalar.muli arg1 c192_i32_157
  let v311 : BitVec 32 := Scalar.addi v309 v310
  let c24_i32 : BitVec 32 := 24#32
  let v312 : BitVec 32 := Scalar.addi v311 c24_i32
  let v313 : Index := Scalar.indexCast v312
  ![v313.toNat]
def k0_off144 (i : grid0.Coords) : Fin 1 → Nat :=
  let c1_i32_155 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v308 : BitVec 32 := Scalar.subi c1_i32_155 v9
  ![v308.toNat]
def k0_off145 (i : grid0.Coords) : Fin 4 → Nat :=
  let c1_i32_155 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v308 : BitVec 32 := Scalar.subi c1_i32_155 v9
  let arg1 : BitVec 32 := BitVec.ofNat 32 (i 1).val
  let c24_i32_158 : BitVec 32 := 24#32
  let c0_i32_159 : BitVec 32 := 0#32
  ![v308.toNat, arg1.toNat, 24, 0]
def k0_off146 (v314 : BitVec 32) : Fin 2 → Nat :=
  let c0_i32_160 : BitVec 32 := 0#32
  ![v314.toNat, 0]

def k0_chk36 (v314 : BitVec 32) : Prop :=
  (∀ a, (k0_off146 v314) a + S1x1024.size a ≤ S16384x1024.size a)
theorem k0_off146_inb : ∀ (v314 : BitVec 32) (k0_hw36 : k0_chk36 v314), ∀ a, (k0_off146 v314) a + S1x1024.size a ≤ S16384x1024.size a := fun v314 k0_hw36 => k0_hw36

def k0_off147 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_162 : BitVec 32 := 2112#32
  let v321 : BitVec 32 := Scalar.muli v19 c2112_i32_162
  let arg1 : BitVec 32 := BitVec.ofNat 32 (i 1).val
  let c192_i32_163 : BitVec 32 := 192#32
  let v322 : BitVec 32 := Scalar.muli arg1 c192_i32_163
  let v323 : BitVec 32 := Scalar.addi v321 v322
  let c25_i32 : BitVec 32 := 25#32
  let v324 : BitVec 32 := Scalar.addi v323 c25_i32
  let v325 : Index := Scalar.indexCast v324
  ![v325.toNat]
def k0_off148 (i : grid0.Coords) : Fin 1 → Nat :=
  let c1_i32_161 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v320 : BitVec 32 := Scalar.subi c1_i32_161 v9
  ![v320.toNat]
def k0_off149 (i : grid0.Coords) : Fin 4 → Nat :=
  let c1_i32_161 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v320 : BitVec 32 := Scalar.subi c1_i32_161 v9
  let arg1 : BitVec 32 := BitVec.ofNat 32 (i 1).val
  let c25_i32_164 : BitVec 32 := 25#32
  let c0_i32_165 : BitVec 32 := 0#32
  ![v320.toNat, arg1.toNat, 25, 0]
def k0_off150 (v326 : BitVec 32) : Fin 2 → Nat :=
  let c0_i32_166 : BitVec 32 := 0#32
  ![v326.toNat, 0]

def k0_chk37 (v326 : BitVec 32) : Prop :=
  (∀ a, (k0_off150 v326) a + S1x1024.size a ≤ S16384x1024.size a)
theorem k0_off150_inb : ∀ (v326 : BitVec 32) (k0_hw37 : k0_chk37 v326), ∀ a, (k0_off150 v326) a + S1x1024.size a ≤ S16384x1024.size a := fun v326 k0_hw37 => k0_hw37

def k0_off151 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_168 : BitVec 32 := 2112#32
  let v333 : BitVec 32 := Scalar.muli v19 c2112_i32_168
  let arg1 : BitVec 32 := BitVec.ofNat 32 (i 1).val
  let c192_i32_169 : BitVec 32 := 192#32
  let v334 : BitVec 32 := Scalar.muli arg1 c192_i32_169
  let v335 : BitVec 32 := Scalar.addi v333 v334
  let c26_i32 : BitVec 32 := 26#32
  let v336 : BitVec 32 := Scalar.addi v335 c26_i32
  let v337 : Index := Scalar.indexCast v336
  ![v337.toNat]
def k0_off152 (i : grid0.Coords) : Fin 1 → Nat :=
  let c1_i32_167 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v332 : BitVec 32 := Scalar.subi c1_i32_167 v9
  ![v332.toNat]
def k0_off153 (i : grid0.Coords) : Fin 4 → Nat :=
  let c1_i32_167 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v332 : BitVec 32 := Scalar.subi c1_i32_167 v9
  let arg1 : BitVec 32 := BitVec.ofNat 32 (i 1).val
  let c26_i32_170 : BitVec 32 := 26#32
  let c0_i32_171 : BitVec 32 := 0#32
  ![v332.toNat, arg1.toNat, 26, 0]
def k0_off154 (v338 : BitVec 32) : Fin 2 → Nat :=
  let c0_i32_172 : BitVec 32 := 0#32
  ![v338.toNat, 0]

def k0_chk38 (v338 : BitVec 32) : Prop :=
  (∀ a, (k0_off154 v338) a + S1x1024.size a ≤ S16384x1024.size a)
theorem k0_off154_inb : ∀ (v338 : BitVec 32) (k0_hw38 : k0_chk38 v338), ∀ a, (k0_off154 v338) a + S1x1024.size a ≤ S16384x1024.size a := fun v338 k0_hw38 => k0_hw38

def k0_off155 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_174 : BitVec 32 := 2112#32
  let v345 : BitVec 32 := Scalar.muli v19 c2112_i32_174
  let arg1 : BitVec 32 := BitVec.ofNat 32 (i 1).val
  let c192_i32_175 : BitVec 32 := 192#32
  let v346 : BitVec 32 := Scalar.muli arg1 c192_i32_175
  let v347 : BitVec 32 := Scalar.addi v345 v346
  let c27_i32 : BitVec 32 := 27#32
  let v348 : BitVec 32 := Scalar.addi v347 c27_i32
  let v349 : Index := Scalar.indexCast v348
  ![v349.toNat]
def k0_off156 (i : grid0.Coords) : Fin 1 → Nat :=
  let c1_i32_173 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v344 : BitVec 32 := Scalar.subi c1_i32_173 v9
  ![v344.toNat]
def k0_off157 (i : grid0.Coords) : Fin 4 → Nat :=
  let c1_i32_173 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v344 : BitVec 32 := Scalar.subi c1_i32_173 v9
  let arg1 : BitVec 32 := BitVec.ofNat 32 (i 1).val
  let c27_i32_176 : BitVec 32 := 27#32
  let c0_i32_177 : BitVec 32 := 0#32
  ![v344.toNat, arg1.toNat, 27, 0]
def k0_off158 (v350 : BitVec 32) : Fin 2 → Nat :=
  let c0_i32_178 : BitVec 32 := 0#32
  ![v350.toNat, 0]

def k0_chk39 (v350 : BitVec 32) : Prop :=
  (∀ a, (k0_off158 v350) a + S1x1024.size a ≤ S16384x1024.size a)
theorem k0_off158_inb : ∀ (v350 : BitVec 32) (k0_hw39 : k0_chk39 v350), ∀ a, (k0_off158 v350) a + S1x1024.size a ≤ S16384x1024.size a := fun v350 k0_hw39 => k0_hw39

def k0_off159 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_180 : BitVec 32 := 2112#32
  let v357 : BitVec 32 := Scalar.muli v19 c2112_i32_180
  let arg1 : BitVec 32 := BitVec.ofNat 32 (i 1).val
  let c192_i32_181 : BitVec 32 := 192#32
  let v358 : BitVec 32 := Scalar.muli arg1 c192_i32_181
  let v359 : BitVec 32 := Scalar.addi v357 v358
  let c28_i32 : BitVec 32 := 28#32
  let v360 : BitVec 32 := Scalar.addi v359 c28_i32
  let v361 : Index := Scalar.indexCast v360
  ![v361.toNat]
def k0_off160 (i : grid0.Coords) : Fin 1 → Nat :=
  let c1_i32_179 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v356 : BitVec 32 := Scalar.subi c1_i32_179 v9
  ![v356.toNat]
def k0_off161 (i : grid0.Coords) : Fin 4 → Nat :=
  let c1_i32_179 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v356 : BitVec 32 := Scalar.subi c1_i32_179 v9
  let arg1 : BitVec 32 := BitVec.ofNat 32 (i 1).val
  let c28_i32_182 : BitVec 32 := 28#32
  let c0_i32_183 : BitVec 32 := 0#32
  ![v356.toNat, arg1.toNat, 28, 0]
def k0_off162 (v362 : BitVec 32) : Fin 2 → Nat :=
  let c0_i32_184 : BitVec 32 := 0#32
  ![v362.toNat, 0]

def k0_chk40 (v362 : BitVec 32) : Prop :=
  (∀ a, (k0_off162 v362) a + S1x1024.size a ≤ S16384x1024.size a)
theorem k0_off162_inb : ∀ (v362 : BitVec 32) (k0_hw40 : k0_chk40 v362), ∀ a, (k0_off162 v362) a + S1x1024.size a ≤ S16384x1024.size a := fun v362 k0_hw40 => k0_hw40

def k0_off163 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_186 : BitVec 32 := 2112#32
  let v369 : BitVec 32 := Scalar.muli v19 c2112_i32_186
  let arg1 : BitVec 32 := BitVec.ofNat 32 (i 1).val
  let c192_i32_187 : BitVec 32 := 192#32
  let v370 : BitVec 32 := Scalar.muli arg1 c192_i32_187
  let v371 : BitVec 32 := Scalar.addi v369 v370
  let c29_i32 : BitVec 32 := 29#32
  let v372 : BitVec 32 := Scalar.addi v371 c29_i32
  let v373 : Index := Scalar.indexCast v372
  ![v373.toNat]
def k0_off164 (i : grid0.Coords) : Fin 1 → Nat :=
  let c1_i32_185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v368 : BitVec 32 := Scalar.subi c1_i32_185 v9
  ![v368.toNat]
def k0_off165 (i : grid0.Coords) : Fin 4 → Nat :=
  let c1_i32_185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v368 : BitVec 32 := Scalar.subi c1_i32_185 v9
  let arg1 : BitVec 32 := BitVec.ofNat 32 (i 1).val
  let c29_i32_188 : BitVec 32 := 29#32
  let c0_i32_189 : BitVec 32 := 0#32
  ![v368.toNat, arg1.toNat, 29, 0]
def k0_off166 (v374 : BitVec 32) : Fin 2 → Nat :=
  let c0_i32_190 : BitVec 32 := 0#32
  ![v374.toNat, 0]

def k0_chk41 (v374 : BitVec 32) : Prop :=
  (∀ a, (k0_off166 v374) a + S1x1024.size a ≤ S16384x1024.size a)
theorem k0_off166_inb : ∀ (v374 : BitVec 32) (k0_hw41 : k0_chk41 v374), ∀ a, (k0_off166 v374) a + S1x1024.size a ≤ S16384x1024.size a := fun v374 k0_hw41 => k0_hw41

def k0_off167 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_192 : BitVec 32 := 2112#32
  let v381 : BitVec 32 := Scalar.muli v19 c2112_i32_192
  let arg1 : BitVec 32 := BitVec.ofNat 32 (i 1).val
  let c192_i32_193 : BitVec 32 := 192#32
  let v382 : BitVec 32 := Scalar.muli arg1 c192_i32_193
  let v383 : BitVec 32 := Scalar.addi v381 v382
  let c30_i32 : BitVec 32 := 30#32
  let v384 : BitVec 32 := Scalar.addi v383 c30_i32
  let v385 : Index := Scalar.indexCast v384
  ![v385.toNat]
def k0_off168 (i : grid0.Coords) : Fin 1 → Nat :=
  let c1_i32_191 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v380 : BitVec 32 := Scalar.subi c1_i32_191 v9
  ![v380.toNat]
def k0_off169 (i : grid0.Coords) : Fin 4 → Nat :=
  let c1_i32_191 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v380 : BitVec 32 := Scalar.subi c1_i32_191 v9
  let arg1 : BitVec 32 := BitVec.ofNat 32 (i 1).val
  let c30_i32_194 : BitVec 32 := 30#32
  let c0_i32_195 : BitVec 32 := 0#32
  ![v380.toNat, arg1.toNat, 30, 0]
def k0_off170 (v386 : BitVec 32) : Fin 2 → Nat :=
  let c0_i32_196 : BitVec 32 := 0#32
  ![v386.toNat, 0]

def k0_chk42 (v386 : BitVec 32) : Prop :=
  (∀ a, (k0_off170 v386) a + S1x1024.size a ≤ S16384x1024.size a)
theorem k0_off170_inb : ∀ (v386 : BitVec 32) (k0_hw42 : k0_chk42 v386), ∀ a, (k0_off170 v386) a + S1x1024.size a ≤ S16384x1024.size a := fun v386 k0_hw42 => k0_hw42

def k0_off171 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_198 : BitVec 32 := 2112#32
  let v393 : BitVec 32 := Scalar.muli v19 c2112_i32_198
  let arg1 : BitVec 32 := BitVec.ofNat 32 (i 1).val
  let c192_i32_199 : BitVec 32 := 192#32
  let v394 : BitVec 32 := Scalar.muli arg1 c192_i32_199
  let v395 : BitVec 32 := Scalar.addi v393 v394
  let c31_i32 : BitVec 32 := 31#32
  let v396 : BitVec 32 := Scalar.addi v395 c31_i32
  let v397 : Index := Scalar.indexCast v396
  ![v397.toNat]
def k0_off172 (i : grid0.Coords) : Fin 1 → Nat :=
  let c1_i32_197 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v392 : BitVec 32 := Scalar.subi c1_i32_197 v9
  ![v392.toNat]
def k0_off173 (i : grid0.Coords) : Fin 4 → Nat :=
  let c1_i32_197 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v392 : BitVec 32 := Scalar.subi c1_i32_197 v9
  let arg1 : BitVec 32 := BitVec.ofNat 32 (i 1).val
  let c31_i32_200 : BitVec 32 := 31#32
  let c0_i32_201 : BitVec 32 := 0#32
  ![v392.toNat, arg1.toNat, 31, 0]
def k0_off174 (v398 : BitVec 32) : Fin 2 → Nat :=
  let c0_i32_202 : BitVec 32 := 0#32
  ![v398.toNat, 0]

def k0_chk43 (v398 : BitVec 32) : Prop :=
  (∀ a, (k0_off174 v398) a + S1x1024.size a ≤ S16384x1024.size a)
theorem k0_off174_inb : ∀ (v398 : BitVec 32) (k0_hw43 : k0_chk43 v398), ∀ a, (k0_off174 v398) a + S1x1024.size a ≤ S16384x1024.size a := fun v398 k0_hw43 => k0_hw43

def k0_off175 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_204 : BitVec 32 := 2112#32
  let v405 : BitVec 32 := Scalar.muli v19 c2112_i32_204
  let arg1 : BitVec 32 := BitVec.ofNat 32 (i 1).val
  let c192_i32_205 : BitVec 32 := 192#32
  let v406 : BitVec 32 := Scalar.muli arg1 c192_i32_205
  let v407 : BitVec 32 := Scalar.addi v405 v406
  let c32_i32 : BitVec 32 := 32#32
  let v408 : BitVec 32 := Scalar.addi v407 c32_i32
  let v409 : Index := Scalar.indexCast v408
  ![v409.toNat]
def k0_off176 (i : grid0.Coords) : Fin 1 → Nat :=
  let c1_i32_203 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v404 : BitVec 32 := Scalar.subi c1_i32_203 v9
  ![v404.toNat]
def k0_off177 (i : grid0.Coords) : Fin 4 → Nat :=
  let c1_i32_203 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v404 : BitVec 32 := Scalar.subi c1_i32_203 v9
  let arg1 : BitVec 32 := BitVec.ofNat 32 (i 1).val
  let c32_i32_206 : BitVec 32 := 32#32
  let c0_i32_207 : BitVec 32 := 0#32
  ![v404.toNat, arg1.toNat, 32, 0]
def k0_off178 (v410 : BitVec 32) : Fin 2 → Nat :=
  let c0_i32_208 : BitVec 32 := 0#32
  ![v410.toNat, 0]

def k0_chk44 (v410 : BitVec 32) : Prop :=
  (∀ a, (k0_off178 v410) a + S1x1024.size a ≤ S16384x1024.size a)
theorem k0_off178_inb : ∀ (v410 : BitVec 32) (k0_hw44 : k0_chk44 v410), ∀ a, (k0_off178 v410) a + S1x1024.size a ≤ S16384x1024.size a := fun v410 k0_hw44 => k0_hw44

def k0_off179 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_210 : BitVec 32 := 2112#32
  let v417 : BitVec 32 := Scalar.muli v19 c2112_i32_210
  let arg1 : BitVec 32 := BitVec.ofNat 32 (i 1).val
  let c192_i32_211 : BitVec 32 := 192#32
  let v418 : BitVec 32 := Scalar.muli arg1 c192_i32_211
  let v419 : BitVec 32 := Scalar.addi v417 v418
  let c33_i32 : BitVec 32 := 33#32
  let v420 : BitVec 32 := Scalar.addi v419 c33_i32
  let v421 : Index := Scalar.indexCast v420
  ![v421.toNat]
def k0_off180 (i : grid0.Coords) : Fin 1 → Nat :=
  let c1_i32_209 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v416 : BitVec 32 := Scalar.subi c1_i32_209 v9
  ![v416.toNat]
def k0_off181 (i : grid0.Coords) : Fin 4 → Nat :=
  let c1_i32_209 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v416 : BitVec 32 := Scalar.subi c1_i32_209 v9
  let arg1 : BitVec 32 := BitVec.ofNat 32 (i 1).val
  let c33_i32_212 : BitVec 32 := 33#32
  let c0_i32_213 : BitVec 32 := 0#32
  ![v416.toNat, arg1.toNat, 33, 0]
def k0_off182 (v422 : BitVec 32) : Fin 2 → Nat :=
  let c0_i32_214 : BitVec 32 := 0#32
  ![v422.toNat, 0]

def k0_chk45 (v422 : BitVec 32) : Prop :=
  (∀ a, (k0_off182 v422) a + S1x1024.size a ≤ S16384x1024.size a)
theorem k0_off182_inb : ∀ (v422 : BitVec 32) (k0_hw45 : k0_chk45 v422), ∀ a, (k0_off182 v422) a + S1x1024.size a ≤ S16384x1024.size a := fun v422 k0_hw45 => k0_hw45

def k0_off183 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_216 : BitVec 32 := 2112#32
  let v429 : BitVec 32 := Scalar.muli v19 c2112_i32_216
  let arg1 : BitVec 32 := BitVec.ofNat 32 (i 1).val
  let c192_i32_217 : BitVec 32 := 192#32
  let v430 : BitVec 32 := Scalar.muli arg1 c192_i32_217
  let v431 : BitVec 32 := Scalar.addi v429 v430
  let c34_i32 : BitVec 32 := 34#32
  let v432 : BitVec 32 := Scalar.addi v431 c34_i32
  let v433 : Index := Scalar.indexCast v432
  ![v433.toNat]
def k0_off184 (i : grid0.Coords) : Fin 1 → Nat :=
  let c1_i32_215 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v428 : BitVec 32 := Scalar.subi c1_i32_215 v9
  ![v428.toNat]
def k0_off185 (i : grid0.Coords) : Fin 4 → Nat :=
  let c1_i32_215 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v428 : BitVec 32 := Scalar.subi c1_i32_215 v9
  let arg1 : BitVec 32 := BitVec.ofNat 32 (i 1).val
  let c34_i32_218 : BitVec 32 := 34#32
  let c0_i32_219 : BitVec 32 := 0#32
  ![v428.toNat, arg1.toNat, 34, 0]
def k0_off186 (v434 : BitVec 32) : Fin 2 → Nat :=
  let c0_i32_220 : BitVec 32 := 0#32
  ![v434.toNat, 0]

def k0_chk46 (v434 : BitVec 32) : Prop :=
  (∀ a, (k0_off186 v434) a + S1x1024.size a ≤ S16384x1024.size a)
theorem k0_off186_inb : ∀ (v434 : BitVec 32) (k0_hw46 : k0_chk46 v434), ∀ a, (k0_off186 v434) a + S1x1024.size a ≤ S16384x1024.size a := fun v434 k0_hw46 => k0_hw46

def k0_off187 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_222 : BitVec 32 := 2112#32
  let v441 : BitVec 32 := Scalar.muli v19 c2112_i32_222
  let arg1 : BitVec 32 := BitVec.ofNat 32 (i 1).val
  let c192_i32_223 : BitVec 32 := 192#32
  let v442 : BitVec 32 := Scalar.muli arg1 c192_i32_223
  let v443 : BitVec 32 := Scalar.addi v441 v442
  let c35_i32 : BitVec 32 := 35#32
  let v444 : BitVec 32 := Scalar.addi v443 c35_i32
  let v445 : Index := Scalar.indexCast v444
  ![v445.toNat]
def k0_off188 (i : grid0.Coords) : Fin 1 → Nat :=
  let c1_i32_221 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v440 : BitVec 32 := Scalar.subi c1_i32_221 v9
  ![v440.toNat]
def k0_off189 (i : grid0.Coords) : Fin 4 → Nat :=
  let c1_i32_221 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v440 : BitVec 32 := Scalar.subi c1_i32_221 v9
  let arg1 : BitVec 32 := BitVec.ofNat 32 (i 1).val
  let c35_i32_224 : BitVec 32 := 35#32
  let c0_i32_225 : BitVec 32 := 0#32
  ![v440.toNat, arg1.toNat, 35, 0]
def k0_off190 (v446 : BitVec 32) : Fin 2 → Nat :=
  let c0_i32_226 : BitVec 32 := 0#32
  ![v446.toNat, 0]

def k0_chk47 (v446 : BitVec 32) : Prop :=
  (∀ a, (k0_off190 v446) a + S1x1024.size a ≤ S16384x1024.size a)
theorem k0_off190_inb : ∀ (v446 : BitVec 32) (k0_hw47 : k0_chk47 v446), ∀ a, (k0_off190 v446) a + S1x1024.size a ≤ S16384x1024.size a := fun v446 k0_hw47 => k0_hw47

def k0_off191 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_228 : BitVec 32 := 2112#32
  let v453 : BitVec 32 := Scalar.muli v19 c2112_i32_228
  let arg1 : BitVec 32 := BitVec.ofNat 32 (i 1).val
  let c192_i32_229 : BitVec 32 := 192#32
  let v454 : BitVec 32 := Scalar.muli arg1 c192_i32_229
  let v455 : BitVec 32 := Scalar.addi v453 v454
  let c36_i32 : BitVec 32 := 36#32
  let v456 : BitVec 32 := Scalar.addi v455 c36_i32
  let v457 : Index := Scalar.indexCast v456
  ![v457.toNat]
def k0_off192 (i : grid0.Coords) : Fin 1 → Nat :=
  let c1_i32_227 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v452 : BitVec 32 := Scalar.subi c1_i32_227 v9
  ![v452.toNat]
def k0_off193 (i : grid0.Coords) : Fin 4 → Nat :=
  let c1_i32_227 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v452 : BitVec 32 := Scalar.subi c1_i32_227 v9
  let arg1 : BitVec 32 := BitVec.ofNat 32 (i 1).val
  let c36_i32_230 : BitVec 32 := 36#32
  let c0_i32_231 : BitVec 32 := 0#32
  ![v452.toNat, arg1.toNat, 36, 0]
def k0_off194 (v458 : BitVec 32) : Fin 2 → Nat :=
  let c0_i32_232 : BitVec 32 := 0#32
  ![v458.toNat, 0]

def k0_chk48 (v458 : BitVec 32) : Prop :=
  (∀ a, (k0_off194 v458) a + S1x1024.size a ≤ S16384x1024.size a)
theorem k0_off194_inb : ∀ (v458 : BitVec 32) (k0_hw48 : k0_chk48 v458), ∀ a, (k0_off194 v458) a + S1x1024.size a ≤ S16384x1024.size a := fun v458 k0_hw48 => k0_hw48

def k0_off195 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_234 : BitVec 32 := 2112#32
  let v465 : BitVec 32 := Scalar.muli v19 c2112_i32_234
  let arg1 : BitVec 32 := BitVec.ofNat 32 (i 1).val
  let c192_i32_235 : BitVec 32 := 192#32
  let v466 : BitVec 32 := Scalar.muli arg1 c192_i32_235
  let v467 : BitVec 32 := Scalar.addi v465 v466
  let c37_i32 : BitVec 32 := 37#32
  let v468 : BitVec 32 := Scalar.addi v467 c37_i32
  let v469 : Index := Scalar.indexCast v468
  ![v469.toNat]
def k0_off196 (i : grid0.Coords) : Fin 1 → Nat :=
  let c1_i32_233 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v464 : BitVec 32 := Scalar.subi c1_i32_233 v9
  ![v464.toNat]
def k0_off197 (i : grid0.Coords) : Fin 4 → Nat :=
  let c1_i32_233 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v464 : BitVec 32 := Scalar.subi c1_i32_233 v9
  let arg1 : BitVec 32 := BitVec.ofNat 32 (i 1).val
  let c37_i32_236 : BitVec 32 := 37#32
  let c0_i32_237 : BitVec 32 := 0#32
  ![v464.toNat, arg1.toNat, 37, 0]
def k0_off198 (v470 : BitVec 32) : Fin 2 → Nat :=
  let c0_i32_238 : BitVec 32 := 0#32
  ![v470.toNat, 0]

def k0_chk49 (v470 : BitVec 32) : Prop :=
  (∀ a, (k0_off198 v470) a + S1x1024.size a ≤ S16384x1024.size a)
theorem k0_off198_inb : ∀ (v470 : BitVec 32) (k0_hw49 : k0_chk49 v470), ∀ a, (k0_off198 v470) a + S1x1024.size a ≤ S16384x1024.size a := fun v470 k0_hw49 => k0_hw49

def k0_off199 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_240 : BitVec 32 := 2112#32
  let v477 : BitVec 32 := Scalar.muli v19 c2112_i32_240
  let arg1 : BitVec 32 := BitVec.ofNat 32 (i 1).val
  let c192_i32_241 : BitVec 32 := 192#32
  let v478 : BitVec 32 := Scalar.muli arg1 c192_i32_241
  let v479 : BitVec 32 := Scalar.addi v477 v478
  let c38_i32 : BitVec 32 := 38#32
  let v480 : BitVec 32 := Scalar.addi v479 c38_i32
  let v481 : Index := Scalar.indexCast v480
  ![v481.toNat]
def k0_off200 (i : grid0.Coords) : Fin 1 → Nat :=
  let c1_i32_239 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v476 : BitVec 32 := Scalar.subi c1_i32_239 v9
  ![v476.toNat]
def k0_off201 (i : grid0.Coords) : Fin 4 → Nat :=
  let c1_i32_239 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v476 : BitVec 32 := Scalar.subi c1_i32_239 v9
  let arg1 : BitVec 32 := BitVec.ofNat 32 (i 1).val
  let c38_i32_242 : BitVec 32 := 38#32
  let c0_i32_243 : BitVec 32 := 0#32
  ![v476.toNat, arg1.toNat, 38, 0]
def k0_off202 (v482 : BitVec 32) : Fin 2 → Nat :=
  let c0_i32_244 : BitVec 32 := 0#32
  ![v482.toNat, 0]

def k0_chk50 (v482 : BitVec 32) : Prop :=
  (∀ a, (k0_off202 v482) a + S1x1024.size a ≤ S16384x1024.size a)
theorem k0_off202_inb : ∀ (v482 : BitVec 32) (k0_hw50 : k0_chk50 v482), ∀ a, (k0_off202 v482) a + S1x1024.size a ≤ S16384x1024.size a := fun v482 k0_hw50 => k0_hw50

def k0_off203 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_246 : BitVec 32 := 2112#32
  let v489 : BitVec 32 := Scalar.muli v19 c2112_i32_246
  let arg1 : BitVec 32 := BitVec.ofNat 32 (i 1).val
  let c192_i32_247 : BitVec 32 := 192#32
  let v490 : BitVec 32 := Scalar.muli arg1 c192_i32_247
  let v491 : BitVec 32 := Scalar.addi v489 v490
  let c39_i32 : BitVec 32 := 39#32
  let v492 : BitVec 32 := Scalar.addi v491 c39_i32
  let v493 : Index := Scalar.indexCast v492
  ![v493.toNat]
def k0_off204 (i : grid0.Coords) : Fin 1 → Nat :=
  let c1_i32_245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v488 : BitVec 32 := Scalar.subi c1_i32_245 v9
  ![v488.toNat]
def k0_off205 (i : grid0.Coords) : Fin 4 → Nat :=
  let c1_i32_245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v488 : BitVec 32 := Scalar.subi c1_i32_245 v9
  let arg1 : BitVec 32 := BitVec.ofNat 32 (i 1).val
  let c39_i32_248 : BitVec 32 := 39#32
  let c0_i32_249 : BitVec 32 := 0#32
  ![v488.toNat, arg1.toNat, 39, 0]
def k0_off206 (v494 : BitVec 32) : Fin 2 → Nat :=
  let c0_i32_250 : BitVec 32 := 0#32
  ![v494.toNat, 0]

def k0_chk51 (v494 : BitVec 32) : Prop :=
  (∀ a, (k0_off206 v494) a + S1x1024.size a ≤ S16384x1024.size a)
theorem k0_off206_inb : ∀ (v494 : BitVec 32) (k0_hw51 : k0_chk51 v494), ∀ a, (k0_off206 v494) a + S1x1024.size a ≤ S16384x1024.size a := fun v494 k0_hw51 => k0_hw51

def k0_off207 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_252 : BitVec 32 := 2112#32
  let v501 : BitVec 32 := Scalar.muli v19 c2112_i32_252
  let arg1 : BitVec 32 := BitVec.ofNat 32 (i 1).val
  let c192_i32_253 : BitVec 32 := 192#32
  let v502 : BitVec 32 := Scalar.muli arg1 c192_i32_253
  let v503 : BitVec 32 := Scalar.addi v501 v502
  let c40_i32 : BitVec 32 := 40#32
  let v504 : BitVec 32 := Scalar.addi v503 c40_i32
  let v505 : Index := Scalar.indexCast v504
  ![v505.toNat]
def k0_off208 (i : grid0.Coords) : Fin 1 → Nat :=
  let c1_i32_251 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v500 : BitVec 32 := Scalar.subi c1_i32_251 v9
  ![v500.toNat]
def k0_off209 (i : grid0.Coords) : Fin 4 → Nat :=
  let c1_i32_251 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v500 : BitVec 32 := Scalar.subi c1_i32_251 v9
  let arg1 : BitVec 32 := BitVec.ofNat 32 (i 1).val
  let c40_i32_254 : BitVec 32 := 40#32
  let c0_i32_255 : BitVec 32 := 0#32
  ![v500.toNat, arg1.toNat, 40, 0]
def k0_off210 (v506 : BitVec 32) : Fin 2 → Nat :=
  let c0_i32_256 : BitVec 32 := 0#32
  ![v506.toNat, 0]

def k0_chk52 (v506 : BitVec 32) : Prop :=
  (∀ a, (k0_off210 v506) a + S1x1024.size a ≤ S16384x1024.size a)
theorem k0_off210_inb : ∀ (v506 : BitVec 32) (k0_hw52 : k0_chk52 v506), ∀ a, (k0_off210 v506) a + S1x1024.size a ≤ S16384x1024.size a := fun v506 k0_hw52 => k0_hw52

def k0_off211 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_258 : BitVec 32 := 2112#32
  let v513 : BitVec 32 := Scalar.muli v19 c2112_i32_258
  let arg1 : BitVec 32 := BitVec.ofNat 32 (i 1).val
  let c192_i32_259 : BitVec 32 := 192#32
  let v514 : BitVec 32 := Scalar.muli arg1 c192_i32_259
  let v515 : BitVec 32 := Scalar.addi v513 v514
  let c41_i32 : BitVec 32 := 41#32
  let v516 : BitVec 32 := Scalar.addi v515 c41_i32
  let v517 : Index := Scalar.indexCast v516
  ![v517.toNat]
def k0_off212 (i : grid0.Coords) : Fin 1 → Nat :=
  let c1_i32_257 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v512 : BitVec 32 := Scalar.subi c1_i32_257 v9
  ![v512.toNat]
def k0_off213 (i : grid0.Coords) : Fin 4 → Nat :=
  let c1_i32_257 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v512 : BitVec 32 := Scalar.subi c1_i32_257 v9
  let arg1 : BitVec 32 := BitVec.ofNat 32 (i 1).val
  let c41_i32_260 : BitVec 32 := 41#32
  let c0_i32_261 : BitVec 32 := 0#32
  ![v512.toNat, arg1.toNat, 41, 0]
def k0_off214 (v518 : BitVec 32) : Fin 2 → Nat :=
  let c0_i32_262 : BitVec 32 := 0#32
  ![v518.toNat, 0]

def k0_chk53 (v518 : BitVec 32) : Prop :=
  (∀ a, (k0_off214 v518) a + S1x1024.size a ≤ S16384x1024.size a)
theorem k0_off214_inb : ∀ (v518 : BitVec 32) (k0_hw53 : k0_chk53 v518), ∀ a, (k0_off214 v518) a + S1x1024.size a ≤ S16384x1024.size a := fun v518 k0_hw53 => k0_hw53

def k0_off215 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_264 : BitVec 32 := 2112#32
  let v525 : BitVec 32 := Scalar.muli v19 c2112_i32_264
  let arg1 : BitVec 32 := BitVec.ofNat 32 (i 1).val
  let c192_i32_265 : BitVec 32 := 192#32
  let v526 : BitVec 32 := Scalar.muli arg1 c192_i32_265
  let v527 : BitVec 32 := Scalar.addi v525 v526
  let c42_i32 : BitVec 32 := 42#32
  let v528 : BitVec 32 := Scalar.addi v527 c42_i32
  let v529 : Index := Scalar.indexCast v528
  ![v529.toNat]
def k0_off216 (i : grid0.Coords) : Fin 1 → Nat :=
  let c1_i32_263 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v524 : BitVec 32 := Scalar.subi c1_i32_263 v9
  ![v524.toNat]
def k0_off217 (i : grid0.Coords) : Fin 4 → Nat :=
  let c1_i32_263 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v524 : BitVec 32 := Scalar.subi c1_i32_263 v9
  let arg1 : BitVec 32 := BitVec.ofNat 32 (i 1).val
  let c42_i32_266 : BitVec 32 := 42#32
  let c0_i32_267 : BitVec 32 := 0#32
  ![v524.toNat, arg1.toNat, 42, 0]
def k0_off218 (v530 : BitVec 32) : Fin 2 → Nat :=
  let c0_i32_268 : BitVec 32 := 0#32
  ![v530.toNat, 0]

def k0_chk54 (v530 : BitVec 32) : Prop :=
  (∀ a, (k0_off218 v530) a + S1x1024.size a ≤ S16384x1024.size a)
theorem k0_off218_inb : ∀ (v530 : BitVec 32) (k0_hw54 : k0_chk54 v530), ∀ a, (k0_off218 v530) a + S1x1024.size a ≤ S16384x1024.size a := fun v530 k0_hw54 => k0_hw54

def k0_off219 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_270 : BitVec 32 := 2112#32
  let v537 : BitVec 32 := Scalar.muli v19 c2112_i32_270
  let arg1 : BitVec 32 := BitVec.ofNat 32 (i 1).val
  let c192_i32_271 : BitVec 32 := 192#32
  let v538 : BitVec 32 := Scalar.muli arg1 c192_i32_271
  let v539 : BitVec 32 := Scalar.addi v537 v538
  let c43_i32 : BitVec 32 := 43#32
  let v540 : BitVec 32 := Scalar.addi v539 c43_i32
  let v541 : Index := Scalar.indexCast v540
  ![v541.toNat]
def k0_off220 (i : grid0.Coords) : Fin 1 → Nat :=
  let c1_i32_269 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v536 : BitVec 32 := Scalar.subi c1_i32_269 v9
  ![v536.toNat]
def k0_off221 (i : grid0.Coords) : Fin 4 → Nat :=
  let c1_i32_269 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v536 : BitVec 32 := Scalar.subi c1_i32_269 v9
  let arg1 : BitVec 32 := BitVec.ofNat 32 (i 1).val
  let c43_i32_272 : BitVec 32 := 43#32
  let c0_i32_273 : BitVec 32 := 0#32
  ![v536.toNat, arg1.toNat, 43, 0]
def k0_off222 (v542 : BitVec 32) : Fin 2 → Nat :=
  let c0_i32_274 : BitVec 32 := 0#32
  ![v542.toNat, 0]

def k0_chk55 (v542 : BitVec 32) : Prop :=
  (∀ a, (k0_off222 v542) a + S1x1024.size a ≤ S16384x1024.size a)
theorem k0_off222_inb : ∀ (v542 : BitVec 32) (k0_hw55 : k0_chk55 v542), ∀ a, (k0_off222 v542) a + S1x1024.size a ≤ S16384x1024.size a := fun v542 k0_hw55 => k0_hw55

def k0_off223 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_276 : BitVec 32 := 2112#32
  let v549 : BitVec 32 := Scalar.muli v19 c2112_i32_276
  let arg1 : BitVec 32 := BitVec.ofNat 32 (i 1).val
  let c192_i32_277 : BitVec 32 := 192#32
  let v550 : BitVec 32 := Scalar.muli arg1 c192_i32_277
  let v551 : BitVec 32 := Scalar.addi v549 v550
  let c44_i32 : BitVec 32 := 44#32
  let v552 : BitVec 32 := Scalar.addi v551 c44_i32
  let v553 : Index := Scalar.indexCast v552
  ![v553.toNat]
def k0_off224 (i : grid0.Coords) : Fin 1 → Nat :=
  let c1_i32_275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v548 : BitVec 32 := Scalar.subi c1_i32_275 v9
  ![v548.toNat]
def k0_off225 (i : grid0.Coords) : Fin 4 → Nat :=
  let c1_i32_275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v548 : BitVec 32 := Scalar.subi c1_i32_275 v9
  let arg1 : BitVec 32 := BitVec.ofNat 32 (i 1).val
  let c44_i32_278 : BitVec 32 := 44#32
  let c0_i32_279 : BitVec 32 := 0#32
  ![v548.toNat, arg1.toNat, 44, 0]
def k0_off226 (v554 : BitVec 32) : Fin 2 → Nat :=
  let c0_i32_280 : BitVec 32 := 0#32
  ![v554.toNat, 0]

def k0_chk56 (v554 : BitVec 32) : Prop :=
  (∀ a, (k0_off226 v554) a + S1x1024.size a ≤ S16384x1024.size a)
theorem k0_off226_inb : ∀ (v554 : BitVec 32) (k0_hw56 : k0_chk56 v554), ∀ a, (k0_off226 v554) a + S1x1024.size a ≤ S16384x1024.size a := fun v554 k0_hw56 => k0_hw56

def k0_off227 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_282 : BitVec 32 := 2112#32
  let v561 : BitVec 32 := Scalar.muli v19 c2112_i32_282
  let arg1 : BitVec 32 := BitVec.ofNat 32 (i 1).val
  let c192_i32_283 : BitVec 32 := 192#32
  let v562 : BitVec 32 := Scalar.muli arg1 c192_i32_283
  let v563 : BitVec 32 := Scalar.addi v561 v562
  let c45_i32 : BitVec 32 := 45#32
  let v564 : BitVec 32 := Scalar.addi v563 c45_i32
  let v565 : Index := Scalar.indexCast v564
  ![v565.toNat]
def k0_off228 (i : grid0.Coords) : Fin 1 → Nat :=
  let c1_i32_281 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v560 : BitVec 32 := Scalar.subi c1_i32_281 v9
  ![v560.toNat]
def k0_off229 (i : grid0.Coords) : Fin 4 → Nat :=
  let c1_i32_281 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v560 : BitVec 32 := Scalar.subi c1_i32_281 v9
  let arg1 : BitVec 32 := BitVec.ofNat 32 (i 1).val
  let c45_i32_284 : BitVec 32 := 45#32
  let c0_i32_285 : BitVec 32 := 0#32
  ![v560.toNat, arg1.toNat, 45, 0]
def k0_off230 (v566 : BitVec 32) : Fin 2 → Nat :=
  let c0_i32_286 : BitVec 32 := 0#32
  ![v566.toNat, 0]

def k0_chk57 (v566 : BitVec 32) : Prop :=
  (∀ a, (k0_off230 v566) a + S1x1024.size a ≤ S16384x1024.size a)
theorem k0_off230_inb : ∀ (v566 : BitVec 32) (k0_hw57 : k0_chk57 v566), ∀ a, (k0_off230 v566) a + S1x1024.size a ≤ S16384x1024.size a := fun v566 k0_hw57 => k0_hw57

def k0_off231 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_288 : BitVec 32 := 2112#32
  let v573 : BitVec 32 := Scalar.muli v19 c2112_i32_288
  let arg1 : BitVec 32 := BitVec.ofNat 32 (i 1).val
  let c192_i32_289 : BitVec 32 := 192#32
  let v574 : BitVec 32 := Scalar.muli arg1 c192_i32_289
  let v575 : BitVec 32 := Scalar.addi v573 v574
  let c46_i32 : BitVec 32 := 46#32
  let v576 : BitVec 32 := Scalar.addi v575 c46_i32
  let v577 : Index := Scalar.indexCast v576
  ![v577.toNat]
def k0_off232 (i : grid0.Coords) : Fin 1 → Nat :=
  let c1_i32_287 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v572 : BitVec 32 := Scalar.subi c1_i32_287 v9
  ![v572.toNat]
def k0_off233 (i : grid0.Coords) : Fin 4 → Nat :=
  let c1_i32_287 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v572 : BitVec 32 := Scalar.subi c1_i32_287 v9
  let arg1 : BitVec 32 := BitVec.ofNat 32 (i 1).val
  let c46_i32_290 : BitVec 32 := 46#32
  let c0_i32_291 : BitVec 32 := 0#32
  ![v572.toNat, arg1.toNat, 46, 0]
def k0_off234 (v578 : BitVec 32) : Fin 2 → Nat :=
  let c0_i32_292 : BitVec 32 := 0#32
  ![v578.toNat, 0]

def k0_chk58 (v578 : BitVec 32) : Prop :=
  (∀ a, (k0_off234 v578) a + S1x1024.size a ≤ S16384x1024.size a)
theorem k0_off234_inb : ∀ (v578 : BitVec 32) (k0_hw58 : k0_chk58 v578), ∀ a, (k0_off234 v578) a + S1x1024.size a ≤ S16384x1024.size a := fun v578 k0_hw58 => k0_hw58

def k0_off235 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_294 : BitVec 32 := 2112#32
  let v585 : BitVec 32 := Scalar.muli v19 c2112_i32_294
  let arg1 : BitVec 32 := BitVec.ofNat 32 (i 1).val
  let c192_i32_295 : BitVec 32 := 192#32
  let v586 : BitVec 32 := Scalar.muli arg1 c192_i32_295
  let v587 : BitVec 32 := Scalar.addi v585 v586
  let c47_i32 : BitVec 32 := 47#32
  let v588 : BitVec 32 := Scalar.addi v587 c47_i32
  let v589 : Index := Scalar.indexCast v588
  ![v589.toNat]
def k0_off236 (i : grid0.Coords) : Fin 1 → Nat :=
  let c1_i32_293 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v584 : BitVec 32 := Scalar.subi c1_i32_293 v9
  ![v584.toNat]
def k0_off237 (i : grid0.Coords) : Fin 4 → Nat :=
  let c1_i32_293 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v584 : BitVec 32 := Scalar.subi c1_i32_293 v9
  let arg1 : BitVec 32 := BitVec.ofNat 32 (i 1).val
  let c47_i32_296 : BitVec 32 := 47#32
  let c0_i32_297 : BitVec 32 := 0#32
  ![v584.toNat, arg1.toNat, 47, 0]
def k0_off238 (v590 : BitVec 32) : Fin 2 → Nat :=
  let c0_i32_298 : BitVec 32 := 0#32
  ![v590.toNat, 0]

def k0_chk59 (v590 : BitVec 32) : Prop :=
  (∀ a, (k0_off238 v590) a + S1x1024.size a ≤ S16384x1024.size a)
theorem k0_off238_inb : ∀ (v590 : BitVec 32) (k0_hw59 : k0_chk59 v590), ∀ a, (k0_off238 v590) a + S1x1024.size a ≤ S16384x1024.size a := fun v590 k0_hw59 => k0_hw59

def k0_off239 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_300 : BitVec 32 := 2112#32
  let v597 : BitVec 32 := Scalar.muli v19 c2112_i32_300
  let arg1 : BitVec 32 := BitVec.ofNat 32 (i 1).val
  let c192_i32_301 : BitVec 32 := 192#32
  let v598 : BitVec 32 := Scalar.muli arg1 c192_i32_301
  let v599 : BitVec 32 := Scalar.addi v597 v598
  let c48_i32 : BitVec 32 := 48#32
  let v600 : BitVec 32 := Scalar.addi v599 c48_i32
  let v601 : Index := Scalar.indexCast v600
  ![v601.toNat]
def k0_off240 (i : grid0.Coords) : Fin 1 → Nat :=
  let c1_i32_299 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v596 : BitVec 32 := Scalar.subi c1_i32_299 v9
  ![v596.toNat]
def k0_off241 (i : grid0.Coords) : Fin 4 → Nat :=
  let c1_i32_299 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v596 : BitVec 32 := Scalar.subi c1_i32_299 v9
  let arg1 : BitVec 32 := BitVec.ofNat 32 (i 1).val
  let c48_i32_302 : BitVec 32 := 48#32
  let c0_i32_303 : BitVec 32 := 0#32
  ![v596.toNat, arg1.toNat, 48, 0]
def k0_off242 (v602 : BitVec 32) : Fin 2 → Nat :=
  let c0_i32_304 : BitVec 32 := 0#32
  ![v602.toNat, 0]

def k0_chk60 (v602 : BitVec 32) : Prop :=
  (∀ a, (k0_off242 v602) a + S1x1024.size a ≤ S16384x1024.size a)
theorem k0_off242_inb : ∀ (v602 : BitVec 32) (k0_hw60 : k0_chk60 v602), ∀ a, (k0_off242 v602) a + S1x1024.size a ≤ S16384x1024.size a := fun v602 k0_hw60 => k0_hw60

def k0_off243 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_306 : BitVec 32 := 2112#32
  let v609 : BitVec 32 := Scalar.muli v19 c2112_i32_306
  let arg1 : BitVec 32 := BitVec.ofNat 32 (i 1).val
  let c192_i32_307 : BitVec 32 := 192#32
  let v610 : BitVec 32 := Scalar.muli arg1 c192_i32_307
  let v611 : BitVec 32 := Scalar.addi v609 v610
  let c49_i32 : BitVec 32 := 49#32
  let v612 : BitVec 32 := Scalar.addi v611 c49_i32
  let v613 : Index := Scalar.indexCast v612
  ![v613.toNat]
def k0_off244 (i : grid0.Coords) : Fin 1 → Nat :=
  let c1_i32_305 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v608 : BitVec 32 := Scalar.subi c1_i32_305 v9
  ![v608.toNat]
def k0_off245 (i : grid0.Coords) : Fin 4 → Nat :=
  let c1_i32_305 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v608 : BitVec 32 := Scalar.subi c1_i32_305 v9
  let arg1 : BitVec 32 := BitVec.ofNat 32 (i 1).val
  let c49_i32_308 : BitVec 32 := 49#32
  let c0_i32_309 : BitVec 32 := 0#32
  ![v608.toNat, arg1.toNat, 49, 0]
def k0_off246 (v614 : BitVec 32) : Fin 2 → Nat :=
  let c0_i32_310 : BitVec 32 := 0#32
  ![v614.toNat, 0]

def k0_chk61 (v614 : BitVec 32) : Prop :=
  (∀ a, (k0_off246 v614) a + S1x1024.size a ≤ S16384x1024.size a)
theorem k0_off246_inb : ∀ (v614 : BitVec 32) (k0_hw61 : k0_chk61 v614), ∀ a, (k0_off246 v614) a + S1x1024.size a ≤ S16384x1024.size a := fun v614 k0_hw61 => k0_hw61

def k0_off247 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_312 : BitVec 32 := 2112#32
  let v621 : BitVec 32 := Scalar.muli v19 c2112_i32_312
  let arg1 : BitVec 32 := BitVec.ofNat 32 (i 1).val
  let c192_i32_313 : BitVec 32 := 192#32
  let v622 : BitVec 32 := Scalar.muli arg1 c192_i32_313
  let v623 : BitVec 32 := Scalar.addi v621 v622
  let c50_i32 : BitVec 32 := 50#32
  let v624 : BitVec 32 := Scalar.addi v623 c50_i32
  let v625 : Index := Scalar.indexCast v624
  ![v625.toNat]
def k0_off248 (i : grid0.Coords) : Fin 1 → Nat :=
  let c1_i32_311 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v620 : BitVec 32 := Scalar.subi c1_i32_311 v9
  ![v620.toNat]
def k0_off249 (i : grid0.Coords) : Fin 4 → Nat :=
  let c1_i32_311 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v620 : BitVec 32 := Scalar.subi c1_i32_311 v9
  let arg1 : BitVec 32 := BitVec.ofNat 32 (i 1).val
  let c50_i32_314 : BitVec 32 := 50#32
  let c0_i32_315 : BitVec 32 := 0#32
  ![v620.toNat, arg1.toNat, 50, 0]
def k0_off250 (v626 : BitVec 32) : Fin 2 → Nat :=
  let c0_i32_316 : BitVec 32 := 0#32
  ![v626.toNat, 0]

def k0_chk62 (v626 : BitVec 32) : Prop :=
  (∀ a, (k0_off250 v626) a + S1x1024.size a ≤ S16384x1024.size a)
theorem k0_off250_inb : ∀ (v626 : BitVec 32) (k0_hw62 : k0_chk62 v626), ∀ a, (k0_off250 v626) a + S1x1024.size a ≤ S16384x1024.size a := fun v626 k0_hw62 => k0_hw62

def k0_off251 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_318 : BitVec 32 := 2112#32
  let v633 : BitVec 32 := Scalar.muli v19 c2112_i32_318
  let arg1 : BitVec 32 := BitVec.ofNat 32 (i 1).val
  let c192_i32_319 : BitVec 32 := 192#32
  let v634 : BitVec 32 := Scalar.muli arg1 c192_i32_319
  let v635 : BitVec 32 := Scalar.addi v633 v634
  let c51_i32 : BitVec 32 := 51#32
  let v636 : BitVec 32 := Scalar.addi v635 c51_i32
  let v637 : Index := Scalar.indexCast v636
  ![v637.toNat]
def k0_off252 (i : grid0.Coords) : Fin 1 → Nat :=
  let c1_i32_317 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v632 : BitVec 32 := Scalar.subi c1_i32_317 v9
  ![v632.toNat]
def k0_off253 (i : grid0.Coords) : Fin 4 → Nat :=
  let c1_i32_317 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v632 : BitVec 32 := Scalar.subi c1_i32_317 v9
  let arg1 : BitVec 32 := BitVec.ofNat 32 (i 1).val
  let c51_i32_320 : BitVec 32 := 51#32
  let c0_i32_321 : BitVec 32 := 0#32
  ![v632.toNat, arg1.toNat, 51, 0]
def k0_off254 (v638 : BitVec 32) : Fin 2 → Nat :=
  let c0_i32_322 : BitVec 32 := 0#32
  ![v638.toNat, 0]

def k0_chk63 (v638 : BitVec 32) : Prop :=
  (∀ a, (k0_off254 v638) a + S1x1024.size a ≤ S16384x1024.size a)
theorem k0_off254_inb : ∀ (v638 : BitVec 32) (k0_hw63 : k0_chk63 v638), ∀ a, (k0_off254 v638) a + S1x1024.size a ≤ S16384x1024.size a := fun v638 k0_hw63 => k0_hw63

def k0_off255 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_324 : BitVec 32 := 2112#32
  let v645 : BitVec 32 := Scalar.muli v19 c2112_i32_324
  let arg1 : BitVec 32 := BitVec.ofNat 32 (i 1).val
  let c192_i32_325 : BitVec 32 := 192#32
  let v646 : BitVec 32 := Scalar.muli arg1 c192_i32_325
  let v647 : BitVec 32 := Scalar.addi v645 v646
  let c52_i32 : BitVec 32 := 52#32
  let v648 : BitVec 32 := Scalar.addi v647 c52_i32
  let v649 : Index := Scalar.indexCast v648
  ![v649.toNat]
def k0_off256 (i : grid0.Coords) : Fin 1 → Nat :=
  let c1_i32_323 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v644 : BitVec 32 := Scalar.subi c1_i32_323 v9
  ![v644.toNat]
def k0_off257 (i : grid0.Coords) : Fin 4 → Nat :=
  let c1_i32_323 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v644 : BitVec 32 := Scalar.subi c1_i32_323 v9
  let arg1 : BitVec 32 := BitVec.ofNat 32 (i 1).val
  let c52_i32_326 : BitVec 32 := 52#32
  let c0_i32_327 : BitVec 32 := 0#32
  ![v644.toNat, arg1.toNat, 52, 0]
def k0_off258 (v650 : BitVec 32) : Fin 2 → Nat :=
  let c0_i32_328 : BitVec 32 := 0#32
  ![v650.toNat, 0]

def k0_chk64 (v650 : BitVec 32) : Prop :=
  (∀ a, (k0_off258 v650) a + S1x1024.size a ≤ S16384x1024.size a)
theorem k0_off258_inb : ∀ (v650 : BitVec 32) (k0_hw64 : k0_chk64 v650), ∀ a, (k0_off258 v650) a + S1x1024.size a ≤ S16384x1024.size a := fun v650 k0_hw64 => k0_hw64

def k0_off259 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_330 : BitVec 32 := 2112#32
  let v657 : BitVec 32 := Scalar.muli v19 c2112_i32_330
  let arg1 : BitVec 32 := BitVec.ofNat 32 (i 1).val
  let c192_i32_331 : BitVec 32 := 192#32
  let v658 : BitVec 32 := Scalar.muli arg1 c192_i32_331
  let v659 : BitVec 32 := Scalar.addi v657 v658
  let c53_i32 : BitVec 32 := 53#32
  let v660 : BitVec 32 := Scalar.addi v659 c53_i32
  let v661 : Index := Scalar.indexCast v660
  ![v661.toNat]
def k0_off260 (i : grid0.Coords) : Fin 1 → Nat :=
  let c1_i32_329 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v656 : BitVec 32 := Scalar.subi c1_i32_329 v9
  ![v656.toNat]
def k0_off261 (i : grid0.Coords) : Fin 4 → Nat :=
  let c1_i32_329 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v656 : BitVec 32 := Scalar.subi c1_i32_329 v9
  let arg1 : BitVec 32 := BitVec.ofNat 32 (i 1).val
  let c53_i32_332 : BitVec 32 := 53#32
  let c0_i32_333 : BitVec 32 := 0#32
  ![v656.toNat, arg1.toNat, 53, 0]
def k0_off262 (v662 : BitVec 32) : Fin 2 → Nat :=
  let c0_i32_334 : BitVec 32 := 0#32
  ![v662.toNat, 0]

def k0_chk65 (v662 : BitVec 32) : Prop :=
  (∀ a, (k0_off262 v662) a + S1x1024.size a ≤ S16384x1024.size a)
theorem k0_off262_inb : ∀ (v662 : BitVec 32) (k0_hw65 : k0_chk65 v662), ∀ a, (k0_off262 v662) a + S1x1024.size a ≤ S16384x1024.size a := fun v662 k0_hw65 => k0_hw65

def k0_off263 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_336 : BitVec 32 := 2112#32
  let v669 : BitVec 32 := Scalar.muli v19 c2112_i32_336
  let arg1 : BitVec 32 := BitVec.ofNat 32 (i 1).val
  let c192_i32_337 : BitVec 32 := 192#32
  let v670 : BitVec 32 := Scalar.muli arg1 c192_i32_337
  let v671 : BitVec 32 := Scalar.addi v669 v670
  let c54_i32 : BitVec 32 := 54#32
  let v672 : BitVec 32 := Scalar.addi v671 c54_i32
  let v673 : Index := Scalar.indexCast v672
  ![v673.toNat]
def k0_off264 (i : grid0.Coords) : Fin 1 → Nat :=
  let c1_i32_335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v668 : BitVec 32 := Scalar.subi c1_i32_335 v9
  ![v668.toNat]
def k0_off265 (i : grid0.Coords) : Fin 4 → Nat :=
  let c1_i32_335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v668 : BitVec 32 := Scalar.subi c1_i32_335 v9
  let arg1 : BitVec 32 := BitVec.ofNat 32 (i 1).val
  let c54_i32_338 : BitVec 32 := 54#32
  let c0_i32_339 : BitVec 32 := 0#32
  ![v668.toNat, arg1.toNat, 54, 0]
def k0_off266 (v674 : BitVec 32) : Fin 2 → Nat :=
  let c0_i32_340 : BitVec 32 := 0#32
  ![v674.toNat, 0]

def k0_chk66 (v674 : BitVec 32) : Prop :=
  (∀ a, (k0_off266 v674) a + S1x1024.size a ≤ S16384x1024.size a)
theorem k0_off266_inb : ∀ (v674 : BitVec 32) (k0_hw66 : k0_chk66 v674), ∀ a, (k0_off266 v674) a + S1x1024.size a ≤ S16384x1024.size a := fun v674 k0_hw66 => k0_hw66

def k0_off267 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_342 : BitVec 32 := 2112#32
  let v681 : BitVec 32 := Scalar.muli v19 c2112_i32_342
  let arg1 : BitVec 32 := BitVec.ofNat 32 (i 1).val
  let c192_i32_343 : BitVec 32 := 192#32
  let v682 : BitVec 32 := Scalar.muli arg1 c192_i32_343
  let v683 : BitVec 32 := Scalar.addi v681 v682
  let c55_i32 : BitVec 32 := 55#32
  let v684 : BitVec 32 := Scalar.addi v683 c55_i32
  let v685 : Index := Scalar.indexCast v684
  ![v685.toNat]
def k0_off268 (i : grid0.Coords) : Fin 1 → Nat :=
  let c1_i32_341 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v680 : BitVec 32 := Scalar.subi c1_i32_341 v9
  ![v680.toNat]
def k0_off269 (i : grid0.Coords) : Fin 4 → Nat :=
  let c1_i32_341 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v680 : BitVec 32 := Scalar.subi c1_i32_341 v9
  let arg1 : BitVec 32 := BitVec.ofNat 32 (i 1).val
  let c55_i32_344 : BitVec 32 := 55#32
  let c0_i32_345 : BitVec 32 := 0#32
  ![v680.toNat, arg1.toNat, 55, 0]
def k0_off270 (v686 : BitVec 32) : Fin 2 → Nat :=
  let c0_i32_346 : BitVec 32 := 0#32
  ![v686.toNat, 0]

def k0_chk67 (v686 : BitVec 32) : Prop :=
  (∀ a, (k0_off270 v686) a + S1x1024.size a ≤ S16384x1024.size a)
theorem k0_off270_inb : ∀ (v686 : BitVec 32) (k0_hw67 : k0_chk67 v686), ∀ a, (k0_off270 v686) a + S1x1024.size a ≤ S16384x1024.size a := fun v686 k0_hw67 => k0_hw67

def k0_off271 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_348 : BitVec 32 := 2112#32
  let v693 : BitVec 32 := Scalar.muli v19 c2112_i32_348
  let arg1 : BitVec 32 := BitVec.ofNat 32 (i 1).val
  let c192_i32_349 : BitVec 32 := 192#32
  let v694 : BitVec 32 := Scalar.muli arg1 c192_i32_349
  let v695 : BitVec 32 := Scalar.addi v693 v694
  let c56_i32 : BitVec 32 := 56#32
  let v696 : BitVec 32 := Scalar.addi v695 c56_i32
  let v697 : Index := Scalar.indexCast v696
  ![v697.toNat]
def k0_off272 (i : grid0.Coords) : Fin 1 → Nat :=
  let c1_i32_347 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v692 : BitVec 32 := Scalar.subi c1_i32_347 v9
  ![v692.toNat]
def k0_off273 (i : grid0.Coords) : Fin 4 → Nat :=
  let c1_i32_347 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v692 : BitVec 32 := Scalar.subi c1_i32_347 v9
  let arg1 : BitVec 32 := BitVec.ofNat 32 (i 1).val
  let c56_i32_350 : BitVec 32 := 56#32
  let c0_i32_351 : BitVec 32 := 0#32
  ![v692.toNat, arg1.toNat, 56, 0]
def k0_off274 (v698 : BitVec 32) : Fin 2 → Nat :=
  let c0_i32_352 : BitVec 32 := 0#32
  ![v698.toNat, 0]

def k0_chk68 (v698 : BitVec 32) : Prop :=
  (∀ a, (k0_off274 v698) a + S1x1024.size a ≤ S16384x1024.size a)
theorem k0_off274_inb : ∀ (v698 : BitVec 32) (k0_hw68 : k0_chk68 v698), ∀ a, (k0_off274 v698) a + S1x1024.size a ≤ S16384x1024.size a := fun v698 k0_hw68 => k0_hw68

def k0_off275 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_354 : BitVec 32 := 2112#32
  let v705 : BitVec 32 := Scalar.muli v19 c2112_i32_354
  let arg1 : BitVec 32 := BitVec.ofNat 32 (i 1).val
  let c192_i32_355 : BitVec 32 := 192#32
  let v706 : BitVec 32 := Scalar.muli arg1 c192_i32_355
  let v707 : BitVec 32 := Scalar.addi v705 v706
  let c57_i32 : BitVec 32 := 57#32
  let v708 : BitVec 32 := Scalar.addi v707 c57_i32
  let v709 : Index := Scalar.indexCast v708
  ![v709.toNat]
def k0_off276 (i : grid0.Coords) : Fin 1 → Nat :=
  let c1_i32_353 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v704 : BitVec 32 := Scalar.subi c1_i32_353 v9
  ![v704.toNat]
def k0_off277 (i : grid0.Coords) : Fin 4 → Nat :=
  let c1_i32_353 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v704 : BitVec 32 := Scalar.subi c1_i32_353 v9
  let arg1 : BitVec 32 := BitVec.ofNat 32 (i 1).val
  let c57_i32_356 : BitVec 32 := 57#32
  let c0_i32_357 : BitVec 32 := 0#32
  ![v704.toNat, arg1.toNat, 57, 0]
def k0_off278 (v710 : BitVec 32) : Fin 2 → Nat :=
  let c0_i32_358 : BitVec 32 := 0#32
  ![v710.toNat, 0]

def k0_chk69 (v710 : BitVec 32) : Prop :=
  (∀ a, (k0_off278 v710) a + S1x1024.size a ≤ S16384x1024.size a)
theorem k0_off278_inb : ∀ (v710 : BitVec 32) (k0_hw69 : k0_chk69 v710), ∀ a, (k0_off278 v710) a + S1x1024.size a ≤ S16384x1024.size a := fun v710 k0_hw69 => k0_hw69

def k0_off279 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_360 : BitVec 32 := 2112#32
  let v717 : BitVec 32 := Scalar.muli v19 c2112_i32_360
  let arg1 : BitVec 32 := BitVec.ofNat 32 (i 1).val
  let c192_i32_361 : BitVec 32 := 192#32
  let v718 : BitVec 32 := Scalar.muli arg1 c192_i32_361
  let v719 : BitVec 32 := Scalar.addi v717 v718
  let c58_i32 : BitVec 32 := 58#32
  let v720 : BitVec 32 := Scalar.addi v719 c58_i32
  let v721 : Index := Scalar.indexCast v720
  ![v721.toNat]
def k0_off280 (i : grid0.Coords) : Fin 1 → Nat :=
  let c1_i32_359 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v716 : BitVec 32 := Scalar.subi c1_i32_359 v9
  ![v716.toNat]
def k0_off281 (i : grid0.Coords) : Fin 4 → Nat :=
  let c1_i32_359 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v716 : BitVec 32 := Scalar.subi c1_i32_359 v9
  let arg1 : BitVec 32 := BitVec.ofNat 32 (i 1).val
  let c58_i32_362 : BitVec 32 := 58#32
  let c0_i32_363 : BitVec 32 := 0#32
  ![v716.toNat, arg1.toNat, 58, 0]
def k0_off282 (v722 : BitVec 32) : Fin 2 → Nat :=
  let c0_i32_364 : BitVec 32 := 0#32
  ![v722.toNat, 0]

def k0_chk70 (v722 : BitVec 32) : Prop :=
  (∀ a, (k0_off282 v722) a + S1x1024.size a ≤ S16384x1024.size a)
theorem k0_off282_inb : ∀ (v722 : BitVec 32) (k0_hw70 : k0_chk70 v722), ∀ a, (k0_off282 v722) a + S1x1024.size a ≤ S16384x1024.size a := fun v722 k0_hw70 => k0_hw70

def k0_off283 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_366 : BitVec 32 := 2112#32
  let v729 : BitVec 32 := Scalar.muli v19 c2112_i32_366
  let arg1 : BitVec 32 := BitVec.ofNat 32 (i 1).val
  let c192_i32_367 : BitVec 32 := 192#32
  let v730 : BitVec 32 := Scalar.muli arg1 c192_i32_367
  let v731 : BitVec 32 := Scalar.addi v729 v730
  let c59_i32 : BitVec 32 := 59#32
  let v732 : BitVec 32 := Scalar.addi v731 c59_i32
  let v733 : Index := Scalar.indexCast v732
  ![v733.toNat]
def k0_off284 (i : grid0.Coords) : Fin 1 → Nat :=
  let c1_i32_365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v728 : BitVec 32 := Scalar.subi c1_i32_365 v9
  ![v728.toNat]
def k0_off285 (i : grid0.Coords) : Fin 4 → Nat :=
  let c1_i32_365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v728 : BitVec 32 := Scalar.subi c1_i32_365 v9
  let arg1 : BitVec 32 := BitVec.ofNat 32 (i 1).val
  let c59_i32_368 : BitVec 32 := 59#32
  let c0_i32_369 : BitVec 32 := 0#32
  ![v728.toNat, arg1.toNat, 59, 0]
def k0_off286 (v734 : BitVec 32) : Fin 2 → Nat :=
  let c0_i32_370 : BitVec 32 := 0#32
  ![v734.toNat, 0]

def k0_chk71 (v734 : BitVec 32) : Prop :=
  (∀ a, (k0_off286 v734) a + S1x1024.size a ≤ S16384x1024.size a)
theorem k0_off286_inb : ∀ (v734 : BitVec 32) (k0_hw71 : k0_chk71 v734), ∀ a, (k0_off286 v734) a + S1x1024.size a ≤ S16384x1024.size a := fun v734 k0_hw71 => k0_hw71

def k0_off287 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_372 : BitVec 32 := 2112#32
  let v741 : BitVec 32 := Scalar.muli v19 c2112_i32_372
  let arg1 : BitVec 32 := BitVec.ofNat 32 (i 1).val
  let c192_i32_373 : BitVec 32 := 192#32
  let v742 : BitVec 32 := Scalar.muli arg1 c192_i32_373
  let v743 : BitVec 32 := Scalar.addi v741 v742
  let c60_i32 : BitVec 32 := 60#32
  let v744 : BitVec 32 := Scalar.addi v743 c60_i32
  let v745 : Index := Scalar.indexCast v744
  ![v745.toNat]
def k0_off288 (i : grid0.Coords) : Fin 1 → Nat :=
  let c1_i32_371 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v740 : BitVec 32 := Scalar.subi c1_i32_371 v9
  ![v740.toNat]
def k0_off289 (i : grid0.Coords) : Fin 4 → Nat :=
  let c1_i32_371 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v740 : BitVec 32 := Scalar.subi c1_i32_371 v9
  let arg1 : BitVec 32 := BitVec.ofNat 32 (i 1).val
  let c60_i32_374 : BitVec 32 := 60#32
  let c0_i32_375 : BitVec 32 := 0#32
  ![v740.toNat, arg1.toNat, 60, 0]
def k0_off290 (v746 : BitVec 32) : Fin 2 → Nat :=
  let c0_i32_376 : BitVec 32 := 0#32
  ![v746.toNat, 0]

def k0_chk72 (v746 : BitVec 32) : Prop :=
  (∀ a, (k0_off290 v746) a + S1x1024.size a ≤ S16384x1024.size a)
theorem k0_off290_inb : ∀ (v746 : BitVec 32) (k0_hw72 : k0_chk72 v746), ∀ a, (k0_off290 v746) a + S1x1024.size a ≤ S16384x1024.size a := fun v746 k0_hw72 => k0_hw72

def k0_off291 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_378 : BitVec 32 := 2112#32
  let v753 : BitVec 32 := Scalar.muli v19 c2112_i32_378
  let arg1 : BitVec 32 := BitVec.ofNat 32 (i 1).val
  let c192_i32_379 : BitVec 32 := 192#32
  let v754 : BitVec 32 := Scalar.muli arg1 c192_i32_379
  let v755 : BitVec 32 := Scalar.addi v753 v754
  let c61_i32 : BitVec 32 := 61#32
  let v756 : BitVec 32 := Scalar.addi v755 c61_i32
  let v757 : Index := Scalar.indexCast v756
  ![v757.toNat]
def k0_off292 (i : grid0.Coords) : Fin 1 → Nat :=
  let c1_i32_377 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v752 : BitVec 32 := Scalar.subi c1_i32_377 v9
  ![v752.toNat]
def k0_off293 (i : grid0.Coords) : Fin 4 → Nat :=
  let c1_i32_377 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v752 : BitVec 32 := Scalar.subi c1_i32_377 v9
  let arg1 : BitVec 32 := BitVec.ofNat 32 (i 1).val
  let c61_i32_380 : BitVec 32 := 61#32
  let c0_i32_381 : BitVec 32 := 0#32
  ![v752.toNat, arg1.toNat, 61, 0]
def k0_off294 (v758 : BitVec 32) : Fin 2 → Nat :=
  let c0_i32_382 : BitVec 32 := 0#32
  ![v758.toNat, 0]

def k0_chk73 (v758 : BitVec 32) : Prop :=
  (∀ a, (k0_off294 v758) a + S1x1024.size a ≤ S16384x1024.size a)
theorem k0_off294_inb : ∀ (v758 : BitVec 32) (k0_hw73 : k0_chk73 v758), ∀ a, (k0_off294 v758) a + S1x1024.size a ≤ S16384x1024.size a := fun v758 k0_hw73 => k0_hw73

def k0_off295 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_384 : BitVec 32 := 2112#32
  let v765 : BitVec 32 := Scalar.muli v19 c2112_i32_384
  let arg1 : BitVec 32 := BitVec.ofNat 32 (i 1).val
  let c192_i32_385 : BitVec 32 := 192#32
  let v766 : BitVec 32 := Scalar.muli arg1 c192_i32_385
  let v767 : BitVec 32 := Scalar.addi v765 v766
  let c62_i32 : BitVec 32 := 62#32
  let v768 : BitVec 32 := Scalar.addi v767 c62_i32
  let v769 : Index := Scalar.indexCast v768
  ![v769.toNat]
def k0_off296 (i : grid0.Coords) : Fin 1 → Nat :=
  let c1_i32_383 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v764 : BitVec 32 := Scalar.subi c1_i32_383 v9
  ![v764.toNat]
def k0_off297 (i : grid0.Coords) : Fin 4 → Nat :=
  let c1_i32_383 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v764 : BitVec 32 := Scalar.subi c1_i32_383 v9
  let arg1 : BitVec 32 := BitVec.ofNat 32 (i 1).val
  let c62_i32_386 : BitVec 32 := 62#32
  let c0_i32_387 : BitVec 32 := 0#32
  ![v764.toNat, arg1.toNat, 62, 0]
def k0_off298 (v770 : BitVec 32) : Fin 2 → Nat :=
  let c0_i32_388 : BitVec 32 := 0#32
  ![v770.toNat, 0]

def k0_chk74 (v770 : BitVec 32) : Prop :=
  (∀ a, (k0_off298 v770) a + S1x1024.size a ≤ S16384x1024.size a)
theorem k0_off298_inb : ∀ (v770 : BitVec 32) (k0_hw74 : k0_chk74 v770), ∀ a, (k0_off298 v770) a + S1x1024.size a ≤ S16384x1024.size a := fun v770 k0_hw74 => k0_hw74

def k0_off299 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_390 : BitVec 32 := 2112#32
  let v777 : BitVec 32 := Scalar.muli v19 c2112_i32_390
  let arg1 : BitVec 32 := BitVec.ofNat 32 (i 1).val
  let c192_i32_391 : BitVec 32 := 192#32
  let v778 : BitVec 32 := Scalar.muli arg1 c192_i32_391
  let v779 : BitVec 32 := Scalar.addi v777 v778
  let c63_i32 : BitVec 32 := 63#32
  let v780 : BitVec 32 := Scalar.addi v779 c63_i32
  let v781 : Index := Scalar.indexCast v780
  ![v781.toNat]
def k0_off300 (i : grid0.Coords) : Fin 1 → Nat :=
  let c1_i32_389 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v776 : BitVec 32 := Scalar.subi c1_i32_389 v9
  ![v776.toNat]
def k0_off301 (i : grid0.Coords) : Fin 4 → Nat :=
  let c1_i32_389 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v776 : BitVec 32 := Scalar.subi c1_i32_389 v9
  let arg1 : BitVec 32 := BitVec.ofNat 32 (i 1).val
  let c63_i32_392 : BitVec 32 := 63#32
  let c0_i32_393 : BitVec 32 := 0#32
  ![v776.toNat, arg1.toNat, 63, 0]
def k0_off302 (v782 : BitVec 32) : Fin 2 → Nat :=
  let c0_i32_394 : BitVec 32 := 0#32
  ![v782.toNat, 0]

def k0_chk75 (v782 : BitVec 32) : Prop :=
  (∀ a, (k0_off302 v782) a + S1x1024.size a ≤ S16384x1024.size a)
theorem k0_off302_inb : ∀ (v782 : BitVec 32) (k0_hw75 : k0_chk75 v782), ∀ a, (k0_off302 v782) a + S1x1024.size a ≤ S16384x1024.size a := fun v782 k0_hw75 => k0_hw75

def k0_off303 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_396 : BitVec 32 := 2112#32
  let v789 : BitVec 32 := Scalar.muli v19 c2112_i32_396
  let arg1 : BitVec 32 := BitVec.ofNat 32 (i 1).val
  let c192_i32_397 : BitVec 32 := 192#32
  let v790 : BitVec 32 := Scalar.muli arg1 c192_i32_397
  let v791 : BitVec 32 := Scalar.addi v789 v790
  let c64_i32 : BitVec 32 := 64#32
  let v792 : BitVec 32 := Scalar.addi v791 c64_i32
  let v793 : Index := Scalar.indexCast v792
  ![v793.toNat]
def k0_off304 (i : grid0.Coords) : Fin 1 → Nat :=
  let c1_i32_395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v788 : BitVec 32 := Scalar.subi c1_i32_395 v9
  ![v788.toNat]
def k0_off305 (i : grid0.Coords) : Fin 4 → Nat :=
  let c1_i32_395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v788 : BitVec 32 := Scalar.subi c1_i32_395 v9
  let arg1 : BitVec 32 := BitVec.ofNat 32 (i 1).val
  let c64_i32_398 : BitVec 32 := 64#32
  let c0_i32_399 : BitVec 32 := 0#32
  ![v788.toNat, arg1.toNat, 64, 0]
def k0_off306 (v794 : BitVec 32) : Fin 2 → Nat :=
  let c0_i32_400 : BitVec 32 := 0#32
  ![v794.toNat, 0]

def k0_chk76 (v794 : BitVec 32) : Prop :=
  (∀ a, (k0_off306 v794) a + S1x1024.size a ≤ S16384x1024.size a)
theorem k0_off306_inb : ∀ (v794 : BitVec 32) (k0_hw76 : k0_chk76 v794), ∀ a, (k0_off306 v794) a + S1x1024.size a ≤ S16384x1024.size a := fun v794 k0_hw76 => k0_hw76

def k0_off307 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_402 : BitVec 32 := 2112#32
  let v801 : BitVec 32 := Scalar.muli v19 c2112_i32_402
  let arg1 : BitVec 32 := BitVec.ofNat 32 (i 1).val
  let c192_i32_403 : BitVec 32 := 192#32
  let v802 : BitVec 32 := Scalar.muli arg1 c192_i32_403
  let v803 : BitVec 32 := Scalar.addi v801 v802
  let c65_i32 : BitVec 32 := 65#32
  let v804 : BitVec 32 := Scalar.addi v803 c65_i32
  let v805 : Index := Scalar.indexCast v804
  ![v805.toNat]
def k0_off308 (i : grid0.Coords) : Fin 1 → Nat :=
  let c1_i32_401 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v800 : BitVec 32 := Scalar.subi c1_i32_401 v9
  ![v800.toNat]
def k0_off309 (i : grid0.Coords) : Fin 4 → Nat :=
  let c1_i32_401 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v800 : BitVec 32 := Scalar.subi c1_i32_401 v9
  let arg1 : BitVec 32 := BitVec.ofNat 32 (i 1).val
  let c65_i32_404 : BitVec 32 := 65#32
  let c0_i32_405 : BitVec 32 := 0#32
  ![v800.toNat, arg1.toNat, 65, 0]
def k0_off310 (v806 : BitVec 32) : Fin 2 → Nat :=
  let c0_i32_406 : BitVec 32 := 0#32
  ![v806.toNat, 0]

def k0_chk77 (v806 : BitVec 32) : Prop :=
  (∀ a, (k0_off310 v806) a + S1x1024.size a ≤ S16384x1024.size a)
theorem k0_off310_inb : ∀ (v806 : BitVec 32) (k0_hw77 : k0_chk77 v806), ∀ a, (k0_off310 v806) a + S1x1024.size a ≤ S16384x1024.size a := fun v806 k0_hw77 => k0_hw77

def k0_off311 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_408 : BitVec 32 := 2112#32
  let v813 : BitVec 32 := Scalar.muli v19 c2112_i32_408
  let arg1 : BitVec 32 := BitVec.ofNat 32 (i 1).val
  let c192_i32_409 : BitVec 32 := 192#32
  let v814 : BitVec 32 := Scalar.muli arg1 c192_i32_409
  let v815 : BitVec 32 := Scalar.addi v813 v814
  let c66_i32 : BitVec 32 := 66#32
  let v816 : BitVec 32 := Scalar.addi v815 c66_i32
  let v817 : Index := Scalar.indexCast v816
  ![v817.toNat]
def k0_off312 (i : grid0.Coords) : Fin 1 → Nat :=
  let c1_i32_407 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v812 : BitVec 32 := Scalar.subi c1_i32_407 v9
  ![v812.toNat]
def k0_off313 (i : grid0.Coords) : Fin 4 → Nat :=
  let c1_i32_407 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v812 : BitVec 32 := Scalar.subi c1_i32_407 v9
  let arg1 : BitVec 32 := BitVec.ofNat 32 (i 1).val
  let c66_i32_410 : BitVec 32 := 66#32
  let c0_i32_411 : BitVec 32 := 0#32
  ![v812.toNat, arg1.toNat, 66, 0]
def k0_off314 (v818 : BitVec 32) : Fin 2 → Nat :=
  let c0_i32_412 : BitVec 32 := 0#32
  ![v818.toNat, 0]

def k0_chk78 (v818 : BitVec 32) : Prop :=
  (∀ a, (k0_off314 v818) a + S1x1024.size a ≤ S16384x1024.size a)
theorem k0_off314_inb : ∀ (v818 : BitVec 32) (k0_hw78 : k0_chk78 v818), ∀ a, (k0_off314 v818) a + S1x1024.size a ≤ S16384x1024.size a := fun v818 k0_hw78 => k0_hw78

def k0_off315 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_414 : BitVec 32 := 2112#32
  let v825 : BitVec 32 := Scalar.muli v19 c2112_i32_414
  let arg1 : BitVec 32 := BitVec.ofNat 32 (i 1).val
  let c192_i32_415 : BitVec 32 := 192#32
  let v826 : BitVec 32 := Scalar.muli arg1 c192_i32_415
  let v827 : BitVec 32 := Scalar.addi v825 v826
  let c67_i32 : BitVec 32 := 67#32
  let v828 : BitVec 32 := Scalar.addi v827 c67_i32
  let v829 : Index := Scalar.indexCast v828
  ![v829.toNat]
def k0_off316 (i : grid0.Coords) : Fin 1 → Nat :=
  let c1_i32_413 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v824 : BitVec 32 := Scalar.subi c1_i32_413 v9
  ![v824.toNat]
def k0_off317 (i : grid0.Coords) : Fin 4 → Nat :=
  let c1_i32_413 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v824 : BitVec 32 := Scalar.subi c1_i32_413 v9
  let arg1 : BitVec 32 := BitVec.ofNat 32 (i 1).val
  let c67_i32_416 : BitVec 32 := 67#32
  let c0_i32_417 : BitVec 32 := 0#32
  ![v824.toNat, arg1.toNat, 67, 0]
def k0_off318 (v830 : BitVec 32) : Fin 2 → Nat :=
  let c0_i32_418 : BitVec 32 := 0#32
  ![v830.toNat, 0]

def k0_chk79 (v830 : BitVec 32) : Prop :=
  (∀ a, (k0_off318 v830) a + S1x1024.size a ≤ S16384x1024.size a)
theorem k0_off318_inb : ∀ (v830 : BitVec 32) (k0_hw79 : k0_chk79 v830), ∀ a, (k0_off318 v830) a + S1x1024.size a ≤ S16384x1024.size a := fun v830 k0_hw79 => k0_hw79

def k0_off319 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_420 : BitVec 32 := 2112#32
  let v837 : BitVec 32 := Scalar.muli v19 c2112_i32_420
  let arg1 : BitVec 32 := BitVec.ofNat 32 (i 1).val
  let c192_i32_421 : BitVec 32 := 192#32
  let v838 : BitVec 32 := Scalar.muli arg1 c192_i32_421
  let v839 : BitVec 32 := Scalar.addi v837 v838
  let c68_i32 : BitVec 32 := 68#32
  let v840 : BitVec 32 := Scalar.addi v839 c68_i32
  let v841 : Index := Scalar.indexCast v840
  ![v841.toNat]
def k0_off320 (i : grid0.Coords) : Fin 1 → Nat :=
  let c1_i32_419 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v836 : BitVec 32 := Scalar.subi c1_i32_419 v9
  ![v836.toNat]
def k0_off321 (i : grid0.Coords) : Fin 4 → Nat :=
  let c1_i32_419 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v836 : BitVec 32 := Scalar.subi c1_i32_419 v9
  let arg1 : BitVec 32 := BitVec.ofNat 32 (i 1).val
  let c68_i32_422 : BitVec 32 := 68#32
  let c0_i32_423 : BitVec 32 := 0#32
  ![v836.toNat, arg1.toNat, 68, 0]
def k0_off322 (v842 : BitVec 32) : Fin 2 → Nat :=
  let c0_i32_424 : BitVec 32 := 0#32
  ![v842.toNat, 0]

def k0_chk80 (v842 : BitVec 32) : Prop :=
  (∀ a, (k0_off322 v842) a + S1x1024.size a ≤ S16384x1024.size a)
theorem k0_off322_inb : ∀ (v842 : BitVec 32) (k0_hw80 : k0_chk80 v842), ∀ a, (k0_off322 v842) a + S1x1024.size a ≤ S16384x1024.size a := fun v842 k0_hw80 => k0_hw80

def k0_off323 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_426 : BitVec 32 := 2112#32
  let v849 : BitVec 32 := Scalar.muli v19 c2112_i32_426
  let arg1 : BitVec 32 := BitVec.ofNat 32 (i 1).val
  let c192_i32_427 : BitVec 32 := 192#32
  let v850 : BitVec 32 := Scalar.muli arg1 c192_i32_427
  let v851 : BitVec 32 := Scalar.addi v849 v850
  let c69_i32 : BitVec 32 := 69#32
  let v852 : BitVec 32 := Scalar.addi v851 c69_i32
  let v853 : Index := Scalar.indexCast v852
  ![v853.toNat]
def k0_off324 (i : grid0.Coords) : Fin 1 → Nat :=
  let c1_i32_425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v848 : BitVec 32 := Scalar.subi c1_i32_425 v9
  ![v848.toNat]
def k0_off325 (i : grid0.Coords) : Fin 4 → Nat :=
  let c1_i32_425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v848 : BitVec 32 := Scalar.subi c1_i32_425 v9
  let arg1 : BitVec 32 := BitVec.ofNat 32 (i 1).val
  let c69_i32_428 : BitVec 32 := 69#32
  let c0_i32_429 : BitVec 32 := 0#32
  ![v848.toNat, arg1.toNat, 69, 0]
def k0_off326 (v854 : BitVec 32) : Fin 2 → Nat :=
  let c0_i32_430 : BitVec 32 := 0#32
  ![v854.toNat, 0]

def k0_chk81 (v854 : BitVec 32) : Prop :=
  (∀ a, (k0_off326 v854) a + S1x1024.size a ≤ S16384x1024.size a)
theorem k0_off326_inb : ∀ (v854 : BitVec 32) (k0_hw81 : k0_chk81 v854), ∀ a, (k0_off326 v854) a + S1x1024.size a ≤ S16384x1024.size a := fun v854 k0_hw81 => k0_hw81

def k0_off327 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_432 : BitVec 32 := 2112#32
  let v861 : BitVec 32 := Scalar.muli v19 c2112_i32_432
  let arg1 : BitVec 32 := BitVec.ofNat 32 (i 1).val
  let c192_i32_433 : BitVec 32 := 192#32
  let v862 : BitVec 32 := Scalar.muli arg1 c192_i32_433
  let v863 : BitVec 32 := Scalar.addi v861 v862
  let c70_i32 : BitVec 32 := 70#32
  let v864 : BitVec 32 := Scalar.addi v863 c70_i32
  let v865 : Index := Scalar.indexCast v864
  ![v865.toNat]
def k0_off328 (i : grid0.Coords) : Fin 1 → Nat :=
  let c1_i32_431 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v860 : BitVec 32 := Scalar.subi c1_i32_431 v9
  ![v860.toNat]
def k0_off329 (i : grid0.Coords) : Fin 4 → Nat :=
  let c1_i32_431 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v860 : BitVec 32 := Scalar.subi c1_i32_431 v9
  let arg1 : BitVec 32 := BitVec.ofNat 32 (i 1).val
  let c70_i32_434 : BitVec 32 := 70#32
  let c0_i32_435 : BitVec 32 := 0#32
  ![v860.toNat, arg1.toNat, 70, 0]
def k0_off330 (v866 : BitVec 32) : Fin 2 → Nat :=
  let c0_i32_436 : BitVec 32 := 0#32
  ![v866.toNat, 0]

def k0_chk82 (v866 : BitVec 32) : Prop :=
  (∀ a, (k0_off330 v866) a + S1x1024.size a ≤ S16384x1024.size a)
theorem k0_off330_inb : ∀ (v866 : BitVec 32) (k0_hw82 : k0_chk82 v866), ∀ a, (k0_off330 v866) a + S1x1024.size a ≤ S16384x1024.size a := fun v866 k0_hw82 => k0_hw82

def k0_off331 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_438 : BitVec 32 := 2112#32
  let v873 : BitVec 32 := Scalar.muli v19 c2112_i32_438
  let arg1 : BitVec 32 := BitVec.ofNat 32 (i 1).val
  let c192_i32_439 : BitVec 32 := 192#32
  let v874 : BitVec 32 := Scalar.muli arg1 c192_i32_439
  let v875 : BitVec 32 := Scalar.addi v873 v874
  let c71_i32 : BitVec 32 := 71#32
  let v876 : BitVec 32 := Scalar.addi v875 c71_i32
  let v877 : Index := Scalar.indexCast v876
  ![v877.toNat]
def k0_off332 (i : grid0.Coords) : Fin 1 → Nat :=
  let c1_i32_437 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v872 : BitVec 32 := Scalar.subi c1_i32_437 v9
  ![v872.toNat]
def k0_off333 (i : grid0.Coords) : Fin 4 → Nat :=
  let c1_i32_437 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v872 : BitVec 32 := Scalar.subi c1_i32_437 v9
  let arg1 : BitVec 32 := BitVec.ofNat 32 (i 1).val
  let c71_i32_440 : BitVec 32 := 71#32
  let c0_i32_441 : BitVec 32 := 0#32
  ![v872.toNat, arg1.toNat, 71, 0]
def k0_off334 (v878 : BitVec 32) : Fin 2 → Nat :=
  let c0_i32_442 : BitVec 32 := 0#32
  ![v878.toNat, 0]

def k0_chk83 (v878 : BitVec 32) : Prop :=
  (∀ a, (k0_off334 v878) a + S1x1024.size a ≤ S16384x1024.size a)
theorem k0_off334_inb : ∀ (v878 : BitVec 32) (k0_hw83 : k0_chk83 v878), ∀ a, (k0_off334 v878) a + S1x1024.size a ≤ S16384x1024.size a := fun v878 k0_hw83 => k0_hw83

def k0_off335 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_444 : BitVec 32 := 2112#32
  let v885 : BitVec 32 := Scalar.muli v19 c2112_i32_444
  let arg1 : BitVec 32 := BitVec.ofNat 32 (i 1).val
  let c192_i32_445 : BitVec 32 := 192#32
  let v886 : BitVec 32 := Scalar.muli arg1 c192_i32_445
  let v887 : BitVec 32 := Scalar.addi v885 v886
  let c72_i32 : BitVec 32 := 72#32
  let v888 : BitVec 32 := Scalar.addi v887 c72_i32
  let v889 : Index := Scalar.indexCast v888
  ![v889.toNat]
def k0_off336 (i : grid0.Coords) : Fin 1 → Nat :=
  let c1_i32_443 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v884 : BitVec 32 := Scalar.subi c1_i32_443 v9
  ![v884.toNat]
def k0_off337 (i : grid0.Coords) : Fin 4 → Nat :=
  let c1_i32_443 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v884 : BitVec 32 := Scalar.subi c1_i32_443 v9
  let arg1 : BitVec 32 := BitVec.ofNat 32 (i 1).val
  let c72_i32_446 : BitVec 32 := 72#32
  let c0_i32_447 : BitVec 32 := 0#32
  ![v884.toNat, arg1.toNat, 72, 0]
def k0_off338 (v890 : BitVec 32) : Fin 2 → Nat :=
  let c0_i32_448 : BitVec 32 := 0#32
  ![v890.toNat, 0]

def k0_chk84 (v890 : BitVec 32) : Prop :=
  (∀ a, (k0_off338 v890) a + S1x1024.size a ≤ S16384x1024.size a)
theorem k0_off338_inb : ∀ (v890 : BitVec 32) (k0_hw84 : k0_chk84 v890), ∀ a, (k0_off338 v890) a + S1x1024.size a ≤ S16384x1024.size a := fun v890 k0_hw84 => k0_hw84

def k0_off339 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_450 : BitVec 32 := 2112#32
  let v897 : BitVec 32 := Scalar.muli v19 c2112_i32_450
  let arg1 : BitVec 32 := BitVec.ofNat 32 (i 1).val
  let c192_i32_451 : BitVec 32 := 192#32
  let v898 : BitVec 32 := Scalar.muli arg1 c192_i32_451
  let v899 : BitVec 32 := Scalar.addi v897 v898
  let c73_i32 : BitVec 32 := 73#32
  let v900 : BitVec 32 := Scalar.addi v899 c73_i32
  let v901 : Index := Scalar.indexCast v900
  ![v901.toNat]
def k0_off340 (i : grid0.Coords) : Fin 1 → Nat :=
  let c1_i32_449 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v896 : BitVec 32 := Scalar.subi c1_i32_449 v9
  ![v896.toNat]
def k0_off341 (i : grid0.Coords) : Fin 4 → Nat :=
  let c1_i32_449 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v896 : BitVec 32 := Scalar.subi c1_i32_449 v9
  let arg1 : BitVec 32 := BitVec.ofNat 32 (i 1).val
  let c73_i32_452 : BitVec 32 := 73#32
  let c0_i32_453 : BitVec 32 := 0#32
  ![v896.toNat, arg1.toNat, 73, 0]
def k0_off342 (v902 : BitVec 32) : Fin 2 → Nat :=
  let c0_i32_454 : BitVec 32 := 0#32
  ![v902.toNat, 0]

def k0_chk85 (v902 : BitVec 32) : Prop :=
  (∀ a, (k0_off342 v902) a + S1x1024.size a ≤ S16384x1024.size a)
theorem k0_off342_inb : ∀ (v902 : BitVec 32) (k0_hw85 : k0_chk85 v902), ∀ a, (k0_off342 v902) a + S1x1024.size a ≤ S16384x1024.size a := fun v902 k0_hw85 => k0_hw85

def k0_off343 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_456 : BitVec 32 := 2112#32
  let v909 : BitVec 32 := Scalar.muli v19 c2112_i32_456
  let arg1 : BitVec 32 := BitVec.ofNat 32 (i 1).val
  let c192_i32_457 : BitVec 32 := 192#32
  let v910 : BitVec 32 := Scalar.muli arg1 c192_i32_457
  let v911 : BitVec 32 := Scalar.addi v909 v910
  let c74_i32 : BitVec 32 := 74#32
  let v912 : BitVec 32 := Scalar.addi v911 c74_i32
  let v913 : Index := Scalar.indexCast v912
  ![v913.toNat]
def k0_off344 (i : grid0.Coords) : Fin 1 → Nat :=
  let c1_i32_455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v908 : BitVec 32 := Scalar.subi c1_i32_455 v9
  ![v908.toNat]
def k0_off345 (i : grid0.Coords) : Fin 4 → Nat :=
  let c1_i32_455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v908 : BitVec 32 := Scalar.subi c1_i32_455 v9
  let arg1 : BitVec 32 := BitVec.ofNat 32 (i 1).val
  let c74_i32_458 : BitVec 32 := 74#32
  let c0_i32_459 : BitVec 32 := 0#32
  ![v908.toNat, arg1.toNat, 74, 0]
def k0_off346 (v914 : BitVec 32) : Fin 2 → Nat :=
  let c0_i32_460 : BitVec 32 := 0#32
  ![v914.toNat, 0]

def k0_chk86 (v914 : BitVec 32) : Prop :=
  (∀ a, (k0_off346 v914) a + S1x1024.size a ≤ S16384x1024.size a)
theorem k0_off346_inb : ∀ (v914 : BitVec 32) (k0_hw86 : k0_chk86 v914), ∀ a, (k0_off346 v914) a + S1x1024.size a ≤ S16384x1024.size a := fun v914 k0_hw86 => k0_hw86

def k0_off347 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_462 : BitVec 32 := 2112#32
  let v921 : BitVec 32 := Scalar.muli v19 c2112_i32_462
  let arg1 : BitVec 32 := BitVec.ofNat 32 (i 1).val
  let c192_i32_463 : BitVec 32 := 192#32
  let v922 : BitVec 32 := Scalar.muli arg1 c192_i32_463
  let v923 : BitVec 32 := Scalar.addi v921 v922
  let c75_i32 : BitVec 32 := 75#32
  let v924 : BitVec 32 := Scalar.addi v923 c75_i32
  let v925 : Index := Scalar.indexCast v924
  ![v925.toNat]
def k0_off348 (i : grid0.Coords) : Fin 1 → Nat :=
  let c1_i32_461 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v920 : BitVec 32 := Scalar.subi c1_i32_461 v9
  ![v920.toNat]
def k0_off349 (i : grid0.Coords) : Fin 4 → Nat :=
  let c1_i32_461 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v920 : BitVec 32 := Scalar.subi c1_i32_461 v9
  let arg1 : BitVec 32 := BitVec.ofNat 32 (i 1).val
  let c75_i32_464 : BitVec 32 := 75#32
  let c0_i32_465 : BitVec 32 := 0#32
  ![v920.toNat, arg1.toNat, 75, 0]
def k0_off350 (v926 : BitVec 32) : Fin 2 → Nat :=
  let c0_i32_466 : BitVec 32 := 0#32
  ![v926.toNat, 0]

def k0_chk87 (v926 : BitVec 32) : Prop :=
  (∀ a, (k0_off350 v926) a + S1x1024.size a ≤ S16384x1024.size a)
theorem k0_off350_inb : ∀ (v926 : BitVec 32) (k0_hw87 : k0_chk87 v926), ∀ a, (k0_off350 v926) a + S1x1024.size a ≤ S16384x1024.size a := fun v926 k0_hw87 => k0_hw87

def k0_off351 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_468 : BitVec 32 := 2112#32
  let v933 : BitVec 32 := Scalar.muli v19 c2112_i32_468
  let arg1 : BitVec 32 := BitVec.ofNat 32 (i 1).val
  let c192_i32_469 : BitVec 32 := 192#32
  let v934 : BitVec 32 := Scalar.muli arg1 c192_i32_469
  let v935 : BitVec 32 := Scalar.addi v933 v934
  let c76_i32 : BitVec 32 := 76#32
  let v936 : BitVec 32 := Scalar.addi v935 c76_i32
  let v937 : Index := Scalar.indexCast v936
  ![v937.toNat]
def k0_off352 (i : grid0.Coords) : Fin 1 → Nat :=
  let c1_i32_467 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v932 : BitVec 32 := Scalar.subi c1_i32_467 v9
  ![v932.toNat]
def k0_off353 (i : grid0.Coords) : Fin 4 → Nat :=
  let c1_i32_467 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v932 : BitVec 32 := Scalar.subi c1_i32_467 v9
  let arg1 : BitVec 32 := BitVec.ofNat 32 (i 1).val
  let c76_i32_470 : BitVec 32 := 76#32
  let c0_i32_471 : BitVec 32 := 0#32
  ![v932.toNat, arg1.toNat, 76, 0]
def k0_off354 (v938 : BitVec 32) : Fin 2 → Nat :=
  let c0_i32_472 : BitVec 32 := 0#32
  ![v938.toNat, 0]

def k0_chk88 (v938 : BitVec 32) : Prop :=
  (∀ a, (k0_off354 v938) a + S1x1024.size a ≤ S16384x1024.size a)
theorem k0_off354_inb : ∀ (v938 : BitVec 32) (k0_hw88 : k0_chk88 v938), ∀ a, (k0_off354 v938) a + S1x1024.size a ≤ S16384x1024.size a := fun v938 k0_hw88 => k0_hw88

def k0_off355 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_474 : BitVec 32 := 2112#32
  let v945 : BitVec 32 := Scalar.muli v19 c2112_i32_474
  let arg1 : BitVec 32 := BitVec.ofNat 32 (i 1).val
  let c192_i32_475 : BitVec 32 := 192#32
  let v946 : BitVec 32 := Scalar.muli arg1 c192_i32_475
  let v947 : BitVec 32 := Scalar.addi v945 v946
  let c77_i32 : BitVec 32 := 77#32
  let v948 : BitVec 32 := Scalar.addi v947 c77_i32
  let v949 : Index := Scalar.indexCast v948
  ![v949.toNat]
def k0_off356 (i : grid0.Coords) : Fin 1 → Nat :=
  let c1_i32_473 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v944 : BitVec 32 := Scalar.subi c1_i32_473 v9
  ![v944.toNat]
def k0_off357 (i : grid0.Coords) : Fin 4 → Nat :=
  let c1_i32_473 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v944 : BitVec 32 := Scalar.subi c1_i32_473 v9
  let arg1 : BitVec 32 := BitVec.ofNat 32 (i 1).val
  let c77_i32_476 : BitVec 32 := 77#32
  let c0_i32_477 : BitVec 32 := 0#32
  ![v944.toNat, arg1.toNat, 77, 0]
def k0_off358 (v950 : BitVec 32) : Fin 2 → Nat :=
  let c0_i32_478 : BitVec 32 := 0#32
  ![v950.toNat, 0]

def k0_chk89 (v950 : BitVec 32) : Prop :=
  (∀ a, (k0_off358 v950) a + S1x1024.size a ≤ S16384x1024.size a)
theorem k0_off358_inb : ∀ (v950 : BitVec 32) (k0_hw89 : k0_chk89 v950), ∀ a, (k0_off358 v950) a + S1x1024.size a ≤ S16384x1024.size a := fun v950 k0_hw89 => k0_hw89

def k0_off359 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_480 : BitVec 32 := 2112#32
  let v957 : BitVec 32 := Scalar.muli v19 c2112_i32_480
  let arg1 : BitVec 32 := BitVec.ofNat 32 (i 1).val
  let c192_i32_481 : BitVec 32 := 192#32
  let v958 : BitVec 32 := Scalar.muli arg1 c192_i32_481
  let v959 : BitVec 32 := Scalar.addi v957 v958
  let c78_i32 : BitVec 32 := 78#32
  let v960 : BitVec 32 := Scalar.addi v959 c78_i32
  let v961 : Index := Scalar.indexCast v960
  ![v961.toNat]
def k0_off360 (i : grid0.Coords) : Fin 1 → Nat :=
  let c1_i32_479 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v956 : BitVec 32 := Scalar.subi c1_i32_479 v9
  ![v956.toNat]
def k0_off361 (i : grid0.Coords) : Fin 4 → Nat :=
  let c1_i32_479 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v956 : BitVec 32 := Scalar.subi c1_i32_479 v9
  let arg1 : BitVec 32 := BitVec.ofNat 32 (i 1).val
  let c78_i32_482 : BitVec 32 := 78#32
  let c0_i32_483 : BitVec 32 := 0#32
  ![v956.toNat, arg1.toNat, 78, 0]
def k0_off362 (v962 : BitVec 32) : Fin 2 → Nat :=
  let c0_i32_484 : BitVec 32 := 0#32
  ![v962.toNat, 0]

def k0_chk90 (v962 : BitVec 32) : Prop :=
  (∀ a, (k0_off362 v962) a + S1x1024.size a ≤ S16384x1024.size a)
theorem k0_off362_inb : ∀ (v962 : BitVec 32) (k0_hw90 : k0_chk90 v962), ∀ a, (k0_off362 v962) a + S1x1024.size a ≤ S16384x1024.size a := fun v962 k0_hw90 => k0_hw90

def k0_off363 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_486 : BitVec 32 := 2112#32
  let v969 : BitVec 32 := Scalar.muli v19 c2112_i32_486
  let arg1 : BitVec 32 := BitVec.ofNat 32 (i 1).val
  let c192_i32_487 : BitVec 32 := 192#32
  let v970 : BitVec 32 := Scalar.muli arg1 c192_i32_487
  let v971 : BitVec 32 := Scalar.addi v969 v970
  let c79_i32 : BitVec 32 := 79#32
  let v972 : BitVec 32 := Scalar.addi v971 c79_i32
  let v973 : Index := Scalar.indexCast v972
  ![v973.toNat]
def k0_off364 (i : grid0.Coords) : Fin 1 → Nat :=
  let c1_i32_485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v968 : BitVec 32 := Scalar.subi c1_i32_485 v9
  ![v968.toNat]
def k0_off365 (i : grid0.Coords) : Fin 4 → Nat :=
  let c1_i32_485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v968 : BitVec 32 := Scalar.subi c1_i32_485 v9
  let arg1 : BitVec 32 := BitVec.ofNat 32 (i 1).val
  let c79_i32_488 : BitVec 32 := 79#32
  let c0_i32_489 : BitVec 32 := 0#32
  ![v968.toNat, arg1.toNat, 79, 0]
def k0_off366 (v974 : BitVec 32) : Fin 2 → Nat :=
  let c0_i32_490 : BitVec 32 := 0#32
  ![v974.toNat, 0]

def k0_chk91 (v974 : BitVec 32) : Prop :=
  (∀ a, (k0_off366 v974) a + S1x1024.size a ≤ S16384x1024.size a)
theorem k0_off366_inb : ∀ (v974 : BitVec 32) (k0_hw91 : k0_chk91 v974), ∀ a, (k0_off366 v974) a + S1x1024.size a ≤ S16384x1024.size a := fun v974 k0_hw91 => k0_hw91

def k0_off367 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_492 : BitVec 32 := 2112#32
  let v981 : BitVec 32 := Scalar.muli v19 c2112_i32_492
  let arg1 : BitVec 32 := BitVec.ofNat 32 (i 1).val
  let c192_i32_493 : BitVec 32 := 192#32
  let v982 : BitVec 32 := Scalar.muli arg1 c192_i32_493
  let v983 : BitVec 32 := Scalar.addi v981 v982
  let c80_i32 : BitVec 32 := 80#32
  let v984 : BitVec 32 := Scalar.addi v983 c80_i32
  let v985 : Index := Scalar.indexCast v984
  ![v985.toNat]
def k0_off368 (i : grid0.Coords) : Fin 1 → Nat :=
  let c1_i32_491 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v980 : BitVec 32 := Scalar.subi c1_i32_491 v9
  ![v980.toNat]
def k0_off369 (i : grid0.Coords) : Fin 4 → Nat :=
  let c1_i32_491 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v980 : BitVec 32 := Scalar.subi c1_i32_491 v9
  let arg1 : BitVec 32 := BitVec.ofNat 32 (i 1).val
  let c80_i32_494 : BitVec 32 := 80#32
  let c0_i32_495 : BitVec 32 := 0#32
  ![v980.toNat, arg1.toNat, 80, 0]
def k0_off370 (v986 : BitVec 32) : Fin 2 → Nat :=
  let c0_i32_496 : BitVec 32 := 0#32
  ![v986.toNat, 0]

def k0_chk92 (v986 : BitVec 32) : Prop :=
  (∀ a, (k0_off370 v986) a + S1x1024.size a ≤ S16384x1024.size a)
theorem k0_off370_inb : ∀ (v986 : BitVec 32) (k0_hw92 : k0_chk92 v986), ∀ a, (k0_off370 v986) a + S1x1024.size a ≤ S16384x1024.size a := fun v986 k0_hw92 => k0_hw92

def k0_off371 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_498 : BitVec 32 := 2112#32
  let v993 : BitVec 32 := Scalar.muli v19 c2112_i32_498
  let arg1 : BitVec 32 := BitVec.ofNat 32 (i 1).val
  let c192_i32_499 : BitVec 32 := 192#32
  let v994 : BitVec 32 := Scalar.muli arg1 c192_i32_499
  let v995 : BitVec 32 := Scalar.addi v993 v994
  let c81_i32 : BitVec 32 := 81#32
  let v996 : BitVec 32 := Scalar.addi v995 c81_i32
  let v997 : Index := Scalar.indexCast v996
  ![v997.toNat]
def k0_off372 (i : grid0.Coords) : Fin 1 → Nat :=
  let c1_i32_497 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v992 : BitVec 32 := Scalar.subi c1_i32_497 v9
  ![v992.toNat]
def k0_off373 (i : grid0.Coords) : Fin 4 → Nat :=
  let c1_i32_497 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v992 : BitVec 32 := Scalar.subi c1_i32_497 v9
  let arg1 : BitVec 32 := BitVec.ofNat 32 (i 1).val
  let c81_i32_500 : BitVec 32 := 81#32
  let c0_i32_501 : BitVec 32 := 0#32
  ![v992.toNat, arg1.toNat, 81, 0]
def k0_off374 (v998 : BitVec 32) : Fin 2 → Nat :=
  let c0_i32_502 : BitVec 32 := 0#32
  ![v998.toNat, 0]

def k0_chk93 (v998 : BitVec 32) : Prop :=
  (∀ a, (k0_off374 v998) a + S1x1024.size a ≤ S16384x1024.size a)
theorem k0_off374_inb : ∀ (v998 : BitVec 32) (k0_hw93 : k0_chk93 v998), ∀ a, (k0_off374 v998) a + S1x1024.size a ≤ S16384x1024.size a := fun v998 k0_hw93 => k0_hw93

def k0_off375 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_504 : BitVec 32 := 2112#32
  let v1005 : BitVec 32 := Scalar.muli v19 c2112_i32_504
  let arg1 : BitVec 32 := BitVec.ofNat 32 (i 1).val
  let c192_i32_505 : BitVec 32 := 192#32
  let v1006 : BitVec 32 := Scalar.muli arg1 c192_i32_505
  let v1007 : BitVec 32 := Scalar.addi v1005 v1006
  let c82_i32 : BitVec 32 := 82#32
  let v1008 : BitVec 32 := Scalar.addi v1007 c82_i32
  let v1009 : Index := Scalar.indexCast v1008
  ![v1009.toNat]
def k0_off376 (i : grid0.Coords) : Fin 1 → Nat :=
  let c1_i32_503 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1004 : BitVec 32 := Scalar.subi c1_i32_503 v9
  ![v1004.toNat]
def k0_off377 (i : grid0.Coords) : Fin 4 → Nat :=
  let c1_i32_503 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1004 : BitVec 32 := Scalar.subi c1_i32_503 v9
  let arg1 : BitVec 32 := BitVec.ofNat 32 (i 1).val
  let c82_i32_506 : BitVec 32 := 82#32
  let c0_i32_507 : BitVec 32 := 0#32
  ![v1004.toNat, arg1.toNat, 82, 0]
def k0_off378 (v1010 : BitVec 32) : Fin 2 → Nat :=
  let c0_i32_508 : BitVec 32 := 0#32
  ![v1010.toNat, 0]

def k0_chk94 (v1010 : BitVec 32) : Prop :=
  (∀ a, (k0_off378 v1010) a + S1x1024.size a ≤ S16384x1024.size a)
theorem k0_off378_inb : ∀ (v1010 : BitVec 32) (k0_hw94 : k0_chk94 v1010), ∀ a, (k0_off378 v1010) a + S1x1024.size a ≤ S16384x1024.size a := fun v1010 k0_hw94 => k0_hw94

def k0_off379 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_510 : BitVec 32 := 2112#32
  let v1017 : BitVec 32 := Scalar.muli v19 c2112_i32_510
  let arg1 : BitVec 32 := BitVec.ofNat 32 (i 1).val
  let c192_i32_511 : BitVec 32 := 192#32
  let v1018 : BitVec 32 := Scalar.muli arg1 c192_i32_511
  let v1019 : BitVec 32 := Scalar.addi v1017 v1018
  let c83_i32 : BitVec 32 := 83#32
  let v1020 : BitVec 32 := Scalar.addi v1019 c83_i32
  let v1021 : Index := Scalar.indexCast v1020
  ![v1021.toNat]
def k0_off380 (i : grid0.Coords) : Fin 1 → Nat :=
  let c1_i32_509 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1016 : BitVec 32 := Scalar.subi c1_i32_509 v9
  ![v1016.toNat]
def k0_off381 (i : grid0.Coords) : Fin 4 → Nat :=
  let c1_i32_509 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1016 : BitVec 32 := Scalar.subi c1_i32_509 v9
  let arg1 : BitVec 32 := BitVec.ofNat 32 (i 1).val
  let c83_i32_512 : BitVec 32 := 83#32
  let c0_i32_513 : BitVec 32 := 0#32
  ![v1016.toNat, arg1.toNat, 83, 0]
def k0_off382 (v1022 : BitVec 32) : Fin 2 → Nat :=
  let c0_i32_514 : BitVec 32 := 0#32
  ![v1022.toNat, 0]

def k0_chk95 (v1022 : BitVec 32) : Prop :=
  (∀ a, (k0_off382 v1022) a + S1x1024.size a ≤ S16384x1024.size a)
theorem k0_off382_inb : ∀ (v1022 : BitVec 32) (k0_hw95 : k0_chk95 v1022), ∀ a, (k0_off382 v1022) a + S1x1024.size a ≤ S16384x1024.size a := fun v1022 k0_hw95 => k0_hw95

def k0_off383 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_516 : BitVec 32 := 2112#32
  let v1029 : BitVec 32 := Scalar.muli v19 c2112_i32_516
  let arg1 : BitVec 32 := BitVec.ofNat 32 (i 1).val
  let c192_i32_517 : BitVec 32 := 192#32
  let v1030 : BitVec 32 := Scalar.muli arg1 c192_i32_517
  let v1031 : BitVec 32 := Scalar.addi v1029 v1030
  let c84_i32 : BitVec 32 := 84#32
  let v1032 : BitVec 32 := Scalar.addi v1031 c84_i32
  let v1033 : Index := Scalar.indexCast v1032
  ![v1033.toNat]
def k0_off384 (i : grid0.Coords) : Fin 1 → Nat :=
  let c1_i32_515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1028 : BitVec 32 := Scalar.subi c1_i32_515 v9
  ![v1028.toNat]
def k0_off385 (i : grid0.Coords) : Fin 4 → Nat :=
  let c1_i32_515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1028 : BitVec 32 := Scalar.subi c1_i32_515 v9
  let arg1 : BitVec 32 := BitVec.ofNat 32 (i 1).val
  let c84_i32_518 : BitVec 32 := 84#32
  let c0_i32_519 : BitVec 32 := 0#32
  ![v1028.toNat, arg1.toNat, 84, 0]
def k0_off386 (v1034 : BitVec 32) : Fin 2 → Nat :=
  let c0_i32_520 : BitVec 32 := 0#32
  ![v1034.toNat, 0]

def k0_chk96 (v1034 : BitVec 32) : Prop :=
  (∀ a, (k0_off386 v1034) a + S1x1024.size a ≤ S16384x1024.size a)
theorem k0_off386_inb : ∀ (v1034 : BitVec 32) (k0_hw96 : k0_chk96 v1034), ∀ a, (k0_off386 v1034) a + S1x1024.size a ≤ S16384x1024.size a := fun v1034 k0_hw96 => k0_hw96

def k0_off387 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_522 : BitVec 32 := 2112#32
  let v1041 : BitVec 32 := Scalar.muli v19 c2112_i32_522
  let arg1 : BitVec 32 := BitVec.ofNat 32 (i 1).val
  let c192_i32_523 : BitVec 32 := 192#32
  let v1042 : BitVec 32 := Scalar.muli arg1 c192_i32_523
  let v1043 : BitVec 32 := Scalar.addi v1041 v1042
  let c85_i32 : BitVec 32 := 85#32
  let v1044 : BitVec 32 := Scalar.addi v1043 c85_i32
  let v1045 : Index := Scalar.indexCast v1044
  ![v1045.toNat]
def k0_off388 (i : grid0.Coords) : Fin 1 → Nat :=
  let c1_i32_521 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1040 : BitVec 32 := Scalar.subi c1_i32_521 v9
  ![v1040.toNat]
def k0_off389 (i : grid0.Coords) : Fin 4 → Nat :=
  let c1_i32_521 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1040 : BitVec 32 := Scalar.subi c1_i32_521 v9
  let arg1 : BitVec 32 := BitVec.ofNat 32 (i 1).val
  let c85_i32_524 : BitVec 32 := 85#32
  let c0_i32_525 : BitVec 32 := 0#32
  ![v1040.toNat, arg1.toNat, 85, 0]
def k0_off390 (v1046 : BitVec 32) : Fin 2 → Nat :=
  let c0_i32_526 : BitVec 32 := 0#32
  ![v1046.toNat, 0]

def k0_chk97 (v1046 : BitVec 32) : Prop :=
  (∀ a, (k0_off390 v1046) a + S1x1024.size a ≤ S16384x1024.size a)
theorem k0_off390_inb : ∀ (v1046 : BitVec 32) (k0_hw97 : k0_chk97 v1046), ∀ a, (k0_off390 v1046) a + S1x1024.size a ≤ S16384x1024.size a := fun v1046 k0_hw97 => k0_hw97

def k0_off391 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_528 : BitVec 32 := 2112#32
  let v1053 : BitVec 32 := Scalar.muli v19 c2112_i32_528
  let arg1 : BitVec 32 := BitVec.ofNat 32 (i 1).val
  let c192_i32_529 : BitVec 32 := 192#32
  let v1054 : BitVec 32 := Scalar.muli arg1 c192_i32_529
  let v1055 : BitVec 32 := Scalar.addi v1053 v1054
  let c86_i32 : BitVec 32 := 86#32
  let v1056 : BitVec 32 := Scalar.addi v1055 c86_i32
  let v1057 : Index := Scalar.indexCast v1056
  ![v1057.toNat]
def k0_off392 (i : grid0.Coords) : Fin 1 → Nat :=
  let c1_i32_527 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1052 : BitVec 32 := Scalar.subi c1_i32_527 v9
  ![v1052.toNat]
def k0_off393 (i : grid0.Coords) : Fin 4 → Nat :=
  let c1_i32_527 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1052 : BitVec 32 := Scalar.subi c1_i32_527 v9
  let arg1 : BitVec 32 := BitVec.ofNat 32 (i 1).val
  let c86_i32_530 : BitVec 32 := 86#32
  let c0_i32_531 : BitVec 32 := 0#32
  ![v1052.toNat, arg1.toNat, 86, 0]
def k0_off394 (v1058 : BitVec 32) : Fin 2 → Nat :=
  let c0_i32_532 : BitVec 32 := 0#32
  ![v1058.toNat, 0]

def k0_chk98 (v1058 : BitVec 32) : Prop :=
  (∀ a, (k0_off394 v1058) a + S1x1024.size a ≤ S16384x1024.size a)
theorem k0_off394_inb : ∀ (v1058 : BitVec 32) (k0_hw98 : k0_chk98 v1058), ∀ a, (k0_off394 v1058) a + S1x1024.size a ≤ S16384x1024.size a := fun v1058 k0_hw98 => k0_hw98

def k0_off395 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_534 : BitVec 32 := 2112#32
  let v1065 : BitVec 32 := Scalar.muli v19 c2112_i32_534
  let arg1 : BitVec 32 := BitVec.ofNat 32 (i 1).val
  let c192_i32_535 : BitVec 32 := 192#32
  let v1066 : BitVec 32 := Scalar.muli arg1 c192_i32_535
  let v1067 : BitVec 32 := Scalar.addi v1065 v1066
  let c87_i32 : BitVec 32 := 87#32
  let v1068 : BitVec 32 := Scalar.addi v1067 c87_i32
  let v1069 : Index := Scalar.indexCast v1068
  ![v1069.toNat]
def k0_off396 (i : grid0.Coords) : Fin 1 → Nat :=
  let c1_i32_533 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1064 : BitVec 32 := Scalar.subi c1_i32_533 v9
  ![v1064.toNat]
def k0_off397 (i : grid0.Coords) : Fin 4 → Nat :=
  let c1_i32_533 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1064 : BitVec 32 := Scalar.subi c1_i32_533 v9
  let arg1 : BitVec 32 := BitVec.ofNat 32 (i 1).val
  let c87_i32_536 : BitVec 32 := 87#32
  let c0_i32_537 : BitVec 32 := 0#32
  ![v1064.toNat, arg1.toNat, 87, 0]
def k0_off398 (v1070 : BitVec 32) : Fin 2 → Nat :=
  let c0_i32_538 : BitVec 32 := 0#32
  ![v1070.toNat, 0]

def k0_chk99 (v1070 : BitVec 32) : Prop :=
  (∀ a, (k0_off398 v1070) a + S1x1024.size a ≤ S16384x1024.size a)
theorem k0_off398_inb : ∀ (v1070 : BitVec 32) (k0_hw99 : k0_chk99 v1070), ∀ a, (k0_off398 v1070) a + S1x1024.size a ≤ S16384x1024.size a := fun v1070 k0_hw99 => k0_hw99

def k0_off399 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_540 : BitVec 32 := 2112#32
  let v1077 : BitVec 32 := Scalar.muli v19 c2112_i32_540
  let arg1 : BitVec 32 := BitVec.ofNat 32 (i 1).val
  let c192_i32_541 : BitVec 32 := 192#32
  let v1078 : BitVec 32 := Scalar.muli arg1 c192_i32_541
  let v1079 : BitVec 32 := Scalar.addi v1077 v1078
  let c88_i32 : BitVec 32 := 88#32
  let v1080 : BitVec 32 := Scalar.addi v1079 c88_i32
  let v1081 : Index := Scalar.indexCast v1080
  ![v1081.toNat]
def k0_off400 (i : grid0.Coords) : Fin 1 → Nat :=
  let c1_i32_539 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1076 : BitVec 32 := Scalar.subi c1_i32_539 v9
  ![v1076.toNat]
def k0_off401 (i : grid0.Coords) : Fin 4 → Nat :=
  let c1_i32_539 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1076 : BitVec 32 := Scalar.subi c1_i32_539 v9
  let arg1 : BitVec 32 := BitVec.ofNat 32 (i 1).val
  let c88_i32_542 : BitVec 32 := 88#32
  let c0_i32_543 : BitVec 32 := 0#32
  ![v1076.toNat, arg1.toNat, 88, 0]
def k0_off402 (v1082 : BitVec 32) : Fin 2 → Nat :=
  let c0_i32_544 : BitVec 32 := 0#32
  ![v1082.toNat, 0]

def k0_chk100 (v1082 : BitVec 32) : Prop :=
  (∀ a, (k0_off402 v1082) a + S1x1024.size a ≤ S16384x1024.size a)
theorem k0_off402_inb : ∀ (v1082 : BitVec 32) (k0_hw100 : k0_chk100 v1082), ∀ a, (k0_off402 v1082) a + S1x1024.size a ≤ S16384x1024.size a := fun v1082 k0_hw100 => k0_hw100

def k0_off403 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_546 : BitVec 32 := 2112#32
  let v1089 : BitVec 32 := Scalar.muli v19 c2112_i32_546
  let arg1 : BitVec 32 := BitVec.ofNat 32 (i 1).val
  let c192_i32_547 : BitVec 32 := 192#32
  let v1090 : BitVec 32 := Scalar.muli arg1 c192_i32_547
  let v1091 : BitVec 32 := Scalar.addi v1089 v1090
  let c89_i32 : BitVec 32 := 89#32
  let v1092 : BitVec 32 := Scalar.addi v1091 c89_i32
  let v1093 : Index := Scalar.indexCast v1092
  ![v1093.toNat]
def k0_off404 (i : grid0.Coords) : Fin 1 → Nat :=
  let c1_i32_545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1088 : BitVec 32 := Scalar.subi c1_i32_545 v9
  ![v1088.toNat]
def k0_off405 (i : grid0.Coords) : Fin 4 → Nat :=
  let c1_i32_545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1088 : BitVec 32 := Scalar.subi c1_i32_545 v9
  let arg1 : BitVec 32 := BitVec.ofNat 32 (i 1).val
  let c89_i32_548 : BitVec 32 := 89#32
  let c0_i32_549 : BitVec 32 := 0#32
  ![v1088.toNat, arg1.toNat, 89, 0]
def k0_off406 (v1094 : BitVec 32) : Fin 2 → Nat :=
  let c0_i32_550 : BitVec 32 := 0#32
  ![v1094.toNat, 0]

def k0_chk101 (v1094 : BitVec 32) : Prop :=
  (∀ a, (k0_off406 v1094) a + S1x1024.size a ≤ S16384x1024.size a)
theorem k0_off406_inb : ∀ (v1094 : BitVec 32) (k0_hw101 : k0_chk101 v1094), ∀ a, (k0_off406 v1094) a + S1x1024.size a ≤ S16384x1024.size a := fun v1094 k0_hw101 => k0_hw101

def k0_off407 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_552 : BitVec 32 := 2112#32
  let v1101 : BitVec 32 := Scalar.muli v19 c2112_i32_552
  let arg1 : BitVec 32 := BitVec.ofNat 32 (i 1).val
  let c192_i32_553 : BitVec 32 := 192#32
  let v1102 : BitVec 32 := Scalar.muli arg1 c192_i32_553
  let v1103 : BitVec 32 := Scalar.addi v1101 v1102
  let c90_i32 : BitVec 32 := 90#32
  let v1104 : BitVec 32 := Scalar.addi v1103 c90_i32
  let v1105 : Index := Scalar.indexCast v1104
  ![v1105.toNat]
def k0_off408 (i : grid0.Coords) : Fin 1 → Nat :=
  let c1_i32_551 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1100 : BitVec 32 := Scalar.subi c1_i32_551 v9
  ![v1100.toNat]
def k0_off409 (i : grid0.Coords) : Fin 4 → Nat :=
  let c1_i32_551 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1100 : BitVec 32 := Scalar.subi c1_i32_551 v9
  let arg1 : BitVec 32 := BitVec.ofNat 32 (i 1).val
  let c90_i32_554 : BitVec 32 := 90#32
  let c0_i32_555 : BitVec 32 := 0#32
  ![v1100.toNat, arg1.toNat, 90, 0]
def k0_off410 (v1106 : BitVec 32) : Fin 2 → Nat :=
  let c0_i32_556 : BitVec 32 := 0#32
  ![v1106.toNat, 0]

def k0_chk102 (v1106 : BitVec 32) : Prop :=
  (∀ a, (k0_off410 v1106) a + S1x1024.size a ≤ S16384x1024.size a)
theorem k0_off410_inb : ∀ (v1106 : BitVec 32) (k0_hw102 : k0_chk102 v1106), ∀ a, (k0_off410 v1106) a + S1x1024.size a ≤ S16384x1024.size a := fun v1106 k0_hw102 => k0_hw102

def k0_off411 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_558 : BitVec 32 := 2112#32
  let v1113 : BitVec 32 := Scalar.muli v19 c2112_i32_558
  let arg1 : BitVec 32 := BitVec.ofNat 32 (i 1).val
  let c192_i32_559 : BitVec 32 := 192#32
  let v1114 : BitVec 32 := Scalar.muli arg1 c192_i32_559
  let v1115 : BitVec 32 := Scalar.addi v1113 v1114
  let c91_i32 : BitVec 32 := 91#32
  let v1116 : BitVec 32 := Scalar.addi v1115 c91_i32
  let v1117 : Index := Scalar.indexCast v1116
  ![v1117.toNat]
def k0_off412 (i : grid0.Coords) : Fin 1 → Nat :=
  let c1_i32_557 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1112 : BitVec 32 := Scalar.subi c1_i32_557 v9
  ![v1112.toNat]
def k0_off413 (i : grid0.Coords) : Fin 4 → Nat :=
  let c1_i32_557 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1112 : BitVec 32 := Scalar.subi c1_i32_557 v9
  let arg1 : BitVec 32 := BitVec.ofNat 32 (i 1).val
  let c91_i32_560 : BitVec 32 := 91#32
  let c0_i32_561 : BitVec 32 := 0#32
  ![v1112.toNat, arg1.toNat, 91, 0]
def k0_off414 (v1118 : BitVec 32) : Fin 2 → Nat :=
  let c0_i32_562 : BitVec 32 := 0#32
  ![v1118.toNat, 0]

def k0_chk103 (v1118 : BitVec 32) : Prop :=
  (∀ a, (k0_off414 v1118) a + S1x1024.size a ≤ S16384x1024.size a)
theorem k0_off414_inb : ∀ (v1118 : BitVec 32) (k0_hw103 : k0_chk103 v1118), ∀ a, (k0_off414 v1118) a + S1x1024.size a ≤ S16384x1024.size a := fun v1118 k0_hw103 => k0_hw103

def k0_off415 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_564 : BitVec 32 := 2112#32
  let v1125 : BitVec 32 := Scalar.muli v19 c2112_i32_564
  let arg1 : BitVec 32 := BitVec.ofNat 32 (i 1).val
  let c192_i32_565 : BitVec 32 := 192#32
  let v1126 : BitVec 32 := Scalar.muli arg1 c192_i32_565
  let v1127 : BitVec 32 := Scalar.addi v1125 v1126
  let c92_i32 : BitVec 32 := 92#32
  let v1128 : BitVec 32 := Scalar.addi v1127 c92_i32
  let v1129 : Index := Scalar.indexCast v1128
  ![v1129.toNat]
def k0_off416 (i : grid0.Coords) : Fin 1 → Nat :=
  let c1_i32_563 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1124 : BitVec 32 := Scalar.subi c1_i32_563 v9
  ![v1124.toNat]
def k0_off417 (i : grid0.Coords) : Fin 4 → Nat :=
  let c1_i32_563 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1124 : BitVec 32 := Scalar.subi c1_i32_563 v9
  let arg1 : BitVec 32 := BitVec.ofNat 32 (i 1).val
  let c92_i32_566 : BitVec 32 := 92#32
  let c0_i32_567 : BitVec 32 := 0#32
  ![v1124.toNat, arg1.toNat, 92, 0]
def k0_off418 (v1130 : BitVec 32) : Fin 2 → Nat :=
  let c0_i32_568 : BitVec 32 := 0#32
  ![v1130.toNat, 0]

def k0_chk104 (v1130 : BitVec 32) : Prop :=
  (∀ a, (k0_off418 v1130) a + S1x1024.size a ≤ S16384x1024.size a)
theorem k0_off418_inb : ∀ (v1130 : BitVec 32) (k0_hw104 : k0_chk104 v1130), ∀ a, (k0_off418 v1130) a + S1x1024.size a ≤ S16384x1024.size a := fun v1130 k0_hw104 => k0_hw104

def k0_off419 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_570 : BitVec 32 := 2112#32
  let v1137 : BitVec 32 := Scalar.muli v19 c2112_i32_570
  let arg1 : BitVec 32 := BitVec.ofNat 32 (i 1).val
  let c192_i32_571 : BitVec 32 := 192#32
  let v1138 : BitVec 32 := Scalar.muli arg1 c192_i32_571
  let v1139 : BitVec 32 := Scalar.addi v1137 v1138
  let c93_i32 : BitVec 32 := 93#32
  let v1140 : BitVec 32 := Scalar.addi v1139 c93_i32
  let v1141 : Index := Scalar.indexCast v1140
  ![v1141.toNat]
def k0_off420 (i : grid0.Coords) : Fin 1 → Nat :=
  let c1_i32_569 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1136 : BitVec 32 := Scalar.subi c1_i32_569 v9
  ![v1136.toNat]
def k0_off421 (i : grid0.Coords) : Fin 4 → Nat :=
  let c1_i32_569 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1136 : BitVec 32 := Scalar.subi c1_i32_569 v9
  let arg1 : BitVec 32 := BitVec.ofNat 32 (i 1).val
  let c93_i32_572 : BitVec 32 := 93#32
  let c0_i32_573 : BitVec 32 := 0#32
  ![v1136.toNat, arg1.toNat, 93, 0]
def k0_off422 (v1142 : BitVec 32) : Fin 2 → Nat :=
  let c0_i32_574 : BitVec 32 := 0#32
  ![v1142.toNat, 0]

def k0_chk105 (v1142 : BitVec 32) : Prop :=
  (∀ a, (k0_off422 v1142) a + S1x1024.size a ≤ S16384x1024.size a)
theorem k0_off422_inb : ∀ (v1142 : BitVec 32) (k0_hw105 : k0_chk105 v1142), ∀ a, (k0_off422 v1142) a + S1x1024.size a ≤ S16384x1024.size a := fun v1142 k0_hw105 => k0_hw105

def k0_off423 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_576 : BitVec 32 := 2112#32
  let v1149 : BitVec 32 := Scalar.muli v19 c2112_i32_576
  let arg1 : BitVec 32 := BitVec.ofNat 32 (i 1).val
  let c192_i32_577 : BitVec 32 := 192#32
  let v1150 : BitVec 32 := Scalar.muli arg1 c192_i32_577
  let v1151 : BitVec 32 := Scalar.addi v1149 v1150
  let c94_i32 : BitVec 32 := 94#32
  let v1152 : BitVec 32 := Scalar.addi v1151 c94_i32
  let v1153 : Index := Scalar.indexCast v1152
  ![v1153.toNat]
def k0_off424 (i : grid0.Coords) : Fin 1 → Nat :=
  let c1_i32_575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1148 : BitVec 32 := Scalar.subi c1_i32_575 v9
  ![v1148.toNat]
def k0_off425 (i : grid0.Coords) : Fin 4 → Nat :=
  let c1_i32_575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1148 : BitVec 32 := Scalar.subi c1_i32_575 v9
  let arg1 : BitVec 32 := BitVec.ofNat 32 (i 1).val
  let c94_i32_578 : BitVec 32 := 94#32
  let c0_i32_579 : BitVec 32 := 0#32
  ![v1148.toNat, arg1.toNat, 94, 0]
def k0_off426 (v1154 : BitVec 32) : Fin 2 → Nat :=
  let c0_i32_580 : BitVec 32 := 0#32
  ![v1154.toNat, 0]

def k0_chk106 (v1154 : BitVec 32) : Prop :=
  (∀ a, (k0_off426 v1154) a + S1x1024.size a ≤ S16384x1024.size a)
theorem k0_off426_inb : ∀ (v1154 : BitVec 32) (k0_hw106 : k0_chk106 v1154), ∀ a, (k0_off426 v1154) a + S1x1024.size a ≤ S16384x1024.size a := fun v1154 k0_hw106 => k0_hw106

def k0_off427 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_582 : BitVec 32 := 2112#32
  let v1161 : BitVec 32 := Scalar.muli v19 c2112_i32_582
  let arg1 : BitVec 32 := BitVec.ofNat 32 (i 1).val
  let c192_i32_583 : BitVec 32 := 192#32
  let v1162 : BitVec 32 := Scalar.muli arg1 c192_i32_583
  let v1163 : BitVec 32 := Scalar.addi v1161 v1162
  let c95_i32 : BitVec 32 := 95#32
  let v1164 : BitVec 32 := Scalar.addi v1163 c95_i32
  let v1165 : Index := Scalar.indexCast v1164
  ![v1165.toNat]
def k0_off428 (i : grid0.Coords) : Fin 1 → Nat :=
  let c1_i32_581 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1160 : BitVec 32 := Scalar.subi c1_i32_581 v9
  ![v1160.toNat]
def k0_off429 (i : grid0.Coords) : Fin 4 → Nat :=
  let c1_i32_581 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1160 : BitVec 32 := Scalar.subi c1_i32_581 v9
  let arg1 : BitVec 32 := BitVec.ofNat 32 (i 1).val
  let c95_i32_584 : BitVec 32 := 95#32
  let c0_i32_585 : BitVec 32 := 0#32
  ![v1160.toNat, arg1.toNat, 95, 0]
def k0_off430 (v1166 : BitVec 32) : Fin 2 → Nat :=
  let c0_i32_586 : BitVec 32 := 0#32
  ![v1166.toNat, 0]

def k0_chk107 (v1166 : BitVec 32) : Prop :=
  (∀ a, (k0_off430 v1166) a + S1x1024.size a ≤ S16384x1024.size a)
theorem k0_off430_inb : ∀ (v1166 : BitVec 32) (k0_hw107 : k0_chk107 v1166), ∀ a, (k0_off430 v1166) a + S1x1024.size a ≤ S16384x1024.size a := fun v1166 k0_hw107 => k0_hw107

def k0_off431 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_588 : BitVec 32 := 2112#32
  let v1173 : BitVec 32 := Scalar.muli v19 c2112_i32_588
  let arg1 : BitVec 32 := BitVec.ofNat 32 (i 1).val
  let c192_i32_589 : BitVec 32 := 192#32
  let v1174 : BitVec 32 := Scalar.muli arg1 c192_i32_589
  let v1175 : BitVec 32 := Scalar.addi v1173 v1174
  let c96_i32 : BitVec 32 := 96#32
  let v1176 : BitVec 32 := Scalar.addi v1175 c96_i32
  let v1177 : Index := Scalar.indexCast v1176
  ![v1177.toNat]
def k0_off432 (i : grid0.Coords) : Fin 1 → Nat :=
  let c1_i32_587 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1172 : BitVec 32 := Scalar.subi c1_i32_587 v9
  ![v1172.toNat]
def k0_off433 (i : grid0.Coords) : Fin 4 → Nat :=
  let c1_i32_587 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1172 : BitVec 32 := Scalar.subi c1_i32_587 v9
  let arg1 : BitVec 32 := BitVec.ofNat 32 (i 1).val
  let c96_i32_590 : BitVec 32 := 96#32
  let c0_i32_591 : BitVec 32 := 0#32
  ![v1172.toNat, arg1.toNat, 96, 0]
def k0_off434 (v1178 : BitVec 32) : Fin 2 → Nat :=
  let c0_i32_592 : BitVec 32 := 0#32
  ![v1178.toNat, 0]

def k0_chk108 (v1178 : BitVec 32) : Prop :=
  (∀ a, (k0_off434 v1178) a + S1x1024.size a ≤ S16384x1024.size a)
theorem k0_off434_inb : ∀ (v1178 : BitVec 32) (k0_hw108 : k0_chk108 v1178), ∀ a, (k0_off434 v1178) a + S1x1024.size a ≤ S16384x1024.size a := fun v1178 k0_hw108 => k0_hw108

def k0_off435 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_594 : BitVec 32 := 2112#32
  let v1185 : BitVec 32 := Scalar.muli v19 c2112_i32_594
  let arg1 : BitVec 32 := BitVec.ofNat 32 (i 1).val
  let c192_i32_595 : BitVec 32 := 192#32
  let v1186 : BitVec 32 := Scalar.muli arg1 c192_i32_595
  let v1187 : BitVec 32 := Scalar.addi v1185 v1186
  let c97_i32 : BitVec 32 := 97#32
  let v1188 : BitVec 32 := Scalar.addi v1187 c97_i32
  let v1189 : Index := Scalar.indexCast v1188
  ![v1189.toNat]
def k0_off436 (i : grid0.Coords) : Fin 1 → Nat :=
  let c1_i32_593 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1184 : BitVec 32 := Scalar.subi c1_i32_593 v9
  ![v1184.toNat]
def k0_off437 (i : grid0.Coords) : Fin 4 → Nat :=
  let c1_i32_593 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1184 : BitVec 32 := Scalar.subi c1_i32_593 v9
  let arg1 : BitVec 32 := BitVec.ofNat 32 (i 1).val
  let c97_i32_596 : BitVec 32 := 97#32
  let c0_i32_597 : BitVec 32 := 0#32
  ![v1184.toNat, arg1.toNat, 97, 0]
def k0_off438 (v1190 : BitVec 32) : Fin 2 → Nat :=
  let c0_i32_598 : BitVec 32 := 0#32
  ![v1190.toNat, 0]

def k0_chk109 (v1190 : BitVec 32) : Prop :=
  (∀ a, (k0_off438 v1190) a + S1x1024.size a ≤ S16384x1024.size a)
theorem k0_off438_inb : ∀ (v1190 : BitVec 32) (k0_hw109 : k0_chk109 v1190), ∀ a, (k0_off438 v1190) a + S1x1024.size a ≤ S16384x1024.size a := fun v1190 k0_hw109 => k0_hw109

def k0_off439 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_600 : BitVec 32 := 2112#32
  let v1197 : BitVec 32 := Scalar.muli v19 c2112_i32_600
  let arg1 : BitVec 32 := BitVec.ofNat 32 (i 1).val
  let c192_i32_601 : BitVec 32 := 192#32
  let v1198 : BitVec 32 := Scalar.muli arg1 c192_i32_601
  let v1199 : BitVec 32 := Scalar.addi v1197 v1198
  let c98_i32 : BitVec 32 := 98#32
  let v1200 : BitVec 32 := Scalar.addi v1199 c98_i32
  let v1201 : Index := Scalar.indexCast v1200
  ![v1201.toNat]
def k0_off440 (i : grid0.Coords) : Fin 1 → Nat :=
  let c1_i32_599 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1196 : BitVec 32 := Scalar.subi c1_i32_599 v9
  ![v1196.toNat]
def k0_off441 (i : grid0.Coords) : Fin 4 → Nat :=
  let c1_i32_599 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1196 : BitVec 32 := Scalar.subi c1_i32_599 v9
  let arg1 : BitVec 32 := BitVec.ofNat 32 (i 1).val
  let c98_i32_602 : BitVec 32 := 98#32
  let c0_i32_603 : BitVec 32 := 0#32
  ![v1196.toNat, arg1.toNat, 98, 0]
def k0_off442 (v1202 : BitVec 32) : Fin 2 → Nat :=
  let c0_i32_604 : BitVec 32 := 0#32
  ![v1202.toNat, 0]

def k0_chk110 (v1202 : BitVec 32) : Prop :=
  (∀ a, (k0_off442 v1202) a + S1x1024.size a ≤ S16384x1024.size a)
theorem k0_off442_inb : ∀ (v1202 : BitVec 32) (k0_hw110 : k0_chk110 v1202), ∀ a, (k0_off442 v1202) a + S1x1024.size a ≤ S16384x1024.size a := fun v1202 k0_hw110 => k0_hw110

def k0_off443 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_606 : BitVec 32 := 2112#32
  let v1209 : BitVec 32 := Scalar.muli v19 c2112_i32_606
  let arg1 : BitVec 32 := BitVec.ofNat 32 (i 1).val
  let c192_i32_607 : BitVec 32 := 192#32
  let v1210 : BitVec 32 := Scalar.muli arg1 c192_i32_607
  let v1211 : BitVec 32 := Scalar.addi v1209 v1210
  let c99_i32 : BitVec 32 := 99#32
  let v1212 : BitVec 32 := Scalar.addi v1211 c99_i32
  let v1213 : Index := Scalar.indexCast v1212
  ![v1213.toNat]
def k0_off444 (i : grid0.Coords) : Fin 1 → Nat :=
  let c1_i32_605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1208 : BitVec 32 := Scalar.subi c1_i32_605 v9
  ![v1208.toNat]
def k0_off445 (i : grid0.Coords) : Fin 4 → Nat :=
  let c1_i32_605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1208 : BitVec 32 := Scalar.subi c1_i32_605 v9
  let arg1 : BitVec 32 := BitVec.ofNat 32 (i 1).val
  let c99_i32_608 : BitVec 32 := 99#32
  let c0_i32_609 : BitVec 32 := 0#32
  ![v1208.toNat, arg1.toNat, 99, 0]
def k0_off446 (v1214 : BitVec 32) : Fin 2 → Nat :=
  let c0_i32_610 : BitVec 32 := 0#32
  ![v1214.toNat, 0]

def k0_chk111 (v1214 : BitVec 32) : Prop :=
  (∀ a, (k0_off446 v1214) a + S1x1024.size a ≤ S16384x1024.size a)
theorem k0_off446_inb : ∀ (v1214 : BitVec 32) (k0_hw111 : k0_chk111 v1214), ∀ a, (k0_off446 v1214) a + S1x1024.size a ≤ S16384x1024.size a := fun v1214 k0_hw111 => k0_hw111

def k0_off447 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_612 : BitVec 32 := 2112#32
  let v1221 : BitVec 32 := Scalar.muli v19 c2112_i32_612
  let arg1 : BitVec 32 := BitVec.ofNat 32 (i 1).val
  let c192_i32_613 : BitVec 32 := 192#32
  let v1222 : BitVec 32 := Scalar.muli arg1 c192_i32_613
  let v1223 : BitVec 32 := Scalar.addi v1221 v1222
  let c100_i32 : BitVec 32 := 100#32
  let v1224 : BitVec 32 := Scalar.addi v1223 c100_i32
  let v1225 : Index := Scalar.indexCast v1224
  ![v1225.toNat]
def k0_off448 (i : grid0.Coords) : Fin 1 → Nat :=
  let c1_i32_611 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1220 : BitVec 32 := Scalar.subi c1_i32_611 v9
  ![v1220.toNat]
def k0_off449 (i : grid0.Coords) : Fin 4 → Nat :=
  let c1_i32_611 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1220 : BitVec 32 := Scalar.subi c1_i32_611 v9
  let arg1 : BitVec 32 := BitVec.ofNat 32 (i 1).val
  let c100_i32_614 : BitVec 32 := 100#32
  let c0_i32_615 : BitVec 32 := 0#32
  ![v1220.toNat, arg1.toNat, 100, 0]
def k0_off450 (v1226 : BitVec 32) : Fin 2 → Nat :=
  let c0_i32_616 : BitVec 32 := 0#32
  ![v1226.toNat, 0]

def k0_chk112 (v1226 : BitVec 32) : Prop :=
  (∀ a, (k0_off450 v1226) a + S1x1024.size a ≤ S16384x1024.size a)
theorem k0_off450_inb : ∀ (v1226 : BitVec 32) (k0_hw112 : k0_chk112 v1226), ∀ a, (k0_off450 v1226) a + S1x1024.size a ≤ S16384x1024.size a := fun v1226 k0_hw112 => k0_hw112

def k0_off451 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_618 : BitVec 32 := 2112#32
  let v1233 : BitVec 32 := Scalar.muli v19 c2112_i32_618
  let arg1 : BitVec 32 := BitVec.ofNat 32 (i 1).val
  let c192_i32_619 : BitVec 32 := 192#32
  let v1234 : BitVec 32 := Scalar.muli arg1 c192_i32_619
  let v1235 : BitVec 32 := Scalar.addi v1233 v1234
  let c101_i32 : BitVec 32 := 101#32
  let v1236 : BitVec 32 := Scalar.addi v1235 c101_i32
  let v1237 : Index := Scalar.indexCast v1236
  ![v1237.toNat]
def k0_off452 (i : grid0.Coords) : Fin 1 → Nat :=
  let c1_i32_617 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1232 : BitVec 32 := Scalar.subi c1_i32_617 v9
  ![v1232.toNat]
def k0_off453 (i : grid0.Coords) : Fin 4 → Nat :=
  let c1_i32_617 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1232 : BitVec 32 := Scalar.subi c1_i32_617 v9
  let arg1 : BitVec 32 := BitVec.ofNat 32 (i 1).val
  let c101_i32_620 : BitVec 32 := 101#32
  let c0_i32_621 : BitVec 32 := 0#32
  ![v1232.toNat, arg1.toNat, 101, 0]
def k0_off454 (v1238 : BitVec 32) : Fin 2 → Nat :=
  let c0_i32_622 : BitVec 32 := 0#32
  ![v1238.toNat, 0]

def k0_chk113 (v1238 : BitVec 32) : Prop :=
  (∀ a, (k0_off454 v1238) a + S1x1024.size a ≤ S16384x1024.size a)
theorem k0_off454_inb : ∀ (v1238 : BitVec 32) (k0_hw113 : k0_chk113 v1238), ∀ a, (k0_off454 v1238) a + S1x1024.size a ≤ S16384x1024.size a := fun v1238 k0_hw113 => k0_hw113

def k0_off455 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_624 : BitVec 32 := 2112#32
  let v1245 : BitVec 32 := Scalar.muli v19 c2112_i32_624
  let arg1 : BitVec 32 := BitVec.ofNat 32 (i 1).val
  let c192_i32_625 : BitVec 32 := 192#32
  let v1246 : BitVec 32 := Scalar.muli arg1 c192_i32_625
  let v1247 : BitVec 32 := Scalar.addi v1245 v1246
  let c102_i32 : BitVec 32 := 102#32
  let v1248 : BitVec 32 := Scalar.addi v1247 c102_i32
  let v1249 : Index := Scalar.indexCast v1248
  ![v1249.toNat]
def k0_off456 (i : grid0.Coords) : Fin 1 → Nat :=
  let c1_i32_623 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1244 : BitVec 32 := Scalar.subi c1_i32_623 v9
  ![v1244.toNat]
def k0_off457 (i : grid0.Coords) : Fin 4 → Nat :=
  let c1_i32_623 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1244 : BitVec 32 := Scalar.subi c1_i32_623 v9
  let arg1 : BitVec 32 := BitVec.ofNat 32 (i 1).val
  let c102_i32_626 : BitVec 32 := 102#32
  let c0_i32_627 : BitVec 32 := 0#32
  ![v1244.toNat, arg1.toNat, 102, 0]
def k0_off458 (v1250 : BitVec 32) : Fin 2 → Nat :=
  let c0_i32_628 : BitVec 32 := 0#32
  ![v1250.toNat, 0]

def k0_chk114 (v1250 : BitVec 32) : Prop :=
  (∀ a, (k0_off458 v1250) a + S1x1024.size a ≤ S16384x1024.size a)
theorem k0_off458_inb : ∀ (v1250 : BitVec 32) (k0_hw114 : k0_chk114 v1250), ∀ a, (k0_off458 v1250) a + S1x1024.size a ≤ S16384x1024.size a := fun v1250 k0_hw114 => k0_hw114

def k0_off459 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_630 : BitVec 32 := 2112#32
  let v1257 : BitVec 32 := Scalar.muli v19 c2112_i32_630
  let arg1 : BitVec 32 := BitVec.ofNat 32 (i 1).val
  let c192_i32_631 : BitVec 32 := 192#32
  let v1258 : BitVec 32 := Scalar.muli arg1 c192_i32_631
  let v1259 : BitVec 32 := Scalar.addi v1257 v1258
  let c103_i32 : BitVec 32 := 103#32
  let v1260 : BitVec 32 := Scalar.addi v1259 c103_i32
  let v1261 : Index := Scalar.indexCast v1260
  ![v1261.toNat]
def k0_off460 (i : grid0.Coords) : Fin 1 → Nat :=
  let c1_i32_629 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1256 : BitVec 32 := Scalar.subi c1_i32_629 v9
  ![v1256.toNat]
def k0_off461 (i : grid0.Coords) : Fin 4 → Nat :=
  let c1_i32_629 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1256 : BitVec 32 := Scalar.subi c1_i32_629 v9
  let arg1 : BitVec 32 := BitVec.ofNat 32 (i 1).val
  let c103_i32_632 : BitVec 32 := 103#32
  let c0_i32_633 : BitVec 32 := 0#32
  ![v1256.toNat, arg1.toNat, 103, 0]
def k0_off462 (v1262 : BitVec 32) : Fin 2 → Nat :=
  let c0_i32_634 : BitVec 32 := 0#32
  ![v1262.toNat, 0]

def k0_chk115 (v1262 : BitVec 32) : Prop :=
  (∀ a, (k0_off462 v1262) a + S1x1024.size a ≤ S16384x1024.size a)
theorem k0_off462_inb : ∀ (v1262 : BitVec 32) (k0_hw115 : k0_chk115 v1262), ∀ a, (k0_off462 v1262) a + S1x1024.size a ≤ S16384x1024.size a := fun v1262 k0_hw115 => k0_hw115

def k0_off463 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_636 : BitVec 32 := 2112#32
  let v1269 : BitVec 32 := Scalar.muli v19 c2112_i32_636
  let arg1 : BitVec 32 := BitVec.ofNat 32 (i 1).val
  let c192_i32_637 : BitVec 32 := 192#32
  let v1270 : BitVec 32 := Scalar.muli arg1 c192_i32_637
  let v1271 : BitVec 32 := Scalar.addi v1269 v1270
  let c104_i32 : BitVec 32 := 104#32
  let v1272 : BitVec 32 := Scalar.addi v1271 c104_i32
  let v1273 : Index := Scalar.indexCast v1272
  ![v1273.toNat]
def k0_off464 (i : grid0.Coords) : Fin 1 → Nat :=
  let c1_i32_635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1268 : BitVec 32 := Scalar.subi c1_i32_635 v9
  ![v1268.toNat]
def k0_off465 (i : grid0.Coords) : Fin 4 → Nat :=
  let c1_i32_635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1268 : BitVec 32 := Scalar.subi c1_i32_635 v9
  let arg1 : BitVec 32 := BitVec.ofNat 32 (i 1).val
  let c104_i32_638 : BitVec 32 := 104#32
  let c0_i32_639 : BitVec 32 := 0#32
  ![v1268.toNat, arg1.toNat, 104, 0]
def k0_off466 (v1274 : BitVec 32) : Fin 2 → Nat :=
  let c0_i32_640 : BitVec 32 := 0#32
  ![v1274.toNat, 0]

def k0_chk116 (v1274 : BitVec 32) : Prop :=
  (∀ a, (k0_off466 v1274) a + S1x1024.size a ≤ S16384x1024.size a)
theorem k0_off466_inb : ∀ (v1274 : BitVec 32) (k0_hw116 : k0_chk116 v1274), ∀ a, (k0_off466 v1274) a + S1x1024.size a ≤ S16384x1024.size a := fun v1274 k0_hw116 => k0_hw116

def k0_off467 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_642 : BitVec 32 := 2112#32
  let v1281 : BitVec 32 := Scalar.muli v19 c2112_i32_642
  let arg1 : BitVec 32 := BitVec.ofNat 32 (i 1).val
  let c192_i32_643 : BitVec 32 := 192#32
  let v1282 : BitVec 32 := Scalar.muli arg1 c192_i32_643
  let v1283 : BitVec 32 := Scalar.addi v1281 v1282
  let c105_i32 : BitVec 32 := 105#32
  let v1284 : BitVec 32 := Scalar.addi v1283 c105_i32
  let v1285 : Index := Scalar.indexCast v1284
  ![v1285.toNat]
def k0_off468 (i : grid0.Coords) : Fin 1 → Nat :=
  let c1_i32_641 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1280 : BitVec 32 := Scalar.subi c1_i32_641 v9
  ![v1280.toNat]
def k0_off469 (i : grid0.Coords) : Fin 4 → Nat :=
  let c1_i32_641 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1280 : BitVec 32 := Scalar.subi c1_i32_641 v9
  let arg1 : BitVec 32 := BitVec.ofNat 32 (i 1).val
  let c105_i32_644 : BitVec 32 := 105#32
  let c0_i32_645 : BitVec 32 := 0#32
  ![v1280.toNat, arg1.toNat, 105, 0]
def k0_off470 (v1286 : BitVec 32) : Fin 2 → Nat :=
  let c0_i32_646 : BitVec 32 := 0#32
  ![v1286.toNat, 0]

def k0_chk117 (v1286 : BitVec 32) : Prop :=
  (∀ a, (k0_off470 v1286) a + S1x1024.size a ≤ S16384x1024.size a)
theorem k0_off470_inb : ∀ (v1286 : BitVec 32) (k0_hw117 : k0_chk117 v1286), ∀ a, (k0_off470 v1286) a + S1x1024.size a ≤ S16384x1024.size a := fun v1286 k0_hw117 => k0_hw117

def k0_off471 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_648 : BitVec 32 := 2112#32
  let v1293 : BitVec 32 := Scalar.muli v19 c2112_i32_648
  let arg1 : BitVec 32 := BitVec.ofNat 32 (i 1).val
  let c192_i32_649 : BitVec 32 := 192#32
  let v1294 : BitVec 32 := Scalar.muli arg1 c192_i32_649
  let v1295 : BitVec 32 := Scalar.addi v1293 v1294
  let c106_i32 : BitVec 32 := 106#32
  let v1296 : BitVec 32 := Scalar.addi v1295 c106_i32
  let v1297 : Index := Scalar.indexCast v1296
  ![v1297.toNat]
def k0_off472 (i : grid0.Coords) : Fin 1 → Nat :=
  let c1_i32_647 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1292 : BitVec 32 := Scalar.subi c1_i32_647 v9
  ![v1292.toNat]
def k0_off473 (i : grid0.Coords) : Fin 4 → Nat :=
  let c1_i32_647 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1292 : BitVec 32 := Scalar.subi c1_i32_647 v9
  let arg1 : BitVec 32 := BitVec.ofNat 32 (i 1).val
  let c106_i32_650 : BitVec 32 := 106#32
  let c0_i32_651 : BitVec 32 := 0#32
  ![v1292.toNat, arg1.toNat, 106, 0]
def k0_off474 (v1298 : BitVec 32) : Fin 2 → Nat :=
  let c0_i32_652 : BitVec 32 := 0#32
  ![v1298.toNat, 0]

def k0_chk118 (v1298 : BitVec 32) : Prop :=
  (∀ a, (k0_off474 v1298) a + S1x1024.size a ≤ S16384x1024.size a)
theorem k0_off474_inb : ∀ (v1298 : BitVec 32) (k0_hw118 : k0_chk118 v1298), ∀ a, (k0_off474 v1298) a + S1x1024.size a ≤ S16384x1024.size a := fun v1298 k0_hw118 => k0_hw118

def k0_off475 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_654 : BitVec 32 := 2112#32
  let v1305 : BitVec 32 := Scalar.muli v19 c2112_i32_654
  let arg1 : BitVec 32 := BitVec.ofNat 32 (i 1).val
  let c192_i32_655 : BitVec 32 := 192#32
  let v1306 : BitVec 32 := Scalar.muli arg1 c192_i32_655
  let v1307 : BitVec 32 := Scalar.addi v1305 v1306
  let c107_i32 : BitVec 32 := 107#32
  let v1308 : BitVec 32 := Scalar.addi v1307 c107_i32
  let v1309 : Index := Scalar.indexCast v1308
  ![v1309.toNat]
def k0_off476 (i : grid0.Coords) : Fin 1 → Nat :=
  let c1_i32_653 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1304 : BitVec 32 := Scalar.subi c1_i32_653 v9
  ![v1304.toNat]
def k0_off477 (i : grid0.Coords) : Fin 4 → Nat :=
  let c1_i32_653 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1304 : BitVec 32 := Scalar.subi c1_i32_653 v9
  let arg1 : BitVec 32 := BitVec.ofNat 32 (i 1).val
  let c107_i32_656 : BitVec 32 := 107#32
  let c0_i32_657 : BitVec 32 := 0#32
  ![v1304.toNat, arg1.toNat, 107, 0]
def k0_off478 (v1310 : BitVec 32) : Fin 2 → Nat :=
  let c0_i32_658 : BitVec 32 := 0#32
  ![v1310.toNat, 0]

def k0_chk119 (v1310 : BitVec 32) : Prop :=
  (∀ a, (k0_off478 v1310) a + S1x1024.size a ≤ S16384x1024.size a)
theorem k0_off478_inb : ∀ (v1310 : BitVec 32) (k0_hw119 : k0_chk119 v1310), ∀ a, (k0_off478 v1310) a + S1x1024.size a ≤ S16384x1024.size a := fun v1310 k0_hw119 => k0_hw119

def k0_off479 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_660 : BitVec 32 := 2112#32
  let v1317 : BitVec 32 := Scalar.muli v19 c2112_i32_660
  let arg1 : BitVec 32 := BitVec.ofNat 32 (i 1).val
  let c192_i32_661 : BitVec 32 := 192#32
  let v1318 : BitVec 32 := Scalar.muli arg1 c192_i32_661
  let v1319 : BitVec 32 := Scalar.addi v1317 v1318
  let c108_i32 : BitVec 32 := 108#32
  let v1320 : BitVec 32 := Scalar.addi v1319 c108_i32
  let v1321 : Index := Scalar.indexCast v1320
  ![v1321.toNat]
def k0_off480 (i : grid0.Coords) : Fin 1 → Nat :=
  let c1_i32_659 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1316 : BitVec 32 := Scalar.subi c1_i32_659 v9
  ![v1316.toNat]
def k0_off481 (i : grid0.Coords) : Fin 4 → Nat :=
  let c1_i32_659 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1316 : BitVec 32 := Scalar.subi c1_i32_659 v9
  let arg1 : BitVec 32 := BitVec.ofNat 32 (i 1).val
  let c108_i32_662 : BitVec 32 := 108#32
  let c0_i32_663 : BitVec 32 := 0#32
  ![v1316.toNat, arg1.toNat, 108, 0]
def k0_off482 (v1322 : BitVec 32) : Fin 2 → Nat :=
  let c0_i32_664 : BitVec 32 := 0#32
  ![v1322.toNat, 0]

def k0_chk120 (v1322 : BitVec 32) : Prop :=
  (∀ a, (k0_off482 v1322) a + S1x1024.size a ≤ S16384x1024.size a)
theorem k0_off482_inb : ∀ (v1322 : BitVec 32) (k0_hw120 : k0_chk120 v1322), ∀ a, (k0_off482 v1322) a + S1x1024.size a ≤ S16384x1024.size a := fun v1322 k0_hw120 => k0_hw120

def k0_off483 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_666 : BitVec 32 := 2112#32
  let v1329 : BitVec 32 := Scalar.muli v19 c2112_i32_666
  let arg1 : BitVec 32 := BitVec.ofNat 32 (i 1).val
  let c192_i32_667 : BitVec 32 := 192#32
  let v1330 : BitVec 32 := Scalar.muli arg1 c192_i32_667
  let v1331 : BitVec 32 := Scalar.addi v1329 v1330
  let c109_i32 : BitVec 32 := 109#32
  let v1332 : BitVec 32 := Scalar.addi v1331 c109_i32
  let v1333 : Index := Scalar.indexCast v1332
  ![v1333.toNat]
def k0_off484 (i : grid0.Coords) : Fin 1 → Nat :=
  let c1_i32_665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1328 : BitVec 32 := Scalar.subi c1_i32_665 v9
  ![v1328.toNat]
def k0_off485 (i : grid0.Coords) : Fin 4 → Nat :=
  let c1_i32_665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1328 : BitVec 32 := Scalar.subi c1_i32_665 v9
  let arg1 : BitVec 32 := BitVec.ofNat 32 (i 1).val
  let c109_i32_668 : BitVec 32 := 109#32
  let c0_i32_669 : BitVec 32 := 0#32
  ![v1328.toNat, arg1.toNat, 109, 0]
def k0_off486 (v1334 : BitVec 32) : Fin 2 → Nat :=
  let c0_i32_670 : BitVec 32 := 0#32
  ![v1334.toNat, 0]

def k0_chk121 (v1334 : BitVec 32) : Prop :=
  (∀ a, (k0_off486 v1334) a + S1x1024.size a ≤ S16384x1024.size a)
theorem k0_off486_inb : ∀ (v1334 : BitVec 32) (k0_hw121 : k0_chk121 v1334), ∀ a, (k0_off486 v1334) a + S1x1024.size a ≤ S16384x1024.size a := fun v1334 k0_hw121 => k0_hw121

def k0_off487 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_672 : BitVec 32 := 2112#32
  let v1341 : BitVec 32 := Scalar.muli v19 c2112_i32_672
  let arg1 : BitVec 32 := BitVec.ofNat 32 (i 1).val
  let c192_i32_673 : BitVec 32 := 192#32
  let v1342 : BitVec 32 := Scalar.muli arg1 c192_i32_673
  let v1343 : BitVec 32 := Scalar.addi v1341 v1342
  let c110_i32 : BitVec 32 := 110#32
  let v1344 : BitVec 32 := Scalar.addi v1343 c110_i32
  let v1345 : Index := Scalar.indexCast v1344
  ![v1345.toNat]
def k0_off488 (i : grid0.Coords) : Fin 1 → Nat :=
  let c1_i32_671 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1340 : BitVec 32 := Scalar.subi c1_i32_671 v9
  ![v1340.toNat]
def k0_off489 (i : grid0.Coords) : Fin 4 → Nat :=
  let c1_i32_671 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1340 : BitVec 32 := Scalar.subi c1_i32_671 v9
  let arg1 : BitVec 32 := BitVec.ofNat 32 (i 1).val
  let c110_i32_674 : BitVec 32 := 110#32
  let c0_i32_675 : BitVec 32 := 0#32
  ![v1340.toNat, arg1.toNat, 110, 0]
def k0_off490 (v1346 : BitVec 32) : Fin 2 → Nat :=
  let c0_i32_676 : BitVec 32 := 0#32
  ![v1346.toNat, 0]

def k0_chk122 (v1346 : BitVec 32) : Prop :=
  (∀ a, (k0_off490 v1346) a + S1x1024.size a ≤ S16384x1024.size a)
theorem k0_off490_inb : ∀ (v1346 : BitVec 32) (k0_hw122 : k0_chk122 v1346), ∀ a, (k0_off490 v1346) a + S1x1024.size a ≤ S16384x1024.size a := fun v1346 k0_hw122 => k0_hw122

def k0_off491 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_678 : BitVec 32 := 2112#32
  let v1353 : BitVec 32 := Scalar.muli v19 c2112_i32_678
  let arg1 : BitVec 32 := BitVec.ofNat 32 (i 1).val
  let c192_i32_679 : BitVec 32 := 192#32
  let v1354 : BitVec 32 := Scalar.muli arg1 c192_i32_679
  let v1355 : BitVec 32 := Scalar.addi v1353 v1354
  let c111_i32 : BitVec 32 := 111#32
  let v1356 : BitVec 32 := Scalar.addi v1355 c111_i32
  let v1357 : Index := Scalar.indexCast v1356
  ![v1357.toNat]
def k0_off492 (i : grid0.Coords) : Fin 1 → Nat :=
  let c1_i32_677 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1352 : BitVec 32 := Scalar.subi c1_i32_677 v9
  ![v1352.toNat]
def k0_off493 (i : grid0.Coords) : Fin 4 → Nat :=
  let c1_i32_677 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1352 : BitVec 32 := Scalar.subi c1_i32_677 v9
  let arg1 : BitVec 32 := BitVec.ofNat 32 (i 1).val
  let c111_i32_680 : BitVec 32 := 111#32
  let c0_i32_681 : BitVec 32 := 0#32
  ![v1352.toNat, arg1.toNat, 111, 0]
def k0_off494 (v1358 : BitVec 32) : Fin 2 → Nat :=
  let c0_i32_682 : BitVec 32 := 0#32
  ![v1358.toNat, 0]

def k0_chk123 (v1358 : BitVec 32) : Prop :=
  (∀ a, (k0_off494 v1358) a + S1x1024.size a ≤ S16384x1024.size a)
theorem k0_off494_inb : ∀ (v1358 : BitVec 32) (k0_hw123 : k0_chk123 v1358), ∀ a, (k0_off494 v1358) a + S1x1024.size a ≤ S16384x1024.size a := fun v1358 k0_hw123 => k0_hw123

def k0_off495 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_684 : BitVec 32 := 2112#32
  let v1365 : BitVec 32 := Scalar.muli v19 c2112_i32_684
  let arg1 : BitVec 32 := BitVec.ofNat 32 (i 1).val
  let c192_i32_685 : BitVec 32 := 192#32
  let v1366 : BitVec 32 := Scalar.muli arg1 c192_i32_685
  let v1367 : BitVec 32 := Scalar.addi v1365 v1366
  let c112_i32 : BitVec 32 := 112#32
  let v1368 : BitVec 32 := Scalar.addi v1367 c112_i32
  let v1369 : Index := Scalar.indexCast v1368
  ![v1369.toNat]
def k0_off496 (i : grid0.Coords) : Fin 1 → Nat :=
  let c1_i32_683 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1364 : BitVec 32 := Scalar.subi c1_i32_683 v9
  ![v1364.toNat]
def k0_off497 (i : grid0.Coords) : Fin 4 → Nat :=
  let c1_i32_683 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1364 : BitVec 32 := Scalar.subi c1_i32_683 v9
  let arg1 : BitVec 32 := BitVec.ofNat 32 (i 1).val
  let c112_i32_686 : BitVec 32 := 112#32
  let c0_i32_687 : BitVec 32 := 0#32
  ![v1364.toNat, arg1.toNat, 112, 0]
def k0_off498 (v1370 : BitVec 32) : Fin 2 → Nat :=
  let c0_i32_688 : BitVec 32 := 0#32
  ![v1370.toNat, 0]

def k0_chk124 (v1370 : BitVec 32) : Prop :=
  (∀ a, (k0_off498 v1370) a + S1x1024.size a ≤ S16384x1024.size a)
theorem k0_off498_inb : ∀ (v1370 : BitVec 32) (k0_hw124 : k0_chk124 v1370), ∀ a, (k0_off498 v1370) a + S1x1024.size a ≤ S16384x1024.size a := fun v1370 k0_hw124 => k0_hw124

def k0_off499 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_690 : BitVec 32 := 2112#32
  let v1377 : BitVec 32 := Scalar.muli v19 c2112_i32_690
  let arg1 : BitVec 32 := BitVec.ofNat 32 (i 1).val
  let c192_i32_691 : BitVec 32 := 192#32
  let v1378 : BitVec 32 := Scalar.muli arg1 c192_i32_691
  let v1379 : BitVec 32 := Scalar.addi v1377 v1378
  let c113_i32 : BitVec 32 := 113#32
  let v1380 : BitVec 32 := Scalar.addi v1379 c113_i32
  let v1381 : Index := Scalar.indexCast v1380
  ![v1381.toNat]
def k0_off500 (i : grid0.Coords) : Fin 1 → Nat :=
  let c1_i32_689 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1376 : BitVec 32 := Scalar.subi c1_i32_689 v9
  ![v1376.toNat]
def k0_off501 (i : grid0.Coords) : Fin 4 → Nat :=
  let c1_i32_689 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1376 : BitVec 32 := Scalar.subi c1_i32_689 v9
  let arg1 : BitVec 32 := BitVec.ofNat 32 (i 1).val
  let c113_i32_692 : BitVec 32 := 113#32
  let c0_i32_693 : BitVec 32 := 0#32
  ![v1376.toNat, arg1.toNat, 113, 0]
def k0_off502 (v1382 : BitVec 32) : Fin 2 → Nat :=
  let c0_i32_694 : BitVec 32 := 0#32
  ![v1382.toNat, 0]

def k0_chk125 (v1382 : BitVec 32) : Prop :=
  (∀ a, (k0_off502 v1382) a + S1x1024.size a ≤ S16384x1024.size a)
theorem k0_off502_inb : ∀ (v1382 : BitVec 32) (k0_hw125 : k0_chk125 v1382), ∀ a, (k0_off502 v1382) a + S1x1024.size a ≤ S16384x1024.size a := fun v1382 k0_hw125 => k0_hw125

def k0_off503 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_696 : BitVec 32 := 2112#32
  let v1389 : BitVec 32 := Scalar.muli v19 c2112_i32_696
  let arg1 : BitVec 32 := BitVec.ofNat 32 (i 1).val
  let c192_i32_697 : BitVec 32 := 192#32
  let v1390 : BitVec 32 := Scalar.muli arg1 c192_i32_697
  let v1391 : BitVec 32 := Scalar.addi v1389 v1390
  let c114_i32 : BitVec 32 := 114#32
  let v1392 : BitVec 32 := Scalar.addi v1391 c114_i32
  let v1393 : Index := Scalar.indexCast v1392
  ![v1393.toNat]
def k0_off504 (i : grid0.Coords) : Fin 1 → Nat :=
  let c1_i32_695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1388 : BitVec 32 := Scalar.subi c1_i32_695 v9
  ![v1388.toNat]
def k0_off505 (i : grid0.Coords) : Fin 4 → Nat :=
  let c1_i32_695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1388 : BitVec 32 := Scalar.subi c1_i32_695 v9
  let arg1 : BitVec 32 := BitVec.ofNat 32 (i 1).val
  let c114_i32_698 : BitVec 32 := 114#32
  let c0_i32_699 : BitVec 32 := 0#32
  ![v1388.toNat, arg1.toNat, 114, 0]
def k0_off506 (v1394 : BitVec 32) : Fin 2 → Nat :=
  let c0_i32_700 : BitVec 32 := 0#32
  ![v1394.toNat, 0]

def k0_chk126 (v1394 : BitVec 32) : Prop :=
  (∀ a, (k0_off506 v1394) a + S1x1024.size a ≤ S16384x1024.size a)
theorem k0_off506_inb : ∀ (v1394 : BitVec 32) (k0_hw126 : k0_chk126 v1394), ∀ a, (k0_off506 v1394) a + S1x1024.size a ≤ S16384x1024.size a := fun v1394 k0_hw126 => k0_hw126

def k0_off507 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_702 : BitVec 32 := 2112#32
  let v1401 : BitVec 32 := Scalar.muli v19 c2112_i32_702
  let arg1 : BitVec 32 := BitVec.ofNat 32 (i 1).val
  let c192_i32_703 : BitVec 32 := 192#32
  let v1402 : BitVec 32 := Scalar.muli arg1 c192_i32_703
  let v1403 : BitVec 32 := Scalar.addi v1401 v1402
  let c115_i32 : BitVec 32 := 115#32
  let v1404 : BitVec 32 := Scalar.addi v1403 c115_i32
  let v1405 : Index := Scalar.indexCast v1404
  ![v1405.toNat]
def k0_off508 (i : grid0.Coords) : Fin 1 → Nat :=
  let c1_i32_701 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1400 : BitVec 32 := Scalar.subi c1_i32_701 v9
  ![v1400.toNat]
def k0_off509 (i : grid0.Coords) : Fin 4 → Nat :=
  let c1_i32_701 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1400 : BitVec 32 := Scalar.subi c1_i32_701 v9
  let arg1 : BitVec 32 := BitVec.ofNat 32 (i 1).val
  let c115_i32_704 : BitVec 32 := 115#32
  let c0_i32_705 : BitVec 32 := 0#32
  ![v1400.toNat, arg1.toNat, 115, 0]
def k0_off510 (v1406 : BitVec 32) : Fin 2 → Nat :=
  let c0_i32_706 : BitVec 32 := 0#32
  ![v1406.toNat, 0]

def k0_chk127 (v1406 : BitVec 32) : Prop :=
  (∀ a, (k0_off510 v1406) a + S1x1024.size a ≤ S16384x1024.size a)
theorem k0_off510_inb : ∀ (v1406 : BitVec 32) (k0_hw127 : k0_chk127 v1406), ∀ a, (k0_off510 v1406) a + S1x1024.size a ≤ S16384x1024.size a := fun v1406 k0_hw127 => k0_hw127

def k0_off511 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_708 : BitVec 32 := 2112#32
  let v1413 : BitVec 32 := Scalar.muli v19 c2112_i32_708
  let arg1 : BitVec 32 := BitVec.ofNat 32 (i 1).val
  let c192_i32_709 : BitVec 32 := 192#32
  let v1414 : BitVec 32 := Scalar.muli arg1 c192_i32_709
  let v1415 : BitVec 32 := Scalar.addi v1413 v1414
  let c116_i32 : BitVec 32 := 116#32
  let v1416 : BitVec 32 := Scalar.addi v1415 c116_i32
  let v1417 : Index := Scalar.indexCast v1416
  ![v1417.toNat]
def k0_off512 (i : grid0.Coords) : Fin 1 → Nat :=
  let c1_i32_707 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1412 : BitVec 32 := Scalar.subi c1_i32_707 v9
  ![v1412.toNat]
def k0_off513 (i : grid0.Coords) : Fin 4 → Nat :=
  let c1_i32_707 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1412 : BitVec 32 := Scalar.subi c1_i32_707 v9
  let arg1 : BitVec 32 := BitVec.ofNat 32 (i 1).val
  let c116_i32_710 : BitVec 32 := 116#32
  let c0_i32_711 : BitVec 32 := 0#32
  ![v1412.toNat, arg1.toNat, 116, 0]
def k0_off514 (v1418 : BitVec 32) : Fin 2 → Nat :=
  let c0_i32_712 : BitVec 32 := 0#32
  ![v1418.toNat, 0]

def k0_chk128 (v1418 : BitVec 32) : Prop :=
  (∀ a, (k0_off514 v1418) a + S1x1024.size a ≤ S16384x1024.size a)
theorem k0_off514_inb : ∀ (v1418 : BitVec 32) (k0_hw128 : k0_chk128 v1418), ∀ a, (k0_off514 v1418) a + S1x1024.size a ≤ S16384x1024.size a := fun v1418 k0_hw128 => k0_hw128

def k0_off515 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_714 : BitVec 32 := 2112#32
  let v1425 : BitVec 32 := Scalar.muli v19 c2112_i32_714
  let arg1 : BitVec 32 := BitVec.ofNat 32 (i 1).val
  let c192_i32_715 : BitVec 32 := 192#32
  let v1426 : BitVec 32 := Scalar.muli arg1 c192_i32_715
  let v1427 : BitVec 32 := Scalar.addi v1425 v1426
  let c117_i32 : BitVec 32 := 117#32
  let v1428 : BitVec 32 := Scalar.addi v1427 c117_i32
  let v1429 : Index := Scalar.indexCast v1428
  ![v1429.toNat]
def k0_off516 (i : grid0.Coords) : Fin 1 → Nat :=
  let c1_i32_713 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1424 : BitVec 32 := Scalar.subi c1_i32_713 v9
  ![v1424.toNat]
def k0_off517 (i : grid0.Coords) : Fin 4 → Nat :=
  let c1_i32_713 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1424 : BitVec 32 := Scalar.subi c1_i32_713 v9
  let arg1 : BitVec 32 := BitVec.ofNat 32 (i 1).val
  let c117_i32_716 : BitVec 32 := 117#32
  let c0_i32_717 : BitVec 32 := 0#32
  ![v1424.toNat, arg1.toNat, 117, 0]
def k0_off518 (v1430 : BitVec 32) : Fin 2 → Nat :=
  let c0_i32_718 : BitVec 32 := 0#32
  ![v1430.toNat, 0]

def k0_chk129 (v1430 : BitVec 32) : Prop :=
  (∀ a, (k0_off518 v1430) a + S1x1024.size a ≤ S16384x1024.size a)
theorem k0_off518_inb : ∀ (v1430 : BitVec 32) (k0_hw129 : k0_chk129 v1430), ∀ a, (k0_off518 v1430) a + S1x1024.size a ≤ S16384x1024.size a := fun v1430 k0_hw129 => k0_hw129

def k0_off519 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_720 : BitVec 32 := 2112#32
  let v1437 : BitVec 32 := Scalar.muli v19 c2112_i32_720
  let arg1 : BitVec 32 := BitVec.ofNat 32 (i 1).val
  let c192_i32_721 : BitVec 32 := 192#32
  let v1438 : BitVec 32 := Scalar.muli arg1 c192_i32_721
  let v1439 : BitVec 32 := Scalar.addi v1437 v1438
  let c118_i32 : BitVec 32 := 118#32
  let v1440 : BitVec 32 := Scalar.addi v1439 c118_i32
  let v1441 : Index := Scalar.indexCast v1440
  ![v1441.toNat]
def k0_off520 (i : grid0.Coords) : Fin 1 → Nat :=
  let c1_i32_719 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1436 : BitVec 32 := Scalar.subi c1_i32_719 v9
  ![v1436.toNat]
def k0_off521 (i : grid0.Coords) : Fin 4 → Nat :=
  let c1_i32_719 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1436 : BitVec 32 := Scalar.subi c1_i32_719 v9
  let arg1 : BitVec 32 := BitVec.ofNat 32 (i 1).val
  let c118_i32_722 : BitVec 32 := 118#32
  let c0_i32_723 : BitVec 32 := 0#32
  ![v1436.toNat, arg1.toNat, 118, 0]
def k0_off522 (v1442 : BitVec 32) : Fin 2 → Nat :=
  let c0_i32_724 : BitVec 32 := 0#32
  ![v1442.toNat, 0]

def k0_chk130 (v1442 : BitVec 32) : Prop :=
  (∀ a, (k0_off522 v1442) a + S1x1024.size a ≤ S16384x1024.size a)
theorem k0_off522_inb : ∀ (v1442 : BitVec 32) (k0_hw130 : k0_chk130 v1442), ∀ a, (k0_off522 v1442) a + S1x1024.size a ≤ S16384x1024.size a := fun v1442 k0_hw130 => k0_hw130

def k0_off523 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_726 : BitVec 32 := 2112#32
  let v1449 : BitVec 32 := Scalar.muli v19 c2112_i32_726
  let arg1 : BitVec 32 := BitVec.ofNat 32 (i 1).val
  let c192_i32_727 : BitVec 32 := 192#32
  let v1450 : BitVec 32 := Scalar.muli arg1 c192_i32_727
  let v1451 : BitVec 32 := Scalar.addi v1449 v1450
  let c119_i32 : BitVec 32 := 119#32
  let v1452 : BitVec 32 := Scalar.addi v1451 c119_i32
  let v1453 : Index := Scalar.indexCast v1452
  ![v1453.toNat]
def k0_off524 (i : grid0.Coords) : Fin 1 → Nat :=
  let c1_i32_725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1448 : BitVec 32 := Scalar.subi c1_i32_725 v9
  ![v1448.toNat]
def k0_off525 (i : grid0.Coords) : Fin 4 → Nat :=
  let c1_i32_725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1448 : BitVec 32 := Scalar.subi c1_i32_725 v9
  let arg1 : BitVec 32 := BitVec.ofNat 32 (i 1).val
  let c119_i32_728 : BitVec 32 := 119#32
  let c0_i32_729 : BitVec 32 := 0#32
  ![v1448.toNat, arg1.toNat, 119, 0]
def k0_off526 (v1454 : BitVec 32) : Fin 2 → Nat :=
  let c0_i32_730 : BitVec 32 := 0#32
  ![v1454.toNat, 0]

def k0_chk131 (v1454 : BitVec 32) : Prop :=
  (∀ a, (k0_off526 v1454) a + S1x1024.size a ≤ S16384x1024.size a)
theorem k0_off526_inb : ∀ (v1454 : BitVec 32) (k0_hw131 : k0_chk131 v1454), ∀ a, (k0_off526 v1454) a + S1x1024.size a ≤ S16384x1024.size a := fun v1454 k0_hw131 => k0_hw131

def k0_off527 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_732 : BitVec 32 := 2112#32
  let v1461 : BitVec 32 := Scalar.muli v19 c2112_i32_732
  let arg1 : BitVec 32 := BitVec.ofNat 32 (i 1).val
  let c192_i32_733 : BitVec 32 := 192#32
  let v1462 : BitVec 32 := Scalar.muli arg1 c192_i32_733
  let v1463 : BitVec 32 := Scalar.addi v1461 v1462
  let c120_i32 : BitVec 32 := 120#32
  let v1464 : BitVec 32 := Scalar.addi v1463 c120_i32
  let v1465 : Index := Scalar.indexCast v1464
  ![v1465.toNat]
def k0_off528 (i : grid0.Coords) : Fin 1 → Nat :=
  let c1_i32_731 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1460 : BitVec 32 := Scalar.subi c1_i32_731 v9
  ![v1460.toNat]
def k0_off529 (i : grid0.Coords) : Fin 4 → Nat :=
  let c1_i32_731 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1460 : BitVec 32 := Scalar.subi c1_i32_731 v9
  let arg1 : BitVec 32 := BitVec.ofNat 32 (i 1).val
  let c120_i32_734 : BitVec 32 := 120#32
  let c0_i32_735 : BitVec 32 := 0#32
  ![v1460.toNat, arg1.toNat, 120, 0]
def k0_off530 (v1466 : BitVec 32) : Fin 2 → Nat :=
  let c0_i32_736 : BitVec 32 := 0#32
  ![v1466.toNat, 0]

def k0_chk132 (v1466 : BitVec 32) : Prop :=
  (∀ a, (k0_off530 v1466) a + S1x1024.size a ≤ S16384x1024.size a)
theorem k0_off530_inb : ∀ (v1466 : BitVec 32) (k0_hw132 : k0_chk132 v1466), ∀ a, (k0_off530 v1466) a + S1x1024.size a ≤ S16384x1024.size a := fun v1466 k0_hw132 => k0_hw132

def k0_off531 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_738 : BitVec 32 := 2112#32
  let v1473 : BitVec 32 := Scalar.muli v19 c2112_i32_738
  let arg1 : BitVec 32 := BitVec.ofNat 32 (i 1).val
  let c192_i32_739 : BitVec 32 := 192#32
  let v1474 : BitVec 32 := Scalar.muli arg1 c192_i32_739
  let v1475 : BitVec 32 := Scalar.addi v1473 v1474
  let c121_i32 : BitVec 32 := 121#32
  let v1476 : BitVec 32 := Scalar.addi v1475 c121_i32
  let v1477 : Index := Scalar.indexCast v1476
  ![v1477.toNat]
def k0_off532 (i : grid0.Coords) : Fin 1 → Nat :=
  let c1_i32_737 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1472 : BitVec 32 := Scalar.subi c1_i32_737 v9
  ![v1472.toNat]
def k0_off533 (i : grid0.Coords) : Fin 4 → Nat :=
  let c1_i32_737 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1472 : BitVec 32 := Scalar.subi c1_i32_737 v9
  let arg1 : BitVec 32 := BitVec.ofNat 32 (i 1).val
  let c121_i32_740 : BitVec 32 := 121#32
  let c0_i32_741 : BitVec 32 := 0#32
  ![v1472.toNat, arg1.toNat, 121, 0]
def k0_off534 (v1478 : BitVec 32) : Fin 2 → Nat :=
  let c0_i32_742 : BitVec 32 := 0#32
  ![v1478.toNat, 0]

def k0_chk133 (v1478 : BitVec 32) : Prop :=
  (∀ a, (k0_off534 v1478) a + S1x1024.size a ≤ S16384x1024.size a)
theorem k0_off534_inb : ∀ (v1478 : BitVec 32) (k0_hw133 : k0_chk133 v1478), ∀ a, (k0_off534 v1478) a + S1x1024.size a ≤ S16384x1024.size a := fun v1478 k0_hw133 => k0_hw133

def k0_off535 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_744 : BitVec 32 := 2112#32
  let v1485 : BitVec 32 := Scalar.muli v19 c2112_i32_744
  let arg1 : BitVec 32 := BitVec.ofNat 32 (i 1).val
  let c192_i32_745 : BitVec 32 := 192#32
  let v1486 : BitVec 32 := Scalar.muli arg1 c192_i32_745
  let v1487 : BitVec 32 := Scalar.addi v1485 v1486
  let c122_i32 : BitVec 32 := 122#32
  let v1488 : BitVec 32 := Scalar.addi v1487 c122_i32
  let v1489 : Index := Scalar.indexCast v1488
  ![v1489.toNat]
def k0_off536 (i : grid0.Coords) : Fin 1 → Nat :=
  let c1_i32_743 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1484 : BitVec 32 := Scalar.subi c1_i32_743 v9
  ![v1484.toNat]
def k0_off537 (i : grid0.Coords) : Fin 4 → Nat :=
  let c1_i32_743 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1484 : BitVec 32 := Scalar.subi c1_i32_743 v9
  let arg1 : BitVec 32 := BitVec.ofNat 32 (i 1).val
  let c122_i32_746 : BitVec 32 := 122#32
  let c0_i32_747 : BitVec 32 := 0#32
  ![v1484.toNat, arg1.toNat, 122, 0]
def k0_off538 (v1490 : BitVec 32) : Fin 2 → Nat :=
  let c0_i32_748 : BitVec 32 := 0#32
  ![v1490.toNat, 0]

def k0_chk134 (v1490 : BitVec 32) : Prop :=
  (∀ a, (k0_off538 v1490) a + S1x1024.size a ≤ S16384x1024.size a)
theorem k0_off538_inb : ∀ (v1490 : BitVec 32) (k0_hw134 : k0_chk134 v1490), ∀ a, (k0_off538 v1490) a + S1x1024.size a ≤ S16384x1024.size a := fun v1490 k0_hw134 => k0_hw134

def k0_off539 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_750 : BitVec 32 := 2112#32
  let v1497 : BitVec 32 := Scalar.muli v19 c2112_i32_750
  let arg1 : BitVec 32 := BitVec.ofNat 32 (i 1).val
  let c192_i32_751 : BitVec 32 := 192#32
  let v1498 : BitVec 32 := Scalar.muli arg1 c192_i32_751
  let v1499 : BitVec 32 := Scalar.addi v1497 v1498
  let c123_i32 : BitVec 32 := 123#32
  let v1500 : BitVec 32 := Scalar.addi v1499 c123_i32
  let v1501 : Index := Scalar.indexCast v1500
  ![v1501.toNat]
def k0_off540 (i : grid0.Coords) : Fin 1 → Nat :=
  let c1_i32_749 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1496 : BitVec 32 := Scalar.subi c1_i32_749 v9
  ![v1496.toNat]
def k0_off541 (i : grid0.Coords) : Fin 4 → Nat :=
  let c1_i32_749 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1496 : BitVec 32 := Scalar.subi c1_i32_749 v9
  let arg1 : BitVec 32 := BitVec.ofNat 32 (i 1).val
  let c123_i32_752 : BitVec 32 := 123#32
  let c0_i32_753 : BitVec 32 := 0#32
  ![v1496.toNat, arg1.toNat, 123, 0]
def k0_off542 (v1502 : BitVec 32) : Fin 2 → Nat :=
  let c0_i32_754 : BitVec 32 := 0#32
  ![v1502.toNat, 0]

def k0_chk135 (v1502 : BitVec 32) : Prop :=
  (∀ a, (k0_off542 v1502) a + S1x1024.size a ≤ S16384x1024.size a)
theorem k0_off542_inb : ∀ (v1502 : BitVec 32) (k0_hw135 : k0_chk135 v1502), ∀ a, (k0_off542 v1502) a + S1x1024.size a ≤ S16384x1024.size a := fun v1502 k0_hw135 => k0_hw135

def k0_off543 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_756 : BitVec 32 := 2112#32
  let v1509 : BitVec 32 := Scalar.muli v19 c2112_i32_756
  let arg1 : BitVec 32 := BitVec.ofNat 32 (i 1).val
  let c192_i32_757 : BitVec 32 := 192#32
  let v1510 : BitVec 32 := Scalar.muli arg1 c192_i32_757
  let v1511 : BitVec 32 := Scalar.addi v1509 v1510
  let c124_i32 : BitVec 32 := 124#32
  let v1512 : BitVec 32 := Scalar.addi v1511 c124_i32
  let v1513 : Index := Scalar.indexCast v1512
  ![v1513.toNat]
def k0_off544 (i : grid0.Coords) : Fin 1 → Nat :=
  let c1_i32_755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1508 : BitVec 32 := Scalar.subi c1_i32_755 v9
  ![v1508.toNat]
def k0_off545 (i : grid0.Coords) : Fin 4 → Nat :=
  let c1_i32_755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1508 : BitVec 32 := Scalar.subi c1_i32_755 v9
  let arg1 : BitVec 32 := BitVec.ofNat 32 (i 1).val
  let c124_i32_758 : BitVec 32 := 124#32
  let c0_i32_759 : BitVec 32 := 0#32
  ![v1508.toNat, arg1.toNat, 124, 0]
def k0_off546 (v1514 : BitVec 32) : Fin 2 → Nat :=
  let c0_i32_760 : BitVec 32 := 0#32
  ![v1514.toNat, 0]

def k0_chk136 (v1514 : BitVec 32) : Prop :=
  (∀ a, (k0_off546 v1514) a + S1x1024.size a ≤ S16384x1024.size a)
theorem k0_off546_inb : ∀ (v1514 : BitVec 32) (k0_hw136 : k0_chk136 v1514), ∀ a, (k0_off546 v1514) a + S1x1024.size a ≤ S16384x1024.size a := fun v1514 k0_hw136 => k0_hw136

def k0_off547 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_762 : BitVec 32 := 2112#32
  let v1521 : BitVec 32 := Scalar.muli v19 c2112_i32_762
  let arg1 : BitVec 32 := BitVec.ofNat 32 (i 1).val
  let c192_i32_763 : BitVec 32 := 192#32
  let v1522 : BitVec 32 := Scalar.muli arg1 c192_i32_763
  let v1523 : BitVec 32 := Scalar.addi v1521 v1522
  let c125_i32 : BitVec 32 := 125#32
  let v1524 : BitVec 32 := Scalar.addi v1523 c125_i32
  let v1525 : Index := Scalar.indexCast v1524
  ![v1525.toNat]
def k0_off548 (i : grid0.Coords) : Fin 1 → Nat :=
  let c1_i32_761 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1520 : BitVec 32 := Scalar.subi c1_i32_761 v9
  ![v1520.toNat]
def k0_off549 (i : grid0.Coords) : Fin 4 → Nat :=
  let c1_i32_761 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1520 : BitVec 32 := Scalar.subi c1_i32_761 v9
  let arg1 : BitVec 32 := BitVec.ofNat 32 (i 1).val
  let c125_i32_764 : BitVec 32 := 125#32
  let c0_i32_765 : BitVec 32 := 0#32
  ![v1520.toNat, arg1.toNat, 125, 0]
def k0_off550 (v1526 : BitVec 32) : Fin 2 → Nat :=
  let c0_i32_766 : BitVec 32 := 0#32
  ![v1526.toNat, 0]

def k0_chk137 (v1526 : BitVec 32) : Prop :=
  (∀ a, (k0_off550 v1526) a + S1x1024.size a ≤ S16384x1024.size a)
theorem k0_off550_inb : ∀ (v1526 : BitVec 32) (k0_hw137 : k0_chk137 v1526), ∀ a, (k0_off550 v1526) a + S1x1024.size a ≤ S16384x1024.size a := fun v1526 k0_hw137 => k0_hw137

def k0_off551 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_768 : BitVec 32 := 2112#32
  let v1533 : BitVec 32 := Scalar.muli v19 c2112_i32_768
  let arg1 : BitVec 32 := BitVec.ofNat 32 (i 1).val
  let c192_i32_769 : BitVec 32 := 192#32
  let v1534 : BitVec 32 := Scalar.muli arg1 c192_i32_769
  let v1535 : BitVec 32 := Scalar.addi v1533 v1534
  let c126_i32 : BitVec 32 := 126#32
  let v1536 : BitVec 32 := Scalar.addi v1535 c126_i32
  let v1537 : Index := Scalar.indexCast v1536
  ![v1537.toNat]
def k0_off552 (i : grid0.Coords) : Fin 1 → Nat :=
  let c1_i32_767 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1532 : BitVec 32 := Scalar.subi c1_i32_767 v9
  ![v1532.toNat]
def k0_off553 (i : grid0.Coords) : Fin 4 → Nat :=
  let c1_i32_767 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1532 : BitVec 32 := Scalar.subi c1_i32_767 v9
  let arg1 : BitVec 32 := BitVec.ofNat 32 (i 1).val
  let c126_i32_770 : BitVec 32 := 126#32
  let c0_i32_771 : BitVec 32 := 0#32
  ![v1532.toNat, arg1.toNat, 126, 0]
def k0_off554 (v1538 : BitVec 32) : Fin 2 → Nat :=
  let c0_i32_772 : BitVec 32 := 0#32
  ![v1538.toNat, 0]

def k0_chk138 (v1538 : BitVec 32) : Prop :=
  (∀ a, (k0_off554 v1538) a + S1x1024.size a ≤ S16384x1024.size a)
theorem k0_off554_inb : ∀ (v1538 : BitVec 32) (k0_hw138 : k0_chk138 v1538), ∀ a, (k0_off554 v1538) a + S1x1024.size a ≤ S16384x1024.size a := fun v1538 k0_hw138 => k0_hw138

def k0_off555 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_774 : BitVec 32 := 2112#32
  let v1545 : BitVec 32 := Scalar.muli v19 c2112_i32_774
  let arg1 : BitVec 32 := BitVec.ofNat 32 (i 1).val
  let c192_i32_775 : BitVec 32 := 192#32
  let v1546 : BitVec 32 := Scalar.muli arg1 c192_i32_775
  let v1547 : BitVec 32 := Scalar.addi v1545 v1546
  let c127_i32 : BitVec 32 := 127#32
  let v1548 : BitVec 32 := Scalar.addi v1547 c127_i32
  let v1549 : Index := Scalar.indexCast v1548
  ![v1549.toNat]
def k0_off556 (i : grid0.Coords) : Fin 1 → Nat :=
  let c1_i32_773 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1544 : BitVec 32 := Scalar.subi c1_i32_773 v9
  ![v1544.toNat]
def k0_off557 (i : grid0.Coords) : Fin 4 → Nat :=
  let c1_i32_773 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1544 : BitVec 32 := Scalar.subi c1_i32_773 v9
  let arg1 : BitVec 32 := BitVec.ofNat 32 (i 1).val
  let c127_i32_776 : BitVec 32 := 127#32
  let c0_i32_777 : BitVec 32 := 0#32
  ![v1544.toNat, arg1.toNat, 127, 0]
def k0_off558 (v1550 : BitVec 32) : Fin 2 → Nat :=
  let c0_i32_778 : BitVec 32 := 0#32
  ![v1550.toNat, 0]

def k0_chk139 (v1550 : BitVec 32) : Prop :=
  (∀ a, (k0_off558 v1550) a + S1x1024.size a ≤ S16384x1024.size a)
theorem k0_off558_inb : ∀ (v1550 : BitVec 32) (k0_hw139 : k0_chk139 v1550), ∀ a, (k0_off558 v1550) a + S1x1024.size a ≤ S16384x1024.size a := fun v1550 k0_hw139 => k0_hw139

def k0_off559 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_780 : BitVec 32 := 2112#32
  let v1557 : BitVec 32 := Scalar.muli v19 c2112_i32_780
  let arg1 : BitVec 32 := BitVec.ofNat 32 (i 1).val
  let c192_i32_781 : BitVec 32 := 192#32
  let v1558 : BitVec 32 := Scalar.muli arg1 c192_i32_781
  let v1559 : BitVec 32 := Scalar.addi v1557 v1558
  let c128_i32 : BitVec 32 := 128#32
  let v1560 : BitVec 32 := Scalar.addi v1559 c128_i32
  let v1561 : Index := Scalar.indexCast v1560
  ![v1561.toNat]
def k0_off560 (i : grid0.Coords) : Fin 1 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1556 : BitVec 32 := Scalar.subi c1_i32_779 v9
  ![v1556.toNat]
def k0_off561 (i : grid0.Coords) : Fin 4 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1556 : BitVec 32 := Scalar.subi c1_i32_779 v9
  let arg1 : BitVec 32 := BitVec.ofNat 32 (i 1).val
  let c128_i32_782 : BitVec 32 := 128#32
  let c0_i32_783 : BitVec 32 := 0#32
  ![v1556.toNat, arg1.toNat, 128, 0]
def k0_off562 (v1562 : BitVec 32) : Fin 2 → Nat :=
  let c0_i32_784 : BitVec 32 := 0#32
  ![v1562.toNat, 0]

def k0_chk140 (v1562 : BitVec 32) : Prop :=
  (∀ a, (k0_off562 v1562) a + S1x1024.size a ≤ S16384x1024.size a)
theorem k0_off562_inb : ∀ (v1562 : BitVec 32) (k0_hw140 : k0_chk140 v1562), ∀ a, (k0_off562 v1562) a + S1x1024.size a ≤ S16384x1024.size a := fun v1562 k0_hw140 => k0_hw140

def k0_off563 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_786 : BitVec 32 := 2112#32
  let v1569 : BitVec 32 := Scalar.muli v19 c2112_i32_786
  let arg1 : BitVec 32 := BitVec.ofNat 32 (i 1).val
  let c192_i32_787 : BitVec 32 := 192#32
  let v1570 : BitVec 32 := Scalar.muli arg1 c192_i32_787
  let v1571 : BitVec 32 := Scalar.addi v1569 v1570
  let c129_i32 : BitVec 32 := 129#32
  let v1572 : BitVec 32 := Scalar.addi v1571 c129_i32
  let v1573 : Index := Scalar.indexCast v1572
  ![v1573.toNat]
def k0_off564 (i : grid0.Coords) : Fin 1 → Nat :=
  let c1_i32_785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1568 : BitVec 32 := Scalar.subi c1_i32_785 v9
  ![v1568.toNat]
def k0_off565 (i : grid0.Coords) : Fin 4 → Nat :=
  let c1_i32_785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1568 : BitVec 32 := Scalar.subi c1_i32_785 v9
  let arg1 : BitVec 32 := BitVec.ofNat 32 (i 1).val
  let c129_i32_788 : BitVec 32 := 129#32
  let c0_i32_789 : BitVec 32 := 0#32
  ![v1568.toNat, arg1.toNat, 129, 0]
def k0_off566 (v1574 : BitVec 32) : Fin 2 → Nat :=
  let c0_i32_790 : BitVec 32 := 0#32
  ![v1574.toNat, 0]

def k0_chk141 (v1574 : BitVec 32) : Prop :=
  (∀ a, (k0_off566 v1574) a + S1x1024.size a ≤ S16384x1024.size a)
theorem k0_off566_inb : ∀ (v1574 : BitVec 32) (k0_hw141 : k0_chk141 v1574), ∀ a, (k0_off566 v1574) a + S1x1024.size a ≤ S16384x1024.size a := fun v1574 k0_hw141 => k0_hw141

def k0_off567 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_792 : BitVec 32 := 2112#32
  let v1581 : BitVec 32 := Scalar.muli v19 c2112_i32_792
  let arg1 : BitVec 32 := BitVec.ofNat 32 (i 1).val
  let c192_i32_793 : BitVec 32 := 192#32
  let v1582 : BitVec 32 := Scalar.muli arg1 c192_i32_793
  let v1583 : BitVec 32 := Scalar.addi v1581 v1582
  let c130_i32 : BitVec 32 := 130#32
  let v1584 : BitVec 32 := Scalar.addi v1583 c130_i32
  let v1585 : Index := Scalar.indexCast v1584
  ![v1585.toNat]
def k0_off568 (i : grid0.Coords) : Fin 1 → Nat :=
  let c1_i32_791 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1580 : BitVec 32 := Scalar.subi c1_i32_791 v9
  ![v1580.toNat]
def k0_off569 (i : grid0.Coords) : Fin 4 → Nat :=
  let c1_i32_791 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1580 : BitVec 32 := Scalar.subi c1_i32_791 v9
  let arg1 : BitVec 32 := BitVec.ofNat 32 (i 1).val
  let c130_i32_794 : BitVec 32 := 130#32
  let c0_i32_795 : BitVec 32 := 0#32
  ![v1580.toNat, arg1.toNat, 130, 0]
def k0_off570 (v1586 : BitVec 32) : Fin 2 → Nat :=
  let c0_i32_796 : BitVec 32 := 0#32
  ![v1586.toNat, 0]

def k0_chk142 (v1586 : BitVec 32) : Prop :=
  (∀ a, (k0_off570 v1586) a + S1x1024.size a ≤ S16384x1024.size a)
theorem k0_off570_inb : ∀ (v1586 : BitVec 32) (k0_hw142 : k0_chk142 v1586), ∀ a, (k0_off570 v1586) a + S1x1024.size a ≤ S16384x1024.size a := fun v1586 k0_hw142 => k0_hw142

def k0_off571 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_798 : BitVec 32 := 2112#32
  let v1593 : BitVec 32 := Scalar.muli v19 c2112_i32_798
  let arg1 : BitVec 32 := BitVec.ofNat 32 (i 1).val
  let c192_i32_799 : BitVec 32 := 192#32
  let v1594 : BitVec 32 := Scalar.muli arg1 c192_i32_799
  let v1595 : BitVec 32 := Scalar.addi v1593 v1594
  let c131_i32 : BitVec 32 := 131#32
  let v1596 : BitVec 32 := Scalar.addi v1595 c131_i32
  let v1597 : Index := Scalar.indexCast v1596
  ![v1597.toNat]
def k0_off572 (i : grid0.Coords) : Fin 1 → Nat :=
  let c1_i32_797 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1592 : BitVec 32 := Scalar.subi c1_i32_797 v9
  ![v1592.toNat]
def k0_off573 (i : grid0.Coords) : Fin 4 → Nat :=
  let c1_i32_797 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1592 : BitVec 32 := Scalar.subi c1_i32_797 v9
  let arg1 : BitVec 32 := BitVec.ofNat 32 (i 1).val
  let c131_i32_800 : BitVec 32 := 131#32
  let c0_i32_801 : BitVec 32 := 0#32
  ![v1592.toNat, arg1.toNat, 131, 0]
def k0_off574 (v1598 : BitVec 32) : Fin 2 → Nat :=
  let c0_i32_802 : BitVec 32 := 0#32
  ![v1598.toNat, 0]

def k0_chk143 (v1598 : BitVec 32) : Prop :=
  (∀ a, (k0_off574 v1598) a + S1x1024.size a ≤ S16384x1024.size a)
theorem k0_off574_inb : ∀ (v1598 : BitVec 32) (k0_hw143 : k0_chk143 v1598), ∀ a, (k0_off574 v1598) a + S1x1024.size a ≤ S16384x1024.size a := fun v1598 k0_hw143 => k0_hw143

def k0_off575 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_804 : BitVec 32 := 2112#32
  let v1605 : BitVec 32 := Scalar.muli v19 c2112_i32_804
  let arg1 : BitVec 32 := BitVec.ofNat 32 (i 1).val
  let c192_i32_805 : BitVec 32 := 192#32
  let v1606 : BitVec 32 := Scalar.muli arg1 c192_i32_805
  let v1607 : BitVec 32 := Scalar.addi v1605 v1606
  let c132_i32 : BitVec 32 := 132#32
  let v1608 : BitVec 32 := Scalar.addi v1607 c132_i32
  let v1609 : Index := Scalar.indexCast v1608
  ![v1609.toNat]
def k0_off576 (i : grid0.Coords) : Fin 1 → Nat :=
  let c1_i32_803 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1604 : BitVec 32 := Scalar.subi c1_i32_803 v9
  ![v1604.toNat]
def k0_off577 (i : grid0.Coords) : Fin 4 → Nat :=
  let c1_i32_803 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1604 : BitVec 32 := Scalar.subi c1_i32_803 v9
  let arg1 : BitVec 32 := BitVec.ofNat 32 (i 1).val
  let c132_i32_806 : BitVec 32 := 132#32
  let c0_i32_807 : BitVec 32 := 0#32
  ![v1604.toNat, arg1.toNat, 132, 0]
def k0_off578 (v1610 : BitVec 32) : Fin 2 → Nat :=
  let c0_i32_808 : BitVec 32 := 0#32
  ![v1610.toNat, 0]

def k0_chk144 (v1610 : BitVec 32) : Prop :=
  (∀ a, (k0_off578 v1610) a + S1x1024.size a ≤ S16384x1024.size a)
theorem k0_off578_inb : ∀ (v1610 : BitVec 32) (k0_hw144 : k0_chk144 v1610), ∀ a, (k0_off578 v1610) a + S1x1024.size a ≤ S16384x1024.size a := fun v1610 k0_hw144 => k0_hw144

def k0_off579 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_810 : BitVec 32 := 2112#32
  let v1617 : BitVec 32 := Scalar.muli v19 c2112_i32_810
  let arg1 : BitVec 32 := BitVec.ofNat 32 (i 1).val
  let c192_i32_811 : BitVec 32 := 192#32
  let v1618 : BitVec 32 := Scalar.muli arg1 c192_i32_811
  let v1619 : BitVec 32 := Scalar.addi v1617 v1618
  let c133_i32 : BitVec 32 := 133#32
  let v1620 : BitVec 32 := Scalar.addi v1619 c133_i32
  let v1621 : Index := Scalar.indexCast v1620
  ![v1621.toNat]
def k0_off580 (i : grid0.Coords) : Fin 1 → Nat :=
  let c1_i32_809 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1616 : BitVec 32 := Scalar.subi c1_i32_809 v9
  ![v1616.toNat]
def k0_off581 (i : grid0.Coords) : Fin 4 → Nat :=
  let c1_i32_809 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1616 : BitVec 32 := Scalar.subi c1_i32_809 v9
  let arg1 : BitVec 32 := BitVec.ofNat 32 (i 1).val
  let c133_i32_812 : BitVec 32 := 133#32
  let c0_i32_813 : BitVec 32 := 0#32
  ![v1616.toNat, arg1.toNat, 133, 0]
def k0_off582 (v1622 : BitVec 32) : Fin 2 → Nat :=
  let c0_i32_814 : BitVec 32 := 0#32
  ![v1622.toNat, 0]

def k0_chk145 (v1622 : BitVec 32) : Prop :=
  (∀ a, (k0_off582 v1622) a + S1x1024.size a ≤ S16384x1024.size a)
theorem k0_off582_inb : ∀ (v1622 : BitVec 32) (k0_hw145 : k0_chk145 v1622), ∀ a, (k0_off582 v1622) a + S1x1024.size a ≤ S16384x1024.size a := fun v1622 k0_hw145 => k0_hw145

def k0_off583 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_816 : BitVec 32 := 2112#32
  let v1629 : BitVec 32 := Scalar.muli v19 c2112_i32_816
  let arg1 : BitVec 32 := BitVec.ofNat 32 (i 1).val
  let c192_i32_817 : BitVec 32 := 192#32
  let v1630 : BitVec 32 := Scalar.muli arg1 c192_i32_817
  let v1631 : BitVec 32 := Scalar.addi v1629 v1630
  let c134_i32 : BitVec 32 := 134#32
  let v1632 : BitVec 32 := Scalar.addi v1631 c134_i32
  let v1633 : Index := Scalar.indexCast v1632
  ![v1633.toNat]
def k0_off584 (i : grid0.Coords) : Fin 1 → Nat :=
  let c1_i32_815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1628 : BitVec 32 := Scalar.subi c1_i32_815 v9
  ![v1628.toNat]
def k0_off585 (i : grid0.Coords) : Fin 4 → Nat :=
  let c1_i32_815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1628 : BitVec 32 := Scalar.subi c1_i32_815 v9
  let arg1 : BitVec 32 := BitVec.ofNat 32 (i 1).val
  let c134_i32_818 : BitVec 32 := 134#32
  let c0_i32_819 : BitVec 32 := 0#32
  ![v1628.toNat, arg1.toNat, 134, 0]
def k0_off586 (v1634 : BitVec 32) : Fin 2 → Nat :=
  let c0_i32_820 : BitVec 32 := 0#32
  ![v1634.toNat, 0]

def k0_chk146 (v1634 : BitVec 32) : Prop :=
  (∀ a, (k0_off586 v1634) a + S1x1024.size a ≤ S16384x1024.size a)
theorem k0_off586_inb : ∀ (v1634 : BitVec 32) (k0_hw146 : k0_chk146 v1634), ∀ a, (k0_off586 v1634) a + S1x1024.size a ≤ S16384x1024.size a := fun v1634 k0_hw146 => k0_hw146

def k0_off587 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_822 : BitVec 32 := 2112#32
  let v1641 : BitVec 32 := Scalar.muli v19 c2112_i32_822
  let arg1 : BitVec 32 := BitVec.ofNat 32 (i 1).val
  let c192_i32_823 : BitVec 32 := 192#32
  let v1642 : BitVec 32 := Scalar.muli arg1 c192_i32_823
  let v1643 : BitVec 32 := Scalar.addi v1641 v1642
  let c135_i32 : BitVec 32 := 135#32
  let v1644 : BitVec 32 := Scalar.addi v1643 c135_i32
  let v1645 : Index := Scalar.indexCast v1644
  ![v1645.toNat]
def k0_off588 (i : grid0.Coords) : Fin 1 → Nat :=
  let c1_i32_821 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1640 : BitVec 32 := Scalar.subi c1_i32_821 v9
  ![v1640.toNat]
def k0_off589 (i : grid0.Coords) : Fin 4 → Nat :=
  let c1_i32_821 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1640 : BitVec 32 := Scalar.subi c1_i32_821 v9
  let arg1 : BitVec 32 := BitVec.ofNat 32 (i 1).val
  let c135_i32_824 : BitVec 32 := 135#32
  let c0_i32_825 : BitVec 32 := 0#32
  ![v1640.toNat, arg1.toNat, 135, 0]
def k0_off590 (v1646 : BitVec 32) : Fin 2 → Nat :=
  let c0_i32_826 : BitVec 32 := 0#32
  ![v1646.toNat, 0]

def k0_chk147 (v1646 : BitVec 32) : Prop :=
  (∀ a, (k0_off590 v1646) a + S1x1024.size a ≤ S16384x1024.size a)
theorem k0_off590_inb : ∀ (v1646 : BitVec 32) (k0_hw147 : k0_chk147 v1646), ∀ a, (k0_off590 v1646) a + S1x1024.size a ≤ S16384x1024.size a := fun v1646 k0_hw147 => k0_hw147

def k0_off591 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_828 : BitVec 32 := 2112#32
  let v1653 : BitVec 32 := Scalar.muli v19 c2112_i32_828
  let arg1 : BitVec 32 := BitVec.ofNat 32 (i 1).val
  let c192_i32_829 : BitVec 32 := 192#32
  let v1654 : BitVec 32 := Scalar.muli arg1 c192_i32_829
  let v1655 : BitVec 32 := Scalar.addi v1653 v1654
  let c136_i32 : BitVec 32 := 136#32
  let v1656 : BitVec 32 := Scalar.addi v1655 c136_i32
  let v1657 : Index := Scalar.indexCast v1656
  ![v1657.toNat]
def k0_off592 (i : grid0.Coords) : Fin 1 → Nat :=
  let c1_i32_827 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1652 : BitVec 32 := Scalar.subi c1_i32_827 v9
  ![v1652.toNat]
def k0_off593 (i : grid0.Coords) : Fin 4 → Nat :=
  let c1_i32_827 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1652 : BitVec 32 := Scalar.subi c1_i32_827 v9
  let arg1 : BitVec 32 := BitVec.ofNat 32 (i 1).val
  let c136_i32_830 : BitVec 32 := 136#32
  let c0_i32_831 : BitVec 32 := 0#32
  ![v1652.toNat, arg1.toNat, 136, 0]
def k0_off594 (v1658 : BitVec 32) : Fin 2 → Nat :=
  let c0_i32_832 : BitVec 32 := 0#32
  ![v1658.toNat, 0]

def k0_chk148 (v1658 : BitVec 32) : Prop :=
  (∀ a, (k0_off594 v1658) a + S1x1024.size a ≤ S16384x1024.size a)
theorem k0_off594_inb : ∀ (v1658 : BitVec 32) (k0_hw148 : k0_chk148 v1658), ∀ a, (k0_off594 v1658) a + S1x1024.size a ≤ S16384x1024.size a := fun v1658 k0_hw148 => k0_hw148

def k0_off595 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_834 : BitVec 32 := 2112#32
  let v1665 : BitVec 32 := Scalar.muli v19 c2112_i32_834
  let arg1 : BitVec 32 := BitVec.ofNat 32 (i 1).val
  let c192_i32_835 : BitVec 32 := 192#32
  let v1666 : BitVec 32 := Scalar.muli arg1 c192_i32_835
  let v1667 : BitVec 32 := Scalar.addi v1665 v1666
  let c137_i32 : BitVec 32 := 137#32
  let v1668 : BitVec 32 := Scalar.addi v1667 c137_i32
  let v1669 : Index := Scalar.indexCast v1668
  ![v1669.toNat]
def k0_off596 (i : grid0.Coords) : Fin 1 → Nat :=
  let c1_i32_833 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1664 : BitVec 32 := Scalar.subi c1_i32_833 v9
  ![v1664.toNat]
def k0_off597 (i : grid0.Coords) : Fin 4 → Nat :=
  let c1_i32_833 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1664 : BitVec 32 := Scalar.subi c1_i32_833 v9
  let arg1 : BitVec 32 := BitVec.ofNat 32 (i 1).val
  let c137_i32_836 : BitVec 32 := 137#32
  let c0_i32_837 : BitVec 32 := 0#32
  ![v1664.toNat, arg1.toNat, 137, 0]
def k0_off598 (v1670 : BitVec 32) : Fin 2 → Nat :=
  let c0_i32_838 : BitVec 32 := 0#32
  ![v1670.toNat, 0]

def k0_chk149 (v1670 : BitVec 32) : Prop :=
  (∀ a, (k0_off598 v1670) a + S1x1024.size a ≤ S16384x1024.size a)
theorem k0_off598_inb : ∀ (v1670 : BitVec 32) (k0_hw149 : k0_chk149 v1670), ∀ a, (k0_off598 v1670) a + S1x1024.size a ≤ S16384x1024.size a := fun v1670 k0_hw149 => k0_hw149

def k0_off599 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_840 : BitVec 32 := 2112#32
  let v1677 : BitVec 32 := Scalar.muli v19 c2112_i32_840
  let arg1 : BitVec 32 := BitVec.ofNat 32 (i 1).val
  let c192_i32_841 : BitVec 32 := 192#32
  let v1678 : BitVec 32 := Scalar.muli arg1 c192_i32_841
  let v1679 : BitVec 32 := Scalar.addi v1677 v1678
  let c138_i32 : BitVec 32 := 138#32
  let v1680 : BitVec 32 := Scalar.addi v1679 c138_i32
  let v1681 : Index := Scalar.indexCast v1680
  ![v1681.toNat]
def k0_off600 (i : grid0.Coords) : Fin 1 → Nat :=
  let c1_i32_839 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1676 : BitVec 32 := Scalar.subi c1_i32_839 v9
  ![v1676.toNat]
def k0_off601 (i : grid0.Coords) : Fin 4 → Nat :=
  let c1_i32_839 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1676 : BitVec 32 := Scalar.subi c1_i32_839 v9
  let arg1 : BitVec 32 := BitVec.ofNat 32 (i 1).val
  let c138_i32_842 : BitVec 32 := 138#32
  let c0_i32_843 : BitVec 32 := 0#32
  ![v1676.toNat, arg1.toNat, 138, 0]
def k0_off602 (v1682 : BitVec 32) : Fin 2 → Nat :=
  let c0_i32_844 : BitVec 32 := 0#32
  ![v1682.toNat, 0]

def k0_chk150 (v1682 : BitVec 32) : Prop :=
  (∀ a, (k0_off602 v1682) a + S1x1024.size a ≤ S16384x1024.size a)
theorem k0_off602_inb : ∀ (v1682 : BitVec 32) (k0_hw150 : k0_chk150 v1682), ∀ a, (k0_off602 v1682) a + S1x1024.size a ≤ S16384x1024.size a := fun v1682 k0_hw150 => k0_hw150

def k0_off603 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_846 : BitVec 32 := 2112#32
  let v1689 : BitVec 32 := Scalar.muli v19 c2112_i32_846
  let arg1 : BitVec 32 := BitVec.ofNat 32 (i 1).val
  let c192_i32_847 : BitVec 32 := 192#32
  let v1690 : BitVec 32 := Scalar.muli arg1 c192_i32_847
  let v1691 : BitVec 32 := Scalar.addi v1689 v1690
  let c139_i32 : BitVec 32 := 139#32
  let v1692 : BitVec 32 := Scalar.addi v1691 c139_i32
  let v1693 : Index := Scalar.indexCast v1692
  ![v1693.toNat]
def k0_off604 (i : grid0.Coords) : Fin 1 → Nat :=
  let c1_i32_845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1688 : BitVec 32 := Scalar.subi c1_i32_845 v9
  ![v1688.toNat]
def k0_off605 (i : grid0.Coords) : Fin 4 → Nat :=
  let c1_i32_845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1688 : BitVec 32 := Scalar.subi c1_i32_845 v9
  let arg1 : BitVec 32 := BitVec.ofNat 32 (i 1).val
  let c139_i32_848 : BitVec 32 := 139#32
  let c0_i32_849 : BitVec 32 := 0#32
  ![v1688.toNat, arg1.toNat, 139, 0]
def k0_off606 (v1694 : BitVec 32) : Fin 2 → Nat :=
  let c0_i32_850 : BitVec 32 := 0#32
  ![v1694.toNat, 0]

def k0_chk151 (v1694 : BitVec 32) : Prop :=
  (∀ a, (k0_off606 v1694) a + S1x1024.size a ≤ S16384x1024.size a)
theorem k0_off606_inb : ∀ (v1694 : BitVec 32) (k0_hw151 : k0_chk151 v1694), ∀ a, (k0_off606 v1694) a + S1x1024.size a ≤ S16384x1024.size a := fun v1694 k0_hw151 => k0_hw151

def k0_off607 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_852 : BitVec 32 := 2112#32
  let v1701 : BitVec 32 := Scalar.muli v19 c2112_i32_852
  let arg1 : BitVec 32 := BitVec.ofNat 32 (i 1).val
  let c192_i32_853 : BitVec 32 := 192#32
  let v1702 : BitVec 32 := Scalar.muli arg1 c192_i32_853
  let v1703 : BitVec 32 := Scalar.addi v1701 v1702
  let c140_i32 : BitVec 32 := 140#32
  let v1704 : BitVec 32 := Scalar.addi v1703 c140_i32
  let v1705 : Index := Scalar.indexCast v1704
  ![v1705.toNat]
def k0_off608 (i : grid0.Coords) : Fin 1 → Nat :=
  let c1_i32_851 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1700 : BitVec 32 := Scalar.subi c1_i32_851 v9
  ![v1700.toNat]
def k0_off609 (i : grid0.Coords) : Fin 4 → Nat :=
  let c1_i32_851 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1700 : BitVec 32 := Scalar.subi c1_i32_851 v9
  let arg1 : BitVec 32 := BitVec.ofNat 32 (i 1).val
  let c140_i32_854 : BitVec 32 := 140#32
  let c0_i32_855 : BitVec 32 := 0#32
  ![v1700.toNat, arg1.toNat, 140, 0]
def k0_off610 (v1706 : BitVec 32) : Fin 2 → Nat :=
  let c0_i32_856 : BitVec 32 := 0#32
  ![v1706.toNat, 0]

def k0_chk152 (v1706 : BitVec 32) : Prop :=
  (∀ a, (k0_off610 v1706) a + S1x1024.size a ≤ S16384x1024.size a)
theorem k0_off610_inb : ∀ (v1706 : BitVec 32) (k0_hw152 : k0_chk152 v1706), ∀ a, (k0_off610 v1706) a + S1x1024.size a ≤ S16384x1024.size a := fun v1706 k0_hw152 => k0_hw152

def k0_off611 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_858 : BitVec 32 := 2112#32
  let v1713 : BitVec 32 := Scalar.muli v19 c2112_i32_858
  let arg1 : BitVec 32 := BitVec.ofNat 32 (i 1).val
  let c192_i32_859 : BitVec 32 := 192#32
  let v1714 : BitVec 32 := Scalar.muli arg1 c192_i32_859
  let v1715 : BitVec 32 := Scalar.addi v1713 v1714
  let c141_i32 : BitVec 32 := 141#32
  let v1716 : BitVec 32 := Scalar.addi v1715 c141_i32
  let v1717 : Index := Scalar.indexCast v1716
  ![v1717.toNat]
def k0_off612 (i : grid0.Coords) : Fin 1 → Nat :=
  let c1_i32_857 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1712 : BitVec 32 := Scalar.subi c1_i32_857 v9
  ![v1712.toNat]
def k0_off613 (i : grid0.Coords) : Fin 4 → Nat :=
  let c1_i32_857 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1712 : BitVec 32 := Scalar.subi c1_i32_857 v9
  let arg1 : BitVec 32 := BitVec.ofNat 32 (i 1).val
  let c141_i32_860 : BitVec 32 := 141#32
  let c0_i32_861 : BitVec 32 := 0#32
  ![v1712.toNat, arg1.toNat, 141, 0]
def k0_off614 (v1718 : BitVec 32) : Fin 2 → Nat :=
  let c0_i32_862 : BitVec 32 := 0#32
  ![v1718.toNat, 0]

def k0_chk153 (v1718 : BitVec 32) : Prop :=
  (∀ a, (k0_off614 v1718) a + S1x1024.size a ≤ S16384x1024.size a)
theorem k0_off614_inb : ∀ (v1718 : BitVec 32) (k0_hw153 : k0_chk153 v1718), ∀ a, (k0_off614 v1718) a + S1x1024.size a ≤ S16384x1024.size a := fun v1718 k0_hw153 => k0_hw153

def k0_off615 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_864 : BitVec 32 := 2112#32
  let v1725 : BitVec 32 := Scalar.muli v19 c2112_i32_864
  let arg1 : BitVec 32 := BitVec.ofNat 32 (i 1).val
  let c192_i32_865 : BitVec 32 := 192#32
  let v1726 : BitVec 32 := Scalar.muli arg1 c192_i32_865
  let v1727 : BitVec 32 := Scalar.addi v1725 v1726
  let c142_i32 : BitVec 32 := 142#32
  let v1728 : BitVec 32 := Scalar.addi v1727 c142_i32
  let v1729 : Index := Scalar.indexCast v1728
  ![v1729.toNat]
def k0_off616 (i : grid0.Coords) : Fin 1 → Nat :=
  let c1_i32_863 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1724 : BitVec 32 := Scalar.subi c1_i32_863 v9
  ![v1724.toNat]
def k0_off617 (i : grid0.Coords) : Fin 4 → Nat :=
  let c1_i32_863 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1724 : BitVec 32 := Scalar.subi c1_i32_863 v9
  let arg1 : BitVec 32 := BitVec.ofNat 32 (i 1).val
  let c142_i32_866 : BitVec 32 := 142#32
  let c0_i32_867 : BitVec 32 := 0#32
  ![v1724.toNat, arg1.toNat, 142, 0]
def k0_off618 (v1730 : BitVec 32) : Fin 2 → Nat :=
  let c0_i32_868 : BitVec 32 := 0#32
  ![v1730.toNat, 0]

def k0_chk154 (v1730 : BitVec 32) : Prop :=
  (∀ a, (k0_off618 v1730) a + S1x1024.size a ≤ S16384x1024.size a)
theorem k0_off618_inb : ∀ (v1730 : BitVec 32) (k0_hw154 : k0_chk154 v1730), ∀ a, (k0_off618 v1730) a + S1x1024.size a ≤ S16384x1024.size a := fun v1730 k0_hw154 => k0_hw154

def k0_off619 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_870 : BitVec 32 := 2112#32
  let v1737 : BitVec 32 := Scalar.muli v19 c2112_i32_870
  let arg1 : BitVec 32 := BitVec.ofNat 32 (i 1).val
  let c192_i32_871 : BitVec 32 := 192#32
  let v1738 : BitVec 32 := Scalar.muli arg1 c192_i32_871
  let v1739 : BitVec 32 := Scalar.addi v1737 v1738
  let c143_i32 : BitVec 32 := 143#32
  let v1740 : BitVec 32 := Scalar.addi v1739 c143_i32
  let v1741 : Index := Scalar.indexCast v1740
  ![v1741.toNat]
def k0_off620 (i : grid0.Coords) : Fin 1 → Nat :=
  let c1_i32_869 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1736 : BitVec 32 := Scalar.subi c1_i32_869 v9
  ![v1736.toNat]
def k0_off621 (i : grid0.Coords) : Fin 4 → Nat :=
  let c1_i32_869 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1736 : BitVec 32 := Scalar.subi c1_i32_869 v9
  let arg1 : BitVec 32 := BitVec.ofNat 32 (i 1).val
  let c143_i32_872 : BitVec 32 := 143#32
  let c0_i32_873 : BitVec 32 := 0#32
  ![v1736.toNat, arg1.toNat, 143, 0]
def k0_off622 (v1742 : BitVec 32) : Fin 2 → Nat :=
  let c0_i32_874 : BitVec 32 := 0#32
  ![v1742.toNat, 0]

def k0_chk155 (v1742 : BitVec 32) : Prop :=
  (∀ a, (k0_off622 v1742) a + S1x1024.size a ≤ S16384x1024.size a)
theorem k0_off622_inb : ∀ (v1742 : BitVec 32) (k0_hw155 : k0_chk155 v1742), ∀ a, (k0_off622 v1742) a + S1x1024.size a ≤ S16384x1024.size a := fun v1742 k0_hw155 => k0_hw155

def k0_off623 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_876 : BitVec 32 := 2112#32
  let v1749 : BitVec 32 := Scalar.muli v19 c2112_i32_876
  let arg1 : BitVec 32 := BitVec.ofNat 32 (i 1).val
  let c192_i32_877 : BitVec 32 := 192#32
  let v1750 : BitVec 32 := Scalar.muli arg1 c192_i32_877
  let v1751 : BitVec 32 := Scalar.addi v1749 v1750
  let c144_i32 : BitVec 32 := 144#32
  let v1752 : BitVec 32 := Scalar.addi v1751 c144_i32
  let v1753 : Index := Scalar.indexCast v1752
  ![v1753.toNat]
def k0_off624 (i : grid0.Coords) : Fin 1 → Nat :=
  let c1_i32_875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1748 : BitVec 32 := Scalar.subi c1_i32_875 v9
  ![v1748.toNat]
def k0_off625 (i : grid0.Coords) : Fin 4 → Nat :=
  let c1_i32_875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1748 : BitVec 32 := Scalar.subi c1_i32_875 v9
  let arg1 : BitVec 32 := BitVec.ofNat 32 (i 1).val
  let c144_i32_878 : BitVec 32 := 144#32
  let c0_i32_879 : BitVec 32 := 0#32
  ![v1748.toNat, arg1.toNat, 144, 0]
def k0_off626 (v1754 : BitVec 32) : Fin 2 → Nat :=
  let c0_i32_880 : BitVec 32 := 0#32
  ![v1754.toNat, 0]

def k0_chk156 (v1754 : BitVec 32) : Prop :=
  (∀ a, (k0_off626 v1754) a + S1x1024.size a ≤ S16384x1024.size a)
theorem k0_off626_inb : ∀ (v1754 : BitVec 32) (k0_hw156 : k0_chk156 v1754), ∀ a, (k0_off626 v1754) a + S1x1024.size a ≤ S16384x1024.size a := fun v1754 k0_hw156 => k0_hw156

def k0_off627 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_882 : BitVec 32 := 2112#32
  let v1761 : BitVec 32 := Scalar.muli v19 c2112_i32_882
  let arg1 : BitVec 32 := BitVec.ofNat 32 (i 1).val
  let c192_i32_883 : BitVec 32 := 192#32
  let v1762 : BitVec 32 := Scalar.muli arg1 c192_i32_883
  let v1763 : BitVec 32 := Scalar.addi v1761 v1762
  let c145_i32 : BitVec 32 := 145#32
  let v1764 : BitVec 32 := Scalar.addi v1763 c145_i32
  let v1765 : Index := Scalar.indexCast v1764
  ![v1765.toNat]
def k0_off628 (i : grid0.Coords) : Fin 1 → Nat :=
  let c1_i32_881 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1760 : BitVec 32 := Scalar.subi c1_i32_881 v9
  ![v1760.toNat]
def k0_off629 (i : grid0.Coords) : Fin 4 → Nat :=
  let c1_i32_881 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1760 : BitVec 32 := Scalar.subi c1_i32_881 v9
  let arg1 : BitVec 32 := BitVec.ofNat 32 (i 1).val
  let c145_i32_884 : BitVec 32 := 145#32
  let c0_i32_885 : BitVec 32 := 0#32
  ![v1760.toNat, arg1.toNat, 145, 0]
def k0_off630 (v1766 : BitVec 32) : Fin 2 → Nat :=
  let c0_i32_886 : BitVec 32 := 0#32
  ![v1766.toNat, 0]

def k0_chk157 (v1766 : BitVec 32) : Prop :=
  (∀ a, (k0_off630 v1766) a + S1x1024.size a ≤ S16384x1024.size a)
theorem k0_off630_inb : ∀ (v1766 : BitVec 32) (k0_hw157 : k0_chk157 v1766), ∀ a, (k0_off630 v1766) a + S1x1024.size a ≤ S16384x1024.size a := fun v1766 k0_hw157 => k0_hw157

def k0_off631 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_888 : BitVec 32 := 2112#32
  let v1773 : BitVec 32 := Scalar.muli v19 c2112_i32_888
  let arg1 : BitVec 32 := BitVec.ofNat 32 (i 1).val
  let c192_i32_889 : BitVec 32 := 192#32
  let v1774 : BitVec 32 := Scalar.muli arg1 c192_i32_889
  let v1775 : BitVec 32 := Scalar.addi v1773 v1774
  let c146_i32 : BitVec 32 := 146#32
  let v1776 : BitVec 32 := Scalar.addi v1775 c146_i32
  let v1777 : Index := Scalar.indexCast v1776
  ![v1777.toNat]
def k0_off632 (i : grid0.Coords) : Fin 1 → Nat :=
  let c1_i32_887 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1772 : BitVec 32 := Scalar.subi c1_i32_887 v9
  ![v1772.toNat]
def k0_off633 (i : grid0.Coords) : Fin 4 → Nat :=
  let c1_i32_887 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1772 : BitVec 32 := Scalar.subi c1_i32_887 v9
  let arg1 : BitVec 32 := BitVec.ofNat 32 (i 1).val
  let c146_i32_890 : BitVec 32 := 146#32
  let c0_i32_891 : BitVec 32 := 0#32
  ![v1772.toNat, arg1.toNat, 146, 0]
def k0_off634 (v1778 : BitVec 32) : Fin 2 → Nat :=
  let c0_i32_892 : BitVec 32 := 0#32
  ![v1778.toNat, 0]

def k0_chk158 (v1778 : BitVec 32) : Prop :=
  (∀ a, (k0_off634 v1778) a + S1x1024.size a ≤ S16384x1024.size a)
theorem k0_off634_inb : ∀ (v1778 : BitVec 32) (k0_hw158 : k0_chk158 v1778), ∀ a, (k0_off634 v1778) a + S1x1024.size a ≤ S16384x1024.size a := fun v1778 k0_hw158 => k0_hw158

def k0_off635 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_894 : BitVec 32 := 2112#32
  let v1785 : BitVec 32 := Scalar.muli v19 c2112_i32_894
  let arg1 : BitVec 32 := BitVec.ofNat 32 (i 1).val
  let c192_i32_895 : BitVec 32 := 192#32
  let v1786 : BitVec 32 := Scalar.muli arg1 c192_i32_895
  let v1787 : BitVec 32 := Scalar.addi v1785 v1786
  let c147_i32 : BitVec 32 := 147#32
  let v1788 : BitVec 32 := Scalar.addi v1787 c147_i32
  let v1789 : Index := Scalar.indexCast v1788
  ![v1789.toNat]
def k0_off636 (i : grid0.Coords) : Fin 1 → Nat :=
  let c1_i32_893 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1784 : BitVec 32 := Scalar.subi c1_i32_893 v9
  ![v1784.toNat]
def k0_off637 (i : grid0.Coords) : Fin 4 → Nat :=
  let c1_i32_893 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1784 : BitVec 32 := Scalar.subi c1_i32_893 v9
  let arg1 : BitVec 32 := BitVec.ofNat 32 (i 1).val
  let c147_i32_896 : BitVec 32 := 147#32
  let c0_i32_897 : BitVec 32 := 0#32
  ![v1784.toNat, arg1.toNat, 147, 0]
def k0_off638 (v1790 : BitVec 32) : Fin 2 → Nat :=
  let c0_i32_898 : BitVec 32 := 0#32
  ![v1790.toNat, 0]

def k0_chk159 (v1790 : BitVec 32) : Prop :=
  (∀ a, (k0_off638 v1790) a + S1x1024.size a ≤ S16384x1024.size a)
theorem k0_off638_inb : ∀ (v1790 : BitVec 32) (k0_hw159 : k0_chk159 v1790), ∀ a, (k0_off638 v1790) a + S1x1024.size a ≤ S16384x1024.size a := fun v1790 k0_hw159 => k0_hw159

def k0_off639 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_900 : BitVec 32 := 2112#32
  let v1797 : BitVec 32 := Scalar.muli v19 c2112_i32_900
  let arg1 : BitVec 32 := BitVec.ofNat 32 (i 1).val
  let c192_i32_901 : BitVec 32 := 192#32
  let v1798 : BitVec 32 := Scalar.muli arg1 c192_i32_901
  let v1799 : BitVec 32 := Scalar.addi v1797 v1798
  let c148_i32 : BitVec 32 := 148#32
  let v1800 : BitVec 32 := Scalar.addi v1799 c148_i32
  let v1801 : Index := Scalar.indexCast v1800
  ![v1801.toNat]
def k0_off640 (i : grid0.Coords) : Fin 1 → Nat :=
  let c1_i32_899 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1796 : BitVec 32 := Scalar.subi c1_i32_899 v9
  ![v1796.toNat]
def k0_off641 (i : grid0.Coords) : Fin 4 → Nat :=
  let c1_i32_899 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1796 : BitVec 32 := Scalar.subi c1_i32_899 v9
  let arg1 : BitVec 32 := BitVec.ofNat 32 (i 1).val
  let c148_i32_902 : BitVec 32 := 148#32
  let c0_i32_903 : BitVec 32 := 0#32
  ![v1796.toNat, arg1.toNat, 148, 0]
def k0_off642 (v1802 : BitVec 32) : Fin 2 → Nat :=
  let c0_i32_904 : BitVec 32 := 0#32
  ![v1802.toNat, 0]

def k0_chk160 (v1802 : BitVec 32) : Prop :=
  (∀ a, (k0_off642 v1802) a + S1x1024.size a ≤ S16384x1024.size a)
theorem k0_off642_inb : ∀ (v1802 : BitVec 32) (k0_hw160 : k0_chk160 v1802), ∀ a, (k0_off642 v1802) a + S1x1024.size a ≤ S16384x1024.size a := fun v1802 k0_hw160 => k0_hw160

def k0_off643 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_906 : BitVec 32 := 2112#32
  let v1809 : BitVec 32 := Scalar.muli v19 c2112_i32_906
  let arg1 : BitVec 32 := BitVec.ofNat 32 (i 1).val
  let c192_i32_907 : BitVec 32 := 192#32
  let v1810 : BitVec 32 := Scalar.muli arg1 c192_i32_907
  let v1811 : BitVec 32 := Scalar.addi v1809 v1810
  let c149_i32 : BitVec 32 := 149#32
  let v1812 : BitVec 32 := Scalar.addi v1811 c149_i32
  let v1813 : Index := Scalar.indexCast v1812
  ![v1813.toNat]
def k0_off644 (i : grid0.Coords) : Fin 1 → Nat :=
  let c1_i32_905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1808 : BitVec 32 := Scalar.subi c1_i32_905 v9
  ![v1808.toNat]
def k0_off645 (i : grid0.Coords) : Fin 4 → Nat :=
  let c1_i32_905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1808 : BitVec 32 := Scalar.subi c1_i32_905 v9
  let arg1 : BitVec 32 := BitVec.ofNat 32 (i 1).val
  let c149_i32_908 : BitVec 32 := 149#32
  let c0_i32_909 : BitVec 32 := 0#32
  ![v1808.toNat, arg1.toNat, 149, 0]
def k0_off646 (v1814 : BitVec 32) : Fin 2 → Nat :=
  let c0_i32_910 : BitVec 32 := 0#32
  ![v1814.toNat, 0]

def k0_chk161 (v1814 : BitVec 32) : Prop :=
  (∀ a, (k0_off646 v1814) a + S1x1024.size a ≤ S16384x1024.size a)
theorem k0_off646_inb : ∀ (v1814 : BitVec 32) (k0_hw161 : k0_chk161 v1814), ∀ a, (k0_off646 v1814) a + S1x1024.size a ≤ S16384x1024.size a := fun v1814 k0_hw161 => k0_hw161

def k0_off647 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_912 : BitVec 32 := 2112#32
  let v1821 : BitVec 32 := Scalar.muli v19 c2112_i32_912
  let arg1 : BitVec 32 := BitVec.ofNat 32 (i 1).val
  let c192_i32_913 : BitVec 32 := 192#32
  let v1822 : BitVec 32 := Scalar.muli arg1 c192_i32_913
  let v1823 : BitVec 32 := Scalar.addi v1821 v1822
  let c150_i32 : BitVec 32 := 150#32
  let v1824 : BitVec 32 := Scalar.addi v1823 c150_i32
  let v1825 : Index := Scalar.indexCast v1824
  ![v1825.toNat]
def k0_off648 (i : grid0.Coords) : Fin 1 → Nat :=
  let c1_i32_911 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1820 : BitVec 32 := Scalar.subi c1_i32_911 v9
  ![v1820.toNat]
def k0_off649 (i : grid0.Coords) : Fin 4 → Nat :=
  let c1_i32_911 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1820 : BitVec 32 := Scalar.subi c1_i32_911 v9
  let arg1 : BitVec 32 := BitVec.ofNat 32 (i 1).val
  let c150_i32_914 : BitVec 32 := 150#32
  let c0_i32_915 : BitVec 32 := 0#32
  ![v1820.toNat, arg1.toNat, 150, 0]
def k0_off650 (v1826 : BitVec 32) : Fin 2 → Nat :=
  let c0_i32_916 : BitVec 32 := 0#32
  ![v1826.toNat, 0]

def k0_chk162 (v1826 : BitVec 32) : Prop :=
  (∀ a, (k0_off650 v1826) a + S1x1024.size a ≤ S16384x1024.size a)
theorem k0_off650_inb : ∀ (v1826 : BitVec 32) (k0_hw162 : k0_chk162 v1826), ∀ a, (k0_off650 v1826) a + S1x1024.size a ≤ S16384x1024.size a := fun v1826 k0_hw162 => k0_hw162

def k0_off651 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_918 : BitVec 32 := 2112#32
  let v1833 : BitVec 32 := Scalar.muli v19 c2112_i32_918
  let arg1 : BitVec 32 := BitVec.ofNat 32 (i 1).val
  let c192_i32_919 : BitVec 32 := 192#32
  let v1834 : BitVec 32 := Scalar.muli arg1 c192_i32_919
  let v1835 : BitVec 32 := Scalar.addi v1833 v1834
  let c151_i32 : BitVec 32 := 151#32
  let v1836 : BitVec 32 := Scalar.addi v1835 c151_i32
  let v1837 : Index := Scalar.indexCast v1836
  ![v1837.toNat]
def k0_off652 (i : grid0.Coords) : Fin 1 → Nat :=
  let c1_i32_917 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1832 : BitVec 32 := Scalar.subi c1_i32_917 v9
  ![v1832.toNat]
def k0_off653 (i : grid0.Coords) : Fin 4 → Nat :=
  let c1_i32_917 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1832 : BitVec 32 := Scalar.subi c1_i32_917 v9
  let arg1 : BitVec 32 := BitVec.ofNat 32 (i 1).val
  let c151_i32_920 : BitVec 32 := 151#32
  let c0_i32_921 : BitVec 32 := 0#32
  ![v1832.toNat, arg1.toNat, 151, 0]
def k0_off654 (v1838 : BitVec 32) : Fin 2 → Nat :=
  let c0_i32_922 : BitVec 32 := 0#32
  ![v1838.toNat, 0]

def k0_chk163 (v1838 : BitVec 32) : Prop :=
  (∀ a, (k0_off654 v1838) a + S1x1024.size a ≤ S16384x1024.size a)
theorem k0_off654_inb : ∀ (v1838 : BitVec 32) (k0_hw163 : k0_chk163 v1838), ∀ a, (k0_off654 v1838) a + S1x1024.size a ≤ S16384x1024.size a := fun v1838 k0_hw163 => k0_hw163

def k0_off655 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_924 : BitVec 32 := 2112#32
  let v1845 : BitVec 32 := Scalar.muli v19 c2112_i32_924
  let arg1 : BitVec 32 := BitVec.ofNat 32 (i 1).val
  let c192_i32_925 : BitVec 32 := 192#32
  let v1846 : BitVec 32 := Scalar.muli arg1 c192_i32_925
  let v1847 : BitVec 32 := Scalar.addi v1845 v1846
  let c152_i32 : BitVec 32 := 152#32
  let v1848 : BitVec 32 := Scalar.addi v1847 c152_i32
  let v1849 : Index := Scalar.indexCast v1848
  ![v1849.toNat]
def k0_off656 (i : grid0.Coords) : Fin 1 → Nat :=
  let c1_i32_923 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1844 : BitVec 32 := Scalar.subi c1_i32_923 v9
  ![v1844.toNat]
def k0_off657 (i : grid0.Coords) : Fin 4 → Nat :=
  let c1_i32_923 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1844 : BitVec 32 := Scalar.subi c1_i32_923 v9
  let arg1 : BitVec 32 := BitVec.ofNat 32 (i 1).val
  let c152_i32_926 : BitVec 32 := 152#32
  let c0_i32_927 : BitVec 32 := 0#32
  ![v1844.toNat, arg1.toNat, 152, 0]
def k0_off658 (v1850 : BitVec 32) : Fin 2 → Nat :=
  let c0_i32_928 : BitVec 32 := 0#32
  ![v1850.toNat, 0]

def k0_chk164 (v1850 : BitVec 32) : Prop :=
  (∀ a, (k0_off658 v1850) a + S1x1024.size a ≤ S16384x1024.size a)
theorem k0_off658_inb : ∀ (v1850 : BitVec 32) (k0_hw164 : k0_chk164 v1850), ∀ a, (k0_off658 v1850) a + S1x1024.size a ≤ S16384x1024.size a := fun v1850 k0_hw164 => k0_hw164

def k0_off659 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_930 : BitVec 32 := 2112#32
  let v1857 : BitVec 32 := Scalar.muli v19 c2112_i32_930
  let arg1 : BitVec 32 := BitVec.ofNat 32 (i 1).val
  let c192_i32_931 : BitVec 32 := 192#32
  let v1858 : BitVec 32 := Scalar.muli arg1 c192_i32_931
  let v1859 : BitVec 32 := Scalar.addi v1857 v1858
  let c153_i32 : BitVec 32 := 153#32
  let v1860 : BitVec 32 := Scalar.addi v1859 c153_i32
  let v1861 : Index := Scalar.indexCast v1860
  ![v1861.toNat]
def k0_off660 (i : grid0.Coords) : Fin 1 → Nat :=
  let c1_i32_929 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1856 : BitVec 32 := Scalar.subi c1_i32_929 v9
  ![v1856.toNat]
def k0_off661 (i : grid0.Coords) : Fin 4 → Nat :=
  let c1_i32_929 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1856 : BitVec 32 := Scalar.subi c1_i32_929 v9
  let arg1 : BitVec 32 := BitVec.ofNat 32 (i 1).val
  let c153_i32_932 : BitVec 32 := 153#32
  let c0_i32_933 : BitVec 32 := 0#32
  ![v1856.toNat, arg1.toNat, 153, 0]
def k0_off662 (v1862 : BitVec 32) : Fin 2 → Nat :=
  let c0_i32_934 : BitVec 32 := 0#32
  ![v1862.toNat, 0]

def k0_chk165 (v1862 : BitVec 32) : Prop :=
  (∀ a, (k0_off662 v1862) a + S1x1024.size a ≤ S16384x1024.size a)
theorem k0_off662_inb : ∀ (v1862 : BitVec 32) (k0_hw165 : k0_chk165 v1862), ∀ a, (k0_off662 v1862) a + S1x1024.size a ≤ S16384x1024.size a := fun v1862 k0_hw165 => k0_hw165

def k0_off663 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_936 : BitVec 32 := 2112#32
  let v1869 : BitVec 32 := Scalar.muli v19 c2112_i32_936
  let arg1 : BitVec 32 := BitVec.ofNat 32 (i 1).val
  let c192_i32_937 : BitVec 32 := 192#32
  let v1870 : BitVec 32 := Scalar.muli arg1 c192_i32_937
  let v1871 : BitVec 32 := Scalar.addi v1869 v1870
  let c154_i32 : BitVec 32 := 154#32
  let v1872 : BitVec 32 := Scalar.addi v1871 c154_i32
  let v1873 : Index := Scalar.indexCast v1872
  ![v1873.toNat]
def k0_off664 (i : grid0.Coords) : Fin 1 → Nat :=
  let c1_i32_935 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1868 : BitVec 32 := Scalar.subi c1_i32_935 v9
  ![v1868.toNat]
def k0_off665 (i : grid0.Coords) : Fin 4 → Nat :=
  let c1_i32_935 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1868 : BitVec 32 := Scalar.subi c1_i32_935 v9
  let arg1 : BitVec 32 := BitVec.ofNat 32 (i 1).val
  let c154_i32_938 : BitVec 32 := 154#32
  let c0_i32_939 : BitVec 32 := 0#32
  ![v1868.toNat, arg1.toNat, 154, 0]
def k0_off666 (v1874 : BitVec 32) : Fin 2 → Nat :=
  let c0_i32_940 : BitVec 32 := 0#32
  ![v1874.toNat, 0]

def k0_chk166 (v1874 : BitVec 32) : Prop :=
  (∀ a, (k0_off666 v1874) a + S1x1024.size a ≤ S16384x1024.size a)
theorem k0_off666_inb : ∀ (v1874 : BitVec 32) (k0_hw166 : k0_chk166 v1874), ∀ a, (k0_off666 v1874) a + S1x1024.size a ≤ S16384x1024.size a := fun v1874 k0_hw166 => k0_hw166

def k0_off667 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_942 : BitVec 32 := 2112#32
  let v1881 : BitVec 32 := Scalar.muli v19 c2112_i32_942
  let arg1 : BitVec 32 := BitVec.ofNat 32 (i 1).val
  let c192_i32_943 : BitVec 32 := 192#32
  let v1882 : BitVec 32 := Scalar.muli arg1 c192_i32_943
  let v1883 : BitVec 32 := Scalar.addi v1881 v1882
  let c155_i32 : BitVec 32 := 155#32
  let v1884 : BitVec 32 := Scalar.addi v1883 c155_i32
  let v1885 : Index := Scalar.indexCast v1884
  ![v1885.toNat]
def k0_off668 (i : grid0.Coords) : Fin 1 → Nat :=
  let c1_i32_941 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1880 : BitVec 32 := Scalar.subi c1_i32_941 v9
  ![v1880.toNat]
def k0_off669 (i : grid0.Coords) : Fin 4 → Nat :=
  let c1_i32_941 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1880 : BitVec 32 := Scalar.subi c1_i32_941 v9
  let arg1 : BitVec 32 := BitVec.ofNat 32 (i 1).val
  let c155_i32_944 : BitVec 32 := 155#32
  let c0_i32_945 : BitVec 32 := 0#32
  ![v1880.toNat, arg1.toNat, 155, 0]
def k0_off670 (v1886 : BitVec 32) : Fin 2 → Nat :=
  let c0_i32_946 : BitVec 32 := 0#32
  ![v1886.toNat, 0]

def k0_chk167 (v1886 : BitVec 32) : Prop :=
  (∀ a, (k0_off670 v1886) a + S1x1024.size a ≤ S16384x1024.size a)
theorem k0_off670_inb : ∀ (v1886 : BitVec 32) (k0_hw167 : k0_chk167 v1886), ∀ a, (k0_off670 v1886) a + S1x1024.size a ≤ S16384x1024.size a := fun v1886 k0_hw167 => k0_hw167

def k0_off671 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_948 : BitVec 32 := 2112#32
  let v1893 : BitVec 32 := Scalar.muli v19 c2112_i32_948
  let arg1 : BitVec 32 := BitVec.ofNat 32 (i 1).val
  let c192_i32_949 : BitVec 32 := 192#32
  let v1894 : BitVec 32 := Scalar.muli arg1 c192_i32_949
  let v1895 : BitVec 32 := Scalar.addi v1893 v1894
  let c156_i32 : BitVec 32 := 156#32
  let v1896 : BitVec 32 := Scalar.addi v1895 c156_i32
  let v1897 : Index := Scalar.indexCast v1896
  ![v1897.toNat]
def k0_off672 (i : grid0.Coords) : Fin 1 → Nat :=
  let c1_i32_947 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1892 : BitVec 32 := Scalar.subi c1_i32_947 v9
  ![v1892.toNat]
def k0_off673 (i : grid0.Coords) : Fin 4 → Nat :=
  let c1_i32_947 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1892 : BitVec 32 := Scalar.subi c1_i32_947 v9
  let arg1 : BitVec 32 := BitVec.ofNat 32 (i 1).val
  let c156_i32_950 : BitVec 32 := 156#32
  let c0_i32_951 : BitVec 32 := 0#32
  ![v1892.toNat, arg1.toNat, 156, 0]
def k0_off674 (v1898 : BitVec 32) : Fin 2 → Nat :=
  let c0_i32_952 : BitVec 32 := 0#32
  ![v1898.toNat, 0]

def k0_chk168 (v1898 : BitVec 32) : Prop :=
  (∀ a, (k0_off674 v1898) a + S1x1024.size a ≤ S16384x1024.size a)
theorem k0_off674_inb : ∀ (v1898 : BitVec 32) (k0_hw168 : k0_chk168 v1898), ∀ a, (k0_off674 v1898) a + S1x1024.size a ≤ S16384x1024.size a := fun v1898 k0_hw168 => k0_hw168

def k0_off675 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_954 : BitVec 32 := 2112#32
  let v1905 : BitVec 32 := Scalar.muli v19 c2112_i32_954
  let arg1 : BitVec 32 := BitVec.ofNat 32 (i 1).val
  let c192_i32_955 : BitVec 32 := 192#32
  let v1906 : BitVec 32 := Scalar.muli arg1 c192_i32_955
  let v1907 : BitVec 32 := Scalar.addi v1905 v1906
  let c157_i32 : BitVec 32 := 157#32
  let v1908 : BitVec 32 := Scalar.addi v1907 c157_i32
  let v1909 : Index := Scalar.indexCast v1908
  ![v1909.toNat]
def k0_off676 (i : grid0.Coords) : Fin 1 → Nat :=
  let c1_i32_953 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1904 : BitVec 32 := Scalar.subi c1_i32_953 v9
  ![v1904.toNat]
def k0_off677 (i : grid0.Coords) : Fin 4 → Nat :=
  let c1_i32_953 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1904 : BitVec 32 := Scalar.subi c1_i32_953 v9
  let arg1 : BitVec 32 := BitVec.ofNat 32 (i 1).val
  let c157_i32_956 : BitVec 32 := 157#32
  let c0_i32_957 : BitVec 32 := 0#32
  ![v1904.toNat, arg1.toNat, 157, 0]
def k0_off678 (v1910 : BitVec 32) : Fin 2 → Nat :=
  let c0_i32_958 : BitVec 32 := 0#32
  ![v1910.toNat, 0]

def k0_chk169 (v1910 : BitVec 32) : Prop :=
  (∀ a, (k0_off678 v1910) a + S1x1024.size a ≤ S16384x1024.size a)
theorem k0_off678_inb : ∀ (v1910 : BitVec 32) (k0_hw169 : k0_chk169 v1910), ∀ a, (k0_off678 v1910) a + S1x1024.size a ≤ S16384x1024.size a := fun v1910 k0_hw169 => k0_hw169

def k0_off679 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_960 : BitVec 32 := 2112#32
  let v1917 : BitVec 32 := Scalar.muli v19 c2112_i32_960
  let arg1 : BitVec 32 := BitVec.ofNat 32 (i 1).val
  let c192_i32_961 : BitVec 32 := 192#32
  let v1918 : BitVec 32 := Scalar.muli arg1 c192_i32_961
  let v1919 : BitVec 32 := Scalar.addi v1917 v1918
  let c158_i32 : BitVec 32 := 158#32
  let v1920 : BitVec 32 := Scalar.addi v1919 c158_i32
  let v1921 : Index := Scalar.indexCast v1920
  ![v1921.toNat]
def k0_off680 (i : grid0.Coords) : Fin 1 → Nat :=
  let c1_i32_959 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1916 : BitVec 32 := Scalar.subi c1_i32_959 v9
  ![v1916.toNat]
def k0_off681 (i : grid0.Coords) : Fin 4 → Nat :=
  let c1_i32_959 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1916 : BitVec 32 := Scalar.subi c1_i32_959 v9
  let arg1 : BitVec 32 := BitVec.ofNat 32 (i 1).val
  let c158_i32_962 : BitVec 32 := 158#32
  let c0_i32_963 : BitVec 32 := 0#32
  ![v1916.toNat, arg1.toNat, 158, 0]
def k0_off682 (v1922 : BitVec 32) : Fin 2 → Nat :=
  let c0_i32_964 : BitVec 32 := 0#32
  ![v1922.toNat, 0]

def k0_chk170 (v1922 : BitVec 32) : Prop :=
  (∀ a, (k0_off682 v1922) a + S1x1024.size a ≤ S16384x1024.size a)
theorem k0_off682_inb : ∀ (v1922 : BitVec 32) (k0_hw170 : k0_chk170 v1922), ∀ a, (k0_off682 v1922) a + S1x1024.size a ≤ S16384x1024.size a := fun v1922 k0_hw170 => k0_hw170

def k0_off683 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_966 : BitVec 32 := 2112#32
  let v1929 : BitVec 32 := Scalar.muli v19 c2112_i32_966
  let arg1 : BitVec 32 := BitVec.ofNat 32 (i 1).val
  let c192_i32_967 : BitVec 32 := 192#32
  let v1930 : BitVec 32 := Scalar.muli arg1 c192_i32_967
  let v1931 : BitVec 32 := Scalar.addi v1929 v1930
  let c159_i32 : BitVec 32 := 159#32
  let v1932 : BitVec 32 := Scalar.addi v1931 c159_i32
  let v1933 : Index := Scalar.indexCast v1932
  ![v1933.toNat]
def k0_off684 (i : grid0.Coords) : Fin 1 → Nat :=
  let c1_i32_965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1928 : BitVec 32 := Scalar.subi c1_i32_965 v9
  ![v1928.toNat]
def k0_off685 (i : grid0.Coords) : Fin 4 → Nat :=
  let c1_i32_965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1928 : BitVec 32 := Scalar.subi c1_i32_965 v9
  let arg1 : BitVec 32 := BitVec.ofNat 32 (i 1).val
  let c159_i32_968 : BitVec 32 := 159#32
  let c0_i32_969 : BitVec 32 := 0#32
  ![v1928.toNat, arg1.toNat, 159, 0]
def k0_off686 (v1934 : BitVec 32) : Fin 2 → Nat :=
  let c0_i32_970 : BitVec 32 := 0#32
  ![v1934.toNat, 0]

def k0_chk171 (v1934 : BitVec 32) : Prop :=
  (∀ a, (k0_off686 v1934) a + S1x1024.size a ≤ S16384x1024.size a)
theorem k0_off686_inb : ∀ (v1934 : BitVec 32) (k0_hw171 : k0_chk171 v1934), ∀ a, (k0_off686 v1934) a + S1x1024.size a ≤ S16384x1024.size a := fun v1934 k0_hw171 => k0_hw171

def k0_off687 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_972 : BitVec 32 := 2112#32
  let v1941 : BitVec 32 := Scalar.muli v19 c2112_i32_972
  let arg1 : BitVec 32 := BitVec.ofNat 32 (i 1).val
  let c192_i32_973 : BitVec 32 := 192#32
  let v1942 : BitVec 32 := Scalar.muli arg1 c192_i32_973
  let v1943 : BitVec 32 := Scalar.addi v1941 v1942
  let c160_i32 : BitVec 32 := 160#32
  let v1944 : BitVec 32 := Scalar.addi v1943 c160_i32
  let v1945 : Index := Scalar.indexCast v1944
  ![v1945.toNat]
def k0_off688 (i : grid0.Coords) : Fin 1 → Nat :=
  let c1_i32_971 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1940 : BitVec 32 := Scalar.subi c1_i32_971 v9
  ![v1940.toNat]
def k0_off689 (i : grid0.Coords) : Fin 4 → Nat :=
  let c1_i32_971 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1940 : BitVec 32 := Scalar.subi c1_i32_971 v9
  let arg1 : BitVec 32 := BitVec.ofNat 32 (i 1).val
  let c160_i32_974 : BitVec 32 := 160#32
  let c0_i32_975 : BitVec 32 := 0#32
  ![v1940.toNat, arg1.toNat, 160, 0]
def k0_off690 (v1946 : BitVec 32) : Fin 2 → Nat :=
  let c0_i32_976 : BitVec 32 := 0#32
  ![v1946.toNat, 0]

def k0_chk172 (v1946 : BitVec 32) : Prop :=
  (∀ a, (k0_off690 v1946) a + S1x1024.size a ≤ S16384x1024.size a)
theorem k0_off690_inb : ∀ (v1946 : BitVec 32) (k0_hw172 : k0_chk172 v1946), ∀ a, (k0_off690 v1946) a + S1x1024.size a ≤ S16384x1024.size a := fun v1946 k0_hw172 => k0_hw172

def k0_off691 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_978 : BitVec 32 := 2112#32
  let v1953 : BitVec 32 := Scalar.muli v19 c2112_i32_978
  let arg1 : BitVec 32 := BitVec.ofNat 32 (i 1).val
  let c192_i32_979 : BitVec 32 := 192#32
  let v1954 : BitVec 32 := Scalar.muli arg1 c192_i32_979
  let v1955 : BitVec 32 := Scalar.addi v1953 v1954
  let c161_i32 : BitVec 32 := 161#32
  let v1956 : BitVec 32 := Scalar.addi v1955 c161_i32
  let v1957 : Index := Scalar.indexCast v1956
  ![v1957.toNat]
def k0_off692 (i : grid0.Coords) : Fin 1 → Nat :=
  let c1_i32_977 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1952 : BitVec 32 := Scalar.subi c1_i32_977 v9
  ![v1952.toNat]
def k0_off693 (i : grid0.Coords) : Fin 4 → Nat :=
  let c1_i32_977 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1952 : BitVec 32 := Scalar.subi c1_i32_977 v9
  let arg1 : BitVec 32 := BitVec.ofNat 32 (i 1).val
  let c161_i32_980 : BitVec 32 := 161#32
  let c0_i32_981 : BitVec 32 := 0#32
  ![v1952.toNat, arg1.toNat, 161, 0]
def k0_off694 (v1958 : BitVec 32) : Fin 2 → Nat :=
  let c0_i32_982 : BitVec 32 := 0#32
  ![v1958.toNat, 0]

def k0_chk173 (v1958 : BitVec 32) : Prop :=
  (∀ a, (k0_off694 v1958) a + S1x1024.size a ≤ S16384x1024.size a)
theorem k0_off694_inb : ∀ (v1958 : BitVec 32) (k0_hw173 : k0_chk173 v1958), ∀ a, (k0_off694 v1958) a + S1x1024.size a ≤ S16384x1024.size a := fun v1958 k0_hw173 => k0_hw173

def k0_off695 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_984 : BitVec 32 := 2112#32
  let v1965 : BitVec 32 := Scalar.muli v19 c2112_i32_984
  let arg1 : BitVec 32 := BitVec.ofNat 32 (i 1).val
  let c192_i32_985 : BitVec 32 := 192#32
  let v1966 : BitVec 32 := Scalar.muli arg1 c192_i32_985
  let v1967 : BitVec 32 := Scalar.addi v1965 v1966
  let c162_i32 : BitVec 32 := 162#32
  let v1968 : BitVec 32 := Scalar.addi v1967 c162_i32
  let v1969 : Index := Scalar.indexCast v1968
  ![v1969.toNat]
def k0_off696 (i : grid0.Coords) : Fin 1 → Nat :=
  let c1_i32_983 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1964 : BitVec 32 := Scalar.subi c1_i32_983 v9
  ![v1964.toNat]
def k0_off697 (i : grid0.Coords) : Fin 4 → Nat :=
  let c1_i32_983 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1964 : BitVec 32 := Scalar.subi c1_i32_983 v9
  let arg1 : BitVec 32 := BitVec.ofNat 32 (i 1).val
  let c162_i32_986 : BitVec 32 := 162#32
  let c0_i32_987 : BitVec 32 := 0#32
  ![v1964.toNat, arg1.toNat, 162, 0]
def k0_off698 (v1970 : BitVec 32) : Fin 2 → Nat :=
  let c0_i32_988 : BitVec 32 := 0#32
  ![v1970.toNat, 0]

def k0_chk174 (v1970 : BitVec 32) : Prop :=
  (∀ a, (k0_off698 v1970) a + S1x1024.size a ≤ S16384x1024.size a)
theorem k0_off698_inb : ∀ (v1970 : BitVec 32) (k0_hw174 : k0_chk174 v1970), ∀ a, (k0_off698 v1970) a + S1x1024.size a ≤ S16384x1024.size a := fun v1970 k0_hw174 => k0_hw174

def k0_off699 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_990 : BitVec 32 := 2112#32
  let v1977 : BitVec 32 := Scalar.muli v19 c2112_i32_990
  let arg1 : BitVec 32 := BitVec.ofNat 32 (i 1).val
  let c192_i32_991 : BitVec 32 := 192#32
  let v1978 : BitVec 32 := Scalar.muli arg1 c192_i32_991
  let v1979 : BitVec 32 := Scalar.addi v1977 v1978
  let c163_i32 : BitVec 32 := 163#32
  let v1980 : BitVec 32 := Scalar.addi v1979 c163_i32
  let v1981 : Index := Scalar.indexCast v1980
  ![v1981.toNat]
def k0_off700 (i : grid0.Coords) : Fin 1 → Nat :=
  let c1_i32_989 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1976 : BitVec 32 := Scalar.subi c1_i32_989 v9
  ![v1976.toNat]
def k0_off701 (i : grid0.Coords) : Fin 4 → Nat :=
  let c1_i32_989 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1976 : BitVec 32 := Scalar.subi c1_i32_989 v9
  let arg1 : BitVec 32 := BitVec.ofNat 32 (i 1).val
  let c163_i32_992 : BitVec 32 := 163#32
  let c0_i32_993 : BitVec 32 := 0#32
  ![v1976.toNat, arg1.toNat, 163, 0]
def k0_off702 (v1982 : BitVec 32) : Fin 2 → Nat :=
  let c0_i32_994 : BitVec 32 := 0#32
  ![v1982.toNat, 0]

def k0_chk175 (v1982 : BitVec 32) : Prop :=
  (∀ a, (k0_off702 v1982) a + S1x1024.size a ≤ S16384x1024.size a)
theorem k0_off702_inb : ∀ (v1982 : BitVec 32) (k0_hw175 : k0_chk175 v1982), ∀ a, (k0_off702 v1982) a + S1x1024.size a ≤ S16384x1024.size a := fun v1982 k0_hw175 => k0_hw175

def k0_off703 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_996 : BitVec 32 := 2112#32
  let v1989 : BitVec 32 := Scalar.muli v19 c2112_i32_996
  let arg1 : BitVec 32 := BitVec.ofNat 32 (i 1).val
  let c192_i32_997 : BitVec 32 := 192#32
  let v1990 : BitVec 32 := Scalar.muli arg1 c192_i32_997
  let v1991 : BitVec 32 := Scalar.addi v1989 v1990
  let c164_i32 : BitVec 32 := 164#32
  let v1992 : BitVec 32 := Scalar.addi v1991 c164_i32
  let v1993 : Index := Scalar.indexCast v1992
  ![v1993.toNat]
def k0_off704 (i : grid0.Coords) : Fin 1 → Nat :=
  let c1_i32_995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1988 : BitVec 32 := Scalar.subi c1_i32_995 v9
  ![v1988.toNat]
def k0_off705 (i : grid0.Coords) : Fin 4 → Nat :=
  let c1_i32_995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1988 : BitVec 32 := Scalar.subi c1_i32_995 v9
  let arg1 : BitVec 32 := BitVec.ofNat 32 (i 1).val
  let c164_i32_998 : BitVec 32 := 164#32
  let c0_i32_999 : BitVec 32 := 0#32
  ![v1988.toNat, arg1.toNat, 164, 0]
def k0_off706 (v1994 : BitVec 32) : Fin 2 → Nat :=
  let c0_i32_1000 : BitVec 32 := 0#32
  ![v1994.toNat, 0]

def k0_chk176 (v1994 : BitVec 32) : Prop :=
  (∀ a, (k0_off706 v1994) a + S1x1024.size a ≤ S16384x1024.size a)
theorem k0_off706_inb : ∀ (v1994 : BitVec 32) (k0_hw176 : k0_chk176 v1994), ∀ a, (k0_off706 v1994) a + S1x1024.size a ≤ S16384x1024.size a := fun v1994 k0_hw176 => k0_hw176

def k0_off707 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1002 : BitVec 32 := 2112#32
  let v2001 : BitVec 32 := Scalar.muli v19 c2112_i32_1002
  let arg1 : BitVec 32 := BitVec.ofNat 32 (i 1).val
  let c192_i32_1003 : BitVec 32 := 192#32
  let v2002 : BitVec 32 := Scalar.muli arg1 c192_i32_1003
  let v2003 : BitVec 32 := Scalar.addi v2001 v2002
  let c165_i32 : BitVec 32 := 165#32
  let v2004 : BitVec 32 := Scalar.addi v2003 c165_i32
  let v2005 : Index := Scalar.indexCast v2004
  ![v2005.toNat]
def k0_off708 (i : grid0.Coords) : Fin 1 → Nat :=
  let c1_i32_1001 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2000 : BitVec 32 := Scalar.subi c1_i32_1001 v9
  ![v2000.toNat]
def k0_off709 (i : grid0.Coords) : Fin 4 → Nat :=
  let c1_i32_1001 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2000 : BitVec 32 := Scalar.subi c1_i32_1001 v9
  let arg1 : BitVec 32 := BitVec.ofNat 32 (i 1).val
  let c165_i32_1004 : BitVec 32 := 165#32
  let c0_i32_1005 : BitVec 32 := 0#32
  ![v2000.toNat, arg1.toNat, 165, 0]
def k0_off710 (v2006 : BitVec 32) : Fin 2 → Nat :=
  let c0_i32_1006 : BitVec 32 := 0#32
  ![v2006.toNat, 0]

def k0_chk177 (v2006 : BitVec 32) : Prop :=
  (∀ a, (k0_off710 v2006) a + S1x1024.size a ≤ S16384x1024.size a)
theorem k0_off710_inb : ∀ (v2006 : BitVec 32) (k0_hw177 : k0_chk177 v2006), ∀ a, (k0_off710 v2006) a + S1x1024.size a ≤ S16384x1024.size a := fun v2006 k0_hw177 => k0_hw177

def k0_off711 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1008 : BitVec 32 := 2112#32
  let v2013 : BitVec 32 := Scalar.muli v19 c2112_i32_1008
  let arg1 : BitVec 32 := BitVec.ofNat 32 (i 1).val
  let c192_i32_1009 : BitVec 32 := 192#32
  let v2014 : BitVec 32 := Scalar.muli arg1 c192_i32_1009
  let v2015 : BitVec 32 := Scalar.addi v2013 v2014
  let c166_i32 : BitVec 32 := 166#32
  let v2016 : BitVec 32 := Scalar.addi v2015 c166_i32
  let v2017 : Index := Scalar.indexCast v2016
  ![v2017.toNat]
def k0_off712 (i : grid0.Coords) : Fin 1 → Nat :=
  let c1_i32_1007 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2012 : BitVec 32 := Scalar.subi c1_i32_1007 v9
  ![v2012.toNat]
def k0_off713 (i : grid0.Coords) : Fin 4 → Nat :=
  let c1_i32_1007 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2012 : BitVec 32 := Scalar.subi c1_i32_1007 v9
  let arg1 : BitVec 32 := BitVec.ofNat 32 (i 1).val
  let c166_i32_1010 : BitVec 32 := 166#32
  let c0_i32_1011 : BitVec 32 := 0#32
  ![v2012.toNat, arg1.toNat, 166, 0]
def k0_off714 (v2018 : BitVec 32) : Fin 2 → Nat :=
  let c0_i32_1012 : BitVec 32 := 0#32
  ![v2018.toNat, 0]

def k0_chk178 (v2018 : BitVec 32) : Prop :=
  (∀ a, (k0_off714 v2018) a + S1x1024.size a ≤ S16384x1024.size a)
theorem k0_off714_inb : ∀ (v2018 : BitVec 32) (k0_hw178 : k0_chk178 v2018), ∀ a, (k0_off714 v2018) a + S1x1024.size a ≤ S16384x1024.size a := fun v2018 k0_hw178 => k0_hw178

def k0_off715 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1014 : BitVec 32 := 2112#32
  let v2025 : BitVec 32 := Scalar.muli v19 c2112_i32_1014
  let arg1 : BitVec 32 := BitVec.ofNat 32 (i 1).val
  let c192_i32_1015 : BitVec 32 := 192#32
  let v2026 : BitVec 32 := Scalar.muli arg1 c192_i32_1015
  let v2027 : BitVec 32 := Scalar.addi v2025 v2026
  let c167_i32 : BitVec 32 := 167#32
  let v2028 : BitVec 32 := Scalar.addi v2027 c167_i32
  let v2029 : Index := Scalar.indexCast v2028
  ![v2029.toNat]
def k0_off716 (i : grid0.Coords) : Fin 1 → Nat :=
  let c1_i32_1013 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2024 : BitVec 32 := Scalar.subi c1_i32_1013 v9
  ![v2024.toNat]
def k0_off717 (i : grid0.Coords) : Fin 4 → Nat :=
  let c1_i32_1013 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2024 : BitVec 32 := Scalar.subi c1_i32_1013 v9
  let arg1 : BitVec 32 := BitVec.ofNat 32 (i 1).val
  let c167_i32_1016 : BitVec 32 := 167#32
  let c0_i32_1017 : BitVec 32 := 0#32
  ![v2024.toNat, arg1.toNat, 167, 0]
def k0_off718 (v2030 : BitVec 32) : Fin 2 → Nat :=
  let c0_i32_1018 : BitVec 32 := 0#32
  ![v2030.toNat, 0]

def k0_chk179 (v2030 : BitVec 32) : Prop :=
  (∀ a, (k0_off718 v2030) a + S1x1024.size a ≤ S16384x1024.size a)
theorem k0_off718_inb : ∀ (v2030 : BitVec 32) (k0_hw179 : k0_chk179 v2030), ∀ a, (k0_off718 v2030) a + S1x1024.size a ≤ S16384x1024.size a := fun v2030 k0_hw179 => k0_hw179

def k0_off719 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1020 : BitVec 32 := 2112#32
  let v2037 : BitVec 32 := Scalar.muli v19 c2112_i32_1020
  let arg1 : BitVec 32 := BitVec.ofNat 32 (i 1).val
  let c192_i32_1021 : BitVec 32 := 192#32
  let v2038 : BitVec 32 := Scalar.muli arg1 c192_i32_1021
  let v2039 : BitVec 32 := Scalar.addi v2037 v2038
  let c168_i32 : BitVec 32 := 168#32
  let v2040 : BitVec 32 := Scalar.addi v2039 c168_i32
  let v2041 : Index := Scalar.indexCast v2040
  ![v2041.toNat]
def k0_off720 (i : grid0.Coords) : Fin 1 → Nat :=
  let c1_i32_1019 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2036 : BitVec 32 := Scalar.subi c1_i32_1019 v9
  ![v2036.toNat]
def k0_off721 (i : grid0.Coords) : Fin 4 → Nat :=
  let c1_i32_1019 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2036 : BitVec 32 := Scalar.subi c1_i32_1019 v9
  let arg1 : BitVec 32 := BitVec.ofNat 32 (i 1).val
  let c168_i32_1022 : BitVec 32 := 168#32
  let c0_i32_1023 : BitVec 32 := 0#32
  ![v2036.toNat, arg1.toNat, 168, 0]
def k0_off722 (v2042 : BitVec 32) : Fin 2 → Nat :=
  let c0_i32_1024 : BitVec 32 := 0#32
  ![v2042.toNat, 0]

def k0_chk180 (v2042 : BitVec 32) : Prop :=
  (∀ a, (k0_off722 v2042) a + S1x1024.size a ≤ S16384x1024.size a)
theorem k0_off722_inb : ∀ (v2042 : BitVec 32) (k0_hw180 : k0_chk180 v2042), ∀ a, (k0_off722 v2042) a + S1x1024.size a ≤ S16384x1024.size a := fun v2042 k0_hw180 => k0_hw180

def k0_off723 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1026 : BitVec 32 := 2112#32
  let v2049 : BitVec 32 := Scalar.muli v19 c2112_i32_1026
  let arg1 : BitVec 32 := BitVec.ofNat 32 (i 1).val
  let c192_i32_1027 : BitVec 32 := 192#32
  let v2050 : BitVec 32 := Scalar.muli arg1 c192_i32_1027
  let v2051 : BitVec 32 := Scalar.addi v2049 v2050
  let c169_i32 : BitVec 32 := 169#32
  let v2052 : BitVec 32 := Scalar.addi v2051 c169_i32
  let v2053 : Index := Scalar.indexCast v2052
  ![v2053.toNat]
def k0_off724 (i : grid0.Coords) : Fin 1 → Nat :=
  let c1_i32_1025 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2048 : BitVec 32 := Scalar.subi c1_i32_1025 v9
  ![v2048.toNat]
def k0_off725 (i : grid0.Coords) : Fin 4 → Nat :=
  let c1_i32_1025 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2048 : BitVec 32 := Scalar.subi c1_i32_1025 v9
  let arg1 : BitVec 32 := BitVec.ofNat 32 (i 1).val
  let c169_i32_1028 : BitVec 32 := 169#32
  let c0_i32_1029 : BitVec 32 := 0#32
  ![v2048.toNat, arg1.toNat, 169, 0]
def k0_off726 (v2054 : BitVec 32) : Fin 2 → Nat :=
  let c0_i32_1030 : BitVec 32 := 0#32
  ![v2054.toNat, 0]

def k0_chk181 (v2054 : BitVec 32) : Prop :=
  (∀ a, (k0_off726 v2054) a + S1x1024.size a ≤ S16384x1024.size a)
theorem k0_off726_inb : ∀ (v2054 : BitVec 32) (k0_hw181 : k0_chk181 v2054), ∀ a, (k0_off726 v2054) a + S1x1024.size a ≤ S16384x1024.size a := fun v2054 k0_hw181 => k0_hw181

def k0_off727 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1032 : BitVec 32 := 2112#32
  let v2061 : BitVec 32 := Scalar.muli v19 c2112_i32_1032
  let arg1 : BitVec 32 := BitVec.ofNat 32 (i 1).val
  let c192_i32_1033 : BitVec 32 := 192#32
  let v2062 : BitVec 32 := Scalar.muli arg1 c192_i32_1033
  let v2063 : BitVec 32 := Scalar.addi v2061 v2062
  let c170_i32 : BitVec 32 := 170#32
  let v2064 : BitVec 32 := Scalar.addi v2063 c170_i32
  let v2065 : Index := Scalar.indexCast v2064
  ![v2065.toNat]
def k0_off728 (i : grid0.Coords) : Fin 1 → Nat :=
  let c1_i32_1031 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2060 : BitVec 32 := Scalar.subi c1_i32_1031 v9
  ![v2060.toNat]
def k0_off729 (i : grid0.Coords) : Fin 4 → Nat :=
  let c1_i32_1031 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2060 : BitVec 32 := Scalar.subi c1_i32_1031 v9
  let arg1 : BitVec 32 := BitVec.ofNat 32 (i 1).val
  let c170_i32_1034 : BitVec 32 := 170#32
  let c0_i32_1035 : BitVec 32 := 0#32
  ![v2060.toNat, arg1.toNat, 170, 0]
def k0_off730 (v2066 : BitVec 32) : Fin 2 → Nat :=
  let c0_i32_1036 : BitVec 32 := 0#32
  ![v2066.toNat, 0]

def k0_chk182 (v2066 : BitVec 32) : Prop :=
  (∀ a, (k0_off730 v2066) a + S1x1024.size a ≤ S16384x1024.size a)
theorem k0_off730_inb : ∀ (v2066 : BitVec 32) (k0_hw182 : k0_chk182 v2066), ∀ a, (k0_off730 v2066) a + S1x1024.size a ≤ S16384x1024.size a := fun v2066 k0_hw182 => k0_hw182

def k0_off731 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1038 : BitVec 32 := 2112#32
  let v2073 : BitVec 32 := Scalar.muli v19 c2112_i32_1038
  let arg1 : BitVec 32 := BitVec.ofNat 32 (i 1).val
  let c192_i32_1039 : BitVec 32 := 192#32
  let v2074 : BitVec 32 := Scalar.muli arg1 c192_i32_1039
  let v2075 : BitVec 32 := Scalar.addi v2073 v2074
  let c171_i32 : BitVec 32 := 171#32
  let v2076 : BitVec 32 := Scalar.addi v2075 c171_i32
  let v2077 : Index := Scalar.indexCast v2076
  ![v2077.toNat]
def k0_off732 (i : grid0.Coords) : Fin 1 → Nat :=
  let c1_i32_1037 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2072 : BitVec 32 := Scalar.subi c1_i32_1037 v9
  ![v2072.toNat]
def k0_off733 (i : grid0.Coords) : Fin 4 → Nat :=
  let c1_i32_1037 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2072 : BitVec 32 := Scalar.subi c1_i32_1037 v9
  let arg1 : BitVec 32 := BitVec.ofNat 32 (i 1).val
  let c171_i32_1040 : BitVec 32 := 171#32
  let c0_i32_1041 : BitVec 32 := 0#32
  ![v2072.toNat, arg1.toNat, 171, 0]
def k0_off734 (v2078 : BitVec 32) : Fin 2 → Nat :=
  let c0_i32_1042 : BitVec 32 := 0#32
  ![v2078.toNat, 0]

def k0_chk183 (v2078 : BitVec 32) : Prop :=
  (∀ a, (k0_off734 v2078) a + S1x1024.size a ≤ S16384x1024.size a)
theorem k0_off734_inb : ∀ (v2078 : BitVec 32) (k0_hw183 : k0_chk183 v2078), ∀ a, (k0_off734 v2078) a + S1x1024.size a ≤ S16384x1024.size a := fun v2078 k0_hw183 => k0_hw183

def k0_off735 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1044 : BitVec 32 := 2112#32
  let v2085 : BitVec 32 := Scalar.muli v19 c2112_i32_1044
  let arg1 : BitVec 32 := BitVec.ofNat 32 (i 1).val
  let c192_i32_1045 : BitVec 32 := 192#32
  let v2086 : BitVec 32 := Scalar.muli arg1 c192_i32_1045
  let v2087 : BitVec 32 := Scalar.addi v2085 v2086
  let c172_i32 : BitVec 32 := 172#32
  let v2088 : BitVec 32 := Scalar.addi v2087 c172_i32
  let v2089 : Index := Scalar.indexCast v2088
  ![v2089.toNat]
def k0_off736 (i : grid0.Coords) : Fin 1 → Nat :=
  let c1_i32_1043 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2084 : BitVec 32 := Scalar.subi c1_i32_1043 v9
  ![v2084.toNat]
def k0_off737 (i : grid0.Coords) : Fin 4 → Nat :=
  let c1_i32_1043 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2084 : BitVec 32 := Scalar.subi c1_i32_1043 v9
  let arg1 : BitVec 32 := BitVec.ofNat 32 (i 1).val
  let c172_i32_1046 : BitVec 32 := 172#32
  let c0_i32_1047 : BitVec 32 := 0#32
  ![v2084.toNat, arg1.toNat, 172, 0]
def k0_off738 (v2090 : BitVec 32) : Fin 2 → Nat :=
  let c0_i32_1048 : BitVec 32 := 0#32
  ![v2090.toNat, 0]

def k0_chk184 (v2090 : BitVec 32) : Prop :=
  (∀ a, (k0_off738 v2090) a + S1x1024.size a ≤ S16384x1024.size a)
theorem k0_off738_inb : ∀ (v2090 : BitVec 32) (k0_hw184 : k0_chk184 v2090), ∀ a, (k0_off738 v2090) a + S1x1024.size a ≤ S16384x1024.size a := fun v2090 k0_hw184 => k0_hw184

def k0_off739 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1050 : BitVec 32 := 2112#32
  let v2097 : BitVec 32 := Scalar.muli v19 c2112_i32_1050
  let arg1 : BitVec 32 := BitVec.ofNat 32 (i 1).val
  let c192_i32_1051 : BitVec 32 := 192#32
  let v2098 : BitVec 32 := Scalar.muli arg1 c192_i32_1051
  let v2099 : BitVec 32 := Scalar.addi v2097 v2098
  let c173_i32 : BitVec 32 := 173#32
  let v2100 : BitVec 32 := Scalar.addi v2099 c173_i32
  let v2101 : Index := Scalar.indexCast v2100
  ![v2101.toNat]
def k0_off740 (i : grid0.Coords) : Fin 1 → Nat :=
  let c1_i32_1049 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2096 : BitVec 32 := Scalar.subi c1_i32_1049 v9
  ![v2096.toNat]
def k0_off741 (i : grid0.Coords) : Fin 4 → Nat :=
  let c1_i32_1049 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2096 : BitVec 32 := Scalar.subi c1_i32_1049 v9
  let arg1 : BitVec 32 := BitVec.ofNat 32 (i 1).val
  let c173_i32_1052 : BitVec 32 := 173#32
  let c0_i32_1053 : BitVec 32 := 0#32
  ![v2096.toNat, arg1.toNat, 173, 0]
def k0_off742 (v2102 : BitVec 32) : Fin 2 → Nat :=
  let c0_i32_1054 : BitVec 32 := 0#32
  ![v2102.toNat, 0]

def k0_chk185 (v2102 : BitVec 32) : Prop :=
  (∀ a, (k0_off742 v2102) a + S1x1024.size a ≤ S16384x1024.size a)
theorem k0_off742_inb : ∀ (v2102 : BitVec 32) (k0_hw185 : k0_chk185 v2102), ∀ a, (k0_off742 v2102) a + S1x1024.size a ≤ S16384x1024.size a := fun v2102 k0_hw185 => k0_hw185

def k0_off743 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1056 : BitVec 32 := 2112#32
  let v2109 : BitVec 32 := Scalar.muli v19 c2112_i32_1056
  let arg1 : BitVec 32 := BitVec.ofNat 32 (i 1).val
  let c192_i32_1057 : BitVec 32 := 192#32
  let v2110 : BitVec 32 := Scalar.muli arg1 c192_i32_1057
  let v2111 : BitVec 32 := Scalar.addi v2109 v2110
  let c174_i32 : BitVec 32 := 174#32
  let v2112 : BitVec 32 := Scalar.addi v2111 c174_i32
  let v2113 : Index := Scalar.indexCast v2112
  ![v2113.toNat]
def k0_off744 (i : grid0.Coords) : Fin 1 → Nat :=
  let c1_i32_1055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2108 : BitVec 32 := Scalar.subi c1_i32_1055 v9
  ![v2108.toNat]
def k0_off745 (i : grid0.Coords) : Fin 4 → Nat :=
  let c1_i32_1055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2108 : BitVec 32 := Scalar.subi c1_i32_1055 v9
  let arg1 : BitVec 32 := BitVec.ofNat 32 (i 1).val
  let c174_i32_1058 : BitVec 32 := 174#32
  let c0_i32_1059 : BitVec 32 := 0#32
  ![v2108.toNat, arg1.toNat, 174, 0]
def k0_off746 (v2114 : BitVec 32) : Fin 2 → Nat :=
  let c0_i32_1060 : BitVec 32 := 0#32
  ![v2114.toNat, 0]

def k0_chk186 (v2114 : BitVec 32) : Prop :=
  (∀ a, (k0_off746 v2114) a + S1x1024.size a ≤ S16384x1024.size a)
theorem k0_off746_inb : ∀ (v2114 : BitVec 32) (k0_hw186 : k0_chk186 v2114), ∀ a, (k0_off746 v2114) a + S1x1024.size a ≤ S16384x1024.size a := fun v2114 k0_hw186 => k0_hw186

def k0_off747 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1062 : BitVec 32 := 2112#32
  let v2121 : BitVec 32 := Scalar.muli v19 c2112_i32_1062
  let arg1 : BitVec 32 := BitVec.ofNat 32 (i 1).val
  let c192_i32_1063 : BitVec 32 := 192#32
  let v2122 : BitVec 32 := Scalar.muli arg1 c192_i32_1063
  let v2123 : BitVec 32 := Scalar.addi v2121 v2122
  let c175_i32 : BitVec 32 := 175#32
  let v2124 : BitVec 32 := Scalar.addi v2123 c175_i32
  let v2125 : Index := Scalar.indexCast v2124
  ![v2125.toNat]
def k0_off748 (i : grid0.Coords) : Fin 1 → Nat :=
  let c1_i32_1061 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2120 : BitVec 32 := Scalar.subi c1_i32_1061 v9
  ![v2120.toNat]
def k0_off749 (i : grid0.Coords) : Fin 4 → Nat :=
  let c1_i32_1061 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2120 : BitVec 32 := Scalar.subi c1_i32_1061 v9
  let arg1 : BitVec 32 := BitVec.ofNat 32 (i 1).val
  let c175_i32_1064 : BitVec 32 := 175#32
  let c0_i32_1065 : BitVec 32 := 0#32
  ![v2120.toNat, arg1.toNat, 175, 0]
def k0_off750 (v2126 : BitVec 32) : Fin 2 → Nat :=
  let c0_i32_1066 : BitVec 32 := 0#32
  ![v2126.toNat, 0]

def k0_chk187 (v2126 : BitVec 32) : Prop :=
  (∀ a, (k0_off750 v2126) a + S1x1024.size a ≤ S16384x1024.size a)
theorem k0_off750_inb : ∀ (v2126 : BitVec 32) (k0_hw187 : k0_chk187 v2126), ∀ a, (k0_off750 v2126) a + S1x1024.size a ≤ S16384x1024.size a := fun v2126 k0_hw187 => k0_hw187

def k0_off751 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1068 : BitVec 32 := 2112#32
  let v2133 : BitVec 32 := Scalar.muli v19 c2112_i32_1068
  let arg1 : BitVec 32 := BitVec.ofNat 32 (i 1).val
  let c192_i32_1069 : BitVec 32 := 192#32
  let v2134 : BitVec 32 := Scalar.muli arg1 c192_i32_1069
  let v2135 : BitVec 32 := Scalar.addi v2133 v2134
  let c176_i32 : BitVec 32 := 176#32
  let v2136 : BitVec 32 := Scalar.addi v2135 c176_i32
  let v2137 : Index := Scalar.indexCast v2136
  ![v2137.toNat]
def k0_off752 (i : grid0.Coords) : Fin 1 → Nat :=
  let c1_i32_1067 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2132 : BitVec 32 := Scalar.subi c1_i32_1067 v9
  ![v2132.toNat]
def k0_off753 (i : grid0.Coords) : Fin 4 → Nat :=
  let c1_i32_1067 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2132 : BitVec 32 := Scalar.subi c1_i32_1067 v9
  let arg1 : BitVec 32 := BitVec.ofNat 32 (i 1).val
  let c176_i32_1070 : BitVec 32 := 176#32
  let c0_i32_1071 : BitVec 32 := 0#32
  ![v2132.toNat, arg1.toNat, 176, 0]
def k0_off754 (v2138 : BitVec 32) : Fin 2 → Nat :=
  let c0_i32_1072 : BitVec 32 := 0#32
  ![v2138.toNat, 0]

def k0_chk188 (v2138 : BitVec 32) : Prop :=
  (∀ a, (k0_off754 v2138) a + S1x1024.size a ≤ S16384x1024.size a)
theorem k0_off754_inb : ∀ (v2138 : BitVec 32) (k0_hw188 : k0_chk188 v2138), ∀ a, (k0_off754 v2138) a + S1x1024.size a ≤ S16384x1024.size a := fun v2138 k0_hw188 => k0_hw188

def k0_off755 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1074 : BitVec 32 := 2112#32
  let v2145 : BitVec 32 := Scalar.muli v19 c2112_i32_1074
  let arg1 : BitVec 32 := BitVec.ofNat 32 (i 1).val
  let c192_i32_1075 : BitVec 32 := 192#32
  let v2146 : BitVec 32 := Scalar.muli arg1 c192_i32_1075
  let v2147 : BitVec 32 := Scalar.addi v2145 v2146
  let c177_i32 : BitVec 32 := 177#32
  let v2148 : BitVec 32 := Scalar.addi v2147 c177_i32
  let v2149 : Index := Scalar.indexCast v2148
  ![v2149.toNat]
def k0_off756 (i : grid0.Coords) : Fin 1 → Nat :=
  let c1_i32_1073 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2144 : BitVec 32 := Scalar.subi c1_i32_1073 v9
  ![v2144.toNat]
def k0_off757 (i : grid0.Coords) : Fin 4 → Nat :=
  let c1_i32_1073 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2144 : BitVec 32 := Scalar.subi c1_i32_1073 v9
  let arg1 : BitVec 32 := BitVec.ofNat 32 (i 1).val
  let c177_i32_1076 : BitVec 32 := 177#32
  let c0_i32_1077 : BitVec 32 := 0#32
  ![v2144.toNat, arg1.toNat, 177, 0]
def k0_off758 (v2150 : BitVec 32) : Fin 2 → Nat :=
  let c0_i32_1078 : BitVec 32 := 0#32
  ![v2150.toNat, 0]

def k0_chk189 (v2150 : BitVec 32) : Prop :=
  (∀ a, (k0_off758 v2150) a + S1x1024.size a ≤ S16384x1024.size a)
theorem k0_off758_inb : ∀ (v2150 : BitVec 32) (k0_hw189 : k0_chk189 v2150), ∀ a, (k0_off758 v2150) a + S1x1024.size a ≤ S16384x1024.size a := fun v2150 k0_hw189 => k0_hw189

def k0_off759 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1080 : BitVec 32 := 2112#32
  let v2157 : BitVec 32 := Scalar.muli v19 c2112_i32_1080
  let arg1 : BitVec 32 := BitVec.ofNat 32 (i 1).val
  let c192_i32_1081 : BitVec 32 := 192#32
  let v2158 : BitVec 32 := Scalar.muli arg1 c192_i32_1081
  let v2159 : BitVec 32 := Scalar.addi v2157 v2158
  let c178_i32 : BitVec 32 := 178#32
  let v2160 : BitVec 32 := Scalar.addi v2159 c178_i32
  let v2161 : Index := Scalar.indexCast v2160
  ![v2161.toNat]
def k0_off760 (i : grid0.Coords) : Fin 1 → Nat :=
  let c1_i32_1079 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2156 : BitVec 32 := Scalar.subi c1_i32_1079 v9
  ![v2156.toNat]
def k0_off761 (i : grid0.Coords) : Fin 4 → Nat :=
  let c1_i32_1079 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2156 : BitVec 32 := Scalar.subi c1_i32_1079 v9
  let arg1 : BitVec 32 := BitVec.ofNat 32 (i 1).val
  let c178_i32_1082 : BitVec 32 := 178#32
  let c0_i32_1083 : BitVec 32 := 0#32
  ![v2156.toNat, arg1.toNat, 178, 0]
def k0_off762 (v2162 : BitVec 32) : Fin 2 → Nat :=
  let c0_i32_1084 : BitVec 32 := 0#32
  ![v2162.toNat, 0]

def k0_chk190 (v2162 : BitVec 32) : Prop :=
  (∀ a, (k0_off762 v2162) a + S1x1024.size a ≤ S16384x1024.size a)
theorem k0_off762_inb : ∀ (v2162 : BitVec 32) (k0_hw190 : k0_chk190 v2162), ∀ a, (k0_off762 v2162) a + S1x1024.size a ≤ S16384x1024.size a := fun v2162 k0_hw190 => k0_hw190

def k0_off763 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1086 : BitVec 32 := 2112#32
  let v2169 : BitVec 32 := Scalar.muli v19 c2112_i32_1086
  let arg1 : BitVec 32 := BitVec.ofNat 32 (i 1).val
  let c192_i32_1087 : BitVec 32 := 192#32
  let v2170 : BitVec 32 := Scalar.muli arg1 c192_i32_1087
  let v2171 : BitVec 32 := Scalar.addi v2169 v2170
  let c179_i32 : BitVec 32 := 179#32
  let v2172 : BitVec 32 := Scalar.addi v2171 c179_i32
  let v2173 : Index := Scalar.indexCast v2172
  ![v2173.toNat]
def k0_off764 (i : grid0.Coords) : Fin 1 → Nat :=
  let c1_i32_1085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2168 : BitVec 32 := Scalar.subi c1_i32_1085 v9
  ![v2168.toNat]
def k0_off765 (i : grid0.Coords) : Fin 4 → Nat :=
  let c1_i32_1085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2168 : BitVec 32 := Scalar.subi c1_i32_1085 v9
  let arg1 : BitVec 32 := BitVec.ofNat 32 (i 1).val
  let c179_i32_1088 : BitVec 32 := 179#32
  let c0_i32_1089 : BitVec 32 := 0#32
  ![v2168.toNat, arg1.toNat, 179, 0]
def k0_off766 (v2174 : BitVec 32) : Fin 2 → Nat :=
  let c0_i32_1090 : BitVec 32 := 0#32
  ![v2174.toNat, 0]

def k0_chk191 (v2174 : BitVec 32) : Prop :=
  (∀ a, (k0_off766 v2174) a + S1x1024.size a ≤ S16384x1024.size a)
theorem k0_off766_inb : ∀ (v2174 : BitVec 32) (k0_hw191 : k0_chk191 v2174), ∀ a, (k0_off766 v2174) a + S1x1024.size a ≤ S16384x1024.size a := fun v2174 k0_hw191 => k0_hw191

def k0_off767 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1092 : BitVec 32 := 2112#32
  let v2181 : BitVec 32 := Scalar.muli v19 c2112_i32_1092
  let arg1 : BitVec 32 := BitVec.ofNat 32 (i 1).val
  let c192_i32_1093 : BitVec 32 := 192#32
  let v2182 : BitVec 32 := Scalar.muli arg1 c192_i32_1093
  let v2183 : BitVec 32 := Scalar.addi v2181 v2182
  let c180_i32 : BitVec 32 := 180#32
  let v2184 : BitVec 32 := Scalar.addi v2183 c180_i32
  let v2185 : Index := Scalar.indexCast v2184
  ![v2185.toNat]
def k0_off768 (i : grid0.Coords) : Fin 1 → Nat :=
  let c1_i32_1091 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2180 : BitVec 32 := Scalar.subi c1_i32_1091 v9
  ![v2180.toNat]
def k0_off769 (i : grid0.Coords) : Fin 4 → Nat :=
  let c1_i32_1091 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2180 : BitVec 32 := Scalar.subi c1_i32_1091 v9
  let arg1 : BitVec 32 := BitVec.ofNat 32 (i 1).val
  let c180_i32_1094 : BitVec 32 := 180#32
  let c0_i32_1095 : BitVec 32 := 0#32
  ![v2180.toNat, arg1.toNat, 180, 0]
def k0_off770 (v2186 : BitVec 32) : Fin 2 → Nat :=
  let c0_i32_1096 : BitVec 32 := 0#32
  ![v2186.toNat, 0]

def k0_chk192 (v2186 : BitVec 32) : Prop :=
  (∀ a, (k0_off770 v2186) a + S1x1024.size a ≤ S16384x1024.size a)
theorem k0_off770_inb : ∀ (v2186 : BitVec 32) (k0_hw192 : k0_chk192 v2186), ∀ a, (k0_off770 v2186) a + S1x1024.size a ≤ S16384x1024.size a := fun v2186 k0_hw192 => k0_hw192

def k0_off771 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1098 : BitVec 32 := 2112#32
  let v2193 : BitVec 32 := Scalar.muli v19 c2112_i32_1098
  let arg1 : BitVec 32 := BitVec.ofNat 32 (i 1).val
  let c192_i32_1099 : BitVec 32 := 192#32
  let v2194 : BitVec 32 := Scalar.muli arg1 c192_i32_1099
  let v2195 : BitVec 32 := Scalar.addi v2193 v2194
  let c181_i32 : BitVec 32 := 181#32
  let v2196 : BitVec 32 := Scalar.addi v2195 c181_i32
  let v2197 : Index := Scalar.indexCast v2196
  ![v2197.toNat]
def k0_off772 (i : grid0.Coords) : Fin 1 → Nat :=
  let c1_i32_1097 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2192 : BitVec 32 := Scalar.subi c1_i32_1097 v9
  ![v2192.toNat]
def k0_off773 (i : grid0.Coords) : Fin 4 → Nat :=
  let c1_i32_1097 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2192 : BitVec 32 := Scalar.subi c1_i32_1097 v9
  let arg1 : BitVec 32 := BitVec.ofNat 32 (i 1).val
  let c181_i32_1100 : BitVec 32 := 181#32
  let c0_i32_1101 : BitVec 32 := 0#32
  ![v2192.toNat, arg1.toNat, 181, 0]
def k0_off774 (v2198 : BitVec 32) : Fin 2 → Nat :=
  let c0_i32_1102 : BitVec 32 := 0#32
  ![v2198.toNat, 0]

def k0_chk193 (v2198 : BitVec 32) : Prop :=
  (∀ a, (k0_off774 v2198) a + S1x1024.size a ≤ S16384x1024.size a)
theorem k0_off774_inb : ∀ (v2198 : BitVec 32) (k0_hw193 : k0_chk193 v2198), ∀ a, (k0_off774 v2198) a + S1x1024.size a ≤ S16384x1024.size a := fun v2198 k0_hw193 => k0_hw193

def k0_off775 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1104 : BitVec 32 := 2112#32
  let v2205 : BitVec 32 := Scalar.muli v19 c2112_i32_1104
  let arg1 : BitVec 32 := BitVec.ofNat 32 (i 1).val
  let c192_i32_1105 : BitVec 32 := 192#32
  let v2206 : BitVec 32 := Scalar.muli arg1 c192_i32_1105
  let v2207 : BitVec 32 := Scalar.addi v2205 v2206
  let c182_i32 : BitVec 32 := 182#32
  let v2208 : BitVec 32 := Scalar.addi v2207 c182_i32
  let v2209 : Index := Scalar.indexCast v2208
  ![v2209.toNat]
def k0_off776 (i : grid0.Coords) : Fin 1 → Nat :=
  let c1_i32_1103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2204 : BitVec 32 := Scalar.subi c1_i32_1103 v9
  ![v2204.toNat]
def k0_off777 (i : grid0.Coords) : Fin 4 → Nat :=
  let c1_i32_1103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2204 : BitVec 32 := Scalar.subi c1_i32_1103 v9
  let arg1 : BitVec 32 := BitVec.ofNat 32 (i 1).val
  let c182_i32_1106 : BitVec 32 := 182#32
  let c0_i32_1107 : BitVec 32 := 0#32
  ![v2204.toNat, arg1.toNat, 182, 0]
def k0_off778 (v2210 : BitVec 32) : Fin 2 → Nat :=
  let c0_i32_1108 : BitVec 32 := 0#32
  ![v2210.toNat, 0]

def k0_chk194 (v2210 : BitVec 32) : Prop :=
  (∀ a, (k0_off778 v2210) a + S1x1024.size a ≤ S16384x1024.size a)
theorem k0_off778_inb : ∀ (v2210 : BitVec 32) (k0_hw194 : k0_chk194 v2210), ∀ a, (k0_off778 v2210) a + S1x1024.size a ≤ S16384x1024.size a := fun v2210 k0_hw194 => k0_hw194

def k0_off779 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1110 : BitVec 32 := 2112#32
  let v2217 : BitVec 32 := Scalar.muli v19 c2112_i32_1110
  let arg1 : BitVec 32 := BitVec.ofNat 32 (i 1).val
  let c192_i32_1111 : BitVec 32 := 192#32
  let v2218 : BitVec 32 := Scalar.muli arg1 c192_i32_1111
  let v2219 : BitVec 32 := Scalar.addi v2217 v2218
  let c183_i32 : BitVec 32 := 183#32
  let v2220 : BitVec 32 := Scalar.addi v2219 c183_i32
  let v2221 : Index := Scalar.indexCast v2220
  ![v2221.toNat]
def k0_off780 (i : grid0.Coords) : Fin 1 → Nat :=
  let c1_i32_1109 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2216 : BitVec 32 := Scalar.subi c1_i32_1109 v9
  ![v2216.toNat]
def k0_off781 (i : grid0.Coords) : Fin 4 → Nat :=
  let c1_i32_1109 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2216 : BitVec 32 := Scalar.subi c1_i32_1109 v9
  let arg1 : BitVec 32 := BitVec.ofNat 32 (i 1).val
  let c183_i32_1112 : BitVec 32 := 183#32
  let c0_i32_1113 : BitVec 32 := 0#32
  ![v2216.toNat, arg1.toNat, 183, 0]
def k0_off782 (v2222 : BitVec 32) : Fin 2 → Nat :=
  let c0_i32_1114 : BitVec 32 := 0#32
  ![v2222.toNat, 0]

def k0_chk195 (v2222 : BitVec 32) : Prop :=
  (∀ a, (k0_off782 v2222) a + S1x1024.size a ≤ S16384x1024.size a)
theorem k0_off782_inb : ∀ (v2222 : BitVec 32) (k0_hw195 : k0_chk195 v2222), ∀ a, (k0_off782 v2222) a + S1x1024.size a ≤ S16384x1024.size a := fun v2222 k0_hw195 => k0_hw195

def k0_off783 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1116 : BitVec 32 := 2112#32
  let v2229 : BitVec 32 := Scalar.muli v19 c2112_i32_1116
  let arg1 : BitVec 32 := BitVec.ofNat 32 (i 1).val
  let c192_i32_1117 : BitVec 32 := 192#32
  let v2230 : BitVec 32 := Scalar.muli arg1 c192_i32_1117
  let v2231 : BitVec 32 := Scalar.addi v2229 v2230
  let c184_i32 : BitVec 32 := 184#32
  let v2232 : BitVec 32 := Scalar.addi v2231 c184_i32
  let v2233 : Index := Scalar.indexCast v2232
  ![v2233.toNat]
def k0_off784 (i : grid0.Coords) : Fin 1 → Nat :=
  let c1_i32_1115 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2228 : BitVec 32 := Scalar.subi c1_i32_1115 v9
  ![v2228.toNat]
def k0_off785 (i : grid0.Coords) : Fin 4 → Nat :=
  let c1_i32_1115 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2228 : BitVec 32 := Scalar.subi c1_i32_1115 v9
  let arg1 : BitVec 32 := BitVec.ofNat 32 (i 1).val
  let c184_i32_1118 : BitVec 32 := 184#32
  let c0_i32_1119 : BitVec 32 := 0#32
  ![v2228.toNat, arg1.toNat, 184, 0]
def k0_off786 (v2234 : BitVec 32) : Fin 2 → Nat :=
  let c0_i32_1120 : BitVec 32 := 0#32
  ![v2234.toNat, 0]

def k0_chk196 (v2234 : BitVec 32) : Prop :=
  (∀ a, (k0_off786 v2234) a + S1x1024.size a ≤ S16384x1024.size a)
theorem k0_off786_inb : ∀ (v2234 : BitVec 32) (k0_hw196 : k0_chk196 v2234), ∀ a, (k0_off786 v2234) a + S1x1024.size a ≤ S16384x1024.size a := fun v2234 k0_hw196 => k0_hw196

def k0_off787 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1122 : BitVec 32 := 2112#32
  let v2241 : BitVec 32 := Scalar.muli v19 c2112_i32_1122
  let arg1 : BitVec 32 := BitVec.ofNat 32 (i 1).val
  let c192_i32_1123 : BitVec 32 := 192#32
  let v2242 : BitVec 32 := Scalar.muli arg1 c192_i32_1123
  let v2243 : BitVec 32 := Scalar.addi v2241 v2242
  let c185_i32 : BitVec 32 := 185#32
  let v2244 : BitVec 32 := Scalar.addi v2243 c185_i32
  let v2245 : Index := Scalar.indexCast v2244
  ![v2245.toNat]
def k0_off788 (i : grid0.Coords) : Fin 1 → Nat :=
  let c1_i32_1121 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2240 : BitVec 32 := Scalar.subi c1_i32_1121 v9
  ![v2240.toNat]
def k0_off789 (i : grid0.Coords) : Fin 4 → Nat :=
  let c1_i32_1121 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2240 : BitVec 32 := Scalar.subi c1_i32_1121 v9
  let arg1 : BitVec 32 := BitVec.ofNat 32 (i 1).val
  let c185_i32_1124 : BitVec 32 := 185#32
  let c0_i32_1125 : BitVec 32 := 0#32
  ![v2240.toNat, arg1.toNat, 185, 0]
def k0_off790 (v2246 : BitVec 32) : Fin 2 → Nat :=
  let c0_i32_1126 : BitVec 32 := 0#32
  ![v2246.toNat, 0]

def k0_chk197 (v2246 : BitVec 32) : Prop :=
  (∀ a, (k0_off790 v2246) a + S1x1024.size a ≤ S16384x1024.size a)
theorem k0_off790_inb : ∀ (v2246 : BitVec 32) (k0_hw197 : k0_chk197 v2246), ∀ a, (k0_off790 v2246) a + S1x1024.size a ≤ S16384x1024.size a := fun v2246 k0_hw197 => k0_hw197

def k0_off791 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1128 : BitVec 32 := 2112#32
  let v2253 : BitVec 32 := Scalar.muli v19 c2112_i32_1128
  let arg1 : BitVec 32 := BitVec.ofNat 32 (i 1).val
  let c192_i32_1129 : BitVec 32 := 192#32
  let v2254 : BitVec 32 := Scalar.muli arg1 c192_i32_1129
  let v2255 : BitVec 32 := Scalar.addi v2253 v2254
  let c186_i32 : BitVec 32 := 186#32
  let v2256 : BitVec 32 := Scalar.addi v2255 c186_i32
  let v2257 : Index := Scalar.indexCast v2256
  ![v2257.toNat]
def k0_off792 (i : grid0.Coords) : Fin 1 → Nat :=
  let c1_i32_1127 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2252 : BitVec 32 := Scalar.subi c1_i32_1127 v9
  ![v2252.toNat]
def k0_off793 (i : grid0.Coords) : Fin 4 → Nat :=
  let c1_i32_1127 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2252 : BitVec 32 := Scalar.subi c1_i32_1127 v9
  let arg1 : BitVec 32 := BitVec.ofNat 32 (i 1).val
  let c186_i32_1130 : BitVec 32 := 186#32
  let c0_i32_1131 : BitVec 32 := 0#32
  ![v2252.toNat, arg1.toNat, 186, 0]
def k0_off794 (v2258 : BitVec 32) : Fin 2 → Nat :=
  let c0_i32_1132 : BitVec 32 := 0#32
  ![v2258.toNat, 0]

def k0_chk198 (v2258 : BitVec 32) : Prop :=
  (∀ a, (k0_off794 v2258) a + S1x1024.size a ≤ S16384x1024.size a)
theorem k0_off794_inb : ∀ (v2258 : BitVec 32) (k0_hw198 : k0_chk198 v2258), ∀ a, (k0_off794 v2258) a + S1x1024.size a ≤ S16384x1024.size a := fun v2258 k0_hw198 => k0_hw198

def k0_off795 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1134 : BitVec 32 := 2112#32
  let v2265 : BitVec 32 := Scalar.muli v19 c2112_i32_1134
  let arg1 : BitVec 32 := BitVec.ofNat 32 (i 1).val
  let c192_i32_1135 : BitVec 32 := 192#32
  let v2266 : BitVec 32 := Scalar.muli arg1 c192_i32_1135
  let v2267 : BitVec 32 := Scalar.addi v2265 v2266
  let c187_i32 : BitVec 32 := 187#32
  let v2268 : BitVec 32 := Scalar.addi v2267 c187_i32
  let v2269 : Index := Scalar.indexCast v2268
  ![v2269.toNat]
def k0_off796 (i : grid0.Coords) : Fin 1 → Nat :=
  let c1_i32_1133 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2264 : BitVec 32 := Scalar.subi c1_i32_1133 v9
  ![v2264.toNat]
def k0_off797 (i : grid0.Coords) : Fin 4 → Nat :=
  let c1_i32_1133 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2264 : BitVec 32 := Scalar.subi c1_i32_1133 v9
  let arg1 : BitVec 32 := BitVec.ofNat 32 (i 1).val
  let c187_i32_1136 : BitVec 32 := 187#32
  let c0_i32_1137 : BitVec 32 := 0#32
  ![v2264.toNat, arg1.toNat, 187, 0]
def k0_off798 (v2270 : BitVec 32) : Fin 2 → Nat :=
  let c0_i32_1138 : BitVec 32 := 0#32
  ![v2270.toNat, 0]

def k0_chk199 (v2270 : BitVec 32) : Prop :=
  (∀ a, (k0_off798 v2270) a + S1x1024.size a ≤ S16384x1024.size a)
theorem k0_off798_inb : ∀ (v2270 : BitVec 32) (k0_hw199 : k0_chk199 v2270), ∀ a, (k0_off798 v2270) a + S1x1024.size a ≤ S16384x1024.size a := fun v2270 k0_hw199 => k0_hw199

def k0_off799 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1140 : BitVec 32 := 2112#32
  let v2277 : BitVec 32 := Scalar.muli v19 c2112_i32_1140
  let arg1 : BitVec 32 := BitVec.ofNat 32 (i 1).val
  let c192_i32_1141 : BitVec 32 := 192#32
  let v2278 : BitVec 32 := Scalar.muli arg1 c192_i32_1141
  let v2279 : BitVec 32 := Scalar.addi v2277 v2278
  let c188_i32 : BitVec 32 := 188#32
  let v2280 : BitVec 32 := Scalar.addi v2279 c188_i32
  let v2281 : Index := Scalar.indexCast v2280
  ![v2281.toNat]
def k0_off800 (i : grid0.Coords) : Fin 1 → Nat :=
  let c1_i32_1139 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2276 : BitVec 32 := Scalar.subi c1_i32_1139 v9
  ![v2276.toNat]
def k0_off801 (i : grid0.Coords) : Fin 4 → Nat :=
  let c1_i32_1139 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2276 : BitVec 32 := Scalar.subi c1_i32_1139 v9
  let arg1 : BitVec 32 := BitVec.ofNat 32 (i 1).val
  let c188_i32_1142 : BitVec 32 := 188#32
  let c0_i32_1143 : BitVec 32 := 0#32
  ![v2276.toNat, arg1.toNat, 188, 0]
def k0_off802 (v2282 : BitVec 32) : Fin 2 → Nat :=
  let c0_i32_1144 : BitVec 32 := 0#32
  ![v2282.toNat, 0]

def k0_chk200 (v2282 : BitVec 32) : Prop :=
  (∀ a, (k0_off802 v2282) a + S1x1024.size a ≤ S16384x1024.size a)
theorem k0_off802_inb : ∀ (v2282 : BitVec 32) (k0_hw200 : k0_chk200 v2282), ∀ a, (k0_off802 v2282) a + S1x1024.size a ≤ S16384x1024.size a := fun v2282 k0_hw200 => k0_hw200

def k0_off803 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1146 : BitVec 32 := 2112#32
  let v2289 : BitVec 32 := Scalar.muli v19 c2112_i32_1146
  let arg1 : BitVec 32 := BitVec.ofNat 32 (i 1).val
  let c192_i32_1147 : BitVec 32 := 192#32
  let v2290 : BitVec 32 := Scalar.muli arg1 c192_i32_1147
  let v2291 : BitVec 32 := Scalar.addi v2289 v2290
  let c189_i32 : BitVec 32 := 189#32
  let v2292 : BitVec 32 := Scalar.addi v2291 c189_i32
  let v2293 : Index := Scalar.indexCast v2292
  ![v2293.toNat]
def k0_off804 (i : grid0.Coords) : Fin 1 → Nat :=
  let c1_i32_1145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2288 : BitVec 32 := Scalar.subi c1_i32_1145 v9
  ![v2288.toNat]
def k0_off805 (i : grid0.Coords) : Fin 4 → Nat :=
  let c1_i32_1145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2288 : BitVec 32 := Scalar.subi c1_i32_1145 v9
  let arg1 : BitVec 32 := BitVec.ofNat 32 (i 1).val
  let c189_i32_1148 : BitVec 32 := 189#32
  let c0_i32_1149 : BitVec 32 := 0#32
  ![v2288.toNat, arg1.toNat, 189, 0]
def k0_off806 (v2294 : BitVec 32) : Fin 2 → Nat :=
  let c0_i32_1150 : BitVec 32 := 0#32
  ![v2294.toNat, 0]

def k0_chk201 (v2294 : BitVec 32) : Prop :=
  (∀ a, (k0_off806 v2294) a + S1x1024.size a ≤ S16384x1024.size a)
theorem k0_off806_inb : ∀ (v2294 : BitVec 32) (k0_hw201 : k0_chk201 v2294), ∀ a, (k0_off806 v2294) a + S1x1024.size a ≤ S16384x1024.size a := fun v2294 k0_hw201 => k0_hw201

def k0_off807 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1152 : BitVec 32 := 2112#32
  let v2301 : BitVec 32 := Scalar.muli v19 c2112_i32_1152
  let arg1 : BitVec 32 := BitVec.ofNat 32 (i 1).val
  let c192_i32_1153 : BitVec 32 := 192#32
  let v2302 : BitVec 32 := Scalar.muli arg1 c192_i32_1153
  let v2303 : BitVec 32 := Scalar.addi v2301 v2302
  let c190_i32 : BitVec 32 := 190#32
  let v2304 : BitVec 32 := Scalar.addi v2303 c190_i32
  let v2305 : Index := Scalar.indexCast v2304
  ![v2305.toNat]
def k0_off808 (i : grid0.Coords) : Fin 1 → Nat :=
  let c1_i32_1151 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2300 : BitVec 32 := Scalar.subi c1_i32_1151 v9
  ![v2300.toNat]
def k0_off809 (i : grid0.Coords) : Fin 4 → Nat :=
  let c1_i32_1151 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2300 : BitVec 32 := Scalar.subi c1_i32_1151 v9
  let arg1 : BitVec 32 := BitVec.ofNat 32 (i 1).val
  let c190_i32_1154 : BitVec 32 := 190#32
  let c0_i32_1155 : BitVec 32 := 0#32
  ![v2300.toNat, arg1.toNat, 190, 0]
def k0_off810 (v2306 : BitVec 32) : Fin 2 → Nat :=
  let c0_i32_1156 : BitVec 32 := 0#32
  ![v2306.toNat, 0]

def k0_chk202 (v2306 : BitVec 32) : Prop :=
  (∀ a, (k0_off810 v2306) a + S1x1024.size a ≤ S16384x1024.size a)
theorem k0_off810_inb : ∀ (v2306 : BitVec 32) (k0_hw202 : k0_chk202 v2306), ∀ a, (k0_off810 v2306) a + S1x1024.size a ≤ S16384x1024.size a := fun v2306 k0_hw202 => k0_hw202

def k0_off811 (i : grid0.Coords) : Fin 1 → Nat :=
  let arg0 : BitVec 32 := BitVec.ofNat 32 (i 0).val
  let c1_i32_8 : BitVec 32 := 1#32
  let v18 : BitVec 32 := Scalar.addi arg0 c1_i32_8
  let c15_i32 : BitVec 32 := 15#32
  let v19 : BitVec 32 := Scalar.minsi v18 c15_i32
  let c2112_i32_1158 : BitVec 32 := 2112#32
  let v2313 : BitVec 32 := Scalar.muli v19 c2112_i32_1158
  let arg1 : BitVec 32 := BitVec.ofNat 32 (i 1).val
  let c192_i32_1159 : BitVec 32 := 192#32
  let v2314 : BitVec 32 := Scalar.muli arg1 c192_i32_1159
  let v2315 : BitVec 32 := Scalar.addi v2313 v2314
  let c191_i32 : BitVec 32 := 191#32
  let v2316 : BitVec 32 := Scalar.addi v2315 c191_i32
  let v2317 : Index := Scalar.indexCast v2316
  ![v2317.toNat]
def k0_off812 (i : grid0.Coords) : Fin 1 → Nat :=
  let c1_i32_1157 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2312 : BitVec 32 := Scalar.subi c1_i32_1157 v9
  ![v2312.toNat]
def k0_off813 (i : grid0.Coords) : Fin 4 → Nat :=
  let c1_i32_1157 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2312 : BitVec 32 := Scalar.subi c1_i32_1157 v9
  let arg1 : BitVec 32 := BitVec.ofNat 32 (i 1).val
  let c191_i32_1160 : BitVec 32 := 191#32
  let c0_i32_1161 : BitVec 32 := 0#32
  ![v2312.toNat, arg1.toNat, 191, 0]
def k0_off814 (v2318 : BitVec 32) : Fin 2 → Nat :=
  let c0_i32_1162 : BitVec 32 := 0#32
  ![v2318.toNat, 0]

def k0_chk203 (v2318 : BitVec 32) : Prop :=
  (∀ a, (k0_off814 v2318) a + S1x1024.size a ≤ S16384x1024.size a)
theorem k0_off814_inb : ∀ (v2318 : BitVec 32) (k0_hw203 : k0_chk203 v2318), ∀ a, (k0_off814 v2318) a + S1x1024.size a ≤ S16384x1024.size a := fun v2318 k0_hw203 => k0_hw203

def k0_cond3 (i : grid0.Coords) : BitVec 1 :=
  let arg0 : BitVec 32 := BitVec.ofNat 32 (i 0).val
  let c15_i32_1194 : BitVec 32 := 15#32
  let v2361 : BitVec 1 := Scalar.cmpi .eq arg0 c15_i32_1194
  let arg1 : BitVec 32 := BitVec.ofNat 32 (i 1).val
  let c10_i32_1195 : BitVec 32 := 10#32
  let v2362 : BitVec 1 := Scalar.cmpi .eq arg1 c10_i32_1195
  let v2363 : BitVec 1 := Scalar.andi v2361 v2362
  let v2364 : BitVec 32 := Scalar.extui v2363
  let c0_i32_1196 : BitVec 32 := 0#32
  let v2365 : BitVec 1 := Scalar.cmpi .ne v2364 c0_i32_1196
  v2365

@[reducible] def k0_t13_loop : Scf.Loop 32 :=
  let c0_i32_1198 : BitVec 32 := 0#32
  let c2112_i32_1199 : BitVec 32 := 2112#32
  let v2367 : BitVec 32 := Scalar.addi c0_i32_1198 c2112_i32_1199
  let c1_i32_1200 : BitVec 32 := 1#32
  ⟨c0_i32_1198, v2367, c1_i32_1200⟩
def k0_off815 (i : grid0.Coords) : Fin 1 → Nat :=
  let c1_i32_1197 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2366 : BitVec 32 := Scalar.subi c1_i32_1197 v9
  ![v2366.toNat]
def k0_off816 (i : grid0.Coords) : Fin 4 → Nat :=
  let c1_i32_1197 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2366 : BitVec 32 := Scalar.subi c1_i32_1197 v9
  let c0_i32_1201 : BitVec 32 := 0#32
  let c0_i32_1202 : BitVec 32 := 0#32
  let c0_i32_1203 : BitVec 32 := 0#32
  ![v2366.toNat, 0, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S2x16x1024 : Shape := ⟨3, ![2, 16, 1024]⟩
abbrev S16384x1024 : Shape := ⟨2, ![16384, 1024]⟩
abbrev S16x1024x2816 : Shape := ⟨3, ![16, 1024, 2816]⟩
abbrev S16x2816x1024 : Shape := ⟨3, ![16, 2816, 1024]⟩
abbrev S2x8192x1024 : Shape := ⟨3, ![2, 8192, 1024]⟩
abbrev S_ : Shape := ⟨0, ![]⟩
abbrev S2x16x1024x1 : Shape := ⟨4, ![2, 16, 1024, 1]⟩
abbrev S2x16x1024x1024 : Shape := ⟨4, ![2, 16, 1024, 1024]⟩
abbrev S16x2816x2x1024 : Shape := ⟨4, ![16, 2816, 2, 1024]⟩
abbrev S2x16x1024x2816 : Shape := ⟨4, ![2, 16, 1024, 2816]⟩
abbrev S16x1024x2x1024 : Shape := ⟨4, ![16, 1024, 2, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x16x1024, .i32⟩
  | .hbm, ⟨1, _⟩ => ⟨S16384x1024, .f32⟩
  | .hbm, ⟨2, _⟩ => ⟨S16x1024x2816, .f32⟩
  | .hbm, ⟨3, _⟩ => ⟨S16x1024x2816, .f32⟩
  | .hbm, ⟨4, _⟩ => ⟨S16x2816x1024, .f32⟩
  | .hbm, ⟨5, _⟩ => ⟨S2x8192x1024, .f32⟩
  | .hbm, ⟨6, _⟩ => ⟨S_, .i32⟩
  | .hbm, ⟨7, _⟩ => ⟨S2x16x1024, .i32⟩
  | .hbm, ⟨8, _⟩ => ⟨S2x16x1024, .i1⟩
  | .hbm, ⟨9, _⟩ => ⟨S_, .i32⟩
  | .hbm, ⟨10, _⟩ => ⟨S2x16x1024, .i32⟩
  | .hbm, ⟨11, _⟩ => ⟨S2x16x1024, .i32⟩
  | .hbm, ⟨12, _⟩ => ⟨S2x16x1024, .i32⟩
  | .hbm, ⟨13, _⟩ => ⟨S2x16x1024x1, .i32⟩
  | .hbm, ⟨14, _⟩ => ⟨S2x16x1024x1024, .f32⟩
  | .hbm, ⟨15, _⟩ => ⟨S16x2816x2x1024, .f32⟩
  | .hbm, ⟨16, _⟩ => ⟨S2x16x1024x2816, .f32⟩
  | .hbm, ⟨17, _⟩ => ⟨S2x16x1024x2816, .f32⟩
  | .hbm, ⟨18, _⟩ => ⟨S2x16x1024x2816, .f32⟩
  | .hbm, ⟨19, _⟩ => ⟨S_, .f32⟩
  | .hbm, ⟨20, _⟩ => ⟨S2x16x1024x2816, .f32⟩
  | .hbm, ⟨21, _⟩ => ⟨S2x16x1024x2816, .f32⟩
  | .hbm, ⟨22, _⟩ => ⟨S_, .f32⟩
  | .hbm, ⟨23, _⟩ => ⟨S2x16x1024x2816, .f32⟩
  | .hbm, ⟨24, _⟩ => ⟨S2x16x1024x2816, .f32⟩
  | .hbm, ⟨25, _⟩ => ⟨S2x16x1024x2816, .f32⟩
  | .hbm, ⟨26, _⟩ => ⟨S16x2816x2x1024, .f32⟩
  | .hbm, ⟨27, _⟩ => ⟨S2x16x1024x2816, .f32⟩
  | .hbm, ⟨28, _⟩ => ⟨S2x16x1024x2816, .f32⟩
  | .hbm, ⟨29, _⟩ => ⟨S16x1024x2x1024, .f32⟩
  | .hbm, ⟨30, _⟩ => ⟨S2x16x1024x1024, .f32⟩
  | _, _ => ⟨S2x16x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]
-- ==== Kernel2.lean ====
abbrev S2x8192x1024 : Shape := ⟨3, ![2, 8192, 1024]⟩
abbrev S8x6144 : Shape := ⟨2, ![8, 6144]⟩
abbrev S1024 : Shape := ⟨1, ![1024]⟩
abbrev S1024x3072 : Shape := ⟨2, ![1024, 3072]⟩
abbrev S2x2x512 : Shape := ⟨3, ![2, 2, 512]⟩
abbrev S1x1024 : Shape := ⟨2, ![1, 1024]⟩
abbrev S2x8192x512 : Shape := ⟨3, ![2, 8192, 512]⟩
abbrev S1x512x1024 : Shape := ⟨3, ![1, 512, 1024]⟩
abbrev S1x512x512 : Shape := ⟨3, ![1, 512, 512]⟩
abbrev S1x2x512 : Shape := ⟨3, ![1, 2, 512]⟩
abbrev S2x512 : Shape := ⟨2, ![2, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x256x512 : Shape := ⟨3, ![1, 256, 512]⟩
abbrev S1x512 : Shape := ⟨2, ![1, 512]⟩

abbrev nBuf : Space → Nat
  | .hbm => 13
  | .vmem => 18
  | .smem => 0
  | _ => 0

abbrev bufTy : (tb : Table) → Fin (tcTables nBuf tb) → BufTy
  | .hbm, ⟨0, _⟩ => ⟨S2x8192x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S2x2x512, .f32⟩
  | .hbm, ⟨5, _⟩ => ⟨S1024x3072, .bf16⟩
  | .hbm, ⟨6, _⟩ => ⟨S1x1024, .f32⟩
  | .hbm, ⟨7, _⟩ => ⟨S2x8192x512, .f32⟩
  | .hbm, ⟨8, _⟩ => ⟨S2x8192x512, .bf16⟩
  | .hbm, ⟨9, _⟩ => ⟨S2x8192x512, .bf16⟩
  | .hbm, ⟨10, _⟩ => ⟨S2x8192x512, .f32⟩
  | .hbm, ⟨11, _⟩ => ⟨S2x8192x512, .f32⟩
  | .hbm, ⟨12, _⟩ => ⟨S2x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S8x6144, .f32⟩
  | .local _ .vmem, ⟨3, _⟩ => ⟨S1x1024, .f32⟩
  | .local _ .vmem, ⟨4, _⟩ => ⟨S1024x3072, .bf16⟩
  | .local _ .vmem, ⟨5, _⟩ => ⟨S2x2x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .bf16⟩
  | .local _ .vmem, ⟨17, _⟩ => ⟨S1x512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1024 : Index := 1024#32
  ![v2.toNat, 1024]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S2x8192x1024 : Shape := ⟨3, ![2, 8192, 1024]⟩
abbrev S8x6144 : Shape := ⟨2, ![8, 6144]⟩
abbrev S1024 : Shape := ⟨1, ![1024]⟩
abbrev S1024x3072 : Shape := ⟨2, ![1024, 3072]⟩
abbrev S2x2x512 : Shape := ⟨3, ![2, 2, 512]⟩
abbrev S_ : Shape := ⟨0, ![]⟩
abbrev S2x512 : Shape := ⟨2, ![2, 512]⟩
abbrev S1x2x512 : Shape := ⟨3, ![1, 2, 512]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S2x8192x512 : Shape := ⟨3, ![2, 8192, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 119
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x6144, .f32⟩
  | .hbm, ⟨2, _⟩ => ⟨S1024, .f32⟩
  | .hbm, ⟨3, _⟩ => ⟨S1024x3072, .f32⟩
  | .hbm, ⟨4, _⟩ => ⟨S2x2x512, .f32⟩
  | .hbm, ⟨5, _⟩ => ⟨S_, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S1x2x512, .f32⟩
  | .hbm, ⟨11, _⟩ => ⟨S2x2x512, .f32⟩
  | .hbm, ⟨12, _⟩ => ⟨S2x2x512, .f32⟩
  | .hbm, ⟨13, _⟩ => ⟨S2x2x512, .f32⟩
  | .hbm, ⟨14, _⟩ => ⟨S_, .f32⟩
  | .hbm, ⟨15, _⟩ => ⟨S2x512, .f32⟩
  | .hbm, ⟨16, _⟩ => ⟨S1x2x512, .f32⟩
  | .hbm, ⟨17, _⟩ => ⟨S2x2x512, .f32⟩
  | .hbm, ⟨18, _⟩ => ⟨S2x2x512, .f32⟩
  | .hbm, ⟨19, _⟩ => ⟨S_, .f32⟩
  | .hbm, ⟨20, _⟩ => ⟨S_, .f32⟩
  | .hbm, ⟨21, _⟩ => ⟨S2x2x512, .f32⟩
  | .hbm, ⟨22, _⟩ => ⟨S1x2x512, .f32⟩
  | .hbm, ⟨23, _⟩ => ⟨S2x512, .f32⟩
  | .hbm, ⟨24, _⟩ => ⟨S2x1024, .f32⟩
  | .hbm, ⟨25, _⟩ => ⟨S2x1x1024, .f32⟩
  | .hbm, ⟨26, _⟩ => ⟨S2x1024, .f32⟩
  | .hbm, ⟨27, _⟩ => ⟨S2x1x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S_, .f32⟩
  | .hbm, ⟨45, _⟩ => ⟨S2x1x1024, .f32⟩
  | .hbm, ⟨46, _⟩ => ⟨S2x1x1024, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x3072, .f32⟩
  | .hbm, ⟨52, _⟩ => ⟨S2x8192x512, .f32⟩
  | .hbm, ⟨53, _⟩ => ⟨S2x8192x512, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S2x8192x512, .f32⟩
  | .hbm, ⟨58, _⟩ => ⟨S2x8192x512, .f32⟩
  | .hbm, ⟨59, _⟩ => ⟨S2x8192x512, .f32⟩
  | .hbm, ⟨60, _⟩ => ⟨S_, .f32⟩
  | .hbm, ⟨61, _⟩ => ⟨S2x8192x512, .f32⟩
  | .hbm, ⟨62, _⟩ => ⟨S2x8192x512, .f32⟩
  | .hbm, ⟨63, _⟩ => ⟨S_, .f32⟩
  | .hbm, ⟨64, _⟩ => ⟨S2x8192x512, .f32⟩
  | .hbm, ⟨65, _⟩ => ⟨S2x8192x512, .f32⟩
  | .hbm, ⟨66, _⟩ => ⟨S2x8192x512, .f32⟩
  | .hbm, ⟨67, _⟩ => ⟨S2x8192x512, .bf16⟩
  | .hbm, ⟨68, _⟩ => ⟨S2x8192x512, .bf16⟩
  | .hbm, ⟨69, _⟩ => ⟨S1x512, .f32⟩
  | .hbm, ⟨70, _⟩ => ⟨S512, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S2x8192x512, .f32⟩
  | .hbm, ⟨75, _⟩ => ⟨S2x8192x512, .f32⟩
  | .hbm, ⟨76, _⟩ => ⟨S_, .f32⟩
  | .hbm, ⟨77, _⟩ => ⟨S2x8192x512, .f32⟩
  | .hbm, ⟨78, _⟩ => ⟨S2x8192x512, .f32⟩
  | .hbm, ⟨79, _⟩ => ⟨S_, .f32⟩
  | .hbm, ⟨80, _⟩ => ⟨S2x8192x512, .f32⟩
  | .hbm, ⟨81, _⟩ => ⟨S2x8192x512, .f32⟩
  | .hbm, ⟨82, _⟩ => ⟨S1x1x512, .f32⟩
  | .hbm, ⟨83, _⟩ => ⟨S2x8192x512, .f32⟩
  | .hbm, ⟨84, _⟩ => ⟨S2x8192x512, .f32⟩
  | .hbm, ⟨85, _⟩ => ⟨S1x1x512, .f32⟩
  | .hbm, ⟨86, _⟩ => ⟨S2x8192x512, .f32⟩
  | .hbm, ⟨87, _⟩ => ⟨S2x8192x512, .f32⟩
  | .hbm, ⟨88, _⟩ => ⟨S2x8192x512, .f32⟩
  | .hbm, ⟨89, _⟩ => ⟨S1x512, .f32⟩
  | .hbm, ⟨90, _⟩ => ⟨S512, .f32⟩
  | .hbm, ⟨91, _⟩ => ⟨S_, .f32⟩
  | .hbm, ⟨92, _⟩ => ⟨S512, .f32⟩
  | .hbm, ⟨93, _⟩ => ⟨S512, .f32⟩
  | .hbm, ⟨94, _⟩ => ⟨S2x8192x512, .f32⟩
  | .hbm, ⟨95, _⟩ => ⟨S2x8192x512, .f32⟩
  | .hbm, ⟨96, _⟩ => ⟨S_, .f32⟩
  | .hbm, ⟨97, _⟩ => ⟨S2x8192x512, .f32⟩
  | .hbm, ⟨98, _⟩ => ⟨S2x8192x512, .f32⟩
  | .hbm, ⟨99, _⟩ => ⟨S_, .f32⟩
  | .hbm, ⟨100, _⟩ => ⟨S2x8192x512, .f32⟩
  | .hbm, ⟨101, _⟩ => ⟨S2x8192x512, .f32⟩
  | .hbm, ⟨102, _⟩ => ⟨S1x1x512, .f32⟩
  | .hbm, ⟨103, _⟩ => ⟨S2x8192x512, .f32⟩
  | .hbm, ⟨104, _⟩ => ⟨S2x8192x512, .f32⟩
  | .hbm, ⟨105, _⟩ => ⟨S1x1x512, .f32⟩
  | .hbm, ⟨106, _⟩ => ⟨S2x8192x512, .f32⟩
  | .hbm, ⟨107, _⟩ => ⟨S2x8192x512, .f32⟩
  | .hbm, ⟨108, _⟩ => ⟨S2x8192x512, .f32⟩
  | .hbm, ⟨109, _⟩ => ⟨S2x8192x512, .f32⟩
  | .hbm, ⟨110, _⟩ => ⟨S2x8192x512, .f32⟩
  | .hbm, ⟨111, _⟩ => ⟨S_, .f32⟩
  | .hbm, ⟨112, _⟩ => ⟨S2x8192x512, .f32⟩
  | .hbm, ⟨113, _⟩ => ⟨S2x8192x512, .f32⟩
  | .hbm, ⟨114, _⟩ => ⟨S_, .f32⟩
  | .hbm, ⟨115, _⟩ => ⟨S2x8192x512, .f32⟩
  | .hbm, ⟨116, _⟩ => ⟨S2x8192x512, .f32⟩
  | .hbm, ⟨117, _⟩ => ⟨S2x8192x512, .f32⟩
  | .hbm, ⟨118, _⟩ => ⟨S2x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_9 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_10 : Ref sig .tc := ⟨.hbm, 96, rfl⟩
abbrev main_v70 : Ref sig .tc := ⟨.hbm, 97, rfl⟩
abbrev main_v71 : Ref sig .tc := ⟨.hbm, 98, rfl⟩
abbrev main_cst_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call2_v0 : Ref sig .tc := ⟨.hbm, 109, rfl⟩
abbrev main_call2_v1 : Ref sig .tc := ⟨.hbm, 110, rfl⟩
abbrev main_call2_cst : Ref sig .tc := ⟨.hbm, 111, rfl⟩
abbrev main_call2_v2 : Ref sig .tc := ⟨.hbm, 112, rfl⟩
abbrev main_call2_v3 : Ref sig .tc := ⟨.hbm, 113, rfl⟩
abbrev main_call2_cst_0 : Ref sig .tc := ⟨.hbm, 114, rfl⟩
abbrev main_call2_v4 : Ref sig .tc := ⟨.hbm, 115, rfl⟩
abbrev main_call2_v5 : Ref sig .tc := ⟨.hbm, 116, rfl⟩
abbrev main_v81 : Ref sig .tc := ⟨.hbm, 117, rfl⟩
abbrev main_v82 : Ref sig .tc := ⟨.hbm, 118, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x512 : Shape := ⟨3, ![2, 8192, 512]⟩
abbrev S8x6144 : Shape := ⟨2, ![8, 6144]⟩
abbrev S512 : Shape := ⟨1, ![512]⟩
abbrev S4x128x128 : Shape := ⟨3, ![4, 128, 128]⟩
abbrev S1024x1024 : Shape := ⟨2, ![1024, 1024]⟩
abbrev S1024 : Shape := ⟨1, ![1024]⟩
abbrev S1024x16 : Shape := ⟨2, ![1024, 16]⟩
abbrev S128x128 : Shape := ⟨2, ![128, 128]⟩
abbrev S_ : Shape := ⟨0, ![]⟩
abbrev S1024x128 : Shape := ⟨2, ![1024, 128]⟩
abbrev S1x512 : Shape := ⟨2, ![1, 512]⟩
abbrev S1x1024 : Shape := ⟨2, ![1, 1024]⟩
abbrev S2x16x8192 : Shape := ⟨3, ![2, 16, 8192]⟩
abbrev S1x512x1024 : Shape := ⟨3, ![1, 512, 1024]⟩
abbrev S1x512x512 : Shape := ⟨3, ![1, 512, 512]⟩
abbrev S1x16x512 : Shape := ⟨3, ![1, 16, 512]⟩
abbrev S1x256x128 : Shape := ⟨3, ![1, 256, 128]⟩
abbrev S256x128 : Shape := ⟨2, ![256, 128]⟩
abbrev S1x128x128 : Shape := ⟨3, ![1, 128, 128]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S1x128 : Shape := ⟨2, ![1, 128]⟩
abbrev S256x1024 : Shape := ⟨2, ![256, 1024]⟩
abbrev S1x256x1024 : Shape := ⟨3, ![1, 256, 1024]⟩
abbrev S128x256 : Shape := ⟨2, ![128, 256]⟩
abbrev S16x256 : Shape := ⟨2, ![16, 256]⟩
abbrev S1x16x256 : Shape := ⟨3, ![1, 16, 256]⟩

abbrev nBuf : Space → Nat
  | .hbm => 23
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x8192x512, .bf16⟩
  | .hbm, ⟨4, _⟩ => ⟨S2x8192x1024, .f32⟩
  | .hbm, ⟨5, _⟩ => ⟨S8x6144, .f32⟩
  | .hbm, ⟨6, _⟩ => ⟨S512, .f32⟩
  | .hbm, ⟨7, _⟩ => ⟨S4x128x128, .f32⟩
  | .hbm, ⟨8, _⟩ => ⟨S1024x1024, .f32⟩
  | .hbm, ⟨9, _⟩ => ⟨S1024, .f32⟩
  | .hbm, ⟨10, _⟩ => ⟨S1024x16, .f32⟩
  | .hbm, ⟨11, _⟩ => ⟨S128x128, .bf16⟩
  | .hbm, ⟨12, _⟩ => ⟨S128x128, .bf16⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S4x128x128, .bf16⟩
  | .hbm, ⟨17, _⟩ => ⟨S1024x1024, .bf16⟩
  | .hbm, ⟨18, _⟩ => ⟨S1x512, .f32⟩
  | .hbm, ⟨19, _⟩ => ⟨S1x1024, .f32⟩
  | .hbm, ⟨20, _⟩ => ⟨S2x8192x1024, .f32⟩
  | .hbm, ⟨21, _⟩ => ⟨S2x8192x1024, .f32⟩
  | .hbm, ⟨22, _⟩ => ⟨S2x16x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .f32⟩
  | .local _ .vmem, ⟨9, _⟩ => ⟨S1x512x1024, .f32⟩
  | .local _ .vmem, ⟨10, _⟩ => ⟨S8x6144, .f32⟩
  | .local _ .vmem, ⟨11, _⟩ => ⟨S1x512, .f32⟩
  | .local _ .vmem, ⟨12, _⟩ => ⟨S128x128, .bf16⟩
  | .local _ .vmem, ⟨13, _⟩ => ⟨S128x128, .bf16⟩
  | .local _ .vmem, ⟨14, _⟩ => ⟨S4x128x128, .bf16⟩
  | .local _ .vmem, ⟨15, _⟩ => ⟨S1024x1024, .bf16⟩
  | .local _ .vmem, ⟨16, _⟩ => ⟨S1x1024, .f32⟩
  | .local _ .vmem, ⟨17, _⟩ => ⟨S1024x128, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | .local _ .vmem, ⟨22, _⟩ => ⟨S1x16x512, .f32⟩
  | .local _ .vmem, ⟨23, _⟩ => ⟨S1x16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v5_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let v0 : Index := Scalar.indexCast arg0
  let c2048 : Index := 2048#32
  ![v0.toNat, 2048]
def k0_off2 (i : grid0.Coords) : Fin 2 → Nat :=
  let arg0 : BitVec 32 := BitVec.ofNat 32 (i 0).val
  let v2 : Index := Scalar.indexCast arg0
  let c3072 : Index := 3072#32
  ![v2.toNat, 3072]
def k0_off3 (i : grid0.Coords) : Fin 2 → Nat :=
  let arg0 : BitVec 32 := BitVec.ofNat 32 (i 0).val
  let v4 : Index := Scalar.indexCast arg0
  let c4096 : Index := 4096#32
  ![v4.toNat, 4096]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S2x8192x1024 : Shape := ⟨3, ![2, 8192, 1024]⟩
abbrev S2x8192x512 : Shape := ⟨3, ![2, 8192, 512]⟩
abbrev S8x6144 : Shape := ⟨2, ![8, 6144]⟩
abbrev S512 : Shape := ⟨1, ![512]⟩
abbrev S4x128x128 : Shape := ⟨3, ![4, 128, 128]⟩
abbrev S1024x1024 : Shape := ⟨2, ![1024, 1024]⟩
abbrev S1024 : Shape := ⟨1, ![1024]⟩
abbrev S1024x16 : Shape := ⟨2, ![1024, 16]⟩
abbrev S128x128 : Shape := ⟨2, ![128, 128]⟩
abbrev S2x8192x4x128 : Shape := ⟨4, ![2, 8192, 4, 128]⟩
abbrev S4x128x2x8192 : Shape := ⟨4, ![4, 128, 2, 8192]⟩
abbrev S_ : Shape := ⟨0, ![]⟩
abbrev S2x8192x4 : Shape := ⟨3, ![2, 8192, 4]⟩
abbrev S2x8192x4x1 : Shape := ⟨4, ![2, 8192, 4, 1]⟩
abbrev S1x1x512 : Shape := ⟨3, ![1, 1, 512]⟩
abbrev S2x1024 : Shape := ⟨2, ![2, 1024]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x8192x512, .bf16⟩
  | .hbm, ⟨4, _⟩ => ⟨S2x8192x1024, .f32⟩
  | .hbm, ⟨5, _⟩ => ⟨S8x6144, .f32⟩
  | .hbm, ⟨6, _⟩ => ⟨S512, .f32⟩
  | .hbm, ⟨7, _⟩ => ⟨S4x128x128, .f32⟩
  | .hbm, ⟨8, _⟩ => ⟨S1024x1024, .f32⟩
  | .hbm, ⟨9, _⟩ => ⟨S1024, .f32⟩
  | .hbm, ⟨10, _⟩ => ⟨S1024x16, .f32⟩
  | .hbm, ⟨11, _⟩ => ⟨S128x128, .bf16⟩
  | .hbm, ⟨12, _⟩ => ⟨S128x128, .bf16⟩
  | .hbm, ⟨13, _⟩ => ⟨S2x8192x512, .f32⟩
  | .hbm, ⟨14, _⟩ => ⟨S2x8192x4x128, .f32⟩
  | .hbm, ⟨15, _⟩ => ⟨S2x8192x512, .f32⟩
  | .hbm, ⟨16, _⟩ => ⟨S2x8192x4x128, .f32⟩
  | .hbm, ⟨17, _⟩ => ⟨S128x128, .f32⟩
  | .hbm, ⟨18, _⟩ => ⟨S2x8192x4x128, .f32⟩
  | .hbm, ⟨19, _⟩ => ⟨S128x128, .f32⟩
  | .hbm, ⟨20, _⟩ => ⟨S2x8192x4x128, .f32⟩
  | .hbm, ⟨21, _⟩ => ⟨S2x8192x4x128, .f32⟩
  | .hbm, ⟨22, _⟩ => ⟨S4x128x2x8192, .f32⟩
  | .hbm, ⟨23, _⟩ => ⟨S2x8192x4x128, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x4x128, .f32⟩
  | .hbm, ⟨29, _⟩ => ⟨S2x8192x4x128, .f32⟩
  | .hbm, ⟨30, _⟩ => ⟨S_, .f32⟩
  | .hbm, ⟨31, _⟩ => ⟨S2x8192x4, .f32⟩
  | .hbm, ⟨32, _⟩ => ⟨S2x8192x4x1, .f32⟩
  | .hbm, ⟨33, _⟩ => ⟨S_, .f32⟩
  | .hbm, ⟨34, _⟩ => ⟨S2x8192x4x1, .f32⟩
  | .hbm, ⟨35, _⟩ => ⟨S2x8192x4x1, .f32⟩
  | .hbm, ⟨36, _⟩ => ⟨S_, .f32⟩
  | .hbm, ⟨37, _⟩ => ⟨S2x8192x4x1, .f32⟩
  | .hbm, ⟨38, _⟩ => ⟨S2x8192x4x1, .f32⟩
  | .hbm, ⟨39, _⟩ => ⟨S2x8192x4x1, .f32⟩
  | .hbm, ⟨40, _⟩ => ⟨S2x8192x4x128, .f32⟩
  | .hbm, ⟨41, _⟩ => ⟨S2x8192x4x128, .f32⟩
  | .hbm, ⟨42, _⟩ => ⟨S2x8192x512, .f32⟩
  | .hbm, ⟨43, _⟩ => ⟨S1x1x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S2x8192x1024, .f32⟩
  | .hbm, ⟨49, _⟩ => ⟨S2x8192x1024, .f32⟩
  | .hbm, ⟨50, _⟩ => ⟨S2x1024, .f32⟩
  | .hbm, ⟨51, _⟩ => ⟨S2x1x1024, .f32⟩
  | .hbm, ⟨52, _⟩ => ⟨S2x1024, .f32⟩
  | .hbm, ⟨53, _⟩ => ⟨S2x1x1024, .f32⟩
  | .hbm, ⟨54, _⟩ => ⟨S2x1024, .f32⟩
  | .hbm, ⟨55, _⟩ => ⟨S2x1x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S_, .f32⟩
  | .hbm, ⟨67, _⟩ => ⟨S2x8192x1, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S2x8192x1024, .f32⟩
  | .hbm, ⟨74, _⟩ => ⟨S2x8192x1024, .f32⟩
  | .hbm, ⟨75, _⟩ => ⟨S_, .f32⟩
  | .hbm, ⟨76, _⟩ => ⟨S2x1x1024, .f32⟩
  | .hbm, ⟨77, _⟩ => ⟨S2x1x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Proof.K.Rows.lean ====
module

public import proofs.«01_k».proof.Proof.Gen.Kernel.Skeleton
public import Idealize.ShloMosaic.Lib.Pipeline.FrameBody
public import Idealize.ShloMosaic.Lib.Batch
public import Idealize.ShloMosaic.Lib.Ring
public import Idealize.ShloMosaic.Lib.Tactic

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Cert.Kernel.Gen

local notation "𝕄" => MT nD τ sig Unit (Elt F) ℕ (Pipeline.UD sig nD τ) ℕ

/-- The routing table in scalar memory. -/
abbrev tM : Memref sig .tc .smem S33792 .i32 := Memref.whole main_v9
/-- The hidden rows in HBM. -/
abbrev hM : Memref sig .tc .hbm S16384x1024 .f32 := Memref.whole main_arg1
/-- The two slots that gathered rows land in. -/
abbrev xM : Memref sig .tc .vmem S2x11x192x1024 .f32 := Memref.whole cc0_scratch0

/-- The row of a slot at offset `o`, as the body names it. -/
abbrev dstM (o : Fin 4 → ℕ) (h : ∀ a, o a + S1x1x1x1024.size a ≤ S2x11x192x1024.size a) : Memref sig .tc .vmem S1x1024 .f32 :=
  (xM.slice (Rect.unit (s := S2x11x192x1024) o S1x1x1x1024.size h) (fun _ => rfl)).squeeze S1x1024 squeezes_S1x1x1x1024_S1x1024
/-- The hidden row at offset `o`, as the body names it. -/
abbrev srcM (o : Fin 2 → ℕ) (h : ∀ a, o a + S1x1024.size a ≤ S16384x1024.size a) : Memref sig .tc .hbm S1x1024 .f32 :=
  hM.slice (Rect.unit (s := S16384x1024) o S1x1024.size h) (fun _ => rfl)
/-- The slot's semaphore, as the body names it. -/
abbrev semAt (o : Fin 1 → ℕ) (h : ∀ a, o a + S1.size a ≤ S2.size a) : DmaSem sig :=
  ((cc0_scratch2.slice (Rect.unit (s := S2) o S1.size h)).squeeze S_ squeezes_S1_S_).sem

theorem rowInb (s : Fin 2) (t : Fin 2112) : ∀ a, (![s.val, t.val / 192, t.val % 192, 0] : Fin 4 → ℕ) a + S1x1x1x1024.size a ≤ S2x11x192x1024.size a := by
  have hs := s.isLt
  have ht := t.isLt
  intro a; fin_cases a <;> simp [S1x1x1x1024, S2x11x192x1024] <;> omega
theorem srcInb (r : Fin 16384) : ∀ a, (![r.val, 0] : Fin 2 → ℕ) a + S1x1024.size a ≤ S16384x1024.size a := by
  have hr := r.isLt
  intro a; fin_cases a <;> simp [S1x1024, S16384x1024] ; omega
theorem semInb (s : Fin 2) : ∀ a, (![s.val] : Fin 1 → ℕ) a + S1.size a ≤ S2.size a := by
  have hs := s.isLt
  intro a; fin_cases a; simp [S1, S2]; omega

/-- Row `t` of slot `s`. -/
abbrev dM (s : Fin 2) (t : Fin 2112) : Memref sig .tc .vmem S1x1024 .f32 := dstM ![s.val, t.val / 192, t.val % 192, 0] (rowInb s t)
/-- Hidden row `r`. -/
abbrev sM (r : Fin 16384) : Memref sig .tc .hbm S1x1024 .f32 := srcM ![r.val, 0] (srcInb r)
/-- Slot `s`'s semaphore. -/
abbrev cell (s : Fin 2) : DmaSem sig := semAt ![s.val] (semInb s)

abbrev EC : UEmb Counters (MT nD τ sig Unit (Elt F) ℕ (Pipeline.UD sig nD τ) ℕ) := countersEmb (U := Pipeline.UD sig nD τ)

variable (c : Dev nD) (s : Fin 2) (f : Buf (Elt F) (xM.view.loc (c.tc : Thread nD τ))) (H : Buf (Elt F) (hM.view.loc (c.tc : Thread nD τ)))
  (R : Fin 2112 → Fin 16384)

/-- What the copy of row `t` takes: its row of the slot, and a share of the hidden row it reads. -/
def lent (t : Fin 2112) : sProp 𝕄 :=
  iprop(((sM (R t)).view.loc (c.tc : Thread nD τ) ↦[(sM (R t)).view.set]{Transfers.shareTokN fullShare t.val} H)
    ∗ ((dM s t).view.loc (c.tc : Thread nD τ) ↦[(dM s t).view.set]{fullShare} f))
/-- What the copy of row `t` gives back: the row of the slot holding the hidden row, and the share. -/
def deliv (t : Fin 2112) : sProp 𝕄 :=
  iprop(((dM s t).view.loc (c.tc : Thread nD τ) ↦[(dM s t).view.set]{fullShare}
      ((dM s t).view.write (Elt F) f ((ReadAs.same : ReadAs (Elt F) S1x1024 .f32 S1x1024 .f32).apply ((sM (R t)).view.read (Elt F) H)) Finset.univ))
    ∗ ((sM (R t)).view.loc (c.tc : Thread nD τ) ↦[(sM (R t)).view.set]{Transfers.shareTokN fullShare t.val} H))
instance (t : Fin 2112) : Storable (upEmb : UEmb _ 𝕄) (deliv c s f H R t) := by unfold deliv; infer_instance

/-- A row's credit on its slot's semaphore. -/
def rowN : ℕ := Idealize.ShloMosaic.RefSig.tileCredit S1x1024 .f32
theorem rowN_pos : 0 < rowN := by decide
theorem amount_row (s : Fin 2) (t : Fin 2112) : (dM s t).view.amount (.dma (cell s)) = rowN := rfl

/-- A slot being filled: `k` of its 2112 rows issued and `u` units of their credit waited for; what the rows still
    to be issued take is in hand. -/
def Iss (k u : ℕ) : sProp 𝕄 :=
  iprop(Transfers.Batch EC (c.tc : Thread nD τ) (.dma (cell s)) () rowN (deliv c s f H R) k u
    ∗ bigSep (Transfers.pending k) (lent c s f H R))

/-- The element of the table at place `p`. -/
def tabAt (T : Buf (Elt F) (tM.view.loc (c.tc : Thread nD τ))) (p : ℕ) (hp : p < 33792) : BitVec 32 :=
  T (show S33792.Idx from fun a => ⟨p, (Fin.forall_fin_one (p := fun a => p < S33792.size a)).2 hp a⟩)

/-- What a load of one word of the table reads. -/
theorem tab_read (T : Buf (Elt F) (tM.view.loc (c.tc : Thread nD τ))) (p : ℕ) (hp : p < 33792)
    (h : ∀ a, (![p] : Fin 1 → ℕ) a + S1.size a ≤ S33792.size a) (x : (Rect.unit (s := S33792) ![p] S1.size h).shape.Idx) :
    (tM.access (Rect.unit (s := S33792) ![p] S1.size h)).read (Elt F) T x = tabAt c T p hp := by
  unfold tabAt
  change T _ = T _
  congr 1
  funext a
  apply Fin.ext
  fin_cases a
  have hx := (x 0).isLt
  change p + 1 * (x 0).val = p
  have hx' : (x 0).val < 1 := hx
  omega

/-- The weakest precondition of a piece of the body on a core. -/
abbrev wpF {α : Type} (p : Prog (TpuEff nD τ sig (Elt F) Λ₀ .tc) α) (Q : α → sProp 𝕄) : sProp 𝕄 :=
  wp frame (wpE (defs₀ (F := F)) Variants.none (c.tc : Thread nD τ) none) Set.univ p Q

/-- A share of the table. -/
def Tab (T : Buf (Elt F) (tM.view.loc (c.tc : Thread nD τ))) : sProp 𝕄 :=
  iprop(tM.view.loc (c.tc : Thread nD τ) ↦[tM.view.set]{fullShare.right} T)

section Steps
variable {α : Type} (T : Buf (Elt F) (tM.view.loc (c.tc : Thread nD τ)))

theorem tab_sub (r : Rect S33792) : (tM.access r).set ⊆ tM.view.set :=
  (tM.set_access_subset_setOn r).trans (View.setOn_subset_set _ _)

/-- A load from the table, the issue state carried along. -/
theorem st_load {P : sProp 𝕄} {Q : α → sProp 𝕄} {o : Fin 1 → ℕ} {p : ℕ} (hp : p < 33792) {h : ∀ a, o a + S1.size a ≤ S33792.size a} {h1} {h2}
    {K : Elt F .i32 → Prog (TpuEff nD τ sig (Elt F) Λ₀ .tc) α} (ho : o = ![p])
    (hK : iprop(Tab c T ∗ P) ⊢ wpF c (K (tabAt c T p hp)) Q) :
    iprop(Tab c T ∗ P) ⊢ wpF c (smemLoad tM (Rect.unit (s := S33792) o S1.size h) h1 h2 >>= K) Q := by
  subst ho
  change _ ⊢ wpF c (smemLoadElt tM (Rect.unit (s := S33792) ![p] S1.size h) (View.loads_smem_one h2 h1)
    (Shape.Idx.first (Eq.symm h1 ▸ Nat.one_pos)) K) _
  unfold Tab at *
  iintro ⟨HT, HP⟩
  iapply (wp_smemLoadElt Variants.none (c.tc : Thread nD τ) none Set.univ (m := tM) (r := Rect.unit (s := S33792) ![p] S1.size h)
    (S := tM.view.set) (q := fullShare.right) (f := T) (tab_sub _)) $$ [HT]
  · iexact HT
  iintro HT
  rw [tab_read c T p hp]
  iapply hK
  isplitl [HT]; · iexact HT
  iexact HP

/-- An assumed side condition that holds. -/
theorem st_assume {P : sProp 𝕄} {Q : α → sProp 𝕄} {A : Prop} {d : Decidable A} {K : PLift A → Prog (TpuEff nD τ sig (Elt F) Λ₀ .tc) α} (h : A)
    (hK : P ⊢ wpF c (K ⟨h⟩) Q) : P ⊢ wpF c (Prog.lift (TpuEff.assume A d) >>= K) Q :=
  hK.trans (wp_assume Variants.none (c.tc : Thread nD τ) none Set.univ (k := K) h)

/-- The next row's copy issued. -/
theorem st_enq {P : sProp 𝕄} {Q : α → sProp 𝕄} {o : Fin 4 → ℕ} {ov : Fin 2 → ℕ} {os : Fin 1 → ℕ} {k : ℕ} (hk : k < 2112)
    {h : ∀ a, o a + S1x1x1x1024.size a ≤ S2x11x192x1024.size a} {hv : ∀ a, ov a + S1x1024.size a ≤ S16384x1024.size a}
    {hs : ∀ a, os a + S1.size a ≤ S2.size a} {e1 e2 e3}
    {K : PUnit → Prog (TpuEff nD τ sig (Elt F) Λ₀ .tc) α}
    (ho : o = ![s.val, k / 192, k % 192, 0]) (hov : ov = ![(R ⟨k, hk⟩).val, 0]) (hos : os = ![s.val])
    (hK : iprop(P ∗ Iss c s f H R (k + 1) 0) ⊢ wpF c (K ⟨⟩) Q) :
    iprop(P ∗ Iss c s f H R k 0)
      ⊢ wpF c (Prog.lift (.enqueueDma (srcM ov hv) (.here (dstM o h)) (.dma (semAt os hs)) e1 e2 e3) >>= K) Q := by
  subst ho hov hos
  unfold Iss
  rw [Transfers.bigSep_pending_step _ k hk]
  conv in (lent c s f H R ⟨k, hk⟩) => unfold lent
  iintro ⟨HP, HB, ⟨Hs, Hd⟩, Hrest⟩
  iapply (Transfers.wp_dmaBatch (EC (F := F)) Variants.none (c.tc : Thread nD τ) none (src := sM (R ⟨k, hk⟩)) (dst := dM s ⟨k, hk⟩)
    (via := ReadAs.same) () rowN (amount_row s ⟨k, hk⟩)
    subset_rfl (D := deliv c s f H R) (j := k) (u := 0) hk (Nat.zero_le _) (by unfold deliv; exact .rfl)) $$ [Hs Hd HB]
  · isplitl [Hs]; · iexact Hs
    isplitl [Hd]; · iexact Hd
    iexact HB
  iintro HB
  iapply hK
  isplitl [HP]; · iexact HP
  unfold Iss
  isplitl [HB]; · iexact HB
  iexact Hrest
end Steps

end Cert.Kernel.Ffn
end
-- ==== Proof.K.Slots.lean ====
module

public import proofs.«01_k».proof.Proof.K.Rows
public import Idealize.ShloMosaic.Lib.ValueIdxCore
public import Idealize.ShloMosaic.Lib.Pointwise

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Cert.Kernel.Gen

local notation "𝕄" => MT nD τ sig Unit (Elt F) ℕ (Pipeline.UD sig nD τ) ℕ

/-- The elements of a slot. -/
def slotSet (s : Fin 2) : Finset S2x11x192x1024.Idx := Finset.univ.filter fun x => (x 0).val = s.val

theorem dM_set (s : Fin 2) (t : Fin 2112) :
    (dM s t).view.set = (Rect.unit (s := S2x11x192x1024) ![s.val, t.val / 192, t.val % 192, 0] S1x1x1x1024.size (rowInb s t)).set :=
  (View.set_reshape _ _).trans (View.set_slice_whole _ _)

theorem mem_dM (s : Fin 2) (t : Fin 2112) (x : S2x11x192x1024.Idx) :
    x ∈ (dM s t).view.set ↔ (x 0).val = s.val ∧ (x 1).val = t.val / 192 ∧ (x 2).val = t.val % 192 := by
  rw [dM_set]
  refine Rect.mem_set_unit.trans ?_
  have h3 : (x 3).val < 1024 := (x 3).isLt
  constructor
  · intro h
    have h0 := h 0; have h1 := h 1; have h2 := h 2
    simp [S1x1x1x1024] at h0 h1 h2
    omega
  · rintro ⟨h0, h1, h2⟩ a
    fin_cases a <;> simp [S1x1x1x1024] <;> omega

theorem rows_disjoint (s : Fin 2) : ∀ t ∈ (Finset.univ : Finset (Fin 2112)), ∀ t' ∈ (Finset.univ : Finset (Fin 2112)), t ≠ t' →
    Disjoint (dM s t).view.set (dM s t').view.set := by
  intro t _ t' _ hne
  rw [Finset.disjoint_left]
  intro x hx hx'
  have h1 := (mem_dM s t x).1 hx
  have h2 := (mem_dM s t' x).1 hx'
  apply hne
  apply Fin.ext
  omega

theorem rows_cover (s : Fin 2) : (Finset.univ : Finset (Fin 2112)).biUnion (fun t => (dM s t).view.set) = slotSet s := by
  ext x
  unfold slotSet
  rw [Finset.mem_biUnion]
  have h1 : ((x : S2x11x192x1024.Idx) 1).val < 11 := (x 1).isLt
  have h2 : ((x : S2x11x192x1024.Idx) 2).val < 192 := (x 2).isLt
  constructor
  · rintro ⟨t, _, ht⟩
    exact Finset.mem_filter.2 ⟨Finset.mem_univ _, ((mem_dM s t x).1 ht).1⟩
  · intro h
    have h := (Finset.mem_filter.1 h).2
    refine ⟨⟨(x 1).val * 192 + (x 2).val, by omega⟩, Finset.mem_univ _, (mem_dM s _ x).2 ⟨h, ?_, ?_⟩⟩ <;> simp <;> omega

theorem slots_disjoint : Disjoint (slotSet 0) (slotSet 1) := by
  rw [Finset.disjoint_left]
  intro x hx hx'
  have h1 := (Finset.mem_filter.1 hx).2
  have h2 := (Finset.mem_filter.1 hx').2
  simp at h1 h2
  omega
theorem slots_cover : slotSet 0 ∪ slotSet 1 = Finset.univ := by
  ext x
  have h0 : ((x : S2x11x192x1024.Idx) 0).val < 2 := (x 0).isLt
  rw [Finset.mem_union]
  refine ⟨fun _ => Finset.mem_univ _, fun _ => ?_⟩
  rcases Nat.lt_or_ge (x 0).val 1 with h | h
  · left; exact Finset.mem_filter.2 ⟨Finset.mem_univ _, by simp; omega⟩
  · right; exact Finset.mem_filter.2 ⟨Finset.mem_univ _, by simp; omega⟩

theorem bigSep_two {I : Type} [DecidableEq I] (S : Finset I) (Φ Ψ : I → sProp 𝕄) :
    bigSep S (fun t => iprop(Φ t ∗ Ψ t)) = iprop(bigSep S Φ ∗ bigSep S Ψ) := BI.bigSep_sep S Φ Ψ

variable (c : Dev nD) (s : Fin 2) (f : Buf (Elt F) (xM.view.loc (c.tc : Thread nD τ))) (H : Buf (Elt F) (hM.view.loc (c.tc : Thread nD τ)))
  (R : Fin 2112 → Fin 16384)

/-- A slot held whole. -/
def Slot : sProp 𝕄 := iprop(xM.view.loc (c.tc : Thread nD τ) ↦[slotSet s]{fullShare} f)
/-- What is left of the hidden rows while copies of the rows `R` are out. -/
def Rest : sProp 𝕄 :=
  iprop((hM.view.loc (c.tc : Thread nD τ) ↦[Finset.univ]{Transfers.shareDrop fullShare 2112} H)
    ∗ bigSep Finset.univ fun t : Fin 2112 =>
        iprop(hM.view.loc (c.tc : Thread nD τ) ↦[Finset.univ \ (sM (R t)).view.set]{Transfers.shareTokN fullShare t.val} H))
/-- The hidden rows held whole. -/
def Hid : sProp 𝕄 := iprop(hM.view.loc (c.tc : Thread nD τ) ↦[Finset.univ]{fullShare} H)

/-- A slot holding the rows `R`. -/
def filled : Buf (Elt F) (xM.view.loc (c.tc : Thread nD τ)) :=
  fun x : S2x11x192x1024.Idx => H (ix2 (n0 := 16384) (n1 := 1024)
    (R ⟨(x 1).val * 192 + (x 2).val, by
      have h1 : (x 1).val < 11 := (x 1).isLt
      have h2 : (x 2).val < 192 := (x 2).isLt
      omega⟩) (x 3))

theorem slot_rows : Slot c s f = bigSep Finset.univ fun t : Fin 2112 =>
    (iprop((dM s t).view.loc (c.tc : Thread nD τ) ↦[(dM s t).view.set]{fullShare} f) : sProp 𝕄) := by
  unfold Slot
  rw [← rows_cover s]
  exact pointsTo_biUnion _ _ (rows_disjoint s)

theorem emb3 (s : Fin 2) (t : Fin 2112) (y : S1x1024.Idx) : (((dM s t).view.emb y : S2x11x192x1024.Idx) 3).val = (y 1).val := by
  have h : shapeCast S1x1024 (fun z : S1x1x1x1024.Idx => (z 3).val) (by decide) y = (y 1).val := by
    idx_vars y
    simp only [pointwise]
  change 0 + 1 * (shapeCast S1x1024 (fun z : S1x1x1x1024.Idx => (z 3).val) (by decide) y) = _
  rw [h]; omega

/-- What a row holds once its copy has landed. -/
theorem filled_row (t : Fin 2112) : ∀ x ∈ (dM s t).view.set,
    ((dM s t).view.write (Elt F) f ((ReadAs.same : ReadAs (Elt F) S1x1024 .f32 S1x1024 .f32).apply ((sM (R t)).view.read (Elt F) H)) Finset.univ) x
      = filled c H R x := by
  intro x hx
  have hm := (mem_dM s t x).1 hx
  obtain ⟨y, rfl⟩ : ∃ y, (dM s t).view.emb y = x := by
    have := hx
    unfold View.set at this
    simpa using this
  rw [View.write_emb_of_mem _ _ (Finset.mem_univ y)]
  have h3 := emb3 s t y
  have h0 : (y 0).val < 1 := (y 0).isLt
  unfold filled
  change H ((sM (R t)).view.emb y) = H _
  congr 1
  funext a
  apply Fin.ext
  fin_cases a
  · change (R t).val + 1 * (y 0).val = (R _).val
    have e : t = ⟨((dM s t).view.emb y 1).val * 192 + ((dM s t).view.emb y 2).val, by rw [hm.2.1, hm.2.2]; omega⟩ := by
      apply Fin.ext
      simp only [hm.2.1, hm.2.2]
      omega
    rw [show (y 0).val = 0 by omega, ← e]
    rfl
  · change 0 + 1 * (y 1).val = ((dM s t).view.emb y 3).val
    rw [h3]; omega

theorem hid_toks : (bigSep Finset.univ fun i : Fin 2112 => (iprop(hM.view.loc (c.tc : Thread nD τ) ↦[Finset.univ]{Transfers.shareTok fullShare 2112 i} H) : sProp 𝕄))
    = iprop((bigSep Finset.univ fun t : Fin 2112 =>
        (iprop((sM (R t)).view.loc (c.tc : Thread nD τ) ↦[(sM (R t)).view.set]{Transfers.shareTokN fullShare t.val} H) : sProp 𝕄))
      ∗ bigSep Finset.univ fun t : Fin 2112 =>
        (iprop(hM.view.loc (c.tc : Thread nD τ) ↦[Finset.univ \ (sM (R t)).view.set]{Transfers.shareTokN fullShare t.val} H) : sProp 𝕄)) := by
  refine Eq.trans ?_ (bigSep_two _ _ _)
  congr 1
  funext t
  have e := pointsTo_split_subset (nD := nD) (τ := τ) (sig := sig) (Ix := Unit) (Val := Elt F) (Name := ℕ) (U := Pipeline.UD sig nD τ) (Lvl := ℕ)
    (ℓ := hM.view.loc (c.tc : Thread nD τ)) (q := Transfers.shareTokN fullShare t.val) (f := H)
    (Finset.subset_univ (sM (R t)).view.set)
  exact Idealize.SL.BI.Entails.antisymm e.1 e.2

/-- The hidden rows lent out, a share of a row to each copy; -/
theorem open_hid : Hid c H ⊢ iprop(Rest c H R ∗ bigSep Finset.univ fun t : Fin 2112 =>
    (iprop((sM (R t)).view.loc (c.tc : Thread nD τ) ↦[(sM (R t)).view.set]{Transfers.shareTokN fullShare t.val} H) : sProp 𝕄)) := by
  unfold Hid Rest
  refine (Transfers.pointsTo_toks_split fullShare 2112).trans ?_
  rw [hid_toks c H R]
  iintro ⟨A, B, C⟩
  isplitl [A C]
  · isplitl [A]; · iexact A
    iexact C
  iexact B

/-- and taken back. -/
theorem close_hid : iprop(Rest c H R ∗ bigSep Finset.univ fun t : Fin 2112 =>
    (iprop((sM (R t)).view.loc (c.tc : Thread nD τ) ↦[(sM (R t)).view.set]{Transfers.shareTokN fullShare t.val} H) : sProp 𝕄)) ⊢ Hid c H := by
  unfold Hid Rest
  refine .trans ?_ (Transfers.pointsTo_toks_join fullShare 2112)
  rw [hid_toks c H R]
  iintro ⟨⟨A, C⟩, B⟩
  isplitl [A]; · iexact A
  isplitl [B]; · iexact B
  iexact C

/-- A batch of copies opened on a slot: nothing issued yet. -/
theorem open_batch : iprop(Slot c s f ∗ Hid c H ∗ semVal ((c.tc : Thread nD τ), .dma (cell s)) 0)
    ⊢ (|={Set.univ}=> iprop(Iss c s f H R 0 0 ∗ Rest c H R) : sProp 𝕄) := by
  rw [slot_rows]
  iintro ⟨HS, HH, Hv⟩
  ihave ⟨HR, HT⟩ := (open_hid c H R) $$ HH
  imod (Transfers.batch_alloc' (Lvl := ℕ) EC (c.tc : Thread nD τ) () rowN (deliv c s f H R) (sm := .dma (cell s)) (E := Set.univ)) $$ Hv with HB
  imodintro
  unfold Iss
  rw [Transfers.pending_zero]
  isplitr [HR]
  · isplitl [HB]; · iexact HB
    unfold lent
    iapply (Entails.of_eq (bigSep_two _ _ _).symm)
    isplitl [HT]; · iexact HT
    iexact HS
  iexact HR

theorem deliv_eq (t : Fin 2112) : deliv c s f H R t
    = iprop(((dM s t).view.loc (c.tc : Thread nD τ) ↦[(dM s t).view.set]{fullShare} filled c H R)
      ∗ ((sM (R t)).view.loc (c.tc : Thread nD τ) ↦[(sM (R t)).view.set]{Transfers.shareTokN fullShare t.val} H)) := by
  unfold deliv
  rw [pointsTo_congr (filled_row c s f H R t)]

/-- A batch all waited for closed: the slot holds its rows. -/
theorem close_batch : iprop(Iss c s f H R 2112 (rowN * 2112) ∗ Rest c H R)
    ⊢ (|={Set.univ}=> iprop(Slot c s (filled c H R) ∗ Hid c H ∗ semVal ((c.tc : Thread nD τ), .dma (cell s)) 0) : sProp 𝕄) := by
  unfold Iss
  iintro ⟨⟨HB, -⟩, HR⟩
  imod (Transfers.batch_collect' EC (c.tc : Thread nD τ) rowN_pos) $$ HB with ⟨HD, Hv⟩
  imodintro
  rw [slot_rows]
  ihave HD := (Entails.of_eq ((congrArg (bigSep Finset.univ) (funext fun t => deliv_eq c s f H R t)).trans (bigSep_two _ _ _))) $$ HD
  icases HD with ⟨HS, HT⟩
  isplitl [HS]; · iexact HS
  isplitr [Hv]
  · iapply close_hid c H R
    isplitl [HR]; · iexact HR
    iexact HT
  iexact Hv

/-- Both slots are the whole buffer; -/
theorem slots_split : iprop(xM.view.loc (c.tc : Thread nD τ) ↦[Finset.univ]{fullShare} f) ⊢ (iprop(Slot c 0 f ∗ Slot c 1 f) : sProp 𝕄) := by
  unfold Slot
  rw [← slots_cover]
  exact (pointsTo_union slots_disjoint).1
/-- and back. -/
theorem slots_join (f g : Buf (Elt F) (xM.view.loc (c.tc : Thread nD τ))) : iprop(Slot c 0 f ∗ Slot c 1 g)
    ⊢ (iprop(∃ f, xM.view.loc (c.tc : Thread nD τ) ↦[Finset.univ]{fullShare} f) : sProp 𝕄) := by
  unfold Slot
  refine (pointsTo_join slots_disjoint).trans ?_
  rw [slots_cover]
  iintro H
  iexists _
  iexact H

end Cert.Kernel.Ffn
end
-- ==== Proof.K.Offs.lean ====
module

public import proofs.«01_k».proof.Proof.K.Rows

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

theorem lt0 (i : grid0.Coords) : (i 0).val < 16 := (i 0).isLt
theorem lt1 (i : grid0.Coords) : (i 1).val < 11 := (i 1).isLt

/-- The expert that a step's copies are for: the next one, or the last again. -/
def nx (i : grid0.Coords) : ℕ := min ((i 0).val + 1) 15
theorem nx_le (i : grid0.Coords) : nx i ≤ 15 := by unfold nx; omega

/-- The place in the table of the step's row `r`. -/
def place (i : grid0.Coords) (r : ℕ) : ℕ := nx i * 2112 + ((i 1).val * 192 + r)
theorem place_lt (i : grid0.Coords) {r : ℕ} (hr : r < 192) : place i r < 33792 := by
  have := nx_le i; have := lt1 i; unfold place; omega
/-- The number in its slot of the step's row `r`. -/
def rowNo (i : grid0.Coords) (r : ℕ) : ℕ := (i 1).val * 192 + r
theorem rowNo_lt (i : grid0.Coords) {r : ℕ} (hr : r < 192) : rowNo i r < 2112 := by
  have := lt1 i; unfold rowNo; omega
/-- The slot that the step's copies fill. -/
def nslot (i : grid0.Coords) : Fin 2 := ⟨1 - (i 0).val % 2, by omega⟩
/-- The slot that holds the step's own expert. -/
def cslot (i : grid0.Coords) : Fin 2 := ⟨(i 0).val % 2, by omega⟩

/-- The expert's parity as the body computes it. -/
def parW (n : ℕ) : BitVec 32 :=
  let arg0 : BitVec 32 := BitVec.ofNat 32 n
  let v0 : BitVec 1 := Scalar.cmpi .eq 2#32 0#32
  let v1 : BitVec 32 := Scalar.select v0 1#32 2#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2
theorem parW_eq : ∀ n : Fin 16, parW n.val = BitVec.ofNat 32 (n.val % 2) := by decide +kernel
theorem subPar : ∀ n : Fin 2, (Scalar.subi (1#32) (BitVec.ofNat 32 n.val)).toNat = 1 - n.val := by decide +kernel
theorem parPar : ∀ n : Fin 2, (BitVec.ofNat 32 n.val).toNat = n.val := by decide +kernel
/-- The next expert as the body computes it. -/
def nxW (n : ℕ) : BitVec 32 := Scalar.minsi (Scalar.addi (BitVec.ofNat 32 n) 1#32) 15#32
theorem nxW_eq : ∀ n : Fin 16, nxW n.val = BitVec.ofNat 32 (min (n.val + 1) 15) := by decide +kernel

theorem par_toNat (i : grid0.Coords) : (parW (i 0).val).toNat = (i 0).val % 2 := by
  rw [parW_eq ⟨(i 0).val, lt0 i⟩]; exact parPar ⟨(i 0).val % 2, by omega⟩
theorem npar_toNat (i : grid0.Coords) : (Scalar.subi (1#32) (parW (i 0).val)).toNat = 1 - (i 0).val % 2 := by
  rw [parW_eq ⟨(i 0).val, lt0 i⟩]; exact subPar ⟨(i 0).val % 2, by omega⟩

/-- The table offset of the step's row `r`. -/
theorem offT_eq (i : grid0.Coords) (r : ℕ) (hr : r < 192) :
    (![(Scalar.indexCast (Scalar.addi (Scalar.addi (Scalar.muli (nxW (i 0).val) 2112#32) (Scalar.muli (BitVec.ofNat 32 (i 1).val) 192#32))
      (BitVec.ofNat 32 r))).toNat] : Fin 1 → ℕ) = ![place i r] := by
  have h0 := nx_le i
  have h1 := lt1 i
  rw [nxW_eq ⟨(i 0).val, lt0 i⟩]
  change ![(BitVec.ofNat 32 (nx i) * 2112#32 + BitVec.ofNat 32 (i 1).val * 192#32 + BitVec.ofNat 32 r).toNat] = _
  congr 1
  simp only [BitVec.toNat_add, BitVec.toNat_mul, BitVec.toNat_ofNat]
  unfold place
  omega
/-- The semaphore offset of a step's copies. -/
theorem offS_eq (i : grid0.Coords) : (![(Scalar.subi (1#32) (parW (i 0).val)).toNat] : Fin 1 → ℕ) = ![(nslot i).val] := by
  rw [npar_toNat]; rfl
/-- The slot offset of the step's row `r`. -/
theorem offD_eq (i : grid0.Coords) (r : ℕ) (hr : r < 192) :
    (![(Scalar.subi (1#32) (parW (i 0).val)).toNat, (BitVec.ofNat 32 (i 1).val).toNat, r, 0] : Fin 4 → ℕ)
      = ![(nslot i).val, rowNo i r / 192, rowNo i r % 192, 0] := by
  have h1 := lt1 i
  rw [npar_toNat, BitVec.toNat_ofNat]
  have e1 : (i 1).val % 2 ^ 32 = rowNo i r / 192 := by unfold rowNo; omega
  have e2 : rowNo i r % 192 = r := by unfold rowNo; omega
  rw [e1, e2]; rfl

/-- A row number below the number of rows can be copied from. -/
theorem chk_of {v : BitVec 32} (h : v.toNat < 16384) : ∀ a, (![v.toNat, 0] : Fin 2 → ℕ) a + S1x1024.size a ≤ S16384x1024.size a :=
  srcInb ⟨v.toNat, h⟩

variable {F : FTy → Type} [FloatOps F]
variable (c : Dev nD) (f : Buf (Elt F) (xM.view.loc (c.tc : Thread nD τ))) (H : Buf (Elt F) (hM.view.loc (c.tc : Thread nD τ)))
  (R : Fin 2112 → Fin 16384) (T : Buf (Elt F) (tM.view.loc (c.tc : Thread nD τ)))

local notation "𝕄" => MT nD τ sig Unit (Elt F) ℕ (Pipeline.UD sig nD τ) ℕ

/-- The table word of the step's row `r`. -/
abbrev tw (i : grid0.Coords) (r : ℕ) (hr : r < 192) : BitVec 32 := tabAt c T (place i r) (place_lt i hr)
/-- The rows `R` are those that the table names for the step. -/
def Named (i : grid0.Coords) : Prop := ∀ (r : ℕ) (hr : r < 192), (R ⟨rowNo i r, rowNo_lt i hr⟩).val = (tw c T i r hr).toNat

/-- The step's state with its first `r` rows issued. -/
def St (P : sProp 𝕄) (i : grid0.Coords) (r : ℕ) : sProp 𝕄 :=
  iprop(Tab c T ∗ (P ∗ Iss c (nslot i) f H R (rowNo i r) 0))

variable {c f H R T}
theorem tw_lt {i : grid0.Coords} (hR : Named c R T i) {r : ℕ} (hr : r < 192) : (tw c T i r hr).toNat < 16384 := by
  rw [← hR r hr]; exact (R _).isLt

/-- Row `r`'s word loaded. -/
theorem stT {P : sProp 𝕄} {α : Type} {Q : α → sProp 𝕄} {i : grid0.Coords} {r r' : ℕ} (hr : r < 192) {o : Fin 1 → ℕ} {h : ∀ a, o a + S1.size a ≤ S33792.size a} {h1} {h2}
    {K : Elt F .i32 → Prog (TpuEff nD τ sig (Elt F) Λ₀ .tc) α} (ho : o = ![place i r])
    (hK : St c f H R T P i r' ⊢ wpF c (K (tw c T i r hr)) Q) :
    St c f H R T P i r' ⊢ wpF c (smemLoad tM (Rect.unit (s := S33792) o S1.size h) h1 h2 >>= K) Q :=
  st_load c T (place_lt i hr) ho hK

/-- Row `r`'s copy issued. -/
theorem stE {P : sProp 𝕄} {α : Type} {Q : α → sProp 𝕄} {i : grid0.Coords} (hR : Named c R T i) {r : ℕ} (hr : r < 192)
    {o : Fin 4 → ℕ} {ov : Fin 2 → ℕ} {os : Fin 1 → ℕ}
    {h : ∀ a, o a + S1x1x1x1024.size a ≤ S2x11x192x1024.size a} {hv : ∀ a, ov a + S1x1024.size a ≤ S16384x1024.size a}
    {hs : ∀ a, os a + S1.size a ≤ S2.size a} {e1 e2 e3}
    {K : PUnit → Prog (TpuEff nD τ sig (Elt F) Λ₀ .tc) α}
    (ho : o = ![(nslot i).val, rowNo i r / 192, rowNo i r % 192, 0]) (hov : ov = ![(tw c T i r hr).toNat, 0]) (hos : os = ![(nslot i).val])
    (hK : St c f H R T P i (r + 1) ⊢ wpF c (K ⟨⟩) Q) :
    St c f H R T P i r
      ⊢ wpF c (Prog.lift (.enqueueDma (srcM ov hv) (.here (dstM o h)) (.dma (semAt os hs)) e1 e2 e3) >>= K) Q := by
  unfold St
  refine Laws.sep_assoc.2.trans ?_
  refine st_enq c (nslot i) f H R (rowNo_lt i hr) ho (by rw [hov, hR r hr]) hos (Laws.sep_assoc.1.trans ?_)
  exact hK

/-- A part that ends with row `r`'s word loaded. -/
theorem stTl {P : sProp 𝕄} {Q : Elt F .i32 → sProp 𝕄} {i : grid0.Coords} {r r' : ℕ} (hr : r < 192) {o : Fin 1 → ℕ} {h : ∀ a, o a + S1.size a ≤ S33792.size a} {h1} {h2}
    (ho : o = ![place i r]) (hK : St c f H R T P i r' ⊢ Q (tw c T i r hr)) :
    St c f H R T P i r' ⊢ wpF c (smemLoad tM (Rect.unit (s := S33792) o S1.size h) h1 h2) Q :=
  stT (h := h) (h1 := h1) (h2 := h2) (K := pure) hr ho (by rw [wpF, wp_pure]; exact hK.trans fupd_intro)

/-- A part that ends. -/
theorem stR {P : sProp 𝕄} {α : Type} {Q : α → sProp 𝕄} {a : α} (h : P ⊢ Q a) : P ⊢ wpF c (pure a) Q := by
  rw [wpF, wp_pure]; exact h.trans fupd_intro

end Cert.Kernel.Ffn
end
-- ==== Proof.K.Pro.lean ====
module

public import proofs.«01_k».proof.Proof.K.Offs

@[expose] public section

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {f : Buf (Elt F) (xM.view.loc (c.tc : Thread nD τ))} {H : Buf (Elt F) (hM.view.loc (c.tc : Thread nD τ))}
  {R : Fin 2112 → Fin 16384} {T : Buf (Elt F) (tM.view.loc (c.tc : Thread nD τ))}

local notation "𝕄" => MT nD τ sig Unit (Elt F) ℕ (Pipeline.UD sig nD τ) ℕ

variable {i : grid0.Coords} {h2 : tM.IsWhole} {h3 : hM.IsWhole}
  {a4 : Memref sig .tc .vmem S1x1024x256 .f32} {h4 : a4.IsWhole} {a5 : Memref sig .tc .vmem S1x1024x256 .f32} {h5 : a5.IsWhole}
  {a6 : Memref sig .tc .vmem S1x256x1024 .f32} {h6 : a6.IsWhole} {a7 : Memref sig .tc .vmem S2x1x1024x1024 .f32} {h7 : a7.IsWhole}
  {h8 : xM.IsWhole} {a9 : Memref sig .tc .vmem S2048x1024 .bf16} {h9 : a9.IsWhole}

/-- The rows `R` are those that the table names for the first expert. -/
def Named0 (c : Dev nD) (R : Fin 2112 → Fin 16384) (T : Buf (Elt F) (tM.view.loc (c.tc : Thread nD τ))) : Prop :=
  ∀ (k : ℕ) (hk : k < 2112), (R ⟨k, hk⟩).val = (tabAt c T k (by omega)).toNat

/-- The state of the very first step with the first expert's first `k` rows issued. -/
def S0 (c : Dev nD) (f : Buf (Elt F) (xM.view.loc (c.tc : Thread nD τ))) (H : Buf (Elt F) (hM.view.loc (c.tc : Thread nD τ)))
    (R : Fin 2112 → Fin 16384) (T : Buf (Elt F) (tM.view.loc (c.tc : Thread nD τ))) (P : sProp 𝕄) (k : ℕ) : sProp 𝕄 :=
  iprop(Tab c T ∗ (P ∗ Iss c 0 f H R k 0))

/-- The issue of row `k` in the very first step. -/
theorem s0E {P : sProp 𝕄} {α : Type} {Q : α → sProp 𝕄} (hR : Named0 c R T) {k : ℕ} (hk : k < 2112)
    {o : Fin 4 → ℕ} {ov : Fin 2 → ℕ} {os : Fin 1 → ℕ}
    {h : ∀ a, o a + S1x1x1x1024.size a ≤ S2x11x192x1024.size a} {hv : ∀ a, ov a + S1x1024.size a ≤ S16384x1024.size a}
    {hs : ∀ a, os a + S1.size a ≤ S2.size a} {e1 e2 e3}
    {K : PUnit → Prog (TpuEff nD τ sig (Elt F) Λ₀ .tc) α}
    (ho : o = ![(0 : Fin 2).val, k / 192, k % 192, 0]) (hov : ov = ![(tabAt c T k (by omega)).toNat, 0]) (hos : os = ![(0 : Fin 2).val])
    (hK : S0 c f H R T P (k + 1) ⊢ wpF c (K ⟨⟩) Q) :
    S0 c f H R T P k
      ⊢ wpF c (Prog.lift (.enqueueDma (srcM ov hv) (.here (dstM o h)) (.dma (semAt os hs)) e1 e2 e3) >>= K) Q := by
  unfold S0
  refine Laws.sep_assoc.2.trans ?_
  refine st_enq c 0 f H R hk ho (by rw [hov, hR k hk]) hos (Laws.sep_assoc.1.trans ?_)
  exact hK

/-- A counted loop at the head of a program, by an invariant over its trips. -/
theorem loopB {α : Type} {Q : α → sProp 𝕄} (I : ℕ → sProp 𝕄) {loop : Scf.Loop 32} {ok : loop.OK}
    {body : Fin loop.trips → Unit → Prog (TpuEff nD τ sig (Elt F) Λ₀ .tc) Unit} {K : Unit → Prog (TpuEff nD τ sig (Elt F) Λ₀ .tc) α}
    {n : ℕ} (hn : loop.trips = n)
    (hbody : ∀ k : Fin loop.trips, I k.val ⊢ wpF c (body k ()) (fun _ => I (k.val + 1)))
    (hK : I n ⊢ wpF c (K ()) Q) : I 0 ⊢ wpF c (Scf.Loop.for loop ok () body >>= K) Q := by
  iintro HI
  iapply (Scf.wp_for_bind frame (wpE (defs₀ (F := F)) Variants.none (c.tc : Thread nD τ) none) Set.univ loop.lb loop.ub loop.st ok () body
    (fun k _ => I k) (fun k _ => hbody k)) $$ [HI]
  · iexact HI
  iintro %u HI
  iapply hK
  rw [← hn]
  iexact HI

theorem dst_eq (j k : ℕ) (hk : k < 192) : (![0, j, k, 0] : Fin 4 → ℕ) = ![(0 : Fin 2).val, (192 * j + k) / 192, (192 * j + k) % 192, 0] := by
  rw [show (192 * j + k) / 192 = j by omega, show (192 * j + k) % 192 = k by omega]; rfl

/-- Counted loop 1 of the very first step: rows 0 to 191 issued. -/
theorem l1 {P : sProp 𝕄} {α : Type} {Q : α → sProp 𝕄} (hR : Named0 c R T) (hc : k0_cond1 i = 1#1)
    {K : Unit → Prog (TpuEff nD τ sig (Elt F) Λ₀ .tc) α} (hK : S0 c f H R T P 192 ⊢ wpF c (K ()) Q) :
    S0 c f H R T P 0 ⊢ wpF c (Scf.Loop.for k0_t1_loop (k0_t1_ok i hc) () (k0_t1_body i tM h2 hM h3 a4 h4 a5 h5 a6 h6 a7 h7 xM h8 a9 h9 cc0_scratch2 hc) >>= K) Q := by
  refine loopB (fun k => S0 c f H R T P (192 * 0 + k)) (n := 192) (by decide) (fun k => ?_) hK
  have hk : k.val < 192 := lt_of_lt_of_le k.isLt (by decide)
  have hk' : 192 * 0 + k.val < 2112 := by omega
  have hv : (tabAt c T (192 * 0 + k.val) (by omega)).toNat < 16384 := by rw [← hR _ hk']; exact (R _).isLt
  unfold k0_t1_body
  refine st_load c T (show 192 * 0 + k.val < 33792 by omega) ((k0_off1_eq k).trans (by congr 1; try omega)) ?_
  refine st_assume c (show k0_chk1 i (tabAt c T (192 * 0 + k.val) (by omega)) from fun _ => chk_of hv) ?_
  refine s0E hR hk' ((k0_off2_eq k).trans (dst_eq 0 k.val hk)) rfl rfl ?_
  exact stR .rfl

/-- Counted loop 2 of the very first step: rows 192 to 383 issued. -/
theorem l2 {P : sProp 𝕄} {α : Type} {Q : α → sProp 𝕄} (hR : Named0 c R T) (hc : k0_cond1 i = 1#1)
    {K : Unit → Prog (TpuEff nD τ sig (Elt F) Λ₀ .tc) α} (hK : S0 c f H R T P 384 ⊢ wpF c (K ()) Q) :
    S0 c f H R T P 192 ⊢ wpF c (Scf.Loop.for k0_t2_loop (k0_t2_ok i hc) () (k0_t2_body i tM h2 hM h3 a4 h4 a5 h5 a6 h6 a7 h7 xM h8 a9 h9 cc0_scratch2 hc) >>= K) Q := by
  refine loopB (fun k => S0 c f H R T P (192 * 1 + k)) (n := 192) (by decide) (fun k => ?_) hK
  have hk : k.val < 192 := lt_of_lt_of_le k.isLt (by decide)
  have hk' : 192 * 1 + k.val < 2112 := by omega
  have hv : (tabAt c T (192 * 1 + k.val) (by omega)).toNat < 16384 := by rw [← hR _ hk']; exact (R _).isLt
  unfold k0_t2_body
  refine st_load c T (show 192 * 1 + k.val < 33792 by omega) ((k0_off4_eq k).trans (by congr 1; try omega)) ?_
  refine st_assume c (show k0_chk2 i (tabAt c T (192 * 1 + k.val) (by omega)) from fun _ => chk_of hv) ?_
  refine s0E hR hk' ((k0_off5_eq k).trans (dst_eq 1 k.val hk)) rfl rfl ?_
  exact stR .rfl

/-- Counted loop 3 of the very first step: rows 384 to 575 issued. -/
theorem l3 {P : sProp 𝕄} {α : Type} {Q : α → sProp 𝕄} (hR : Named0 c R T) (hc : k0_cond1 i = 1#1)
    {K : Unit → Prog (TpuEff nD τ sig (Elt F) Λ₀ .tc) α} (hK : S0 c f H R T P 576 ⊢ wpF c (K ()) Q) :
    S0 c f H R T P 384 ⊢ wpF c (Scf.Loop.for k0_t3_loop (k0_t3_ok i hc) () (k0_t3_body i tM h2 hM h3 a4 h4 a5 h5 a6 h6 a7 h7 xM h8 a9 h9 cc0_scratch2 hc) >>= K) Q := by
  refine loopB (fun k => S0 c f H R T P (192 * 2 + k)) (n := 192) (by decide) (fun k => ?_) hK
  have hk : k.val < 192 := lt_of_lt_of_le k.isLt (by decide)
  have hk' : 192 * 2 + k.val < 2112 := by omega
  have hv : (tabAt c T (192 * 2 + k.val) (by omega)).toNat < 16384 := by rw [← hR _ hk']; exact (R _).isLt
  unfold k0_t3_body
  refine st_load c T (show 192 * 2 + k.val < 33792 by omega) ((k0_off7_eq k).trans (by congr 1; try omega)) ?_
  refine st_assume c (show k0_chk3 i (tabAt c T (192 * 2 + k.val) (by omega)) from fun _ => chk_of hv) ?_
  refine s0E hR hk' ((k0_off8_eq k).trans (dst_eq 2 k.val hk)) rfl rfl ?_
  exact stR .rfl

/-- Counted loop 4 of the very first step: rows 576 to 767 issued. -/
theorem l4 {P : sProp 𝕄} {α : Type} {Q : α → sProp 𝕄} (hR : Named0 c R T) (hc : k0_cond1 i = 1#1)
    {K : Unit → Prog (TpuEff nD τ sig (Elt F) Λ₀ .tc) α} (hK : S0 c f H R T P 768 ⊢ wpF c (K ()) Q) :
    S0 c f H R T P 576 ⊢ wpF c (Scf.Loop.for k0_t4_loop (k0_t4_ok i hc) () (k0_t4_body i tM h2 hM h3 a4 h4 a5 h5 a6 h6 a7 h7 xM h8 a9 h9 cc0_scratch2 hc) >>= K) Q := by
  refine loopB (fun k => S0 c f H R T P (192 * 3 + k)) (n := 192) (by decide) (fun k => ?_) hK
  have hk : k.val < 192 := lt_of_lt_of_le k.isLt (by decide)
  have hk' : 192 * 3 + k.val < 2112 := by omega
  have hv : (tabAt c T (192 * 3 + k.val) (by omega)).toNat < 16384 := by rw [← hR _ hk']; exact (R _).isLt
  unfold k0_t4_body
  refine st_load c T (show 192 * 3 + k.val < 33792 by omega) ((k0_off10_eq k).trans (by congr 1; try omega)) ?_
  refine st_assume c (show k0_chk4 i (tabAt c T (192 * 3 + k.val) (by omega)) from fun _ => chk_of hv) ?_
  refine s0E hR hk' ((k0_off11_eq k).trans (dst_eq 3 k.val hk)) rfl rfl ?_
  exact stR .rfl

/-- Counted loop 5 of the very first step: rows 768 to 959 issued. -/
theorem l5 {P : sProp 𝕄} {α : Type} {Q : α → sProp 𝕄} (hR : Named0 c R T) (hc : k0_cond1 i = 1#1)
    {K : Unit → Prog (TpuEff nD τ sig (Elt F) Λ₀ .tc) α} (hK : S0 c f H R T P 960 ⊢ wpF c (K ()) Q) :
    S0 c f H R T P 768 ⊢ wpF c (Scf.Loop.for k0_t5_loop (k0_t5_ok i hc) () (k0_t5_body i tM h2 hM h3 a4 h4 a5 h5 a6 h6 a7 h7 xM h8 a9 h9 cc0_scratch2 hc) >>= K) Q := by
  refine loopB (fun k => S0 c f H R T P (192 * 4 + k)) (n := 192) (by decide) (fun k => ?_) hK
  have hk : k.val < 192 := lt_of_lt_of_le k.isLt (by decide)
  have hk' : 192 * 4 + k.val < 2112 := by omega
  have hv : (tabAt c T (192 * 4 + k.val) (by omega)).toNat < 16384 := by rw [← hR _ hk']; exact (R _).isLt
  unfold k0_t5_body
  refine st_load c T (show 192 * 4 + k.val < 33792 by omega) ((k0_off13_eq k).trans (by congr 1; try omega)) ?_
  refine st_assume c (show k0_chk5 i (tabAt c T (192 * 4 + k.val) (by omega)) from fun _ => chk_of hv) ?_
  refine s0E hR hk' ((k0_off14_eq k).trans (dst_eq 4 k.val hk)) rfl rfl ?_
  exact stR .rfl

/-- Counted loop 6 of the very first step: rows 960 to 1151 issued. -/
theorem l6 {P : sProp 𝕄} {α : Type} {Q : α → sProp 𝕄} (hR : Named0 c R T) (hc : k0_cond1 i = 1#1)
    {K : Unit → Prog (TpuEff nD τ sig (Elt F) Λ₀ .tc) α} (hK : S0 c f H R T P 1152 ⊢ wpF c (K ()) Q) :
    S0 c f H R T P 960 ⊢ wpF c (Scf.Loop.for k0_t6_loop (k0_t6_ok i hc) () (k0_t6_body i tM h2 hM h3 a4 h4 a5 h5 a6 h6 a7 h7 xM h8 a9 h9 cc0_scratch2 hc) >>= K) Q := by
  refine loopB (fun k => S0 c f H R T P (192 * 5 + k)) (n := 192) (by decide) (fun k => ?_) hK
  have hk : k.val < 192 := lt_of_lt_of_le k.isLt (by decide)
  have hk' : 192 * 5 + k.val < 2112 := by omega
  have hv : (tabAt c T (192 * 5 + k.val) (by omega)).toNat < 16384 := by rw [← hR _ hk']; exact (R _).isLt
  unfold k0_t6_body
  refine st_load c T (show 192 * 5 + k.val < 33792 by omega) ((k0_off16_eq k).trans (by congr 1; try omega)) ?_
  refine st_assume c (show k0_chk6 i (tabAt c T (192 * 5 + k.val) (by omega)) from fun _ => chk_of hv) ?_
  refine s0E hR hk' ((k0_off17_eq k).trans (dst_eq 5 k.val hk)) rfl rfl ?_
  exact stR .rfl

/-- Counted loop 7 of the very first step: rows 1152 to 1343 issued. -/
theorem l7 {P : sProp 𝕄} {α : Type} {Q : α → sProp 𝕄} (hR : Named0 c R T) (hc : k0_cond1 i = 1#1)
    {K : Unit → Prog (TpuEff nD τ sig (Elt F) Λ₀ .tc) α} (hK : S0 c f H R T P 1344 ⊢ wpF c (K ()) Q) :
    S0 c f H R T P 1152 ⊢ wpF c (Scf.Loop.for k0_t7_loop (k0_t7_ok i hc) () (k0_t7_body i tM h2 hM h3 a4 h4 a5 h5 a6 h6 a7 h7 xM h8 a9 h9 cc0_scratch2 hc) >>= K) Q := by
  refine loopB (fun k => S0 c f H R T P (192 * 6 + k)) (n := 192) (by decide) (fun k => ?_) hK
  have hk : k.val < 192 := lt_of_lt_of_le k.isLt (by decide)
  have hk' : 192 * 6 + k.val < 2112 := by omega
  have hv : (tabAt c T (192 * 6 + k.val) (by omega)).toNat < 16384 := by rw [← hR _ hk']; exact (R _).isLt
  unfold k0_t7_body
  refine st_load c T (show 192 * 6 + k.val < 33792 by omega) ((k0_off19_eq k).trans (by congr 1; try omega)) ?_
  refine st_assume c (show k0_chk7 i (tabAt c T (192 * 6 + k.val) (by omega)) from fun _ => chk_of hv) ?_
  refine s0E hR hk' ((k0_off20_eq k).trans (dst_eq 6 k.val hk)) rfl rfl ?_
  exact stR .rfl

/-- Counted loop 8 of the very first step: rows 1344 to 1535 issued. -/
theorem l8 {P : sProp 𝕄} {α : Type} {Q : α → sProp 𝕄} (hR : Named0 c R T) (hc : k0_cond1 i = 1#1)
    {K : Unit → Prog (TpuEff nD τ sig (Elt F) Λ₀ .tc) α} (hK : S0 c f H R T P 1536 ⊢ wpF c (K ()) Q) :
    S0 c f H R T P 1344 ⊢ wpF c (Scf.Loop.for k0_t8_loop (k0_t8_ok i hc) () (k0_t8_body i tM h2 hM h3 a4 h4 a5 h5 a6 h6 a7 h7 xM h8 a9 h9 cc0_scratch2 hc) >>= K) Q := by
  refine loopB (fun k => S0 c f H R T P (192 * 7 + k)) (n := 192) (by decide) (fun k => ?_) hK
  have hk : k.val < 192 := lt_of_lt_of_le k.isLt (by decide)
  have hk' : 192 * 7 + k.val < 2112 := by omega
  have hv : (tabAt c T (192 * 7 + k.val) (by omega)).toNat < 16384 := by rw [← hR _ hk']; exact (R _).isLt
  unfold k0_t8_body
  refine st_load c T (show 192 * 7 + k.val < 33792 by omega) ((k0_off22_eq k).trans (by congr 1; try omega)) ?_
  refine st_assume c (show k0_chk8 i (tabAt c T (192 * 7 + k.val) (by omega)) from fun _ => chk_of hv) ?_
  refine s0E hR hk' ((k0_off23_eq k).trans (dst_eq 7 k.val hk)) rfl rfl ?_
  exact stR .rfl

/-- Counted loop 9 of the very first step: rows 1536 to 1727 issued. -/
theorem l9 {P : sProp 𝕄} {α : Type} {Q : α → sProp 𝕄} (hR : Named0 c R T) (hc : k0_cond1 i = 1#1)
    {K : Unit → Prog (TpuEff nD τ sig (Elt F) Λ₀ .tc) α} (hK : S0 c f H R T P 1728 ⊢ wpF c (K ()) Q) :
    S0 c f H R T P 1536 ⊢ wpF c (Scf.Loop.for k0_t9_loop (k0_t9_ok i hc) () (k0_t9_body i tM h2 hM h3 a4 h4 a5 h5 a6 h6 a7 h7 xM h8 a9 h9 cc0_scratch2 hc) >>= K) Q := by
  refine loopB (fun k => S0 c f H R T P (192 * 8 + k)) (n := 192) (by decide) (fun k => ?_) hK
  have hk : k.val < 192 := lt_of_lt_of_le k.isLt (by decide)
  have hk' : 192 * 8 + k.val < 2112 := by omega
  have hv : (tabAt c T (192 * 8 + k.val) (by omega)).toNat < 16384 := by rw [← hR _ hk']; exact (R _).isLt
  unfold k0_t9_body
  refine st_load c T (show 192 * 8 + k.val < 33792 by omega) ((k0_off25_eq k).trans (by congr 1; try omega)) ?_
  refine st_assume c (show k0_chk9 i (tabAt c T (192 * 8 + k.val) (by omega)) from fun _ => chk_of hv) ?_
  refine s0E hR hk' ((k0_off26_eq k).trans (dst_eq 8 k.val hk)) rfl rfl ?_
  exact stR .rfl

/-- Counted loop 10 of the very first step: rows 1728 to 1919 issued. -/
theorem l10 {P : sProp 𝕄} {α : Type} {Q : α → sProp 𝕄} (hR : Named0 c R T) (hc : k0_cond1 i = 1#1)
    {K : Unit → Prog (TpuEff nD τ sig (Elt F) Λ₀ .tc) α} (hK : S0 c f H R T P 1920 ⊢ wpF c (K ()) Q) :
    S0 c f H R T P 1728 ⊢ wpF c (Scf.Loop.for k0_t10_loop (k0_t10_ok i hc) () (k0_t10_body i tM h2 hM h3 a4 h4 a5 h5 a6 h6 a7 h7 xM h8 a9 h9 cc0_scratch2 hc) >>= K) Q := by
  refine loopB (fun k => S0 c f H R T P (192 * 9 + k)) (n := 192) (by decide) (fun k => ?_) hK
  have hk : k.val < 192 := lt_of_lt_of_le k.isLt (by decide)
  have hk' : 192 * 9 + k.val < 2112 := by omega
  have hv : (tabAt c T (192 * 9 + k.val) (by omega)).toNat < 16384 := by rw [← hR _ hk']; exact (R _).isLt
  unfold k0_t10_body
  refine st_load c T (show 192 * 9 + k.val < 33792 by omega) ((k0_off28_eq k).trans (by congr 1; try omega)) ?_
  refine st_assume c (show k0_chk10 i (tabAt c T (192 * 9 + k.val) (by omega)) from fun _ => chk_of hv) ?_
  refine s0E hR hk' ((k0_off29_eq k).trans (dst_eq 9 k.val hk)) rfl rfl ?_
  exact stR .rfl

/-- Counted loop 11 of the very first step: rows 1920 to 2111 issued. -/
theorem l11 {P : sProp 𝕄} {α : Type} {Q : α → sProp 𝕄} (hR : Named0 c R T) (hc : k0_cond1 i = 1#1)
    {K : Unit → Prog (TpuEff nD τ sig (Elt F) Λ₀ .tc) α} (hK : S0 c f H R T P 2112 ⊢ wpF c (K ()) Q) :
    S0 c f H R T P 1920 ⊢ wpF c (Scf.Loop.for k0_t11_loop (k0_t11_ok i hc) () (k0_t11_body i tM h2 hM h3 a4 h4 a5 h5 a6 h6 a7 h7 xM h8 a9 h9 cc0_scratch2 hc) >>= K) Q := by
  refine loopB (fun k => S0 c f H R T P (192 * 10 + k)) (n := 192) (by decide) (fun k => ?_) hK
  have hk : k.val < 192 := lt_of_lt_of_le k.isLt (by decide)
  have hk' : 192 * 10 + k.val < 2112 := by omega
  have hv : (tabAt c T (192 * 10 + k.val) (by omega)).toNat < 16384 := by rw [← hR _ hk']; exact (R _).isLt
  unfold k0_t11_body
  refine st_load c T (show 192 * 10 + k.val < 33792 by omega) ((k0_off31_eq k).trans (by congr 1; try omega)) ?_
  refine st_assume c (show k0_chk11 i (tabAt c T (192 * 10 + k.val) (by omega)) from fun _ => chk_of hv) ?_
  refine s0E hR hk' ((k0_off32_eq k).trans (dst_eq 10 k.val hk)) rfl rfl ?_
  exact stR .rfl

/-- The first ten loops. -/
theorem part1_wp {P : sProp 𝕄} {Q : PUnit → sProp 𝕄} (hR : Named0 c R T) (hc : k0_cond1 i = 1#1) (hQ : S0 c f H R T P 1920 ⊢ Q ⟨⟩) :
    S0 c f H R T P 0 ⊢ wpF c (k0_part1 i tM h2 hM h3 a4 h4 a5 h5 a6 h6 a7 h7 xM h8 a9 h9 cc0_scratch2 hc) Q := by
  rw [k0_part1_eq_skeleton]; unfold k0_part1_skel
  refine l1 hR hc ?_
  refine l2 hR hc ?_
  refine l3 hR hc ?_
  refine l4 hR hc ?_
  refine l5 hR hc ?_
  refine l6 hR hc ?_
  refine l7 hR hc ?_
  refine l8 hR hc ?_
  refine l9 hR hc ?_
  refine l10 hR hc ?_
  exact stR hQ

end Cert.Kernel.Ffn
end
-- ==== Proof.K.Own.lean ====
module

public import proofs.«01_k».proof.Proof.K.Slots
public import proofs.«01_k».proof.Proof.K.Pro
public import Idealize.ShloMosaic.Lib.Memref

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Cert.Kernel.Gen

local notation "𝕄" => MT nD τ sig Unit (Elt F) ℕ (Pipeline.UD sig nD τ) ℕ

/-- The scratch that holds an expert's rows, rounded. -/
abbrev nM : Memref sig .tc .vmem S2048x1024 .bf16 := Memref.whole cc0_scratch1

section Own
variable (c : Dev nD) {α : Type} {cs : CoreSpace} {sh : Shape} {e : EltTy}

/-- A load from an owned memref, the rest of the state carried along. -/
theorem own_ld {P : sProp 𝕄} {Q : α → sProp 𝕄} (M : Memref sig .tc cs sh e) {q : PosShare TreeShare} {X : sh.Idx → Elt F e} {r : Rect sh} {hl : M.view.LoadsAt r.toLoadRect}
    {K : (r.shape.Idx → Elt F e) → Prog (TpuEff nD τ sig (Elt F) Λ₀ .tc) α}
    (hK : iprop(P ∗ owns (c.tc : Thread nD τ) M q X) ⊢ wpF c (K (fun y => X (r.emb y))) Q) :
    iprop(P ∗ owns (c.tc : Thread nD τ) M q X) ⊢ wpF c (Prog.lift (.load M r.toLoadRect hl) >>= K) Q := by
  iintro ⟨HP, HM⟩
  ihave HM := (show owns (c.tc : Thread nD τ) M q X ⊢ iprop(∃ f, ⌜M.view.read (Elt F) f = X⌝ ∗ (M.view.loc (c.tc : Thread nD τ) ↦[M.view.set]{q} f)) from .rfl) $$ HM
  icases HM with ⟨%f, %hf, HM⟩
  iapply (wp_load Variants.none (c.tc : Thread nD τ) none Set.univ (m := M) (r := r.toLoadRect) (View.setOn_subset_set _ _)) $$ [HM]
  · iexact HM
  iintro HM
  rw [show M.view.readAt (Elt F) r.toLoadRect f = fun y => X (r.emb y) from by rw [← hf]; rfl]
  iapply hK
  isplitl [HP]; · iexact HP
  iapply (show iprop(∃ f, ⌜M.view.read (Elt F) f = X⌝ ∗ (M.view.loc (c.tc : Thread nD τ) ↦[M.view.set]{q} f)) ⊢ owns (c.tc : Thread nD τ) M q X from .rfl)
  iexists f
  isplitr
  · ipureintro; exact hf
  iexact HM

theorem read_write_slice (M : Memref sig .tc cs sh e) (r : Rect sh) (f : M.view.ty.Contents (Elt F)) (w : r.shape.Idx → Elt F e) :
    M.view.read (Elt F) ((M.access r).write (Elt F) f w Finset.univ) = r.overlay (M.view.read (Elt F) f) w := by
  funext j
  by_cases hj : j ∈ r.set
  · obtain ⟨y, rfl⟩ := r.exists_idx_of_mem hj
    change M.view.read (Elt F) _ (r.emb y) = r.overlay _ w (r.emb y)
    rw [Rect.overlay_emb, View.read_apply]
    have h := View.read_write_of_mem (v := M.access r) (Val := Elt F) f w (Finset.mem_univ y)
    exact h
  · rw [Rect.overlay_of_not_mem _ _ _ hj, View.read_apply, View.read_apply]
    congr 1
    refine View.write_of_not_mem _ _ _ ?_
    intro hm
    obtain ⟨y, -, hy⟩ := Finset.mem_map.1 hm
    apply hj
    have hy' : M.view.emb (r.emb y) = M.view.emb j := hy
    rw [← M.view.emb.injective hy']
    exact r.map_emb_univ ▸ Finset.mem_map_of_mem _ (Finset.mem_univ y)

/-- A store into an owned memref. -/
theorem own_st {P : sProp 𝕄} {Q : α → sProp 𝕄} (M : Memref sig .tc cs sh e) {X : sh.Idx → Elt F e} {r : Rect sh} {w : r.shape.Idx → Elt F e} {hx hm}
    {K : PUnit → Prog (TpuEff nD τ sig (Elt F) Λ₀ .tc) α}
    (hK : iprop(P ∗ owns (c.tc : Thread nD τ) M fullShare (r.overlay X w)) ⊢ wpF c (K ⟨⟩) Q) :
    iprop(P ∗ owns (c.tc : Thread nD τ) M fullShare X) ⊢ wpF c (Prog.lift (.store M r w Finset.univ hx hm) >>= K) Q := by
  change _ ⊢ wpF c (.op (.store M r w Finset.univ hx hm) K) Q
  iintro ⟨HP, HM⟩
  ihave HM := (show owns (c.tc : Thread nD τ) M fullShare X ⊢ iprop(∃ f, ⌜M.view.read (Elt F) f = X⌝ ∗ (M.view.loc (c.tc : Thread nD τ) ↦[M.view.set]{fullShare} f)) from .rfl) $$ HM
  icases HM with ⟨%f, %hf, HM⟩
  iapply (wp_store Variants.none (c.tc : Thread nD τ) none Set.univ (m := M) (r := r) (S := M.view.set) (f := f)
    ((View.setOn_subset_set _ _).trans (M.view.set_slice_subset r))) $$ [HM]
  · iexact HM
  iintro HM
  iapply hK
  isplitl [HP]; · iexact HP
  iapply (show iprop(∃ f, ⌜M.view.read (Elt F) f = r.overlay X w⌝ ∗ (M.view.loc (c.tc : Thread nD τ) ↦[M.view.set]{fullShare} f)) ⊢ owns (c.tc : Thread nD τ) M fullShare (r.overlay X w) from .rfl)
  iexists ((M.access r).write (Elt F) f w Finset.univ)
  isplitr
  · ipureintro; rw [read_write_slice, hf]
  iexact HM
end Own

section Wait
variable {c : Dev nD} {f : Buf (Elt F) (xM.view.loc (c.tc : Thread nD τ))} {H : Buf (Elt F) (hM.view.loc (c.tc : Thread nD τ))}
  {R : Fin 2112 → Fin 16384} {i : grid0.Coords}
  {a4 a5 : Memref sig .tc .vmem S1x1024x256 .f32} {h2 : tM.IsWhole} {h3 : hM.IsWhole} {h4 : a4.IsWhole} {h5 : a5.IsWhole}
  {a6 : Memref sig .tc .vmem S1x256x1024 .f32} {h6 : a6.IsWhole} {a7 : Memref sig .tc .vmem S2x1x1024x1024 .f32} {h7 : a7.IsWhole}
  {h8 : xM.IsWhole} {a9 : Memref sig .tc .vmem S2048x1024 .bf16} {h9 : a9.IsWhole}

/-- The core owes nothing, whatever it has waited for. -/
def Ow (c : Dev nD) : sProp 𝕄 := iprop(∃ W, owes (c.tc : Thread nD τ) 0 W)

/-- A slot all issued, `k` of its rows waited for. -/
def Wt (c : Dev nD) (s : Fin 2) (f : Buf (Elt F) (xM.view.loc (c.tc : Thread nD τ))) (H : Buf (Elt F) (hM.view.loc (c.tc : Thread nD τ)))
    (R : Fin 2112 → Fin 16384) (P : sProp 𝕄) (k : ℕ) : sProp 𝕄 :=
  iprop(P ∗ (Iss c s f H R 2112 (rowN * k) ∗ Ow c))

/-- A wait for one row. -/
theorem st_wait {P : sProp 𝕄} {α : Type} {Q : α → sProp 𝕄} (s : Fin 2) {k : ℕ} (hk : k < 2112) {o : Fin 4 → ℕ} {ov : Fin 2 → ℕ} {os : Fin 1 → ℕ}
    {h : ∀ a, o a + S1x1x1x1024.size a ≤ S2x11x192x1024.size a} {hv : ∀ a, ov a + S1x1024.size a ≤ S16384x1024.size a}
    {hs : ∀ a, os a + S1.size a ≤ S2.size a} {e1 e2}
    {K : PUnit → Prog (TpuEff nD τ sig (Elt F) Λ₀ .tc) α} (hos : os = ![s.val])
    (hK : Wt c s f H R P (k + 1) ⊢ wpF c (K ⟨⟩) Q) :
    Wt c s f H R P k ⊢ wpF c (Prog.lift (.waitDma2 (semAt os hs) (srcM ov hv) (dstM o h) e1 e2) >>= K) Q := by
  subst hos
  unfold Wt Iss Ow at *
  iintro ⟨HP, ⟨HB, Hl⟩, ⟨%W, HO⟩⟩
  iapply (Transfers.wp_waitBatchMul (EC (F := F)) Variants.none (c.tc : Thread nD τ) none (sem := cell s) (srcw := srcM ov hv) (dstw := dstM o h)
    () (N := rowN) 1 (show (dstM o h).view.dmaCredit = 1 * rowN from by rw [Nat.one_mul]; rfl) (D := deliv c s f H R) (j := 2112) (u := rowN * k)
    (by have := rowN_pos; nlinarith) (W := W)) $$ [HB HO]
  · isplitl [HB]; · iexact HB
    iexact HO
  iintro ⟨HB, HO⟩
  iapply hK
  isplitl [HP]; · iexact HP
  isplitr [HO]
  · isplitl [HB]
    · rw [show rowN * (k + 1) = rowN * k + 1 * rowN by ring]; iexact HB
    iexact Hl
  iexists _; iexact HO

/-- The loop that waits for the rows of the step's own expert. -/
theorem wait12 {P : sProp 𝕄} {α : Type} {Q : α → sProp 𝕄} (v9 : BitVec 32) (hc : k0_cond2 i = 1#1)
    {K : Unit → Prog (TpuEff nD τ sig (Elt F) Λ₀ .tc) α} (hK : Wt c (cslot i) f H R P 2112 ⊢ wpF c (K ()) Q) :
    Wt c (cslot i) f H R P 0 ⊢ wpF c (Scf.Loop.for k0_t12_loop (k0_t12_ok i hc) () (k0_t12_body i tM h2 hM h3 a4 h4 a5 h5 a6 h6 a7 h7 xM h8 a9 h9 cc0_scratch2 v9 hc) >>= K) Q := by
  refine loopB (fun k => Wt c (cslot i) f H R P k) (n := 2112) (by decide +kernel) (fun k => ?_) hK
  have hk : k.val < 2112 := lt_of_lt_of_le k.isLt (by decide +kernel)
  unfold k0_t12_body
  refine st_wait (cslot i) hk (show k0_off34 i = ![(i 0).val % 2] from by
    change ![(parW (i 0).val).toNat] = _; rw [par_toNat]) ?_
  exact stR .rfl

/-- The loop that waits for the last rows issued. -/
theorem wait13 {P : sProp 𝕄} {α : Type} {Q : α → sProp 𝕄} (hc : k0_cond3 i = 1#1)
    {K : Unit → Prog (TpuEff nD τ sig (Elt F) Λ₀ .tc) α} (hK : Wt c (nslot i) f H R P 2112 ⊢ wpF c (K ()) Q) :
    Wt c (nslot i) f H R P 0 ⊢ wpF c (Scf.Loop.for k0_t13_loop (k0_t13_ok i hc) () (k0_t13_body i tM h2 hM h3 a4 h4 a5 h5 a6 h6 a7 h7 xM h8 a9 h9 cc0_scratch2 hc) >>= K) Q := by
  refine loopB (fun k => Wt c (nslot i) f H R P k) (n := 2112) (by decide +kernel) (fun k => ?_) hK
  have hk : k.val < 2112 := lt_of_lt_of_le k.isLt (by decide +kernel)
  unfold k0_t13_body
  refine st_wait (nslot i) hk (show k0_off815 i = ![1 - (i 0).val % 2] from by
    change ![(Scalar.subi (1#32) (parW (i 0).val)).toNat] = _; rw [npar_toNat]) ?_
  exact stR .rfl
end Wait

end Cert.Kernel.Ffn
end
-- ==== Proof.K.Fill.lean ====
module

public import proofs.«01_k».proof.Proof.K.Own

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Cert.Kernel.Gen

local notation "𝕄" => MT nD τ sig Unit (Elt F) ℕ (Pipeline.UD sig nD τ) ℕ

variable {c : Dev nD} {f : Buf (Elt F) (xM.view.loc (c.tc : Thread nD τ))} {H : Buf (Elt F) (hM.view.loc (c.tc : Thread nD τ))}
  {R : Fin 2112 → Fin 16384} {i : grid0.Coords}
  {a4 a5 : Memref sig .tc .vmem S1x1024x256 .f32} {h2 : tM.IsWhole} {h3 : hM.IsWhole} {h4 : a4.IsWhole} {h5 : a5.IsWhole}
  {a6 : Memref sig .tc .vmem S1x256x1024 .f32} {h6 : a6.IsWhole} {a7 : Memref sig .tc .vmem S2x1x1024x1024 .f32} {h7 : a7.IsWhole}
  {h8 : xM.IsWhole} {h9 : nM.IsWhole}

/-- The hidden rows `R`, as many as the rounded scratch holds. -/
def rowsV (c : Dev nD) (H : Buf (Elt F) (hM.view.loc (c.tc : Thread nD τ))) (R : Fin 2112 → Fin 16384) : FVec F S2048x1024 .f32 :=
  fun x => H (ix2 (n0 := 16384) (n1 := 1024) (R ⟨(x 0).val, lt_of_lt_of_le (x 0).isLt (by decide)⟩) (x 1))
/-- The same rounded: what the scratch holds while an expert is being worked on. -/
def xsV (c : Dev nD) (H : Buf (Elt F) (hM.view.loc (c.tc : Thread nD τ))) (R : Fin 2112 → Fin 16384) : FVec F S2048x1024 .bf16 :=
  truncf .bf16 (rowsV c H R) bitsLt_bf16_f32
/-- `n` rows of a filled slot from the head of its part `j`. -/
def blkV (c : Dev nD) (H : Buf (Elt F) (hM.view.loc (c.tc : Thread nD τ))) (R : Fin 2112 → Fin 16384) (j n : ℕ) (hn : n ≤ 192) (hj : j < 11) :
    (⟨4, ![1, 1, n, 1024]⟩ : Shape).Idx → Elt F .f32 :=
  fun y => H (ix2 (n0 := 16384) (n1 := 1024) (R ⟨192 * j + (y 2).val, by have h : (y 2).val < n := (y 2).isLt; omega⟩) (y 3))

/-- The rounded scratch holds its first `k` rows. -/
def Xs (c : Dev nD) (H : Buf (Elt F) (hM.view.loc (c.tc : Thread nD τ))) (R : Fin 2112 → Fin 16384) (k : ℕ) : sProp 𝕄 :=
  iprop(∃ X, ⌜∀ x : S2048x1024.Idx, (x 0).val < k → X x = xsV c H R x⌝ ∗ owns (c.tc : Thread nD τ) nM fullShare X)

/-- The state while the rounded scratch is being filled from slot `s`. -/
def Fl (c : Dev nD) (s : Fin 2) (H : Buf (Elt F) (hM.view.loc (c.tc : Thread nD τ))) (R : Fin 2112 → Fin 16384) (P : sProp 𝕄) (k : ℕ) : sProp 𝕄 :=
  iprop(P ∗ (Slot c s (filled c H R) ∗ Xs c H R k))

/-- The offset of a part of the slot, as the body computes it. -/
theorem offC_eq (i : grid0.Coords) (j : ℕ) : (![(parW (i 0).val).toNat, j, 0, 0] : Fin 4 → ℕ) = ![(cslot i).val, j, 0, 0] := by
  rw [par_toNat]; rfl

/-- A load of a part of the slot. -/
theorem fl_ld {P : sProp 𝕄} {α : Type} {Q : α → sProp 𝕄} (s : Fin 2) {k : ℕ} (j n : ℕ) (hn : n ≤ 192) (hj : j < 11) {o : Fin 4 → ℕ}
    {h : ∀ a, o a + (⟨4, ![1, 1, n, 1024]⟩ : Shape).size a ≤ S2x11x192x1024.size a} {hl}
    {K : ((⟨4, ![1, 1, n, 1024]⟩ : Shape).Idx → Elt F .f32) → Prog (TpuEff nD τ sig (Elt F) Λ₀ .tc) α} (ho : o = ![s.val, j, 0, 0])
    (hK : Fl c s H R P k ⊢ wpF c (K (blkV c H R j n hn hj)) Q) :
    Fl c s H R P k ⊢ wpF c (Prog.lift (.load xM (Rect.unit (s := S2x11x192x1024) o (⟨4, ![1, 1, n, 1024]⟩ : Shape).size h).toLoadRect hl) >>= K) Q := by
  subst ho
  unfold Fl Slot at *
  iintro ⟨HP, HS, HX⟩
  iapply (wp_load Variants.none (c.tc : Thread nD τ) none Set.univ (m := xM)
    (r := (Rect.unit (s := S2x11x192x1024) ![s.val, j, 0, 0] (⟨4, ![1, 1, n, 1024]⟩ : Shape).size h).toLoadRect) (S := slotSet s)
    (f := filled c H R) (by
      intro x hx
      have hx : x ∈ (Rect.unit (s := S2x11x192x1024) ![s.val, j, 0, 0] (⟨4, ![1, 1, n, 1024]⟩ : Shape).size h).set := by
        have := hx
        rw [show (View.setOn xM.view (Rect.unit (s := S2x11x192x1024) ![s.val, j, 0, 0] (⟨4, ![1, 1, n, 1024]⟩ : Shape).size h).toLoadRect.set)
          = (Rect.unit (s := S2x11x192x1024) ![s.val, j, 0, 0] (⟨4, ![1, 1, n, 1024]⟩ : Shape).size h).set from Finset.map_refl] at this
        exact this
      have h0 := (Rect.mem_set_unit.1 hx) 0
      refine Finset.mem_filter.2 ⟨Finset.mem_univ _, ?_⟩
      simp at h0
      omega)) $$ [HS]
  · iexact HS
  iintro HS
  rw [show xM.view.readAt (Elt F) (Rect.unit (s := S2x11x192x1024) ![s.val, j, 0, 0] (⟨4, ![1, 1, n, 1024]⟩ : Shape).size h).toLoadRect (filled c H R)
    = blkV c H R j n hn hj from by
      funext y
      have h1 : (y 1).val < 1 := (y 1).isLt
      change H (ix2 (R ⟨(j + 1 * (y 1).val) * 192 + (0 + 1 * (y 2).val), _⟩) _) = H (ix2 (R ⟨192 * j + (y 2).val, _⟩) (y 3))
      congr 2
      · congr 1; apply Fin.ext; change (j + 1 * (y 1).val) * 192 + (0 + 1 * (y 2).val) = 192 * j + (y 2).val
        omega
      · apply Fin.ext; change 0 + 1 * (y 3).val = (y 3).val; omega]
  iapply hK
  isplitl [HP]; · iexact HP
  isplitl [HS]; · iexact HS
  iexact HX

/-- A load of the rounded scratch whose value is not used. -/
theorem fl_nl {P : sProp 𝕄} {α : Type} {Q : α → sProp 𝕄} {s : Fin 2} {k : ℕ} {r : Rect S2048x1024} {hl : nM.view.LoadsAt r.toLoadRect}
    {K : (r.shape.Idx → Elt F .bf16) → Prog (TpuEff nD τ sig (Elt F) Λ₀ .tc) α}
    (hK : ∀ v, Fl c s H R P k ⊢ wpF c (K v) Q) :
    Fl c s H R P k ⊢ wpF c (Prog.lift (.load nM r.toLoadRect hl) >>= K) Q := by
  unfold Fl Xs at *
  iintro ⟨HP, HS, ⟨%X, %hX, HX⟩⟩
  iapply (own_ld c (P := iprop(P ∗ Slot c s (filled c H R))) nM (X := X) (by
    refine .trans ?_ (hK _)
    iintro ⟨⟨HP, HS⟩, HX⟩
    isplitl [HP]; · iexact HP
    isplitl [HS]; · iexact HS
    iexists X
    isplitr; · ipureintro; exact hX
    iexact HX))
  isplitr [HX]
  · isplitl [HP]; · iexact HP
    iexact HS
  iexact HX

/-- The store of `n` more rows of the rounded scratch. -/
theorem fl_st {P : sProp 𝕄} {α : Type} {Q : α → sProp 𝕄} {s : Fin 2} {k : ℕ} (n : ℕ) (hn : k + n ≤ 2048)
    {h : ∀ a, (![k, 0] : Fin 2 → ℕ) a + (⟨2, ![n, 1024]⟩ : Shape).size a ≤ S2048x1024.size a} {w : (⟨2, ![n, 1024]⟩ : Shape).Idx → Elt F .bf16} {hx hm}
    {K : PUnit → Prog (TpuEff nD τ sig (Elt F) Λ₀ .tc) α}
    (hw : ∀ y : (⟨2, ![n, 1024]⟩ : Shape).Idx, w y = xsV c H R (ix2 (n0 := 2048) (n1 := 1024) ⟨k + (y 0).val, by have h : (y 0).val < n := (y 0).isLt; omega⟩ (y 1)))
    (hK : Fl c s H R P (k + n) ⊢ wpF c (K ⟨⟩) Q) :
    Fl c s H R P k ⊢ wpF c (Prog.lift (.store nM (Rect.unit (s := S2048x1024) ![k, 0] (⟨2, ![n, 1024]⟩ : Shape).size h) w Finset.univ hx hm) >>= K) Q := by
  unfold Fl Xs at *
  iintro ⟨HP, HS, ⟨%X, %hX, HX⟩⟩
  iapply (own_st c (P := iprop(P ∗ Slot c s (filled c H R))) nM (X := X) (by
    refine .trans ?_ hK
    iintro ⟨⟨HP, HS⟩, HX⟩
    isplitl [HP]; · iexact HP
    isplitl [HS]; · iexact HS
    iexists _
    isplitr
    swap; · iexact HX
    ipureintro
    intro x hxk
    by_cases hm : x ∈ (Rect.unit (s := S2048x1024) ![k, 0] (⟨2, ![n, 1024]⟩ : Shape).size h).set
    · obtain ⟨y, rfl⟩ := LoadRect.exists_idx_of_mem _ hm
      refine (Rect.overlay_emb _ _ _ y).trans ((hw y).trans ?_)
      congr 1
      funext a
      apply Fin.ext
      fin_cases a
      · change k + (y 0).val = k + 1 * (y 0).val; omega
      · change (y 1).val = 0 + 1 * (y 1).val; omega
    · rw [Rect.overlay_of_not_mem _ _ _ hm]
      apply hX
      by_contra hlt
      apply hm
      refine Rect.mem_set_unit.2 fun a => ?_
      have h1 : (x 1).val < 1024 := (x 1).isLt
      fin_cases a <;> simp <;> omega))
  isplitr [HX]
  · isplitl [HP]; · iexact HP
    iexact HS
  iexact HX

/-- What is stored of a part of 192 rows; -/
theorem pay_192 (c : Dev nD) (H : Buf (Elt F) (hM.view.loc (c.tc : Thread nD τ))) (R : Fin 2112 → Fin 16384) (j : ℕ) (hj : j < 10) (y : S192x1024.Idx) :
    k0_pay2 (blkV c H R j 192 (by omega) (by omega)) y
      = xsV c H R (ix2 (n0 := 2048) (n1 := 1024) ⟨192 * j + (y 0).val, by have h : (y 0).val < 192 := (y 0).isLt; omega⟩ (y 1)) := by
  unfold k0_pay2 xsV
  idx_vars y
  simp only [pointwise]
  rfl
/-- and of the last part, of 128. -/
theorem pay_128 (c : Dev nD) (H : Buf (Elt F) (hM.view.loc (c.tc : Thread nD τ))) (R : Fin 2112 → Fin 16384) (y : S128x1024.Idx) :
    k0_pay13 (blkV c H R 10 128 (by omega) (by omega)) y
      = xsV c H R (ix2 (n0 := 2048) (n1 := 1024) ⟨1920 + (y 0).val, by have h : (y 0).val < 128 := (y 0).isLt; omega⟩ (y 1)) := by
  unfold k0_pay13 xsV
  idx_vars y
  simp only [pointwise]
  rfl

/-- The first four parts, after the waits. -/
theorem part2_wp {P : sProp 𝕄} {P0 : sProp 𝕄} {Q : PUnit → sProp 𝕄} (v9 : BitVec 32) (hc : k0_cond2 i = 1#1)
    (hw : Wt c (cslot i) f H R P 2112 ⊢ (|={Set.univ}=> Fl c (cslot i) H R P0 0 : sProp 𝕄)) (hQ : Fl c (cslot i) H R P0 768 ⊢ Q ⟨⟩) :
    Wt c (cslot i) f H R P 0 ⊢ wpF c (k0_part2 i tM h2 hM h3 a4 h4 a5 h5 a6 h6 a7 h7 xM h8 nM h9 cc0_scratch2 v9 hc) Q := by
  rw [k0_part2_eq_skeleton]; unfold k0_part2_skel
  refine wait12 v9 hc (hw.trans ?_)
  refine .trans (fupd_mono ?_) (fupd_wp _ _ _ _ _)
  refine fl_ld (cslot i) 0 192 (by omega) (by omega) (show k0_off36 i = _ from offC_eq i 0) ?_
  refine fl_nl fun _ => ?_
  refine fl_st (k := 0) 192 (by omega) (pay_192 c H R 0 (by omega)) ?_
  refine fl_ld (cslot i) 1 192 (by omega) (by omega) (show k0_off37 i = _ from offC_eq i 1) ?_
  refine fl_nl fun _ => ?_
  refine fl_st (k := 192) 192 (by omega) (pay_192 c H R 1 (by omega)) ?_
  refine fl_ld (cslot i) 2 192 (by omega) (by omega) (show k0_off38 i = _ from offC_eq i 2) ?_
  refine fl_nl fun _ => ?_
  refine fl_st (k := 384) 192 (by omega) (pay_192 c H R 2 (by omega)) ?_
  refine fl_ld (cslot i) 3 192 (by omega) (by omega) (show k0_off39 i = _ from offC_eq i 3) ?_
  refine fl_nl fun _ => ?_
  refine fl_st (k := 576) 192 (by omega) (pay_192 c H R 3 (by omega)) ?_
  exact stR hQ

/-- The next four, and the loads of the ninth. -/
theorem part3_wp {P : sProp 𝕄} {Q : FVec F S192x1024 .bf16 → sProp 𝕄} (v9 : BitVec 32) (hc : k0_cond2 i = 1#1)
    (hQ : Fl c (cslot i) H R P 1536 ⊢ Q (k0_pay10 (blkV c H R 8 192 (by omega) (by omega)))) :
    Fl c (cslot i) H R P 768 ⊢ wpF c (k0_part3 i tM h2 hM h3 a4 h4 a5 h5 a6 h6 a7 h7 xM h8 nM h9 cc0_scratch2 v9 hc) Q := by
  rw [k0_part3_eq_skeleton]; unfold k0_part3_skel
  refine fl_ld (cslot i) 4 192 (by omega) (by omega) (show k0_off40 i = _ from offC_eq i 4) ?_
  refine fl_nl fun _ => ?_
  refine fl_st (k := 768) 192 (by omega) (pay_192 c H R 4 (by omega)) ?_
  refine fl_ld (cslot i) 5 192 (by omega) (by omega) (show k0_off41 i = _ from offC_eq i 5) ?_
  refine fl_nl fun _ => ?_
  refine fl_st (k := 960) 192 (by omega) (pay_192 c H R 5 (by omega)) ?_
  refine fl_ld (cslot i) 6 192 (by omega) (by omega) (show k0_off42 i = _ from offC_eq i 6) ?_
  refine fl_nl fun _ => ?_
  refine fl_st (k := 1152) 192 (by omega) (pay_192 c H R 6 (by omega)) ?_
  refine fl_ld (cslot i) 7 192 (by omega) (by omega) (show k0_off43 i = _ from offC_eq i 7) ?_
  refine fl_nl fun _ => ?_
  refine fl_st (k := 1344) 192 (by omega) (pay_192 c H R 7 (by omega)) ?_
  refine fl_ld (cslot i) 8 192 (by omega) (by omega) (show k0_off44 i = _ from offC_eq i 8) ?_
  refine fl_nl fun _ => ?_
  exact stR hQ

end Cert.Kernel.Ffn
end
-- ==== Proof.K.Head.lean ====
module

public import proofs.«01_k».proof.Proof.K.Fill

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Cert.Kernel.Gen

local notation "𝕄" => MT nD τ sig Unit (Elt F) ℕ (Pipeline.UD sig nD τ) ℕ

variable {c : Dev nD} {f : Buf (Elt F) (xM.view.loc (c.tc : Thread nD τ))} {g : Buf (Elt F) (xM.view.loc (c.tc : Thread nD τ))} {H : Buf (Elt F) (hM.view.loc (c.tc : Thread nD τ))}
  {R R' : Fin 2112 → Fin 16384} {T : Buf (Elt F) (tM.view.loc (c.tc : Thread nD τ))} {i : grid0.Coords}
  {a4 a5 : Memref sig .tc .vmem S1x1024x256 .f32} {h2 : tM.IsWhole} {h3 : hM.IsWhole} {h4 : a4.IsWhole} {h5 : a5.IsWhole}
  {a6 : Memref sig .tc .vmem S1x256x1024 .f32} {h6 : a6.IsWhole} {a7 : Memref sig .tc .vmem S2x1x1024x1024 .f32} {h7 : a7.IsWhole}
  {h8 : xM.IsWhole} {h9 : nM.IsWhole}

theorem cond1_iff (i : grid0.Coords) : k0_cond1 i = 1#1 ↔ (i 0).val = 0 ∧ (i 1).val = 0 := by
  have h : ∀ (a : Fin 16) (b : Fin 11), (Scalar.cmpi .ne (Scalar.extui (Scalar.andi (Scalar.cmpi .eq (BitVec.ofNat 32 a.val) 0#32) (Scalar.cmpi .eq (BitVec.ofNat 32 b.val) 0#32))) 0#32 = 1#1)
      ↔ a.val = 0 ∧ b.val = 0 := by decide +kernel
  exact h ⟨(i 0).val, lt0 i⟩ ⟨(i 1).val, lt1 i⟩
theorem cond2_iff (i : grid0.Coords) : k0_cond2 i = 1#1 ↔ (i 1).val = 0 := by
  have h : ∀ (b : Fin 11), (Scalar.cmpi .ne (Scalar.extui (Scalar.cmpi .eq (BitVec.ofNat 32 b.val) 0#32)) 0#32 = 1#1)
      ↔ b.val = 0 := by decide +kernel
  exact h ⟨(i 1).val, lt1 i⟩
theorem cond3_iff (i : grid0.Coords) : k0_cond3 i = 1#1 ↔ (i 0).val = 15 ∧ (i 1).val = 10 := by
  have h : ∀ (a : Fin 16) (b : Fin 11), (Scalar.cmpi .ne (Scalar.extui (Scalar.andi (Scalar.cmpi .eq (BitVec.ofNat 32 a.val) 15#32) (Scalar.cmpi .eq (BitVec.ofNat 32 b.val) 10#32))) 0#32 = 1#1)
      ↔ a.val = 15 ∧ b.val = 10 := by decide +kernel
  exact h ⟨(i 0).val, lt0 i⟩ ⟨(i 1).val, lt1 i⟩

/-- A load from an owned memref, in front of a continuation. -/
theorem own_ld1 {α : Type} {Q : α → sProp 𝕄} (c : Dev nD) {cs : CoreSpace} {sh : Shape} {e : EltTy} (M : Memref sig .tc cs sh e) {q : PosShare TreeShare} {X : sh.Idx → Elt F e} {r : Rect sh} {hl : M.view.LoadsAt r.toLoadRect}
    {K : (r.shape.Idx → Elt F e) → Prog (TpuEff nD τ sig (Elt F) Λ₀ .tc) α} :
    owns (c.tc : Thread nD τ) M q X ⊢ iprop((owns (c.tc : Thread nD τ) M q X -∗ wpF c (K (fun y => X (r.emb y))) Q)
      -∗ wpF c (Prog.lift (.load M r.toLoadRect hl) >>= K) Q) := by
  iintro H HK
  iapply (own_ld c (P := iprop(owns (c.tc : Thread nD τ) M q X -∗ wpF c (K (fun y => X (r.emb y))) Q)) M (by
    iintro ⟨HK, H⟩
    iapply HK
    iexact H))
  isplitl [HK]; · iexact HK
  iexact H
/-- A store into an owned memref, in front of a continuation. -/
theorem own_st1 {α : Type} {Q : α → sProp 𝕄} (c : Dev nD) {cs : CoreSpace} {sh : Shape} {e : EltTy} (M : Memref sig .tc cs sh e) {X : sh.Idx → Elt F e} {r : Rect sh} {w : r.shape.Idx → Elt F e} {hx hm}
    {K : PUnit → Prog (TpuEff nD τ sig (Elt F) Λ₀ .tc) α} :
    owns (c.tc : Thread nD τ) M fullShare X ⊢ iprop((owns (c.tc : Thread nD τ) M fullShare (r.overlay X w) -∗ wpF c (K ⟨⟩) Q)
      -∗ wpF c (Prog.lift (.store M r w Finset.univ hx hm) >>= K) Q) := by
  iintro H HK
  iapply (own_st c (P := iprop(owns (c.tc : Thread nD τ) M fullShare (r.overlay X w) -∗ wpF c (K ⟨⟩) Q)) M (by
    iintro ⟨HK, H⟩
    iapply HK
    iexact H))
  isplitl [HK]; · iexact HK
  iexact H

/-- What a step works with besides its row copies: the slot of its own expert (at some contents) and its semaphore,
    the rounded rows, the hidden rows' rest, and the output block at `Y`. -/
def Work (c : Dev nD) (i : grid0.Coords) (a7 : Memref sig .tc .vmem S2x1x1024x1024 .f32) (H : Buf (Elt F) (hM.view.loc (c.tc : Thread nD τ)))
    (R R' : Fin 2112 → Fin 16384) (Y : Vec F S2x1x1024x1024 .f32) : sProp 𝕄 :=
  iprop((∃ f, Slot c (cslot i) f) ∗ semVal ((c.tc : Thread nD τ), .dma (cell (cslot i))) 0 ∗ Rest c H R' ∗ Ow c
    ∗ owns (c.tc : Thread nD τ) nM fullShare (xsV c H R) ∗ owns (c.tc : Thread nD τ) a7 fullShare Y)

/-- What a step that starts an expert finds besides its own expert's copies. -/
def Pre (c : Dev nD) (i : grid0.Coords) (a7 : Memref sig .tc .vmem S2x1x1024x1024 .f32) (g : Buf (Elt F) (xM.view.loc (c.tc : Thread nD τ))) (P : sProp 𝕄) : sProp 𝕄 :=
  iprop(P ∗ Slot c (nslot i) g ∗ semVal ((c.tc : Thread nD τ), .dma (cell (nslot i))) 0
    ∗ (∃ X, owns (c.tc : Thread nD τ) nM fullShare X) ∗ (∃ Y, owns (c.tc : Thread nD τ) a7 fullShare Y))
/-- The same without the scratch. -/
def Pre' (c : Dev nD) (i : grid0.Coords) (a7 : Memref sig .tc .vmem S2x1x1024x1024 .f32) (g : Buf (Elt F) (xM.view.loc (c.tc : Thread nD τ))) (P : sProp 𝕄) : sProp 𝕄 :=
  iprop(P ∗ Slot c (nslot i) g ∗ semVal ((c.tc : Thread nD τ), .dma (cell (nslot i))) 0
    ∗ (∃ Y, owns (c.tc : Thread nD τ) a7 fullShare Y))

theorem pre_close {P : sProp 𝕄} :
    Wt c (cslot i) f H R iprop(Tab c T ∗ Rest c H R ∗ Pre c i a7 g P) 2112
      ⊢ (|={Set.univ}=> Fl c (cslot i) H R iprop(Tab c T ∗ Hid c H ∗ semVal ((c.tc : Thread nD τ), .dma (cell (cslot i))) 0 ∗ Ow c ∗ Pre' c i a7 g P) 0 : sProp 𝕄) := by
  unfold Wt Fl Pre Pre' Xs
  iintro ⟨⟨HT, HR, HP, HS, Hv, ⟨%X, HX⟩, HY⟩, HI, HO⟩
  imod (close_batch c (cslot i) f H R) $$ [HI HR] with ⟨HS', HH, Hv'⟩
  · isplitl [HI]; · iexact HI
    iexact HR
  imodintro
  isplitr [HS' HX]
  · isplitl [HT]; · iexact HT
    isplitl [HH]; · iexact HH
    isplitl [Hv']; · iexact Hv'
    isplitl [HO]; · iexact HO
    isplitl [HP]; · iexact HP
    isplitl [HS]; · iexact HS
    isplitl [Hv]; · iexact Hv
    iexact HY
  isplitl [HS']; · iexact HS'
  iexists X
  isplitr
  · ipureintro; intro x hx; exact absurd hx (Nat.not_lt_zero _)
  iexact HX

theorem xs_all : Xs c H R 2048 ⊢ owns (c.tc : Thread nD τ) nM fullShare (xsV c H R) := by
  unfold Xs
  iintro ⟨%X, %hX, HX⟩
  rw [show xsV c H R = X from funext fun x => (hX x (x 0).isLt).symm]
  iexact HX

/-- The whole block replaced. -/
theorem overlay_all (Y : Vec F S2x1x1024x1024 .f32) (h) :
    (Rect.unit (s := S2x1x1024x1024) ![0, 0, 0, 0] S2x1x1024x1024.size h).overlay Y (k0_pay14 (F := F)) = k0_pay14 (F := F) := by
  funext x
  have e : (Rect.unit (s := S2x1x1024x1024) ![0, 0, 0, 0] S2x1x1024x1024.size h).emb x = x := by
    funext a
    apply Fin.ext
    change (![0, 0, 0, 0] : Fin 4 → Nat) a + 1 * (x a).val = (x a).val
    have : (![0, 0, 0, 0] : Fin 4 → Nat) a = 0 := by fin_cases a <;> rfl
    omega
  have h2 := Rect.overlay_emb (Rect.unit (s := S2x1x1024x1024) ![0, 0, 0, 0] S2x1x1024x1024.size h) Y (k0_pay14 (F := F)) x
  rw [e] at h2
  exact h2

/-- The next expert's copies opened, the output block cleared. -/
theorem pre_open {P : sProp 𝕄} : iprop((Tab c T ∗ Hid c H ∗ semVal ((c.tc : Thread nD τ), .dma (cell (cslot i))) 0 ∗ Ow c
      ∗ P ∗ Slot c (nslot i) g ∗ semVal ((c.tc : Thread nD τ), .dma (cell (nslot i))) 0 ∗ owns (c.tc : Thread nD τ) a7 fullShare (k0_pay14 (F := F)))
      ∗ Slot c (cslot i) (filled c H R) ∗ Xs c H R 2048)
    ⊢ (|={Set.univ}=> iprop(Tab c T ∗ (iprop(P ∗ Work c i a7 H R R' (k0_pay14 (F := F))) ∗ Iss c (nslot i) g H R' 0 0)) : sProp 𝕄) := by
  unfold Work
  iintro ⟨⟨HT, HH, Hv', HO, HP, HS, Hv, HY⟩, HS', HX⟩
  imod (open_batch c (nslot i) g H R') $$ [HS HH Hv] with ⟨HI, HR⟩
  · isplitl [HS]; · iexact HS
    isplitl [HH]; · iexact HH
    iexact Hv
  imodintro
  isplitl [HT]; · iexact HT
  isplitr [HI]
  · isplitl [HP]; · iexact HP
    isplitl [HS']; · iexists _; iexact HS'
    isplitl [Hv']; · iexact Hv'
    isplitl [HR]; · iexact HR
    isplitl [HO]; · iexact HO
    isplitl [HX]; · iapply xs_all; iexact HX
    iexact HY
  iexact HI

/-- The waits, the rounding and the clearing at the head of an expert, in front of the rest of the step. -/
theorem block_wp {P : sProp 𝕄} {α : Type} {Q : α → sProp 𝕄} (v9 : BitVec 32) (hc : k0_cond2 i = 1#1) (h1 : (i 1).val = 0) {e1 e2 e3 e4 e5 e6 e7 e8 e9 e10 e11}
    {K : Prog (TpuEff nD τ sig (Elt F) Λ₀ .tc) α}
    (hK : St c g H R' T iprop(P ∗ Work c i a7 H R R' (k0_pay14 (F := F))) i 0 ⊢ wpF c K Q) :
    Wt c (cslot i) f H R iprop(Tab c T ∗ Rest c H R ∗ Pre c i a7 g P) 0 ⊢ wpF c (do
      k0_part2 i tM h2 hM h3 a4 h4 a5 h5 a6 h6 a7 h7 xM h8 nM h9 cc0_scratch2 v9 hc
      let v2426 : FVec F S192x1024 .bf16 ← k0_part3 i tM h2 hM h3 a4 h4 a5 h5 a6 h6 a7 h7 xM h8 nM h9 cc0_scratch2 v9 hc
      Prog.lift (.store nM (Rect.unit (s := S2048x1024) ![1536, 0] S192x1024.size inb_S2048x1024_S192x1024_1536_0) (k0_pay11 v2426) Finset.univ e1 (.inl rfl))
      let v2431 : Vec F S1x1x192x1024 .f32 ← Prog.lift (.load xM (Rect.unit (s := S2x11x192x1024) (k0_off45 i) S1x1x192x1024.size e2).toLoadRect e3)
      let v2434 : Vec F S192x1024 .bf16 ← Prog.lift (.load nM (Rect.unit (s := S2048x1024) ![1728, 0] S192x1024.size inb_S2048x1024_S192x1024_1728_0).toLoadRect e4)
      Prog.lift (.store nM (Rect.unit (s := S2048x1024) ![1728, 0] S192x1024.size inb_S2048x1024_S192x1024_1728_0) (k0_pay12 v2431) Finset.univ e5 (.inl rfl))
      let v2438 : Vec F S1x1x128x1024 .f32 ← Prog.lift (.load xM (Rect.unit (s := S2x11x192x1024) (k0_off46 i) S1x1x128x1024.size e6).toLoadRect e7)
      let v2441 : Vec F S128x1024 .bf16 ← Prog.lift (.load nM (Rect.unit (s := S2048x1024) ![1920, 0] S128x1024.size inb_S2048x1024_S128x1024_1920_0).toLoadRect e8)
      Prog.lift (.store nM (Rect.unit (s := S2048x1024) ![1920, 0] S128x1024.size inb_S2048x1024_S128x1024_1920_0) (k0_pay13 v2438) Finset.univ e9 (.inl rfl))
      let v2445 : Vec F S2x1x1024x1024 .f32 ← Prog.lift (.load a7 (Rect.unit (s := S2x1x1024x1024) ![0, 0, 0, 0] S2x1x1024x1024.size inb_S2x1x1024x1024_S2x1x1024x1024_0_0_0_0).toLoadRect e10)
      Prog.lift (.store a7 (Rect.unit (s := S2x1x1024x1024) ![0, 0, 0, 0] S2x1x1024x1024.size inb_S2x1x1024x1024_S2x1x1024x1024_0_0_0_0) (k0_pay14 (F := F)) Finset.univ e11 (.inl rfl))
      K) Q := by
  unfold wpF
  rw [wp_bind]
  refine part2_wp v9 hc pre_close ?_
  rw [wp_bind]
  refine part3_wp v9 hc ?_
  refine fl_st (k := 1536) 192 (by omega) (pay_192 c H R 8 (by omega)) ?_
  refine fl_ld (cslot i) 9 192 (by omega) (by omega) (show k0_off45 i = _ from offC_eq i 9) ?_
  refine fl_nl fun _ => ?_
  refine fl_st (k := 1728) 192 (by omega) (pay_192 c H R 9 (by omega)) ?_
  refine fl_ld (cslot i) 10 128 (by omega) (by omega) (show k0_off46 i = _ from offC_eq i 10) ?_
  refine fl_nl fun _ => ?_
  refine fl_st (k := 1920) 128 (by omega) (pay_128 c H R) ?_
  unfold Fl Pre'
  iintro ⟨⟨HT, HH, Hv', HO, HP, HS, Hv, ⟨%Y, HY⟩⟩, HS', HX⟩
  iapply (own_ld1 c a7) $$ [HY]
  · iexact HY
  iintro HY
  iapply (own_st1 c a7) $$ [HY]
  · iexact HY
  iintro HY
  rw [overlay_all]
  iapply (show (|={Set.univ}=> St c g H R' T iprop(P ∗ Work c i a7 H R R' (k0_pay14 (F := F))) i 0) ⊢ wpF c K Q from
    (fupd_mono hK).trans (fupd_wp _ _ _ _ _))
  unfold St
  rw [show rowNo i 0 = 0 from by unfold rowNo; omega]
  iapply pre_open
  isplitr [HS' HX]
  · isplitl [HT]; · iexact HT
    isplitl [HH]; · iexact HH
    isplitl [Hv']; · iexact Hv'
    isplitl [HO]; · iexact HO
    isplitl [HP]; · iexact HP
    isplitl [HS]; · iexact HS
    isplitl [Hv]; · iexact Hv
    iexact HY
  isplitl [HS']; · iexact HS'
  iexact HX

/-- The head of a step inside an expert. -/
theorem p4_mid {P : sProp 𝕄} (hR : Named c R' T i) (h1 : ¬ k0_cond1 i = 1#1) (hc : ¬ k0_cond2 i = 1#1) {Q : (Σ' (arg0 : BitVec 32) (arg1 : BitVec 32) (v9 : BitVec 32), BitVec 32) → sProp 𝕄}
    (hQ : ∀ a b d e, St c g H R' T P i 1 ⊢ Q ⟨a, b, d, e⟩) :
    St c g H R' T P i 0 ⊢ wpF c (k0_part4 i tM h2 hM h3 a4 h4 a5 h5 a6 h6 a7 h7 xM h8 nM h9 cc0_scratch2) Q := by
  rw [k0_part4_eq_skeleton]; unfold k0_part4_skel
  dsimp only
  rw [dif_neg h1, dif_neg hc]
  refine stT (r := 0) (by decide) (show k0_off47 i = _ from offT_eq i 0 (by decide)) ?_
  refine st_assume c (show k0_chk12 (tw c T i 0 (by decide)) from chk_of (tw_lt hR _)) ?_
  refine stE hR (r := 0) (by decide) (show k0_off49 i = _ from offD_eq i 0 (by decide)) rfl (show k0_off48 i = _ from offS_eq i) ?_
  exact stR (hQ _ _ _ _)

/-- The head of a step that starts an expert, but the first. -/
theorem p4_next {P : sProp 𝕄} (hR : Named c R' T i) (h1 : ¬ k0_cond1 i = 1#1) (hc : k0_cond2 i = 1#1) {Q : (Σ' (arg0 : BitVec 32) (arg1 : BitVec 32) (v9 : BitVec 32), BitVec 32) → sProp 𝕄}
    (hQ : ∀ a b d e, St c g H R' T iprop(P ∗ Work c i a7 H R R' (k0_pay14 (F := F))) i 1 ⊢ Q ⟨a, b, d, e⟩) :
    Wt c (cslot i) f H R iprop(Tab c T ∗ Rest c H R ∗ Pre c i a7 g P) 0 ⊢ wpF c (k0_part4 i tM h2 hM h3 a4 h4 a5 h5 a6 h6 a7 h7 xM h8 nM h9 cc0_scratch2) Q := by
  rw [k0_part4_eq_skeleton]; unfold k0_part4_skel
  dsimp only
  rw [dif_neg h1, dif_pos hc]
  refine block_wp (g := g) (R' := R') (T := T) (P := P) _ hc ((cond2_iff i).1 hc) ?_
  refine stT (r := 0) (by decide) (show k0_off47 i = _ from offT_eq i 0 (by decide)) ?_
  refine st_assume c (show k0_chk12 (tw c T i 0 (by decide)) from chk_of (tw_lt hR _)) ?_
  refine stE hR (r := 0) (by decide) (show k0_off49 i = _ from offD_eq i 0 (by decide)) rfl (show k0_off48 i = _ from offS_eq i) ?_
  exact stR (hQ _ _ _ _)

/-- The head of the very first step. -/
theorem p4_first {P : sProp 𝕄} (hR0 : Named0 c R T) (hR : Named c R' T i) (h1 : k0_cond1 i = 1#1) (hc : k0_cond2 i = 1#1) {Q : (Σ' (arg0 : BitVec 32) (arg1 : BitVec 32) (v9 : BitVec 32), BitVec 32) → sProp 𝕄}
    (hQ : ∀ a b d e, St c g H R' T iprop(P ∗ Work c i a7 H R R' (k0_pay14 (F := F))) i 1 ⊢ Q ⟨a, b, d, e⟩) :
    S0 c f H R T iprop((Rest c H R ∗ Pre c i a7 g P) ∗ Ow c) 0 ⊢ wpF c (k0_part4 i tM h2 hM h3 a4 h4 a5 h5 a6 h6 a7 h7 xM h8 nM h9 cc0_scratch2) Q := by
  rw [k0_part4_eq_skeleton]; unfold k0_part4_skel
  dsimp only
  rw [dif_pos h1, dif_pos hc]
  unfold wpF
  rw [wp_bind]
  refine part1_wp hR0 h1 ?_
  refine l11 hR0 h1 ?_
  have hs : cslot i = 0 := by unfold cslot; apply Fin.ext; simp [((cond1_iff i).1 h1).1]
  have hh : S0 c f H R T iprop((Rest c H R ∗ Pre c i a7 g P) ∗ Ow c) 2112 ⊢ Wt c (cslot i) f H R iprop(Tab c T ∗ Rest c H R ∗ Pre c i a7 g P) 0 := by
    unfold S0 Wt
    rw [hs]
    iintro ⟨HT, ⟨⟨HR, HP⟩, HO⟩, HI⟩
    isplitr [HI HO]
    · isplitl [HT]; · iexact HT
      isplitl [HR]; · iexact HR
      iexact HP
    isplitl [HI]; · iexact HI
    iexact HO
  refine hh.trans (block_wp (g := g) (R' := R') (T := T) (P := P) _ hc ((cond2_iff i).1 hc) ?_)
  refine stT (r := 0) (by decide) (show k0_off47 i = _ from offT_eq i 0 (by decide)) ?_
  refine st_assume c (show k0_chk12 (tw c T i 0 (by decide)) from chk_of (tw_lt hR _)) ?_
  refine stE hR (r := 0) (by decide) (show k0_off49 i = _ from offD_eq i 0 (by decide)) rfl (show k0_off48 i = _ from offS_eq i) ?_
  exact stR (hQ _ _ _ _)

end Cert.Kernel.Ffn
end
-- ==== Proof.K.PartsA.lean ====
module

public import proofs.«01_k».proof.Proof.K.Offs

@[expose] public section

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {f : Buf (Elt F) (xM.view.loc (c.tc : Thread nD τ))} {H : Buf (Elt F) (hM.view.loc (c.tc : Thread nD τ))}
  {R : Fin 2112 → Fin 16384} {T : Buf (Elt F) (tM.view.loc (c.tc : Thread nD τ))}

local notation "𝕄" => MT nD τ sig Unit (Elt F) ℕ (Pipeline.UD sig nD τ) ℕ

variable {i : grid0.Coords} {h2 : tM.IsWhole} {h3 : hM.IsWhole}
  {a4 : Memref sig .tc .vmem S1x1024x256 .f32} {h4 : a4.IsWhole} {a5 : Memref sig .tc .vmem S1x1024x256 .f32} {h5 : a5.IsWhole}
  {a6 : Memref sig .tc .vmem S1x256x1024 .f32} {h6 : a6.IsWhole} {a7 : Memref sig .tc .vmem S2x1x1024x1024 .f32} {h7 : a7.IsWhole}
  {h8 : xM.IsWhole} {a9 : Memref sig .tc .vmem S2048x1024 .bf16} {h9 : a9.IsWhole}

/-- Part 5 of the body: rows 1 to 2 issued. -/
theorem p5 {P : sProp 𝕄} (hR : Named c R T i) (arg1 : BitVec 32) (v9 : BitVec 32) (v19 : BitVec 32) {Q : (Σ' (v62 : Elt F .i32), k0_chk15 v62) → sProp 𝕄}
    (hQ : ∀ (w : k0_chk15 (tw c T i 3 (by decide))), St c f H R T P i 3 ⊢ Q ⟨tw c T i 3 (by decide), w⟩) :
    St c f H R T P i 1 ⊢ wpF c (k0_part5 i tM h2 hM h3 a4 h4 a5 h5 a6 h6 a7 h7 xM h8 a9 h9 cc0_scratch2 arg1 v9 v19) Q := by
  rw [k0_part5_eq_skeleton]; unfold k0_part5_skel
  refine stT (r := 1) (by decide) (show k0_off51 i = _ from offT_eq i 1 (by decide)) ?_
  refine st_assume c (show k0_chk13 (tw c T i 1 (by decide)) from chk_of (tw_lt hR _)) ?_
  refine stE hR (r := 1) (by decide) (show k0_off53 i = _ from offD_eq i 1 (by decide)) rfl (show k0_off52 i = _ from offS_eq i) ?_
  refine stT (r := 2) (by decide) (show k0_off55 i = _ from offT_eq i 2 (by decide)) ?_
  refine st_assume c (show k0_chk14 (tw c T i 2 (by decide)) from chk_of (tw_lt hR _)) ?_
  refine stE hR (r := 2) (by decide) (show k0_off57 i = _ from offD_eq i 2 (by decide)) rfl (show k0_off56 i = _ from offS_eq i) ?_
  refine stT (r := 3) (by decide) (show k0_off59 i = _ from offT_eq i 3 (by decide)) ?_
  refine st_assume c (show k0_chk15 (tw c T i 3 (by decide)) from chk_of (tw_lt hR _)) ?_
  exact stR (hQ _)

/-- Part 6 of the body: rows 3 to 5 issued. -/
theorem p6 {P : sProp 𝕄} (hR : Named c R T i) (arg1 : BitVec 32) (v9 : BitVec 32) (v19 : BitVec 32) (k0_hw15 : k0_chk15 (tw c T i 3 (by decide))) {Q : (Σ' (v98 : Elt F .i32), k0_chk18 v98) → sProp 𝕄}
    (hQ : ∀ (w : k0_chk18 (tw c T i 6 (by decide))), St c f H R T P i 6 ⊢ Q ⟨tw c T i 6 (by decide), w⟩) :
    St c f H R T P i 3 ⊢ wpF c (k0_part6 i tM h2 hM h3 a4 h4 a5 h5 a6 h6 a7 h7 xM h8 a9 h9 cc0_scratch2 arg1 v9 v19 (tw c T i 3 (by decide)) k0_hw15) Q := by
  rw [k0_part6_eq_skeleton]; unfold k0_part6_skel
  refine stE hR (r := 3) (by decide) (show k0_off61 i = _ from offD_eq i 3 (by decide)) rfl (show k0_off60 i = _ from offS_eq i) ?_
  refine stT (r := 4) (by decide) (show k0_off63 i = _ from offT_eq i 4 (by decide)) ?_
  refine st_assume c (show k0_chk16 (tw c T i 4 (by decide)) from chk_of (tw_lt hR _)) ?_
  refine stE hR (r := 4) (by decide) (show k0_off65 i = _ from offD_eq i 4 (by decide)) rfl (show k0_off64 i = _ from offS_eq i) ?_
  refine stT (r := 5) (by decide) (show k0_off67 i = _ from offT_eq i 5 (by decide)) ?_
  refine st_assume c (show k0_chk17 (tw c T i 5 (by decide)) from chk_of (tw_lt hR _)) ?_
  refine stE hR (r := 5) (by decide) (show k0_off69 i = _ from offD_eq i 5 (by decide)) rfl (show k0_off68 i = _ from offS_eq i) ?_
  refine stT (r := 6) (by decide) (show k0_off71 i = _ from offT_eq i 6 (by decide)) ?_
  refine st_assume c (show k0_chk18 (tw c T i 6 (by decide)) from chk_of (tw_lt hR _)) ?_
  exact stR (hQ _)

/-- Part 7 of the body: rows 6 to 8 issued. -/
theorem p7 {P : sProp 𝕄} (hR : Named c R T i) (arg1 : BitVec 32) (v9 : BitVec 32) (v19 : BitVec 32) (k0_hw18 : k0_chk18 (tw c T i 6 (by decide))) {Q : (Σ' (v134 : Elt F .i32), k0_chk21 v134) → sProp 𝕄}
    (hQ : ∀ (w : k0_chk21 (tw c T i 9 (by decide))), St c f H R T P i 9 ⊢ Q ⟨tw c T i 9 (by decide), w⟩) :
    St c f H R T P i 6 ⊢ wpF c (k0_part7 i tM h2 hM h3 a4 h4 a5 h5 a6 h6 a7 h7 xM h8 a9 h9 cc0_scratch2 arg1 v9 v19 (tw c T i 6 (by decide)) k0_hw18) Q := by
  rw [k0_part7_eq_skeleton]; unfold k0_part7_skel
  refine stE hR (r := 6) (by decide) (show k0_off73 i = _ from offD_eq i 6 (by decide)) rfl (show k0_off72 i = _ from offS_eq i) ?_
  refine stT (r := 7) (by decide) (show k0_off75 i = _ from offT_eq i 7 (by decide)) ?_
  refine st_assume c (show k0_chk19 (tw c T i 7 (by decide)) from chk_of (tw_lt hR _)) ?_
  refine stE hR (r := 7) (by decide) (show k0_off77 i = _ from offD_eq i 7 (by decide)) rfl (show k0_off76 i = _ from offS_eq i) ?_
  refine stT (r := 8) (by decide) (show k0_off79 i = _ from offT_eq i 8 (by decide)) ?_
  refine st_assume c (show k0_chk20 (tw c T i 8 (by decide)) from chk_of (tw_lt hR _)) ?_
  refine stE hR (r := 8) (by decide) (show k0_off81 i = _ from offD_eq i 8 (by decide)) rfl (show k0_off80 i = _ from offS_eq i) ?_
  refine stT (r := 9) (by decide) (show k0_off83 i = _ from offT_eq i 9 (by decide)) ?_
  refine st_assume c (show k0_chk21 (tw c T i 9 (by decide)) from chk_of (tw_lt hR _)) ?_
  exact stR (hQ _)

/-- Part 8 of the body: rows 9 to 11 issued. -/
theorem p8 {P : sProp 𝕄} (hR : Named c R T i) (arg1 : BitVec 32) (v9 : BitVec 32) (v19 : BitVec 32) (k0_hw21 : k0_chk21 (tw c T i 9 (by decide))) {Q : (Elt F .i32) → sProp 𝕄}
    (hQ : St c f H R T P i 12 ⊢ Q (tw c T i 12 (by decide))) :
    St c f H R T P i 9 ⊢ wpF c (k0_part8 i tM h2 hM h3 a4 h4 a5 h5 a6 h6 a7 h7 xM h8 a9 h9 cc0_scratch2 arg1 v9 v19 (tw c T i 9 (by decide)) k0_hw21) Q := by
  rw [k0_part8_eq_skeleton]; unfold k0_part8_skel
  refine stE hR (r := 9) (by decide) (show k0_off85 i = _ from offD_eq i 9 (by decide)) rfl (show k0_off84 i = _ from offS_eq i) ?_
  refine stT (r := 10) (by decide) (show k0_off87 i = _ from offT_eq i 10 (by decide)) ?_
  refine st_assume c (show k0_chk22 (tw c T i 10 (by decide)) from chk_of (tw_lt hR _)) ?_
  refine stE hR (r := 10) (by decide) (show k0_off89 i = _ from offD_eq i 10 (by decide)) rfl (show k0_off88 i = _ from offS_eq i) ?_
  refine stT (r := 11) (by decide) (show k0_off91 i = _ from offT_eq i 11 (by decide)) ?_
  refine st_assume c (show k0_chk23 (tw c T i 11 (by decide)) from chk_of (tw_lt hR _)) ?_
  refine stE hR (r := 11) (by decide) (show k0_off93 i = _ from offD_eq i 11 (by decide)) rfl (show k0_off92 i = _ from offS_eq i) ?_
  exact stTl (r := 12) (by decide) (show k0_off95 i = _ from offT_eq i 12 (by decide)) hQ

/-- Part 9 of the body: rows 12 to 14 issued. -/
theorem p9 {P : sProp 𝕄} (hR : Named c R T i) (arg1 : BitVec 32) (v9 : BitVec 32) (v19 : BitVec 32) {Q : (Σ' (v203 : BitVec 32), BitVec 32) → sProp 𝕄}
    (hQ : ∀ (v203 : BitVec 32), St c f H R T P i 15 ⊢ Q ⟨v203, 15#32⟩) :
    St c f H R T P i 12 ⊢ wpF c (k0_part9 i tM h2 hM h3 a4 h4 a5 h5 a6 h6 a7 h7 xM h8 a9 h9 cc0_scratch2 arg1 v9 v19 (tw c T i 12 (by decide))) Q := by
  rw [k0_part9_eq_skeleton]; unfold k0_part9_skel
  refine st_assume c (show k0_chk24 (tw c T i 12 (by decide)) from chk_of (tw_lt hR _)) ?_
  refine stE hR (r := 12) (by decide) (show k0_off97 i = _ from offD_eq i 12 (by decide)) rfl (show k0_off96 i = _ from offS_eq i) ?_
  refine stT (r := 13) (by decide) (show k0_off99 i = _ from offT_eq i 13 (by decide)) ?_
  refine st_assume c (show k0_chk25 (tw c T i 13 (by decide)) from chk_of (tw_lt hR _)) ?_
  refine stE hR (r := 13) (by decide) (show k0_off101 i = _ from offD_eq i 13 (by decide)) rfl (show k0_off100 i = _ from offS_eq i) ?_
  refine stT (r := 14) (by decide) (show k0_off103 i = _ from offT_eq i 14 (by decide)) ?_
  refine st_assume c (show k0_chk26 (tw c T i 14 (by decide)) from chk_of (tw_lt hR _)) ?_
  refine stE hR (r := 14) (by decide) (show k0_off105 i = _ from offD_eq i 14 (by decide)) rfl (show k0_off104 i = _ from offS_eq i) ?_
  exact stR (hQ _)

/-- Part 10 of the body: rows 15 to 17 issued. -/
theorem p10 {P : sProp 𝕄} (hR : Named c R T i) (arg1 : BitVec 32) (v9 : BitVec 32) (v19 : BitVec 32) (v203 : BitVec 32) (c15_i32_103 : BitVec 32) {Q : (Σ' (v237 : BitVec 32), BitVec 32) → sProp 𝕄}
    (hQ : ∀ (v237 : BitVec 32), St c f H R T P i 18 ⊢ Q ⟨v237, 192#32⟩) :
    St c f H R T P i 15 ⊢ wpF c (k0_part10 i tM h2 hM h3 a4 h4 a5 h5 a6 h6 a7 h7 xM h8 a9 h9 cc0_scratch2 arg1 v9 v19 v203 c15_i32_103) Q := by
  rw [k0_part10_eq_skeleton]; unfold k0_part10_skel
  refine stT (r := 15) (by decide) (show k0_off107 i = _ from offT_eq i 15 (by decide)) ?_
  refine st_assume c (show k0_chk27 (tw c T i 15 (by decide)) from chk_of (tw_lt hR _)) ?_
  refine stE hR (r := 15) (by decide) (show k0_off109 i = _ from offD_eq i 15 (by decide)) rfl (show k0_off108 i = _ from offS_eq i) ?_
  refine stT (r := 16) (by decide) (show k0_off111 i = _ from offT_eq i 16 (by decide)) ?_
  refine st_assume c (show k0_chk28 (tw c T i 16 (by decide)) from chk_of (tw_lt hR _)) ?_
  refine stE hR (r := 16) (by decide) (show k0_off113 i = _ from offD_eq i 16 (by decide)) rfl (show k0_off112 i = _ from offS_eq i) ?_
  refine stT (r := 17) (by decide) (show k0_off115 i = _ from offT_eq i 17 (by decide)) ?_
  refine st_assume c (show k0_chk29 (tw c T i 17 (by decide)) from chk_of (tw_lt hR _)) ?_
  refine stE hR (r := 17) (by decide) (show k0_off117 i = _ from offD_eq i 17 (by decide)) rfl (show k0_off116 i = _ from offS_eq i) ?_
  exact stR (hQ _)

/-- Part 11 of the body: rows 18 to 20 issued. -/
theorem p11 {P : sProp 𝕄} (hR : Named c R T i) (arg1 : BitVec 32) (v9 : BitVec 32) (v19 : BitVec 32) (v237 : BitVec 32) (c192_i32_121 : BitVec 32) {Q : (PUnit) → sProp 𝕄}
    (hQ : St c f H R T P i 21 ⊢ Q ⟨⟩) :
    St c f H R T P i 18 ⊢ wpF c (k0_part11 i tM h2 hM h3 a4 h4 a5 h5 a6 h6 a7 h7 xM h8 a9 h9 cc0_scratch2 arg1 v9 v19 v237 c192_i32_121) Q := by
  rw [k0_part11_eq_skeleton]; unfold k0_part11_skel
  refine stT (r := 18) (by decide) (show k0_off119 i = _ from offT_eq i 18 (by decide)) ?_
  refine st_assume c (show k0_chk30 (tw c T i 18 (by decide)) from chk_of (tw_lt hR _)) ?_
  refine stE hR (r := 18) (by decide) (show k0_off121 i = _ from offD_eq i 18 (by decide)) rfl (show k0_off120 i = _ from offS_eq i) ?_
  refine stT (r := 19) (by decide) (show k0_off123 i = _ from offT_eq i 19 (by decide)) ?_
  refine st_assume c (show k0_chk31 (tw c T i 19 (by decide)) from chk_of (tw_lt hR _)) ?_
  refine stE hR (r := 19) (by decide) (show k0_off125 i = _ from offD_eq i 19 (by decide)) rfl (show k0_off124 i = _ from offS_eq i) ?_
  refine stT (r := 20) (by decide) (show k0_off127 i = _ from offT_eq i 20 (by decide)) ?_
  refine st_assume c (show k0_chk32 (tw c T i 20 (by decide)) from chk_of (tw_lt hR _)) ?_
  refine stE hR (r := 20) (by decide) (show k0_off129 i = _ from offD_eq i 20 (by decide)) rfl (show k0_off128 i = _ from offS_eq i) ?_
  exact stR (hQ)

/-- Part 12 of the body: rows 21 to 22 issued. -/
theorem p12 {P : sProp 𝕄} (hR : Named c R T i) (arg1 : BitVec 32) (v9 : BitVec 32) (v19 : BitVec 32) {Q : (Σ' (v302 : Elt F .i32), k0_chk35 v302) → sProp 𝕄}
    (hQ : ∀ (w : k0_chk35 (tw c T i 23 (by decide))), St c f H R T P i 23 ⊢ Q ⟨tw c T i 23 (by decide), w⟩) :
    St c f H R T P i 21 ⊢ wpF c (k0_part12 i tM h2 hM h3 a4 h4 a5 h5 a6 h6 a7 h7 xM h8 a9 h9 cc0_scratch2 arg1 v9 v19) Q := by
  rw [k0_part12_eq_skeleton]; unfold k0_part12_skel
  refine stT (r := 21) (by decide) (show k0_off131 i = _ from offT_eq i 21 (by decide)) ?_
  refine st_assume c (show k0_chk33 (tw c T i 21 (by decide)) from chk_of (tw_lt hR _)) ?_
  refine stE hR (r := 21) (by decide) (show k0_off133 i = _ from offD_eq i 21 (by decide)) rfl (show k0_off132 i = _ from offS_eq i) ?_
  refine stT (r := 22) (by decide) (show k0_off135 i = _ from offT_eq i 22 (by decide)) ?_
  refine st_assume c (show k0_chk34 (tw c T i 22 (by decide)) from chk_of (tw_lt hR _)) ?_
  refine stE hR (r := 22) (by decide) (show k0_off137 i = _ from offD_eq i 22 (by decide)) rfl (show k0_off136 i = _ from offS_eq i) ?_
  refine stT (r := 23) (by decide) (show k0_off139 i = _ from offT_eq i 23 (by decide)) ?_
  refine st_assume c (show k0_chk35 (tw c T i 23 (by decide)) from chk_of (tw_lt hR _)) ?_
  exact stR (hQ _)

/-- Part 13 of the body: rows 23 to 25 issued. -/
theorem p13 {P : sProp 𝕄} (hR : Named c R T i) (arg1 : BitVec 32) (v9 : BitVec 32) (v19 : BitVec 32) (k0_hw35 : k0_chk35 (tw c T i 23 (by decide))) {Q : (Σ' (v338 : Elt F .i32), k0_chk38 v338) → sProp 𝕄}
    (hQ : ∀ (w : k0_chk38 (tw c T i 26 (by decide))), St c f H R T P i 26 ⊢ Q ⟨tw c T i 26 (by decide), w⟩) :
    St c f H R T P i 23 ⊢ wpF c (k0_part13 i tM h2 hM h3 a4 h4 a5 h5 a6 h6 a7 h7 xM h8 a9 h9 cc0_scratch2 arg1 v9 v19 (tw c T i 23 (by decide)) k0_hw35) Q := by
  rw [k0_part13_eq_skeleton]; unfold k0_part13_skel
  refine stE hR (r := 23) (by decide) (show k0_off141 i = _ from offD_eq i 23 (by decide)) rfl (show k0_off140 i = _ from offS_eq i) ?_
  refine stT (r := 24) (by decide) (show k0_off143 i = _ from offT_eq i 24 (by decide)) ?_
  refine st_assume c (show k0_chk36 (tw c T i 24 (by decide)) from chk_of (tw_lt hR _)) ?_
  refine stE hR (r := 24) (by decide) (show k0_off145 i = _ from offD_eq i 24 (by decide)) rfl (show k0_off144 i = _ from offS_eq i) ?_
  refine stT (r := 25) (by decide) (show k0_off147 i = _ from offT_eq i 25 (by decide)) ?_
  refine st_assume c (show k0_chk37 (tw c T i 25 (by decide)) from chk_of (tw_lt hR _)) ?_
  refine stE hR (r := 25) (by decide) (show k0_off149 i = _ from offD_eq i 25 (by decide)) rfl (show k0_off148 i = _ from offS_eq i) ?_
  refine stT (r := 26) (by decide) (show k0_off151 i = _ from offT_eq i 26 (by decide)) ?_
  refine st_assume c (show k0_chk38 (tw c T i 26 (by decide)) from chk_of (tw_lt hR _)) ?_
  exact stR (hQ _)

/-- Part 14 of the body: rows 26 to 28 issued. -/
theorem p14 {P : sProp 𝕄} (hR : Named c R T i) (arg1 : BitVec 32) (v9 : BitVec 32) (v19 : BitVec 32) (k0_hw38 : k0_chk38 (tw c T i 26 (by decide))) {Q : (Σ' (v374 : Elt F .i32), k0_chk41 v374) → sProp 𝕄}
    (hQ : ∀ (w : k0_chk41 (tw c T i 29 (by decide))), St c f H R T P i 29 ⊢ Q ⟨tw c T i 29 (by decide), w⟩) :
    St c f H R T P i 26 ⊢ wpF c (k0_part14 i tM h2 hM h3 a4 h4 a5 h5 a6 h6 a7 h7 xM h8 a9 h9 cc0_scratch2 arg1 v9 v19 (tw c T i 26 (by decide)) k0_hw38) Q := by
  rw [k0_part14_eq_skeleton]; unfold k0_part14_skel
  refine stE hR (r := 26) (by decide) (show k0_off153 i = _ from offD_eq i 26 (by decide)) rfl (show k0_off152 i = _ from offS_eq i) ?_
  refine stT (r := 27) (by decide) (show k0_off155 i = _ from offT_eq i 27 (by decide)) ?_
  refine st_assume c (show k0_chk39 (tw c T i 27 (by decide)) from chk_of (tw_lt hR _)) ?_
  refine stE hR (r := 27) (by decide) (show k0_off157 i = _ from offD_eq i 27 (by decide)) rfl (show k0_off156 i = _ from offS_eq i) ?_
  refine stT (r := 28) (by decide) (show k0_off159 i = _ from offT_eq i 28 (by decide)) ?_
  refine st_assume c (show k0_chk40 (tw c T i 28 (by decide)) from chk_of (tw_lt hR _)) ?_
  refine stE hR (r := 28) (by decide) (show k0_off161 i = _ from offD_eq i 28 (by decide)) rfl (show k0_off160 i = _ from offS_eq i) ?_
  refine stT (r := 29) (by decide) (show k0_off163 i = _ from offT_eq i 29 (by decide)) ?_
  refine st_assume c (show k0_chk41 (tw c T i 29 (by decide)) from chk_of (tw_lt hR _)) ?_
  exact stR (hQ _)

/-- Part 15 of the body: rows 29 to 31 issued. -/
theorem p15 {P : sProp 𝕄} (hR : Named c R T i) (arg1 : BitVec 32) (v9 : BitVec 32) (v19 : BitVec 32) (k0_hw41 : k0_chk41 (tw c T i 29 (by decide))) {Q : (Elt F .i32) → sProp 𝕄}
    (hQ : St c f H R T P i 32 ⊢ Q (tw c T i 32 (by decide))) :
    St c f H R T P i 29 ⊢ wpF c (k0_part15 i tM h2 hM h3 a4 h4 a5 h5 a6 h6 a7 h7 xM h8 a9 h9 cc0_scratch2 arg1 v9 v19 (tw c T i 29 (by decide)) k0_hw41) Q := by
  rw [k0_part15_eq_skeleton]; unfold k0_part15_skel
  refine stE hR (r := 29) (by decide) (show k0_off165 i = _ from offD_eq i 29 (by decide)) rfl (show k0_off164 i = _ from offS_eq i) ?_
  refine stT (r := 30) (by decide) (show k0_off167 i = _ from offT_eq i 30 (by decide)) ?_
  refine st_assume c (show k0_chk42 (tw c T i 30 (by decide)) from chk_of (tw_lt hR _)) ?_
  refine stE hR (r := 30) (by decide) (show k0_off169 i = _ from offD_eq i 30 (by decide)) rfl (show k0_off168 i = _ from offS_eq i) ?_
  refine stT (r := 31) (by decide) (show k0_off171 i = _ from offT_eq i 31 (by decide)) ?_
  refine st_assume c (show k0_chk43 (tw c T i 31 (by decide)) from chk_of (tw_lt hR _)) ?_
  refine stE hR (r := 31) (by decide) (show k0_off173 i = _ from offD_eq i 31 (by decide)) rfl (show k0_off172 i = _ from offS_eq i) ?_
  exact stTl (r := 32) (by decide) (show k0_off175 i = _ from offT_eq i 32 (by decide)) hQ

/-- Part 16 of the body: rows 32 to 34 issued. -/
theorem p16 {P : sProp 𝕄} (hR : Named c R T i) (arg1 : BitVec 32) (v9 : BitVec 32) (v19 : BitVec 32) {Q : (Σ' (v443 : BitVec 32), BitVec 32) → sProp 𝕄}
    (hQ : ∀ (v443 : BitVec 32), St c f H R T P i 35 ⊢ Q ⟨v443, 35#32⟩) :
    St c f H R T P i 32 ⊢ wpF c (k0_part16 i tM h2 hM h3 a4 h4 a5 h5 a6 h6 a7 h7 xM h8 a9 h9 cc0_scratch2 arg1 v9 v19 (tw c T i 32 (by decide))) Q := by
  rw [k0_part16_eq_skeleton]; unfold k0_part16_skel
  refine st_assume c (show k0_chk44 (tw c T i 32 (by decide)) from chk_of (tw_lt hR _)) ?_
  refine stE hR (r := 32) (by decide) (show k0_off177 i = _ from offD_eq i 32 (by decide)) rfl (show k0_off176 i = _ from offS_eq i) ?_
  refine stT (r := 33) (by decide) (show k0_off179 i = _ from offT_eq i 33 (by decide)) ?_
  refine st_assume c (show k0_chk45 (tw c T i 33 (by decide)) from chk_of (tw_lt hR _)) ?_
  refine stE hR (r := 33) (by decide) (show k0_off181 i = _ from offD_eq i 33 (by decide)) rfl (show k0_off180 i = _ from offS_eq i) ?_
  refine stT (r := 34) (by decide) (show k0_off183 i = _ from offT_eq i 34 (by decide)) ?_
  refine st_assume c (show k0_chk46 (tw c T i 34 (by decide)) from chk_of (tw_lt hR _)) ?_
  refine stE hR (r := 34) (by decide) (show k0_off185 i = _ from offD_eq i 34 (by decide)) rfl (show k0_off184 i = _ from offS_eq i) ?_
  exact stR (hQ _)

/-- Part 17 of the body: rows 35 to 37 issued. -/
theorem p17 {P : sProp 𝕄} (hR : Named c R T i) (arg1 : BitVec 32) (v9 : BitVec 32) (v19 : BitVec 32) (v443 : BitVec 32) (c35_i32 : BitVec 32) {Q : (Σ' (v477 : BitVec 32), BitVec 32) → sProp 𝕄}
    (hQ : ∀ (v477 : BitVec 32), St c f H R T P i 38 ⊢ Q ⟨v477, 192#32⟩) :
    St c f H R T P i 35 ⊢ wpF c (k0_part17 i tM h2 hM h3 a4 h4 a5 h5 a6 h6 a7 h7 xM h8 a9 h9 cc0_scratch2 arg1 v9 v19 v443 c35_i32) Q := by
  rw [k0_part17_eq_skeleton]; unfold k0_part17_skel
  refine stT (r := 35) (by decide) (show k0_off187 i = _ from offT_eq i 35 (by decide)) ?_
  refine st_assume c (show k0_chk47 (tw c T i 35 (by decide)) from chk_of (tw_lt hR _)) ?_
  refine stE hR (r := 35) (by decide) (show k0_off189 i = _ from offD_eq i 35 (by decide)) rfl (show k0_off188 i = _ from offS_eq i) ?_
  refine stT (r := 36) (by decide) (show k0_off191 i = _ from offT_eq i 36 (by decide)) ?_
  refine st_assume c (show k0_chk48 (tw c T i 36 (by decide)) from chk_of (tw_lt hR _)) ?_
  refine stE hR (r := 36) (by decide) (show k0_off193 i = _ from offD_eq i 36 (by decide)) rfl (show k0_off192 i = _ from offS_eq i) ?_
  refine stT (r := 37) (by decide) (show k0_off195 i = _ from offT_eq i 37 (by decide)) ?_
  refine st_assume c (show k0_chk49 (tw c T i 37 (by decide)) from chk_of (tw_lt hR _)) ?_
  refine stE hR (r := 37) (by decide) (show k0_off197 i = _ from offD_eq i 37 (by decide)) rfl (show k0_off196 i = _ from offS_eq i) ?_
  exact stR (hQ _)

/-- Part 18 of the body: rows 38 to 40 issued. -/
theorem p18 {P : sProp 𝕄} (hR : Named c R T i) (arg1 : BitVec 32) (v9 : BitVec 32) (v19 : BitVec 32) (v477 : BitVec 32) (c192_i32_241 : BitVec 32) {Q : (PUnit) → sProp 𝕄}
    (hQ : St c f H R T P i 41 ⊢ Q ⟨⟩) :
    St c f H R T P i 38 ⊢ wpF c (k0_part18 i tM h2 hM h3 a4 h4 a5 h5 a6 h6 a7 h7 xM h8 a9 h9 cc0_scratch2 arg1 v9 v19 v477 c192_i32_241) Q := by
  rw [k0_part18_eq_skeleton]; unfold k0_part18_skel
  refine stT (r := 38) (by decide) (show k0_off199 i = _ from offT_eq i 38 (by decide)) ?_
  refine st_assume c (show k0_chk50 (tw c T i 38 (by decide)) from chk_of (tw_lt hR _)) ?_
  refine stE hR (r := 38) (by decide) (show k0_off201 i = _ from offD_eq i 38 (by decide)) rfl (show k0_off200 i = _ from offS_eq i) ?_
  refine stT (r := 39) (by decide) (show k0_off203 i = _ from offT_eq i 39 (by decide)) ?_
  refine st_assume c (show k0_chk51 (tw c T i 39 (by decide)) from chk_of (tw_lt hR _)) ?_
  refine stE hR (r := 39) (by decide) (show k0_off205 i = _ from offD_eq i 39 (by decide)) rfl (show k0_off204 i = _ from offS_eq i) ?_
  refine stT (r := 40) (by decide) (show k0_off207 i = _ from offT_eq i 40 (by decide)) ?_
  refine st_assume c (show k0_chk52 (tw c T i 40 (by decide)) from chk_of (tw_lt hR _)) ?_
  refine stE hR (r := 40) (by decide) (show k0_off209 i = _ from offD_eq i 40 (by decide)) rfl (show k0_off208 i = _ from offS_eq i) ?_
  exact stR (hQ)

/-- Part 19 of the body: rows 41 to 42 issued. -/
theorem p19 {P : sProp 𝕄} (hR : Named c R T i) (arg1 : BitVec 32) (v9 : BitVec 32) (v19 : BitVec 32) {Q : (Σ' (v542 : Elt F .i32), k0_chk55 v542) → sProp 𝕄}
    (hQ : ∀ (w : k0_chk55 (tw c T i 43 (by decide))), St c f H R T P i 43 ⊢ Q ⟨tw c T i 43 (by decide), w⟩) :
    St c f H R T P i 41 ⊢ wpF c (k0_part19 i tM h2 hM h3 a4 h4 a5 h5 a6 h6 a7 h7 xM h8 a9 h9 cc0_scratch2 arg1 v9 v19) Q := by
  rw [k0_part19_eq_skeleton]; unfold k0_part19_skel
  refine stT (r := 41) (by decide) (show k0_off211 i = _ from offT_eq i 41 (by decide)) ?_
  refine st_assume c (show k0_chk53 (tw c T i 41 (by decide)) from chk_of (tw_lt hR _)) ?_
  refine stE hR (r := 41) (by decide) (show k0_off213 i = _ from offD_eq i 41 (by decide)) rfl (show k0_off212 i = _ from offS_eq i) ?_
  refine stT (r := 42) (by decide) (show k0_off215 i = _ from offT_eq i 42 (by decide)) ?_
  refine st_assume c (show k0_chk54 (tw c T i 42 (by decide)) from chk_of (tw_lt hR _)) ?_
  refine stE hR (r := 42) (by decide) (show k0_off217 i = _ from offD_eq i 42 (by decide)) rfl (show k0_off216 i = _ from offS_eq i) ?_
  refine stT (r := 43) (by decide) (show k0_off219 i = _ from offT_eq i 43 (by decide)) ?_
  refine st_assume c (show k0_chk55 (tw c T i 43 (by decide)) from chk_of (tw_lt hR _)) ?_
  exact stR (hQ _)

/-- Part 20 of the body: rows 43 to 45 issued. -/
theorem p20 {P : sProp 𝕄} (hR : Named c R T i) (arg1 : BitVec 32) (v9 : BitVec 32) (v19 : BitVec 32) (k0_hw55 : k0_chk55 (tw c T i 43 (by decide))) {Q : (Σ' (v578 : Elt F .i32), k0_chk58 v578) → sProp 𝕄}
    (hQ : ∀ (w : k0_chk58 (tw c T i 46 (by decide))), St c f H R T P i 46 ⊢ Q ⟨tw c T i 46 (by decide), w⟩) :
    St c f H R T P i 43 ⊢ wpF c (k0_part20 i tM h2 hM h3 a4 h4 a5 h5 a6 h6 a7 h7 xM h8 a9 h9 cc0_scratch2 arg1 v9 v19 (tw c T i 43 (by decide)) k0_hw55) Q := by
  rw [k0_part20_eq_skeleton]; unfold k0_part20_skel
  refine stE hR (r := 43) (by decide) (show k0_off221 i = _ from offD_eq i 43 (by decide)) rfl (show k0_off220 i = _ from offS_eq i) ?_
  refine stT (r := 44) (by decide) (show k0_off223 i = _ from offT_eq i 44 (by decide)) ?_
  refine st_assume c (show k0_chk56 (tw c T i 44 (by decide)) from chk_of (tw_lt hR _)) ?_
  refine stE hR (r := 44) (by decide) (show k0_off225 i = _ from offD_eq i 44 (by decide)) rfl (show k0_off224 i = _ from offS_eq i) ?_
  refine stT (r := 45) (by decide) (show k0_off227 i = _ from offT_eq i 45 (by decide)) ?_
  refine st_assume c (show k0_chk57 (tw c T i 45 (by decide)) from chk_of (tw_lt hR _)) ?_
  refine stE hR (r := 45) (by decide) (show k0_off229 i = _ from offD_eq i 45 (by decide)) rfl (show k0_off228 i = _ from offS_eq i) ?_
  refine stT (r := 46) (by decide) (show k0_off231 i = _ from offT_eq i 46 (by decide)) ?_
  refine st_assume c (show k0_chk58 (tw c T i 46 (by decide)) from chk_of (tw_lt hR _)) ?_
  exact stR (hQ _)

/-- Part 21 of the body: rows 46 to 48 issued. -/
theorem p21 {P : sProp 𝕄} (hR : Named c R T i) (arg1 : BitVec 32) (v9 : BitVec 32) (v19 : BitVec 32) (k0_hw58 : k0_chk58 (tw c T i 46 (by decide))) {Q : (Σ' (v614 : Elt F .i32), k0_chk61 v614) → sProp 𝕄}
    (hQ : ∀ (w : k0_chk61 (tw c T i 49 (by decide))), St c f H R T P i 49 ⊢ Q ⟨tw c T i 49 (by decide), w⟩) :
    St c f H R T P i 46 ⊢ wpF c (k0_part21 i tM h2 hM h3 a4 h4 a5 h5 a6 h6 a7 h7 xM h8 a9 h9 cc0_scratch2 arg1 v9 v19 (tw c T i 46 (by decide)) k0_hw58) Q := by
  rw [k0_part21_eq_skeleton]; unfold k0_part21_skel
  refine stE hR (r := 46) (by decide) (show k0_off233 i = _ from offD_eq i 46 (by decide)) rfl (show k0_off232 i = _ from offS_eq i) ?_
  refine stT (r := 47) (by decide) (show k0_off235 i = _ from offT_eq i 47 (by decide)) ?_
  refine st_assume c (show k0_chk59 (tw c T i 47 (by decide)) from chk_of (tw_lt hR _)) ?_
  refine stE hR (r := 47) (by decide) (show k0_off237 i = _ from offD_eq i 47 (by decide)) rfl (show k0_off236 i = _ from offS_eq i) ?_
  refine stT (r := 48) (by decide) (show k0_off239 i = _ from offT_eq i 48 (by decide)) ?_
  refine st_assume c (show k0_chk60 (tw c T i 48 (by decide)) from chk_of (tw_lt hR _)) ?_
  refine stE hR (r := 48) (by decide) (show k0_off241 i = _ from offD_eq i 48 (by decide)) rfl (show k0_off240 i = _ from offS_eq i) ?_
  refine stT (r := 49) (by decide) (show k0_off243 i = _ from offT_eq i 49 (by decide)) ?_
  refine st_assume c (show k0_chk61 (tw c T i 49 (by decide)) from chk_of (tw_lt hR _)) ?_
  exact stR (hQ _)

/-- Part 22 of the body: rows 49 to 51 issued. -/
theorem p22 {P : sProp 𝕄} (hR : Named c R T i) (arg1 : BitVec 32) (v9 : BitVec 32) (v19 : BitVec 32) (k0_hw61 : k0_chk61 (tw c T i 49 (by decide))) {Q : (Elt F .i32) → sProp 𝕄}
    (hQ : St c f H R T P i 52 ⊢ Q (tw c T i 52 (by decide))) :
    St c f H R T P i 49 ⊢ wpF c (k0_part22 i tM h2 hM h3 a4 h4 a5 h5 a6 h6 a7 h7 xM h8 a9 h9 cc0_scratch2 arg1 v9 v19 (tw c T i 49 (by decide)) k0_hw61) Q := by
  rw [k0_part22_eq_skeleton]; unfold k0_part22_skel
  refine stE hR (r := 49) (by decide) (show k0_off245 i = _ from offD_eq i 49 (by decide)) rfl (show k0_off244 i = _ from offS_eq i) ?_
  refine stT (r := 50) (by decide) (show k0_off247 i = _ from offT_eq i 50 (by decide)) ?_
  refine st_assume c (show k0_chk62 (tw c T i 50 (by decide)) from chk_of (tw_lt hR _)) ?_
  refine stE hR (r := 50) (by decide) (show k0_off249 i = _ from offD_eq i 50 (by decide)) rfl (show k0_off248 i = _ from offS_eq i) ?_
  refine stT (r := 51) (by decide) (show k0_off251 i = _ from offT_eq i 51 (by decide)) ?_
  refine st_assume c (show k0_chk63 (tw c T i 51 (by decide)) from chk_of (tw_lt hR _)) ?_
  refine stE hR (r := 51) (by decide) (show k0_off253 i = _ from offD_eq i 51 (by decide)) rfl (show k0_off252 i = _ from offS_eq i) ?_
  exact stTl (r := 52) (by decide) (show k0_off255 i = _ from offT_eq i 52 (by decide)) hQ

/-- Part 23 of the body: rows 52 to 54 issued. -/
theorem p23 {P : sProp 𝕄} (hR : Named c R T i) (arg1 : BitVec 32) (v9 : BitVec 32) (v19 : BitVec 32) {Q : (Σ' (v683 : BitVec 32), BitVec 32) → sProp 𝕄}
    (hQ : ∀ (v683 : BitVec 32), St c f H R T P i 55 ⊢ Q ⟨v683, 55#32⟩) :
    St c f H R T P i 52 ⊢ wpF c (k0_part23 i tM h2 hM h3 a4 h4 a5 h5 a6 h6 a7 h7 xM h8 a9 h9 cc0_scratch2 arg1 v9 v19 (tw c T i 52 (by decide))) Q := by
  rw [k0_part23_eq_skeleton]; unfold k0_part23_skel
  refine st_assume c (show k0_chk64 (tw c T i 52 (by decide)) from chk_of (tw_lt hR _)) ?_
  refine stE hR (r := 52) (by decide) (show k0_off257 i = _ from offD_eq i 52 (by decide)) rfl (show k0_off256 i = _ from offS_eq i) ?_
  refine stT (r := 53) (by decide) (show k0_off259 i = _ from offT_eq i 53 (by decide)) ?_
  refine st_assume c (show k0_chk65 (tw c T i 53 (by decide)) from chk_of (tw_lt hR _)) ?_
  refine stE hR (r := 53) (by decide) (show k0_off261 i = _ from offD_eq i 53 (by decide)) rfl (show k0_off260 i = _ from offS_eq i) ?_
  refine stT (r := 54) (by decide) (show k0_off263 i = _ from offT_eq i 54 (by decide)) ?_
  refine st_assume c (show k0_chk66 (tw c T i 54 (by decide)) from chk_of (tw_lt hR _)) ?_
  refine stE hR (r := 54) (by decide) (show k0_off265 i = _ from offD_eq i 54 (by decide)) rfl (show k0_off264 i = _ from offS_eq i) ?_
  exact stR (hQ _)

/-- Part 24 of the body: rows 55 to 57 issued. -/
theorem p24 {P : sProp 𝕄} (hR : Named c R T i) (arg1 : BitVec 32) (v9 : BitVec 32) (v19 : BitVec 32) (v683 : BitVec 32) (c55_i32 : BitVec 32) {Q : (Σ' (v717 : BitVec 32), BitVec 32) → sProp 𝕄}
    (hQ : ∀ (v717 : BitVec 32), St c f H R T P i 58 ⊢ Q ⟨v717, 192#32⟩) :
    St c f H R T P i 55 ⊢ wpF c (k0_part24 i tM h2 hM h3 a4 h4 a5 h5 a6 h6 a7 h7 xM h8 a9 h9 cc0_scratch2 arg1 v9 v19 v683 c55_i32) Q := by
  rw [k0_part24_eq_skeleton]; unfold k0_part24_skel
  refine stT (r := 55) (by decide) (show k0_off267 i = _ from offT_eq i 55 (by decide)) ?_
  refine st_assume c (show k0_chk67 (tw c T i 55 (by decide)) from chk_of (tw_lt hR _)) ?_
  refine stE hR (r := 55) (by decide) (show k0_off269 i = _ from offD_eq i 55 (by decide)) rfl (show k0_off268 i = _ from offS_eq i) ?_
  refine stT (r := 56) (by decide) (show k0_off271 i = _ from offT_eq i 56 (by decide)) ?_
  refine st_assume c (show k0_chk68 (tw c T i 56 (by decide)) from chk_of (tw_lt hR _)) ?_
  refine stE hR (r := 56) (by decide) (show k0_off273 i = _ from offD_eq i 56 (by decide)) rfl (show k0_off272 i = _ from offS_eq i) ?_
  refine stT (r := 57) (by decide) (show k0_off275 i = _ from offT_eq i 57 (by decide)) ?_
  refine st_assume c (show k0_chk69 (tw c T i 57 (by decide)) from chk_of (tw_lt hR _)) ?_
  refine stE hR (r := 57) (by decide) (show k0_off277 i = _ from offD_eq i 57 (by decide)) rfl (show k0_off276 i = _ from offS_eq i) ?_
  exact stR (hQ _)

/-- Part 25 of the body: rows 58 to 60 issued. -/
theorem p25 {P : sProp 𝕄} (hR : Named c R T i) (arg1 : BitVec 32) (v9 : BitVec 32) (v19 : BitVec 32) (v717 : BitVec 32) (c192_i32_361 : BitVec 32) {Q : (PUnit) → sProp 𝕄}
    (hQ : St c f H R T P i 61 ⊢ Q ⟨⟩) :
    St c f H R T P i 58 ⊢ wpF c (k0_part25 i tM h2 hM h3 a4 h4 a5 h5 a6 h6 a7 h7 xM h8 a9 h9 cc0_scratch2 arg1 v9 v19 v717 c192_i32_361) Q := by
  rw [k0_part25_eq_skeleton]; unfold k0_part25_skel
  refine stT (r := 58) (by decide) (show k0_off279 i = _ from offT_eq i 58 (by decide)) ?_
  refine st_assume c (show k0_chk70 (tw c T i 58 (by decide)) from chk_of (tw_lt hR _)) ?_
  refine stE hR (r := 58) (by decide) (show k0_off281 i = _ from offD_eq i 58 (by decide)) rfl (show k0_off280 i = _ from offS_eq i) ?_
  refine stT (r := 59) (by decide) (show k0_off283 i = _ from offT_eq i 59 (by decide)) ?_
  refine st_assume c (show k0_chk71 (tw c T i 59 (by decide)) from chk_of (tw_lt hR _)) ?_
  refine stE hR (r := 59) (by decide) (show k0_off285 i = _ from offD_eq i 59 (by decide)) rfl (show k0_off284 i = _ from offS_eq i) ?_
  refine stT (r := 60) (by decide) (show k0_off287 i = _ from offT_eq i 60 (by decide)) ?_
  refine st_assume c (show k0_chk72 (tw c T i 60 (by decide)) from chk_of (tw_lt hR _)) ?_
  refine stE hR (r := 60) (by decide) (show k0_off289 i = _ from offD_eq i 60 (by decide)) rfl (show k0_off288 i = _ from offS_eq i) ?_
  exact stR (hQ)

/-- Part 26 of the body: rows 61 to 62 issued. -/
theorem p26 {P : sProp 𝕄} (hR : Named c R T i) (arg1 : BitVec 32) (v9 : BitVec 32) (v19 : BitVec 32) {Q : (Σ' (v782 : Elt F .i32), k0_chk75 v782) → sProp 𝕄}
    (hQ : ∀ (w : k0_chk75 (tw c T i 63 (by decide))), St c f H R T P i 63 ⊢ Q ⟨tw c T i 63 (by decide), w⟩) :
    St c f H R T P i 61 ⊢ wpF c (k0_part26 i tM h2 hM h3 a4 h4 a5 h5 a6 h6 a7 h7 xM h8 a9 h9 cc0_scratch2 arg1 v9 v19) Q := by
  rw [k0_part26_eq_skeleton]; unfold k0_part26_skel
  refine stT (r := 61) (by decide) (show k0_off291 i = _ from offT_eq i 61 (by decide)) ?_
  refine st_assume c (show k0_chk73 (tw c T i 61 (by decide)) from chk_of (tw_lt hR _)) ?_
  refine stE hR (r := 61) (by decide) (show k0_off293 i = _ from offD_eq i 61 (by decide)) rfl (show k0_off292 i = _ from offS_eq i) ?_
  refine stT (r := 62) (by decide) (show k0_off295 i = _ from offT_eq i 62 (by decide)) ?_
  refine st_assume c (show k0_chk74 (tw c T i 62 (by decide)) from chk_of (tw_lt hR _)) ?_
  refine stE hR (r := 62) (by decide) (show k0_off297 i = _ from offD_eq i 62 (by decide)) rfl (show k0_off296 i = _ from offS_eq i) ?_
  refine stT (r := 63) (by decide) (show k0_off299 i = _ from offT_eq i 63 (by decide)) ?_
  refine st_assume c (show k0_chk75 (tw c T i 63 (by decide)) from chk_of (tw_lt hR _)) ?_
  exact stR (hQ _)

/-- Part 27 of the body: rows 63 to 65 issued. -/
theorem p27 {P : sProp 𝕄} (hR : Named c R T i) (arg1 : BitVec 32) (v9 : BitVec 32) (v19 : BitVec 32) (k0_hw75 : k0_chk75 (tw c T i 63 (by decide))) {Q : (Σ' (v818 : Elt F .i32), k0_chk78 v818) → sProp 𝕄}
    (hQ : ∀ (w : k0_chk78 (tw c T i 66 (by decide))), St c f H R T P i 66 ⊢ Q ⟨tw c T i 66 (by decide), w⟩) :
    St c f H R T P i 63 ⊢ wpF c (k0_part27 i tM h2 hM h3 a4 h4 a5 h5 a6 h6 a7 h7 xM h8 a9 h9 cc0_scratch2 arg1 v9 v19 (tw c T i 63 (by decide)) k0_hw75) Q := by
  rw [k0_part27_eq_skeleton]; unfold k0_part27_skel
  refine stE hR (r := 63) (by decide) (show k0_off301 i = _ from offD_eq i 63 (by decide)) rfl (show k0_off300 i = _ from offS_eq i) ?_
  refine stT (r := 64) (by decide) (show k0_off303 i = _ from offT_eq i 64 (by decide)) ?_
  refine st_assume c (show k0_chk76 (tw c T i 64 (by decide)) from chk_of (tw_lt hR _)) ?_
  refine stE hR (r := 64) (by decide) (show k0_off305 i = _ from offD_eq i 64 (by decide)) rfl (show k0_off304 i = _ from offS_eq i) ?_
  refine stT (r := 65) (by decide) (show k0_off307 i = _ from offT_eq i 65 (by decide)) ?_
  refine st_assume c (show k0_chk77 (tw c T i 65 (by decide)) from chk_of (tw_lt hR _)) ?_
  refine stE hR (r := 65) (by decide) (show k0_off309 i = _ from offD_eq i 65 (by decide)) rfl (show k0_off308 i = _ from offS_eq i) ?_
  refine stT (r := 66) (by decide) (show k0_off311 i = _ from offT_eq i 66 (by decide)) ?_
  refine st_assume c (show k0_chk78 (tw c T i 66 (by decide)) from chk_of (tw_lt hR _)) ?_
  exact stR (hQ _)

end Cert.Kernel.Ffn
end
-- ==== Proof.K.PartsB.lean ====
module

public import proofs.«01_k».proof.Proof.K.Offs

@[expose] public section

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {f : Buf (Elt F) (xM.view.loc (c.tc : Thread nD τ))} {H : Buf (Elt F) (hM.view.loc (c.tc : Thread nD τ))}
  {R : Fin 2112 → Fin 16384} {T : Buf (Elt F) (tM.view.loc (c.tc : Thread nD τ))}

local notation "𝕄" => MT nD τ sig Unit (Elt F) ℕ (Pipeline.UD sig nD τ) ℕ

variable {i : grid0.Coords} {h2 : tM.IsWhole} {h3 : hM.IsWhole}
  {a4 : Memref sig .tc .vmem S1x1024x256 .f32} {h4 : a4.IsWhole} {a5 : Memref sig .tc .vmem S1x1024x256 .f32} {h5 : a5.IsWhole}
  {a6 : Memref sig .tc .vmem S1x256x1024 .f32} {h6 : a6.IsWhole} {a7 : Memref sig .tc .vmem S2x1x1024x1024 .f32} {h7 : a7.IsWhole}
  {h8 : xM.IsWhole} {a9 : Memref sig .tc .vmem S2048x1024 .bf16} {h9 : a9.IsWhole}

/-- Part 28 of the body: rows 66 to 68 issued. -/
theorem p28 {P : sProp 𝕄} (hR : Named c R T i) (arg1 : BitVec 32) (v9 : BitVec 32) (v19 : BitVec 32) (k0_hw78 : k0_chk78 (tw c T i 66 (by decide))) {Q : (Σ' (v854 : Elt F .i32), k0_chk81 v854) → sProp 𝕄}
    (hQ : ∀ (w : k0_chk81 (tw c T i 69 (by decide))), St c f H R T P i 69 ⊢ Q ⟨tw c T i 69 (by decide), w⟩) :
    St c f H R T P i 66 ⊢ wpF c (k0_part28 i tM h2 hM h3 a4 h4 a5 h5 a6 h6 a7 h7 xM h8 a9 h9 cc0_scratch2 arg1 v9 v19 (tw c T i 66 (by decide)) k0_hw78) Q := by
  rw [k0_part28_eq_skeleton]; unfold k0_part28_skel
  refine stE hR (r := 66) (by decide) (show k0_off313 i = _ from offD_eq i 66 (by decide)) rfl (show k0_off312 i = _ from offS_eq i) ?_
  refine stT (r := 67) (by decide) (show k0_off315 i = _ from offT_eq i 67 (by decide)) ?_
  refine st_assume c (show k0_chk79 (tw c T i 67 (by decide)) from chk_of (tw_lt hR _)) ?_
  refine stE hR (r := 67) (by decide) (show k0_off317 i = _ from offD_eq i 67 (by decide)) rfl (show k0_off316 i = _ from offS_eq i) ?_
  refine stT (r := 68) (by decide) (show k0_off319 i = _ from offT_eq i 68 (by decide)) ?_
  refine st_assume c (show k0_chk80 (tw c T i 68 (by decide)) from chk_of (tw_lt hR _)) ?_
  refine stE hR (r := 68) (by decide) (show k0_off321 i = _ from offD_eq i 68 (by decide)) rfl (show k0_off320 i = _ from offS_eq i) ?_
  refine stT (r := 69) (by decide) (show k0_off323 i = _ from offT_eq i 69 (by decide)) ?_
  refine st_assume c (show k0_chk81 (tw c T i 69 (by decide)) from chk_of (tw_lt hR _)) ?_
  exact stR (hQ _)

/-- Part 29 of the body: rows 69 to 71 issued. -/
theorem p29 {P : sProp 𝕄} (hR : Named c R T i) (arg1 : BitVec 32) (v9 : BitVec 32) (v19 : BitVec 32) (k0_hw81 : k0_chk81 (tw c T i 69 (by decide))) {Q : (Elt F .i32) → sProp 𝕄}
    (hQ : St c f H R T P i 72 ⊢ Q (tw c T i 72 (by decide))) :
    St c f H R T P i 69 ⊢ wpF c (k0_part29 i tM h2 hM h3 a4 h4 a5 h5 a6 h6 a7 h7 xM h8 a9 h9 cc0_scratch2 arg1 v9 v19 (tw c T i 69 (by decide)) k0_hw81) Q := by
  rw [k0_part29_eq_skeleton]; unfold k0_part29_skel
  refine stE hR (r := 69) (by decide) (show k0_off325 i = _ from offD_eq i 69 (by decide)) rfl (show k0_off324 i = _ from offS_eq i) ?_
  refine stT (r := 70) (by decide) (show k0_off327 i = _ from offT_eq i 70 (by decide)) ?_
  refine st_assume c (show k0_chk82 (tw c T i 70 (by decide)) from chk_of (tw_lt hR _)) ?_
  refine stE hR (r := 70) (by decide) (show k0_off329 i = _ from offD_eq i 70 (by decide)) rfl (show k0_off328 i = _ from offS_eq i) ?_
  refine stT (r := 71) (by decide) (show k0_off331 i = _ from offT_eq i 71 (by decide)) ?_
  refine st_assume c (show k0_chk83 (tw c T i 71 (by decide)) from chk_of (tw_lt hR _)) ?_
  refine stE hR (r := 71) (by decide) (show k0_off333 i = _ from offD_eq i 71 (by decide)) rfl (show k0_off332 i = _ from offS_eq i) ?_
  exact stTl (r := 72) (by decide) (show k0_off335 i = _ from offT_eq i 72 (by decide)) hQ

/-- Part 30 of the body: rows 72 to 74 issued. -/
theorem p30 {P : sProp 𝕄} (hR : Named c R T i) (arg1 : BitVec 32) (v9 : BitVec 32) (v19 : BitVec 32) {Q : (Σ' (v923 : BitVec 32), BitVec 32) → sProp 𝕄}
    (hQ : ∀ (v923 : BitVec 32), St c f H R T P i 75 ⊢ Q ⟨v923, 75#32⟩) :
    St c f H R T P i 72 ⊢ wpF c (k0_part30 i tM h2 hM h3 a4 h4 a5 h5 a6 h6 a7 h7 xM h8 a9 h9 cc0_scratch2 arg1 v9 v19 (tw c T i 72 (by decide))) Q := by
  rw [k0_part30_eq_skeleton]; unfold k0_part30_skel
  refine st_assume c (show k0_chk84 (tw c T i 72 (by decide)) from chk_of (tw_lt hR _)) ?_
  refine stE hR (r := 72) (by decide) (show k0_off337 i = _ from offD_eq i 72 (by decide)) rfl (show k0_off336 i = _ from offS_eq i) ?_
  refine stT (r := 73) (by decide) (show k0_off339 i = _ from offT_eq i 73 (by decide)) ?_
  refine st_assume c (show k0_chk85 (tw c T i 73 (by decide)) from chk_of (tw_lt hR _)) ?_
  refine stE hR (r := 73) (by decide) (show k0_off341 i = _ from offD_eq i 73 (by decide)) rfl (show k0_off340 i = _ from offS_eq i) ?_
  refine stT (r := 74) (by decide) (show k0_off343 i = _ from offT_eq i 74 (by decide)) ?_
  refine st_assume c (show k0_chk86 (tw c T i 74 (by decide)) from chk_of (tw_lt hR _)) ?_
  refine stE hR (r := 74) (by decide) (show k0_off345 i = _ from offD_eq i 74 (by decide)) rfl (show k0_off344 i = _ from offS_eq i) ?_
  exact stR (hQ _)

/-- Part 31 of the body: rows 75 to 77 issued. -/
theorem p31 {P : sProp 𝕄} (hR : Named c R T i) (arg1 : BitVec 32) (v9 : BitVec 32) (v19 : BitVec 32) (v923 : BitVec 32) (c75_i32 : BitVec 32) {Q : (Σ' (v957 : BitVec 32), BitVec 32) → sProp 𝕄}
    (hQ : ∀ (v957 : BitVec 32), St c f H R T P i 78 ⊢ Q ⟨v957, 192#32⟩) :
    St c f H R T P i 75 ⊢ wpF c (k0_part31 i tM h2 hM h3 a4 h4 a5 h5 a6 h6 a7 h7 xM h8 a9 h9 cc0_scratch2 arg1 v9 v19 v923 c75_i32) Q := by
  rw [k0_part31_eq_skeleton]; unfold k0_part31_skel
  refine stT (r := 75) (by decide) (show k0_off347 i = _ from offT_eq i 75 (by decide)) ?_
  refine st_assume c (show k0_chk87 (tw c T i 75 (by decide)) from chk_of (tw_lt hR _)) ?_
  refine stE hR (r := 75) (by decide) (show k0_off349 i = _ from offD_eq i 75 (by decide)) rfl (show k0_off348 i = _ from offS_eq i) ?_
  refine stT (r := 76) (by decide) (show k0_off351 i = _ from offT_eq i 76 (by decide)) ?_
  refine st_assume c (show k0_chk88 (tw c T i 76 (by decide)) from chk_of (tw_lt hR _)) ?_
  refine stE hR (r := 76) (by decide) (show k0_off353 i = _ from offD_eq i 76 (by decide)) rfl (show k0_off352 i = _ from offS_eq i) ?_
  refine stT (r := 77) (by decide) (show k0_off355 i = _ from offT_eq i 77 (by decide)) ?_
  refine st_assume c (show k0_chk89 (tw c T i 77 (by decide)) from chk_of (tw_lt hR _)) ?_
  refine stE hR (r := 77) (by decide) (show k0_off357 i = _ from offD_eq i 77 (by decide)) rfl (show k0_off356 i = _ from offS_eq i) ?_
  exact stR (hQ _)

/-- Part 32 of the body: rows 78 to 80 issued. -/
theorem p32 {P : sProp 𝕄} (hR : Named c R T i) (arg1 : BitVec 32) (v9 : BitVec 32) (v19 : BitVec 32) (v957 : BitVec 32) (c192_i32_481 : BitVec 32) {Q : (PUnit) → sProp 𝕄}
    (hQ : St c f H R T P i 81 ⊢ Q ⟨⟩) :
    St c f H R T P i 78 ⊢ wpF c (k0_part32 i tM h2 hM h3 a4 h4 a5 h5 a6 h6 a7 h7 xM h8 a9 h9 cc0_scratch2 arg1 v9 v19 v957 c192_i32_481) Q := by
  rw [k0_part32_eq_skeleton]; unfold k0_part32_skel
  refine stT (r := 78) (by decide) (show k0_off359 i = _ from offT_eq i 78 (by decide)) ?_
  refine st_assume c (show k0_chk90 (tw c T i 78 (by decide)) from chk_of (tw_lt hR _)) ?_
  refine stE hR (r := 78) (by decide) (show k0_off361 i = _ from offD_eq i 78 (by decide)) rfl (show k0_off360 i = _ from offS_eq i) ?_
  refine stT (r := 79) (by decide) (show k0_off363 i = _ from offT_eq i 79 (by decide)) ?_
  refine st_assume c (show k0_chk91 (tw c T i 79 (by decide)) from chk_of (tw_lt hR _)) ?_
  refine stE hR (r := 79) (by decide) (show k0_off365 i = _ from offD_eq i 79 (by decide)) rfl (show k0_off364 i = _ from offS_eq i) ?_
  refine stT (r := 80) (by decide) (show k0_off367 i = _ from offT_eq i 80 (by decide)) ?_
  refine st_assume c (show k0_chk92 (tw c T i 80 (by decide)) from chk_of (tw_lt hR _)) ?_
  refine stE hR (r := 80) (by decide) (show k0_off369 i = _ from offD_eq i 80 (by decide)) rfl (show k0_off368 i = _ from offS_eq i) ?_
  exact stR (hQ)

/-- Part 33 of the body: rows 81 to 82 issued. -/
theorem p33 {P : sProp 𝕄} (hR : Named c R T i) (arg1 : BitVec 32) (v9 : BitVec 32) (v19 : BitVec 32) {Q : (Σ' (v1022 : Elt F .i32), k0_chk95 v1022) → sProp 𝕄}
    (hQ : ∀ (w : k0_chk95 (tw c T i 83 (by decide))), St c f H R T P i 83 ⊢ Q ⟨tw c T i 83 (by decide), w⟩) :
    St c f H R T P i 81 ⊢ wpF c (k0_part33 i tM h2 hM h3 a4 h4 a5 h5 a6 h6 a7 h7 xM h8 a9 h9 cc0_scratch2 arg1 v9 v19) Q := by
  rw [k0_part33_eq_skeleton]; unfold k0_part33_skel
  refine stT (r := 81) (by decide) (show k0_off371 i = _ from offT_eq i 81 (by decide)) ?_
  refine st_assume c (show k0_chk93 (tw c T i 81 (by decide)) from chk_of (tw_lt hR _)) ?_
  refine stE hR (r := 81) (by decide) (show k0_off373 i = _ from offD_eq i 81 (by decide)) rfl (show k0_off372 i = _ from offS_eq i) ?_
  refine stT (r := 82) (by decide) (show k0_off375 i = _ from offT_eq i 82 (by decide)) ?_
  refine st_assume c (show k0_chk94 (tw c T i 82 (by decide)) from chk_of (tw_lt hR _)) ?_
  refine stE hR (r := 82) (by decide) (show k0_off377 i = _ from offD_eq i 82 (by decide)) rfl (show k0_off376 i = _ from offS_eq i) ?_
  refine stT (r := 83) (by decide) (show k0_off379 i = _ from offT_eq i 83 (by decide)) ?_
  refine st_assume c (show k0_chk95 (tw c T i 83 (by decide)) from chk_of (tw_lt hR _)) ?_
  exact stR (hQ _)

/-- Part 34 of the body: rows 83 to 85 issued. -/
theorem p34 {P : sProp 𝕄} (hR : Named c R T i) (arg1 : BitVec 32) (v9 : BitVec 32) (v19 : BitVec 32) (k0_hw95 : k0_chk95 (tw c T i 83 (by decide))) {Q : (Σ' (v1058 : Elt F .i32), k0_chk98 v1058) → sProp 𝕄}
    (hQ : ∀ (w : k0_chk98 (tw c T i 86 (by decide))), St c f H R T P i 86 ⊢ Q ⟨tw c T i 86 (by decide), w⟩) :
    St c f H R T P i 83 ⊢ wpF c (k0_part34 i tM h2 hM h3 a4 h4 a5 h5 a6 h6 a7 h7 xM h8 a9 h9 cc0_scratch2 arg1 v9 v19 (tw c T i 83 (by decide)) k0_hw95) Q := by
  rw [k0_part34_eq_skeleton]; unfold k0_part34_skel
  refine stE hR (r := 83) (by decide) (show k0_off381 i = _ from offD_eq i 83 (by decide)) rfl (show k0_off380 i = _ from offS_eq i) ?_
  refine stT (r := 84) (by decide) (show k0_off383 i = _ from offT_eq i 84 (by decide)) ?_
  refine st_assume c (show k0_chk96 (tw c T i 84 (by decide)) from chk_of (tw_lt hR _)) ?_
  refine stE hR (r := 84) (by decide) (show k0_off385 i = _ from offD_eq i 84 (by decide)) rfl (show k0_off384 i = _ from offS_eq i) ?_
  refine stT (r := 85) (by decide) (show k0_off387 i = _ from offT_eq i 85 (by decide)) ?_
  refine st_assume c (show k0_chk97 (tw c T i 85 (by decide)) from chk_of (tw_lt hR _)) ?_
  refine stE hR (r := 85) (by decide) (show k0_off389 i = _ from offD_eq i 85 (by decide)) rfl (show k0_off388 i = _ from offS_eq i) ?_
  refine stT (r := 86) (by decide) (show k0_off391 i = _ from offT_eq i 86 (by decide)) ?_
  refine st_assume c (show k0_chk98 (tw c T i 86 (by decide)) from chk_of (tw_lt hR _)) ?_
  exact stR (hQ _)

/-- Part 35 of the body: rows 86 to 88 issued. -/
theorem p35 {P : sProp 𝕄} (hR : Named c R T i) (arg1 : BitVec 32) (v9 : BitVec 32) (v19 : BitVec 32) (k0_hw98 : k0_chk98 (tw c T i 86 (by decide))) {Q : (Σ' (v1094 : Elt F .i32), k0_chk101 v1094) → sProp 𝕄}
    (hQ : ∀ (w : k0_chk101 (tw c T i 89 (by decide))), St c f H R T P i 89 ⊢ Q ⟨tw c T i 89 (by decide), w⟩) :
    St c f H R T P i 86 ⊢ wpF c (k0_part35 i tM h2 hM h3 a4 h4 a5 h5 a6 h6 a7 h7 xM h8 a9 h9 cc0_scratch2 arg1 v9 v19 (tw c T i 86 (by decide)) k0_hw98) Q := by
  rw [k0_part35_eq_skeleton]; unfold k0_part35_skel
  refine stE hR (r := 86) (by decide) (show k0_off393 i = _ from offD_eq i 86 (by decide)) rfl (show k0_off392 i = _ from offS_eq i) ?_
  refine stT (r := 87) (by decide) (show k0_off395 i = _ from offT_eq i 87 (by decide)) ?_
  refine st_assume c (show k0_chk99 (tw c T i 87 (by decide)) from chk_of (tw_lt hR _)) ?_
  refine stE hR (r := 87) (by decide) (show k0_off397 i = _ from offD_eq i 87 (by decide)) rfl (show k0_off396 i = _ from offS_eq i) ?_
  refine stT (r := 88) (by decide) (show k0_off399 i = _ from offT_eq i 88 (by decide)) ?_
  refine st_assume c (show k0_chk100 (tw c T i 88 (by decide)) from chk_of (tw_lt hR _)) ?_
  refine stE hR (r := 88) (by decide) (show k0_off401 i = _ from offD_eq i 88 (by decide)) rfl (show k0_off400 i = _ from offS_eq i) ?_
  refine stT (r := 89) (by decide) (show k0_off403 i = _ from offT_eq i 89 (by decide)) ?_
  refine st_assume c (show k0_chk101 (tw c T i 89 (by decide)) from chk_of (tw_lt hR _)) ?_
  exact stR (hQ _)

/-- Part 36 of the body: rows 89 to 91 issued. -/
theorem p36 {P : sProp 𝕄} (hR : Named c R T i) (arg1 : BitVec 32) (v9 : BitVec 32) (v19 : BitVec 32) (k0_hw101 : k0_chk101 (tw c T i 89 (by decide))) {Q : (Elt F .i32) → sProp 𝕄}
    (hQ : St c f H R T P i 92 ⊢ Q (tw c T i 92 (by decide))) :
    St c f H R T P i 89 ⊢ wpF c (k0_part36 i tM h2 hM h3 a4 h4 a5 h5 a6 h6 a7 h7 xM h8 a9 h9 cc0_scratch2 arg1 v9 v19 (tw c T i 89 (by decide)) k0_hw101) Q := by
  rw [k0_part36_eq_skeleton]; unfold k0_part36_skel
  refine stE hR (r := 89) (by decide) (show k0_off405 i = _ from offD_eq i 89 (by decide)) rfl (show k0_off404 i = _ from offS_eq i) ?_
  refine stT (r := 90) (by decide) (show k0_off407 i = _ from offT_eq i 90 (by decide)) ?_
  refine st_assume c (show k0_chk102 (tw c T i 90 (by decide)) from chk_of (tw_lt hR _)) ?_
  refine stE hR (r := 90) (by decide) (show k0_off409 i = _ from offD_eq i 90 (by decide)) rfl (show k0_off408 i = _ from offS_eq i) ?_
  refine stT (r := 91) (by decide) (show k0_off411 i = _ from offT_eq i 91 (by decide)) ?_
  refine st_assume c (show k0_chk103 (tw c T i 91 (by decide)) from chk_of (tw_lt hR _)) ?_
  refine stE hR (r := 91) (by decide) (show k0_off413 i = _ from offD_eq i 91 (by decide)) rfl (show k0_off412 i = _ from offS_eq i) ?_
  exact stTl (r := 92) (by decide) (show k0_off415 i = _ from offT_eq i 92 (by decide)) hQ

/-- Part 37 of the body: rows 92 to 94 issued. -/
theorem p37 {P : sProp 𝕄} (hR : Named c R T i) (arg1 : BitVec 32) (v9 : BitVec 32) (v19 : BitVec 32) {Q : (Σ' (v1163 : BitVec 32), BitVec 32) → sProp 𝕄}
    (hQ : ∀ (v1163 : BitVec 32), St c f H R T P i 95 ⊢ Q ⟨v1163, 95#32⟩) :
    St c f H R T P i 92 ⊢ wpF c (k0_part37 i tM h2 hM h3 a4 h4 a5 h5 a6 h6 a7 h7 xM h8 a9 h9 cc0_scratch2 arg1 v9 v19 (tw c T i 92 (by decide))) Q := by
  rw [k0_part37_eq_skeleton]; unfold k0_part37_skel
  refine st_assume c (show k0_chk104 (tw c T i 92 (by decide)) from chk_of (tw_lt hR _)) ?_
  refine stE hR (r := 92) (by decide) (show k0_off417 i = _ from offD_eq i 92 (by decide)) rfl (show k0_off416 i = _ from offS_eq i) ?_
  refine stT (r := 93) (by decide) (show k0_off419 i = _ from offT_eq i 93 (by decide)) ?_
  refine st_assume c (show k0_chk105 (tw c T i 93 (by decide)) from chk_of (tw_lt hR _)) ?_
  refine stE hR (r := 93) (by decide) (show k0_off421 i = _ from offD_eq i 93 (by decide)) rfl (show k0_off420 i = _ from offS_eq i) ?_
  refine stT (r := 94) (by decide) (show k0_off423 i = _ from offT_eq i 94 (by decide)) ?_
  refine st_assume c (show k0_chk106 (tw c T i 94 (by decide)) from chk_of (tw_lt hR _)) ?_
  refine stE hR (r := 94) (by decide) (show k0_off425 i = _ from offD_eq i 94 (by decide)) rfl (show k0_off424 i = _ from offS_eq i) ?_
  exact stR (hQ _)

/-- Part 38 of the body: rows 95 to 97 issued. -/
theorem p38 {P : sProp 𝕄} (hR : Named c R T i) (arg1 : BitVec 32) (v9 : BitVec 32) (v19 : BitVec 32) (v1163 : BitVec 32) (c95_i32 : BitVec 32) {Q : (Σ' (v1197 : BitVec 32), BitVec 32) → sProp 𝕄}
    (hQ : ∀ (v1197 : BitVec 32), St c f H R T P i 98 ⊢ Q ⟨v1197, 192#32⟩) :
    St c f H R T P i 95 ⊢ wpF c (k0_part38 i tM h2 hM h3 a4 h4 a5 h5 a6 h6 a7 h7 xM h8 a9 h9 cc0_scratch2 arg1 v9 v19 v1163 c95_i32) Q := by
  rw [k0_part38_eq_skeleton]; unfold k0_part38_skel
  refine stT (r := 95) (by decide) (show k0_off427 i = _ from offT_eq i 95 (by decide)) ?_
  refine st_assume c (show k0_chk107 (tw c T i 95 (by decide)) from chk_of (tw_lt hR _)) ?_
  refine stE hR (r := 95) (by decide) (show k0_off429 i = _ from offD_eq i 95 (by decide)) rfl (show k0_off428 i = _ from offS_eq i) ?_
  refine stT (r := 96) (by decide) (show k0_off431 i = _ from offT_eq i 96 (by decide)) ?_
  refine st_assume c (show k0_chk108 (tw c T i 96 (by decide)) from chk_of (tw_lt hR _)) ?_
  refine stE hR (r := 96) (by decide) (show k0_off433 i = _ from offD_eq i 96 (by decide)) rfl (show k0_off432 i = _ from offS_eq i) ?_
  refine stT (r := 97) (by decide) (show k0_off435 i = _ from offT_eq i 97 (by decide)) ?_
  refine st_assume c (show k0_chk109 (tw c T i 97 (by decide)) from chk_of (tw_lt hR _)) ?_
  refine stE hR (r := 97) (by decide) (show k0_off437 i = _ from offD_eq i 97 (by decide)) rfl (show k0_off436 i = _ from offS_eq i) ?_
  exact stR (hQ _)

/-- Part 39 of the body: rows 98 to 100 issued. -/
theorem p39 {P : sProp 𝕄} (hR : Named c R T i) (arg1 : BitVec 32) (v9 : BitVec 32) (v19 : BitVec 32) (v1197 : BitVec 32) (c192_i32_601 : BitVec 32) {Q : (PUnit) → sProp 𝕄}
    (hQ : St c f H R T P i 101 ⊢ Q ⟨⟩) :
    St c f H R T P i 98 ⊢ wpF c (k0_part39 i tM h2 hM h3 a4 h4 a5 h5 a6 h6 a7 h7 xM h8 a9 h9 cc0_scratch2 arg1 v9 v19 v1197 c192_i32_601) Q := by
  rw [k0_part39_eq_skeleton]; unfold k0_part39_skel
  refine stT (r := 98) (by decide) (show k0_off439 i = _ from offT_eq i 98 (by decide)) ?_
  refine st_assume c (show k0_chk110 (tw c T i 98 (by decide)) from chk_of (tw_lt hR _)) ?_
  refine stE hR (r := 98) (by decide) (show k0_off441 i = _ from offD_eq i 98 (by decide)) rfl (show k0_off440 i = _ from offS_eq i) ?_
  refine stT (r := 99) (by decide) (show k0_off443 i = _ from offT_eq i 99 (by decide)) ?_
  refine st_assume c (show k0_chk111 (tw c T i 99 (by decide)) from chk_of (tw_lt hR _)) ?_
  refine stE hR (r := 99) (by decide) (show k0_off445 i = _ from offD_eq i 99 (by decide)) rfl (show k0_off444 i = _ from offS_eq i) ?_
  refine stT (r := 100) (by decide) (show k0_off447 i = _ from offT_eq i 100 (by decide)) ?_
  refine st_assume c (show k0_chk112 (tw c T i 100 (by decide)) from chk_of (tw_lt hR _)) ?_
  refine stE hR (r := 100) (by decide) (show k0_off449 i = _ from offD_eq i 100 (by decide)) rfl (show k0_off448 i = _ from offS_eq i) ?_
  exact stR (hQ)

/-- Part 40 of the body: rows 101 to 102 issued. -/
theorem p40 {P : sProp 𝕄} (hR : Named c R T i) (arg1 : BitVec 32) (v9 : BitVec 32) (v19 : BitVec 32) {Q : (Σ' (v1262 : Elt F .i32), k0_chk115 v1262) → sProp 𝕄}
    (hQ : ∀ (w : k0_chk115 (tw c T i 103 (by decide))), St c f H R T P i 103 ⊢ Q ⟨tw c T i 103 (by decide), w⟩) :
    St c f H R T P i 101 ⊢ wpF c (k0_part40 i tM h2 hM h3 a4 h4 a5 h5 a6 h6 a7 h7 xM h8 a9 h9 cc0_scratch2 arg1 v9 v19) Q := by
  rw [k0_part40_eq_skeleton]; unfold k0_part40_skel
  refine stT (r := 101) (by decide) (show k0_off451 i = _ from offT_eq i 101 (by decide)) ?_
  refine st_assume c (show k0_chk113 (tw c T i 101 (by decide)) from chk_of (tw_lt hR _)) ?_
  refine stE hR (r := 101) (by decide) (show k0_off453 i = _ from offD_eq i 101 (by decide)) rfl (show k0_off452 i = _ from offS_eq i) ?_
  refine stT (r := 102) (by decide) (show k0_off455 i = _ from offT_eq i 102 (by decide)) ?_
  refine st_assume c (show k0_chk114 (tw c T i 102 (by decide)) from chk_of (tw_lt hR _)) ?_
  refine stE hR (r := 102) (by decide) (show k0_off457 i = _ from offD_eq i 102 (by decide)) rfl (show k0_off456 i = _ from offS_eq i) ?_
  refine stT (r := 103) (by decide) (show k0_off459 i = _ from offT_eq i 103 (by decide)) ?_
  refine st_assume c (show k0_chk115 (tw c T i 103 (by decide)) from chk_of (tw_lt hR _)) ?_
  exact stR (hQ _)

/-- Part 41 of the body: rows 103 to 105 issued. -/
theorem p41 {P : sProp 𝕄} (hR : Named c R T i) (arg1 : BitVec 32) (v9 : BitVec 32) (v19 : BitVec 32) (k0_hw115 : k0_chk115 (tw c T i 103 (by decide))) {Q : (Σ' (v1298 : Elt F .i32), k0_chk118 v1298) → sProp 𝕄}
    (hQ : ∀ (w : k0_chk118 (tw c T i 106 (by decide))), St c f H R T P i 106 ⊢ Q ⟨tw c T i 106 (by decide), w⟩) :
    St c f H R T P i 103 ⊢ wpF c (k0_part41 i tM h2 hM h3 a4 h4 a5 h5 a6 h6 a7 h7 xM h8 a9 h9 cc0_scratch2 arg1 v9 v19 (tw c T i 103 (by decide)) k0_hw115) Q := by
  rw [k0_part41_eq_skeleton]; unfold k0_part41_skel
  refine stE hR (r := 103) (by decide) (show k0_off461 i = _ from offD_eq i 103 (by decide)) rfl (show k0_off460 i = _ from offS_eq i) ?_
  refine stT (r := 104) (by decide) (show k0_off463 i = _ from offT_eq i 104 (by decide)) ?_
  refine st_assume c (show k0_chk116 (tw c T i 104 (by decide)) from chk_of (tw_lt hR _)) ?_
  refine stE hR (r := 104) (by decide) (show k0_off465 i = _ from offD_eq i 104 (by decide)) rfl (show k0_off464 i = _ from offS_eq i) ?_
  refine stT (r := 105) (by decide) (show k0_off467 i = _ from offT_eq i 105 (by decide)) ?_
  refine st_assume c (show k0_chk117 (tw c T i 105 (by decide)) from chk_of (tw_lt hR _)) ?_
  refine stE hR (r := 105) (by decide) (show k0_off469 i = _ from offD_eq i 105 (by decide)) rfl (show k0_off468 i = _ from offS_eq i) ?_
  refine stT (r := 106) (by decide) (show k0_off471 i = _ from offT_eq i 106 (by decide)) ?_
  refine st_assume c (show k0_chk118 (tw c T i 106 (by decide)) from chk_of (tw_lt hR _)) ?_
  exact stR (hQ _)

/-- Part 42 of the body: rows 106 to 108 issued. -/
theorem p42 {P : sProp 𝕄} (hR : Named c R T i) (arg1 : BitVec 32) (v9 : BitVec 32) (v19 : BitVec 32) (k0_hw118 : k0_chk118 (tw c T i 106 (by decide))) {Q : (Σ' (v1334 : Elt F .i32), k0_chk121 v1334) → sProp 𝕄}
    (hQ : ∀ (w : k0_chk121 (tw c T i 109 (by decide))), St c f H R T P i 109 ⊢ Q ⟨tw c T i 109 (by decide), w⟩) :
    St c f H R T P i 106 ⊢ wpF c (k0_part42 i tM h2 hM h3 a4 h4 a5 h5 a6 h6 a7 h7 xM h8 a9 h9 cc0_scratch2 arg1 v9 v19 (tw c T i 106 (by decide)) k0_hw118) Q := by
  rw [k0_part42_eq_skeleton]; unfold k0_part42_skel
  refine stE hR (r := 106) (by decide) (show k0_off473 i = _ from offD_eq i 106 (by decide)) rfl (show k0_off472 i = _ from offS_eq i) ?_
  refine stT (r := 107) (by decide) (show k0_off475 i = _ from offT_eq i 107 (by decide)) ?_
  refine st_assume c (show k0_chk119 (tw c T i 107 (by decide)) from chk_of (tw_lt hR _)) ?_
  refine stE hR (r := 107) (by decide) (show k0_off477 i = _ from offD_eq i 107 (by decide)) rfl (show k0_off476 i = _ from offS_eq i) ?_
  refine stT (r := 108) (by decide) (show k0_off479 i = _ from offT_eq i 108 (by decide)) ?_
  refine st_assume c (show k0_chk120 (tw c T i 108 (by decide)) from chk_of (tw_lt hR _)) ?_
  refine stE hR (r := 108) (by decide) (show k0_off481 i = _ from offD_eq i 108 (by decide)) rfl (show k0_off480 i = _ from offS_eq i) ?_
  refine stT (r := 109) (by decide) (show k0_off483 i = _ from offT_eq i 109 (by decide)) ?_
  refine st_assume c (show k0_chk121 (tw c T i 109 (by decide)) from chk_of (tw_lt hR _)) ?_
  exact stR (hQ _)

/-- Part 43 of the body: rows 109 to 111 issued. -/
theorem p43 {P : sProp 𝕄} (hR : Named c R T i) (arg1 : BitVec 32) (v9 : BitVec 32) (v19 : BitVec 32) (k0_hw121 : k0_chk121 (tw c T i 109 (by decide))) {Q : (Elt F .i32) → sProp 𝕄}
    (hQ : St c f H R T P i 112 ⊢ Q (tw c T i 112 (by decide))) :
    St c f H R T P i 109 ⊢ wpF c (k0_part43 i tM h2 hM h3 a4 h4 a5 h5 a6 h6 a7 h7 xM h8 a9 h9 cc0_scratch2 arg1 v9 v19 (tw c T i 109 (by decide)) k0_hw121) Q := by
  rw [k0_part43_eq_skeleton]; unfold k0_part43_skel
  refine stE hR (r := 109) (by decide) (show k0_off485 i = _ from offD_eq i 109 (by decide)) rfl (show k0_off484 i = _ from offS_eq i) ?_
  refine stT (r := 110) (by decide) (show k0_off487 i = _ from offT_eq i 110 (by decide)) ?_
  refine st_assume c (show k0_chk122 (tw c T i 110 (by decide)) from chk_of (tw_lt hR _)) ?_
  refine stE hR (r := 110) (by decide) (show k0_off489 i = _ from offD_eq i 110 (by decide)) rfl (show k0_off488 i = _ from offS_eq i) ?_
  refine stT (r := 111) (by decide) (show k0_off491 i = _ from offT_eq i 111 (by decide)) ?_
  refine st_assume c (show k0_chk123 (tw c T i 111 (by decide)) from chk_of (tw_lt hR _)) ?_
  refine stE hR (r := 111) (by decide) (show k0_off493 i = _ from offD_eq i 111 (by decide)) rfl (show k0_off492 i = _ from offS_eq i) ?_
  exact stTl (r := 112) (by decide) (show k0_off495 i = _ from offT_eq i 112 (by decide)) hQ

/-- Part 44 of the body: rows 112 to 114 issued. -/
theorem p44 {P : sProp 𝕄} (hR : Named c R T i) (arg1 : BitVec 32) (v9 : BitVec 32) (v19 : BitVec 32) {Q : (Σ' (v1403 : BitVec 32), BitVec 32) → sProp 𝕄}
    (hQ : ∀ (v1403 : BitVec 32), St c f H R T P i 115 ⊢ Q ⟨v1403, 115#32⟩) :
    St c f H R T P i 112 ⊢ wpF c (k0_part44 i tM h2 hM h3 a4 h4 a5 h5 a6 h6 a7 h7 xM h8 a9 h9 cc0_scratch2 arg1 v9 v19 (tw c T i 112 (by decide))) Q := by
  rw [k0_part44_eq_skeleton]; unfold k0_part44_skel
  refine st_assume c (show k0_chk124 (tw c T i 112 (by decide)) from chk_of (tw_lt hR _)) ?_
  refine stE hR (r := 112) (by decide) (show k0_off497 i = _ from offD_eq i 112 (by decide)) rfl (show k0_off496 i = _ from offS_eq i) ?_
  refine stT (r := 113) (by decide) (show k0_off499 i = _ from offT_eq i 113 (by decide)) ?_
  refine st_assume c (show k0_chk125 (tw c T i 113 (by decide)) from chk_of (tw_lt hR _)) ?_
  refine stE hR (r := 113) (by decide) (show k0_off501 i = _ from offD_eq i 113 (by decide)) rfl (show k0_off500 i = _ from offS_eq i) ?_
  refine stT (r := 114) (by decide) (show k0_off503 i = _ from offT_eq i 114 (by decide)) ?_
  refine st_assume c (show k0_chk126 (tw c T i 114 (by decide)) from chk_of (tw_lt hR _)) ?_
  refine stE hR (r := 114) (by decide) (show k0_off505 i = _ from offD_eq i 114 (by decide)) rfl (show k0_off504 i = _ from offS_eq i) ?_
  exact stR (hQ _)

/-- Part 45 of the body: rows 115 to 117 issued. -/
theorem p45 {P : sProp 𝕄} (hR : Named c R T i) (arg1 : BitVec 32) (v9 : BitVec 32) (v19 : BitVec 32) (v1403 : BitVec 32) (c115_i32 : BitVec 32) {Q : (Σ' (v1437 : BitVec 32), BitVec 32) → sProp 𝕄}
    (hQ : ∀ (v1437 : BitVec 32), St c f H R T P i 118 ⊢ Q ⟨v1437, 192#32⟩) :
    St c f H R T P i 115 ⊢ wpF c (k0_part45 i tM h2 hM h3 a4 h4 a5 h5 a6 h6 a7 h7 xM h8 a9 h9 cc0_scratch2 arg1 v9 v19 v1403 c115_i32) Q := by
  rw [k0_part45_eq_skeleton]; unfold k0_part45_skel
  refine stT (r := 115) (by decide) (show k0_off507 i = _ from offT_eq i 115 (by decide)) ?_
  refine st_assume c (show k0_chk127 (tw c T i 115 (by decide)) from chk_of (tw_lt hR _)) ?_
  refine stE hR (r := 115) (by decide) (show k0_off509 i = _ from offD_eq i 115 (by decide)) rfl (show k0_off508 i = _ from offS_eq i) ?_
  refine stT (r := 116) (by decide) (show k0_off511 i = _ from offT_eq i 116 (by decide)) ?_
  refine st_assume c (show k0_chk128 (tw c T i 116 (by decide)) from chk_of (tw_lt hR _)) ?_
  refine stE hR (r := 116) (by decide) (show k0_off513 i = _ from offD_eq i 116 (by decide)) rfl (show k0_off512 i = _ from offS_eq i) ?_
  refine stT (r := 117) (by decide) (show k0_off515 i = _ from offT_eq i 117 (by decide)) ?_
  refine st_assume c (show k0_chk129 (tw c T i 117 (by decide)) from chk_of (tw_lt hR _)) ?_
  refine stE hR (r := 117) (by decide) (show k0_off517 i = _ from offD_eq i 117 (by decide)) rfl (show k0_off516 i = _ from offS_eq i) ?_
  exact stR (hQ _)

/-- Part 46 of the body: rows 118 to 120 issued. -/
theorem p46 {P : sProp 𝕄} (hR : Named c R T i) (arg1 : BitVec 32) (v9 : BitVec 32) (v19 : BitVec 32) (v1437 : BitVec 32) (c192_i32_721 : BitVec 32) {Q : (PUnit) → sProp 𝕄}
    (hQ : St c f H R T P i 121 ⊢ Q ⟨⟩) :
    St c f H R T P i 118 ⊢ wpF c (k0_part46 i tM h2 hM h3 a4 h4 a5 h5 a6 h6 a7 h7 xM h8 a9 h9 cc0_scratch2 arg1 v9 v19 v1437 c192_i32_721) Q := by
  rw [k0_part46_eq_skeleton]; unfold k0_part46_skel
  refine stT (r := 118) (by decide) (show k0_off519 i = _ from offT_eq i 118 (by decide)) ?_
  refine st_assume c (show k0_chk130 (tw c T i 118 (by decide)) from chk_of (tw_lt hR _)) ?_
  refine stE hR (r := 118) (by decide) (show k0_off521 i = _ from offD_eq i 118 (by decide)) rfl (show k0_off520 i = _ from offS_eq i) ?_
  refine stT (r := 119) (by decide) (show k0_off523 i = _ from offT_eq i 119 (by decide)) ?_
  refine st_assume c (show k0_chk131 (tw c T i 119 (by decide)) from chk_of (tw_lt hR _)) ?_
  refine stE hR (r := 119) (by decide) (show k0_off525 i = _ from offD_eq i 119 (by decide)) rfl (show k0_off524 i = _ from offS_eq i) ?_
  refine stT (r := 120) (by decide) (show k0_off527 i = _ from offT_eq i 120 (by decide)) ?_
  refine st_assume c (show k0_chk132 (tw c T i 120 (by decide)) from chk_of (tw_lt hR _)) ?_
  refine stE hR (r := 120) (by decide) (show k0_off529 i = _ from offD_eq i 120 (by decide)) rfl (show k0_off528 i = _ from offS_eq i) ?_
  exact stR (hQ)

/-- Part 47 of the body: rows 121 to 122 issued. -/
theorem p47 {P : sProp 𝕄} (hR : Named c R T i) (arg1 : BitVec 32) (v9 : BitVec 32) (v19 : BitVec 32) {Q : (Σ' (v1502 : Elt F .i32), k0_chk135 v1502) → sProp 𝕄}
    (hQ : ∀ (w : k0_chk135 (tw c T i 123 (by decide))), St c f H R T P i 123 ⊢ Q ⟨tw c T i 123 (by decide), w⟩) :
    St c f H R T P i 121 ⊢ wpF c (k0_part47 i tM h2 hM h3 a4 h4 a5 h5 a6 h6 a7 h7 xM h8 a9 h9 cc0_scratch2 arg1 v9 v19) Q := by
  rw [k0_part47_eq_skeleton]; unfold k0_part47_skel
  refine stT (r := 121) (by decide) (show k0_off531 i = _ from offT_eq i 121 (by decide)) ?_
  refine st_assume c (show k0_chk133 (tw c T i 121 (by decide)) from chk_of (tw_lt hR _)) ?_
  refine stE hR (r := 121) (by decide) (show k0_off533 i = _ from offD_eq i 121 (by decide)) rfl (show k0_off532 i = _ from offS_eq i) ?_
  refine stT (r := 122) (by decide) (show k0_off535 i = _ from offT_eq i 122 (by decide)) ?_
  refine st_assume c (show k0_chk134 (tw c T i 122 (by decide)) from chk_of (tw_lt hR _)) ?_
  refine stE hR (r := 122) (by decide) (show k0_off537 i = _ from offD_eq i 122 (by decide)) rfl (show k0_off536 i = _ from offS_eq i) ?_
  refine stT (r := 123) (by decide) (show k0_off539 i = _ from offT_eq i 123 (by decide)) ?_
  refine st_assume c (show k0_chk135 (tw c T i 123 (by decide)) from chk_of (tw_lt hR _)) ?_
  exact stR (hQ _)

/-- Part 48 of the body: rows 123 to 125 issued. -/
theorem p48 {P : sProp 𝕄} (hR : Named c R T i) (arg1 : BitVec 32) (v9 : BitVec 32) (v19 : BitVec 32) (k0_hw135 : k0_chk135 (tw c T i 123 (by decide))) {Q : (Σ' (v1538 : Elt F .i32), k0_chk138 v1538) → sProp 𝕄}
    (hQ : ∀ (w : k0_chk138 (tw c T i 126 (by decide))), St c f H R T P i 126 ⊢ Q ⟨tw c T i 126 (by decide), w⟩) :
    St c f H R T P i 123 ⊢ wpF c (k0_part48 i tM h2 hM h3 a4 h4 a5 h5 a6 h6 a7 h7 xM h8 a9 h9 cc0_scratch2 arg1 v9 v19 (tw c T i 123 (by decide)) k0_hw135) Q := by
  rw [k0_part48_eq_skeleton]; unfold k0_part48_skel
  refine stE hR (r := 123) (by decide) (show k0_off541 i = _ from offD_eq i 123 (by decide)) rfl (show k0_off540 i = _ from offS_eq i) ?_
  refine stT (r := 124) (by decide) (show k0_off543 i = _ from offT_eq i 124 (by decide)) ?_
  refine st_assume c (show k0_chk136 (tw c T i 124 (by decide)) from chk_of (tw_lt hR _)) ?_
  refine stE hR (r := 124) (by decide) (show k0_off545 i = _ from offD_eq i 124 (by decide)) rfl (show k0_off544 i = _ from offS_eq i) ?_
  refine stT (r := 125) (by decide) (show k0_off547 i = _ from offT_eq i 125 (by decide)) ?_
  refine st_assume c (show k0_chk137 (tw c T i 125 (by decide)) from chk_of (tw_lt hR _)) ?_
  refine stE hR (r := 125) (by decide) (show k0_off549 i = _ from offD_eq i 125 (by decide)) rfl (show k0_off548 i = _ from offS_eq i) ?_
  refine stT (r := 126) (by decide) (show k0_off551 i = _ from offT_eq i 126 (by decide)) ?_
  refine st_assume c (show k0_chk138 (tw c T i 126 (by decide)) from chk_of (tw_lt hR _)) ?_
  exact stR (hQ _)

/-- Part 49 of the body: rows 126 to 128 issued. -/
theorem p49 {P : sProp 𝕄} (hR : Named c R T i) (arg1 : BitVec 32) (v9 : BitVec 32) (v19 : BitVec 32) (k0_hw138 : k0_chk138 (tw c T i 126 (by decide))) {Q : (Σ' (v1574 : Elt F .i32), k0_chk141 v1574) → sProp 𝕄}
    (hQ : ∀ (w : k0_chk141 (tw c T i 129 (by decide))), St c f H R T P i 129 ⊢ Q ⟨tw c T i 129 (by decide), w⟩) :
    St c f H R T P i 126 ⊢ wpF c (k0_part49 i tM h2 hM h3 a4 h4 a5 h5 a6 h6 a7 h7 xM h8 a9 h9 cc0_scratch2 arg1 v9 v19 (tw c T i 126 (by decide)) k0_hw138) Q := by
  rw [k0_part49_eq_skeleton]; unfold k0_part49_skel
  refine stE hR (r := 126) (by decide) (show k0_off553 i = _ from offD_eq i 126 (by decide)) rfl (show k0_off552 i = _ from offS_eq i) ?_
  refine stT (r := 127) (by decide) (show k0_off555 i = _ from offT_eq i 127 (by decide)) ?_
  refine st_assume c (show k0_chk139 (tw c T i 127 (by decide)) from chk_of (tw_lt hR _)) ?_
  refine stE hR (r := 127) (by decide) (show k0_off557 i = _ from offD_eq i 127 (by decide)) rfl (show k0_off556 i = _ from offS_eq i) ?_
  refine stT (r := 128) (by decide) (show k0_off559 i = _ from offT_eq i 128 (by decide)) ?_
  refine st_assume c (show k0_chk140 (tw c T i 128 (by decide)) from chk_of (tw_lt hR _)) ?_
  refine stE hR (r := 128) (by decide) (show k0_off561 i = _ from offD_eq i 128 (by decide)) rfl (show k0_off560 i = _ from offS_eq i) ?_
  refine stT (r := 129) (by decide) (show k0_off563 i = _ from offT_eq i 129 (by decide)) ?_
  refine st_assume c (show k0_chk141 (tw c T i 129 (by decide)) from chk_of (tw_lt hR _)) ?_
  exact stR (hQ _)

end Cert.Kernel.Ffn
end
-- ==== Proof.K.PartsC.lean ====
module

public import proofs.«01_k».proof.Proof.K.Offs

@[expose] public section

set_option maxRecDepth 16384

noncomputable section

namespace Cert.Kernel.Ffn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {c : Dev nD} {f : Buf (Elt F) (xM.view.loc (c.tc : Thread nD τ))} {H : Buf (Elt F) (hM.view.loc (c.tc : Thread nD τ))}
  {R : Fin 2112 → Fin 16384} {T : Buf (Elt F) (tM.view.loc (c.tc : Thread nD τ))}

local notation "𝕄" => MT nD τ sig Unit (Elt F) ℕ (Pipeline.UD sig nD τ) ℕ

variable {i : grid0.Coords} {h2 : tM.IsWhole} {h3 : hM.IsWhole}
  {a4 : Memref sig .tc .vmem S1x1024x256 .f32} {h4 : a4.IsWhole} {a5 : Memref sig .tc .vmem S1x1024x256 .f32} {h5 : a5.IsWhole}
  {a6 : Memref sig .tc .vmem S1x256x1024 .f32} {h6 : a6.IsWhole} {a7 : Memref sig .tc .vmem S2x1x1024x1024 .f32} {h7 : a7.IsWhole}
  {h8 : xM.IsWhole} {a9 : Memref sig .tc .vmem S2048x1024 .bf16} {h9 : a9.IsWhole}

/-- Part 50 of the body: rows 129 to 131 issued. -/
theorem p50 {P : sProp 𝕄} (hR : Named c R T i) (arg1 : BitVec 32) (v9 : BitVec 32) (v19 : BitVec 32) (k0_hw141 : k0_chk141 (tw c T i 129 (by decide))) {Q : (Elt F .i32) → sProp 𝕄}
    (hQ : St c f H R T P i 132 ⊢ Q (tw c T i 132 (by decide))) :
    St c f H R T P i 129 ⊢ wpF c (k0_part50 i tM h2 hM h3 a4 h4 a5 h5 a6 h6 a7 h7 xM h8 a9 h9 cc0_scratch2 arg1 v9 v19 (tw c T i 129 (by decide)) k0_hw141) Q := by
  rw [k0_part50_eq_skeleton]; unfold k0_part50_skel
  refine stE hR (r := 129) (by decide) (show k0_off565 i = _ from offD_eq i 129 (by decide)) rfl (show k0_off564 i = _ from offS_eq i) ?_
  refine stT (r := 130) (by decide) (show k0_off567 i = _ from offT_eq i 130 (by decide)) ?_
  refine st_assume c (show k0_chk142 (tw c T i 130 (by decide)) from chk_of (tw_lt hR _)) ?_
  refine stE hR (r := 130) (by decide) (show k0_off569 i = _ from offD_eq i 130 (by decide)) rfl (show k0_off568 i = _ from offS_eq i) ?_
  refine stT (r := 131) (by decide) (show k0_off571 i = _ from offT_eq i 131 (by decide)) ?_
  refine st_assume c (show k0_chk143 (tw c T i 131 (by decide)) from chk_of (tw_lt hR _)) ?_
  refine stE hR (r := 131) (by decide) (show k0_off573 i = _ from offD_eq i 131 (by decide)) rfl (show k0_off572 i = _ from offS_eq i) ?_
  exact stTl (r := 132) (by decide) (show k0_off575 i = _ from offT_eq i 132 (by decide)) hQ

/-- Part 51 of the body: rows 132 to 134 issued. -/
theorem p51 {P : sProp 𝕄} (hR : Named c R T i) (arg1 : BitVec 32) (v9 : BitVec 32) (v19 : BitVec 32) {Q : (Σ' (v1643 : BitVec 32), BitVec 32) → sProp 𝕄}
    (hQ : ∀ (v1643 : BitVec 32), St c f H R T P i 135 ⊢ Q ⟨v1643, 135#32⟩) :
    St c f H R T P i 132 ⊢ wpF c (k0_part51 i tM h2 hM h3 a4 h4 a5 h5 a6 h6 a7 h7 xM h8 a9 h9 cc0_scratch2 arg1 v9 v19 (tw c T i 132 (by decide))) Q := by
  rw [k0_part51_eq_skeleton]; unfold k0_part51_skel
  refine st_assume c (show k0_chk144 (tw c T i 132 (by decide)) from chk_of (tw_lt hR _)) ?_
  refine stE hR (r := 132) (by decide) (show k0_off577 i = _ from offD_eq i 132 (by decide)) rfl (show k0_off576 i = _ from offS_eq i) ?_
  refine stT (r := 133) (by decide) (show k0_off579 i = _ from offT_eq i 133 (by decide)) ?_
  refine st_assume c (show k0_chk145 (tw c T i 133 (by decide)) from chk_of (tw_lt hR _)) ?_
  refine stE hR (r := 133) (by decide) (show k0_off581 i = _ from offD_eq i 133 (by decide)) rfl (show k0_off580 i = _ from offS_eq i) ?_
  refine stT (r := 134) (by decide) (show k0_off583 i = _ from offT_eq i 134 (by decide)) ?_
  refine st_assume c (show k0_chk146 (tw c T i 134 (by decide)) from chk_of (tw_lt hR _)) ?_
  refine stE hR (r := 134) (by decide) (show k0_off585 i = _ from offD_eq i 134 (by decide)) rfl (show k0_off584 i = _ from offS_eq i) ?_
  exact stR (hQ _)

/-- Part 52 of the body: rows 135 to 137 issued. -/
theorem p52 {P : sProp 𝕄} (hR : Named c R T i) (arg1 : BitVec 32) (v9 : BitVec 32) (v19 : BitVec 32) (v1643 : BitVec 32) (c135_i32 : BitVec 32) {Q : (Σ' (v1677 : BitVec 32), BitVec 32) → sProp 𝕄}
    (hQ : ∀ (v1677 : BitVec 32), St c f H R T P i 138 ⊢ Q ⟨v1677, 192#32⟩) :
    St c f H R T P i 135 ⊢ wpF c (k0_part52 i tM h2 hM h3 a4 h4 a5 h5 a6 h6 a7 h7 xM h8 a9 h9 cc0_scratch2 arg1 v9 v19 v1643 c135_i32) Q := by
  rw [k0_part52_eq_skeleton]; unfold k0_part52_skel
  refine stT (r := 135) (by decide) (show k0_off587 i = _ from offT_eq i 135 (by decide)) ?_
  refine st_assume c (show k0_chk147 (tw c T i 135 (by decide)) from chk_of (tw_lt hR _)) ?_
  refine stE hR (r := 135) (by decide) (show k0_off589 i = _ from offD_eq i 135 (by decide)) rfl (show k0_off588 i = _ from offS_eq i) ?_
  refine stT (r := 136) (by decide) (show k0_off591 i = _ from offT_eq i 136 (by decide)) ?_
  refine st_assume c (show k0_chk148 (tw c T i 136 (by decide)) from chk_of (tw_lt hR _)) ?_
  refine stE hR (r := 136) (by decide) (show k0_off593 i = _ from offD_eq i 136 (by decide)) rfl (show k0_off592 i = _ from offS_eq i) ?_
  refine stT (r := 137) (by decide) (show k0_off595 i = _ from offT_eq i 137 (by decide)) ?_
  refine st_assume c (show k0_chk149 (tw c T i 137 (by decide)) from chk_of (tw_lt hR _)) ?_
  refine stE hR (r := 137) (by decide) (show k0_off597 i = _ from offD_eq i 137 (by decide)) rfl (show k0_off596 i = _ from offS_eq i) ?_
  exact stR (hQ _)

/-- Part 53 of the body: rows 138 to 140 issued. -/
theorem p53 {P : sProp 𝕄} (hR : Named c R T i) (arg1 : BitVec 32) (v9 : BitVec 32) (v19 : BitVec 32) (v1677 : BitVec 32) (c192_i32_841 : BitVec 32) {Q : (PUnit) → sProp 𝕄}
    (hQ : St c f H R T P i 141 ⊢ Q ⟨⟩) :
    St c f H R T P i 138 ⊢ wpF c (k0_part53 i tM h2 hM h3 a4 h4 a5 h5 a6 h6 a7 h7 xM h8 a9 h9 cc0_scratch2 arg1 v9 v19 v1677 c192_i32_841) Q := by
  rw [k0_part53_eq_skeleton]; unfold k0_part53_skel
  refine stT (r := 138) (by decide) (show k0_off599 i = _ from offT_eq i 138 (by decide)) ?_
  refine st_assume c (show k0_chk150 (tw c T i 138 (by decide)) from chk_of (tw_lt hR _)) ?_
  refine stE hR (r := 138) (by decide) (show k0_off601 i = _ from offD_eq i 138 (by decide)) rfl (show k0_off600 i = _ from offS_eq i) ?_
  refine stT (r := 139) (by decide) (show k0_off603 i = _ from offT_eq i 139 (by decide)) ?_
  refine st_assume c (show k0_chk151 (tw c T i 139 (by decide)) from chk_of (tw_lt hR _)) ?_
  refine stE hR (r := 139) (by decide) (show k0_off605 i = _ from offD_eq i 139 (by decide)) rfl (show k0_off604 i = _ from offS_eq i) ?_
  refine stT (r := 140) (by decide) (show k0_off607 i = _ from offT_eq i 140 (by decide)) ?_
  refine st_assume c (show k0_chk152 (tw c T i 140 (by decide)) from chk_of (tw_lt hR _)) ?_
  refine stE hR (r := 140) (by decide) (show k0_off609 i = _ from offD_eq i 140 (by decide)) rfl (show k0_off608 i = _ from offS_eq i) ?_
  exact stR (hQ)

/-- Part 54 of the body: rows 141 to 142 issued. -/
theorem p54 {P : sProp 𝕄} (hR : Named c R T i) (arg1 : BitVec 32) (v9 : BitVec 32) (v19 : BitVec 32) {Q : (Σ' (v1742 : Elt F .i32), k0_chk155 v1742) → sProp 𝕄}
    (hQ : ∀ (w : k0_chk155 (tw c T i 143 (by decide))), St c f H R T P i 143 ⊢ Q ⟨tw c T i 143 (by decide), w⟩) :
    St c f H R T P i 141 ⊢ wpF c (k0_part54 i tM h2 hM h3 a4 h4 a5 h5 a6 h6 a7 h7 xM h8 a9 h9 cc0_scratch2 arg1 v9 v19) Q := by
  rw [k0_part54_eq_skeleton]; unfold k0_part54_skel
  refine stT (r := 141) (by decide) (show k0_off611 i = _ from offT_eq i 141 (by decide)) ?_
  refine st_assume c (show k0_chk153 (tw c T i 141 (by decide)) from chk_of (tw_lt hR _)) ?_
  refine stE hR (r := 141) (by decide) (show k0_off613 i = _ from offD_eq i 141 (by decide)) rfl (show k0_off612 i = _ from offS_eq i) ?_
  refine stT (r := 142) (by decide) (show k0_off615 i = _ from offT_eq i 142 (by decide)) ?_
  refine st_assume c (show k0_chk154 (tw c T i 142 (by decide)) from chk_of (tw_lt hR _)) ?_
  refine stE hR (r := 142) (by decide) (show k0_off617 i = _ from offD_eq i 142 (by decide)) rfl (show k0_off616 i = _ from offS_eq i) ?_
  refine stT (r := 143) (by decide) (show k0_off619 i = _ from offT_eq i 143 (by decide)) ?_
  refine st_assume c (show k0_chk155 (tw c T i 143 (by decide)) from chk_of (tw_lt hR _)) ?_
  exact stR (hQ _)

/-- Part 55 of the body: rows 143 to 145 issued. -/
theorem p55 {P : sProp 𝕄} (hR : Named c R T i) (arg1 : BitVec 32) (v9 : BitVec 32) (v19 : BitVec 32) (k0_hw155 : k0_chk155 (tw c T i 143 (by decide))) {Q : (Σ' (v1778 : Elt F .i32), k0_chk158 v1778) → sProp 𝕄}
    (hQ : ∀ (w : k0_chk158 (tw c T i 146 (by decide))), St c f H R T P i 146 ⊢ Q ⟨tw c T i 146 (by decide), w⟩) :
    St c f H R T P i 143 ⊢ wpF c (k0_part55 i tM h2 hM h3 a4 h4 a5 h5 a6 h6 a7 h7 xM h8 a9 h9 cc0_scratch2 arg1 v9 v19 (tw c T i 143 (by decide)) k0_hw155) Q := by
  rw [k0_part55_eq_skeleton]; unfold k0_part55_skel
  refine stE hR (r := 143) (by decide) (show k0_off621 i = _ from offD_eq i 143 (by decide)) rfl (show k0_off620 i = _ from offS_eq i) ?_
  refine stT (r := 144) (by decide) (show k0_off623 i = _ from offT_eq i 144 (by decide)) ?_
  refine st_assume c (show k0_chk156 (tw c T i 144 (by decide)) from chk_of (tw_lt hR _)) ?_
  refine stE hR (r := 144) (by decide) (show k0_off625 i = _ from offD_eq i 144 (by decide)) rfl (show k0_off624 i = _ from offS_eq i) ?_
  refine stT (r := 145) (by decide) (show k0_off627 i = _ from offT_eq i 145 (by decide)) ?_
  refine st_assume c (show k0_chk157 (tw c T i 145 (by decide)) from chk_of (tw_lt hR _)) ?_
  refine stE hR (r := 145) (by decide) (show k0_off629 i = _ from offD_eq i 145 (by decide)) rfl (show k0_off628 i = _ from offS_eq i) ?_
  refine stT (r := 146) (by decide) (show k0_off631 i = _ from offT_eq i 146 (by decide)) ?_
  refine st_assume c (show k0_chk158 (tw c T i 146 (by decide)) from chk_of (tw_lt hR _)) ?_
  exact stR (hQ _)

/-- Part 56 of the body: rows 146 to 148 issued. -/
theorem p56 {P : sProp 𝕄} (hR : Named c R T i) (arg1 : BitVec 32) (v9 : BitVec 32) (v19 : BitVec 32) (k0_hw158 : k0_chk158 (tw c T i 146 (by decide))) {Q : (Σ' (v1814 : Elt F .i32), k0_chk161 v1814) → sProp 𝕄}
    (hQ : ∀ (w : k0_chk161 (tw c T i 149 (by decide))), St c f H R T P i 149 ⊢ Q ⟨tw c T i 149 (by decide), w⟩) :
    St c f H R T P i 146 ⊢ wpF c (k0_part56 i tM h2 hM h3 a4 h4 a5 h5 a6 h6 a7 h7 xM h8 a9 h9 cc0_scratch2 arg1 v9 v19 (tw c T i 146 (by decide)) k0_hw158) Q := by
  rw [k0_part56_eq_skeleton]; unfold k0_part56_skel
  refine stE hR (r := 146) (by decide) (show k0_off633 i = _ from offD_eq i 146 (by decide)) rfl (show k0_off632 i = _ from offS_eq i) ?_
  refine stT (r := 147) (by decide) (show k0_off635 i = _ from offT_eq i 147 (by decide)) ?_
  refine st_assume c (show k0_chk159 (tw c T i 147 (by decide)) from chk_of (tw_lt hR _)) ?_
  refine stE hR (r := 147) (by decide) (show k0_off637 i = _ from offD_eq i 147 (by decide)) rfl (show k0_off636 i = _ from offS_eq i) ?_
  refine stT (r := 148) (by decide) (show k0_off639 i = _ from offT_eq i 148 (by decide)) ?_
  refine st_assume c (show k0_chk160 (tw c T i 148 (by decide)) from chk_of (tw_lt hR _)) ?_
  refine stE hR (r := 148) (by decide) (show k0_off641 i = _ from offD_eq i 148 (by decide)) rfl (show k0_off640 i = _ from offS_eq i) ?_
  refine stT (r := 149) (by decide) (show k0_off643 i = _ from offT_eq i 149 (by decide)) ?_
  refine st_assume c (show k0_chk161 (tw c T i 149 (by decide)) from chk_of (tw_lt hR _)) ?_
  exact stR (hQ _)

/-- Part 57 of the body: rows 149 to 151 issued. -/
theorem p57 {P : sProp 𝕄} (hR : Named c R T i) (arg1 : BitVec 32) (v9 : BitVec 32) (v19 : BitVec 32) (k0_hw161 : k0_chk161 (tw c T i 149 (by decide))) {Q : (Elt F .i32) → sProp 𝕄}
    (hQ : St c f H R T P i 152 ⊢ Q (tw c T i 152 (by decide))) :
    St c f H R T P i 149 ⊢ wpF c (k0_part57 i tM h2 hM h3 a4 h4 a5 h5 a6 h6 a7 h7 xM h8 a9 h9 cc0_scratch2 arg1 v9 v19 (tw c T i 149 (by decide)) k0_hw161) Q := by
  rw [k0_part57_eq_skeleton]; unfold k0_part57_skel
  refine stE hR (r := 149) (by decide) (show k0_off645 i = _ from offD_eq i 149 (by decide)) rfl (show k0_off644 i = _ from offS_eq i) ?_
  refine stT (r := 150) (by decide) (show k0_off647 i = _ from offT_eq i 150 (by decide)) ?_
  refine st_assume c (show k0_chk162 (tw c T i 150 (by decide)) from chk_of (tw_lt hR _)) ?_
  refine stE hR (r := 150) (by decide) (show k0_off649 i = _ from offD_eq i 150 (by decide)) rfl (show k0_off648 i = _ from offS_eq i) ?_
  refine stT (r := 151) (by decide) (show k0_off651 i = _ from offT_eq i 151 (by decide)) ?_
  refine st_assume c (show k0_chk163 (tw c T i 151 (by decide)) from chk_of (tw_lt hR _)) ?_
  refine stE hR (r := 151) (by decide) (show k0_off653 i = _ from offD_eq i 151 (by decide)) rfl (show k0_off652 i = _ from offS_eq i) ?_
  exact stTl (r := 152) (by decide) (show k0_off655 i = _ from offT_eq i 152 (by decide)) hQ

/-- Part 58 of the body: rows 152 to 154 issued. -/
theorem p58 {P : sProp 𝕄} (hR : Named c R T i) (arg1 : BitVec 32) (v9 : BitVec 32) (v19 : BitVec 32) {Q : (Σ' (v1883 : BitVec 32), BitVec 32) → sProp 𝕄}
    (hQ : ∀ (v1883 : BitVec 32), St c f H R T P i 155 ⊢ Q ⟨v1883, 155#32⟩) :
    St c f H R T P i 152 ⊢ wpF c (k0_part58 i tM h2 hM h3 a4 h4 a5 h5 a6 h6 a7 h7 xM h8 a9 h9 cc0_scratch2 arg1 v9 v19 (tw c T i 152 (by decide))) Q := by
  rw [k0_part58_eq_skeleton]; unfold k0_part58_skel
  refine st_assume c (show k0_chk164 (tw c T i 152 (by decide)) from chk_of (tw_lt hR _)) ?_
  refine stE hR (r := 152) (by decide) (show k0_off657 i = _ from offD_eq i 152 (by decide)) rfl (show k0_off656 i = _ from offS_eq i) ?_
  refine stT (r := 153) (by decide) (show k0_off659 i = _ from offT_eq i 153 (by decide)) ?_
  refine st_assume c (show k0_chk165 (tw c T i 153 (by decide)) from chk_of (tw_lt hR _)) ?_
  refine stE hR (r := 153) (by decide) (show k0_off661 i = _ from offD_eq i 153 (by decide)) rfl (show k0_off660 i = _ from offS_eq i) ?_
  refine stT (r := 154) (by decide) (show k0_off663 i = _ from offT_eq i 154 (by decide)) ?_
  refine st_assume c (show k0_chk166 (tw c T i 154 (by decide)) from chk_of (tw_lt hR _)) ?_
  refine stE hR (r := 154) (by decide) (show k0_off665 i = _ from offD_eq i 154 (by decide)) rfl (show k0_off664 i = _ from offS_eq i) ?_
  exact stR (hQ _)

/-- Part 59 of the body: rows 155 to 157 issued. -/
theorem p59 {P : sProp 𝕄} (hR : Named c R T i) (arg1 : BitVec 32) (v9 : BitVec 32) (v19 : BitVec 32) (v1883 : BitVec 32) (c155_i32 : BitVec 32) {Q : (Σ' (v1917 : BitVec 32), BitVec 32) → sProp 𝕄}
    (hQ : ∀ (v1917 : BitVec 32), St c f H R T P i 158 ⊢ Q ⟨v1917, 192#32⟩) :
    St c f H R T P i 155 ⊢ wpF c (k0_part59 i tM h2 hM h3 a4 h4 a5 h5 a6 h6 a7 h7 xM h8 a9 h9 cc0_scratch2 arg1 v9 v19 v1883 c155_i32) Q := by
  rw [k0_part59_eq_skeleton]; unfold k0_part59_skel
  refine stT (r := 155) (by decide) (show k0_off667 i = _ from offT_eq i 155 (by decide)) ?_
  refine st_assume c (show k0_chk167 (tw c T i 155 (by decide)) from chk_of (tw_lt hR _)) ?_
  refine stE hR (r := 155) (by decide) (show k0_off669 i = _ from offD_eq i 155 (by decide)) rfl (show k0_off668 i = _ from offS_eq i) ?_
  refine stT (r := 156) (by decide) (show k0_off671 i = _ from offT_eq i 156 (by decide)) ?_
  refine st_assume c (show k0_chk168 (tw c T i 156 (by decide)) from chk_of (tw_lt hR _)) ?_
  refine stE hR (r := 156) (by decide) (show k0_off673 i = _ from offD_eq i 156 (by decide)) rfl (show k0_off672 i = _ from offS_eq i) ?_
  refine stT (r := 157) (by decide) (show k0_off675 i = _ from offT_eq i 157 (by decide)) ?_
  refine st_assume c (show k0_chk169 (tw c T i 157 (by decide)) from chk_of (tw_lt hR _)) ?_
  refine stE hR (r := 157) (by decide) (show k0_off677 i = _ from offD_eq i 157 (by decide)) rfl (show k0_off676 i = _ from offS_eq i) ?_
  exact stR (hQ _)

/-- Part 60 of the body: rows 158 to 160 issued. -/
theorem p60 {P : sProp 𝕄} (hR : Named c R T i) (arg1 : BitVec 32) (v9 : BitVec 32) (v19 : BitVec 32) (v1917 : BitVec 32) (c192_i32_961 : BitVec 32) {Q : (PUnit) → sProp 𝕄}
    (hQ : St c f H R T P i 161 ⊢ Q ⟨⟩) :
    St c f H R T P i 158 ⊢ wpF c (k0_part60 i tM h2 hM h3 a4 h4 a5 h5 a6 h6 a7 h7 xM h8 a9 h9 cc0_scratch2 arg1 v9 v19 v1917 c192_i32_961) Q := by
  rw [k0_part60_eq_skeleton]; unfold k0_part60_skel
  refine stT (r := 158) (by decide) (show k0_off679 i = _ from offT_eq i 158 (by decide)) ?_
  refine st_assume c (show k0_chk170 (tw c T i 158 (by decide)) from chk_of (tw_lt hR _)) ?_
  refine stE hR (r := 158) (by decide) (show k0_off681 i = _ from offD_eq i 158 (by decide)) rfl (show k0_off680 i = _ from offS_eq i) ?_
  refine stT (r := 159) (by decide) (show k0_off683 i = _ from offT_eq i 159 (by decide)) ?_
  refine st_assume c (show k0_chk171 (tw c T i 159 (by decide)) from chk_of (tw_lt hR _)) ?_
  refine stE hR (r := 159) (by decide) (show k0_off685 i = _ from offD_eq i 159 (by decide)) rfl (show k0_off684 i = _ from offS_eq i) ?_
  refine stT (r := 160) (by decide) (show k0_off687 i = _ from offT_eq i 160 (by decide)) ?_
  refine st_assume c (show k0_chk172 (tw c T i 160 (by decide)) from chk_of (tw_lt hR _)) ?_
  refine stE hR (r := 160) (by decide) (show k0_off689 i = _ from offD_eq i 160 (by decide)) rfl (show k0_off688 i = _ from offS_eq i) ?_
  exact stR (hQ)

/-- Part 61 of the body: rows 161 to 162 issued. -/
theorem p61 {P : sProp 𝕄} (hR : Named c R T i) (arg1 : BitVec 32) (v9 : BitVec 32) (v19 : BitVec 32) {Q : (Σ' (v1982 : Elt F .i32), k0_chk175 v1982) → sProp 𝕄}
    (hQ : ∀ (w : k0_chk175 (tw c T i 163 (by decide))), St c f H R T P i 163 ⊢ Q ⟨tw c T i 163 (by decide), w⟩) :
    St c f H R T P i 161 ⊢ wpF c (k0_part61 i tM h2 hM h3 a4 h4 a5 h5 a6 h6 a7 h7 xM h8 a9 h9 cc0_scratch2 arg1 v9 v19) Q := by
  rw [k0_part61_eq_skeleton]; unfold k0_part61_skel
  refine stT (r := 161) (by decide) (show k0_off691 i = _ from offT_eq i 161 (by decide)) ?_
  refine st_assume c (show k0_chk173 (tw c T i 161 (by decide)) from chk_of (tw_lt hR _)) ?_
  refine stE hR (r := 161) (by decide) (show k0_off693 i = _ from offD_eq i 161 (by decide)) rfl (show k0_off692 i = _ from offS_eq i) ?_
  refine stT (r := 162) (by decide) (show k0_off695 i = _ from offT_eq i 162 (by decide)) ?_
  refine st_assume c (show k0_chk174 (tw c T i 162 (by decide)) from chk_of (tw_lt hR _)) ?_
  refine stE hR (r := 162) (by decide) (show k0_off697 i = _ from offD_eq i 162 (by decide)) rfl (show k0_off696 i = _ from offS_eq i) ?_
  refine stT (r := 163) (by decide) (show k0_off699 i = _ from offT_eq i 163 (by decide)) ?_
  refine st_assume c (show k0_chk175 (tw c T i 163 (by decide)) from chk_of (tw_lt hR _)) ?_
  exact stR (hQ _)

/-- Part 62 of the body: rows 163 to 165 issued. -/
theorem p62 {P : sProp 𝕄} (hR : Named c R T i) (arg1 : BitVec 32) (v9 : BitVec 32) (v19 : BitVec 32) (k0_hw175 : k0_chk175 (tw c T i 163 (by decide))) {Q : (Σ' (v2018 : Elt F .i32), k0_chk178 v2018) → sProp 𝕄}
    (hQ : ∀ (w : k0_chk178 (tw c T i 166 (by decide))), St c f H R T P i 166 ⊢ Q ⟨tw c T i 166 (by decide), w⟩) :
    St c f H R T P i 163 ⊢ wpF c (k0_part62 i tM h2 hM h3 a4 h4 a5 h5 a6 h6 a7 h7 xM h8 a9 h9 cc0_scratch2 arg1 v9 v19 (tw c T i 163 (by decide)) k0_hw175) Q := by
  rw [k0_part62_eq_skeleton]; unfold k0_part62_skel
  refine stE hR (r := 163) (by decide) (show k0_off701 i = _ from offD_eq i 163 (by decide)) rfl (show k0_off700 i = _ from offS_eq i) ?_
  refine stT (r := 164) (by decide) (show k0_off703 i = _ from offT_eq i 164 (by decide)) ?_
  refine st_assume c (show k0_chk176 (tw c T i 164 (by decide)) from chk_of (tw_lt hR _)) ?_
  refine stE hR (r := 164) (by decide) (show k0_off705 i = _ from offD_eq i 164 (by decide)) rfl (show k0_off704 i = _ from offS_eq i) ?_
  refine stT (r := 165) (by decide) (show k0_off707 i = _ from offT_eq i 165 (by decide)) ?_
  refine st_assume c (show k0_chk177 (tw c T i 165 (by decide)) from chk_of (tw_lt hR _)) ?_
  refine stE hR (r := 165) (by decide) (show k0_off709 i = _ from offD_eq i 165 (by decide)) rfl (show k0_off708 i = _ from offS_eq i) ?_
  refine stT (r := 166) (by decide) (show k0_off711 i = _ from offT_eq i 166 (by decide)) ?_
  refine st_assume c (show k0_chk178 (tw c T i 166 (by decide)) from chk_of (tw_lt hR _)) ?_
  exact stR (hQ _)

/-- Part 63 of the body: rows 166 to 168 issued. -/
theorem p63 {P : sProp 𝕄} (hR : Named c R T i) (arg1 : BitVec 32) (v9 : BitVec 32) (v19 : BitVec 32) (k0_hw178 : k0_chk178 (tw c T i 166 (by decide))) {Q : (Σ' (v2054 : Elt F .i32), k0_chk181 v2054) → sProp 𝕄}
    (hQ : ∀ (w : k0_chk181 (tw c T i 169 (by decide))), St c f H R T P i 169 ⊢ Q ⟨tw c T i 169 (by decide), w⟩) :
    St c f H R T P i 166 ⊢ wpF c (k0_part63 i tM h2 hM h3 a4 h4 a5 h5 a6 h6 a7 h7 xM h8 a9 h9 cc0_scratch2 arg1 v9 v19 (tw c T i 166 (by decide)) k0_hw178) Q := by
  rw [k0_part63_eq_skeleton]; unfold k0_part63_skel
  refine stE hR (r := 166) (by decide) (show k0_off713 i = _ from offD_eq i 166 (by decide)) rfl (show k0_off712 i = _ from offS_eq i) ?_
  refine stT (r := 167) (by decide) (show k0_off715 i = _ from offT_eq i 167 (by decide)) ?_
  refine st_assume c (show k0_chk179 (tw c T i 167 (by decide)) from chk_of (tw_lt hR _)) ?_
  refine stE hR (r := 167) (by decide) (show k0_off717 i = _ from offD_eq i 167 (by decide)) rfl (show k0_off716 i = _ from offS_eq i) ?_
  refine stT (r := 168) (by decide) (show k0_off719 i = _ from offT_eq i 168 (by decide)) ?_
  refine st_assume c (show k0_chk180 (tw c T i 168 (by decide)) from chk_of (tw_lt hR _)) ?_
  refine stE hR (r := 168) (by decide) (show k0_off721 i = _ from offD_eq i 168 (by decide)) rfl (show k0_off720 i = _ from offS_eq i) ?_
  refine stT (r := 169) (by decide) (show k0_off723 i = _ from offT_eq i 169 (by decide)) ?_
  refine st_assume c (show k0_chk181 (tw c T i 169 (by decide)) from chk_of (tw_lt hR _)) ?_
  exact stR (hQ _)

/-- Part 64 of the body: rows 169 to 171 issued. -/
theorem p64 {P : sProp 𝕄} (hR : Named c R T i) (arg1 : BitVec 32) (v9 : BitVec 32) (v19 : BitVec 32) (k0_hw181 : k0_chk181 (tw c T i 169 (by decide))) {Q : (Elt F .i32) → sProp 𝕄}
    (hQ : St c f H R T P i 172 ⊢ Q (tw c T i 172 (by decide))) :
    St c f H R T P i 169 ⊢ wpF c (k0_part64 i tM h2 hM h3 a4 h4 a5 h5 a6 h6 a7 h7 xM h8 a9 h9 cc0_scratch2 arg1 v9 v19 (tw c T i 169 (by decide)) k0_hw181) Q := by
  rw [k0_part64_eq_skeleton]; unfold k0_part64_skel
  refine stE hR (r := 169) (by decide) (show k0_off725 i = _ from offD_eq i 169 (by decide)) rfl (show k0_off724 i = _ from offS_eq i) ?_
  refine stT (r := 170) (by decide) (show k0_off727 i = _ from offT_eq i 170 (by decide)) ?_
  refine st_assume c (show k0_chk182 (tw c T i 170 (by decide)) from chk_of (tw_lt hR _)) ?_
  refine stE hR (r := 170) (by decide) (show k0_off729 i = _ from offD_eq i 170 (by decide)) rfl (show k0_off728 i = _ from offS_eq i) ?_
  refine stT (r := 171) (by decide) (show k0_off731 i = _ from offT_eq i 171 (by decide)) ?_
  refine st_assume c (show k0_chk183 (tw c T i 171 (by decide)) from chk_of (tw_lt hR _)) ?_
  refine stE hR (r := 171) (by decide) (show k0_off733 i = _ from offD_eq i 171 (by decide)) rfl (show k0_off732 i = _ from offS_eq i) ?_
  exact stTl (r := 172) (by decide) (show k0_off735 i = _ from offT_eq i 172 (by decide)) hQ

/-- Part 65 of the body: rows 172 to 174 issued. -/
theorem p65 {P : sProp 𝕄} (hR : Named c R T i) (arg1 : BitVec 32) (v9 : BitVec 32) (v19 : BitVec 32) {Q : (Σ' (v2123 : BitVec 32), BitVec 32) → sProp 𝕄}
    (hQ : ∀ (v2123 : BitVec 32), St c f H R T P i 175 ⊢ Q ⟨v2123, 175#32⟩) :
    St c f H R T P i 172 ⊢ wpF c (k0_part65 i tM h2 hM h3 a4 h4 a5 h5 a6 h6 a7 h7 xM h8 a9 h9 cc0_scratch2 arg1 v9 v19 (tw c T i 172 (by decide))) Q := by
  rw [k0_part65_eq_skeleton]; unfold k0_part65_skel
  refine st_assume c (show k0_chk184 (tw c T i 172 (by decide)) from chk_of (tw_lt hR _)) ?_
  refine stE hR (r := 172) (by decide) (show k0_off737 i = _ from offD_eq i 172 (by decide)) rfl (show k0_off736 i = _ from offS_eq i) ?_
  refine stT (r := 173) (by decide) (show k0_off739 i = _ from offT_eq i 173 (by decide)) ?_
  refine st_assume c (show k0_chk185 (tw c T i 173 (by decide)) from chk_of (tw_lt hR _)) ?_
  refine stE hR (r := 173) (by decide) (show k0_off741 i = _ from offD_eq i 173 (by decide)) rfl (show k0_off740 i = _ from offS_eq i) ?_
  refine stT (r := 174) (by decide) (show k0_off743 i = _ from offT_eq i 174 (by decide)) ?_
  refine st_assume c (show k0_chk186 (tw c T i 174 (by decide)) from chk_of (tw_lt hR _)) ?_
  refine stE hR (r := 174) (by decide) (show k0_off745 i = _ from offD_eq i 174 (by decide)) rfl (show k0_off744 i = _ from offS_eq i) ?_
  exact stR (hQ _)

/-- Part 66 of the body: rows 175 to 177 issued. -/
theorem p66 {P : sProp 𝕄} (hR : Named c R T i) (arg1 : BitVec 32) (v9 : BitVec 32) (v19 : BitVec 32) (v2123 : BitVec 32) (c175_i32 : BitVec 32) {Q : (Σ' (v2157 : BitVec 32), BitVec 32) → sProp 𝕄}
    (hQ : ∀ (v2157 : BitVec 32), St c f H R T P i 178 ⊢ Q ⟨v2157, 192#32⟩) :
    St c f H R T P i 175 ⊢ wpF c (k0_part66 i tM h2 hM h3 a4 h4 a5 h5 a6 h6 a7 h7 xM h8 a9 h9 cc0_scratch2 arg1 v9 v19 v2123 c175_i32) Q := by
  rw [k0_part66_eq_skeleton]; unfold k0_part66_skel
  refine stT (r := 175) (by decide) (show k0_off747 i = _ from offT_eq i 175 (by decide)) ?_
  refine st_assume c (show k0_chk187 (tw c T i 175 (by decide)) from chk_of (tw_lt hR _)) ?_
  refine stE hR (r := 175) (by decide) (show k0_off749 i = _ from offD_eq i 175 (by decide)) rfl (show k0_off748 i = _ from offS_eq i) ?_
  refine stT (r := 176) (by decide) (show k0_off751 i = _ from offT_eq i 176 (by decide)) ?_
  refine st_assume c (show k0_chk188 (tw c T i 176 (by decide)) from chk_of (tw_lt hR _)) ?_
  refine stE hR (r := 176) (by decide) (show k0_off753 i = _ from offD_eq i 176 (by decide)) rfl (show k0_off752 i = _ from offS_eq i) ?_
  refine stT (r := 177) (by decide) (show k0_off755 i = _ from offT_eq i 177 (by decide)) ?_
  refine st_assume c (show k0_chk189 (tw c T i 177 (by decide)) from chk_of (tw_lt hR _)) ?_
  refine stE hR (r := 177) (by decide) (show k0_off757 i = _ from offD_eq i 177 (by decide)) rfl (show k0_off756 i = _ from offS_eq i) ?_
  exact stR (hQ _)

/-- Part 67 of the body: rows 178 to 180 issued. -/
theorem p67 {P : sProp 𝕄} (hR : Named c R T i) (arg1 : BitVec 32) (v9 : BitVec 32) (v19 : BitVec 32) (v2157 : BitVec 32) (c192_i32_1081 : BitVec 32) {Q : (PUnit) → sProp 𝕄}
    (hQ : St c f H R T P i 181 ⊢ Q ⟨⟩) :
    St c f H R T P i 178 ⊢ wpF c (k0_part67 i tM h2 hM h3 a4 h4 a5 h5 a6 h6 a7 h7 xM h8 a9 h9 cc0_scratch2 arg1 v9 v19 v2157 c192_i32_1081) Q := by
  rw [k0_part67_eq_skeleton]; unfold k0_part67_skel
  refine stT (r := 178) (by decide) (show k0_off759 i = _ from offT_eq i 178 (by decide)) ?_
  refine st_assume c (show k0_chk190 (tw c T i 178 (by decide)) from chk_of (tw_lt hR _)) ?_
  refine stE hR (r := 178) (by decide) (show k0_off761 i = _ from offD_eq i 178 (by decide)) rfl (show k0_off760 i = _ from offS_eq i) ?_
  refine stT (r := 179) (by decide) (show k0_off763 i = _ from offT_eq i 179 (by decide)) ?_
  refine st_assume c (show k0_chk191 (tw c T i 179 (by decide)) from chk_of (tw_lt hR _)) ?_
  refine stE hR (r := 179) (by decide) (show k0_off765 i = _ from offD_eq i 179 (by decide)) rfl (show k0_off764 i = _ from offS_eq i) ?_
  refine stT (r := 180) (by decide) (show k0_off767 i = _ from offT_eq i 180 (by decide)) ?_
  refine st_assume c (show k0_chk192 (tw c T i 180 (by decide)) from chk_of (tw_lt hR _)) ?_
  refine stE hR (r := 180) (by decide) (show k0_off769 i = _ from offD_eq i 180 (by decide)) rfl (show k0_off768 i = _ from offS_eq i) ?_
  exact stR (hQ)

/-- Part 68 of the body: rows 181 to 182 issued. -/
theorem p68 {P : sProp 𝕄} (hR : Named c R T i) (arg1 : BitVec 32) (v9 : BitVec 32) (v19 : BitVec 32) {Q : (Σ' (v2222 : Elt F .i32), k0_chk195 v2222) → sProp 𝕄}
    (hQ : ∀ (w : k0_chk195 (tw c T i 183 (by decide))), St c f H R T P i 183 ⊢ Q ⟨tw c T i 183 (by decide), w⟩) :
    St c f H R T P i 181 ⊢ wpF c (k0_part68 i tM h2 hM h3 a4 h4 a5 h5 a6 h6 a7 h7 xM h8 a9 h9 cc0_scratch2 arg1 v9 v19) Q := by
  rw [k0_part68_eq_skeleton]; unfold k0_part68_skel
  refine stT (r := 181) (by decide) (show k0_off771 i = _ from offT_eq i 181 (by decide)) ?_
  refine st_assume c (show k0_chk193 (tw c T i 181 (by decide)) from chk_of (tw_lt hR _)) ?_
  refine stE hR (r := 181) (by decide) (show k0_off773 i = _ from offD_eq i 181 (by decide)) rfl (show k0_off772 i = _ from offS_eq i) ?_
  refine stT (r := 182) (by decide) (show k0_off775 i = _ from offT_eq i 182 (by decide)) ?_
  refine st_assume c (show k0_chk194 (tw c T i 182 (by decide)) from chk_of (tw_lt hR _)) ?_
  refine stE hR (r := 182) (by decide) (show k0_off777 i = _ from offD_eq i 182 (by decide)) rfl (show k0_off776 i = _ from offS_eq i) ?_
  refine stT (r := 183) (by decide) (show k0_off779 i = _ from offT_eq i 183 (by decide)) ?_
  refine st_assume c (show k0_chk195 (tw c T i 183 (by decide)) from chk_of (tw_lt hR _)) ?_
  exact stR (hQ _)

/-- Part 69 of the body: rows 183 to 185 issued. -/
theorem p69 {P : sProp 𝕄} (hR : Named c R T i) (arg1 : BitVec 32) (v9 : BitVec 32) (v19 : BitVec 32) (k0_hw195 : k0_chk195 (tw c T i 183 (by decide))) {Q : (Σ' (v2258 : Elt F .i32), k0_chk198 v2258) → sProp 𝕄}
    (hQ : ∀ (w : k0_chk198 (tw c T i 186 (by decide))), St c f H R T P i 186 ⊢ Q ⟨tw c T i 186 (by decide), w⟩) :
    St c f H R T P i 183 ⊢ wpF c (k0_part69 i tM h2 hM h3 a4 h4 a5 h5 a6 h6 a7 h7 xM h8 a9 h9 cc0_scratch2 arg1 v9 v19 (tw c T i 183 (by decide)) k0_hw195) Q := by
  rw [k0_part69_eq_skeleton]; unfold k0_part69_skel
  refine stE hR (r := 183) (by decide) (show k0_off781 i = _ from offD_eq i 183 (by decide)) rfl (show k0_off780 i = _ from offS_eq i) ?_
  refine stT (r := 184) (by decide) (show k0_off783 i = _ from offT_eq i 184 (by decide)) ?_
  refine st_assume c (show k0_chk196 (tw c T i 184 (by decide)) from chk_of (tw_lt hR _)) ?_
  refine stE hR (r := 184) (by decide) (show k0_off785 i = _ from offD_eq i 184 (by decide)) rfl (show k0_off784 i = _ from offS_eq i) ?_
  refine stT (r := 185) (by decide) (show k0_off787 i = _ from offT_eq i 185 (by decide)) ?_
  refine st_assume c (show k0_chk197 (tw c T i 185 (by decide)) from chk_of (tw_lt hR _)) ?_
  refine stE hR (r := 185) (by decide) (show k0_off789 i = _ from offD_eq i 185 (by decide)) rfl (show k0_off788 i = _ from offS_eq i) ?_
  refine stT (r := 186) (by decide) (show k0_off791 i = _ from offT_eq i 186 (by decide)) ?_
  refine st_assume c (show k0_chk198 (tw c T i 186 (by decide)) from chk_of (tw_lt hR _)) ?_
  exact stR (hQ _)

/-- Part 70 of the body: rows 186 to 188 issued. -/
theorem p70 {P : sProp 𝕄} (hR : Named c R T i) (arg1 : BitVec 32) (v9 : BitVec 32) (v19 : BitVec 32) (k0_hw198 : k0_chk198 (tw c T i 186 (by decide))) {Q : (Σ' (v2294 : Elt F .i32), k0_chk201 v2294) → sProp 𝕄}
    (hQ : ∀ (w : k0_chk201 (tw c T i 189 (by decide))), St c f H R T P i 189 ⊢ Q ⟨tw c T i 189 (by decide), w⟩) :
    St c f H R T P i 186 ⊢ wpF c (k0_part70 i tM h2 hM h3 a4 h4 a5 h5 a6 h6 a7 h7 xM h8 a9 h9 cc0_scratch2 arg1 v9 v19 (tw c T i 186 (by decide)) k0_hw198) Q := by
  rw [k0_part70_eq_skeleton]; unfold k0_part70_skel
  refine stE hR (r := 186) (by decide) (show k0_off793 i = _ from offD_eq i 186 (by decide)) rfl (show k0_off792 i = _ from offS_eq i) ?_
  refine stT (r := 187) (by decide) (show k0_off795 i = _ from offT_eq i 187 (by decide)) ?_
  refine st_assume c (show k0_chk199 (tw c T i 187 (by decide)) from chk_of (tw_lt hR _)) ?_
  refine stE hR (r := 187) (by decide) (show k0_off797 i = _ from offD_eq i 187 (by decide)) rfl (show k0_off796 i = _ from offS_eq i) ?_
  refine stT (r := 188) (by decide) (show k0_off799 i = _ from offT_eq i 188 (by decide)) ?_
  refine st_assume c (show k0_chk200 (tw c T i 188 (by decide)) from chk_of (tw_lt hR _)) ?_
  refine stE hR (r := 188) (by decide) (show k0_off801 i = _ from offD_eq i 188 (by decide)) rfl (show k0_off800 i = _ from offS_eq i) ?_
  refine stT (r := 189) (by decide) (show k0_off803 i = _ from offT_eq i 189 (by decide)) ?_
  refine st_assume c (show k0_chk201 (tw c T i 189 (by decide)) from chk_of (tw_lt hR _)) ?_
  exact stR (hQ _)

end Cert.Kernel.Ffn
end
-- ==== Proof.K.Tail.lean ====
module

public import proofs.«01_k».proof.Proof.K.Head
public import proofs.«01_k».proof.Proof.K.PartsA
public import proofs.«01_k».proof.Proof.K.PartsB
public import proofs.«01_k».proof.Proof.K.PartsC

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
open Cert.Kernel.Gen

local notation "𝕄" => MT nD τ sig Unit (Elt F) ℕ (Pipeline.UD sig nD τ) ℕ

variable {c : Dev nD} {f : Buf (Elt F) (xM.view.loc (c.tc : Thread nD τ))} {g : Buf (Elt F) (xM.view.loc (c.tc : Thread nD τ))} {H : Buf (Elt F) (hM.view.loc (c.tc : Thread nD τ))}
  {R R' : Fin 2112 → Fin 16384} {T : Buf (Elt F) (tM.view.loc (c.tc : Thread nD τ))} {i : grid0.Coords}
  {a4 a5 : Memref sig .tc .vmem S1x1024x256 .f32} {h2 : tM.IsWhole} {h3 : hM.IsWhole} {h4 : a4.IsWhole} {h5 : a5.IsWhole}
  {a6 : Memref sig .tc .vmem S1x256x1024 .f32} {h6 : a6.IsWhole} {a7 : Memref sig .tc .vmem S2x1x1024x1024 .f32} {h7 : a7.IsWhole}
  {h8 : xM.IsWhole} {h9 : nM.IsWhole}

/-- One program in front of another. -/
theorem seq {A : sProp 𝕄} {α β : Type} {p : Prog (TpuEff nD τ sig (Elt F) Λ₀ .tc) α} {K : α → Prog (TpuEff nD τ sig (Elt F) Λ₀ .tc) β} {Q : β → sProp 𝕄}
    (h : A ⊢ wpF c p (fun a => wpF c (K a) Q)) : A ⊢ wpF c (p >>= K) Q := by
  unfold wpF
  rw [wp_bind]
  exact h

/-- One block of one weight, read whole. -/
def ldW (W : Vec F S1x1024x256 .f32) : Vec F S1x1024x256 .f32 :=
  fun y => W ((Rect.unit (s := S1x1024x256) ![0, 0, 0] S1x1024x256.size inb_S1x1024x256_S1x1024x256_0_0_0).emb y)
/-- One block of the third weight, read whole. -/
def ldD (W : Vec F S1x256x1024 .f32) : Vec F S1x256x1024 .f32 :=
  fun y => W ((Rect.unit (s := S1x256x1024) ![0, 0, 0] S1x256x1024.size inb_S1x256x1024_S1x256x1024_0_0_0).emb y)
/-- The first half of the rows. -/
def ldX0 (X : Vec F S2048x1024 .bf16) : Vec F S1024x1024 .bf16 :=
  fun y => X ((Rect.unit (s := S2048x1024) ![0, 0] S1024x1024.size inb_S2048x1024_S1024x1024_0_0).emb y)
/-- The second half of the rows. -/
def ldX1 (X : Vec F S2048x1024 .bf16) : Vec F S1024x1024 .bf16 :=
  fun y => X ((Rect.unit (s := S2048x1024) ![1024, 0] S1024x1024.size inb_S2048x1024_S1024x1024_1024_0).emb y)
/-- The first half of the output block. -/
def rY0 : Rect S2x1x1024x1024 := Rect.unit (s := S2x1x1024x1024) ![0, 0, 0, 0] S1x1x1024x1024.size inb_S2x1x1024x1024_S1x1x1024x1024_0_0_0_0
/-- The second half of the output block. -/
def rY1 : Rect S2x1x1024x1024 := Rect.unit (s := S2x1x1024x1024) ![1, 0, 0, 0] S1x1x1024x1024.size inb_S2x1x1024x1024_S1x1x1024x1024_1_0_0_0
/-- The output block after the first half of a step. -/
def half0 (W1 W2 : Vec F S1x1024x256 .f32) (W3 : Vec F S1x256x1024 .f32) (X : Vec F S2048x1024 .bf16) (Y : Vec F S2x1x1024x1024 .f32) : Vec F S2x1x1024x1024 .f32 :=
  rY0.overlay Y (k0_pay19 (k0_pay15 (ldW W1)) (k0_pay16 (ldW W2)) (ldD W3) (ldX0 X) (fun y => Y (rY0.emb y)))
/-- The output block after a step on weight blocks `W1 W2 W3` and rows `X`, from the block before it. -/
def stepOut (W1 W2 : Vec F S1x1024x256 .f32) (W3 : Vec F S1x256x1024 .f32) (X : Vec F S2048x1024 .bf16) (Y : Vec F S2x1x1024x1024 .f32) : Vec F S2x1x1024x1024 .f32 :=
  rY1.overlay (half0 W1 W2 W3 X Y) (k0_pay1 (k0_pay20 (k0_pay15 (ldW W1)) (k0_pay16 (ldW W2)) (ldD W3) (ldX1 X) (fun y => half0 W1 W2 W3 X Y (rY1.emb y))))

/-- The three weight blocks, at some shares. -/
def Ins (c : Dev nD) (a4 a5 : Memref sig .tc .vmem S1x1024x256 .f32) (a6 : Memref sig .tc .vmem S1x256x1024 .f32) (q4 q5 q6 : PosShare TreeShare)
    (W1 W2 : Vec F S1x1024x256 .f32) (W3 : Vec F S1x256x1024 .f32) : sProp 𝕄 :=
  iprop(owns (c.tc : Thread nD τ) a4 q4 W1 ∗ owns (c.tc : Thread nD τ) a5 q5 W2 ∗ owns (c.tc : Thread nD τ) a6 q6 W3)

/-- What the issuing programs leave alone: the weight blocks and the step's own work. -/
abbrev Rem (c : Dev nD) (i : grid0.Coords) (a4 a5 : Memref sig .tc .vmem S1x1024x256 .f32) (a6 : Memref sig .tc .vmem S1x256x1024 .f32) (a7 : Memref sig .tc .vmem S2x1x1024x1024 .f32)
    (H : Buf (Elt F) (hM.view.loc (c.tc : Thread nD τ))) (R R' : Fin 2112 → Fin 16384) (q4 q5 q6 : PosShare TreeShare)
    (W1 W2 : Vec F S1x1024x256 .f32) (W3 : Vec F S1x256x1024 .f32) (Y : Vec F S2x1x1024x1024 .f32) : sProp 𝕄 :=
  iprop(Ins c a4 a5 a6 q4 q5 q6 W1 W2 W3 ∗ Work c i a7 H R R' Y)

variable {q4 q5 q6 : PosShare TreeShare} {W1 W2 : Vec F S1x1024x256 .f32} {W3 : Vec F S1x256x1024 .f32} {Y : Vec F S2x1x1024x1024 .f32}

/-- The last rows of the step issued and the first two weight blocks read. -/
theorem p71 (hR : Named c R' T i) (arg1 v9 v19 : BitVec 32) (w : k0_chk201 (tw c T i 189 (by decide))) {Q : (Σ' (v2326 : FVec F S1024x256 .bf16), FVec F S1024x256 .f32) → sProp 𝕄}
    (hQ : St c g H R' T (Rem c i a4 a5 a6 a7 H R R' q4 q5 q6 W1 W2 W3 Y) i 192 ⊢ Q ⟨k0_pay15 (ldW W1), k0_pay16 (ldW W2)⟩) :
    St c g H R' T (Rem c i a4 a5 a6 a7 H R R' q4 q5 q6 W1 W2 W3 Y) i 189
      ⊢ wpF c (k0_part71 i tM h2 hM h3 a4 h4 a5 h5 a6 h6 a7 h7 xM h8 nM h9 cc0_scratch2 arg1 v9 v19 (tw c T i 189 (by decide)) w) Q := by
  rw [k0_part71_eq_skeleton]; unfold k0_part71_skel
  refine stE hR (r := 189) (by decide) (show k0_off805 i = _ from offD_eq i 189 (by decide)) rfl (show k0_off804 i = _ from offS_eq i) ?_
  refine stT (r := 190) (by decide) (show k0_off807 i = _ from offT_eq i 190 (by decide)) ?_
  refine st_assume c (show k0_chk202 (tw c T i 190 (by decide)) from chk_of (tw_lt hR _)) ?_
  refine stE hR (r := 190) (by decide) (show k0_off809 i = _ from offD_eq i 190 (by decide)) rfl (show k0_off808 i = _ from offS_eq i) ?_
  refine stT (r := 191) (by decide) (show k0_off811 i = _ from offT_eq i 191 (by decide)) ?_
  refine st_assume c (show k0_chk203 (tw c T i 191 (by decide)) from chk_of (tw_lt hR _)) ?_
  refine stE hR (r := 191) (by decide) (show k0_off813 i = _ from offD_eq i 191 (by decide)) rfl (show k0_off812 i = _ from offS_eq i) ?_
  unfold St Rem Ins
  iintro ⟨HT, ⟨⟨H4, H5, H6⟩, HW⟩, HI⟩
  iapply (own_ld1 c a4) $$ [H4]
  · iexact H4
  iintro H4
  iapply (own_ld1 c a5) $$ [H5]
  · iexact H5
  iintro H5
  iapply (stR hQ)
  unfold St Rem Ins
  isplitl [HT]; · iexact HT
  isplitr [HI]
  · isplitl [H4 H5 H6]
    · isplitl [H4]; · iexact H4
      isplitl [H5]; · iexact H5
      iexact H6
    iexact HW
  iexact HI

/-- The products of a step, its first half stored. -/
theorem p72 {Q : (Σ' (v2357 : FVec F S1024x1024 .f32), Vec F S1x1x1024x1024 .f32) → sProp 𝕄}
    (hQ : ∀ z, St c g H R' T (Rem c i a4 a5 a6 a7 H R R' q4 q5 q6 W1 W2 W3 (half0 W1 W2 W3 (xsV c H R) Y)) i 192
      ⊢ Q ⟨k0_pay20 (k0_pay15 (ldW W1)) (k0_pay16 (ldW W2)) (ldD W3) (ldX1 (xsV c H R)) (fun y => half0 W1 W2 W3 (xsV c H R) Y (rY1.emb y)), z⟩) :
    St c g H R' T (Rem c i a4 a5 a6 a7 H R R' q4 q5 q6 W1 W2 W3 Y) i 192
      ⊢ wpF c (k0_part72 i tM h2 hM h3 a4 h4 a5 h5 a6 h6 a7 h7 xM h8 nM h9 cc0_scratch2 (k0_pay15 (ldW W1)) (k0_pay16 (ldW W2))) Q := by
  rw [k0_part72_eq_skeleton]; unfold k0_part72_skel
  unfold St Rem Ins Work
  iintro ⟨HT, ⟨⟨H4, H5, H6⟩, HS, Hv, HR, HO, HX, HY⟩, HI⟩
  iapply (own_ld1 c a6) $$ [H6]
  · iexact H6
  iintro H6
  iapply (own_ld1 c nM) $$ [HX]
  · iexact HX
  iintro HX
  iapply (own_ld1 c a7) $$ [HY]
  · iexact HY
  iintro HY
  iapply (own_ld1 c a7) $$ [HY]
  · iexact HY
  iintro HY
  iapply (own_st1 c a7) $$ [HY]
  · iexact HY
  iintro HY
  iapply (own_ld1 c nM) $$ [HX]
  · iexact HX
  iintro HX
  iapply (own_ld1 c a7) $$ [HY]
  · iexact HY
  iintro HY
  iapply (own_ld1 c a7) $$ [HY]
  · iexact HY
  iintro HY
  iapply (stR (hQ _))
  unfold St Rem Ins Work
  isplitl [HT]; · iexact HT
  isplitr [HI]
  · isplitl [H4 H5 H6]
    · isplitl [H4]; · iexact H4
      isplitl [H5]; · iexact H5
      iexact H6
    isplitl [HS]; · iexact HS
    isplitl [Hv]; · iexact Hv
    isplitl [HR]; · iexact HR
    isplitl [HO]; · iexact HO
    isplitl [HX]; · iexact HX
    iexact HY
  iexact HI

/-- The issuing programs up to the last few, from what the head of the step leaves. -/
theorem p73 {P A : sProp 𝕄} (hR : Named c R' T i)
    (h4' : ∀ {Q : (Σ' (arg0 : BitVec 32) (arg1 : BitVec 32) (v9 : BitVec 32), BitVec 32) → sProp 𝕄},
      (∀ a b d e, St c g H R' T P i 1 ⊢ Q ⟨a, b, d, e⟩) → A ⊢ wpF c (k0_part4 i tM h2 hM h3 a4 h4 a5 h5 a6 h6 a7 h7 xM h8 nM h9 cc0_scratch2) Q)
    {Q : (Σ' (arg0 : BitVec 32) (arg1 : BitVec 32) (v9 : BitVec 32) (v19 : BitVec 32) (v2054 : Elt F .i32), k0_chk181 v2054) → sProp 𝕄}
    (hQ : ∀ a b d e w, St c g H R' T P i 169 ⊢ Q ⟨a, b, d, e, tw c T i 169 (by decide), w⟩) :
    A ⊢ wpF c (k0_part73 i tM h2 hM h3 a4 h4 a5 h5 a6 h6 a7 h7 xM h8 nM h9 cc0_scratch2) Q := by
  rw [k0_part73_eq_skeleton]; unfold k0_part73_skel
  refine seq (h4' fun _ _ _ _ => ?_)
  refine seq (p5 hR _ _ _ (fun _ => ?_))
  refine seq (p6 hR _ _ _ _ (fun _ => ?_))
  refine seq (p7 hR _ _ _ _ (fun _ => ?_))
  refine seq (p8 hR _ _ _ _ (?_))
  refine seq (p9 hR _ _ _ (fun _ => ?_))
  refine seq (p10 hR _ _ _ _ _ (fun _ => ?_))
  refine seq (p11 hR _ _ _ _ _ (?_))
  refine seq (p12 hR _ _ _ (fun _ => ?_))
  refine seq (p13 hR _ _ _ _ (fun _ => ?_))
  refine seq (p14 hR _ _ _ _ (fun _ => ?_))
  refine seq (p15 hR _ _ _ _ (?_))
  refine seq (p16 hR _ _ _ (fun _ => ?_))
  refine seq (p17 hR _ _ _ _ _ (fun _ => ?_))
  refine seq (p18 hR _ _ _ _ _ (?_))
  refine seq (p19 hR _ _ _ (fun _ => ?_))
  refine seq (p20 hR _ _ _ _ (fun _ => ?_))
  refine seq (p21 hR _ _ _ _ (fun _ => ?_))
  refine seq (p22 hR _ _ _ _ (?_))
  refine seq (p23 hR _ _ _ (fun _ => ?_))
  refine seq (p24 hR _ _ _ _ _ (fun _ => ?_))
  refine seq (p25 hR _ _ _ _ _ (?_))
  refine seq (p26 hR _ _ _ (fun _ => ?_))
  refine seq (p27 hR _ _ _ _ (fun _ => ?_))
  refine seq (p28 hR _ _ _ _ (fun _ => ?_))
  refine seq (p29 hR _ _ _ _ (?_))
  refine seq (p30 hR _ _ _ (fun _ => ?_))
  refine seq (p31 hR _ _ _ _ _ (fun _ => ?_))
  refine seq (p32 hR _ _ _ _ _ (?_))
  refine seq (p33 hR _ _ _ (fun _ => ?_))
  refine seq (p34 hR _ _ _ _ (fun _ => ?_))
  refine seq (p35 hR _ _ _ _ (fun _ => ?_))
  refine seq (p36 hR _ _ _ _ (?_))
  refine seq (p37 hR _ _ _ (fun _ => ?_))
  refine seq (p38 hR _ _ _ _ _ (fun _ => ?_))
  refine seq (p39 hR _ _ _ _ _ (?_))
  refine seq (p40 hR _ _ _ (fun _ => ?_))
  refine seq (p41 hR _ _ _ _ (fun _ => ?_))
  refine seq (p42 hR _ _ _ _ (fun _ => ?_))
  refine seq (p43 hR _ _ _ _ (?_))
  refine seq (p44 hR _ _ _ (fun _ => ?_))
  refine seq (p45 hR _ _ _ _ _ (fun _ => ?_))
  refine seq (p46 hR _ _ _ _ _ (?_))
  refine seq (p47 hR _ _ _ (fun _ => ?_))
  refine seq (p48 hR _ _ _ _ (fun _ => ?_))
  refine seq (p49 hR _ _ _ _ (fun _ => ?_))
  refine seq (p50 hR _ _ _ _ (?_))
  refine seq (p51 hR _ _ _ (fun _ => ?_))
  refine seq (p52 hR _ _ _ _ _ (fun _ => ?_))
  refine seq (p53 hR _ _ _ _ _ (?_))
  refine seq (p54 hR _ _ _ (fun _ => ?_))
  refine seq (p55 hR _ _ _ _ (fun _ => ?_))
  refine seq (p56 hR _ _ _ _ (fun _ => ?_))
  refine seq (p57 hR _ _ _ _ (?_))
  refine seq (p58 hR _ _ _ (fun _ => ?_))
  refine seq (p59 hR _ _ _ _ _ (fun _ => ?_))
  refine seq (p60 hR _ _ _ _ _ (?_))
  refine seq (p61 hR _ _ _ (fun _ => ?_))
  refine seq (p62 hR _ _ _ _ (fun _ => ?_))
  refine seq (p63 hR _ _ _ _ (fun _ => ?_))
  exact stR (hQ _ _ _ _ _)

/-- The whole body of a step: what its last conditional finds is `hmid` or `hlast`'s. -/
theorem step_wp {A : sProp 𝕄} (hR : Named c R' T i)
    (h4' : ∀ {Q : (Σ' (arg0 : BitVec 32) (arg1 : BitVec 32) (v9 : BitVec 32), BitVec 32) → sProp 𝕄},
      (∀ a b d e, St c g H R' T (Rem c i a4 a5 a6 a7 H R R' q4 q5 q6 W1 W2 W3 Y) i 1 ⊢ Q ⟨a, b, d, e⟩) → A ⊢ wpF c (k0_part4 i tM h2 hM h3 a4 h4 a5 h5 a6 h6 a7 h7 xM h8 nM h9 cc0_scratch2) Q)
    {Q : PUnit → sProp 𝕄}
    (hmid : ¬ k0_cond3 i = 1#1 → St c g H R' T (Rem c i a4 a5 a6 a7 H R R' q4 q5 q6 W1 W2 W3 (stepOut W1 W2 W3 (xsV c H R) Y)) i 192 ⊢ Q ⟨⟩)
    (hlast : ∀ hc : k0_cond3 i = 1#1, St c g H R' T (Rem c i a4 a5 a6 a7 H R R' q4 q5 q6 W1 W2 W3 (stepOut W1 W2 W3 (xsV c H R) Y)) i 192
      ⊢ wpF c (Scf.Loop.for k0_t13_loop (k0_t13_ok i hc) () (k0_t13_body i tM h2 hM h3 a4 h4 a5 h5 a6 h6 a7 h7 xM h8 nM h9 cc0_scratch2 hc) >>= fun _ => pure ⟨⟩) Q) :
    A ⊢ wpF c (cc0_ffn i tM h2 hM h3 a4 h4 a5 h5 a6 h6 a7 h7 xM h8 nM h9 cc0_scratch2) Q := by
  rw [cc0_ffn_eq_skeleton]; unfold cc0_ffn_skel
  refine seq (p73 hR h4' fun _ _ _ _ _ => ?_)
  refine seq (p64 hR _ _ _ _ (?_))
  refine seq (p65 hR _ _ _ (fun _ => ?_))
  refine seq (p66 hR _ _ _ _ _ (fun _ => ?_))
  refine seq (p67 hR _ _ _ _ _ (?_))
  refine seq (p68 hR _ _ _ (fun _ => ?_))
  refine seq (p69 hR _ _ _ _ (fun _ => ?_))
  refine seq (p70 hR _ _ _ _ (fun _ => ?_))
  refine seq (p71 hR _ _ _ _ ?_)
  refine seq (p72 fun _ => ?_)
  dsimp only
  unfold St Rem Ins Work
  iintro ⟨HT, ⟨HP, HS, Hv, HR, HO, HX, HY⟩, HI⟩
  iapply (own_st1 c a7) $$ [HY]
  · iexact HY
  iintro HY
  by_cases hc : k0_cond3 i = 1#1
  · rw [dif_pos hc]
    iapply (hlast hc)
    unfold St Rem Ins Work
    isplitl [HT]; · iexact HT
    isplitr [HI]
    · isplitl [HP]; · iexact HP
      isplitl [HS]; · iexact HS
      isplitl [Hv]; · iexact Hv
      isplitl [HR]; · iexact HR
      isplitl [HO]; · iexact HO
      isplitl [HX]; · iexact HX
      iexact HY
    iexact HI
  · rw [dif_neg hc]
    iapply (stR (hmid hc))
    unfold St Rem Ins Work
    isplitl [HT]; · iexact HT
    isplitr [HI]
    · isplitl [HP]; · iexact HP
      isplitl [HS]; · iexact HS
      isplitl [Hv]; · iexact Hv
      isplitl [HR]; · iexact HR
      isplitl [HO]; · iexact HO
      isplitl [HX]; · iexact HX
      iexact HY
    iexact HI
end Cert.Kernel.Ffn
end
-- ==== Proof.K.Data.lean ====
module

public import proofs.«01_k».proof.Proof.K.Tail
public import proofs.«01_k».proof.Proof.Gen.Kernel.Launch
public import Idealize.ShloMosaic.Lib.Pipeline.Frame

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
open Cert.Kernel.Gen

local notation "𝕄" => MT nD τ sig Unit (Elt F) ℕ (Pipeline.UD sig nD τ) ℕ

/-! ## The grid's points -/

theorem coord0 (t : Fin grid0.N) : (grid0.coords t 0).val = t.val / 11 := by
  have h : ∀ t : Fin grid0.N, (grid0.coords t 0).val = t.val / 11 := by decide +kernel
  exact h t
theorem coord1 (t : Fin grid0.N) : (grid0.coords t 1).val = t.val % 11 := by
  have h : ∀ t : Fin grid0.N, (grid0.coords t 1).val = t.val % 11 := by decide +kernel
  exact h t
theorem pt_lt (t : Fin grid0.N) : t.val < 176 := N_0 ▸ t.isLt

/-- Where the output block of a point lies. -/
theorem out_index (i : grid0.Coords) : cc0_transform_4 i = ![0, (i 0).val, 0, 0] := by
  have h : ∀ a : Fin 16, (![(0#32).toNat, (BitVec.ofNat 32 a.val).toNat, (0#32).toNat, (0#32).toNat] : Fin 4 → ℕ) = ![0, a.val, 0, 0] := by decide +kernel
  exact h ⟨(i 0).val, lt0 i⟩

/-- The output block is written back after an expert's last point, and only there. -/
theorem out_flush (a : (pcfg0 (F := F)).Adm) (t : Fin grid0.N) : (win0 a 3).flush t = decide (t.val % 11 = 10) := by
  have ht := pt_lt t
  have hix : ∀ s : Fin grid0.N, (win0 a 3).index s = cc0_transform_4 (grid0.coords s) := fun s => rfl
  unfold Pipeline.Window.flush
  rw [show (win0 a 3).isOut = true from rfl, Bool.true_and, Bool.eq_iff_iff]
  simp only [Bool.or_eq_true, decide_eq_true_eq, N_0]
  constructor
  · rintro (h | ⟨h, hne⟩)
    · omega
    · by_contra hc
      apply hne
      rw [hix, hix, out_index, out_index, coord0, coord0]
      have : (t.val + 1) / 11 = t.val / 11 := by omega
      simp only [this]
  · intro h
    by_cases he : t.val + 1 = 176
    · exact .inl he
    · refine .inr ⟨by omega, fun hc => ?_⟩
      rw [hix, hix, out_index, out_index, coord0, coord0] at hc
      have := congrFun hc 1
      change (t.val + 1) / 11 = t.val / 11 at this
      omega

/-! ## What the launch hands the body -/

variable (m : (ℓ : Loc nD τ sig) → Buf (Elt F) ℓ)

/-- The buffers' contents after the host operations before the call. -/
abbrev Vm (c : Dev nD) (b : Ref sig .tc) : Buf (Elt F) ((c.tc : Thread nD τ).loc b) :=
  StableHlo.after ([hostOps0, hostOps0_1, hostOps0_2] : List (List (HloOp τ sig (Elt F)))).flatten (fun b => m (c, b)) b

/-- The table the call starts from. -/
abbrev tbl : (pre0).Contents (Elt F) := fun k => Vm m 0 (pre0.ref k)
/-- The table, with its side condition. -/
abbrev aT : (p : Fin 1) → (pcfgs (F := F) p).Adm := fun _ => ⟨tbl m, trivial⟩

theorem dev_eq (c : Dev nD) : c = 0 := Subsingleton.elim _ _

/-- The table as the body reads it. -/
abbrev Tm (c : Dev nD) : Buf (Elt F) (tM.view.loc (c.tc : Thread nD τ)) := Vm m c main_v9
/-- The hidden rows as the body reads them. -/
abbrev Hm (c : Dev nD) : Buf (Elt F) (hM.view.loc (c.tc : Thread nD τ)) := Vm m c main_arg1

/-- The hidden row that the table names for row `k` of expert `p`'s slot. -/
def Rw (c : Dev nD) (p : ℕ) (k : Fin 2112) : Fin 16384 :=
  if h : p * 2112 + k.val < 33792 then
    if h' : (tabAt c (Tm m c) (p * 2112 + k.val) h).toNat < 16384 then ⟨_, h'⟩ else 0
  else 0

/-- Every word of the table names a hidden row. -/
def InRows : Prop := ∀ c p hp, (tabAt c (Tm m c) p hp).toNat < 16384

variable {m} in
theorem Rw_val (h : InRows m) (c : Dev nD) (p : ℕ) (k : Fin 2112) (hp : p * 2112 + k.val < 33792) :
    (Rw m c p k).val = (tabAt c (Tm m c) (p * 2112 + k.val) hp).toNat := by
  unfold Rw
  rw [dif_pos hp, dif_pos (h c _ _)]

variable {m} in
theorem named (h : InRows m) (c : Dev nD) (i : grid0.Coords) : Named c (Rw m c (nx i)) (Tm m c) i := by
  intro r hr
  exact Rw_val h c _ _ (place_lt i hr)
variable {m} in
theorem named0 (h : InRows m) (c : Dev nD) : Named0 c (Rw m c 0) (Tm m c) := by
  intro k hk
  rw [Rw_val h c 0 ⟨k, hk⟩ (by simp; omega)]
  simp

/-! ## The blocks by point -/

/-- The gate weights' block at a point. -/
abbrev G1 (c : Dev nD) (t : Fin grid0.N) : S1x1024x256.Idx → Elt F .f32 :=
  ((win0 (aT m 0) 0).blk t).view.read (Elt F) (Vm m c main_arg2)
/-- The up weights' block at a point. -/
abbrev G2 (c : Dev nD) (t : Fin grid0.N) : S1x1024x256.Idx → Elt F .f32 :=
  ((win0 (aT m 0) 1).blk t).view.read (Elt F) (Vm m c main_arg3)
/-- The down weights' block at a point. -/
abbrev G3 (c : Dev nD) (t : Fin grid0.N) : S1x256x1024.Idx → Elt F .f32 :=
  ((win0 (aT m 0) 2).blk t).view.read (Elt F) (Vm m c main_arg4)

/-- The rows an expert works on. -/
abbrev Xn (c : Dev nD) (p : ℕ) : FVec F S2048x1024 .bf16 := xsV c (Hm m c) (Rw m c p)

/-- The output block after point `n`. -/
def outN (c : Dev nD) : (n : ℕ) → n < grid0.N → Vec F S2x1x1024x1024 .f32
  | 0, h => stepOut (G1 m c ⟨0, h⟩) (G2 m c ⟨0, h⟩) (G3 m c ⟨0, h⟩) (Xn m c 0) (k0_pay14 (F := F))
  | n + 1, h => stepOut (G1 m c ⟨n + 1, h⟩) (G2 m c ⟨n + 1, h⟩) (G3 m c ⟨n + 1, h⟩) (Xn m c ((n + 1) / 11))
      (if (n + 1) % 11 = 0 then k0_pay14 (F := F) else outN c n (Nat.lt_of_succ_lt h))

/-! ## The invariant -/

/-- Before the first point and after the last: nothing in flight. -/
def Init (c : Dev nD) : sProp 𝕄 :=
  iprop((∃ f, xM.view.loc (c.tc : Thread nD τ) ↦[Finset.univ]{fullShare} f) ∗ (∃ X, owns (c.tc : Thread nD τ) nM fullShare X)
    ∗ (∃ r, prngReg c r) ∗ (semVal ((c.tc : Thread nD τ), .dma (cell 0)) 0 ∗ semVal ((c.tc : Thread nD τ), .dma (cell 1)) 0)
    ∗ Hid c (Hm m c) ∗ Tab c (Tm m c))

/-- Between points: the next expert's copies in flight. -/
def Mid (c : Dev nD) (i : grid0.Coords) : sProp 𝕄 :=
  iprop(∃ g f, St c g (Hm m c) (Rw m c (nx i)) (Tm m c) iprop((∃ r, prngReg c r) ∗ Slot c (cslot i) f
    ∗ semVal ((c.tc : Thread nD τ), .dma (cell (cslot i))) 0 ∗ Rest c (Hm m c) (Rw m c (nx i))
    ∗ owns (c.tc : Thread nD τ) nM fullShare (Xn m c (i 0).val)) i 192)

/-- The invariant before point `n`. -/
def PhiN (c : Dev nD) (n : ℕ) : sProp 𝕄 :=
  if h : 0 < n ∧ n < grid0.N then Mid m c (grid0.coords ⟨n - 1, by omega⟩) else Init m c

/-- The proof data on a core. -/
def dats (p : Fin 1) (c : Dev nD) : Dat τ (Elt F) Unit ℕ (Pipeline.UD sig nD τ) ℕ (Pipeline.pin pcfgs (aT m) p) c where
  A w := Vm m c (Pipeline.arrRef spec0 w)
  after w t := match w with
    | 0 => G1 m c t
    | 1 => G2 m c t
    | 2 => G3 m c t
    | 3 => outN m c t.val t.isLt
    | ⟨_ + 4, h⟩ => absurd h (Nat.not_lt.2 (Nat.le_add_left _ _))
  Φ t := PhiN m c t.val
  q _ := fullShare
  owed _ := 0

theorem in_before0 (c : Dev nD) (t : Fin grid0.N) (d) : (dats m 0 c).before 0 t d = G1 m c t :=
  ((dats m 0 c).before_in_eq_fetched 0 rfl (fun _ => rfl) (fun _ _ _ => rfl) (fun _ => rfl) t d).trans rfl
theorem in_before1 (c : Dev nD) (t : Fin grid0.N) (d) : (dats m 0 c).before 1 t d = G2 m c t :=
  ((dats m 0 c).before_in_eq_fetched 1 rfl (fun _ => rfl) (fun _ _ _ => rfl) (fun _ => rfl) t d).trans rfl
theorem in_before2 (c : Dev nD) (t : Fin grid0.N) (d) : (dats m 0 c).before 2 t d = G3 m c t :=
  ((dats m 0 c).before_in_eq_fetched 2 rfl (fun _ => rfl) (fun _ _ _ => rfl) (fun _ => rfl) t d).trans rfl
theorem out_before (c : Dev nD) (t : Fin grid0.N) (d) (h : t.val % 11 ≠ 0) :
    (dats m 0 c).before 3 t d = outN m c (t.val - 1) (Nat.lt_of_le_of_lt (Nat.sub_le _ _) t.isLt) := by
  refine ((dats m 0 c).before_out_kept 3 rfl t (by omega) ?_ (fun _ => rfl) (fun _ _ => rfl) d).trans rfl
  refine (out_flush (aT m 0) ⟨t.val - 1, Nat.lt_of_le_of_lt (Nat.sub_le _ _) t.isLt⟩).trans ?_
  rw [decide_eq_false_iff_not]
  change ¬ (t.val - 1) % 11 = 10
  omega

end Cert.Kernel.Ffn
-- ==== Proof.K.Body.lean ====
module

public import proofs.«01_k».proof.Proof.K.Data

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
open Cert.Kernel.Gen

local notation "𝕄" => MT nD τ sig Unit (Elt F) ℕ (Pipeline.UD sig nD τ) ℕ

variable {m : (ℓ : Loc nD τ sig) → Buf (Elt F) ℓ}

theorem Tr {A B C : sProp 𝕄} (h : A ⊢ B) (h' : B ⊢ C) : A ⊢ C := h.trans h'

theorem open2 {α β : Type} {A : α → β → sProp 𝕄} {B C : sProp 𝕄} (h : ∀ g f, iprop(A g f ∗ B) ⊢ C) : iprop((∃ g f, A g f) ∗ B) ⊢ C := by
  iintro ⟨⟨%g, %f, H⟩, HB⟩
  iapply (h g f)
  isplitl [H]; · iexact H
  iexact HB

/-! ## From one point to the next -/

/-- A step that continues an expert finds what the step before it left. -/
theorem mid_same {c : Dev nD} {g : Buf (Elt F) (xM.view.loc (c.tc : Thread nD τ))} {H : Buf (Elt F) (hM.view.loc (c.tc : Thread nD τ))}
    {R : Fin 2112 → Fin 16384} {T : Buf (Elt F) (tM.view.loc (c.tc : Thread nD τ))} {P : sProp 𝕄} {i' i : grid0.Coords}
    (h0 : (i 0).val = (i' 0).val) (h1 : (i 1).val = (i' 1).val + 1) :
    St c g H R T P i' 192 = St c g H R T P i 0 := by
  unfold St
  rw [show nslot i' = nslot i from by unfold nslot; apply Fin.ext; change 1 - (i' 0).val % 2 = 1 - (i 0).val % 2; rw [h0],
    show rowNo i' 192 = rowNo i 0 from by unfold rowNo; omega]
theorem nx_same {i' i : grid0.Coords} (h0 : (i 0).val = (i' 0).val) : nx i' = nx i := by unfold nx; rw [h0]
theorem cslot_same {i' i : grid0.Coords} (h0 : (i 0).val = (i' 0).val) : cslot i' = cslot i := by
  unfold cslot; apply Fin.ext; change (i' 0).val % 2 = (i 0).val % 2; rw [h0]

variable {c : Dev nD} {a4 a5 : Memref sig .tc .vmem S1x1024x256 .f32} {h2 : tM.IsWhole} {h3 : hM.IsWhole} {h4 : a4.IsWhole} {h5 : a5.IsWhole}
  {a6 : Memref sig .tc .vmem S1x256x1024 .f32} {h6 : a6.IsWhole} {a7 : Memref sig .tc .vmem S2x1x1024x1024 .f32} {h7 : a7.IsWhole}
  {h8 : xM.IsWhole} {h9 : nM.IsWhole} {W1 W2 : Vec F S1x1024x256 .f32} {W3 : Vec F S1x256x1024 .f32} {Y : Vec F S2x1x1024x1024 .f32}

/-- What a point leaves. -/
def Post (m : (ℓ : Loc nD τ sig) → Buf (Elt F) ℓ) (c : Dev nD) (a4 a5 : Memref sig .tc .vmem S1x1024x256 .f32) (a6 : Memref sig .tc .vmem S1x256x1024 .f32) (a7 : Memref sig .tc .vmem S2x1x1024x1024 .f32)
    (W1 W2 : Vec F S1x1024x256 .f32) (W3 : Vec F S1x256x1024 .f32) (n : ℕ) (Y : Vec F S2x1x1024x1024 .f32) : sProp 𝕄 :=
  iprop(PhiN m c n ∗ Ow c ∗ Ins c a4 a5 a6 fullShare fullShare fullShare W1 W2 W3 ∗ owns (c.tc : Thread nD τ) a7 fullShare Y)

/-- A point that is not the last leaves the next expert's copies in flight. -/
theorem post_mid (t : Fin grid0.N) {g : Buf (Elt F) (xM.view.loc (c.tc : Thread nD τ))} (ht : t.val ≠ 175) {Y : Vec F S2x1x1024x1024 .f32} :
    St c g (Hm m c) (Rw m c (nx (grid0.coords t))) (Tm m c) (Rem c (grid0.coords t) a4 a5 a6 a7 (Hm m c) (Rw m c (grid0.coords t 0).val) (Rw m c (nx (grid0.coords t))) fullShare fullShare fullShare W1 W2 W3 Y) (grid0.coords t) 192
      ⊢ iprop((∃ r, prngReg c r) -∗ Post m c a4 a5 a6 a7 W1 W2 W3 (t.val + 1) Y) := by
  have hlt := pt_lt t
  unfold Post PhiN
  rw [dif_pos ⟨Nat.succ_pos _, lt_of_lt_of_eq (by omega) N_0.symm⟩]
  change _ ⊢ iprop(_ -∗ Mid m c (grid0.coords t) ∗ _)
  unfold Mid St Rem Work
  iintro ⟨HT, ⟨⟨HIn, ⟨%f, HS⟩, Hv, HR, HO, HX, HY⟩, HI⟩⟩ Hp
  isplitr [HO HIn HY]
  · iexists g, f
    isplitl [HT]; · iexact HT
    isplitr [HI]; swap; · iexact HI
    isplitl [Hp]; · iexact Hp
    isplitl [HS]; · iexact HS
    isplitl [Hv]; · iexact Hv
    isplitl [HR]; · iexact HR
    iexact HX
  isplitl [HO]; · iexact HO
  isplitl [HIn]; · iexact HIn
  iexact HY

/-- The last point waits for the copies that nobody uses. -/
theorem post_last (t : Fin grid0.N) {g : Buf (Elt F) (xM.view.loc (c.tc : Thread nD τ))} (hc : k0_cond3 (grid0.coords t) = 1#1) {Y : Vec F S2x1x1024x1024 .f32} :
    St c g (Hm m c) (Rw m c (nx (grid0.coords t))) (Tm m c) (Rem c (grid0.coords t) a4 a5 a6 a7 (Hm m c) (Rw m c (grid0.coords t 0).val) (Rw m c (nx (grid0.coords t))) fullShare fullShare fullShare W1 W2 W3 Y) (grid0.coords t) 192
      ⊢ wpF c (Scf.Loop.for k0_t13_loop (k0_t13_ok (grid0.coords t) hc) () (k0_t13_body (grid0.coords t) tM h2 hM h3 a4 h4 a5 h5 a6 h6 a7 h7 xM h8 nM h9 cc0_scratch2 hc)
          >>= fun _ => (pure ⟨⟩ : Prog (TpuEff nD τ sig (Elt F) Λ₀ .tc) PUnit))
        (fun _ => iprop((∃ r, prngReg c r) -∗ Post m c a4 a5 a6 a7 W1 W2 W3 (t.val + 1) Y)) := by
  have hlt := pt_lt t
  have hcc := (cond3_iff _).1 hc
  have e0 := coord0 t
  have e1 := coord1 t
  have hs : nslot (grid0.coords t) = 0 := by apply Fin.ext; change 1 - (grid0.coords t 0).val % 2 = 0; rw [hcc.1]
  have hs' : cslot (grid0.coords t) = 1 := by apply Fin.ext; change (grid0.coords t 0).val % 2 = 1; rw [hcc.1]
  refine Tr (B := Wt c (nslot (grid0.coords t)) g (Hm m c) (Rw m c (nx (grid0.coords t))) iprop(Tab c (Tm m c) ∗ Rest c (Hm m c) (Rw m c (nx (grid0.coords t)))
    ∗ Ins c a4 a5 a6 fullShare fullShare fullShare W1 W2 W3 ∗ (∃ f, Slot c (cslot (grid0.coords t)) f) ∗ semVal ((c.tc : Thread nD τ), .dma (cell (cslot (grid0.coords t)))) 0
    ∗ owns (c.tc : Thread nD τ) nM fullShare (Xn m c (grid0.coords t 0).val) ∗ owns (c.tc : Thread nD τ) a7 fullShare Y) 0) ?_ ?_
  · unfold St Rem Work Wt
    rw [show rowNo (grid0.coords t) 192 = 2112 from by unfold rowNo; rw [hcc.2], Nat.mul_zero]
    iintro ⟨HT, ⟨⟨HIn, HS, Hv, HR, HO, HX, HY⟩, HI⟩⟩
    isplitr [HI HO]
    · isplitl [HT]; · iexact HT
      isplitl [HR]; · iexact HR
      isplitl [HIn]; · iexact HIn
      isplitl [HS]; · iexact HS
      isplitl [Hv]; · iexact Hv
      isplitl [HX]; · iexact HX
      iexact HY
    isplitl [HI]; · iexact HI
    iexact HO
  refine wait13 hc ?_
  change _ ⊢ (|={Set.univ}=> iprop((∃ r, prngReg c r) -∗ Post m c a4 a5 a6 a7 W1 W2 W3 (t.val + 1) Y) : sProp 𝕄)
  rw [hs, hs']
  unfold Wt Post PhiN
  rw [dif_neg (fun h => by have := lt_of_lt_of_eq h.2 N_0; omega)]
  unfold Init
  iintro ⟨⟨HT, HR, HIn, ⟨%f, HS⟩, Hv, HX, HY⟩, HI, HO⟩
  imod (close_batch c 0 g (Hm m c) (Rw m c (nx (grid0.coords t)))) $$ [HI HR] with ⟨HS', HH, Hv'⟩
  · isplitl [HI]; · iexact HI
    iexact HR
  imodintro
  iintro Hp
  isplitr [HO HIn HY]
  · isplitl [HS HS']
    · iapply (slots_join c _ f)
      isplitl [HS']; · iexact HS'
      iexact HS
    isplitl [HX]; · iexists _; iexact HX
    isplitl [Hp]; · iexact Hp
    isplitl [Hv Hv']
    · isplitl [Hv']; · iexact Hv'
      iexact Hv
    isplitl [HH]; · iexact HH
    iexact HT
  isplitl [HO]; · iexact HO
  isplitl [HIn]; · iexact HIn
  iexact HY

/-- What a point starts from, besides the invariant. -/
def Have (c : Dev nD) (a4 a5 : Memref sig .tc .vmem S1x1024x256 .f32) (a6 : Memref sig .tc .vmem S1x256x1024 .f32) (a7 : Memref sig .tc .vmem S2x1x1024x1024 .f32)
    (W1 W2 : Vec F S1x1024x256 .f32) (W3 : Vec F S1x256x1024 .f32) (Y : Vec F S2x1x1024x1024 .f32) : sProp 𝕄 :=
  iprop(Ow c ∗ Ins c a4 a5 a6 fullShare fullShare fullShare W1 W2 W3 ∗ owns (c.tc : Thread nD τ) a7 fullShare Y)

/-- The step run from whatever its first part starts from, the generator's register set aside. -/
theorem point_run (hin : InRows m) (t : Fin grid0.N) {A : sProp 𝕄} {Y' : Vec F S2x1x1024x1024 .f32} {g : Buf (Elt F) (xM.view.loc (c.tc : Thread nD τ))}
    (h4' : ∀ {Q}, (∀ a b d e, St c g (Hm m c) (Rw m c (nx (grid0.coords t))) (Tm m c) (Rem c (grid0.coords t) a4 a5 a6 a7 (Hm m c) (Rw m c (grid0.coords t 0).val) (Rw m c (nx (grid0.coords t))) fullShare fullShare fullShare W1 W2 W3 Y') (grid0.coords t) 1 ⊢ Q ⟨a, b, d, e⟩) →
      A ⊢ wpF c (k0_part4 (grid0.coords t) tM h2 hM h3 a4 h4 a5 h5 a6 h6 a7 h7 xM h8 nM h9 cc0_scratch2) Q) :
    iprop(A ∗ ∃ r, prngReg c r) ⊢ wpF c (cc0_ffn (grid0.coords t) tM h2 hM h3 a4 h4 a5 h5 a6 h6 a7 h7 xM h8 nM h9 cc0_scratch2)
      (fun _ => Post m c a4 a5 a6 a7 W1 W2 W3 (t.val + 1) (stepOut W1 W2 W3 (Xn m c (grid0.coords t 0).val) Y')) := by
  have hlt := pt_lt t
  have e0 := coord0 t
  have e1 := coord1 t
  have hs : A ⊢ wpF c (cc0_ffn (grid0.coords t) tM h2 hM h3 a4 h4 a5 h5 a6 h6 a7 h7 xM h8 nM h9 cc0_scratch2)
      (fun _ => iprop((∃ r, prngReg c r) -∗ Post m c a4 a5 a6 a7 W1 W2 W3 (t.val + 1) (stepOut W1 W2 W3 (Xn m c (grid0.coords t 0).val) Y'))) := by
    refine step_wp (R := Rw m c (grid0.coords t 0).val) (R' := Rw m c (nx (grid0.coords t))) (T := Tm m c) (g := g) (H := Hm m c) (Y := Y') (named hin c _) h4' ?_ ?_
    · intro h
      refine post_mid t ?_
      intro h'
      exact h ((cond3_iff _).2 ⟨by rw [e0, h'], by rw [e1, h']⟩)
    · intro hc
      exact post_last t hc
  refine (sep_mono hs .rfl).trans ?_
  refine Tr (wp_frame_r _ _ _) (wp_mono _ _ _ fun _ => ?_)
  iintro ⟨H, Hp⟩
  iapply H
  iexact Hp

/-- A point that continues an expert. -/
theorem point_mid (hin : InRows m) (t : Fin grid0.N) (ht : t.val % 11 ≠ 0) :
    iprop(PhiN m c t.val ∗ Have c a4 a5 a6 a7 W1 W2 W3 Y) ⊢ wpF c (cc0_ffn (grid0.coords t) tM h2 hM h3 a4 h4 a5 h5 a6 h6 a7 h7 xM h8 nM h9 cc0_scratch2)
      (fun _ => Post m c a4 a5 a6 a7 W1 W2 W3 (t.val + 1) (stepOut W1 W2 W3 (Xn m c (grid0.coords t 0).val) Y)) := by
  have hlt := pt_lt t
  have e0 := coord0 t
  have e1 := coord1 t
  have hp : t.val - 1 < grid0.N := Nat.lt_of_le_of_lt (Nat.sub_le _ _) t.isLt
  have f0 := coord0 ⟨t.val - 1, hp⟩
  have f1 := coord1 ⟨t.val - 1, hp⟩
  have g0 : (grid0.coords t 0).val = (grid0.coords ⟨t.val - 1, hp⟩ 0).val := by rw [e0, f0]; change t.val / 11 = (t.val - 1) / 11; omega
  have g1 : (grid0.coords t 1).val = (grid0.coords ⟨t.val - 1, hp⟩ 1).val + 1 := by rw [e1, f1]; change t.val % 11 = (t.val - 1) % 11 + 1; omega
  have hn1 : ¬ k0_cond1 (grid0.coords t) = 1#1 := fun h => ht (by have := ((cond1_iff _).1 h).2; omega)
  have hn2 : ¬ k0_cond2 (grid0.coords t) = 1#1 := fun h => ht (by have := ((cond2_iff _).1 h); omega)
  unfold PhiN
  rw [dif_pos ⟨by omega, t.isLt⟩]
  unfold Mid
  rw [nx_same g0, cslot_same g0, ← g0]
  refine Tr (B := iprop(∃ g, (St c g (Hm m c) (Rw m c (nx (grid0.coords t))) (Tm m c) (Rem c (grid0.coords t) a4 a5 a6 a7 (Hm m c) (Rw m c (grid0.coords t 0).val) (Rw m c (nx (grid0.coords t))) fullShare fullShare fullShare W1 W2 W3 Y) (grid0.coords t) 0) ∗ ∃ r, prngReg c r)) ?_ ?_
  · refine open2 fun g f => ?_
    rw [mid_same g0 g1]
    unfold St Rem Work Have
    iintro ⟨⟨HT, ⟨Hp, HS, Hv, HR, HX⟩, HI⟩, HO, HIn, HY⟩
    iexists g
    isplitr [Hp]; swap; · iexact Hp
    isplitl [HT]; · iexact HT
    isplitr [HI]; swap; · iexact HI
    isplitl [HIn]; · iexact HIn
    isplitl [HS]; · iexists f; iexact HS
    isplitl [Hv]; · iexact Hv
    isplitl [HR]; · iexact HR
    isplitl [HO]; · iexact HO
    isplitl [HX]; · iexact HX
    iexact HY
  refine exists_elim fun g => ?_
  exact point_run hin t (g := g) (fun hQ => p4_mid (named hin c _) hn1 hn2 hQ)

/-- A point that starts an expert other than the first. -/
theorem point_next (hin : InRows m) (t : Fin grid0.N) (ht : t.val % 11 = 0) (ht0 : t.val ≠ 0) :
    iprop(PhiN m c t.val ∗ Have c a4 a5 a6 a7 W1 W2 W3 Y) ⊢ wpF c (cc0_ffn (grid0.coords t) tM h2 hM h3 a4 h4 a5 h5 a6 h6 a7 h7 xM h8 nM h9 cc0_scratch2)
      (fun _ => Post m c a4 a5 a6 a7 W1 W2 W3 (t.val + 1) (stepOut W1 W2 W3 (Xn m c (grid0.coords t 0).val) (k0_pay14 (F := F)))) := by
  have hlt := pt_lt t
  have e0 := coord0 t
  have e1 := coord1 t
  have hp : t.val - 1 < grid0.N := Nat.lt_of_le_of_lt (Nat.sub_le _ _) t.isLt
  have f0 := coord0 ⟨t.val - 1, hp⟩
  have f1 := coord1 ⟨t.val - 1, hp⟩
  have g0 : (grid0.coords ⟨t.val - 1, hp⟩ 0).val + 1 = (grid0.coords t 0).val := by rw [e0, f0]; change (t.val - 1) / 11 + 1 = t.val / 11; omega
  have g1 : (grid0.coords ⟨t.val - 1, hp⟩ 1).val = 10 := by rw [f1]; change (t.val - 1) % 11 = 10; omega
  have hn1 : ¬ k0_cond1 (grid0.coords t) = 1#1 := fun h => ht0 (by have := ((cond1_iff _).1 h); omega)
  have hn2 : k0_cond2 (grid0.coords t) = 1#1 := (cond2_iff _).2 (by omega)
  unfold PhiN
  rw [dif_pos ⟨by omega, t.isLt⟩]
  unfold Mid
  rw [show nx (grid0.coords ⟨t.val - 1, hp⟩) = (grid0.coords t 0).val from by have := lt0 (grid0.coords t); unfold nx; omega,
    show cslot (grid0.coords ⟨t.val - 1, hp⟩) = nslot (grid0.coords t) from by
      apply Fin.ext; change (grid0.coords ⟨t.val - 1, hp⟩ 0).val % 2 = 1 - (grid0.coords t 0).val % 2; omega]
  refine Tr (B := iprop(∃ f g, (Wt c (cslot (grid0.coords t)) f (Hm m c) (Rw m c (grid0.coords t 0).val) iprop(Tab c (Tm m c) ∗ Rest c (Hm m c) (Rw m c (grid0.coords t 0).val)
      ∗ Pre c (grid0.coords t) a7 g (Ins c a4 a5 a6 fullShare fullShare fullShare W1 W2 W3)) 0) ∗ ∃ r, prngReg c r)) ?_ ?_
  · refine open2 fun g f => ?_
    unfold St Wt Pre Have
    rw [show nslot (grid0.coords ⟨t.val - 1, hp⟩) = cslot (grid0.coords t) from by
      apply Fin.ext; change 1 - (grid0.coords ⟨t.val - 1, hp⟩ 0).val % 2 = (grid0.coords t 0).val % 2; omega,
      show rowNo (grid0.coords ⟨t.val - 1, hp⟩) 192 = 2112 from by unfold rowNo; rw [g1], Nat.mul_zero]
    iintro ⟨⟨HT, ⟨Hp, HS, Hv, HR, HX⟩, HI⟩, HO, HIn, HY⟩
    iexists g, f
    isplitr [Hp]; swap; · iexact Hp
    isplitr [HI HO]
    · isplitl [HT]; · iexact HT
      isplitl [HR]; · iexact HR
      isplitl [HIn]; · iexact HIn
      isplitl [HS]; · iexact HS
      isplitl [Hv]; · iexact Hv
      isplitl [HX]; · iexists _; iexact HX
      iexists _; iexact HY
    isplitl [HI]; · iexact HI
    iexact HO
  refine exists_elim fun f => exists_elim fun g => ?_
  exact point_run hin t (g := g) (fun hQ => p4_next (named hin c _) hn1 hn2 hQ)

/-- The very first point. -/
theorem point_first (hin : InRows m) (t : Fin grid0.N) (ht : t.val = 0) :
    iprop(PhiN m c t.val ∗ Have c a4 a5 a6 a7 W1 W2 W3 Y) ⊢ wpF c (cc0_ffn (grid0.coords t) tM h2 hM h3 a4 h4 a5 h5 a6 h6 a7 h7 xM h8 nM h9 cc0_scratch2)
      (fun _ => Post m c a4 a5 a6 a7 W1 W2 W3 (t.val + 1) (stepOut W1 W2 W3 (Xn m c (grid0.coords t 0).val) (k0_pay14 (F := F)))) := by
  have e0 := coord0 t
  have e1 := coord1 t
  have z0 : (grid0.coords t 0).val = 0 := by rw [e0, ht]
  have z1 : (grid0.coords t 1).val = 0 := by rw [e1, ht]
  have hn1 : k0_cond1 (grid0.coords t) = 1#1 := (cond1_iff _).2 ⟨z0, z1⟩
  have hn2 : k0_cond2 (grid0.coords t) = 1#1 := (cond2_iff _).2 z1
  have hs : nslot (grid0.coords t) = 1 := by apply Fin.ext; change 1 - (grid0.coords t 0).val % 2 = 1; rw [z0]
  unfold PhiN
  rw [dif_neg (by omega)]
  unfold Init
  have key : iprop(((∃ f, xM.view.loc (c.tc : Thread nD τ) ↦[Finset.univ]{fullShare} f) ∗ (∃ X, owns (c.tc : Thread nD τ) nM fullShare X)
    ∗ (∃ r, prngReg c r) ∗ (semVal ((c.tc : Thread nD τ), .dma (cell 0)) 0 ∗ semVal ((c.tc : Thread nD τ), .dma (cell 1)) 0)
    ∗ Hid c (Hm m c) ∗ Tab c (Tm m c)) ∗ Have c a4 a5 a6 a7 W1 W2 W3 Y)
      ⊢ (|={Set.univ}=> iprop(∃ f, (S0 c f (Hm m c) (Rw m c 0) (Tm m c) iprop((Rest c (Hm m c) (Rw m c 0) ∗ Pre c (grid0.coords t) a7 f (Ins c a4 a5 a6 fullShare fullShare fullShare W1 W2 W3)) ∗ Ow c) 0)
        ∗ ∃ r, prngReg c r) : sProp 𝕄) := by
    unfold Have S0 Pre
    rw [hs]
    iintro ⟨⟨⟨%f, Hx⟩, HX, Hp, ⟨Hv0, Hv1⟩, HH, HT⟩, HO, HIn, HY⟩
    ihave ⟨HS0, HS1⟩ := (slots_split c f) $$ Hx
    imod (open_batch c 0 f (Hm m c) (Rw m c 0)) $$ [HS0 HH Hv0] with ⟨HI, HR⟩
    · isplitl [HS0]; · iexact HS0
      isplitl [HH]; · iexact HH
      iexact Hv0
    imodintro
    iexists f
    isplitr [Hp]; swap; · iexact Hp
    isplitl [HT]; · iexact HT
    isplitr [HI]; swap; · iexact HI
    isplitr [HO]; swap; · iexact HO
    isplitl [HR]; · iexact HR
    isplitl [HIn]; · iexact HIn
    isplitl [HS1]; · iexact HS1
    isplitl [Hv1]; · iexact Hv1
    isplitl [HX]; · iexact HX
    iexists _; iexact HY
  refine (key.trans (fupd_mono ?_)).trans (fupd_wp _ _ _ _ _)
  refine exists_elim fun g => ?_
  have hr : Rw m c (grid0.coords t 0).val = Rw m c 0 := by rw [z0]
  refine point_run hin t (g := g) (fun hQ => ?_)
  exact p4_first (g := g) (named0 hin c) (named hin c _) hn1 hn2 (by rw [← hr]; exact hQ)

end Cert.Kernel.Ffn
-- ==== Proof.K.Run.lean ====
module

public import proofs.«01_k».proof.Proof.K.Body

@[expose] public section

set_option maxRecDepth 16384

noncomputable section

namespace Cert.Kernel.Ffn

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]
open Cert.Kernel.Gen

local notation "𝕄" => MT nD τ sig Unit (Elt F) ℕ (Pipeline.UD sig nD τ) ℕ

variable {m : (ℓ : Loc nD τ sig) → Buf (Elt F) ℓ}

theorem after_zero (c : Dev nD) (t : Fin grid0.N) (h : t.val % 11 = 0) :
    outN m c t.val t.isLt = stepOut (G1 m c t) (G2 m c t) (G3 m c t) (Xn m c (grid0.coords t 0).val) (k0_pay14 (F := F)) := by
  rw [coord0]
  obtain ⟨n, hn⟩ := t
  cases n with
  | zero => simp only [outN, Nat.zero_div]
  | succ n => unfold outN; rw [if_pos h]
theorem after_succ (c : Dev nD) (t : Fin grid0.N) (h : t.val % 11 ≠ 0) :
    outN m c t.val t.isLt = stepOut (G1 m c t) (G2 m c t) (G3 m c t) (Xn m c (grid0.coords t 0).val)
      (outN m c (t.val - 1) (Nat.lt_of_le_of_lt (Nat.sub_le _ _) t.isLt)) := by
  rw [coord0]
  obtain ⟨n, hn⟩ := t
  cases n with
  | zero => exact absurd rfl h
  | succ n => rw [outN, if_neg h]; rfl

/-- A point, from what the launch hands it to what it takes back. -/
theorem point (hin : InRows m) (c : Dev nD) (t : Fin grid0.N) {a4 a5 : Memref sig .tc .vmem S1x1024x256 .f32} {h2 : tM.IsWhole} {h3 : hM.IsWhole} {h4 : a4.IsWhole} {h5 : a5.IsWhole}
    {a6 : Memref sig .tc .vmem S1x256x1024 .f32} {h6 : a6.IsWhole} {a7 : Memref sig .tc .vmem S2x1x1024x1024 .f32} {h7 : a7.IsWhole}
    {h8 : xM.IsWhole} {h9 : nM.IsWhole} {Y : Vec F S2x1x1024x1024 .f32}
    (hY : ∀ h : t.val % 11 ≠ 0, Y = outN m c (t.val - 1) (Nat.lt_of_le_of_lt (Nat.sub_le _ _) t.isLt)) :
    iprop(PhiN m c t.val ∗ Have c a4 a5 a6 a7 (G1 m c t) (G2 m c t) (G3 m c t) Y) ⊢ wpF c (cc0_ffn (grid0.coords t) tM h2 hM h3 a4 h4 a5 h5 a6 h6 a7 h7 xM h8 nM h9 cc0_scratch2)
      (fun _ => Post m c a4 a5 a6 a7 (G1 m c t) (G2 m c t) (G3 m c t) (t.val + 1) (outN m c t.val t.isLt)) := by
  by_cases h : t.val % 11 = 0
  · rw [after_zero c t h]
    by_cases h0 : t.val = 0
    · exact point_first hin t h0
    · exact point_next hin t h h0
  · rw [after_succ c t h, hY h]
    exact point_mid hin t h

theorem q_eq (c : Dev nD) (t : Fin grid0.N) : (dats m 0 c).Φ t.castSucc ⊢ PhiN m c t.val := .rfl
theorem q_succ (c : Dev nD) (t : Fin grid0.N) : PhiN m c (t.val + 1) ⊢ (dats m 0 c).Φ t.succ := .rfl

/-- The body obligation of the launch. -/
theorem body_obligation (hin : InRows m) (c : Dev nD) :
    BodyObligation (dats m 0 c) (defs₀ (F := F)) Variants.none () Set.univ := fun t => by
  rw [bigSep_W0, bigSep_W0]
  have hrow : defs₀ (F := F) .tc (cfg0 (aT m 0)).body ((cfg0 (aT m 0)).bodyArgs t ((cfg0 (aT m 0)).slots t))
      = cc0_ffn (grid0.coords t) tM (Memref.isWhole_whole _) hM (Memref.isWhole_whole _) (spec0_0.stage ((cfg0 (aT m 0)).slots t 0)) (hstage0_0 (((cfg0 (aT m 0)).slots t 0).cast nbuf0_0))
          (spec0_1.stage ((cfg0 (aT m 0)).slots t 1)) (hstage0_1 (((cfg0 (aT m 0)).slots t 1).cast nbuf0_1)) (spec0_2.stage ((cfg0 (aT m 0)).slots t 2)) (hstage0_2 (((cfg0 (aT m 0)).slots t 2).cast nbuf0_2))
          (spec0_3.stage ((cfg0 (aT m 0)).slots t 3)) (hstage0_3 (((cfg0 (aT m 0)).slots t 3).cast nbuf0_3)) xM (Memref.isWhole_whole _) nM (Memref.isWhole_whole _) cc0_scratch2 := by
    unfold defs₀; rw [Defs.onTc_tc]
  refine triple_restated (P := iprop(∃ Y, ⌜∀ h : t.val % 11 ≠ 0, Y = outN m c (t.val - 1) (Nat.lt_of_le_of_lt (Nat.sub_le _ _) t.isLt)⌝ ∗ PhiN m c t.val ∗ Have c (spec0_0.stage ((cfg0 (aT m 0)).slots t 0)) (spec0_1.stage ((cfg0 (aT m 0)).slots t 1))
      (spec0_2.stage ((cfg0 (aT m 0)).slots t 2)) (spec0_3.stage ((cfg0 (aT m 0)).slots t 3)) (G1 m c t) (G2 m c t) (G3 m c t) Y))
    (W := wp frame (wpE (defs₀ (F := F)) Variants.none (c.tc : Thread nD τ) none) Set.univ _)
    (Q := fun _ => Post m c (spec0_0.stage ((cfg0 (aT m 0)).slots t 0)) (spec0_1.stage ((cfg0 (aT m 0)).slots t 1))
      (spec0_2.stage ((cfg0 (aT m 0)).slots t 2)) (spec0_3.stage ((cfg0 (aT m 0)).slots t 3)) (G1 m c t) (G2 m c t) (G3 m c t) (t.val + 1) (outN m c t.val t.isLt)) ?_
    (congrArg _ hrow.symm) ?_ fun _ => ?_
  · iintro ⟨%Y, %hY, HH⟩
    iapply (point hin c t hY)
    iexact HH
  · have o0 : ∀ d, owns (c.tc : Thread nD τ) ((win0 (aT m 0) 0).stage ((cfg0 (aT m 0)).slots t 0)) fullShare ((dats m 0 c).before 0 t d)
        ⊢ (owns (c.tc : Thread nD τ) (spec0_0.stage ((cfg0 (aT m 0)).slots t 0)) fullShare (G1 m c t) : sProp 𝕄) := fun d => Entails.of_eq (congrArg (fun X => (owns (c.tc : Thread nD τ) (spec0_0.stage ((cfg0 (aT m 0)).slots t 0)) fullShare X : sProp 𝕄)) (in_before0 m c t d))
    have o1 : ∀ d, owns (c.tc : Thread nD τ) ((win0 (aT m 0) 1).stage ((cfg0 (aT m 0)).slots t 1)) fullShare ((dats m 0 c).before 1 t d)
        ⊢ (owns (c.tc : Thread nD τ) (spec0_1.stage ((cfg0 (aT m 0)).slots t 1)) fullShare (G2 m c t) : sProp 𝕄) := fun d => Entails.of_eq (congrArg (fun X => (owns (c.tc : Thread nD τ) (spec0_1.stage ((cfg0 (aT m 0)).slots t 1)) fullShare X : sProp 𝕄)) (in_before1 m c t d))
    have o2 : ∀ d, owns (c.tc : Thread nD τ) ((win0 (aT m 0) 2).stage ((cfg0 (aT m 0)).slots t 2)) fullShare ((dats m 0 c).before 2 t d)
        ⊢ (owns (c.tc : Thread nD τ) (spec0_2.stage ((cfg0 (aT m 0)).slots t 2)) fullShare (G3 m c t) : sProp 𝕄) := fun d => Entails.of_eq (congrArg (fun X => (owns (c.tc : Thread nD τ) (spec0_2.stage ((cfg0 (aT m 0)).slots t 2)) fullShare X : sProp 𝕄)) (in_before2 m c t d))
    unfold Have Ins Ow Dat.owesAt Pipeline.owesWithin
    rw [show (dats m 0 c).owed t.castSucc = 0 from rfl]
    iintro ⟨HP, ⟨%W, -, HO⟩, ⟨%d0, H0⟩, ⟨%d1, H1⟩, ⟨%d2, H2⟩, ⟨%d3, H3⟩⟩
    iexists ((dats m 0 c).before 3 t d3)
    isplitr
    · ipureintro; exact fun h => out_before m c t d3 h
    isplitl [HP]; · iapply (q_eq c t); iexact HP
    isplitl [HO]; · iexists W; iexact HO
    isplitr [H3]; swap; · iexact H3
    isplitl [H0]; · iapply (o0 d0); iexact H0
    isplitl [H1]; · iapply (o1 d1); iexact H1
    iapply (o2 d2); iexact H2
  · unfold Post Ins Ow Dat.owesAt Pipeline.owesWithin
    rw [show (dats m 0 c).owed t.succ = 0 from rfl]
    iintro ⟨HP, ⟨%W, HO⟩, ⟨H0, H1, H2⟩, H3⟩
    isplitl [HP]; · iapply (q_succ c t); iexact HP
    isplitl [HO]
    · iexists W
      isplitr; · ipureintro; exact fun _ _ => Or.inl trivial
      iexact HO
    isplitl [H0]; · iexact H0
    isplitl [H1]; · iexact H1
    isplitl [H2]; · iexact H2
    iexact H3

/-! ## The launch -/

/-- The kernel's own semaphores. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c.tc : Thread nD τ), .dma (cell 0)) 0 ∗ semVal ((c.tc : Thread nD τ), .dma (cell 1)) 0) := by
  rw [Pipeline.ownSems0_eq_of_list c osem0 [0, 1] (by decide) (by decide)]; rfl
/-- The hidden rows stay in HBM. -/
def H0 : Finset (Ref sig .tc) := {main_arg1}
theorem H0_sub : H0 ⊆ Pipeline.restRefsP sig pre0 spec0 := by decide
theorem hbm_eq (m : (ℓ : Loc nD τ sig) → Buf (Elt F) ℓ) (c : Dev nD) :
    (bigSep H0 (fun b => ((c.tc : Thread nD τ).loc b) ↦{fullShare} Vm m c b) : sProp 𝕄) = Hid c (Hm m c) := by
  rw [BI.bigSep_eq_bigSepL_of_eq [main_arg1] (by decide) (by decide)]; rfl

theorem PhiD_eq (m : (ℓ : Loc nD τ sig) → Buf (Elt F) ℓ) (c : Dev nD) :
    (Pipeline.ΦD osem0 spec0 H0 (Vm m) c : sProp 𝕄)
      = iprop(iprop((∃ f, xM.view.loc (c.tc : Thread nD τ) ↦[Finset.univ]{fullShare} f) ∗ (∃ X, owns (c.tc : Thread nD τ) nM fullShare X)) ∗ (∃ r, prngReg c r)
          ∗ iprop(semVal ((c.tc : Thread nD τ), .dma (cell 0)) 0 ∗ semVal ((c.tc : Thread nD τ), .dma (cell 1)) 0) ∗ Hid c (Hm m c)) := by
  rw [Pipeline.ΦD_eq, scopedRest0_eq, ownSems00_eq, hbm_eq]; simp only [owns_whole]; rfl

theorem preT_eq (m : (ℓ : Loc nD τ sig) → Buf (Elt F) ℓ) (c : Dev nD) :
    (Pipeline.ΦT pre0 (aT m 0).1 c : sProp 𝕄) = Tab c (Tm m c) := by
  unfold Tab
  rw [show c = 0 from dev_eq c, show tM.view.set = Finset.univ from View.set_whole _]
  unfold Pipeline.ΦT Pipeline.prefHeld
  rw [BI.bigSep_univ_eq_bigSepL [(0 : Fin 1)] (by decide) (by decide)]; rfl

theorem hmainF (m : (ℓ : Loc nD τ sig) → Buf (Elt F) ℓ) :
    Pipeline.HMainP (Ix := Unit) (Name := ℕ) (U := Pipeline.UD sig nD τ) (Lvl := ℕ) (pcfgs (F := F)) 0 defs₀ Variants.none m (main (F := F)) (Vm m) :=
  Pipeline.hmainP_prefixes pcfgs 0 defs₀ Variants.none m main [hostOps0, hostOps0_1, hostOps0_2] ⟨hostOps0_sub, hostOps0_1_sub, hostOps0_2_sub⟩
    ⟨⟨rfl, rfl, rfl, rfl, rfl, rfl, rfl, rfl, rfl, rfl⟩, ⟨rfl, rfl, rfl, rfl, rfl, rfl, rfl, rfl, rfl, rfl, rfl, rfl, rfl, rfl⟩, rfl⟩ main_chain

set_option backward.isDefEq.respectTransparency.types false in
/-- Whatever the arguments, so long as every word of the table names a hidden row: the program ends, the output array
    holds the blocks of the experts' last points, every other buffer is as it was. -/
theorem run_main (hin : InRows m) (ρ : Dev nD → PrngReg) :
    θ_run defs (onTc (τ := τ) (main (F := F))) (s₀ m ρ)
      (fun r => Pipeline.FramePost (Pipeline.pin pcfgs (aT m)) (dats m) 0 (Vm m) r ∧ r.2.sem = fun _ => 0) :=
  Pipeline.θ_run_frameP_dma (Q' := _) pcfgs (aT m) (dats m) (0 : Fin 1) launch0 osem0 defs₀ Variants.none ownSemFacts0 H0 H0_sub m ρ main
    (hbody := fun c => (body_obligation hin c).loose) (hshare := fun c => (dats m 0 c).share_full fun _ => rfl)
    (howed := fun _ _ => rfl) (V := Vm m) (hmain := hmainF m) (hA := fun _ _ => rfl)
    (hpf := fun c k => by rw [dev_eq c])
    (hin := fun c => by
      rw [preT_eq]
      change _ ⊢ PhiN m c 0
      unfold PhiN
      rw [dif_neg (fun h => Nat.lt_irrefl _ h.1)]
      unfold Init
      refine (sep_mono (Entails.of_eq (PhiD_eq m c)) .rfl).trans ?_
      iintro ⟨⟨⟨Hx, HX⟩, Hp, Hv, HH⟩, HT⟩
      isplitl [Hx]; · iexact Hx
      isplitl [HX]; · iexact HX
      isplitl [Hp]; · iexact Hp
      isplitl [Hv]; · iexact Hv
      isplitl [HH]; · iexact HH
      iexact HT)
    (hout := fun c => by
      change PhiN m c grid0.N ⊢ _
      unfold PhiN
      rw [dif_neg (fun h => Nat.lt_irrefl _ h.2)]
      unfold Init
      refine BIBase.Entails.trans ?_ (Entails.of_eq (PhiD_eq m c).symm)
      iintro ⟨Hx, HX, Hp, Hv, HH, -⟩
      isplitl [Hx HX]
      · isplitl [Hx]; · iexact Hx
        iexact HX
      isplitl [Hp]; · iexact Hp
      isplitl [Hv]; · iexact Hv
      iexact HH)

end Cert.Kernel.Ffn
-- ==== Proof.K.Table.lean ====
module

public import proofs.«01_k».proof.Proof.K.Data
public import proofs.«01_k».proof.Pre_in_range
public import proofs.«01_k».proof.Proof.Gen.Pre_in_range
public import Idealize.ShloMosaic.Lib.StableHlo.Run
public import Idealize.ShloMosaic.Lib.Pipeline.Value

@[expose] public section

set_option maxRecDepth 16384

noncomputable section

namespace Cert.Kernel.Ffn

open Cert.Kernel
open Idealize.ShloMosaic Idealize.ShloMosaic.TcCoe
open Idealize.SL.Sem Idealize.ShloMosaic.StableHlo

variable {F : FTy → Type} [FloatOps F]
open Cert.Kernel.Gen

/-- The token numbers with each batch's offset, an expert's tokens side by side. -/
def tokV (x : IVec S2x16x1024 32) : IVec S16x2048 32 :=
  shapeCast S16x2048 (transpose S16x2x1024 [1, 0, 2]
    (addi x (broadcastInDim S2x16x1024 ![0, 1, 2] bcast_S2x1x1_S2x16x1024_0_1_2 (broadcastInDim S2x1x1 ![0] bcast_S2_S2x1x1_0
      (muli (iotaInDim S2 32 0) (broadcastInDim S2 ![] bcast_S_S2 (constantI S_ 32 8192#32))))))
    transposes_S2x16x1024_S16x2x1024_1_0_2) shapeCasts_S16x2x1024_S16x2048

variable (m : (ℓ : Loc nD τ sig) → Buf (Elt F) ℓ)

/-- The host's operations leave the arguments. -/
theorem Vm_arg0 (c : Dev nD) : Vm m c main_arg0 = m ((c.tc : Thread nD τ).loc main_arg0) := by
  unfold Vm
  simp only [List.flatten_cons, List.flatten_nil, List.cons_append, List.nil_append, List.append_nil, TRef.unary, TRef.reshape, TRef.nary, TRef.toBuf, TRef.ofBuf, cast_eq]
  after_results <;> rfl
theorem Vm_arg1 (c : Dev nD) : Vm m c main_arg1 = m ((c.tc : Thread nD τ).loc main_arg1) := by
  unfold Vm
  simp only [List.flatten_cons, List.flatten_nil, List.cons_append, List.nil_append, List.append_nil, TRef.unary, TRef.reshape, TRef.nary, TRef.toBuf, TRef.ofBuf, cast_eq]
  after_results <;> rfl
theorem Vm_arg2 (c : Dev nD) : Vm m c main_arg2 = m ((c.tc : Thread nD τ).loc main_arg2) := by
  unfold Vm
  simp only [List.flatten_cons, List.flatten_nil, List.cons_append, List.nil_append, List.append_nil, TRef.unary, TRef.reshape, TRef.nary, TRef.toBuf, TRef.ofBuf, cast_eq]
  after_results <;> rfl
theorem Vm_arg3 (c : Dev nD) : Vm m c main_arg3 = m ((c.tc : Thread nD τ).loc main_arg3) := by
  unfold Vm
  simp only [List.flatten_cons, List.flatten_nil, List.cons_append, List.nil_append, List.append_nil, TRef.unary, TRef.reshape, TRef.nary, TRef.toBuf, TRef.ofBuf, cast_eq]
  after_results <;> rfl
theorem Vm_arg4 (c : Dev nD) : Vm m c main_arg4 = m ((c.tc : Thread nD τ).loc main_arg4) := by
  unfold Vm
  simp only [List.flatten_cons, List.flatten_nil, List.cons_append, List.nil_append, List.append_nil, TRef.unary, TRef.reshape, TRef.nary, TRef.toBuf, TRef.ofBuf, cast_eq]
  after_results <;> rfl

/-- The host's first joining, of the rows with nothing above and below. -/
abbrev opA : HloOp τ sig (Elt F) := StableHlo.TRef.nary (Ts := ![⟨S0x2048, .i32⟩, ⟨S16x2048, .i32⟩, ⟨S0x2048, .i32⟩]) (Fin.cons (.of main_call0_v2 : StableHlo.TRef sig ⟨S0x2048, .i32⟩) (Fin.cons (.of main_v7 : StableHlo.TRef sig ⟨S16x2048, .i32⟩) (Fin.cons (.of main_call0_v5 : StableHlo.TRef sig ⟨S0x2048, .i32⟩) (fun k => k.elim0)))) (.of main_call0_v6 : StableHlo.TRef sig ⟨S16x2048, .i32⟩) (fun u => (concatenate S16x2048 0 [⟨S0x2048, (u 0 : (⟨S0x2048, .i32⟩ : BufTy).Contents (Elt F))⟩, ⟨S16x2048, (u 1 : (⟨S16x2048, .i32⟩ : BufTy).Contents (Elt F))⟩, ⟨S0x2048, (u 2 : (⟨S0x2048, .i32⟩ : BufTy).Contents (Elt F))⟩] concatenates_S0x2048_S16x2048_S0x2048_S16x2048_d0 : (⟨S16x2048, .i32⟩ : BufTy).Contents (Elt F)))
/-- The host's second joining, of the columns with copies of the last one. -/
abbrev opB : HloOp τ sig (Elt F) := StableHlo.TRef.nary (Ts := ![⟨S16x0, .i32⟩, ⟨S16x2048, .i32⟩, ⟨S16x64, .i32⟩]) (Fin.cons (.of main_call0_v9 : StableHlo.TRef sig ⟨S16x0, .i32⟩) (Fin.cons (.of main_call0_v6 : StableHlo.TRef sig ⟨S16x2048, .i32⟩) (Fin.cons (.of main_call0_v12 : StableHlo.TRef sig ⟨S16x64, .i32⟩) (fun k => k.elim0)))) (.of main_v8 : StableHlo.TRef sig ⟨S16x2112, .i32⟩) (fun u => (concatenate S16x2112 1 [⟨S16x0, (u 0 : (⟨S16x0, .i32⟩ : BufTy).Contents (Elt F))⟩, ⟨S16x2048, (u 1 : (⟨S16x2048, .i32⟩ : BufTy).Contents (Elt F))⟩, ⟨S16x64, (u 2 : (⟨S16x64, .i32⟩ : BufTy).Contents (Elt F))⟩] concatenates_S16x0_S16x2048_S16x64_S16x2112_d1 : (⟨S16x2112, .i32⟩ : BufTy).Contents (Elt F)))

theorem opA_at (V : Valuation τ sig (Elt F)) : (opA (F := F)).result V (Proc.devRef .tc main_call0_v6)
    = concatenate S16x2048 0 [⟨S0x2048, V (Proc.devRef .tc main_call0_v2)⟩, ⟨S16x2048, V (Proc.devRef .tc main_v7)⟩, ⟨S0x2048, V (Proc.devRef .tc main_call0_v5)⟩]
        concatenates_S0x2048_S16x2048_S0x2048_S16x2048_d0 := (nary_result ..).trans rfl
theorem opB_at (V : Valuation τ sig (Elt F)) : (opB (F := F)).result V (Proc.devRef .tc main_v8)
    = concatenate S16x2112 1 [⟨S16x0, V (Proc.devRef .tc main_call0_v9)⟩, ⟨S16x2048, V (Proc.devRef .tc main_call0_v6)⟩, ⟨S16x64, V (Proc.devRef .tc main_call0_v12)⟩]
        concatenates_S16x0_S16x2048_S16x64_S16x2112_d1 := (nary_result ..).trans rfl

/-- Rows joined with nothing above and below. -/
def rowJ (a : IVec S0x2048 32) (x : IVec S16x2048 32) (b : IVec S0x2048 32) : IVec S16x2048 32 :=
  concatenate S16x2048 0 [⟨S0x2048, a⟩, ⟨S16x2048, x⟩, ⟨S0x2048, b⟩] concatenates_S0x2048_S16x2048_S0x2048_S16x2048_d0
/-- Columns joined with 64 copies of the last one. -/
def colJ (a : IVec S16x0 32) (x : IVec S16x2048 32) : IVec S16x2112 32 :=
  concatenate S16x2112 1 [⟨S16x0, a⟩, ⟨S16x2048, x⟩, ⟨S16x64, shapeCast S16x64 (broadcastInDim S16x1x64 ![0, 1] bcast_S16x1_S16x1x64_0_1
    (extractStridedSlice S16x1 ![0, 2047] x slices_S16x2048_S16x1_0_2047)) shapeCasts_S16x1x64_S16x64⟩] concatenates_S16x0_S16x2048_S16x64_S16x2112_d1

/-- The host's operations before the first joining. -/
abbrev opsP : List (HloOp τ sig (Elt F)) := hostOps0 ++ [
  StableHlo.TRef.unary (.of main_v7 : StableHlo.TRef sig ⟨S16x2048, .i32⟩) (.of main_call0_v0 : StableHlo.TRef sig ⟨S1x2048, .i32⟩) (extractStridedSlice S1x2048 ![0, 0] · slices_S16x2048_S1x2048_0_0),
  StableHlo.TRef.unary (.of main_call0_v0 : StableHlo.TRef sig ⟨S1x2048, .i32⟩) (.of main_call0_v1 : StableHlo.TRef sig ⟨S1x0x2048, .i32⟩) (broadcastInDim S1x0x2048 ![0, 2] bcast_S1x2048_S1x0x2048_0_2),
  StableHlo.TRef.reshape (.of main_call0_v1 : StableHlo.TRef sig ⟨S1x0x2048, .i32⟩) (.of main_call0_v2 : StableHlo.TRef sig ⟨S0x2048, .i32⟩) (rfl : (.i32 : EltTy) = .i32) shapeCasts_S1x0x2048_S0x2048,
  StableHlo.TRef.unary (.of main_v7 : StableHlo.TRef sig ⟨S16x2048, .i32⟩) (.of main_call0_v3 : StableHlo.TRef sig ⟨S1x2048, .i32⟩) (extractStridedSlice S1x2048 ![15, 0] · slices_S16x2048_S1x2048_15_0),
  StableHlo.TRef.unary (.of main_call0_v3 : StableHlo.TRef sig ⟨S1x2048, .i32⟩) (.of main_call0_v4 : StableHlo.TRef sig ⟨S1x0x2048, .i32⟩) (broadcastInDim S1x0x2048 ![0, 2] bcast_S1x2048_S1x0x2048_0_2),
  StableHlo.TRef.reshape (.of main_call0_v4 : StableHlo.TRef sig ⟨S1x0x2048, .i32⟩) (.of main_call0_v5 : StableHlo.TRef sig ⟨S0x2048, .i32⟩) (rfl : (.i32 : EltTy) = .i32) shapeCasts_S1x0x2048_S0x2048]
/-- The host's operations between the two joinings. -/
abbrev opsM : List (HloOp τ sig (Elt F)) := [
  StableHlo.TRef.unary (.of main_call0_v6 : StableHlo.TRef sig ⟨S16x2048, .i32⟩) (.of main_call0_v7 : StableHlo.TRef sig ⟨S16x1, .i32⟩) (extractStridedSlice S16x1 ![0, 0] · slices_S16x2048_S16x1_0_0),
  StableHlo.TRef.unary (.of main_call0_v7 : StableHlo.TRef sig ⟨S16x1, .i32⟩) (.of main_call0_v8 : StableHlo.TRef sig ⟨S16x1x0, .i32⟩) (broadcastInDim S16x1x0 ![0, 1] bcast_S16x1_S16x1x0_0_1),
  StableHlo.TRef.reshape (.of main_call0_v8 : StableHlo.TRef sig ⟨S16x1x0, .i32⟩) (.of main_call0_v9 : StableHlo.TRef sig ⟨S16x0, .i32⟩) (rfl : (.i32 : EltTy) = .i32) shapeCasts_S16x1x0_S16x0,
  StableHlo.TRef.unary (.of main_call0_v6 : StableHlo.TRef sig ⟨S16x2048, .i32⟩) (.of main_call0_v10 : StableHlo.TRef sig ⟨S16x1, .i32⟩) (extractStridedSlice S16x1 ![0, 2047] · slices_S16x2048_S16x1_0_2047),
  StableHlo.TRef.unary (.of main_call0_v10 : StableHlo.TRef sig ⟨S16x1, .i32⟩) (.of main_call0_v11 : StableHlo.TRef sig ⟨S16x1x64, .i32⟩) (broadcastInDim S16x1x64 ![0, 1] bcast_S16x1_S16x1x64_0_1),
  StableHlo.TRef.reshape (.of main_call0_v11 : StableHlo.TRef sig ⟨S16x1x64, .i32⟩) (.of main_call0_v12 : StableHlo.TRef sig ⟨S16x64, .i32⟩) (rfl : (.i32 : EltTy) = .i32) shapeCasts_S16x1x64_S16x64]

theorem pre_v7 (V : Valuation τ sig (Elt F)) : after opsP V (Proc.devRef .tc main_v7) = tokV (V (Proc.devRef .tc main_arg0)) := by
  simp only [opsP, List.cons_append, List.nil_append, TRef.unary, TRef.reshape, TRef.toBuf, TRef.ofBuf, cast_eq]
  after_results
  rfl
theorem mid_v6 (V : Valuation τ sig (Elt F)) : after opsM V (Proc.devRef .tc main_call0_v6) = V (Proc.devRef .tc main_call0_v6) := by
  simp only [opsM, TRef.unary, TRef.reshape, TRef.toBuf, TRef.ofBuf, cast_eq]
  after_results
theorem mid_v12 (V : Valuation τ sig (Elt F)) : after opsM V (Proc.devRef .tc main_call0_v12)
    = shapeCast S16x64 (broadcastInDim S16x1x64 ![0, 1] bcast_S16x1_S16x1x64_0_1
      (extractStridedSlice S16x1 ![0, 2047] (V (Proc.devRef .tc main_call0_v6) : IVec S16x2048 32) slices_S16x2048_S16x1_0_2047)) shapeCasts_S16x1x64_S16x64 := by
  simp only [opsM, TRef.unary, TRef.reshape, TRef.toBuf, TRef.ofBuf, cast_eq]
  after_results
  rfl

/-- The table is the tokens' rows, joined and laid out flat. -/
theorem Vm_v9 (c : Dev nD) : ∃ a b d, Vm m c main_v9
    = shapeCast S33792 (colJ a (rowJ b (tokV (m ((c.tc : Thread nD τ).loc main_arg0))) d)) shapeCasts_S16x2112_S33792 := by
  let V : Valuation τ sig (Elt F) := fun b => m (c, b)
  refine ⟨after opsM (opA.result (after opsP V)) (Proc.devRef .tc main_call0_v9), after opsP V (Proc.devRef .tc main_call0_v2), after opsP V (Proc.devRef .tc main_call0_v5), ?_⟩
  change (StableHlo.reshape main_v8 main_v9 (rfl : (.i32 : EltTy) = .i32) shapeCasts_S16x2112_S33792 : HloOp τ sig (Elt F)).result
    (opB.result (after opsM (opA.result (after opsP V)))) (Proc.devRef .tc main_v9) = _
  rw [reshape_result, opB_at, mid_v6, mid_v12, opA_at, pre_v7]
  rfl

theorem rowJ_eq (a b) (x : IVec S16x2048 32) : rowJ a x b = x := by
  funext j
  exact concatenate_apply_piece 0 [⟨S0x2048, a⟩, ⟨S16x2048, x⟩, ⟨S0x2048, b⟩] _ j 1 (by simp) S16x2048 x rfl rfl 0 (by simp) j
    (fun _ _ => rfl) (by simp)

theorem colJ_lo' (a) (x : IVec S16x2048 32) (j : S16x2112.Idx) (i : S16x2048.Idx) (h0 : (i 0).val = (j 0).val) (h1 : (i 1).val = (j 1).val) :
    colJ a x j = x i := by
  refine concatenate_apply_piece 1 [⟨S16x0, a⟩, ⟨S16x2048, x⟩, ⟨S16x64, _⟩] _ j 1 (by simp) S16x2048 x rfl rfl 0 (by simp) i ?_ ?_
  · intro b hb
    match b with
    | 0 => exact h0
    | 1 => exact absurd rfl hb
  · exact (Nat.zero_add _).trans h1

theorem colJ_hi' (a) (x : IVec S16x2048 32) (j : S16x2112.Idx) (i : S16x64.Idx) (h0 : (i 0).val = (j 0).val) (h1 : 2048 + (i 1).val = (j 1).val) :
    colJ a x j = shapeCast S16x64 (broadcastInDim S16x1x64 ![0, 1] bcast_S16x1_S16x1x64_0_1
        (extractStridedSlice S16x1 ![0, 2047] x slices_S16x2048_S16x1_0_2047)) shapeCasts_S16x1x64_S16x64 i := by
  refine concatenate_apply_piece 1 [⟨S16x0, a⟩, ⟨S16x2048, x⟩, ⟨S16x64, _⟩] _ j 2 (by simp) S16x64 _ rfl rfl 2048 (by simp) i ?_ ?_
  · intro b hb
    match b with
    | 0 => exact h0
    | 1 => exact absurd rfl hb
  · exact h1

theorem colJ_lo (a) (x : IVec S16x2048 32) (e : Fin 16) (k : ℕ) (hk : k < 2112) (h : k < 2048) :
    colJ a x (ix2 (n0 := 16) (n1 := 2112) e ⟨k, hk⟩) = x (ix2 (n0 := 16) (n1 := 2048) e ⟨k, h⟩) := colJ_lo' _ _ _ _ rfl rfl

theorem colJ_hi (a) (x : IVec S16x2048 32) (e : Fin 16) (k : ℕ) (hk : k < 2112) (h : 2048 ≤ k) :
    colJ a x (ix2 (n0 := 16) (n1 := 2112) e ⟨k, hk⟩) = x (ix2 (n0 := 16) (n1 := 2048) e ⟨2047, by decide⟩) := by
  refine (colJ_hi' a x _ (ix2 (n0 := 16) (n1 := 64) e ⟨k - 2048, by omega⟩) rfl ?_).trans ?_
  · change 2048 + (k - 2048) = k
    omega
  · refine (shapeCast_apply _ _ _ (ix3 (n0 := 16) (n1 := 1) (n2 := 64) e 0 ⟨k - 2048, by omega⟩) ?_).trans ?_
    · rw [Shape.rowMajor_val_two, Shape.rowMajor_val_three]
      change (e.val * 1 + 0) * 64 + (k - 2048) = e.val * 64 + (k - 2048)
      omega
    refine (broadcastInDim_apply _ _ _ _ (ix2 (n0 := 16) (n1 := 1) e 0) ?_).trans ?_
    · intro b
      match b with
      | 0 => rfl
      | 1 => rfl
    refine extractStridedSlice_apply _ _ _ _ (ix2 (n0 := 16) (n1 := 2048) e ⟨2047, by decide⟩) ?_
    intro b
    match b with
    | 0 => exact (Nat.zero_add _).symm
    | 1 => rfl

/-- The offset of a batch's tokens. -/
def offB (b : ℕ) : BitVec 32 := IntOp.muli (BitVec.ofNat 32 b) 8192#32

theorem tokV_at (x : IVec S2x16x1024 32) (e : Fin 16) (b : Fin 2) (r : Fin 1024) :
    tokV x (ix2 (n0 := 16) (n1 := 2048) e ⟨b.val * 1024 + r.val, by omega⟩) = IntOp.addi (x (ix3 (n0 := 2) (n1 := 16) (n2 := 1024) b e r)) (offB b.val) := by
  refine (shapeCast_apply _ _ _ (ix3 (n0 := 16) (n1 := 2) (n2 := 1024) e b r) ?_).trans ?_
  · rw [Shape.rowMajor_val_two, Shape.rowMajor_val_three]
    change (e.val * 2 + b.val) * 1024 + r.val = e.val * 2048 + (b.val * 1024 + r.val)
    omega
  refine (transpose_apply _ _ _ _ (ix3 (n0 := 2) (n1 := 16) (n2 := 1024) b e r) ?_).trans ?_
  · intro a
    match a with
    | 0 => rfl
    | 1 => rfl
    | 2 => rfl
  change IntOp.addi _ _ = _
  congr 1

/-- What the table holds for a row in its place: the token number with the batch's offset. -/
theorem tab_val (c : Dev nD) (e : Fin 16) (b : Fin 2) (r : Fin 1024) (hp) :
    tabAt c (Tm m c) (e.val * 2112 + (b.val * 1024 + r.val)) hp
      = IntOp.addi ((m ((c.tc : Thread nD τ).loc main_arg0) : IVec S2x16x1024 32) (ix3 (n0 := 2) (n1 := 16) (n2 := 1024) b e r)) (offB b.val) := by
  obtain ⟨a, q, d, h⟩ := Vm_v9 m c
  unfold tabAt Tm
  rw [h, rowJ_eq]
  refine (shapeCast_apply _ _ _ (ix2 (n0 := 16) (n1 := 2112) e ⟨b.val * 1024 + r.val, by omega⟩) ?_).trans ?_
  · rw [Shape.rowMajor_val_two, Shape.rowMajor_val_one]
    rfl
  rw [colJ_lo _ _ _ _ _ (by omega), tokV_at]

/-- Every place of the table holds some token number with its batch's offset. -/
theorem tab_some (c : Dev nD) (p : ℕ) (hp) : ∃ (e : Fin 16) (b : Fin 2) (r : Fin 1024), tabAt c (Tm m c) p hp
      = IntOp.addi ((m ((c.tc : Thread nD τ).loc main_arg0) : IVec S2x16x1024 32) (ix3 (n0 := 2) (n1 := 16) (n2 := 1024) b e r)) (offB b.val) := by
  by_cases hk : p % 2112 < 2048
  · refine ⟨⟨p / 2112, by omega⟩, ⟨p % 2112 / 1024, by omega⟩, ⟨p % 2112 % 1024, by omega⟩, ?_⟩
    rw [← tab_val m c ⟨p / 2112, by omega⟩ ⟨p % 2112 / 1024, by omega⟩ ⟨p % 2112 % 1024, by omega⟩ (by change p / 2112 * 2112 + (p % 2112 / 1024 * 1024 + p % 2112 % 1024) < _; omega)]
    congr 1
    change p = p / 2112 * 2112 + (p % 2112 / 1024 * 1024 + p % 2112 % 1024)
    omega
  · refine ⟨⟨p / 2112, by omega⟩, 1, ⟨1023, by omega⟩, ?_⟩
    obtain ⟨a, q, d, h⟩ := Vm_v9 m c
    unfold tabAt Tm
    rw [h, rowJ_eq]
    refine (shapeCast_apply _ _ _ (ix2 (n0 := 16) (n1 := 2112) ⟨p / 2112, by omega⟩ ⟨p % 2112, by omega⟩) ?_).trans ?_
    · rw [Shape.rowMajor_val_two, Shape.rowMajor_val_one]
      change p / 2112 * 2112 + p % 2112 = p
      omega
    rw [colJ_hi _ _ _ _ _ (by omega)]
    exact tokV_at _ _ 1 ⟨1023, by omega⟩

/-! ## The precondition -/

theorem pre_at (x0 : IVec S2x16x1024 32) (x1 x2 x3 x4)
    (h : Cert.Pre_in_range.fn (F := F) x0 x1 x2 x3 x4 = fun _ => 1#1) (i : S2x16x1024.Idx) : (x0 i).toNat < 8192 := by
  have h1 := congrFun h i
  change IntOp.andi (IntOp.cmpi .sge (x0 i) 0#32) (IntOp.cmpi .slt (x0 i) 8192#32) = 1#1 at h1
  generalize x0 i = w at h1 ⊢
  have h2 : (0 : ℤ) ≤ w.toInt ∧ w.toInt < 8192 := by
    have hand : ∀ x y : BitVec 1, IntOp.andi x y = 1#1 → x = 1#1 ∧ y = 1#1 := by decide
    obtain ⟨ha, hb⟩ := hand _ _ h1
    have hofb : ∀ q : Bool, BitVec.ofBool q = 1#1 → q = true := by decide
    have ha' := hofb _ ha
    have hb' := hofb _ hb
    simp only [BitVec.sle, BitVec.slt, decide_eq_true_eq] at ha' hb'
    exact ⟨ha', hb'⟩
  obtain ⟨ha, hb⟩ := h2
  rw [BitVec.toInt_eq_toNat_cond] at ha hb
  have := w.isLt
  split at ha <;> omega

theorem add_off (w : BitVec 32) (b : Fin 2) (h : w.toNat < 8192) : (IntOp.addi w (offB b.val)).toNat = w.toNat + 8192 * b.val := by
  have ho : (offB b.val).toNat = 8192 * b.val := by revert b; decide
  change (w + offB b.val).toNat = _
  rw [BitVec.toNat_add, ho]
  omega

/-- Tokens in range name hidden rows. -/
theorem inRows (h : ∀ (c : Dev nD) i, ((m ((c.tc : Thread nD τ).loc main_arg0) : IVec S2x16x1024 32) i).toNat < 8192) : InRows m := by
  intro c p hp
  obtain ⟨e, b, r, h'⟩ := tab_some m c p hp
  rw [h', add_off _ _ (h c _)]
  have := h c (ix3 (n0 := 2) (n1 := 16) (n2 := 1024) b e r)
  omega

/-- The row of an expert's slot is the hidden row of its token in its batch. -/
theorem Rw_tok (h : ∀ (c : Dev nD) i, ((m ((c.tc : Thread nD τ).loc main_arg0) : IVec S2x16x1024 32) i).toNat < 8192)
    (c : Dev nD) (e : Fin 16) (b : Fin 2) (r : Fin 1024) :
    (Rw m c e.val ⟨b.val * 1024 + r.val, by omega⟩).val
      = ((m ((c.tc : Thread nD τ).loc main_arg0) : IVec S2x16x1024 32) (ix3 (n0 := 2) (n1 := 16) (n2 := 1024) b e r)).toNat + 8192 * b.val := by
  rw [Rw_val (inRows m h) c e.val ⟨b.val * 1024 + r.val, by omega⟩ (by change e.val * 2112 + (b.val * 1024 + r.val) < _; omega), tab_val, add_off _ _ (h c _)]

end Cert.Kernel.Ffn
-- ==== Proof.K.Frame.lean ====
module
public import proofs.«01_k».proof.Proof.K.Run
public import proofs.«01_k».proof.Proof.K.Table
public import Idealize.ShloMosaic.Lib.Pipeline.ValueKit.Geometry

@[expose] public section

set_option maxRecDepth 16384

noncomputable section

namespace Cert.Kernel.Ffn

open Cert.Kernel
open Idealize.ShloMosaic Idealize.ShloMosaic.TcCoe
open Idealize.SL.Sem Idealize.ShloMosaic.StableHlo

variable {F : FTy → Type} [FloatOps F]
open Cert.Kernel.Gen

/-- After a run with tokens in range every argument is as it was. -/
theorem frame_args (m : (ℓ : Loc nD τ sig) → Buf (Elt F) ℓ) {r} (h : Pipeline.FramePost (Pipeline.pin pcfgs (aT m)) (dats m) 0 (Vm m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) := by
  refine ⟨?_, ?_, ?_, ?_, ?_⟩
  · exact (Pipeline.FramePost.rest_eq h c main_arg0 (Pipeline.mem_restRefs_of main_arg0 rfl (fun w => by fin_cases w <;> exact fun h => by cases h))).trans (Vm_arg0 m c)
  · exact (Pipeline.FramePost.rest_eq h c main_arg1 (Pipeline.mem_restRefs_of main_arg1 rfl (fun w => by fin_cases w <;> exact fun h => by cases h))).trans (Vm_arg1 m c)
  · exact (Pipeline.FramePost.in_eq h c 0 rfl).trans (Vm_arg2 m c)
  · exact (Pipeline.FramePost.in_eq h c 1 rfl).trans (Vm_arg3 m c)
  · exact (Pipeline.FramePost.in_eq h c 2 rfl).trans (Vm_arg4 m c)

/-- Tokens in range: the run ends with every argument as it was and no semaphore left raised. -/
theorem run_frame (m : (ℓ : Loc nD τ sig) → Buf (Elt F) ℓ)
    (h : ∀ (c : Dev nD) i, ((m ((c.tc : Thread nD τ).loc main_arg0) : IVec S2x16x1024 32) i).toNat < 8192) (ρ : Dev nD → PrngReg) :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r hr => ⟨fun c => frame_args m hr.1 c, hr.2⟩) (run_main (inRows m h) ρ)

end Cert.Kernel.Ffn
-- ==== Proof.V.Same.lean ====
/- The exact reading of the routed feed-forward is the same program as the one printed for machine words. -/
module

public import proofs.«01_k».proof.Proof.Gen.Kernel
public import proofs.«01_k».proof.Proof.Gen.KernelIdeal

@[expose] public section

set_option maxRecDepth 16384

noncomputable section

namespace Cert.FfnSame

open Idealize.ShloMosaic Idealize.ShloMosaic.TcCoe Idealize.SL.Sem

variable {F : FTy → Type} [FloatOps F]

set_option maxHeartbeats 8000000 in
/-- The body at a grid point and its buffers is the same. -/
theorem body_eq (x : Cert.Kernel.Λ₀.Args 0) : @Cert.KernelIdeal.defs₀ F _ Cert.KernelIdeal.Gen.facts .tc 0 x = @Cert.Kernel.defs₀ F _ Cert.Kernel.Gen.facts .tc 0 x := rfl

/-- What the launch calls is the same. -/
theorem defs₀_eq : @Cert.KernelIdeal.defs₀ F _ Cert.KernelIdeal.Gen.facts = @Cert.Kernel.defs₀ F _ Cert.Kernel.Gen.facts := by
  funext p l x
  match p with
  | .tc =>
    match l with
    | ⟨0, _⟩ => exact body_eq x
    | ⟨n + 1, h⟩ => exact absurd h (Nat.not_lt.2 (Nat.le_add_left _ _))
  | .scScalar _ => rfl
  | .scVector _ _ => rfl

/-- The windows and tables are the same. -/
theorem cfgs_eq : @Cert.KernelIdeal.pcfgs F _ Cert.KernelIdeal.Gen.facts = @Cert.Kernel.pcfgs F _ Cert.Kernel.Gen.facts := rfl

/-- What any program calls is the same. -/
theorem defs_eq : @Cert.KernelIdeal.defs F _ Cert.KernelIdeal.Gen.facts = @Cert.Kernel.defs F _ Cert.Kernel.Gen.facts := by
  unfold Cert.KernelIdeal.defs Cert.Kernel.defs
  exact congrArg (Pipeline.defs (@Cert.Kernel.pcfgs F _ Cert.Kernel.Gen.facts)) defs₀_eq

set_option maxHeartbeats 8000000 in
/-- The host code is the same. -/
theorem main_eq : @Cert.KernelIdeal.main F _ Cert.KernelIdeal.Gen.facts = @Cert.Kernel.main F _ Cert.Kernel.Gen.facts := rfl

/-- So what a run of the one ends with, a run of the other does. -/
theorem run_of {s} {Q} (h : θ_run (@Cert.Kernel.defs F _ Cert.Kernel.Gen.facts) (onTc (τ := Cert.Kernel.τ) (@Cert.Kernel.main F _ Cert.Kernel.Gen.facts)) s Q) :
    θ_run (@Cert.KernelIdeal.defs F _ Cert.KernelIdeal.Gen.facts) (onTc (τ := Cert.KernelIdeal.τ) (@Cert.KernelIdeal.main F _ Cert.KernelIdeal.Gen.facts)) s Q :=
  Eq.mpr (congrArg₂ (fun d p => θ_run d (onTc (τ := Cert.Kernel.τ) p) s Q) defs_eq main_eq) h

end Cert.FfnSame
-- ==== Proof.V.Math.lean ====
/- The feed-forward's mathematics at an element, and the regrouping of a sum over the hidden width. -/
module

public import Idealize.ShloMosaic.PureOps.Ideal
public import Idealize.ShloMosaic.PureOps.Ideal.Laws
public import Idealize.ShloMosaic.Lib.ValueIdxCore

@[expose] public section

noncomputable section

namespace Cert.FfnMath

open Idealize.ShloMosaic Idealize.ShloMosaic.ValueIdx

/-- The product of a token's row with one weight column. -/
def dotE (x w : Fin 1024 → EReal) : EReal := ∑ k, x k * w k

/-- One hidden unit of a token: the gate's value times its logistic, times the other product. -/
def hidE (x wg wu : Fin 1024 → EReal) : EReal := dotE x wg * Ideal.logistic (dotE x wg) * dotE x wu

/-- A sum over `n` blocks of 256 terms is the sum over all of them. -/
theorem sum_blocks (T : ℕ → EReal) (n : ℕ) :
    ∑ s ∈ Finset.range n, ∑ f : Fin 256, T (256 * s + f.val) = ∑ i ∈ Finset.range (256 * n), T i := by
  induction n with
  | zero => simp
  | succ n ih => rw [Finset.sum_range_succ, ih, Nat.mul_succ, Finset.sum_range_add, Finset.sum_range (n := 256)]

/-- Eleven blocks make up the hidden width. -/
theorem sum_hidden (T : ℕ → EReal) :
    ∑ s ∈ Finset.range 11, ∑ f : Fin 256, T (256 * s + f.val) = ∑ i : Fin 2816, T i.val := by
  rw [sum_blocks, ← Finset.sum_range]

/-- The row of the hidden array that a token number names. -/
def rowE (x0 : (⟨3, ![2, 16, 1024]⟩ : Shape).Idx → BitVec 32) (x1 : (⟨2, ![16384, 1024]⟩ : Shape).Idx → EReal)
    (h : ∀ i, (x0 i).toNat < 8192) (b : Fin 2) (e : Fin 16) (r : Fin 1024) : Fin 1024 → EReal :=
  fun k => x1 (ix2 (n0 := 16384) (n1 := 1024) ⟨(x0 (ix3 b e r)).toNat + 8192 * b.val, by have := h (ix3 b e r); omega⟩ k)

/-- The feed-forward at an element: the token's hidden units against a column of the last weights. -/
def outE (x0 : (⟨3, ![2, 16, 1024]⟩ : Shape).Idx → BitVec 32) (x1 : (⟨2, ![16384, 1024]⟩ : Shape).Idx → EReal)
    (x2 x3 : (⟨3, ![16, 1024, 2816]⟩ : Shape).Idx → EReal) (x4 : (⟨3, ![16, 2816, 1024]⟩ : Shape).Idx → EReal)
    (h : ∀ i, (x0 i).toNat < 8192) (b : Fin 2) (e : Fin 16) (r d : Fin 1024) : EReal :=
  ∑ f : Fin 2816, hidE (rowE x0 x1 h b e r) (fun k => x2 (ix3 e k f)) (fun k => x3 (ix3 e k f)) * x4 (ix3 e f d)

/-- One term of that sum, by its number. -/
def termE (x : Fin 1024 → EReal) (x2 x3 : (⟨3, ![16, 1024, 2816]⟩ : Shape).Idx → EReal) (x4 : (⟨3, ![16, 2816, 1024]⟩ : Shape).Idx → EReal)
    (e : Fin 16) (d : Fin 1024) (i : ℕ) : EReal :=
  if h : i < 2816 then hidE x (fun k => x2 (ix3 e k ⟨i, h⟩)) (fun k => x3 (ix3 e k ⟨i, h⟩)) * x4 (ix3 e ⟨i, h⟩ d) else 0

/-- The feed-forward is the sum of eleven blocks of 256 terms. -/
theorem outE_blocks (x0 : (⟨3, ![2, 16, 1024]⟩ : Shape).Idx → BitVec 32) (x1 : (⟨2, ![16384, 1024]⟩ : Shape).Idx → EReal)
    (x2 x3 : (⟨3, ![16, 1024, 2816]⟩ : Shape).Idx → EReal) (x4 : (⟨3, ![16, 2816, 1024]⟩ : Shape).Idx → EReal)
    (h : ∀ i, (x0 i).toNat < 8192) (b : Fin 2) (e : Fin 16) (r d : Fin 1024) :
    ∑ s ∈ Finset.range 11, ∑ f : Fin 256, termE (rowE x0 x1 h b e r) x2 x3 x4 e d (256 * s + f.val) = outE x0 x1 x2 x3 x4 h b e r d := by
  rw [sum_hidden]
  refine Finset.sum_congr rfl fun f _ => ?_
  unfold termE
  rw [dif_pos f.isLt]

end Cert.FfnMath
-- ==== Proof.V.Ref.lean ====
/- What the reference computes, at an element. -/
module

public import proofs.«01_k».proof.Proof.V.Math
public import proofs.«01_k».proof.Proof.Gen.ReferenceIdeal.Read
public import Idealize.ShloMosaic.Lib.IdealHost
public import Idealize.ShloMosaic.Lib.ValueIdxCore

@[expose] public section

set_option maxRecDepth 16384

noncomputable section

namespace Cert.ReferenceIdeal.Ffn

open Cert.ReferenceIdeal Cert.ReferenceIdeal.Gen Cert.ReferenceIdeal.Read Cert.FfnMath
open Idealize.ShloMosaic Idealize.ShloMosaic.TcCoe Idealize.ShloMosaic.ValueIdx

/-- A token number in range is taken as it is. -/
theorem tok_at (x0 : (⟨S2x16x1024, .i32⟩ : BufTy).Contents (Elt Ideal)) (i : S2x16x1024.Idx) (h : (x0 i : BitVec 32).toNat < 8192) :
    val_main_v5 (F := Ideal) x0 i = x0 i := by
  rw [val_main_v5_apply, val_main_v2_apply, val_main_v1_apply, val_main_c_apply]
  generalize val_main_v4 (F := Ideal) x0 i = u
  revert h
  generalize (x0 i : BitVec 32) = w
  intro h
  have hs : IntOp.cmpi .slt w 0#32 = 0#1 := by
    change BitVec.ofBool (decide (w.toInt < 0)) = 0#1
    rw [decide_eq_false]
    · rfl
    · rw [BitVec.toInt_eq_toNat_of_lt (by omega)]; omega
  rw [hs]
  rfl

set_option backward.isDefEq.respectTransparency.types false in
/-- A token's row, gathered. -/
theorem row_at (x0 : (⟨S2x16x1024, .i32⟩ : BufTy).Contents (Elt Ideal)) (x1 : (⟨S16384x1024, .f32⟩ : BufTy).Contents (Elt Ideal))
    (b : Fin 2) (e : Fin 16) (r k : Fin 1024) (t : ℕ) (ht : (x0 (ix3 b e r) : BitVec 32).toNat = t) (h : t < 8192) :
    val_main_v7 (F := Ideal) x0 x1 (ix4 b e r k) = x1 (ix2 (n0 := 16384) (n1 := 1024) ⟨t + 8192 * b.val, by omega⟩ k) := by
  have hv6 : ∀ j : S2x16x1024x1.Idx, j = ix4 (n0 := 2) (n1 := 16) (n2 := 1024) (n3 := 1) b e r 0 → val_main_v6 (F := Ideal) x0 j = x0 (ix3 b e r) := by
    intro j hj
    subst hj
    rw [val_main_v6_apply]
    have hi : idx_main_v6 (ix4 (n0 := 2) (n1 := 16) (n2 := 1024) (n3 := 1) b e r 0) = ix3 b e r := by
      funext a
      match a with
      | ⟨0, _⟩ => rfl
      | ⟨1, _⟩ => rfl
      | ⟨2, _⟩ => rfl
    rw [hi]
    exact tok_at x0 _ (by omega)
  unfold val_main_v7 Host.gather
  rw [val_main_v0_apply]
  congr 1
  generalize val_main_v6 (F := Ideal) x0 = v at hv6 ⊢
  have h0 : (gather_S2x8192x1024_S2x16x1024x1_S2x16x1024x1024_3_1_0_0_1_3_111024.operandIdx (ix4 b e r k) v 0).val = b.val := by
    change GatherDims.start _ _ _ 0 + GatherDims.batchCoord _ _ 0 + GatherDims.offCoord _ _ 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ gather_S2x8192x1024_S2x16x1024x1_S2x16x1024x1024_3_1_0_0_1_3_111024.operandBatchingDims from List.mem_singleton.mpr rfl)]
    rfl
  have h1 : (gather_S2x8192x1024_S2x16x1024x1_S2x16x1024x1024_3_1_0_0_1_3_111024.operandIdx (ix4 b e r k) v 1).val = t := by
    change GatherDims.start _ _ _ 1 + GatherDims.batchCoord _ _ 1 + GatherDims.offCoord _ _ 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S2x8192x1024_S2x16x1024x1_S2x16x1024x1024_3_1_0_0_1_3_111024.startIndexMap from List.mem_singleton.mpr rfl), hv6 _ (by
      funext a
      refine Fin.ext ?_
      match a with
      | ⟨0, _⟩ => rfl
      | ⟨1, _⟩ => rfl
      | ⟨2, _⟩ => rfl
      | ⟨3, _⟩ => rfl)]
    change min (BitVec.toInt (x0 (ix3 b e r))).toNat (8192 - 1) = t
    rw [BitVec.toInt_eq_toNat_of_lt (by omega)]
    omega
  have h2 : (gather_S2x8192x1024_S2x16x1024x1_S2x16x1024x1024_3_1_0_0_1_3_111024.operandIdx (ix4 b e r k) v 2).val = k.val := by
    change GatherDims.start _ _ _ 2 + GatherDims.batchCoord _ _ 2 + GatherDims.offCoord _ _ 2 = _
    rw [GatherDims.batchCoord_eq_zero _ _ _ (by decide)]
    unfold GatherDims.start GatherDims.offCoord
    rw [dif_neg (show ¬ (2 : Fin 3) ∈ gather_S2x8192x1024_S2x16x1024x1_S2x16x1024x1024_3_1_0_0_1_3_111024.startIndexMap by decide),
      dif_pos (show (2 : Fin 3) ∈ gather_S2x8192x1024_S2x16x1024x1_S2x16x1024x1024_3_1_0_0_1_3_111024.sKept by rw [GatherDims.mem_sKept]; decide)]
    exact Nat.zero_add _
  generalize gather_S2x8192x1024_S2x16x1024x1_S2x16x1024x1024_3_1_0_0_1_3_111024.operandIdx (ix4 b e r k) v = o at h0 h1 h2
  funext a
  refine Fin.ext ?_
  match a with
  | ⟨0, _⟩ =>
    change (((o 0).val * 8192 + (o 1).val) * 1024 + (o 2).val) / 1024 = t + 8192 * b.val
    rw [h0, h1, h2]; omega
  | ⟨1, _⟩ =>
    change (((o 0).val * 8192 + (o 1).val) * 1024 + (o 2).val) % 1024 = k.val
    rw [h0, h1, h2]; omega

theorem v9_at (x0 x1) (x2 : (⟨S16x1024x2816, .f32⟩ : BufTy).Contents (Elt Ideal)) (h) (b : Fin 2) (e : Fin 16) (r : Fin 1024) (f : Fin 2816) :
    val_main_v9 (F := Ideal) x0 x1 x2 (ix4 b e r f) = dotE (rowE x0 x1 h b e r) (fun k => x2 (ix3 e k f)) := by
  rw [val_main_v9_apply, val_main_v8_apply]
  refine Finset.sum_congr rfl fun k _ => ?_
  rw [show ridx_main_v8 (idx_main_v9 (ix4 b e r f)) k = ix4 b e r k by
      funext a
      match a with
      | ⟨0, _⟩ => rfl
      | ⟨1, _⟩ => rfl
      | ⟨2, _⟩ => rfl
      | ⟨3, _⟩ => rfl,
    show lidx_main_v8 (idx_main_v9 (ix4 b e r f)) k = ix3 e k f by
      funext a
      match a with
      | ⟨0, _⟩ => rfl
      | ⟨1, _⟩ => rfl
      | ⟨2, _⟩ => rfl,
    row_at x0 x1 b e r k _ rfl (h _)]
  exact mul_comm _ _

theorem v12_at (x0 x1) (x3 : (⟨S16x1024x2816, .f32⟩ : BufTy).Contents (Elt Ideal)) (h) (b : Fin 2) (e : Fin 16) (r : Fin 1024) (f : Fin 2816) :
    val_main_v12 (F := Ideal) x0 x1 x3 (ix4 b e r f) = dotE (rowE x0 x1 h b e r) (fun k => x3 (ix3 e k f)) := by
  rw [val_main_v12_apply, val_main_v11_apply]
  refine Finset.sum_congr rfl fun k _ => ?_
  rw [show ridx_main_v11 (idx_main_v12 (ix4 b e r f)) k = ix4 b e r k by
      funext a
      match a with
      | ⟨0, _⟩ => rfl
      | ⟨1, _⟩ => rfl
      | ⟨2, _⟩ => rfl
      | ⟨3, _⟩ => rfl,
    show lidx_main_v11 (idx_main_v12 (ix4 b e r f)) k = ix3 e k f by
      funext a
      match a with
      | ⟨0, _⟩ => rfl
      | ⟨1, _⟩ => rfl
      | ⟨2, _⟩ => rfl,
    row_at x0 x1 b e r k _ rfl (h _)]
  exact mul_comm _ _

/-- The sigmoid as the host writes it is the logistic function. -/
theorem v5_at (x0 x1 x2) (i : S2x16x1024x2816.Idx) :
    val_main_call0_v5 (F := Ideal) x0 x1 x2 i = Ideal.logistic (val_main_v9 (F := Ideal) x0 x1 x2 i) := by
  rw [val_main_call0_v5_apply, val_main_call0_v4_apply, val_main_call0_v3_apply, val_main_call0_v2_apply, val_main_call0_v1_apply,
    val_main_call0_v0_apply, val_main_call0_cst_apply, val_main_call0_cst_0_apply]
  generalize val_main_v9 (F := Ideal) x0 x1 x2 i = y
  change Ideal.div (Ideal.ofBits .f32 0x3F800000#32) (Ideal.ofBits .f32 0x3F800000#32 + Ideal.exp (-y)) = Ideal.logistic y
  rw [Ideal.ofBits_one_f32]
  rfl

/-- The reference's result, element by element. -/
theorem v15_at (x0 x1 x2 x3 x4) (h) (b : Fin 2) (e : Fin 16) (r d : Fin 1024) :
    val_main_v15 (F := Ideal) x0 x1 x2 x3 x4 (ix4 b e r d) = outE x0 x1 x2 x3 x4 h b e r d := by
  rw [val_main_v15_apply, val_main_v14_apply]
  refine Finset.sum_congr rfl fun f _ => ?_
  rw [show ridx_main_v14 (idx_main_v15 (ix4 b e r d)) f = ix4 b e r f by
      funext a
      match a with
      | ⟨0, _⟩ => rfl
      | ⟨1, _⟩ => rfl
      | ⟨2, _⟩ => rfl
      | ⟨3, _⟩ => rfl,
    show lidx_main_v14 (idx_main_v15 (ix4 b e r d)) f = ix3 e f d by
      funext a
      match a with
      | ⟨0, _⟩ => rfl
      | ⟨1, _⟩ => rfl
      | ⟨2, _⟩ => rfl,
    val_main_v13_apply, val_main_v10_apply, v5_at, v9_at x0 x1 x2 h, v12_at x0 x1 x3 h]
  exact mul_comm _ _

end Cert.ReferenceIdeal.Ffn
-- ==== Proof.V.Step.lean ====
/- What one step of the kernel computes, at an element, over the reals with infinities. -/
module

public import proofs.«01_k».proof.Proof.V.Math
public import proofs.«01_k».proof.Proof.K.Table
public import Idealize.ShloMosaic.Lib.MatmulPlain
public import Idealize.ShloMosaic.Lib.ValueLayout
public import Idealize.ShloMosaic.Lib.IdealHost
public import Idealize.ShloMosaic.Lib.Pipeline.ValueKit.Geometry

@[expose] public section

set_option maxRecDepth 16384

noncomputable section

namespace Cert.Kernel.Ffn

open Cert.Kernel Cert.Kernel.Gen Cert.FfnMath
open Idealize.ShloMosaic hiding ix2 ix3 ix4 eq_ix4
open Idealize.ShloMosaic.ValueIdx (ix2 ix3 ix4 eq_ix4)
open Idealize.ShloMosaic.TcCoe

/-- A product with 256 columns, started from zero. -/
theorem mmA (x : FVec Ideal S1024x1024 .bf16) (w : FVec Ideal S1024x256 .bf16) (r : Fin 1024) (f : Fin 256) :
    matmul dot_S1024x1024_S1024x256_S1024x256_1_0_0_1_n_n none x w (constant (F := Ideal) S1024x256 .f32 0x00000000#32) (ix2 r f)
      = ∑ k : Fin 1024, x (ix2 r k) * w (ix2 k f) := by
  refine (Ideal.matmul_plain_apply (M := 1024) (K := 1024) (N := 256) none x w (constant (F := Ideal) S1024x256 .f32 0x00000000#32) r f).trans ?_
  rw [show constant (F := Ideal) S1024x256 .f32 0x00000000#32 (ix2 r f) = (0 : EReal) from Ideal.ofBits_zero_f32, zero_add]

/-- A product over 256 hidden units, started from zero. -/
theorem mmB (x : FVec Ideal S1024x256 .bf16) (w : FVec Ideal S256x1024 .bf16) (r d : Fin 1024) :
    matmul dot_S1024x256_S256x1024_S1024x1024_1_0_0_1_n_n none x w (constant (F := Ideal) S1024x1024 .f32 0x00000000#32) (ix2 r d)
      = ∑ k : Fin 256, x (ix2 r k) * w (ix2 k d) := by
  refine (Ideal.matmul_plain_apply (M := 1024) (K := 256) (N := 1024) none x w (constant (F := Ideal) S1024x1024 .f32 0x00000000#32) r d).trans ?_
  rw [show constant (F := Ideal) S1024x1024 .f32 0x00000000#32 (ix2 r d) = (0 : EReal) from Ideal.ofBits_zero_f32, zero_add]

/-- What one step adds to an element: 256 hidden units of the token's row against the last weights' column. -/
def partE (W1 W2 : Vec Ideal S1x1024x256 .f32) (W3 : Vec Ideal S1x256x1024 .f32) (x : Fin 1024 → EReal) (d : Fin 1024) : EReal :=
  ∑ f : Fin 256, hidE x (fun k => W1 (ix3 0 k f)) (fun k => W2 (ix3 0 k f)) * W3 (ix3 0 f d)

theorem pay15_at (W : Vec Ideal S1x1024x256 .f32) (k : Fin 1024) (f : Fin 256) : k0_pay15 (F := Ideal) W (ix2 k f) = W (ix3 0 k f) :=
  ValueIdx.shapeCast_1ab_ab_apply W shapeCasts_S1x1024x256_S1024x256 k f
theorem pay17_at (W : Vec Ideal S1x1024x256 .f32) (k : Fin 1024) (f : Fin 256) : k0_pay17 (F := Ideal) (k0_pay16 W) (ix2 k f) = W (ix3 0 k f) :=
  ValueIdx.shapeCast_1ab_ab_apply W shapeCasts_S1x1024x256_S1024x256 k f
theorem pay18_at (W : Vec Ideal S1x256x1024 .f32) (f : Fin 256) (d : Fin 1024) : k0_pay18 (F := Ideal) W (ix2 f d) = W (ix3 0 f d) :=
  ValueIdx.shapeCast_1ab_ab_apply W shapeCasts_S1x256x1024_S256x1024 f d

/-- Dropping the two unit axes of half an output block. -/
theorem drop_at (Y : Vec Ideal S1x1x1024x1024 .f32) (r d : Fin 1024) :
    shapeCast S1024x1024 Y shapeCasts_S1x1x1024x1024_S1024x1024 (ix2 r d) = Y (ix4 0 0 r d) :=
  shapeCast_apply Y _ _ _ (by
    rw [Shape.rowMajor_val_four, Shape.rowMajor_val_two]
    change ((0 * 1 + 0) * 1024 + r.val) * 1024 + d.val = r.val * 1024 + d.val
    omega)
/-- Adding them back. -/
theorem add_at (Y : FVec Ideal S1024x1024 .f32) (r d : Fin 1024) :
    shapeCast S1x1x1024x1024 Y shapeCasts_S1024x1024_S1x1x1024x1024 (ix4 0 0 r d) = Y (ix2 r d) :=
  shapeCast_apply Y _ _ _ (by
    rw [Shape.rowMajor_val_four, Shape.rowMajor_val_two]
    change r.val * 1024 + d.val = ((0 * 1 + 0) * 1024 + r.val) * 1024 + d.val
    omega)

/-- A step's sum for one half of the rows, at an element. -/
theorem pay20_at (W1 W2 : Vec Ideal S1x1024x256 .f32) (W3 : Vec Ideal S1x256x1024 .f32) (X : Vec Ideal S1024x1024 .bf16) (Y : Vec Ideal S1x1x1024x1024 .f32)
    (r d : Fin 1024) :
    k0_pay20 (F := Ideal) (k0_pay15 W1) (k0_pay16 W2) W3 X Y (ix2 r d) = (Y (ix4 0 0 r d) + partE W1 W2 W3 (fun k => X (ix2 r k)) d : EReal) := by
  unfold k0_pay20
  change (shapeCast S1024x1024 Y shapeCasts_S1x1x1024x1024_S1024x1024 (ix2 r d) + matmul dot_S1024x256_S256x1024_S1024x1024_1_0_0_1_n_n none _ (k0_pay18 W3) (constant (F := Ideal) S1024x1024 .f32 0x00000000#32) (ix2 r d) : EReal) = _
  rw [drop_at, mmB]
  refine congrArg (Y (ix4 0 0 r d) + · : EReal → EReal) (Finset.sum_congr rfl fun f _ => ?_)
  rw [pay18_at]
  refine congrArg (· * W3 (ix3 0 f d) : EReal → EReal) ?_
  have e1 := mmA X (k0_pay15 W1) r f
  have e2 := mmA X (k0_pay17 (k0_pay16 W2)) r f
  simp only [pay15_at] at e1
  simp only [pay17_at] at e2
  unfold hidE dotE
  rw [← e1, ← e2]
  rfl

/-- The same for the other half, whose sum is stored at once. -/
theorem pay19_at (W1 W2 : Vec Ideal S1x1024x256 .f32) (W3 : Vec Ideal S1x256x1024 .f32) (X : Vec Ideal S1024x1024 .bf16) (Y : Vec Ideal S1x1x1024x1024 .f32)
    (r d : Fin 1024) :
    k0_pay19 (F := Ideal) (k0_pay15 W1) (k0_pay16 W2) W3 X Y (ix4 0 0 r d) = (Y (ix4 0 0 r d) + partE W1 W2 W3 (fun k => X (ix2 r k)) d : EReal) :=
  (add_at (k0_pay20 (F := Ideal) (k0_pay15 W1) (k0_pay16 W2) W3 X Y) r d).trans (pay20_at W1 W2 W3 X Y r d)

section
variable {F : FTy → Type} [FloatOps F]

theorem ldW_eq (W : Vec F S1x1024x256 .f32) : ldW W = W := by
  funext y
  refine congrArg W (funext fun a => Fin.ext ?_)
  rw [ValueKit.rect_emb_unit_val]
  match a with
  | ⟨0, _⟩ => exact Nat.zero_add _
  | ⟨1, _⟩ => exact Nat.zero_add _
  | ⟨2, _⟩ => exact Nat.zero_add _
theorem ldD_eq (W : Vec F S1x256x1024 .f32) : ldD W = W := by
  funext y
  refine congrArg W (funext fun a => Fin.ext ?_)
  rw [ValueKit.rect_emb_unit_val]
  match a with
  | ⟨0, _⟩ => exact Nat.zero_add _
  | ⟨1, _⟩ => exact Nat.zero_add _
  | ⟨2, _⟩ => exact Nat.zero_add _
theorem ldX0_at (X : Vec F S2048x1024 .bf16) (r k : Fin 1024) : ldX0 X (ix2 r k) = X (ix2 (n0 := 2048) (n1 := 1024) ⟨r.val, by omega⟩ k) := by
  refine congrArg X (funext fun a => Fin.ext ?_)
  rw [ValueKit.rect_emb_unit_val]
  match a with
  | ⟨0, _⟩ => exact Nat.zero_add _
  | ⟨1, _⟩ => exact Nat.zero_add _
theorem ldX1_at (X : Vec F S2048x1024 .bf16) (r k : Fin 1024) : ldX1 X (ix2 r k) = X (ix2 (n0 := 2048) (n1 := 1024) ⟨1024 + r.val, by omega⟩ k) := by
  refine congrArg X (funext fun a => Fin.ext ?_)
  rw [ValueKit.rect_emb_unit_val]
  match a with
  | ⟨0, _⟩ => rfl
  | ⟨1, _⟩ => exact Nat.zero_add _
theorem rY0_at (r d : Fin 1024) : rY0.emb (ix4 (n0 := 1) (n1 := 1) (n2 := 1024) (n3 := 1024) 0 0 r d) = ix4 (n0 := 2) (n1 := 1) (n2 := 1024) (n3 := 1024) 0 0 r d := by
  funext a
  refine Fin.ext ?_
  unfold rY0
  rw [ValueKit.rect_emb_unit_val]
  match a with
  | ⟨0, _⟩ => rfl
  | ⟨1, _⟩ => rfl
  | ⟨2, _⟩ => exact Nat.zero_add _
  | ⟨3, _⟩ => exact Nat.zero_add _
theorem rY1_at (r d : Fin 1024) : rY1.emb (ix4 (n0 := 1) (n1 := 1) (n2 := 1024) (n3 := 1024) 0 0 r d) = ix4 (n0 := 2) (n1 := 1) (n2 := 1024) (n3 := 1024) 1 0 r d := by
  funext a
  refine Fin.ext ?_
  unfold rY1
  rw [ValueKit.rect_emb_unit_val]
  match a with
  | ⟨0, _⟩ => rfl
  | ⟨1, _⟩ => rfl
  | ⟨2, _⟩ => exact Nat.zero_add _
  | ⟨3, _⟩ => exact Nat.zero_add _
theorem rY0_not (r d : Fin 1024) : ix4 (n0 := 2) (n1 := 1) (n2 := 1024) (n3 := 1024) 1 0 r d ∉ rY0.set := by
  intro h
  rw [rY0, Rect.mem_set_unit] at h
  have := (h 0).2
  change 1 < 0 + 1 at this
  omega
theorem rY1_not (r d : Fin 1024) : ix4 (n0 := 2) (n1 := 1) (n2 := 1024) (n3 := 1024) 0 0 r d ∉ rY1.set := by
  intro h
  rw [rY1, Rect.mem_set_unit] at h
  have := (h 0).1
  change 1 ≤ 0 at this
  omega
/-- The first half of a step leaves the second half of the block alone. -/
theorem half0_at1 (W1 W2 : Vec F S1x1024x256 .f32) (W3 : Vec F S1x256x1024 .f32) (X : Vec F S2048x1024 .bf16) (Y : Vec F S2x1x1024x1024 .f32) (r d : Fin 1024) :
    half0 W1 W2 W3 X Y (ix4 (n0 := 2) (n1 := 1) (n2 := 1024) (n3 := 1024) 1 0 r d) = Y (ix4 (n0 := 2) (n1 := 1) (n2 := 1024) (n3 := 1024) 1 0 r d) :=
  Rect.overlay_of_not_mem _ _ _ (rY0_not r d)
end

/-- A step's whole effect on the output block, at an element. -/
theorem step_at (W1 W2 : Vec Ideal S1x1024x256 .f32) (W3 : Vec Ideal S1x256x1024 .f32) (X : Vec Ideal S2048x1024 .bf16) (Y : Vec Ideal S2x1x1024x1024 .f32)
    (b : Fin 2) (r d : Fin 1024) :
    stepOut W1 W2 W3 X Y (ix4 (n0 := 2) (n1 := 1) (n2 := 1024) (n3 := 1024) b 0 r d)
      = (Y (ix4 (n0 := 2) (n1 := 1) (n2 := 1024) (n3 := 1024) b 0 r d)
        + partE W1 W2 W3 (fun k => X (ix2 (n0 := 2048) (n1 := 1024) ⟨b.val * 1024 + r.val, by omega⟩ k)) d : EReal) := by
  unfold stepOut
  match b with
  | ⟨0, _⟩ =>
    refine (Rect.overlay_of_not_mem _ _ _ (rY1_not r d)).trans ?_
    unfold half0
    have h := Rect.overlay_emb rY0 Y (k0_pay19 (k0_pay15 (ldW W1)) (k0_pay16 (ldW W2)) (ldD W3) (ldX0 X) (fun y => Y (rY0.emb y)))
      (ix4 (n0 := 1) (n1 := 1) (n2 := 1024) (n3 := 1024) 0 0 r d)
    rw [rY0_at] at h
    refine h.trans ?_
    rw [pay19_at, ldW_eq, ldW_eq, ldD_eq, rY0_at]
    simp only [ldX0_at]
    simp only [Nat.zero_mul, Nat.zero_add]
    rfl
  | ⟨1, _⟩ =>
    have h := Rect.overlay_emb rY1 (half0 W1 W2 W3 X Y) (k0_pay1 (k0_pay20 (k0_pay15 (ldW W1)) (k0_pay16 (ldW W2)) (ldD W3) (ldX1 X) (fun y => half0 W1 W2 W3 X Y (rY1.emb y))))
      (ix4 (n0 := 1) (n1 := 1) (n2 := 1024) (n3 := 1024) 0 0 r d)
    rw [rY1_at] at h
    refine h.trans ((add_at (k0_pay20 (k0_pay15 (ldW W1)) (k0_pay16 (ldW W2)) (ldD W3) (ldX1 X) (fun y => half0 W1 W2 W3 X Y (rY1.emb y))) r d).trans ?_)
    rw [pay20_at, ldW_eq, ldW_eq, ldD_eq, rY1_at]
    simp only [ldX1_at]
    rw [half0_at1]
    simp only [Nat.one_mul]
    rfl

end Cert.Kernel.Ffn
-- ==== Proof.V.Value.lean ====
/- What the kernel leaves in its output, at an element, over the reals with infinities. -/
module

public import proofs.«01_k».proof.Proof.V.Step
public import proofs.«01_k».proof.Proof.K.Frame

@[expose] public section

set_option maxRecDepth 16384

noncomputable section

namespace Cert.Kernel.Ffn

open Cert.Kernel Cert.Kernel.Gen Cert.FfnMath
open Idealize.ShloMosaic hiding ix2 ix3 ix4 eq_ix4
open Idealize.ShloMosaic.ValueIdx (ix2 ix3 ix4 eq_ix4)
open Idealize.ShloMosaic.TcCoe

section
variable {F : FTy → Type} [FloatOps F] (m : (ℓ : Loc nD τ sig) → Buf (Elt F) ℓ)

/-- Where the gate weights' block of a point lies. -/
theorem idxG (i : grid0.Coords) : cc0_transform_1 i = ![(i 0).val, 0, (i 1).val] := by
  have h : ∀ (a : Fin 16) (b : Fin 11), (![(BitVec.ofNat 32 a.val).toNat, (0#32).toNat, (BitVec.ofNat 32 b.val).toNat] : Fin 3 → ℕ) = ![a.val, 0, b.val] := by decide +kernel
  exact h ⟨(i 0).val, lt0 i⟩ ⟨(i 1).val, (i 1).isLt⟩
/-- Where the down weights' block lies. -/
theorem idxD (i : grid0.Coords) : cc0_transform_3 i = ![(i 0).val, (i 1).val, 0] := by
  have h : ∀ (a : Fin 16) (b : Fin 11), (![(BitVec.ofNat 32 a.val).toNat, (BitVec.ofNat 32 b.val).toNat, (0#32).toNat] : Fin 3 → ℕ) = ![a.val, b.val, 0] := by decide +kernel
  exact h ⟨(i 0).val, lt0 i⟩ ⟨(i 1).val, (i 1).isLt⟩

theorem G1_at (c : Dev nD) (t : Fin grid0.N) (e : Fin 16) (he : e.val = t.val / 11) (k : Fin 1024) (f : Fin 256) :
    G1 m c t (ix3 0 k f) = m ((c.tc : Thread nD τ).loc main_arg2) (ix3 (n0 := 16) (n1 := 1024) (n2 := 2816) e k ⟨256 * (t.val % 11) + f.val, by omega⟩) := by
  refine Eq.trans ?_ (congrFun (Vm_arg2 m c) _)
  refine congrArg (Vm m c main_arg2) (funext fun a => Fin.ext ?_)
  refine (Pipeline.Window.rect_emb_val (win0 (aT m 0) 0) t (ix3 0 k f) a).trans ?_
  have hi : (win0 (aT m 0) 0).index t = cc0_transform_1 (grid0.coords t) := rfl
  rw [hi, idxG, coord0, coord1]
  match a with
  | ⟨0, _⟩ => change t.val / 11 * 1 + 0 = e.val; omega
  | ⟨1, _⟩ => change 0 * 1024 + k.val = k.val; omega
  | ⟨2, _⟩ => change t.val % 11 * 256 + f.val = 256 * (t.val % 11) + f.val; omega
theorem G2_at (c : Dev nD) (t : Fin grid0.N) (e : Fin 16) (he : e.val = t.val / 11) (k : Fin 1024) (f : Fin 256) :
    G2 m c t (ix3 0 k f) = m ((c.tc : Thread nD τ).loc main_arg3) (ix3 (n0 := 16) (n1 := 1024) (n2 := 2816) e k ⟨256 * (t.val % 11) + f.val, by omega⟩) := by
  refine Eq.trans ?_ (congrFun (Vm_arg3 m c) _)
  refine congrArg (Vm m c main_arg3) (funext fun a => Fin.ext ?_)
  refine (Pipeline.Window.rect_emb_val (win0 (aT m 0) 1) t (ix3 0 k f) a).trans ?_
  have hi : (win0 (aT m 0) 1).index t = cc0_transform_1 (grid0.coords t) := rfl
  rw [hi, idxG, coord0, coord1]
  match a with
  | ⟨0, _⟩ => change t.val / 11 * 1 + 0 = e.val; omega
  | ⟨1, _⟩ => change 0 * 1024 + k.val = k.val; omega
  | ⟨2, _⟩ => change t.val % 11 * 256 + f.val = 256 * (t.val % 11) + f.val; omega
theorem G3_at (c : Dev nD) (t : Fin grid0.N) (e : Fin 16) (he : e.val = t.val / 11) (f : Fin 256) (d : Fin 1024) :
    G3 m c t (ix3 0 f d) = m ((c.tc : Thread nD τ).loc main_arg4) (ix3 (n0 := 16) (n1 := 2816) (n2 := 1024) e ⟨256 * (t.val % 11) + f.val, by omega⟩ d) := by
  refine Eq.trans ?_ (congrFun (Vm_arg4 m c) _)
  refine congrArg (Vm m c main_arg4) (funext fun a => Fin.ext ?_)
  refine (Pipeline.Window.rect_emb_val (win0 (aT m 0) 2) t (ix3 0 f d) a).trans ?_
  have hi : (win0 (aT m 0) 2).index t = cc0_transform_3 (grid0.coords t) := rfl
  rw [hi, idxD, coord0, coord1]
  match a with
  | ⟨0, _⟩ => change t.val / 11 * 1 + 0 = e.val; omega
  | ⟨1, _⟩ => change t.val % 11 * 256 + f.val = 256 * (t.val % 11) + f.val; omega
  | ⟨2, _⟩ => change 0 * 1024 + d.val = d.val; omega

/-- Where an element of the output block of a point lies in the output. -/
theorem out_emb (t : Fin grid0.N) (e : Fin 16) (he : e.val = t.val / 11) (b : Fin 2) (r d : Fin 1024) :
    ((win0 (aT m 0) 3).blk t).view.emb (ix4 (n0 := 2) (n1 := 1) (n2 := 1024) (n3 := 1024) b 0 r d) = ix4 (n0 := 2) (n1 := 16) (n2 := 1024) (n3 := 1024) b e r d := by
  funext a
  refine Fin.ext ?_
  refine (Pipeline.Window.rect_emb_val (win0 (aT m 0) 3) t (ix4 (n0 := 2) (n1 := 1) (n2 := 1024) (n3 := 1024) b 0 r d) a).trans ?_
  have hi : (win0 (aT m 0) 3).index t = cc0_transform_4 (grid0.coords t) := rfl
  rw [hi, out_index, coord0]
  match a with
  | ⟨0, _⟩ => change 0 * 2 + b.val = b.val; omega
  | ⟨1, _⟩ => change t.val / 11 * 1 + 0 = e.val; omega
  | ⟨2, _⟩ => change 0 * 1024 + r.val = r.val; omega
  | ⟨3, _⟩ => change 0 * 1024 + d.val = d.val; omega
end

variable (m : (ℓ : Loc nD τ sig) → Buf (Elt Ideal) ℓ)
  (h : ∀ (c : Dev nD) i, ((m ((c.tc : Thread nD τ).loc main_arg0) : IVec S2x16x1024 32) i).toNat < 8192)

/-- A row of an expert's rounded rows is the hidden row that its token names. -/
theorem Xn_at (c : Dev nD) (e : Fin 16) (b : Fin 2) (r k : Fin 1024) :
    Xn m c e.val (ix2 (n0 := 2048) (n1 := 1024) ⟨b.val * 1024 + r.val, by omega⟩ k)
      = rowE (m ((c.tc : Thread nD τ).loc main_arg0)) (m ((c.tc : Thread nD τ).loc main_arg1)) (h c) b e r k := by
  change Vm m c main_arg1 (Idealize.ShloMosaic.ix2 (n0 := 16384) (n1 := 1024) (Rw m c e.val ⟨b.val * 1024 + r.val, by omega⟩) k) = _
  rw [Vm_arg1]
  refine congrArg (m ((c.tc : Thread nD τ).loc main_arg1)) ?_
  rw [ix2_eq_valueIdx]
  refine congrArg (fun z => ix2 (n0 := 16384) (n1 := 1024) z k) (Fin.ext ?_)
  rw [Rw_tok m h c e b r, ix3_eq_valueIdx]

/-- What a point adds to an element: one block of the feed-forward's terms. -/
theorem part_at (c : Dev nD) (n : ℕ) (hn : n < grid0.N) (e : Fin 16) (he : e.val = n / 11) (b : Fin 2) (r d : Fin 1024) :
    partE (G1 m c ⟨n, hn⟩) (G2 m c ⟨n, hn⟩) (G3 m c ⟨n, hn⟩) (fun k => Xn m c (n / 11) (ix2 (n0 := 2048) (n1 := 1024) ⟨b.val * 1024 + r.val, by omega⟩ k)) d
      = ∑ f : Fin 256, termE (rowE (m ((c.tc : Thread nD τ).loc main_arg0)) (m ((c.tc : Thread nD τ).loc main_arg1)) (h c) b e r)
          (m ((c.tc : Thread nD τ).loc main_arg2)) (m ((c.tc : Thread nD τ).loc main_arg3)) (m ((c.tc : Thread nD τ).loc main_arg4)) e d (256 * (n % 11) + f.val) := by
  refine Finset.sum_congr rfl fun f _ => ?_
  unfold termE
  rw [dif_pos (show 256 * (n % 11) + f.val < 2816 by omega), G3_at m c ⟨n, hn⟩ e he]
  simp only [G1_at m c ⟨n, hn⟩ e he, G2_at m c ⟨n, hn⟩ e he]
  rw [← he]
  simp only [Xn_at m h c e b r]

/-- The output block after a point, at an element: the terms of the expert's blocks so far. -/
theorem outN_at (c : Dev nD) : ∀ (n : ℕ) (hn : n < grid0.N) (e : Fin 16) (_ : e.val = n / 11) (b : Fin 2) (r d : Fin 1024),
    outN m c n hn (ix4 (n0 := 2) (n1 := 1) (n2 := 1024) (n3 := 1024) b 0 r d)
      = ∑ s ∈ Finset.range (n % 11 + 1), ∑ f : Fin 256, termE (rowE (m ((c.tc : Thread nD τ).loc main_arg0)) (m ((c.tc : Thread nD τ).loc main_arg1)) (h c) b e r)
          (m ((c.tc : Thread nD τ).loc main_arg2)) (m ((c.tc : Thread nD τ).loc main_arg3)) (m ((c.tc : Thread nD τ).loc main_arg4)) e d (256 * s + f.val) := by
  have h14 : ∀ y, k0_pay14 (F := Ideal) y = (0 : EReal) := fun y => Ideal.ofBits_zero_f32
  intro n
  induction n with
  | zero =>
    intro hn e he b r d
    unfold outN
    refine (step_at _ _ _ _ _ b r d).trans ?_
    rw [h14, zero_add]
    refine (part_at m h c 0 hn e he b r d).trans ?_
    rw [Finset.sum_range_succ, Finset.sum_range_zero, zero_add]
  | succ n ih =>
    intro hn e he b r d
    unfold outN
    refine (step_at _ _ _ _ _ b r d).trans ?_
    rw [part_at m h c (n + 1) hn e he b r d, Finset.sum_range_succ]
    refine congrArg₂ (· + · : EReal → EReal → EReal) ?_ rfl
    by_cases hz : (n + 1) % 11 = 0
    · rw [if_pos hz, h14, hz, Finset.sum_range_zero]
    · rw [if_neg hz, ih (Nat.lt_of_succ_lt hn) e (by omega) b r d, show (n + 1) % 11 = n % 11 + 1 by omega]

/-- An index of an output block. -/
theorem blk_ix (y : S2x1x1024x1024.Idx) : ∃ (b : Fin 2) (r d : Fin 1024), y = ix4 (n0 := 2) (n1 := 1) (n2 := 1024) (n3 := 1024) b 0 r d := by
  have h1 : (y 1).val < 1 := (y 1).isLt
  refine ⟨y 0, y 2, y 3, ?_⟩
  funext a
  match a with
  | ⟨0, _⟩ => rfl
  | ⟨1, _⟩ => exact Fin.ext (by change (y 1).val = 0; omega)
  | ⟨2, _⟩ => rfl
  | ⟨3, _⟩ => rfl
/-- An index of the output. -/
theorem out_ix (i : S2x16x1024x1024.Idx) : ∃ (b : Fin 2) (e : Fin 16) (r d : Fin 1024), i = ix4 (n0 := 2) (n1 := 16) (n2 := 1024) (n3 := 1024) b e r d :=
  ⟨_, _, _, _, eq_ix4 (n0 := 2) (n1 := 16) (n2 := 1024) (n3 := 1024) i⟩

/-- The feed-forward of the arguments, as an array. -/
def outV (c : Dev nD) : S2x16x1024x1024.Idx → EReal := fun i =>
  outE (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (h c) (i 0) (i 1) (i 2) (i 3)

/-- The kernel's output after a run. -/
theorem out_arr (c : Dev nD) : (dats m 0 c).arrAt 3 (Pipeline.pin pcfgs (aT m) 0).N = outV m h c := by
  refine (dats m 0 c).arrAt_eq_of_emb 3 _ (fun t hf y => ?_) (fun i => ?_)
  · have ht := pt_lt t
    have hm : t.val % 11 = 10 := of_decide_eq_true ((out_flush (aT m 0) t).symm.trans hf)
    obtain ⟨b, r, d, rfl⟩ := blk_ix y
    refine Eq.trans ?_ (congrArg (outV m h c) (out_emb m t ⟨t.val / 11, by omega⟩ rfl b r d).symm)
    refine Eq.trans ?_ (outE_blocks _ _ _ _ _ (h c) b ⟨t.val / 11, by omega⟩ r d)
    refine Eq.trans ?_ ((outN_at m h c t.val t.isLt ⟨t.val / 11, by omega⟩ rfl b r d).trans (by rw [hm]))
    rfl
  · obtain ⟨b, e, r, d, rfl⟩ := out_ix i
    have hN : 11 * e.val + 10 < grid0.N := lt_of_lt_of_eq (by omega) N_0.symm
    refine ⟨⟨11 * e.val + 10, hN⟩, ?_, ?_⟩
    · refine (out_flush (aT m 0) ⟨11 * e.val + 10, hN⟩).trans ?_
      rw [decide_eq_true_eq]
      change (11 * e.val + 10) % 11 = 10
      omega
    · rw [← out_emb m ⟨11 * e.val + 10, hN⟩ e (by change e.val = (11 * e.val + 10) / 11; omega) b r d]
      exact View.emb_mem_set _ _

end Cert.Kernel.Ffn
-- ==== Proof.V2.Math.lean ====
/- The input projection's mathematics at an element. -/
module

public import Idealize.ShloMosaic.PureOps.Ideal
public import Idealize.ShloMosaic.PureOps.Ideal.Laws
public import Idealize.ShloMosaic.Lib.ValueIdxCore

@[expose] public section

noncomputable section

namespace Cert.InMath

open Idealize.ShloMosaic Idealize.ShloMosaic.ValueIdx

/-- The number one, as the programs write it. -/
def oneE : EReal := Ideal.ofBits .f32 0x3F800000#32

/-- A row divided by the root of its mean square. -/
def rmsE (x : Fin 1024 → EReal) (k : Fin 1024) : EReal :=
  x k * Ideal.rsqrt (Ideal.div (∑ k, x k * x k) (Ideal.ofBits .f32 0x44800000#32) + Ideal.ofBits .f32 0x358637BD#32)

/-- A row normalised, scaled by the weights and modulated. -/
def normE (x g sc sh : Fin 1024 → EReal) (k : Fin 1024) : EReal := rmsE x k * g k * (oneE + sc k) + sh k

/-- A number times its logistic. -/
def siluE (p : EReal) : EReal := p * Ideal.logistic p

/-- The logarithm of a gate with its lower bound. -/
def gateE (lb p : EReal) : EReal := Ideal.log (lb + (oneE - lb) * Ideal.logistic p)

/-- The share of the first of two logits in their softmax. -/
def shareE (a b : EReal) : EReal :=
  Ideal.div (Ideal.exp (a - max a b)) (Ideal.exp (a - max a b) + Ideal.exp (b - max a b))

/-- A token's projection, at a column of the weights. -/
def projE (x0 : (⟨3, ![2, 8192, 1024]⟩ : Shape).Idx → EReal) (x1 : (⟨2, ![8, 6144]⟩ : Shape).Idx → EReal)
    (x2 : (⟨1, ![1024]⟩ : Shape).Idx → EReal) (x3 : (⟨2, ![1024, 3072]⟩ : Shape).Idx → EReal) (b : Fin 2) (r : Fin 8192) (n : Fin 3072) : EReal :=
  ∑ k : Fin 1024, normE (fun k => x0 (ix3 b r k)) (fun k => x2 (ix1 k)) (fun k => x1 (ix2 (n0 := 8) (n1 := 6144) ⟨b.val, by omega⟩ ⟨1024 + k.val, by omega⟩))
    (fun k => x1 (ix2 (n0 := 8) (n1 := 6144) ⟨b.val, by omega⟩ ⟨k.val, by omega⟩)) k * x3 (ix2 k n)

/-- The lower bound of a direction's gate. -/
def lbE (x4 : (⟨3, ![2, 2, 512]⟩ : Shape).Idx → EReal) (d : Fin 2) (n : Fin 512) : EReal := shareE (x4 (ix3 0 d n)) (x4 (ix3 1 d n))

end Cert.InMath
-- ==== Proof.V2.Step.lean ====
/- What one step of the projection computes, at an element, over the reals with infinities. -/
module

public import proofs.«01_k».proof.Proof.V2.Math
public import proofs.«01_k».proof.Proof.Gen.Kernel2Ideal.Skeleton
public import Idealize.ShloMosaic.Lib.MatmulPlain
public import Idealize.ShloMosaic.Lib.ValueLayout
public import Idealize.ShloMosaic.Lib.ValueLayoutCasts
public import Idealize.ShloMosaic.Lib.IdealHost

@[expose] public section

set_option maxRecDepth 16384

noncomputable section

namespace Cert.Kernel2Ideal.Proj

open Cert.Kernel2Ideal Cert.Kernel2Ideal.Gen Cert.InMath
open Idealize.ShloMosaic
open Idealize.ShloMosaic.ValueIdx (ix1 ix2 ix3 ix4 eq_ix4)
open Idealize.ShloMosaic.TcCoe

/-- A product with 512 columns, started from zero. -/
theorem mm (x : FVec Ideal S256x1024 .bf16) (w : FVec Ideal S1024x512 .bf16) (r : Fin 256) (n : Fin 512) :
    matmul dot_S256x1024_S1024x512_S256x512_1_0_0_1_n_n none x (shapeCast S1024x512 w shapeCasts_S1024x512_S1024x512) (constant (F := Ideal) S256x512 .f32 0x00000000#32) (ix2 r n)
      = ∑ k : Fin 1024, x (ix2 r k) * w (ix2 k n) := by
  rw [shapeCast_self]
  refine (Ideal.matmul_plain_apply (M := 256) (K := 1024) (N := 512) none x w (constant (F := Ideal) S256x512 .f32 0x00000000#32) r n).trans ?_
  rw [show constant (F := Ideal) S256x512 .f32 0x00000000#32 (ix2 r n) = (0 : EReal) from Ideal.ofBits_zero_f32, zero_add]

/-- Adding the unit axis to half an output block. -/
theorem add_at {e : FTy} (Y : FVec Ideal S256x512 e) (r : Fin 256) (n : Fin 512) :
    shapeCast S1x256x512 Y shapeCasts_S256x512_S1x256x512 (ix3 0 r n) = Y (ix2 r n) :=
  ValueIdx.shapeCast_ab_1ab_apply Y shapeCasts_S256x512_S1x256x512 0 r n

/-- A sum over a row. -/
theorem sum_at (v : FVec Ideal S256x1024 .f32) (r : Fin 256) :
    multiReduction .add [1] S256 v 0x00000000#32 reduces_S256x1024_S256 (.inl rfl) rfl (ix1 r) = ∑ k : Fin 1024, v (ix2 r k) := by
  refine (Ideal.multiReduction_add_single v _ reduces_S256x1024_S256 (.inl rfl) rfl (ix1 r)).trans ?_
  refine Finset.sum_congr rfl fun k _ => congrArg v (funext fun c => Fin.ext ?_)
  match c with
  | ⟨0, _⟩ => rfl
  | ⟨1, _⟩ => rfl

/-- One column broadcast over many. -/
theorem col_at (v : FVec Ideal S256x1 .f32) (r : Fin 256) (k : Fin 1024) :
    broadcastTo S256x1024 v broadcasts_S256x1_S256x1024 (ix2 r k) = v (ix2 r 0) := by
  refine broadcastTo_apply v _ (ix2 r k) (ix2 r 0) fun a => ?_
  match a with
  | ⟨0, _⟩ => rfl
  | ⟨1, _⟩ => rfl

/-- The row normalised. -/
theorem pay11_at (v : Vec Ideal S1x256x1024 .f32) (r : Fin 256) (k : Fin 1024) :
    k0_pay11 (F := Ideal) v (ix2 r k) = rmsE (fun k => v (ix3 0 r k)) k := by
  have hc : ∀ k, shapeCast S256x1024 v shapeCasts_S1x256x1024_S256x1024 (ix2 r k) = v (ix3 0 r k) :=
    fun k => ValueIdx.shapeCast_1ab_ab_apply v shapeCasts_S1x256x1024_S256x1024 r k
  unfold k0_pay11 rmsE
  refine congrArg₂ (· * · : EReal → EReal → EReal) (hc k) ((col_at _ r k).trans ?_)
  refine congrArg (fun z : EReal => Ideal.rsqrt (Ideal.div z (Ideal.ofBits .f32 0x44800000#32) + Ideal.ofBits .f32 0x358637BD#32)) ?_
  refine (ValueIdx.shapeCast_a_a1_apply _ shapeCasts_S256_S256x1 r 0).trans ((sum_at _ r).trans (Finset.sum_congr rfl fun k _ => ?_))
  exact congrArg₂ (· * · : EReal → EReal → EReal) (hc k) (hc k)

/-- The row normalised, scaled and modulated. -/
theorem pay3_at (v1 v3 v27 : Vec Ideal S1x1024 .f32) (v : Vec Ideal S1x256x1024 .f32) (r : Fin 256) (k : Fin 1024) :
    k0_pay3 (F := Ideal) v1 v3 v v27 (ix2 r k)
      = normE (fun k => v (ix3 0 r k)) (fun k => v27 (ix2 0 k)) (fun k => v3 (ix2 0 k)) (fun k => v1 (ix2 0 k)) k := by
  have hb : ∀ w : FVec Ideal S1x1024 .f32, broadcastTo S256x1024 w broadcasts_S1x1024_S256x1024 (ix2 r k) = w (ix2 0 k) :=
    fun w => ValueIdx.broadcastTo_1b_ab_apply w broadcasts_S1x1024_S256x1024 r k
  have hg : broadcastTo S256x1024 (shapeCast S1x1024 v27 shapeCasts_S1x1024_S1x1024) broadcasts_S1x1024_S256x1024 (ix2 r k) = v27 (ix2 0 k) := by
    rw [shapeCast_self]; exact hb v27
  unfold normE
  refine Eq.trans ?_ (congrArg₂ (· + · : EReal → EReal → EReal) (congrArg₂ (· * · : EReal → EReal → EReal)
    (congrArg₂ (· * · : EReal → EReal → EReal) (pay11_at v r k) hg) (hb (addf (broadcast S1x1024 (Scalar.ofBits (F := Ideal) .f32 0x3F800000#32)) v3))) (hb v1))
  rfl

theorem pay4_at (h : FVec Ideal S256x1024 .bf16) (w : Vec Ideal S1024x512 .bf16) (r : Fin 256) (n : Fin 512) :
    k0_pay4 (F := Ideal) h w (ix3 0 r n) = ∑ k : Fin 1024, h (ix2 r k) * w (ix2 k n) :=
  (add_at _ r n).trans (mm h w r n)
theorem pay6_at (h : FVec Ideal S256x1024 .bf16) (w : Vec Ideal S1024x512 .bf16) (r : Fin 256) (n : Fin 512) :
    k0_pay6 (F := Ideal) h w (ix3 0 r n) = ∑ k : Fin 1024, h (ix2 r k) * w (ix2 k n) :=
  (add_at _ r n).trans (mm h w r n)
theorem pay5_at (h : FVec Ideal S256x1024 .bf16) (w : Vec Ideal S1024x512 .bf16) (r : Fin 256) (n : Fin 512) :
    k0_pay5 (F := Ideal) h w (ix3 0 r n) = siluE (∑ k : Fin 1024, h (ix2 r k) * w (ix2 k n)) := by
  unfold k0_pay5
  refine (add_at (e := .bf16) _ r n).trans ?_
  exact congrArg siluE (mm h w r n)
theorem pay10_at (h : FVec Ideal S256x1024 .bf16) (w : Vec Ideal S1024x512 .bf16) (r : Fin 256) (n : Fin 512) :
    k0_pay10 (F := Ideal) h w (ix3 0 r n) = siluE (∑ k : Fin 1024, h (ix2 r k) * w (ix2 k n)) :=
  pay5_at h w r n

/-- The lower bounds of the gates. -/
theorem pay2_at (a b : Vec Ideal S1x2x512 .f32) (d : Fin 2) (n : Fin 512) :
    k0_pay2 (F := Ideal) a b (ix2 d n) = shareE (a (ix3 0 d n)) (b (ix3 0 d n)) := by
  have h : ∀ v : Vec Ideal S1x2x512 .f32, shapeCast S2x512 v shapeCasts_S1x2x512_S2x512 (ix2 d n) = v (ix3 0 d n) :=
    fun v => ValueIdx.shapeCast_1ab_ab_apply v shapeCasts_S1x2x512_S2x512 d n
  exact congrArg₂ shareE (h a) (h b)

/-- A gate of the first direction. -/
theorem gate0 (lb : FVec Ideal S2x512 .f32) (h : FVec Ideal S256x1024 .bf16) (w : Vec Ideal S1024x512 .bf16) (r : Fin 256) (n : Fin 512) :
    k0_pay8 (F := Ideal) (k0_pay7 lb h w) (ix3 0 r n) = gateE (lb (ix2 0 n)) (∑ k : Fin 1024, h (ix2 r k) * w (ix2 k n)) := by
  have hs : extractStridedSlice S1x512 ![0, 0] lb slices_S2x512_o0_0_S1x512 (ix2 0 n) = lb (ix2 0 n) :=
    extractStridedSlice_apply ![0, 0] lb slices_S2x512_o0_0_S1x512 (ix2 0 n) (ix2 0 n) (fun a => by
      match a with
      | ⟨0, _⟩ => rfl
      | ⟨1, _⟩ => exact (Nat.zero_add _).symm)
  have hb : ∀ w : FVec Ideal S1x512 .f32, broadcastTo S256x512 w broadcasts_S1x512_S256x512 (ix2 r n) = w (ix2 0 n) :=
    fun w => ValueIdx.broadcastTo_1b_ab_apply w broadcasts_S1x512_S256x512 r n
  unfold k0_pay8 k0_pay7 gateE
  refine (add_at (e := .f32) _ r n).trans ?_
  refine congrArg (Ideal.log : EReal → EReal) (congrArg₂ (· + · : EReal → EReal → EReal) ((hb _).trans hs) (congrArg₂ (· * · : EReal → EReal → EReal)
    ((hb _).trans (congrArg (oneE - · : EReal → EReal) hs)) (congrArg (Ideal.logistic : EReal → EReal) (mm h w r n))))

/-- A gate of the second direction. -/
theorem gate1 (lb : FVec Ideal S2x512 .f32) (h : FVec Ideal S256x1024 .bf16) (w : Vec Ideal S1024x512 .bf16) (r : Fin 256) (n : Fin 512) :
    k0_pay9 (F := Ideal) lb h w (ix3 0 r n) = gateE (lb (ix2 1 n)) (∑ k : Fin 1024, h (ix2 r k) * w (ix2 k n)) := by
  have hs : extractStridedSlice S1x512 ![1, 0] lb slices_S2x512_o1_0_S1x512 (ix2 0 n) = lb (ix2 1 n) :=
    extractStridedSlice_apply ![1, 0] lb slices_S2x512_o1_0_S1x512 (ix2 0 n) (ix2 1 n) (fun a => by
      match a with
      | ⟨0, _⟩ => rfl
      | ⟨1, _⟩ => exact (Nat.zero_add _).symm)
  have hb : ∀ w : FVec Ideal S1x512 .f32, broadcastTo S256x512 w broadcasts_S1x512_S256x512 (ix2 r n) = w (ix2 0 n) :=
    fun w => ValueIdx.broadcastTo_1b_ab_apply w broadcasts_S1x512_S256x512 r n
  unfold k0_pay9 gateE
  refine (add_at (e := .f32) _ r n).trans ?_
  refine congrArg (Ideal.log : EReal → EReal) (congrArg₂ (· + · : EReal → EReal → EReal) ((hb _).trans hs) (congrArg₂ (· * · : EReal → EReal → EReal)
    ((hb _).trans (congrArg (oneE - · : EReal → EReal) hs)) (congrArg (Ideal.logistic : EReal → EReal) (mm h w r n))))

end Cert.Kernel2Ideal.Proj
-- ==== Proof.V2.Out.lean ====
/- What a block of the projection's outputs holds after a step, at an element, over the reals with infinities. -/
module

public import proofs.«01_k».proof.Proof.V2.Step
public import proofs.«01_k».proof.Proof.Gen.Kernel2Ideal.Value
public import Idealize.ShloMosaic.Lib.WritesUnit

@[expose] public section

set_option maxRecDepth 16384

noncomputable section

namespace Cert.Kernel2Ideal.Proj

open Cert.Kernel2Ideal Cert.Kernel2Ideal.Gen Cert.InMath
open Idealize.ShloMosaic
open Idealize.ShloMosaic.ValueIdx (ix1 ix2 ix3 ix4 eq_ix4)
open Idealize.ShloMosaic.TcCoe

/-- A load from a whole buffer reads its contents at the offset plus the index. -/
theorem ld_at {F : FTy → Type} [FloatOps F] {sp : Space} {s : Shape} {e : EltTy} {arg : Memref sig .tc sp s e} (harg : arg.IsWhole) (x : s.Idx → Elt F e) {off size : Fin s.rank → ℕ}
    (inb : ∀ a, off a + size a ≤ s.size a) (y : (Rect.unit off size inb).shape.Idx) (z : s.Idx) (hz : ∀ a, (z a).val = off a + (y a).val) :
    View.readAt (Elt F) arg.view (Rect.unit off size inb).toLoadRect (harg.unread x) y = x z := by
  rw [View.readAt_apply, harg.read_unread]
  refine congrArg x (funext fun a => Fin.ext ?_)
  rw [hz]
  change off a + 1 * (y a).val = _
  rw [Nat.one_mul]

/-- Two stores of 256 rows fill a block of 512 rows. -/
theorem two_at {F : FTy → Type} [FloatOps F] {κ : Kind} {sp : Space} {e : EltTy} (v : View sig κ sp S1x512x512 e) (f : v.ty.Contents (Elt F)) (w1 w0 : S1x256x512.Idx → Elt F e)
    (g : Fin 512 → Fin 512 → Elt F e) (h0 : ∀ (r : Fin 256) (n : Fin 512), w0 (ix3 0 r n) = g ⟨r.val, by omega⟩ n)
    (h1 : ∀ (r : Fin 256) (n : Fin 512), w1 (ix3 0 r n) = g ⟨256 + r.val, by omega⟩ n) (r n : Fin 512) :
    v.read (Elt F) (v.writes (Elt F) f [⟨Rect.unit ![0, 256, 0] S1x256x512.size inb_S1x512x512_S1x256x512_0_256_0, w1⟩,
      ⟨Rect.unit ![0, 0, 0] S1x256x512.size inb_S1x512x512_S1x256x512_0_0_0, w0⟩]) (ix3 0 r n) = g r n := by
  by_cases h : r.val < 256
  · refine (View.read_writes_cons_unit_of_not_mem v f inb_S1x512x512_S1x256x512_0_256_0 w1 _ (ix3 0 r n) rfl 1 (.inl h)).trans ?_
    refine (View.read_writes_cons_unit_of_mem v f inb_S1x512x512_S1x256x512_0_0_0 w0 [] (ix3 0 r n) (ix3 (n0 := 1) (n1 := 256) (n2 := 512) 0 ⟨r.val, h⟩ n) rfl fun a => ?_).trans (h0 ⟨r.val, h⟩ n)
    match a with
    | ⟨0, _⟩ => rfl
    | ⟨1, _⟩ => exact (Nat.zero_add _).symm
    | ⟨2, _⟩ => exact (Nat.zero_add _).symm
  · refine (View.read_writes_cons_unit_of_mem v f inb_S1x512x512_S1x256x512_0_256_0 w1 _ (ix3 0 r n) (ix3 (n0 := 1) (n1 := 256) (n2 := 512) 0 ⟨r.val - 256, by omega⟩ n) rfl fun a => ?_).trans
      ((h1 ⟨r.val - 256, by omega⟩ n).trans (congrArg (fun z => g z n) (Fin.ext (by change 256 + (r.val - 256) = r.val; omega))))
    match a with
    | ⟨0, _⟩ => rfl
    | ⟨1, _⟩ => change r.val = 256 + (r.val - 256); omega
    | ⟨2, _⟩ => exact (Nat.zero_add _).symm

/-- A block's row normalised, scaled and modulated. -/
def rowB (i : grid0.Coords) (x0 : Vec Ideal S1x512x1024 .f32) (x1 : Vec Ideal S8x6144 .f32) (x2 : Vec Ideal S1x1024 .f32) (r : Fin 512) : Fin 1024 → EReal :=
  normE (fun k => x0 (ix3 0 r k)) (fun k => x2 (ix2 0 k)) (fun k => x1 (ix2 (n0 := 8) (n1 := 6144) ⟨(i 0).val, lt_trans (i 0).isLt (by decide)⟩ ⟨1024 + k.val, by omega⟩))
    (fun k => x1 (ix2 (n0 := 8) (n1 := 6144) ⟨(i 0).val, lt_trans (i 0).isLt (by decide)⟩ ⟨k.val, by omega⟩))
/-- Its product with a column of the weights. -/
def prodB (i : grid0.Coords) (x0 : Vec Ideal S1x512x1024 .f32) (x1 : Vec Ideal S8x6144 .f32) (x2 : Vec Ideal S1x1024 .f32) (x3 : Vec Ideal S1024x3072 .bf16) (r : Fin 512) (n : Fin 3072) : EReal :=
  ∑ k : Fin 1024, rowB i x0 x1 x2 r k * x3 (ix2 k n)

theorem off1_eq (i : grid0.Coords) : k0_off1 i = ![(i 0).val, 0] := by
  have h : ∀ a : Fin 2, (![(Scalar.indexCast (BitVec.ofNat 32 a.val)).toNat, (0#32).toNat] : Fin 2 → ℕ) = ![a.val, 0] := by decide +kernel
  exact h ⟨(i 0).val, (i 0).isLt⟩
theorem off2_eq (i : grid0.Coords) : k0_off2 i = ![(i 0).val, 1024] := by
  have h : ∀ a : Fin 2, (![(Scalar.indexCast (BitVec.ofNat 32 a.val)).toNat, (1024#32).toNat] : Fin 2 → ℕ) = ![a.val, 1024] := by decide +kernel
  exact h ⟨(i 0).val, (i 0).isLt⟩

section
variable (c : Dev nD) (i : grid0.Coords) (arg2 : Memref sig .tc .vmem S1x512x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S2x2x512 .f32) (harg6 : arg6.IsWhole) (arg7 : Memref sig .tc .vmem S1x512x512 .f32) (harg7 : arg7.IsWhole) (arg8 : Memref sig .tc .vmem S1x512x512 .bf16) (harg8 : arg8.IsWhole) (arg9 : Memref sig .tc .vmem S1x512x512 .bf16) (harg9 : arg9.IsWhole) (arg10 : Memref sig .tc .vmem S1x512x512 .f32) (harg10 : arg10.IsWhole) (arg11 : Memref sig .tc .vmem S1x512x512 .f32) (harg11 : arg11.IsWhole) (arg12 : Memref sig .tc .vmem S1x512x512 .bf16) (harg12 : arg12.IsWhole)
  (x0 : Vec Ideal S1x512x1024 .f32) (x1 : Vec Ideal S8x6144 .f32) (x2 : Vec Ideal S1x1024 .f32) (x3 : Vec Ideal S1024x3072 .bf16) (x4 : Vec Ideal S2x2x512 .f32)

/-- A group of 256 rows. -/
theorem row_at (o : ℕ) (inb : ∀ a, (![0, o, 0] : Fin 3 → ℕ) a + S1x256x1024.size a ≤ S1x512x1024.size a) (r : Fin 256) (R : Fin 512) (hR : R.val = o + r.val) (k : Fin 1024) :
    k0_pay3 (F := Ideal) (kernelRun0_A.sl.r c i arg3 harg3 x1) (kernelRun0_A.sl.r_1 c i arg3 harg3 x1)
      (View.readAt (Elt Ideal) arg2.view (Rect.unit (s := S1x512x1024) ![0, o, 0] S1x256x1024.size inb).toLoadRect (harg2.unread x0))
      (View.readAt (Elt Ideal) arg4.view (Rect.unit (s := S1x1024) ![0, 0] S1x1024.size inb_S1x1024_S1x1024_0_0).toLoadRect (harg4.unread x2)) (ix2 r k) = rowB i x0 x1 x2 R k := by
  refine (pay3_at _ _ _ _ r k).trans ?_
  refine congr (congr (congr (congr (congrArg normE (funext fun k => ?_)) (funext fun k => ?_)) (funext fun k => ?_)) (funext fun k => ?_)) rfl
  · refine ld_at harg2 x0 (off := ![0, o, 0]) (size := S1x256x1024.size) inb (ix3 (n0 := 1) (n1 := 256) 0 r k) (ix3 (n0 := 1) (n1 := 512) 0 R k) fun a => ?_
    match a with
    | ⟨0, _⟩ => rfl
    | ⟨1, _⟩ => exact hR
    | ⟨2, _⟩ => exact (Nat.zero_add _).symm
  · refine ld_at harg4 x2 _ _ (ix2 (n0 := 1) 0 k) fun a => ?_
    match a with
    | ⟨0, _⟩ => rfl
    | ⟨1, _⟩ => exact (Nat.zero_add _).symm
  · refine ld_at harg3 x1 _ _ (ix2 (n0 := 8) (n1 := 6144) ⟨(i 0).val, _⟩ ⟨1024 + k.val, _⟩) fun a => ?_
    match a with
    | ⟨0, _⟩ => exact (congrArg (· + 0) (congrFun (off2_eq i) 0)).symm
    | ⟨1, _⟩ => exact (congrArg (· + k.val) (congrFun (off2_eq i) 1)).symm
  · refine ld_at harg3 x1 _ _ (ix2 (n0 := 8) (n1 := 6144) ⟨(i 0).val, _⟩ ⟨k.val, _⟩) fun a => ?_
    match a with
    | ⟨0, _⟩ => exact (congrArg (· + 0) (congrFun (off1_eq i) 0)).symm
    | ⟨1, _⟩ => exact (Nat.zero_add _).symm.trans (congrArg (· + k.val) (congrFun (off1_eq i) 1)).symm
theorem h0_at (r : Fin 256) (k : Fin 1024) :
    kernelRun0_A.sl.r_3 (F := Ideal) c i arg2 harg2 arg3 harg3 arg4 harg4 x0 x1 x2 (ix2 r k) = rowB i x0 x1 x2 ⟨r.val, by omega⟩ k :=
  row_at c i arg2 harg2 arg3 harg3 arg4 harg4 x0 x1 x2 0 inb_S1x512x1024_S1x256x1024_0_0_0 r _ (Nat.zero_add _).symm k
theorem h1_at (r : Fin 256) (k : Fin 1024) :
    kernelRun0_A.sl.r_8 (F := Ideal) c i arg2 harg2 arg3 harg3 arg4 harg4 x0 x1 x2 (ix2 r k) = rowB i x0 x1 x2 ⟨256 + r.val, by omega⟩ k :=
  row_at c i arg2 harg2 arg3 harg3 arg4 harg4 x0 x1 x2 256 inb_S1x512x1024_S1x256x1024_0_256_0 r _ rfl k

/-- The lower bounds of the gates. -/
theorem lb_at (d : Fin 2) (n : Fin 512) : kernelRun0_A.sl.r_2 (F := Ideal) c arg6 harg6 x4 (ix2 d n) = lbE x4 d n := by
  refine (pay2_at _ _ d n).trans (congrArg₂ shareE ?_ ?_)
  · refine ld_at harg6 x4 _ _ (ix3 (n0 := 2) (n1 := 2) (n2 := 512) 0 d n) fun a => ?_
    match a with
    | ⟨0, _⟩ => rfl
    | ⟨1, _⟩ => exact (Nat.zero_add _).symm
    | ⟨2, _⟩ => exact (Nat.zero_add _).symm
  · refine ld_at harg6 x4 _ _ (ix3 (n0 := 2) (n1 := 2) (n2 := 512) 1 d n) fun a => ?_
    match a with
    | ⟨0, _⟩ => rfl
    | ⟨1, _⟩ => exact (Nat.zero_add _).symm
    | ⟨2, _⟩ => exact (Nat.zero_add _).symm

/-- A product of 256 rows with 512 of the weights' columns. -/
theorem sum_of (h : FVec Ideal S256x1024 .bf16) (o : ℕ) (ho : o + 512 ≤ 3072) (inb : ∀ a, (![0, o] : Fin 2 → ℕ) a + S1024x512.size a ≤ S1024x3072.size a) (R : Fin 512) (r : Fin 256)
    (hh : ∀ k, h (ix2 r k) = rowB i x0 x1 x2 R k) (n : Fin 512) :
    ∑ k : Fin 1024, h (ix2 r k) * (View.readAt (Elt Ideal) arg5.view (Rect.unit (s := S1024x3072) ![0, o] S1024x512.size inb).toLoadRect (harg5.unread x3) (ix2 k n) : EReal)
      = prodB i x0 x1 x2 x3 R ⟨o + n.val, by omega⟩ := by
  refine Finset.sum_congr rfl fun k _ => congrArg₂ (· * · : EReal → EReal → EReal) (hh k) ?_
  refine ld_at harg5 x3 (off := ![0, o]) (size := S1024x512.size) inb (ix2 (n0 := 1024) (n1 := 512) k n) (ix2 (n0 := 1024) (n1 := 3072) k ⟨o + n.val, by omega⟩) fun a => ?_
  match a with
  | ⟨0, _⟩ => exact (Nat.zero_add _).symm
  | ⟨1, _⟩ => rfl

/-- The first output's block. -/
theorem out5_at (R n : Fin 512) :
    out0_A_5 (F := Ideal) c i arg2 harg2 arg3 harg3 arg4 harg4 arg5 harg5 arg6 harg6 arg7 harg7 arg8 harg8 arg9 harg9 arg10 harg10 arg11 harg11 arg12 harg12 x0 x1 x2 x3 x4 (ix3 0 R n) = prodB i x0 x1 x2 x3 R ⟨0 + n.val, by omega⟩ := by
  unfold out0_A_5 kernelRun0_A
  exact two_at (F := Ideal) (e := .f32) VO0_5 VO0_5.junk _ _ (fun R n => prodB i x0 x1 x2 x3 R ⟨0 + n.val, by omega⟩)
    (fun r n => (pay4_at _ _ r n).trans (sum_of i arg5 harg5 x0 x1 x2 x3 _ 0 (by omega) _ ⟨r.val, by omega⟩ r (fun k => h0_at c i arg2 harg2 arg3 harg3 arg4 harg4 x0 x1 x2 r k) n))
    (fun r n => (pay4_at _ _ r n).trans (sum_of i arg5 harg5 x0 x1 x2 x3 _ 0 (by omega) _ ⟨256 + r.val, by omega⟩ r (fun k => h1_at c i arg2 harg2 arg3 harg3 arg4 harg4 x0 x1 x2 r k) n)) R n

/-- The second output's block. -/
theorem out6_at (R n : Fin 512) :
    out0_A_6 (F := Ideal) c i arg2 harg2 arg3 harg3 arg4 harg4 arg5 harg5 arg6 harg6 arg7 harg7 arg8 harg8 arg9 harg9 arg10 harg10 arg11 harg11 arg12 harg12 x0 x1 x2 x3 x4 (ix3 0 R n) = siluE (prodB i x0 x1 x2 x3 R ⟨512 + n.val, by omega⟩) := by
  unfold out0_A_6 kernelRun0_A
  exact two_at (F := Ideal) (e := .bf16) VO0_6 VO0_6.junk _ _ (fun R n => siluE (prodB i x0 x1 x2 x3 R ⟨512 + n.val, by omega⟩))
    (fun r n => (pay5_at _ _ r n).trans (congrArg siluE (sum_of i arg5 harg5 x0 x1 x2 x3 _ 512 (by omega) _ ⟨r.val, by omega⟩ r (fun k => h0_at c i arg2 harg2 arg3 harg3 arg4 harg4 x0 x1 x2 r k) n)))
    (fun r n => (pay5_at _ _ r n).trans (congrArg siluE (sum_of i arg5 harg5 x0 x1 x2 x3 _ 512 (by omega) _ ⟨256 + r.val, by omega⟩ r (fun k => h1_at c i arg2 harg2 arg3 harg3 arg4 harg4 x0 x1 x2 r k) n))) R n

/-- The third output's block. -/
theorem out7_at (R n : Fin 512) :
    out0_A_7 (F := Ideal) c i arg2 harg2 arg3 harg3 arg4 harg4 arg5 harg5 arg6 harg6 arg7 harg7 arg8 harg8 arg9 harg9 arg10 harg10 arg11 harg11 arg12 harg12 x0 x1 x2 x3 x4 (ix3 0 R n) = prodB i x0 x1 x2 x3 R ⟨1024 + n.val, by omega⟩ := by
  unfold out0_A_7 kernelRun0_A
  exact two_at (F := Ideal) (e := .bf16) VO0_7 VO0_7.junk _ _ (fun R n => prodB i x0 x1 x2 x3 R ⟨1024 + n.val, by omega⟩)
    (fun r n => (pay6_at _ _ r n).trans (sum_of i arg5 harg5 x0 x1 x2 x3 _ 1024 (by omega) _ ⟨r.val, by omega⟩ r (fun k => h0_at c i arg2 harg2 arg3 harg3 arg4 harg4 x0 x1 x2 r k) n))
    (fun r n => (pay6_at _ _ r n).trans (sum_of i arg5 harg5 x0 x1 x2 x3 _ 1024 (by omega) _ ⟨256 + r.val, by omega⟩ r (fun k => h1_at c i arg2 harg2 arg3 harg3 arg4 harg4 x0 x1 x2 r k) n)) R n

/-- The fourth output's block. -/
theorem out8_at (R n : Fin 512) :
    out0_A_8 (F := Ideal) c i arg2 harg2 arg3 harg3 arg4 harg4 arg5 harg5 arg6 harg6 arg7 harg7 arg8 harg8 arg9 harg9 arg10 harg10 arg11 harg11 arg12 harg12 x0 x1 x2 x3 x4 (ix3 0 R n) = gateE (lbE x4 0 n) (prodB i x0 x1 x2 x3 R ⟨1536 + n.val, by omega⟩) := by
  unfold out0_A_8 kernelRun0_A
  exact two_at (F := Ideal) (e := .f32) VO0_8 VO0_8.junk _ _ (fun R n => gateE (lbE x4 0 n) (prodB i x0 x1 x2 x3 R ⟨1536 + n.val, by omega⟩))
    (fun r n => (gate0 _ _ _ r n).trans (congrArg₂ gateE (lb_at c arg6 harg6 x4 0 n) (sum_of i arg5 harg5 x0 x1 x2 x3 _ 1536 (by omega) _ ⟨r.val, by omega⟩ r (fun k => h0_at c i arg2 harg2 arg3 harg3 arg4 harg4 x0 x1 x2 r k) n)))
    (fun r n => (gate0 _ _ _ r n).trans (congrArg₂ gateE (lb_at c arg6 harg6 x4 0 n) (sum_of i arg5 harg5 x0 x1 x2 x3 _ 1536 (by omega) _ ⟨256 + r.val, by omega⟩ r (fun k => h1_at c i arg2 harg2 arg3 harg3 arg4 harg4 x0 x1 x2 r k) n))) R n

/-- The fifth output's block. -/
theorem out9_at (R n : Fin 512) :
    out0_A_9 (F := Ideal) c i arg2 harg2 arg3 harg3 arg4 harg4 arg5 harg5 arg6 harg6 arg7 harg7 arg8 harg8 arg9 harg9 arg10 harg10 arg11 harg11 arg12 harg12 x0 x1 x2 x3 x4 (ix3 0 R n) = gateE (lbE x4 1 n) (prodB i x0 x1 x2 x3 R ⟨2048 + n.val, by omega⟩) := by
  unfold out0_A_9 kernelRun0_A
  exact two_at (F := Ideal) (e := .f32) VO0_9 VO0_9.junk _ _ (fun R n => gateE (lbE x4 1 n) (prodB i x0 x1 x2 x3 R ⟨2048 + n.val, by omega⟩))
    (fun r n => (gate1 _ _ _ r n).trans (congrArg₂ gateE (lb_at c arg6 harg6 x4 1 n) (sum_of i arg5 harg5 x0 x1 x2 x3 _ 2048 (by omega) _ ⟨r.val, by omega⟩ r (fun k => h0_at c i arg2 harg2 arg3 harg3 arg4 harg4 x0 x1 x2 r k) n)))
    (fun r n => (gate1 _ _ _ r n).trans (congrArg₂ gateE (lb_at c arg6 harg6 x4 1 n) (sum_of i arg5 harg5 x0 x1 x2 x3 _ 2048 (by omega) _ ⟨256 + r.val, by omega⟩ r (fun k => h1_at c i arg2 harg2 arg3 harg3 arg4 harg4 x0 x1 x2 r k) n))) R n

/-- The sixth output's block. -/
theorem out10_at (R n : Fin 512) :
    out0_A_10 (F := Ideal) c i arg2 harg2 arg3 harg3 arg4 harg4 arg5 harg5 arg6 harg6 arg7 harg7 arg8 harg8 arg9 harg9 arg10 harg10 arg11 harg11 arg12 harg12 x0 x1 x2 x3 x4 (ix3 0 R n) = siluE (prodB i x0 x1 x2 x3 R ⟨2560 + n.val, by omega⟩) := by
  unfold out0_A_10 kernelRun0_A
  exact two_at (F := Ideal) (e := .bf16) VO0_10 VO0_10.junk _ _ (fun R n => siluE (prodB i x0 x1 x2 x3 R ⟨2560 + n.val, by omega⟩))
    (fun r n => (pay10_at _ _ r n).trans (congrArg siluE (sum_of i arg5 harg5 x0 x1 x2 x3 _ 2560 (by omega) _ ⟨r.val, by omega⟩ r (fun k => h0_at c i arg2 harg2 arg3 harg3 arg4 harg4 x0 x1 x2 r k) n)))
    (fun r n => (pay10_at _ _ r n).trans (congrArg siluE (sum_of i arg5 harg5 x0 x1 x2 x3 _ 2560 (by omega) _ ⟨256 + r.val, by omega⟩ r (fun k => h1_at c i arg2 harg2 arg3 harg3 arg4 harg4 x0 x1 x2 r k) n))) R n

end

end Cert.Kernel2Ideal.Proj
-- ==== Proof.V2.Ref.lean ====
/- What the projection's reference computes, at an element. -/
module

public import proofs.«01_k».proof.Proof.V2.Math
public import proofs.«01_k».proof.Proof.Gen.Reference2Ideal.Read
public import Idealize.ShloMosaic.Lib.IdealHost
public import Idealize.ShloMosaic.Lib.ValueIdxCore
public import Idealize.ShloMosaic.Lib.Pointwise.Reduce

@[expose] public section

set_option maxRecDepth 16384

noncomputable section

namespace Cert.Reference2Ideal.Proj

open Cert.Reference2Ideal Cert.Reference2Ideal.Gen Cert.Reference2Ideal.Read Cert.InMath
open Idealize.ShloMosaic hiding ix1 ix2 ix3 ix4 eq_ix4
open Idealize.ShloMosaic.ValueIdx (ix1 ix2 ix3 ix4 eq_ix4)
open Idealize.ShloMosaic.TcCoe

/-- Two indices with the same coordinates are equal. -/
theorem ext1 {d : Fin 1 → ℕ} {i j : (⟨1, d⟩ : Shape).Idx} (h0 : i 0 = j 0) : i = j :=
  funext fun a => match a with
    | ⟨0, _⟩ => h0
theorem ext2 {d : Fin 2 → ℕ} {i j : (⟨2, d⟩ : Shape).Idx} (h0 : i 0 = j 0) (h1 : i 1 = j 1) : i = j :=
  funext fun a => match a with
    | ⟨0, _⟩ => h0
    | ⟨1, _⟩ => h1
theorem ext3 {d : Fin 3 → ℕ} {i j : (⟨3, d⟩ : Shape).Idx} (h0 : i 0 = j 0) (h1 : i 1 = j 1) (h2 : i 2 = j 2) : i = j :=
  funext fun a => match a with
    | ⟨0, _⟩ => h0
    | ⟨1, _⟩ => h1
    | ⟨2, _⟩ => h2

/-- The larger of two numbers, as a reduction over an axis of two. -/
theorem max_two (x : FVec Ideal S2x2x512 .f32) (d : Fin 2) (n : Fin 512) :
    Host.reduce FloatOps.maximumf x (constant S_ .f32 0xFF800000#32) reducesTo_S2x2x512_S2x512_d0 h_S_ (ix2 d n)
      = max (x (ix3 0 d n) : EReal) (x (ix3 1 d n)) := by
  have hb : Ideal.ofBits .f32 0xFF800000#32 = (⊥ : EReal) := by simp [Ideal.ofBits, Ideal.ieee]
  have hr : S2x2x512.Reduces [0] S2x512 := by decide
  rw [Host.reduce_eq_fold_single FloatOps.maximumf x _ reducesTo_S2x2x512_S2x512_d0 hr h_S_]
  have hf : (x ∘ hr.lift (ix2 d n)) = fun k : Fin 2 => x (ix3 k d n) := by
    funext k
    refine congrArg x (funext fun c => Fin.ext ?_)
    fin_cases c <;> rfl
  have key : ∀ f : Fin 2 → EReal, Finset.fold max ⊥ f (Finset.univ : Finset (Fin 2)) = max (f 0) (f 1) := by
    intro f
    rw [show (Finset.univ : Finset (Fin 2)) = {0, 1} from rfl, Finset.fold_insert (by decide), Finset.fold_singleton, max_bot_right]
  refine Eq.trans ?_ (key fun k : Fin 2 => x (ix3 k d n))
  rw [← hb]
  exact congrArg (fun f => Finset.fold max (Ideal.ofBits .f32 0xFF800000#32) f (Finset.univ : Finset (Fin 2))) hf

/-- The first running sum is the first term. -/
theorem cumsum_first (y : FVec Ideal S2x2x512 .f32) (z : FVec Ideal S_ .f32) (hz : z (Shape.Idx.first h_S_) = (0 : EReal)) (d : Fin 2) (n : Fin 512) :
    Host.reduceWindowAdd ![2, 1, 1] ![1, 1, 1] ![1, 0, 0] ![0, 0, 0] y z reduceWindows_S2x2x512_S2x2x512_w2s1p1_0_w1s1p0_0_w1s1p0_0 h_S_ (ix3 0 d n)
      = y (ix3 0 d n) := by
  unfold Host.reduceWindowAdd
  rw [Ideal.hostReduceWindowAdd_def, hz]
  unfold Ideal.hostReduceWindowAdd Host.reduceWindow
  have hl : List.finRange (Shape.numel ⟨3, ![2, 1, 1]⟩) = [⟨0, by decide⟩, ⟨1, by decide⟩] := by decide
  have e0 : (((Shape.rowMajor ⟨3, ![2, 1, 1]⟩).symm ⟨0, by decide⟩) 0).val = 0 := by decide
  have e1 : ∀ a : Fin 3, (((Shape.rowMajor ⟨3, ![2, 1, 1]⟩).symm ⟨1, by decide⟩) a).val = (![1, 0, 0] : Fin 3 → ℕ) a := by decide
  change List.foldl _ _ (List.finRange (Shape.numel ⟨3, ![2, 1, 1]⟩)) = _
  rw [hl, List.foldl_cons, List.foldl_cons, List.foldl_nil]
  have hp : ∀ a : Fin 3, (![1, 0, 0] : Fin 3 → ℕ) a ≤ (ix3 (n0 := 2) (n1 := 2) (n2 := 512) 0 d n a).val * (![1, 1, 1] : Fin 3 → ℕ) a + (((Shape.rowMajor ⟨3, ![2, 1, 1]⟩).symm ⟨1, by decide⟩) a).val
      ∧ (ix3 (n0 := 2) (n1 := 2) (n2 := 512) 0 d n a).val * (![1, 1, 1] : Fin 3 → ℕ) a + (((Shape.rowMajor ⟨3, ![2, 1, 1]⟩).symm ⟨1, by decide⟩) a).val - (![1, 0, 0] : Fin 3 → ℕ) a = (ix3 (n0 := 2) (n1 := 2) (n2 := 512) 0 d n a).val := by
    intro a
    rw [e1]
    match a with
    | ⟨0, _⟩ => exact ⟨le_refl 1, rfl⟩
    | ⟨1, _⟩ => exact ⟨Nat.zero_le _, by change d.val * 1 + 0 - 0 = d.val; omega⟩
    | ⟨2, _⟩ => exact ⟨Nat.zero_le _, by change n.val * 1 + 0 - 0 = n.val; omega⟩
  refine Eq.trans (b := ((0 + 0 + y (ix3 0 d n) : EReal))) ?_ (by rw [zero_add, zero_add])
  refine congrArg₂ (· + · : EReal → EReal → EReal) (congrArg₂ (· + · : EReal → EReal → EReal) rfl (dif_neg fun hin => ?_)) ((dif_pos fun a => ⟨(hp a).1,
    lt_of_eq_of_lt (hp a).2 (ix3 (n0 := 2) (n1 := 2) (n2 := 512) 0 d n a).isLt⟩).trans (congrArg y (funext fun a => Fin.ext (hp a).2)))
  have h : 1 ≤ 0 * 1 + (((Shape.rowMajor ⟨3, ![2, 1, 1]⟩).symm ⟨0, by decide⟩) 0).val := (hin 0).1
  rw [e0] at h
  omega

/-- The larger of the two logits. -/
theorem v2_at (x4 : (⟨S2x2x512, .f32⟩ : BufTy).Contents (Elt Ideal)) (d : Fin 2) (n : Fin 512) :
    val_main_v2 (F := Ideal) x4 (ix2 d n) = max (x4 (ix3 0 d n) : EReal) (x4 (ix3 1 d n)) := by
  rw [val_main_v2_apply, val_main_v1_apply, val_main_cst_0_apply]
  have hb : Ideal.ofBits .f32 0xFF800000#32 = (⊥ : EReal) := by simp [Ideal.ofBits, Ideal.ieee]
  change max (Ideal.ofBits .f32 0xFF800000#32) (val_main_v0 (F := Ideal) x4 (ix2 d n)) = _
  rw [hb, bot_sup_eq]
  exact max_two x4 d n

theorem v6_at (x4 : (⟨S2x2x512, .f32⟩ : BufTy).Contents (Elt Ideal)) (i d : Fin 2) (n : Fin 512) :
    val_main_v6 (F := Ideal) x4 (ix3 i d n) = Ideal.exp (x4 (ix3 i d n) - max (x4 (ix3 0 d n) : EReal) (x4 (ix3 1 d n))) := by
  rw [val_main_v6_apply, val_main_v5_apply, val_main_v4_apply, val_main_v3_apply,
    show idx_main_v3 (idx_main_v4 (ix3 i d n)) = ix2 d n from ext2 rfl rfl, v2_at]
  rfl

theorem v10_at (x4 : (⟨S2x2x512, .f32⟩ : BufTy).Contents (Elt Ideal)) (d : Fin 2) (n : Fin 512) :
    val_main_v10 (F := Ideal) x4 (ix3 0 d n) = lbE x4 d n := by
  rw [val_main_v10_apply, val_main_v9_apply, val_main_v8_apply, val_main_v7_apply, val_main_cst_1_apply]
  have hi : ∀ k : Fin 2, idx_main_v7 (idx_main_v8 (idx_main_v9 (ix3 (n0 := 2) 0 d n))) k = ix3 k d n := by
    intro k
    funext a
    match a with
    | ⟨0, _⟩ => rfl
    | ⟨1, _⟩ => rfl
    | ⟨2, _⟩ => rfl
  rw [Fin.sum_univ_two, hi, hi, v6_at, v6_at]
  change Ideal.div _ (Ideal.ofBits .f32 0x00000000#32 + _) = _
  rw [Ideal.ofBits_zero_f32, zero_add]
  rfl

/-- The first running sum is the first term. -/
theorem v11_at (x4 : (⟨S2x2x512, .f32⟩ : BufTy).Contents (Elt Ideal)) (d : Fin 2) (n : Fin 512) :
    val_main_v11 (F := Ideal) x4 (ix3 0 d n) = lbE x4 d n := by
  rw [← v10_at]
  have h0 : val_main_call0_call0_v0 (F := Ideal) (Shape.Idx.first h_S_) = (0 : EReal) := by
    rw [val_main_call0_call0_v0_apply, val_main_call0_call0_cst_apply]
    exact Ideal.ofBits_zero_f32
  exact cumsum_first _ _ h0 d n

theorem v13_at (x4 : (⟨S2x2x512, .f32⟩ : BufTy).Contents (Elt Ideal)) (d : Fin 2) (n : Fin 512) :
    val_main_v13 (F := Ideal) x4 (ix2 d n) = lbE x4 d n := by
  rw [val_main_v13_apply, val_main_v12_apply, ← v11_at]
  refine congrArg (val_main_v11 (F := Ideal) x4) ?_
  funext a
  refine Fin.ext ?_
  match a with
  | ⟨0, _⟩ => rfl
  | ⟨1, _⟩ => change (d.val * 512 + n.val) / 512 % 2 = d.val; omega
  | ⟨2, _⟩ => change (d.val * 512 + n.val) % 512 = n.val; omega

theorem v48_at (x4 : (⟨S2x2x512, .f32⟩ : BufTy).Contents (Elt Ideal)) (n : Fin 512) (j : S512.Idx) (hj : j = ix1 n) :
    val_main_v48 (F := Ideal) x4 j = lbE x4 0 n := by
  subst hj
  rw [val_main_v48_apply, val_main_v47_apply, ← v13_at]
  refine congrArg (val_main_v13 (F := Ideal) x4) ?_
  funext a
  refine Fin.ext ?_
  match a with
  | ⟨0, _⟩ => rfl
  | ⟨1, _⟩ => change n.val % 512 = n.val; omega
theorem v65_at (x4 : (⟨S2x2x512, .f32⟩ : BufTy).Contents (Elt Ideal)) (n : Fin 512) (j : S512.Idx) (hj : j = ix1 n) :
    val_main_v65 (F := Ideal) x4 j = lbE x4 1 n := by
  subst hj
  rw [val_main_v65_apply, val_main_v64_apply, ← v13_at]
  refine congrArg (val_main_v13 (F := Ideal) x4) ?_
  funext a
  refine Fin.ext ?_
  match a with
  | ⟨0, _⟩ => rfl
  | ⟨1, _⟩ => change n.val % 512 = n.val; omega

section
variable (x0 : (⟨S2x8192x1024, .f32⟩ : BufTy).Contents (Elt Ideal)) (x1 : (⟨S8x6144, .f32⟩ : BufTy).Contents (Elt Ideal))
  (x2 : (⟨S1024, .f32⟩ : BufTy).Contents (Elt Ideal)) (x3 : (⟨S1024x3072, .f32⟩ : BufTy).Contents (Elt Ideal)) (x4 : (⟨S2x2x512, .f32⟩ : BufTy).Contents (Elt Ideal))

theorem v27_at (b : Fin 2) (r : Fin 8192) (k : Fin 1024) :
    val_main_v27 (F := Ideal) x0 (ix3 b r k) = rmsE (fun k => x0 (ix3 b r k)) k := by
  rw [val_main_v27_apply, val_main_v26_apply, val_main_v25_apply, val_main_v24_apply, val_main_v23_apply, val_main_v22_apply, val_main_v21_apply,
    val_main_v20_apply, val_main_v19_apply, val_main_cst_2_apply, val_main_cst_3_apply, val_main_cst_4_apply]
  have hi : ∀ k' : Fin 1024, idx_main_v19 (idx_main_v20 (idx_main_v26 (ix3 b r k))) k' = ix3 b r k' := by
    intro k'
    funext a
    match a with
    | ⟨0, _⟩ => rfl
    | ⟨1, _⟩ => rfl
    | ⟨2, _⟩ => rfl
  simp only [hi, val_main_v18_apply]
  change (x0 (ix3 b r k) : EReal) * Ideal.rsqrt (Ideal.div (Ideal.ofBits .f32 0x00000000#32 + ∑ k' : Fin 1024, (x0 (ix3 b r k') : EReal) * x0 (ix3 b r k')) (Ideal.ofBits .f32 0x44800000#32)
    + Ideal.ofBits .f32 0x358637BD#32) = _
  rw [Ideal.ofBits_zero_f32, zero_add]
  rfl

theorem v36_at (b : Fin 2) (r : Fin 8192) (k : Fin 1024) :
    val_main_v36 (F := Ideal) x0 x1 x2 (ix3 b r k)
      = normE (fun k => x0 (ix3 b r k)) (fun k => x2 (ix1 k)) (fun k => x1 (ix2 (n0 := 8) (n1 := 6144) ⟨b.val, by omega⟩ ⟨1024 + k.val, by omega⟩))
          (fun k => x1 (ix2 (n0 := 8) (n1 := 6144) ⟨b.val, by omega⟩ ⟨k.val, by omega⟩)) k := by
  rw [val_main_v36_apply, val_main_v35_apply, val_main_v34_apply, val_main_v33_apply, val_main_v32_apply, val_main_v31_apply, val_main_v30_apply,
    val_main_v29_apply, val_main_v28_apply, val_main_v17_apply, val_main_v16_apply, val_main_v15_apply, val_main_v14_apply, val_main_cst_5_apply, v27_at,
    show idx_main_v14 (idx_main_v15 (idx_main_v35 (ix3 b r k))) = ix2 (n0 := 8) (n1 := 6144) ⟨b.val, by omega⟩ ⟨k.val, by omega⟩ from ext2 rfl rfl,
    show idx_main_v16 (idx_main_v17 (idx_main_v33 (ix3 b r k))) = ix2 (n0 := 8) (n1 := 6144) ⟨b.val, by omega⟩ ⟨1024 + k.val, by omega⟩ from ext2 rfl rfl,
    show idx_main_v28 (idx_main_v29 (ix3 b r k)) = ix1 k from ext1 rfl]
  rfl

theorem v37_at (b : Fin 2) (r : Fin 8192) (n : Fin 3072) (j : S2x8192x3072.Idx) (hj : j = ix3 b r n) :
    val_main_v37 (F := Ideal) x0 x1 x2 x3 j = projE x0 x1 x2 x3 b r n := by
  subst hj
  rw [val_main_v37_apply]
  refine Finset.sum_congr rfl fun k _ => ?_
  rw [show lidx_main_v37 (ix3 b r n) k = ix3 b r k from ext3 rfl rfl rfl,
    show ridx_main_v37 (ix3 b r n) k = ix2 k n from ext2 rfl rfl, v36_at]

/-- The sigmoid as the host writes it is the logistic function. -/
theorem host_logistic (y : EReal) : Ideal.div (Ideal.ofBits .f32 0x3F800000#32) (Ideal.ofBits .f32 0x3F800000#32 + Ideal.exp (-y)) = Ideal.logistic y := by
  rw [Ideal.ofBits_one_f32]
  rfl

variable (b : Fin 2) (r : Fin 8192) (n : Fin 512)

theorem v38_at : val_main_v38 (F := Ideal) x0 x1 x2 x3 (ix3 b r n) = projE x0 x1 x2 x3 b r ⟨n.val, by omega⟩ := by
  rw [val_main_v38_apply]
  exact v37_at x0 x1 x2 x3 b r _ _ (ext3 rfl rfl rfl)
theorem v39_at : val_main_v39 (F := Ideal) x0 x1 x2 x3 (ix3 b r n) = projE x0 x1 x2 x3 b r ⟨512 + n.val, by omega⟩ := by
  rw [val_main_v39_apply]
  exact v37_at x0 x1 x2 x3 b r _ _ (ext3 rfl rfl rfl)
theorem v46_at : val_main_v46 (F := Ideal) x0 x1 x2 x3 (ix3 b r n) = projE x0 x1 x2 x3 b r ⟨1024 + n.val, by omega⟩ := by
  rw [val_main_v46_apply, val_main_v40_apply]
  exact v37_at x0 x1 x2 x3 b r _ _ (ext3 rfl rfl rfl)
theorem v41_at : val_main_v41 (F := Ideal) x0 x1 x2 x3 (ix3 b r n) = projE x0 x1 x2 x3 b r ⟨1536 + n.val, by omega⟩ := by
  rw [val_main_v41_apply]
  exact v37_at x0 x1 x2 x3 b r _ _ (ext3 rfl rfl rfl)
theorem v42_at : val_main_v42 (F := Ideal) x0 x1 x2 x3 (ix3 b r n) = projE x0 x1 x2 x3 b r ⟨2048 + n.val, by omega⟩ := by
  rw [val_main_v42_apply]
  exact v37_at x0 x1 x2 x3 b r _ _ (ext3 rfl rfl rfl)
theorem v43_at : val_main_v43 (F := Ideal) x0 x1 x2 x3 (ix3 b r n) = projE x0 x1 x2 x3 b r ⟨2560 + n.val, by omega⟩ := by
  rw [val_main_v43_apply]
  exact v37_at x0 x1 x2 x3 b r _ _ (ext3 rfl rfl rfl)

theorem v45_at : val_main_v45 (F := Ideal) x0 x1 x2 x3 (ix3 b r n) = siluE (projE x0 x1 x2 x3 b r ⟨512 + n.val, by omega⟩) := by
  rw [val_main_v45_apply, val_main_v44_apply, val_main_call1_v5_apply, val_main_call1_v4_apply, val_main_call1_v3_apply, val_main_call1_v2_apply,
    val_main_call1_v1_apply, val_main_call1_v0_apply, val_main_call1_cst_apply, val_main_call1_cst_0_apply, v39_at]
  exact congrArg (projE x0 x1 x2 x3 b r _ * · : EReal → EReal) (host_logistic _)
theorem v82_at : val_main_v82 (F := Ideal) x0 x1 x2 x3 (ix3 b r n) = siluE (projE x0 x1 x2 x3 b r ⟨2560 + n.val, by omega⟩) := by
  rw [val_main_v82_apply, val_main_v81_apply, val_main_call2_v5_apply, val_main_call2_v4_apply, val_main_call2_v3_apply, val_main_call2_v2_apply,
    val_main_call2_v1_apply, val_main_call2_v0_apply, val_main_call2_cst_apply, val_main_call2_cst_0_apply, v43_at]
  exact congrArg (projE x0 x1 x2 x3 b r _ * · : EReal → EReal) (host_logistic _)

theorem v63_at : val_main_v63 (F := Ideal) x0 x1 x2 x3 x4 (ix3 b r n) = gateE (lbE x4 0 n) (projE x0 x1 x2 x3 b r ⟨1536 + n.val, by omega⟩) := by
  rw [val_main_v63_apply, val_main_v62_apply, val_main_v61_apply, val_main_v60_apply, val_main_v59_apply, val_main_v58_apply, val_main_v57_apply,
    val_main_v56_apply, val_main_v55_apply, val_main_v54_apply, val_main_v53_apply, val_main_v52_apply, val_main_v51_apply, val_main_v50_apply,
    val_main_v49_apply, val_main_cst_6_apply, val_main_cst_7_apply, val_main_cst_8_apply, v41_at, v48_at x4 n _ (by exact ext1 rfl)]
  exact congrArg (fun z => Ideal.log (lbE x4 0 n + (oneE - lbE x4 0 n) * z) : EReal → EReal) (host_logistic _)
theorem v80_at : val_main_v80 (F := Ideal) x0 x1 x2 x3 x4 (ix3 b r n) = gateE (lbE x4 1 n) (projE x0 x1 x2 x3 b r ⟨2048 + n.val, by omega⟩) := by
  rw [val_main_v80_apply, val_main_v79_apply, val_main_v78_apply, val_main_v77_apply, val_main_v76_apply, val_main_v75_apply, val_main_v74_apply,
    val_main_v73_apply, val_main_v72_apply, val_main_v71_apply, val_main_v70_apply, val_main_v69_apply, val_main_v68_apply, val_main_v67_apply,
    val_main_v66_apply, val_main_cst_9_apply, val_main_cst_10_apply, val_main_cst_11_apply, v42_at, v65_at x4 n _ (by exact ext1 rfl)]
  exact congrArg (fun z => Ideal.log (lbE x4 1 n + (oneE - lbE x4 1 n) * z) : EReal → EReal) (host_logistic _)
end

end Cert.Reference2Ideal.Proj
-- ==== Proof.V2.Value.lean ====
/- What the projection leaves in its results, at an element, over the reals with infinities. -/
module

public import proofs.«01_k».proof.Proof.V2.Out
public import proofs.«01_k».proof.Proof.V2.Ref
public import Idealize.ShloMosaic.Lib.Pipeline.ValueKit.Geometry

@[expose] public section

set_option maxRecDepth 16384

noncomputable section

namespace Cert.Kernel2Ideal.Proj

open Cert.Kernel2Ideal Cert.Kernel2Ideal.Gen Cert.InMath
open Idealize.ShloMosaic hiding ix1 ix2 ix3 ix4 eq_ix3 eq_ix4
open Idealize.ShloMosaic.ValueIdx (ix1 ix2 ix3 ix4 eq_ix3 eq_ix4)
open Idealize.ShloMosaic.TcCoe

theorem pt_lt (t : Fin grid0.N) : t.val < 32 := lt_of_lt_of_eq t.isLt N_0
theorem coord0 (t : Fin grid0.N) : (grid0.coords t 0).val = t.val / 16 := by
  have h : ∀ t : Fin grid0.N, (grid0.coords t 0).val = t.val / 16 := by decide +kernel
  exact h t
/-- Where the blocks of a point lie. -/
theorem idx_rows : ∀ t : Fin grid0.N, cc0_transform_0 (grid0.coords t) = ![t.val / 16, t.val % 16, 0] := by decide +kernel

variable (m : (ℓ : Loc nD τ sig) → Buf (Elt Ideal) ℓ)

/-- The rounded weights. -/
theorem V_v0 (c : Dev nD) : V m c main_v0 = truncf (F := Ideal) .bf16 (m ((c : Thread nD τ).loc main_arg3)) bitsLt_bf16_f32 := by
  show StableHlo.after hostOps0 _ (Proc.devRef .tc main_v0) = _
  after_results
/-- The gain as a row. -/
theorem V_v1 (c : Dev nD) : V m c main_v1 = shapeCast S1x1024 (m ((c : Thread nD τ).loc main_arg2) : S1024.Idx → EReal) shapeCasts_S1024_S1x1024 := by
  show StableHlo.after hostOps0 _ (Proc.devRef .tc main_v1) = _
  after_results
  rfl

theorem blk0_at (c : Dev nD) (t : Fin grid0.N) (r : Fin 512) (k : Fin 1024) :
    iblk m c 0 t (ix3 (n0 := 1) (n1 := 512) 0 r k) = m ((c : Thread nD τ).loc main_arg0)
      (ix3 (n0 := 2) (n1 := 8192) (n2 := 1024) ⟨t.val / 16, by have := pt_lt t; omega⟩ ⟨512 * (t.val % 16) + r.val, by omega⟩ k) := by
  refine Eq.trans ?_ (congrFun (V_main_arg0 m c) _)
  refine congrArg (V m c main_arg0) (funext fun a => Fin.ext ?_)
  refine (Pipeline.Window.rect_emb_val (cfg0.win 0) t (ix3 (n0 := 1) (n1 := 512) 0 r k) a).trans ?_
  have hi : (cfg0.win 0).index t = cc0_transform_0 (grid0.coords t) := rfl
  rw [hi, idx_rows]
  match a with
  | ⟨0, _⟩ => change t.val / 16 * 1 + 0 = t.val / 16; omega
  | ⟨1, _⟩ => change t.val % 16 * 512 + r.val = 512 * (t.val % 16) + r.val; omega
  | ⟨2, _⟩ => change 0 * 1024 + k.val = k.val; omega
theorem blk1_at (c : Dev nD) (t : Fin grid0.N) (r : Fin 8) (k : Fin 6144) :
    iblk m c 1 t (ix2 r k) = m ((c : Thread nD τ).loc main_arg1) (ix2 r k) := by
  refine Eq.trans ?_ (congrFun (V_main_arg1 m c) _)
  refine congrArg (V m c main_arg1) (funext fun a => Fin.ext ?_)
  refine (Pipeline.Window.rect_emb_val (cfg0.win 1) t (ix2 r k) a).trans ?_
  match a with
  | ⟨0, _⟩ => change 0 * 8 + r.val = r.val; omega
  | ⟨1, _⟩ => change 0 * 6144 + k.val = k.val; omega
theorem blk2_at (c : Dev nD) (t : Fin grid0.N) (k : Fin 1024) :
    iblk m c 2 t (ix2 (n0 := 1) 0 k) = m ((c : Thread nD τ).loc main_arg2) (ix1 (n := 1024) k) := by
  refine Eq.trans ?_ ((congrFun (V_v1 m c) (ix2 (n0 := 1) 0 k)).trans (shapeCast_apply (s := S1024) (t := S1x1024) _ _ _ _ ?_))
  · refine congrArg (V m c main_v1) (funext fun a => Fin.ext ?_)
    refine (Pipeline.Window.rect_emb_val (cfg0.win 2) t (ix2 (n0 := 1) 0 k) a).trans ?_
    match a with
    | ⟨0, _⟩ => rfl
    | ⟨1, _⟩ => change 0 * 1024 + k.val = k.val; omega
  · rw [Shape.rowMajor_val_one, Shape.rowMajor_val_two]
    change k.val = 0 * 1024 + k.val
    omega
theorem blk3_at (c : Dev nD) (t : Fin grid0.N) (k : Fin 1024) (n : Fin 3072) :
    iblk m c 3 t (ix2 k n) = m ((c : Thread nD τ).loc main_arg3) (ix2 k n) := by
  refine Eq.trans ?_ (congrFun (V_v0 m c) (ix2 k n))
  refine congrArg (V m c main_v0) (funext fun a => Fin.ext ?_)
  refine (Pipeline.Window.rect_emb_val (cfg0.win 3) t (ix2 k n) a).trans ?_
  match a with
  | ⟨0, _⟩ => change 0 * 1024 + k.val = k.val; omega
  | ⟨1, _⟩ => change 0 * 3072 + n.val = n.val; omega
theorem blk4_at (c : Dev nD) (t : Fin grid0.N) (a d : Fin 2) (n : Fin 512) :
    iblk m c 4 t (ix3 a d n) = m ((c : Thread nD τ).loc main_arg4) (ix3 a d n) := by
  refine Eq.trans ?_ (congrFun (V_main_arg4 m c) _)
  refine congrArg (V m c main_arg4) (funext fun z => Fin.ext ?_)
  refine (Pipeline.Window.rect_emb_val (cfg0.win 4) t (ix3 a d n) z).trans ?_
  match z with
  | ⟨0, _⟩ => change 0 * 2 + a.val = a.val; omega
  | ⟨1, _⟩ => change 0 * 2 + d.val = d.val; omega
  | ⟨2, _⟩ => change 0 * 512 + n.val = n.val; omega

/-- The projection of the arguments. -/
def projM (c : Dev nD) (b : Fin 2) (r : Fin 8192) (n : Fin 3072) : EReal :=
  projE (m ((c : Thread nD τ).loc main_arg0)) (m ((c : Thread nD τ).loc main_arg1)) (m ((c : Thread nD τ).loc main_arg2)) (m ((c : Thread nD τ).loc main_arg3)) b r n

/-- A block's rows projected are rows of the arguments projected. -/
theorem prod_at (c : Dev nD) (t : Fin grid0.N) (r : Fin 512) (n : Fin 3072) :
    prodB (grid0.coords t) (iblk m c 0 t) (iblk m c 1 t) (iblk m c 2 t) (iblk m c 3 t) r n
      = projM m c ⟨t.val / 16, by have := pt_lt t; omega⟩ ⟨512 * (t.val % 16) + r.val, by omega⟩ n := by
  refine Finset.sum_congr rfl fun k _ => congrArg₂ (· * · : EReal → EReal → EReal) ?_ (blk3_at m c t k n)
  refine congr (congr (congr (congr (congrArg normE (funext fun k => blk0_at m c t r k)) (funext fun k => blk2_at m c t k)) (funext fun k => ?_)) (funext fun k => ?_)) rfl
  · exact (blk1_at m c t _ _).trans (congrArg (fun z => m ((c : Thread nD τ).loc main_arg1) (ix2 (n0 := 8) (n1 := 6144) z ⟨1024 + k.val, by omega⟩)) (Fin.ext (coord0 t)))
  · exact (blk1_at m c t _ _).trans (congrArg (fun z => m ((c : Thread nD τ).loc main_arg1) (ix2 (n0 := 8) (n1 := 6144) z ⟨k.val, by omega⟩)) (Fin.ext (coord0 t)))
/-- The lower bounds of the gates. -/
def lbM (c : Dev nD) (d : Fin 2) (n : Fin 512) : EReal := lbE (m ((c : Thread nD τ).loc main_arg4)) d n
theorem lbB_at (c : Dev nD) (t : Fin grid0.N) (d : Fin 2) (n : Fin 512) : lbE (iblk m c 4 t) d n = lbM m c d n :=
  congrArg₂ shareE (blk4_at m c t 0 d n) (blk4_at m c t 1 d n)

/-- The indices of a block of a result. -/
abbrev yB (r n : Fin 512) : S1x512x512.Idx := ix3 0 r n
/-- Every one is of this form. -/
theorem blk_ix (y : S1x512x512.Idx) : ∃ r n : Fin 512, y = ix3 (n0 := 1) (n1 := 512) 0 r n := by
  have h1 : (y 0).val < 1 := (y 0).isLt
  refine ⟨y 1, y 2, ?_⟩
  funext a
  match a with
  | ⟨0, _⟩ => exact Fin.ext (by change (y 0).val = 0; omega)
  | ⟨1, _⟩ => rfl
  | ⟨2, _⟩ => rfl
/-- An index of a result. -/
theorem out_ix (i : S2x8192x512.Idx) : ∃ (b : Fin 2) (r : Fin 8192) (n : Fin 512), i = ix3 (n0 := 2) (n1 := 8192) b r n :=
  ⟨_, _, _, eq_ix3 (n0 := 2) (n1 := 8192) (n2 := 512) i⟩
/-- A result from its elements. -/
def arrOf (f : Fin 2 → Fin 8192 → Fin 512 → EReal) : S2x8192x512.Idx → EReal := fun i => f (i 0) (i 1) (i 2)

/-- Where a block's elements lie in a result; the same for all six. -/
theorem blk_emb (t : Fin grid0.N) (r n : Fin 512) :
    ((cfg0.win 5).blk t).view.emb (ix3 (n0 := 1) (n1 := 512) 0 r n)
      = ix3 (n0 := 2) (n1 := 8192) (n2 := 512) ⟨t.val / 16, by have := pt_lt t; omega⟩ ⟨512 * (t.val % 16) + r.val, by omega⟩ n := by
  funext a
  refine Fin.ext ?_
  refine (Pipeline.Window.rect_emb_val (cfg0.win 5) t (ix3 (n0 := 1) (n1 := 512) 0 r n) a).trans ?_
  have hi : (cfg0.win 5).index t = cc0_transform_0 (grid0.coords t) := rfl
  rw [hi, idx_rows]
  match a with
  | ⟨0, _⟩ => change t.val / 16 * 1 + 0 = t.val / 16; omega
  | ⟨1, _⟩ => change t.val % 16 * 512 + r.val = 512 * (t.val % 16) + r.val; omega
  | ⟨2, _⟩ => change 0 * 512 + n.val = n.val; omega
/-- Every element of a result lies in the block of a point. -/
theorem at_emb (b : Fin 2) (r : Fin 8192) (n : Fin 512) (hN : 16 * b.val + r.val / 512 < grid0.N) :
    ix3 (n0 := 2) (n1 := 8192) b r n = ((cfg0.win 5).blk ⟨16 * b.val + r.val / 512, hN⟩).view.emb (ix3 (n0 := 1) (n1 := 512) (n2 := 512) 0 ⟨r.val % 512, by omega⟩ n) := by
  refine (congrArg₂ (fun x y => ix3 (n0 := 2) (n1 := 8192) (n2 := 512) x y n) (Fin.ext ?_) (Fin.ext ?_)).trans (blk_emb _ _ n).symm
  · change b.val = (16 * b.val + r.val / 512) / 16; omega
  · change r.val = 512 * ((16 * b.val + r.val / 512) % 16) + r.val % 512; omega

/-- The first result. -/
def res5 (c : Dev nD) : S2x8192x512.Idx → EReal := arrOf fun b r n => projM m c b r ⟨0 + n.val, by omega⟩
theorem arr5 (c : Dev nD) : (dats m 0 c).arrAt 5 cfg0.N = res5 m c := by
  refine (dats m 0 c).arrAt_eq_of_emb 5 _ (fun t hf y => ?_) (fun i => ?_)
  · obtain ⟨r, n, rfl⟩ := blk_ix y
    refine Eq.trans ?_ (congrArg (res5 m c) (blk_emb t r n).symm)
    refine (congrFun (Cert.Kernel2Ideal.Value.flushed5_A m c t) (yB r n)).trans ?_
    exact (out5_at c _ _ _ _ _ _ _ _ _ _ _ _ _ _ _ _ _ _ _ _ _ _ _ _ _ _ _ _ r n).trans (prod_at m c t r ⟨0 + n.val, by omega⟩)
  · obtain ⟨b, r, n, rfl⟩ := out_ix i
    have hN : 16 * b.val + r.val / 512 < grid0.N := lt_of_lt_of_eq (by omega) N_0.symm
    refine ⟨⟨16 * b.val + r.val / 512, hN⟩, flush0_5 _, ?_⟩
    rw [show ix3 (n0 := 2) (n1 := 8192) b r n = ((cfg0.win 5).blk ⟨16 * b.val + r.val / 512, hN⟩).view.emb _ from at_emb b r n hN]
    exact View.emb_mem_set _ _

/-- The second result. -/
def res6 (c : Dev nD) : S2x8192x512.Idx → EReal := arrOf fun b r n => siluE (projM m c b r ⟨512 + n.val, by omega⟩)
theorem arr6 (c : Dev nD) : (dats m 0 c).arrAt 6 cfg0.N = res6 m c := by
  refine (dats m 0 c).arrAt_eq_of_emb 6 _ (fun t hf y => ?_) (fun i => ?_)
  · obtain ⟨r, n, rfl⟩ := blk_ix y
    refine Eq.trans ?_ (congrArg (res6 m c) (blk_emb t r n).symm)
    refine (congrFun (Cert.Kernel2Ideal.Value.flushed6_A m c t) (yB r n)).trans ?_
    exact (out6_at c _ _ _ _ _ _ _ _ _ _ _ _ _ _ _ _ _ _ _ _ _ _ _ _ _ _ _ _ r n).trans (congrArg siluE (prod_at m c t r ⟨512 + n.val, by omega⟩))
  · obtain ⟨b, r, n, rfl⟩ := out_ix i
    have hN : 16 * b.val + r.val / 512 < grid0.N := lt_of_lt_of_eq (by omega) N_0.symm
    refine ⟨⟨16 * b.val + r.val / 512, hN⟩, flush0_6 _, ?_⟩
    rw [show ix3 (n0 := 2) (n1 := 8192) b r n = ((cfg0.win 6).blk ⟨16 * b.val + r.val / 512, hN⟩).view.emb _ from at_emb b r n hN]
    exact View.emb_mem_set _ _

/-- The third result. -/
def res7 (c : Dev nD) : S2x8192x512.Idx → EReal := arrOf fun b r n => projM m c b r ⟨1024 + n.val, by omega⟩
theorem arr7 (c : Dev nD) : (dats m 0 c).arrAt 7 cfg0.N = res7 m c := by
  refine (dats m 0 c).arrAt_eq_of_emb 7 _ (fun t hf y => ?_) (fun i => ?_)
  · obtain ⟨r, n, rfl⟩ := blk_ix y
    refine Eq.trans ?_ (congrArg (res7 m c) (blk_emb t r n).symm)
    refine (congrFun (Cert.Kernel2Ideal.Value.flushed7_A m c t) (yB r n)).trans ?_
    exact (out7_at c _ _ _ _ _ _ _ _ _ _ _ _ _ _ _ _ _ _ _ _ _ _ _ _ _ _ _ _ r n).trans (prod_at m c t r ⟨1024 + n.val, by omega⟩)
  · obtain ⟨b, r, n, rfl⟩ := out_ix i
    have hN : 16 * b.val + r.val / 512 < grid0.N := lt_of_lt_of_eq (by omega) N_0.symm
    refine ⟨⟨16 * b.val + r.val / 512, hN⟩, flush0_7 _, ?_⟩
    rw [show ix3 (n0 := 2) (n1 := 8192) b r n = ((cfg0.win 7).blk ⟨16 * b.val + r.val / 512, hN⟩).view.emb _ from at_emb b r n hN]
    exact View.emb_mem_set _ _

/-- The fourth result. -/
def res8 (c : Dev nD) : S2x8192x512.Idx → EReal := arrOf fun b r n => gateE (lbM m c 0 n) (projM m c b r ⟨1536 + n.val, by omega⟩)
theorem arr8 (c : Dev nD) : (dats m 0 c).arrAt 8 cfg0.N = res8 m c := by
  refine (dats m 0 c).arrAt_eq_of_emb 8 _ (fun t hf y => ?_) (fun i => ?_)
  · obtain ⟨r, n, rfl⟩ := blk_ix y
    refine Eq.trans ?_ (congrArg (res8 m c) (blk_emb t r n).symm)
    refine (congrFun (Cert.Kernel2Ideal.Value.flushed8_A m c t) (yB r n)).trans ?_
    exact (out8_at c _ _ _ _ _ _ _ _ _ _ _ _ _ _ _ _ _ _ _ _ _ _ _ _ _ _ _ _ r n).trans (congrArg₂ gateE (lbB_at m c t 0 n) (prod_at m c t r ⟨1536 + n.val, by omega⟩))
  · obtain ⟨b, r, n, rfl⟩ := out_ix i
    have hN : 16 * b.val + r.val / 512 < grid0.N := lt_of_lt_of_eq (by omega) N_0.symm
    refine ⟨⟨16 * b.val + r.val / 512, hN⟩, flush0_8 _, ?_⟩
    rw [show ix3 (n0 := 2) (n1 := 8192) b r n = ((cfg0.win 8).blk ⟨16 * b.val + r.val / 512, hN⟩).view.emb _ from at_emb b r n hN]
    exact View.emb_mem_set _ _

/-- The fifth result. -/
def res9 (c : Dev nD) : S2x8192x512.Idx → EReal := arrOf fun b r n => gateE (lbM m c 1 n) (projM m c b r ⟨2048 + n.val, by omega⟩)
theorem arr9 (c : Dev nD) : (dats m 0 c).arrAt 9 cfg0.N = res9 m c := by
  refine (dats m 0 c).arrAt_eq_of_emb 9 _ (fun t hf y => ?_) (fun i => ?_)
  · obtain ⟨r, n, rfl⟩ := blk_ix y
    refine Eq.trans ?_ (congrArg (res9 m c) (blk_emb t r n).symm)
    refine (congrFun (Cert.Kernel2Ideal.Value.flushed9_A m c t) (yB r n)).trans ?_
    exact (out9_at c _ _ _ _ _ _ _ _ _ _ _ _ _ _ _ _ _ _ _ _ _ _ _ _ _ _ _ _ r n).trans (congrArg₂ gateE (lbB_at m c t 1 n) (prod_at m c t r ⟨2048 + n.val, by omega⟩))
  · obtain ⟨b, r, n, rfl⟩ := out_ix i
    have hN : 16 * b.val + r.val / 512 < grid0.N := lt_of_lt_of_eq (by omega) N_0.symm
    refine ⟨⟨16 * b.val + r.val / 512, hN⟩, flush0_9 _, ?_⟩
    rw [show ix3 (n0 := 2) (n1 := 8192) b r n = ((cfg0.win 9).blk ⟨16 * b.val + r.val / 512, hN⟩).view.emb _ from at_emb b r n hN]
    exact View.emb_mem_set _ _

/-- The sixth result. -/
def res10 (c : Dev nD) : S2x8192x512.Idx → EReal := arrOf fun b r n => siluE (projM m c b r ⟨2560 + n.val, by omega⟩)
theorem arr10 (c : Dev nD) : (dats m 0 c).arrAt 10 cfg0.N = res10 m c := by
  refine (dats m 0 c).arrAt_eq_of_emb 10 _ (fun t hf y => ?_) (fun i => ?_)
  · obtain ⟨r, n, rfl⟩ := blk_ix y
    refine Eq.trans ?_ (congrArg (res10 m c) (blk_emb t r n).symm)
    refine (congrFun (Cert.Kernel2Ideal.Value.flushed10_A m c t) (yB r n)).trans ?_
    exact (out10_at c _ _ _ _ _ _ _ _ _ _ _ _ _ _ _ _ _ _ _ _ _ _ _ _ _ _ _ _ r n).trans (congrArg siluE (prod_at m c t r ⟨2560 + n.val, by omega⟩))
  · obtain ⟨b, r, n, rfl⟩ := out_ix i
    have hN : 16 * b.val + r.val / 512 < grid0.N := lt_of_lt_of_eq (by omega) N_0.symm
    refine ⟨⟨16 * b.val + r.val / 512, hN⟩, flush0_10 _, ?_⟩
    rw [show ix3 (n0 := 2) (n1 := 8192) b r n = ((cfg0.win 10).blk ⟨16 * b.val + r.val / 512, hN⟩).view.emb _ from at_emb b r n hN]
    exact View.emb_mem_set _ _

end Cert.Kernel2Ideal.Proj
-- ==== Proof.V3.Math.lean ====
/- The output projection's mathematics at an element. -/
module

public import proofs.«01_k».proof.Proof.V2.Math

@[expose] public section

noncomputable section

namespace Cert.MixMath

open Idealize.ShloMosaic Idealize.ShloMosaic.ValueIdx Cert.InMath

/-- A channel of a group of the Fourier mixing: the real part of the channel transform, times the group's weights. -/
def fourE (xs : Fin 1024 → EReal) (cc sc : Fin 128 → Fin 128 → EReal) (wf : Fin 4 → Fin 128 → Fin 128 → EReal) (g : Fin 4) (d : Fin 128) : EReal :=
  ∑ k : Fin 128, ((∑ j : Fin 128, xs ⟨128 * g.val + j.val, by omega⟩ * cc j k) + (∑ j : Fin 128, xs ⟨512 + 128 * g.val + j.val, by omega⟩ * sc j k)) * wf g k d

/-- A channel of a head of the recurrence: normalised over the head, scaled and gated. -/
def headE (o gr sg : Fin 512 → EReal) (h : Fin 4) (d : Fin 128) : EReal :=
  o ⟨128 * h.val + d.val, by omega⟩
    * Ideal.rsqrt (Ideal.div (∑ j : Fin 128, o ⟨128 * h.val + j.val, by omega⟩ * o ⟨128 * h.val + j.val, by omega⟩) (Ideal.ofBits .f32 0x43000000#32) + Ideal.ofBits .f32 0x358637BD#32)
    * gr ⟨128 * h.val + d.val, by omega⟩ * sg ⟨128 * h.val + d.val, by omega⟩

/-- The four groups and the four heads side by side. -/
def partE (xs : Fin 1024 → EReal) (o gr sg : Fin 512 → EReal) (cc sc : Fin 128 → Fin 128 → EReal) (wf : Fin 4 → Fin 128 → Fin 128 → EReal) (k : Fin 1024) : EReal :=
  if h : k.val < 512 then fourE xs cc sc wf ⟨k.val / 128, by omega⟩ ⟨k.val % 128, by omega⟩
  else headE o gr sg ⟨(k.val - 512) / 128, by omega⟩ ⟨k.val % 128, by omega⟩

theorem partE_four (xs : Fin 1024 → EReal) (o gr sg : Fin 512 → EReal) (cc sc : Fin 128 → Fin 128 → EReal) (wf : Fin 4 → Fin 128 → Fin 128 → EReal)
    (k : Fin 1024) (g : Fin 4) (d : Fin 128) (h : k.val = 128 * g.val + d.val) : partE xs o gr sg cc sc wf k = fourE xs cc sc wf g d := by
  unfold partE
  rw [dif_pos (by omega)]
  exact congrArg₂ (fourE xs cc sc wf) (Fin.ext (by change k.val / 128 = g.val; omega)) (Fin.ext (by change k.val % 128 = d.val; omega))
theorem partE_head (xs : Fin 1024 → EReal) (o gr sg : Fin 512 → EReal) (cc sc : Fin 128 → Fin 128 → EReal) (wf : Fin 4 → Fin 128 → Fin 128 → EReal)
    (k : Fin 1024) (g : Fin 4) (d : Fin 128) (h : k.val = 512 + 128 * g.val + d.val) : partE xs o gr sg cc sc wf k = headE o gr sg g d := by
  unfold partE
  rw [dif_neg (by omega)]
  exact congrArg₂ (headE o gr sg) (Fin.ext (by change (k.val - 512) / 128 = g.val; omega)) (Fin.ext (by change k.val % 128 = d.val; omega))

/-- The residual row plus the gated product of the parts with a column of the weights. -/
def addE (p x gate : Fin 1024 → EReal) (wo : Fin 1024 → Fin 1024 → EReal) (n : Fin 1024) : EReal := x n + gate n * ∑ k : Fin 1024, p k * wo k n

section
variable (x0 : (⟨3, ![2, 8192, 1024]⟩ : Shape).Idx → EReal) (x1 x2 x3 : (⟨3, ![2, 8192, 512]⟩ : Shape).Idx → EReal)
  (x4 : (⟨3, ![2, 8192, 1024]⟩ : Shape).Idx → EReal) (x5 : (⟨2, ![8, 6144]⟩ : Shape).Idx → EReal) (x6 : (⟨1, ![512]⟩ : Shape).Idx → EReal)
  (x7 : (⟨3, ![4, 128, 128]⟩ : Shape).Idx → EReal) (x8 : (⟨2, ![1024, 1024]⟩ : Shape).Idx → EReal) (x9 : (⟨1, ![1024]⟩ : Shape).Idx → EReal)
  (x11 x12 : (⟨2, ![128, 128]⟩ : Shape).Idx → EReal) (b : Fin 2) (r : Fin 8192)

/-- A token's parts. -/
def partsA (k : Fin 1024) : EReal :=
  partE (fun k => x0 (ix3 b r k)) (fun k => x1 (ix3 b r k) + x2 (ix3 b r k)) (fun k => x6 (ix1 k)) (fun k => x3 (ix3 b r k))
    (fun j k => x11 (ix2 j k)) (fun j k => x12 (ix2 j k)) (fun g k d => x7 (ix3 g k d)) k

/-- The first result: a token's row after the mixing. -/
def mixA (n : Fin 1024) : EReal :=
  addE (partsA x0 x1 x2 x3 x6 x7 x11 x12 b r) (fun k => x4 (ix3 b r k)) (fun k => x5 (ix2 (n0 := 8) (n1 := 6144) ⟨b.val, by omega⟩ ⟨2048 + k.val, by omega⟩))
    (fun k n => x8 (ix2 k n)) n

/-- The second result: that row normalised, scaled and modulated. -/
def hidA (n : Fin 1024) : EReal :=
  normE (mixA x0 x1 x2 x3 x4 x5 x6 x7 x8 x11 x12 b r) (fun k => x9 (ix1 k)) (fun k => x5 (ix2 (n0 := 8) (n1 := 6144) ⟨b.val, by omega⟩ ⟨4096 + k.val, by omega⟩))
    (fun k => x5 (ix2 (n0 := 8) (n1 := 6144) ⟨b.val, by omega⟩ ⟨3072 + k.val, by omega⟩)) n
end

end Cert.MixMath
-- ==== Proof.V3.Step.lean ====
/- What one step of the output projection computes, at an element, over the reals with infinities. -/
module

public import proofs.«01_k».proof.Proof.V3.Math
public import proofs.«01_k».proof.Proof.Gen.Kernel3Ideal.Skeleton
public import Idealize.ShloMosaic.Lib.MatmulPlain
public import Idealize.ShloMosaic.Lib.ValueLayout
public import Idealize.ShloMosaic.Lib.ValueLayoutCasts
public import Idealize.ShloMosaic.Lib.IdealHost
public import Idealize.ShloMosaic.Lib.Pipeline.Value

@[expose] public section

set_option maxRecDepth 16384

noncomputable section

namespace Cert.Kernel3Ideal.Mix

open Cert.Kernel3Ideal Cert.Kernel3Ideal.Gen Cert.InMath Cert.MixMath
open Idealize.ShloMosaic
open Idealize.ShloMosaic.ValueIdx (ix1 ix2 ix3 ix4 eq_ix4)
open Idealize.ShloMosaic.TcCoe

/-- A product with 128 columns, started from zero. -/
theorem mm128 (x : FVec Ideal S256x128 .bf16) (w : FVec Ideal S128x128 .bf16) (r : Fin 256) (n : Fin 128) :
    matmul dot_S256x128_S128x128_S256x128_1_0_0_1_n_n none x w (constant (F := Ideal) S256x128 .f32 0x00000000#32) (ix2 r n)
      = ∑ k : Fin 128, x (ix2 r k) * w (ix2 k n) := by
  refine (Ideal.matmul_plain_apply (M := 256) (K := 128) (N := 128) none x w (constant (F := Ideal) S256x128 .f32 0x00000000#32) r n).trans ?_
  rw [show constant (F := Ideal) S256x128 .f32 0x00000000#32 (ix2 r n) = (0 : EReal) from Ideal.ofBits_zero_f32, zero_add]

/-- A product with 1024 columns, started from zero. -/
theorem mm1024 (x : FVec Ideal S256x1024 .bf16) (w : FVec Ideal S1024x1024 .bf16) (r : Fin 256) (n : Fin 1024) :
    matmul dot_S256x1024_S1024x1024_S256x1024_1_0_0_1_n_n none x (shapeCast S1024x1024 w shapeCasts_S1024x1024_S1024x1024) (constant (F := Ideal) S256x1024 .f32 0x00000000#32) (ix2 r n)
      = ∑ k : Fin 1024, x (ix2 r k) * w (ix2 k n) := by
  rw [shapeCast_self]
  refine (Ideal.matmul_plain_apply (M := 256) (K := 1024) (N := 1024) none x w (constant (F := Ideal) S256x1024 .f32 0x00000000#32) r n).trans ?_
  rw [show constant (F := Ideal) S256x1024 .f32 0x00000000#32 (ix2 r n) = (0 : EReal) from Ideal.ofBits_zero_f32, zero_add]

/-- A group of the Fourier mixing. -/
theorem four_at (v6 v9 : Vec Ideal S1x256x128 .f32) (v12 v14 : Vec Ideal S128x128 .bf16) (v18 : Vec Ideal S1x128x128 .bf16) (r : Fin 256) (d : Fin 128) :
    k0_pay1 (F := Ideal) v6 v9 v12 v14 v18 (ix2 r d)
      = ∑ k : Fin 128, ((∑ j : Fin 128, (v6 (ix3 0 r j) : EReal) * v12 (ix2 j k)) + ∑ j : Fin 128, (v9 (ix3 0 r j) : EReal) * v14 (ix2 j k)) * v18 (ix3 0 k d) := by
  have hc : ∀ (v : Vec Ideal S1x256x128 .f32) (j : Fin 128), shapeCast S256x128 v shapeCasts_S1x256x128_S256x128 (ix2 r j) = v (ix3 0 r j) :=
    fun v j => ValueIdx.shapeCast_1ab_ab_apply v shapeCasts_S1x256x128_S256x128 r j
  unfold k0_pay1
  refine (mm128 _ _ r d).trans (Finset.sum_congr rfl fun k _ => congrArg₂ (· * · : EReal → EReal → EReal) ?_
    (ValueIdx.shapeCast_1ab_ab_apply v18 shapeCasts_S1x128x128_S128x128 k d))
  exact congrArg₂ (· + · : EReal → EReal → EReal)
    ((mm128 _ _ r k).trans (Finset.sum_congr rfl fun j _ => congrArg (· * (v12 (ix2 j k) : EReal) : EReal → EReal) (hc v6 j)))
    ((mm128 _ _ r k).trans (Finset.sum_congr rfl fun j _ => congrArg (· * (v14 (ix2 j k) : EReal) : EReal → EReal) (hc v9 j)))

/-- A head of the recurrence: the columns from an offset, normalised, scaled and gated. -/
def headV (o : FVec Ideal S256x512 .f32) (off : ℕ) (hs : S256x512.Slices ![0, off] S256x128) (g : Vec Ideal S1x128 .f32) (s : Vec Ideal S1x256x128 .bf16) : FVec Ideal S256x128 .bf16 :=
  truncf .bf16 (mulf (mulf (mulf (extractStridedSlice S256x128 ![0, off] o hs) (broadcastTo S256x128 (rsqrt (addf (divf (shapeCast S256x1
      (multiReduction .add [1] S256 (mulf (extractStridedSlice S256x128 ![0, off] o hs) (extractStridedSlice S256x128 ![0, off] o hs)) 0x00000000#32 reduces_S256x128_S256 (.inl rfl) rfl) shapeCasts_S256_S256x1)
      (broadcast S256x1 (Scalar.ofBits (F := Ideal) .f32 0x43000000#32))) (broadcast S256x1 (Scalar.ofBits (F := Ideal) .f32 0x358637BD#32)))) broadcasts_S256x1_S256x128))
    (broadcastTo S256x128 (shapeCast S1x128 g shapeCasts_S1x128_S1x128) broadcasts_S1x128_S256x128))
    (extf .f32 (shapeCast S256x128 s shapeCasts_S1x256x128_S256x128) bitsLt_bf16_f32)) bitsLt_bf16_f32

theorem headV_at (o : FVec Ideal S256x512 .f32) (off : ℕ) (hs : S256x512.Slices ![0, off] S256x128) (g : Vec Ideal S1x128 .f32) (s : Vec Ideal S1x256x128 .bf16)
    (ho : off + 128 ≤ 512) (r : Fin 256) (d : Fin 128) :
    headV o off hs g s (ix2 r d)
      = (o (ix2 (n0 := 256) (n1 := 512) r ⟨off + d.val, by omega⟩) : EReal)
        * Ideal.rsqrt (Ideal.div (∑ j : Fin 128, (o (ix2 (n0 := 256) (n1 := 512) r ⟨off + j.val, by omega⟩) : EReal) * o (ix2 (n0 := 256) (n1 := 512) r ⟨off + j.val, by omega⟩)) (Ideal.ofBits .f32 0x43000000#32) + Ideal.ofBits .f32 0x358637BD#32)
        * g (ix2 0 d) * s (ix3 0 r d) := by
  have hx : ∀ j : Fin 128, extractStridedSlice S256x128 ![0, off] o hs (ix2 r j) = o (ix2 (n0 := 256) (n1 := 512) r ⟨off + j.val, by omega⟩) :=
    fun j => extractStridedSlice_apply ![0, off] o hs (ix2 r j) (ix2 (n0 := 256) (n1 := 512) r ⟨off + j.val, by omega⟩) (fun a => by
      match a with
      | ⟨0, _⟩ => exact (Nat.zero_add _).symm
      | ⟨1, _⟩ => rfl)
  have hb : ∀ v : FVec Ideal S256x1 .f32, broadcastTo S256x128 v broadcasts_S256x1_S256x128 (ix2 r d) = v (ix2 r 0) := by
    intro v
    refine broadcastTo_apply v _ (ix2 r d) (ix2 r 0) fun a => ?_
    match a with
    | ⟨0, _⟩ => rfl
    | ⟨1, _⟩ => rfl
  have hsum : ∀ v : FVec Ideal S256x128 .f32, multiReduction .add [1] S256 v 0x00000000#32 reduces_S256x128_S256 (.inl rfl) rfl (ix1 r) = ∑ k : Fin 128, v (ix2 r k) := by
    intro v
    refine (Ideal.multiReduction_add_single v 0x00000000#32 reduces_S256x128_S256 (.inl rfl) rfl (ix1 r)).trans ?_
    refine Finset.sum_congr rfl fun k _ => congrArg v (funext fun c => Fin.ext ?_)
    match c with
    | ⟨0, _⟩ => rfl
    | ⟨1, _⟩ => rfl
  have hg : broadcastTo S256x128 (shapeCast S1x128 g shapeCasts_S1x128_S1x128) broadcasts_S1x128_S256x128 (ix2 r d) = g (ix2 0 d) := by
    rw [shapeCast_self]; exact ValueIdx.broadcastTo_1b_ab_apply g broadcasts_S1x128_S256x128 r d
  unfold headV
  refine congrArg₂ (· * · : EReal → EReal → EReal) (congrArg₂ (· * · : EReal → EReal → EReal) (congrArg₂ (· * · : EReal → EReal → EReal) (hx d) ((hb _).trans ?_)) hg)
    (ValueIdx.shapeCast_1ab_ab_apply s shapeCasts_S1x256x128_S256x128 r d)
  refine congrArg (fun z : EReal => Ideal.rsqrt (Ideal.div z (Ideal.ofBits .f32 0x43000000#32) + Ideal.ofBits .f32 0x358637BD#32)) ?_
  refine (ValueIdx.shapeCast_a_a1_apply _ shapeCasts_S256_S256x1 r 0).trans ((hsum _).trans (Finset.sum_congr rfl fun j _ => ?_))
  exact congrArg₂ (· * · : EReal → EReal → EReal) (hx j) (hx j)

/-- The eight pieces side by side. -/
def catV (p : Fin 8 → FVec Ideal S256x128 .bf16) : FVec Ideal S256x1024 .bf16 :=
  concatenate S256x1024 1 [⟨S256x128, p 0⟩, ⟨S256x128, p 1⟩, ⟨S256x128, p 2⟩, ⟨S256x128, p 3⟩, ⟨S256x128, p 4⟩, ⟨S256x128, p 5⟩, ⟨S256x128, p 6⟩, ⟨S256x128, p 7⟩]
    concatenates_S256x128_S256x128_S256x128_S256x128_S256x128_S256x128_S256x128_S256x128_S256x1024_d1

theorem catV_at (p : Fin 8 → FVec Ideal S256x128 .bf16) (r : Fin 256) (k : Fin 1024) :
    catV p (ix2 r k) = p ⟨k.val / 128, by omega⟩ (ix2 (n0 := 256) (n1 := 128) r ⟨k.val % 128, by omega⟩) := by
  have key : ∀ (i : Fin 8) (d : Fin 128), 128 * i.val + d.val = k.val → catV p (ix2 r k) = p i (ix2 r d) := by
    intro i d h
    refine concatenate_apply_piece (t := S256x1024) 1 _ _ (ix2 r k) i.val (by exact i.isLt) S256x128 (p i) (by fin_cases i <;> rfl) rfl (128 * i.val) (by fin_cases i <;> rfl) (ix2 r d) (fun b hb => ?_) h
    match b with
    | ⟨0, _⟩ => rfl
    | ⟨1, _⟩ => exact absurd rfl hb
  exact key _ _ (by change 128 * (k.val / 128) + k.val % 128 = k.val; omega)

/-- The residual plus the gated product of the pieces. -/
def mixV (v1 : Vec Ideal S1x1024 .f32) (p : Fin 8 → FVec Ideal S256x128 .bf16) (w : Vec Ideal S1024x1024 .bf16) (x : Vec Ideal S1x256x1024 .f32) : FVec Ideal S256x1024 .f32 :=
  addf (shapeCast S256x1024 x shapeCasts_S1x256x1024_S256x1024) (mulf (broadcastTo S256x1024 v1 broadcasts_S1x1024_S256x1024)
    (matmul dot_S256x1024_S1024x1024_S256x1024_1_0_0_1_n_n none (catV p) (shapeCast (α := Ideal .bf16) S1024x1024 w shapeCasts_S1024x1024_S1024x1024 : FVec Ideal S1024x1024 .bf16) (constant (F := Ideal) S256x1024 .f32 0x00000000#32)))

theorem mixV_at (v1 : Vec Ideal S1x1024 .f32) (p : Fin 8 → FVec Ideal S256x128 .bf16) (w : Vec Ideal S1024x1024 .bf16) (x : Vec Ideal S1x256x1024 .f32) (r : Fin 256) (n : Fin 1024)
    (P : Fin 1024 → EReal) (hP : ∀ (i : Fin 8) (d : Fin 128), p i (ix2 r d) = P ⟨128 * i.val + d.val, by omega⟩) :
    mixV v1 p w x (ix2 r n) = addE P (fun k => x (ix3 0 r k)) (fun k => v1 (ix2 0 k)) (fun k n => w (ix2 k n)) n := by
  unfold mixV addE
  refine congrArg₂ (· + · : EReal → EReal → EReal) (ValueIdx.shapeCast_1ab_ab_apply x shapeCasts_S1x256x1024_S256x1024 r n)
    (congrArg₂ (· * · : EReal → EReal → EReal) (ValueIdx.broadcastTo_1b_ab_apply v1 broadcasts_S1x1024_S256x1024 r n)
      ((mm1024 _ w r n).trans (Finset.sum_congr rfl fun k _ => congrArg (· * (w (ix2 k n) : EReal) : EReal → EReal) ?_)))
  exact (catV_at p r k).trans ((hP _ _).trans (congrArg P (Fin.ext (by change 128 * (k.val / 128) + k.val % 128 = k.val; omega))))

/-- A row normalised, scaled and modulated. -/
def normV (v3 v5 : Vec Ideal S1x1024 .f32) (X : FVec Ideal S256x1024 .f32) (g : Vec Ideal S1x1024 .f32) : FVec Ideal S256x1024 .f32 :=
  addf (mulf (mulf (mulf X (broadcastTo S256x1024 (rsqrt (addf (divf (shapeCast S256x1
      (multiReduction .add [1] S256 (mulf X X) 0x00000000#32 reduces_S256x1024_S256 (.inl rfl) rfl) shapeCasts_S256_S256x1)
      (broadcast S256x1 (Scalar.ofBits (F := Ideal) .f32 0x44800000#32))) (broadcast S256x1 (Scalar.ofBits (F := Ideal) .f32 0x358637BD#32)))) broadcasts_S256x1_S256x1024))
    (broadcastTo S256x1024 (shapeCast S1x1024 g shapeCasts_S1x1024_S1x1024) broadcasts_S1x1024_S256x1024))
    (broadcastTo S256x1024 (addf (broadcast S1x1024 (Scalar.ofBits (F := Ideal) .f32 0x3F800000#32)) v5) broadcasts_S1x1024_S256x1024))
    (broadcastTo S256x1024 v3 broadcasts_S1x1024_S256x1024)

theorem normV_at (v3 v5 : Vec Ideal S1x1024 .f32) (X : FVec Ideal S256x1024 .f32) (g : Vec Ideal S1x1024 .f32) (r : Fin 256) (n : Fin 1024) :
    normV v3 v5 X g (ix2 r n) = normE (fun k => X (ix2 r k)) (fun k => g (ix2 0 k)) (fun k => v5 (ix2 0 k)) (fun k => v3 (ix2 0 k)) n := by
  have hb : ∀ w : FVec Ideal S1x1024 .f32, broadcastTo S256x1024 w broadcasts_S1x1024_S256x1024 (ix2 r n) = w (ix2 0 n) :=
    fun w => ValueIdx.broadcastTo_1b_ab_apply w broadcasts_S1x1024_S256x1024 r n
  have hc : ∀ v : FVec Ideal S256x1 .f32, broadcastTo S256x1024 v broadcasts_S256x1_S256x1024 (ix2 r n) = v (ix2 r 0) := by
    intro v
    refine broadcastTo_apply v _ (ix2 r n) (ix2 r 0) fun a => ?_
    match a with
    | ⟨0, _⟩ => rfl
    | ⟨1, _⟩ => rfl
  have hsum : ∀ v : FVec Ideal S256x1024 .f32, multiReduction .add [1] S256 v 0x00000000#32 reduces_S256x1024_S256 (.inl rfl) rfl (ix1 r) = ∑ k : Fin 1024, v (ix2 r k) := by
    intro v
    refine (Ideal.multiReduction_add_single v 0x00000000#32 reduces_S256x1024_S256 (.inl rfl) rfl (ix1 r)).trans ?_
    refine Finset.sum_congr rfl fun k _ => congrArg v (funext fun c => Fin.ext ?_)
    match c with
    | ⟨0, _⟩ => rfl
    | ⟨1, _⟩ => rfl
  have hg : broadcastTo S256x1024 (shapeCast S1x1024 g shapeCasts_S1x1024_S1x1024) broadcasts_S1x1024_S256x1024 (ix2 r n) = g (ix2 0 n) := by
    rw [shapeCast_self]; exact hb g
  unfold normV normE
  refine congrArg₂ (· + · : EReal → EReal → EReal) (congrArg₂ (· * · : EReal → EReal → EReal) (congrArg₂ (· * · : EReal → EReal → EReal)
    (congrArg (X (ix2 r n) * · : EReal → EReal) ((hc _).trans ?_)) hg) (hb _)) (hb v3)
  refine congrArg (fun z : EReal => Ideal.rsqrt (Ideal.div z (Ideal.ofBits .f32 0x44800000#32) + Ideal.ofBits .f32 0x358637BD#32)) ?_
  exact (ValueIdx.shapeCast_a_a1_apply _ shapeCasts_S256_S256x1 r 0).trans (hsum _)

/-- Adding the unit axis to half an output block. -/
theorem add_at (Y : FVec Ideal S256x1024 .f32) (r : Fin 256) (n : Fin 1024) :
    shapeCast S1x256x1024 Y shapeCasts_S256x1024_S1x256x1024 (ix3 0 r n) = Y (ix2 r n) :=
  ValueIdx.shapeCast_ab_1ab_apply Y shapeCasts_S256x1024_S1x256x1024 0 r n

section
variable (v1 v3 v5 : Vec Ideal S1x1024 .f32) (p0 p1 p2 p3 p4 p5 p6 : FVec Ideal S256x128 .bf16) (o : FVec Ideal S256x512 .f32) (g : Vec Ideal S1x128 .f32) (s : Vec Ideal S1x256x128 .bf16)
  (w : Vec Ideal S1024x1024 .bf16) (x : Vec Ideal S1x256x1024 .f32) (gf : Vec Ideal S1x1024 .f32)

/-- The stored values, as these functions. -/
theorem pay16_eq : k0_pay16 (F := Ideal) v1 p0 p1 p2 p3 p4 p5 p6 (k0_pay13 o) (k0_pay14 o) g s w x
    = shapeCast S1x256x1024 (mixV v1 ![p0, p1, p2, p3, p4, p5, p6, headV o 384 slices_S256x512_o0_384_S256x128 g s] w x) shapeCasts_S256x1024_S1x256x1024 := rfl
theorem pay39_eq : k0_pay39 (F := Ideal) v1 p0 p1 p2 p3 p4 p5 p6 (k0_pay36 o) (k0_pay37 o) (Scalar.ofBits .f32 0x358637BD#32) g s w x
    = shapeCast S1x256x1024 (mixV v1 ![p0, p1, p2, p3, p4, p5, p6, headV o 384 slices_S256x512_o0_384_S256x128 g s] w x) shapeCasts_S256x1024_S1x256x1024 := rfl
theorem pay19_eq : k0_pay19 (F := Ideal) v3 v5 (k0_pay17 v1 p0 p1 p2 p3 p4 p5 p6 (k0_pay13 o) (k0_pay14 o) g s w x) gf
    = shapeCast S1x256x1024 (normV v3 v5 (mixV v1 ![p0, p1, p2, p3, p4, p5, p6, headV o 384 slices_S256x512_o0_384_S256x128 g s] w x) gf) shapeCasts_S256x1024_S1x256x1024 := rfl
theorem pay42_eq : k0_pay42 (F := Ideal) v3 v5 (k0_pay40 v1 p0 p1 p2 p3 p4 p5 p6 (k0_pay36 o) (k0_pay37 o) (Scalar.ofBits .f32 0x358637BD#32) g s w x gf)
    = shapeCast S1x256x1024 (normV v3 v5 (mixV v1 ![p0, p1, p2, p3, p4, p5, p6, headV o 384 slices_S256x512_o0_384_S256x128 g s] w x) gf) shapeCasts_S256x1024_S1x256x1024 := rfl
end

end Cert.Kernel3Ideal.Mix
-- ==== Proof.V3.Out.lean ====
/- What a block of the output projection's results holds after a step, at an element, over the reals with infinities. -/
module

public import proofs.«01_k».proof.Proof.V3.Step
public import proofs.«01_k».proof.Proof.Gen.Kernel3Ideal.Value
public import Idealize.ShloMosaic.Lib.WritesUnit

@[expose] public section

set_option maxRecDepth 16384

noncomputable section

namespace Cert.Kernel3Ideal.Mix

open Cert.Kernel3Ideal Cert.Kernel3Ideal.Gen Cert.InMath Cert.MixMath
open Idealize.ShloMosaic
open Idealize.ShloMosaic.ValueIdx (ix1 ix2 ix3 ix4 eq_ix4)
open Idealize.ShloMosaic.TcCoe

/-- A load from a whole buffer reads its contents at the offset plus the index. -/
theorem ld_at {sp : Space} {s : Shape} {e : EltTy} {arg : Memref sig .tc sp s e} (harg : arg.IsWhole) (x : s.Idx → Elt Ideal e) {off size : Fin s.rank → ℕ}
    (inb : ∀ a, off a + size a ≤ s.size a) (y : (Rect.unit off size inb).shape.Idx) (z : s.Idx) (hz : ∀ a, (z a).val = off a + (y a).val) :
    View.readAt (Elt Ideal) arg.view (Rect.unit off size inb).toLoadRect (harg.unread x) y = x z := by
  rw [View.readAt_apply, harg.read_unread]
  refine congrArg x (funext fun a => Fin.ext ?_)
  rw [hz]
  change off a + 1 * (y a).val = _
  rw [Nat.one_mul]
/-- The same with two coordinates, and with three. -/
theorem ld2 {sp : Space} {n0 n1 m0 m1 : ℕ} {e : EltTy} {arg : Memref sig .tc sp ⟨2, ![n0, n1]⟩ e} (harg : arg.IsWhole) (x : (⟨2, ![n0, n1]⟩ : Shape).Idx → Elt Ideal e) {o0 o1 : ℕ}
    (inb : ∀ a, (![o0, o1] : Fin 2 → ℕ) a + (![m0, m1] : Fin 2 → ℕ) a ≤ (⟨2, ![n0, n1]⟩ : Shape).size a) (i0 : Fin m0) (i1 : Fin m1) (z0 : Fin n0) (z1 : Fin n1) (h0 : z0.val = o0 + i0.val) (h1 : z1.val = o1 + i1.val) :
    View.readAt (Elt Ideal) arg.view (Rect.unit (s := ⟨2, ![n0, n1]⟩) ![o0, o1] ![m0, m1] inb).toLoadRect (harg.unread x) (ix2 i0 i1) = x (ix2 z0 z1) :=
  ld_at harg x inb (ix2 i0 i1) (ix2 z0 z1) fun a => match a with
    | ⟨0, _⟩ => h0
    | ⟨1, _⟩ => h1
theorem ld3 {sp : Space} {n0 n1 n2 m0 m1 m2 : ℕ} {e : EltTy} {arg : Memref sig .tc sp ⟨3, ![n0, n1, n2]⟩ e} (harg : arg.IsWhole) (x : (⟨3, ![n0, n1, n2]⟩ : Shape).Idx → Elt Ideal e) {o0 o1 o2 : ℕ}
    (inb : ∀ a, (![o0, o1, o2] : Fin 3 → ℕ) a + (![m0, m1, m2] : Fin 3 → ℕ) a ≤ (⟨3, ![n0, n1, n2]⟩ : Shape).size a) (i0 : Fin m0) (i1 : Fin m1) (i2 : Fin m2) (z0 : Fin n0) (z1 : Fin n1) (z2 : Fin n2)
    (h0 : z0.val = o0 + i0.val) (h1 : z1.val = o1 + i1.val) (h2 : z2.val = o2 + i2.val) :
    View.readAt (Elt Ideal) arg.view (Rect.unit (s := ⟨3, ![n0, n1, n2]⟩) ![o0, o1, o2] ![m0, m1, m2] inb).toLoadRect (harg.unread x) (ix3 i0 i1 i2) = x (ix3 z0 z1 z2) :=
  ld_at harg x inb (ix3 i0 i1 i2) (ix3 z0 z1 z2) fun a => match a with
    | ⟨0, _⟩ => h0
    | ⟨1, _⟩ => h1
    | ⟨2, _⟩ => h2

/-- Two stores of 256 rows fill a block of 512 rows. -/
theorem two_at {κ : Kind} {sp : Space} {e : EltTy} (v : View sig κ sp S1x512x1024 e) (f : v.ty.Contents (Elt Ideal)) (w1 w0 : S1x256x1024.Idx → Elt Ideal e)
    (g : Fin 512 → Fin 1024 → Elt Ideal e) (h0 : ∀ (r : Fin 256) (n : Fin 1024), w0 (ix3 0 r n) = g ⟨r.val, by omega⟩ n)
    (h1 : ∀ (r : Fin 256) (n : Fin 1024), w1 (ix3 0 r n) = g ⟨256 + r.val, by omega⟩ n) (r : Fin 512) (n : Fin 1024) :
    v.read (Elt Ideal) (v.writes (Elt Ideal) f [⟨Rect.unit ![0, 256, 0] S1x256x1024.size inb_S1x512x1024_S1x256x1024_0_256_0, w1⟩,
      ⟨Rect.unit ![0, 0, 0] S1x256x1024.size inb_S1x512x1024_S1x256x1024_0_0_0, w0⟩]) (ix3 0 r n) = g r n := by
  by_cases h : r.val < 256
  · refine (View.read_writes_cons_unit_of_not_mem v f inb_S1x512x1024_S1x256x1024_0_256_0 w1 _ (ix3 0 r n) rfl 1 (.inl h)).trans ?_
    refine (View.read_writes_cons_unit_of_mem v f inb_S1x512x1024_S1x256x1024_0_0_0 w0 [] (ix3 0 r n) (ix3 (n0 := 1) (n1 := 256) (n2 := 1024) 0 ⟨r.val, h⟩ n) rfl fun a => ?_).trans (h0 ⟨r.val, h⟩ n)
    match a with
    | ⟨0, _⟩ => rfl
    | ⟨1, _⟩ => exact (Nat.zero_add _).symm
    | ⟨2, _⟩ => exact (Nat.zero_add _).symm
  · refine (View.read_writes_cons_unit_of_mem v f inb_S1x512x1024_S1x256x1024_0_256_0 w1 _ (ix3 0 r n) (ix3 (n0 := 1) (n1 := 256) (n2 := 1024) 0 ⟨r.val - 256, by omega⟩ n) rfl fun a => ?_).trans
      ((h1 ⟨r.val - 256, by omega⟩ n).trans (congrArg (fun z => g z n) (Fin.ext (by change 256 + (r.val - 256) = r.val; omega))))
    match a with
    | ⟨0, _⟩ => rfl
    | ⟨1, _⟩ => change r.val = 256 + (r.val - 256); omega
    | ⟨2, _⟩ => exact (Nat.zero_add _).symm

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x512x1024 .f32) (harg6 : arg6.IsWhole) (arg7 : Memref sig .tc .vmem S8x6144 .f32) (harg7 : arg7.IsWhole) (arg8 : Memref sig .tc .vmem S1x512 .f32) (harg8 : arg8.IsWhole) (arg9 : Memref sig .tc .vmem S128x128 .bf16) (harg9 : arg9.IsWhole) (arg10 : Memref sig .tc .vmem S128x128 .bf16) (harg10 : arg10.IsWhole) (arg11 : Memref sig .tc .vmem S4x128x128 .bf16) (harg11 : arg11.IsWhole) (arg12 : Memref sig .tc .vmem S1024x1024 .bf16) (harg12 : arg12.IsWhole) (arg13 : Memref sig .tc .vmem S1x1024 .f32) (harg13 : arg13.IsWhole) (arg14 : Memref sig .tc .vmem S1024x128 .f32) (harg14 : arg14.IsWhole) (arg15 : Memref sig .tc .vmem S1x512x1024 .f32) (harg15 : arg15.IsWhole) (arg16 : Memref sig .tc .vmem S1x512x1024 .f32) (harg16 : arg16.IsWhole) (arg17 : Memref sig .tc .vmem S1x16x512 .f32) (harg17 : arg17.IsWhole)
  (x0 : Vec Ideal S1x512x1024 .f32) (x1 x2 x3 : Vec Ideal S1x512x512 .bf16) (x4 : Vec Ideal S1x512x1024 .f32) (x5 : Vec Ideal S8x6144 .f32) (x6 : Vec Ideal S1x512 .f32)
  (x7 x8 : Vec Ideal S128x128 .bf16) (x9 : Vec Ideal S4x128x128 .bf16) (x10 : Vec Ideal S1024x1024 .bf16) (x11 : Vec Ideal S1x1024 .f32) (x12 : Vec Ideal S1024x128 .f32)

/-- The modulation of the block's batch, from a column. -/
def modB (o : ℕ) (ho : o + 1024 ≤ 6144) (k : Fin 1024) : EReal := x5 (ix2 (n0 := 8) (n1 := 6144) ⟨(i 0).val, lt_trans (i 0).isLt (by decide)⟩ ⟨o + k.val, by omega⟩)
/-- A row's parts. -/
def partsB (R : Fin 512) : Fin 1024 → EReal :=
  partE (fun k => x0 (ix3 0 R k)) (fun k => (x1 (ix3 0 R k) : EReal) + x2 (ix3 0 R k)) (fun k => x6 (ix2 0 k)) (fun k => x3 (ix3 0 R k)) (fun j k => x7 (ix2 j k)) (fun j k => x8 (ix2 j k)) (fun g k d => x9 (ix3 g k d))
/-- A row of the first result. -/
def mixB (R : Fin 512) : Fin 1024 → EReal :=
  addE (partsB x0 x1 x2 x3 x6 x7 x8 x9 R) (fun k => x4 (ix3 0 R k)) (modB i x5 2048 (by omega)) (fun k n => x10 (ix2 k n))
/-- A row of the second result. -/
def hidB (R : Fin 512) : Fin 1024 → EReal :=
  normE (mixB i x0 x1 x2 x3 x4 x5 x6 x7 x8 x9 x10 R) (fun k => x11 (ix2 0 k)) (modB i x5 4096 (by omega)) (modB i x5 3072 (by omega))

theorem gate_at (k : Fin 1024) : kernelRun0_A.sl.r (F := Ideal) c i arg7 harg7 x5 (ix2 0 k) = modB i x5 2048 (by omega) k := by
  refine ld_at harg7 x5 _ _ (ix2 (n0 := 8) (n1 := 6144) ⟨(i 0).val, _⟩ ⟨2048 + k.val, _⟩) fun a => ?_
  match a with
  | ⟨0, _⟩ => exact (congrArg (· + 0) (congrFun (k0_off1_eq i) 0)).symm
  | ⟨1, _⟩ => exact (congrArg (· + k.val) (congrFun (k0_off1_eq i) 1)).symm
theorem shift_at (k : Fin 1024) : kernelRun0_A.sl.r_1 (F := Ideal) c i arg7 harg7 x5 (ix2 0 k) = modB i x5 3072 (by omega) k := by
  refine ld_at harg7 x5 _ _ (ix2 (n0 := 8) (n1 := 6144) ⟨(i 0).val, _⟩ ⟨3072 + k.val, _⟩) fun a => ?_
  match a with
  | ⟨0, _⟩ => exact (congrArg (· + 0) (congrFun (k0_off2_eq i) 0)).symm
  | ⟨1, _⟩ => exact (congrArg (· + k.val) (congrFun (k0_off2_eq i) 1)).symm
theorem scale_at (k : Fin 1024) : kernelRun0_A.sl.r_2 (F := Ideal) c i arg7 harg7 x5 (ix2 0 k) = modB i x5 4096 (by omega) k := by
  refine ld_at harg7 x5 _ _ (ix2 (n0 := 8) (n1 := 6144) ⟨(i 0).val, _⟩ ⟨4096 + k.val, _⟩) fun a => ?_
  match a with
  | ⟨0, _⟩ => exact (congrArg (· + 0) (congrFun (k0_off3_eq i) 0)).symm
  | ⟨1, _⟩ => exact (congrArg (· + k.val) (congrFun (k0_off3_eq i) 1)).symm

/-- A Fourier piece of a group of rows. -/
theorem four_ld (O a b e : ℕ) (g : Fin 4) (ha : a = 128 * g.val) (hb : b = 512 + 128 * g.val) (he : e = g.val)
    (ia : ∀ z, (![0, O, a] : Fin 3 → ℕ) z + S1x256x128.size z ≤ S1x512x1024.size z) (ib : ∀ z, (![0, O, b] : Fin 3 → ℕ) z + S1x256x128.size z ≤ S1x512x1024.size z)
    (ie : ∀ z, (![e, 0, 0] : Fin 3 → ℕ) z + S1x128x128.size z ≤ S4x128x128.size z) (r : Fin 256) (R : Fin 512) (hR : R.val = O + r.val) (d : Fin 128) (k : Fin 1024) (hk : k.val = 128 * g.val + d.val) :
    k0_pay1 (F := Ideal) (View.readAt (Elt Ideal) arg2.view (Rect.unit (s := S1x512x1024) ![0, O, a] S1x256x128.size ia).toLoadRect (harg2.unread x0))
      (View.readAt (Elt Ideal) arg2.view (Rect.unit (s := S1x512x1024) ![0, O, b] S1x256x128.size ib).toLoadRect (harg2.unread x0))
      (View.readAt (Elt Ideal) arg9.view (Rect.unit (s := S128x128) ![0, 0] S128x128.size inb_S128x128_S128x128_0_0).toLoadRect (harg9.unread x7))
      (View.readAt (Elt Ideal) arg10.view (Rect.unit (s := S128x128) ![0, 0] S128x128.size inb_S128x128_S128x128_0_0).toLoadRect (harg10.unread x8))
      (View.readAt (Elt Ideal) arg11.view (Rect.unit (s := S4x128x128) ![e, 0, 0] S1x128x128.size ie).toLoadRect (harg11.unread x9)) (ix2 r d)
      = partsB x0 x1 x2 x3 x6 x7 x8 x9 R k := by
  subst ha hb he
  refine (four_at _ _ _ _ _ r d).trans (Eq.trans ?_ (partE_four _ _ _ _ _ _ _ k g d hk).symm)
  refine Finset.sum_congr rfl fun k _ => congrArg₂ (· * · : EReal → EReal → EReal) (congrArg₂ (· + · : EReal → EReal → EReal)
    (Finset.sum_congr rfl fun j _ => congrArg₂ (· * · : EReal → EReal → EReal) ?_ ?_) (Finset.sum_congr rfl fun j _ => congrArg₂ (· * · : EReal → EReal → EReal) ?_ ?_)) ?_
  · exact ld3 harg2 x0 ia 0 r j 0 R _ rfl hR rfl
  · exact ld2 harg9 x7 _ j k j k (Nat.zero_add _).symm (Nat.zero_add _).symm
  · exact ld3 harg2 x0 ib 0 r j 0 R _ rfl hR rfl
  · exact ld2 harg10 x8 _ j k j k (Nat.zero_add _).symm (Nat.zero_add _).symm
  · exact ld3 harg11 x9 ie 0 k d g k d rfl (Nat.zero_add _).symm (Nat.zero_add _).symm

/-- The sum of the two directions, for a group of rows. -/
theorem both_ld (O : ℕ) (io : ∀ z, (![0, O, 0] : Fin 3 → ℕ) z + S1x256x512.size z ≤ S1x512x512.size z) (r : Fin 256) (R : Fin 512) (hR : R.val = O + r.val) (k : Fin 512) :
    k0_pay9 (F := Ideal) (View.readAt (Elt Ideal) arg3.view (Rect.unit (s := S1x512x512) ![0, O, 0] S1x256x512.size io).toLoadRect (harg3.unread x1))
      (View.readAt (Elt Ideal) arg4.view (Rect.unit (s := S1x512x512) ![0, O, 0] S1x256x512.size io).toLoadRect (harg4.unread x2)) (ix2 r k)
      = (x1 (ix3 0 R k) : EReal) + x2 (ix3 0 R k) :=
  congrArg₂ (· + · : EReal → EReal → EReal)
    ((ValueIdx.shapeCast_1ab_ab_apply _ shapeCasts_S1x256x512_S256x512 r k).trans (ld3 harg3 x1 io 0 r k 0 R k rfl hR (Nat.zero_add _).symm))
    ((ValueIdx.shapeCast_1ab_ab_apply _ shapeCasts_S1x256x512_S256x512 r k).trans (ld3 harg4 x2 io 0 r k 0 R k rfl hR (Nat.zero_add _).symm))

/-- A head of a group of rows. -/
theorem head_ld (O a : ℕ) (h : Fin 4) (ha : a = 128 * h.val) (hs : S256x512.Slices ![0, a] S256x128) (o : FVec Ideal S256x512 .f32)
    (ig : ∀ z, (![0, a] : Fin 2 → ℕ) z + S1x128.size z ≤ S1x512.size z) (is : ∀ z, (![0, O, a] : Fin 3 → ℕ) z + S1x256x128.size z ≤ S1x512x512.size z)
    (r : Fin 256) (R : Fin 512) (hR : R.val = O + r.val) (ho : ∀ k, o (ix2 r k) = (x1 (ix3 0 R k) : EReal) + x2 (ix3 0 R k)) (d : Fin 128) (k : Fin 1024) (hk : k.val = 512 + 128 * h.val + d.val) :
    headV o a hs (View.readAt (Elt Ideal) arg8.view (Rect.unit (s := S1x512) ![0, a] S1x128.size ig).toLoadRect (harg8.unread x6))
      (View.readAt (Elt Ideal) arg5.view (Rect.unit (s := S1x512x512) ![0, O, a] S1x256x128.size is).toLoadRect (harg5.unread x3)) (ix2 r d)
      = partsB x0 x1 x2 x3 x6 x7 x8 x9 R k := by
  subst ha
  refine (headV_at o _ hs _ _ (by omega) r d).trans (Eq.trans ?_ (partE_head _ _ _ _ _ _ _ k h d hk).symm)
  unfold headE
  refine congrArg₂ (· * · : EReal → EReal → EReal) (congrArg₂ (· * · : EReal → EReal → EReal) ?_ ?_) ?_
  · simp only [ho]
  · exact ld2 harg8 x6 ig 0 d 0 _ rfl rfl
  · exact ld3 harg5 x3 is 0 r d 0 R _ rfl hR rfl

/-- The pieces of the first group of rows, and of the second. -/
def pc0 : Fin 8 → FVec Ideal S256x128 .bf16 :=
  ![kernelRun0_A.sl.r_3 c arg2 harg2 arg9 harg9 arg10 harg10 arg11 harg11 x0 x7 x8 x9, kernelRun0_A.sl.r_6 c arg2 harg2 arg9 harg9 arg10 harg10 arg11 harg11 x0 x7 x8 x9,
    kernelRun0_A.sl.r_7 c arg2 harg2 arg9 harg9 arg10 harg10 arg11 harg11 x0 x7 x8 x9, kernelRun0_A.sl.r_10 c arg2 harg2 arg9 harg9 arg10 harg10 arg11 harg11 x0 x7 x8 x9,
    kernelRun0_A.sl.r_12 c arg3 harg3 arg4 harg4 arg5 harg5 arg8 harg8 x1 x2 x3 x6, kernelRun0_A.sl.r_13 c arg3 harg3 arg4 harg4 arg5 harg5 arg8 harg8 x1 x2 x3 x6,
    kernelRun0_A.sl.r_14 c arg3 harg3 arg4 harg4 arg5 harg5 arg8 harg8 x1 x2 x3 x6,
    headV (kernelRun0_A.sl.r_11 c arg3 harg3 arg4 harg4 x1 x2) 384 slices_S256x512_o0_384_S256x128
      (View.readAt (Elt Ideal) arg8.view (Rect.unit (s := S1x512) ![0, 384] S1x128.size inb_S1x512_S1x128_0_384).toLoadRect (harg8.unread x6))
      (View.readAt (Elt Ideal) arg5.view (Rect.unit (s := S1x512x512) ![0, 0, 384] S1x256x128.size inb_S1x512x512_S1x256x128_0_0_384).toLoadRect (harg5.unread x3))]
def pc1 : Fin 8 → FVec Ideal S256x128 .bf16 :=
  ![kernelRun0_A.sl.r_19 c arg2 harg2 arg9 harg9 arg10 harg10 arg11 harg11 x0 x7 x8 x9, kernelRun0_A.sl.r_22 c arg2 harg2 arg9 harg9 arg10 harg10 arg11 harg11 x0 x7 x8 x9,
    kernelRun0_A.sl.r_23 c arg2 harg2 arg9 harg9 arg10 harg10 arg11 harg11 x0 x7 x8 x9, kernelRun0_A.sl.r_26 c arg2 harg2 arg9 harg9 arg10 harg10 arg11 harg11 x0 x7 x8 x9,
    kernelRun0_A.sl.r_28 c arg3 harg3 arg4 harg4 arg5 harg5 arg8 harg8 x1 x2 x3 x6, kernelRun0_A.sl.r_31 c arg3 harg3 arg4 harg4 arg5 harg5 arg8 harg8 x1 x2 x3 x6,
    kernelRun0_A.sl.r_32 c arg3 harg3 arg4 harg4 arg5 harg5 arg8 harg8 x1 x2 x3 x6,
    headV (kernelRun0_A.sl.r_27 c arg3 harg3 arg4 harg4 x1 x2) 384 slices_S256x512_o0_384_S256x128
      (View.readAt (Elt Ideal) arg8.view (Rect.unit (s := S1x512) ![0, 384] S1x128.size inb_S1x512_S1x128_0_384).toLoadRect (harg8.unread x6))
      (View.readAt (Elt Ideal) arg5.view (Rect.unit (s := S1x512x512) ![0, 256, 384] S1x256x128.size inb_S1x512x512_S1x256x128_0_256_384).toLoadRect (harg5.unread x3))]

theorem pc0_at (r : Fin 256) (j : Fin 8) (d : Fin 128) : pc0 c arg2 harg2 arg3 harg3 arg4 harg4 arg5 harg5 arg8 harg8 arg9 harg9 arg10 harg10 arg11 harg11 x0 x1 x2 x3 x6 x7 x8 x9 j (ix2 r d)
    = partsB x0 x1 x2 x3 x6 x7 x8 x9 ⟨r.val, by omega⟩ ⟨128 * j.val + d.val, by omega⟩ := by
  have hf := fun a b e g ha hb he ia ib ie => four_ld arg2 harg2 arg9 harg9 arg10 harg10 arg11 harg11 x0 x1 x2 x3 x6 x7 x8 x9 0 a b e g ha hb he ia ib ie r ⟨r.val, by omega⟩ (Nat.zero_add _).symm d
  have hh := fun a h ha hs ig is => head_ld arg5 harg5 arg8 harg8 x0 x1 x2 x3 x6 x7 x8 x9 0 a h ha hs _ ig is r ⟨r.val, by omega⟩ (Nat.zero_add _).symm (both_ld arg3 harg3 arg4 harg4 x1 x2 0 inb_S1x512x512_S1x256x512_0_0_0 r ⟨r.val, by omega⟩ (Nat.zero_add _).symm) d
  match j with
  | ⟨0, _⟩ => exact hf 0 512 0 0 rfl rfl rfl _ _ _ _ rfl
  | ⟨1, _⟩ => exact hf 128 640 1 1 rfl rfl rfl _ _ _ _ rfl
  | ⟨2, _⟩ => exact hf 256 768 2 2 rfl rfl rfl _ _ _ _ rfl
  | ⟨3, _⟩ => exact hf 384 896 3 3 rfl rfl rfl _ _ _ _ rfl
  | ⟨4, _⟩ => exact hh 0 0 rfl slices_S256x512_o0_0_S256x128 _ _ _ (by change 128 * 4 + d.val = 512 + 128 * 0 + d.val; omega)
  | ⟨5, _⟩ => exact hh 128 1 rfl slices_S256x512_o0_128_S256x128 _ _ _ (by change 128 * 5 + d.val = 512 + 128 * 1 + d.val; omega)
  | ⟨6, _⟩ => exact hh 256 2 rfl slices_S256x512_o0_256_S256x128 _ _ _ (by change 128 * 6 + d.val = 512 + 128 * 2 + d.val; omega)
  | ⟨7, _⟩ => exact hh 384 3 rfl slices_S256x512_o0_384_S256x128 _ _ _ (by change 128 * 7 + d.val = 512 + 128 * 3 + d.val; omega)
theorem pc1_at (r : Fin 256) (j : Fin 8) (d : Fin 128) : pc1 c arg2 harg2 arg3 harg3 arg4 harg4 arg5 harg5 arg8 harg8 arg9 harg9 arg10 harg10 arg11 harg11 x0 x1 x2 x3 x6 x7 x8 x9 j (ix2 r d)
    = partsB x0 x1 x2 x3 x6 x7 x8 x9 ⟨256 + r.val, by omega⟩ ⟨128 * j.val + d.val, by omega⟩ := by
  have hf := fun a b e g ha hb he ia ib ie => four_ld arg2 harg2 arg9 harg9 arg10 harg10 arg11 harg11 x0 x1 x2 x3 x6 x7 x8 x9 256 a b e g ha hb he ia ib ie r ⟨256 + r.val, by omega⟩ rfl d
  have hh := fun a h ha hs ig is => head_ld arg5 harg5 arg8 harg8 x0 x1 x2 x3 x6 x7 x8 x9 256 a h ha hs _ ig is r ⟨256 + r.val, by omega⟩ rfl (both_ld arg3 harg3 arg4 harg4 x1 x2 256 inb_S1x512x512_S1x256x512_0_256_0 r ⟨256 + r.val, by omega⟩ rfl) d
  match j with
  | ⟨0, _⟩ => exact hf 0 512 0 0 rfl rfl rfl _ _ _ _ rfl
  | ⟨1, _⟩ => exact hf 128 640 1 1 rfl rfl rfl _ _ _ _ rfl
  | ⟨2, _⟩ => exact hf 256 768 2 2 rfl rfl rfl _ _ _ _ rfl
  | ⟨3, _⟩ => exact hf 384 896 3 3 rfl rfl rfl _ _ _ _ rfl
  | ⟨4, _⟩ => exact hh 0 0 rfl slices_S256x512_o0_0_S256x128 _ _ _ (by change 128 * 4 + d.val = 512 + 128 * 0 + d.val; omega)
  | ⟨5, _⟩ => exact hh 128 1 rfl slices_S256x512_o0_128_S256x128 _ _ _ (by change 128 * 5 + d.val = 512 + 128 * 1 + d.val; omega)
  | ⟨6, _⟩ => exact hh 256 2 rfl slices_S256x512_o0_256_S256x128 _ _ _ (by change 128 * 6 + d.val = 512 + 128 * 2 + d.val; omega)
  | ⟨7, _⟩ => exact hh 384 3 rfl slices_S256x512_o0_384_S256x128 _ _ _ (by change 128 * 7 + d.val = 512 + 128 * 3 + d.val; omega)

/-- The mixing of a group of rows. -/
theorem mixG_at (O : ℕ) (p : Fin 8 → FVec Ideal S256x128 .bf16) (ix : ∀ z, (![0, O, 0] : Fin 3 → ℕ) z + S1x256x1024.size z ≤ S1x512x1024.size z) (r : Fin 256) (R : Fin 512) (hR : R.val = O + r.val)
    (hp : ∀ (j : Fin 8) (d : Fin 128), p j (ix2 r d) = partsB x0 x1 x2 x3 x6 x7 x8 x9 R ⟨128 * j.val + d.val, by omega⟩) (n : Fin 1024) :
    mixV (kernelRun0_A.sl.r (F := Ideal) c i arg7 harg7 x5) p
      (View.readAt (Elt Ideal) arg12.view (Rect.unit (s := S1024x1024) ![0, 0] S1024x1024.size inb_S1024x1024_S1024x1024_0_0).toLoadRect (harg12.unread x10))
      (View.readAt (Elt Ideal) arg6.view (Rect.unit (s := S1x512x1024) ![0, O, 0] S1x256x1024.size ix).toLoadRect (harg6.unread x4)) (ix2 r n) = mixB i x0 x1 x2 x3 x4 x5 x6 x7 x8 x9 x10 R n := by
  refine (mixV_at _ p _ _ r n _ hp).trans ?_
  refine congr (congr (congr (congrArg (addE _) (funext fun k => ?_)) (funext fun k => ?_)) (funext fun k => funext fun n => ?_)) rfl
  · exact ld3 harg6 x4 ix 0 r k 0 R k rfl hR (Nat.zero_add _).symm
  · exact gate_at c i arg7 harg7 x5 k
  · exact ld2 harg12 x10 _ k n k n (Nat.zero_add _).symm (Nat.zero_add _).symm
/-- The normalisation of a group of rows. -/
theorem normG_at (X : FVec Ideal S256x1024 .f32) (r : Fin 256) (R : Fin 512) (hX : ∀ k, X (ix2 r k) = mixB i x0 x1 x2 x3 x4 x5 x6 x7 x8 x9 x10 R k) (n : Fin 1024) :
    normV (kernelRun0_A.sl.r_1 (F := Ideal) c i arg7 harg7 x5) (kernelRun0_A.sl.r_2 (F := Ideal) c i arg7 harg7 x5) X
      (View.readAt (Elt Ideal) arg13.view (Rect.unit (s := S1x1024) ![0, 0] S1x1024.size inb_S1x1024_S1x1024_0_0).toLoadRect (harg13.unread x11)) (ix2 r n) = hidB i x0 x1 x2 x3 x4 x5 x6 x7 x8 x9 x10 x11 R n := by
  refine (normV_at _ _ X _ r n).trans ?_
  refine congr (congr (congr (congr (congrArg normE (funext hX)) (funext fun k => ?_)) (funext fun k => ?_)) (funext fun k => ?_)) rfl
  · exact ld2 harg13 x11 _ 0 k 0 k rfl (Nat.zero_add _).symm
  · exact scale_at c i arg7 harg7 x5 k
  · exact shift_at c i arg7 harg7 x5 k

/-- The first result's block. -/
theorem out13_at (R : Fin 512) (n : Fin 1024) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix3 0 R n) = mixB i x0 x1 x2 x3 x4 x5 x6 x7 x8 x9 x10 R n := by
  unfold out0_A_13 kernelRun0_A
  exact two_at (e := .f32) VO0_13 VO0_13.junk _ _ (mixB i x0 x1 x2 x3 x4 x5 x6 x7 x8 x9 x10)
    (fun r n => (congrFun (pay16_eq _ _ _ _ _ _ _ _ _ _ _ _ _) _).trans ((add_at _ r n).trans (mixG_at c i arg6 harg6 arg7 harg7 arg12 harg12 x0 x1 x2 x3 x4 x5 x6 x7 x8 x9 x10 0 (pc0 c arg2 harg2 arg3 harg3 arg4 harg4 arg5 harg5 arg8 harg8 arg9 harg9 arg10 harg10 arg11 harg11 x0 x1 x2 x3 x6 x7 x8 x9) _ r ⟨r.val, by omega⟩ (Nat.zero_add _).symm (pc0_at c arg2 harg2 arg3 harg3 arg4 harg4 arg5 harg5 arg8 harg8 arg9 harg9 arg10 harg10 arg11 harg11 x0 x1 x2 x3 x6 x7 x8 x9 r) n)))
    (fun r n => (congrFun (pay39_eq _ _ _ _ _ _ _ _ _ _ _ _ _) _).trans ((add_at _ r n).trans (mixG_at c i arg6 harg6 arg7 harg7 arg12 harg12 x0 x1 x2 x3 x4 x5 x6 x7 x8 x9 x10 256 (pc1 c arg2 harg2 arg3 harg3 arg4 harg4 arg5 harg5 arg8 harg8 arg9 harg9 arg10 harg10 arg11 harg11 x0 x1 x2 x3 x6 x7 x8 x9) _ r ⟨256 + r.val, by omega⟩ rfl (pc1_at c arg2 harg2 arg3 harg3 arg4 harg4 arg5 harg5 arg8 harg8 arg9 harg9 arg10 harg10 arg11 harg11 x0 x1 x2 x3 x6 x7 x8 x9 r) n))) R n

/-- The second result's block. -/
theorem out14_at (R : Fin 512) (n : Fin 1024) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix3 0 R n) = hidB i x0 x1 x2 x3 x4 x5 x6 x7 x8 x9 x10 x11 R n := by
  unfold out0_A_14 kernelRun0_A
  exact two_at (e := .f32) VO0_14 VO0_14.junk _ _ (hidB i x0 x1 x2 x3 x4 x5 x6 x7 x8 x9 x10 x11)
    (fun r n => (congrFun (pay19_eq _ _ _ _ _ _ _ _ _ _ _ _ _ _ _ _) _).trans ((add_at _ r n).trans (normG_at c i arg7 harg7 arg13 harg13 x0 x1 x2 x3 x4 x5 x6 x7 x8 x9 x10 x11 _ r ⟨r.val, by omega⟩ (mixG_at c i arg6 harg6 arg7 harg7 arg12 harg12 x0 x1 x2 x3 x4 x5 x6 x7 x8 x9 x10 0 (pc0 c arg2 harg2 arg3 harg3 arg4 harg4 arg5 harg5 arg8 harg8 arg9 harg9 arg10 harg10 arg11 harg11 x0 x1 x2 x3 x6 x7 x8 x9) _ r ⟨r.val, by omega⟩ (Nat.zero_add _).symm (pc0_at c arg2 harg2 arg3 harg3 arg4 harg4 arg5 harg5 arg8 harg8 arg9 harg9 arg10 harg10 arg11 harg11 x0 x1 x2 x3 x6 x7 x8 x9 r)) n)))
    (fun r n => (congrFun (pay42_eq _ _ _ _ _ _ _ _ _ _ _ _ _ _ _ _) _).trans ((add_at _ r n).trans (normG_at c i arg7 harg7 arg13 harg13 x0 x1 x2 x3 x4 x5 x6 x7 x8 x9 x10 x11 _ r ⟨256 + r.val, by omega⟩ (mixG_at c i arg6 harg6 arg7 harg7 arg12 harg12 x0 x1 x2 x3 x4 x5 x6 x7 x8 x9 x10 256 (pc1 c arg2 harg2 arg3 harg3 arg4 harg4 arg5 harg5 arg8 harg8 arg9 harg9 arg10 harg10 arg11 harg11 x0 x1 x2 x3 x6 x7 x8 x9) _ r ⟨256 + r.val, by omega⟩ rfl (pc1_at c arg2 harg2 arg3 harg3 arg4 harg4 arg5 harg5 arg8 harg8 arg9 harg9 arg10 harg10 arg11 harg11 x0 x1 x2 x3 x6 x7 x8 x9 r)) n))) R n
end

end Cert.Kernel3Ideal.Mix
-- ==== Proof.V3.Ref.lean ====
/- What the output projection's reference computes, at an element. -/
module

public import proofs.«01_k».proof.Proof.V2.Ref
public import proofs.«01_k».proof.Proof.V3.Math
public import proofs.«01_k».proof.Proof.Gen.Reference3Ideal.Read
public import Idealize.ShloMosaic.Lib.Pipeline.Value

@[expose] public section

set_option maxRecDepth 16384

noncomputable section

namespace Cert.Reference3Ideal.Mix

open Cert.Reference3Ideal Cert.Reference3Ideal.Gen Cert.Reference3Ideal.Read Cert.InMath Cert.MixMath
open Cert.Reference2Ideal.Proj (ext1 ext2 ext3)
open Idealize.ShloMosaic hiding ix1 ix2 ix3 ix4 eq_ix4
open Idealize.ShloMosaic.ValueIdx (ix1 ix2 ix3 ix4 eq_ix4)
open Idealize.ShloMosaic.TcCoe

/-- Two indices with the same coordinates are equal. -/
theorem ext4 {d : Fin 4 → ℕ} {i j : (⟨4, d⟩ : Shape).Idx} (h0 : i 0 = j 0) (h1 : i 1 = j 1) (h2 : i 2 = j 2) (h3 : i 3 = j 3) : i = j :=
  funext fun a => match a with
    | ⟨0, _⟩ => h0
    | ⟨1, _⟩ => h1
    | ⟨2, _⟩ => h2
    | ⟨3, _⟩ => h3

/-- The row-major position of a token's group and channel, taken apart as three coordinates. -/
theorem flat4 (b : Fin 2) (r : Fin 8192) (g : Fin 4) (j : Fin 128) :
    (((b.val * 8192 + r.val) * 4 + g.val) * 128 + j.val) / 4194304 = b.val ∧ (((b.val * 8192 + r.val) * 4 + g.val) * 128 + j.val) / 512 % 8192 = r.val
      ∧ (((b.val * 8192 + r.val) * 4 + g.val) * 128 + j.val) % 512 = 128 * g.val + j.val := by omega
/-- The row-major position of a token's channel, taken apart as four coordinates. -/
theorem flat3 (b : Fin 2) (r : Fin 8192) (m : Fin 512) :
    ((b.val * 8192 + r.val) * 512 + m.val) / 4194304 = b.val ∧ ((b.val * 8192 + r.val) * 512 + m.val) / 512 % 8192 = r.val
      ∧ ((b.val * 8192 + r.val) * 512 + m.val) / 128 % 4 = m.val / 128 ∧ ((b.val * 8192 + r.val) * 512 + m.val) % 128 = m.val % 128 := by omega

section
variable (x0 : (⟨S2x8192x1024, .f32⟩ : BufTy).Contents (Elt Ideal)) (x1 x2 x3 : (⟨S2x8192x512, .bf16⟩ : BufTy).Contents (Elt Ideal))
  (x4 : (⟨S2x8192x1024, .f32⟩ : BufTy).Contents (Elt Ideal)) (x5 : (⟨S8x6144, .f32⟩ : BufTy).Contents (Elt Ideal)) (x6 : (⟨S512, .f32⟩ : BufTy).Contents (Elt Ideal))
  (x7 : (⟨S4x128x128, .f32⟩ : BufTy).Contents (Elt Ideal)) (x8 : (⟨S1024x1024, .f32⟩ : BufTy).Contents (Elt Ideal)) (x9 : (⟨S1024, .f32⟩ : BufTy).Contents (Elt Ideal))
  (x11 x12 : (⟨S128x128, .bf16⟩ : BufTy).Contents (Elt Ideal)) (b : Fin 2) (r : Fin 8192)

theorem v1_at (g : Fin 4) (j : Fin 128) : val_main_v1 (F := Ideal) x0 (ix4 b r g j) = x0 (ix3 (n0 := 2) (n1 := 8192) (n2 := 1024) b r ⟨128 * g.val + j.val, by omega⟩) := by
  rw [val_main_v1_apply, val_main_v0_apply]
  obtain ⟨h0, h1, h2⟩ := flat4 b r g j
  exact congrArg x0 (ext3 (Fin.ext h0) (Fin.ext h1) (Fin.ext h2))
theorem v3_at (g : Fin 4) (j : Fin 128) : val_main_v3 (F := Ideal) x0 (ix4 b r g j) = x0 (ix3 (n0 := 2) (n1 := 8192) (n2 := 1024) b r ⟨512 + 128 * g.val + j.val, by omega⟩) := by
  rw [val_main_v3_apply, val_main_v2_apply]
  obtain ⟨h0, h1, h2⟩ := flat4 b r g j
  exact congrArg x0 (ext3 (Fin.ext h0) (Fin.ext h1) (Fin.ext ((congrArg (512 + ·) h2).trans (Nat.add_assoc _ _ _).symm)))

theorem v8_at (g : Fin 4) (k : Fin 128) : val_main_v8 (F := Ideal) x0 x11 x12 (ix4 b r g k)
    = (∑ j : Fin 128, (x0 (ix3 (n0 := 2) (n1 := 8192) (n2 := 1024) b r ⟨128 * g.val + j.val, by omega⟩) : EReal) * x11 (ix2 j k))
      + ∑ j : Fin 128, (x0 (ix3 (n0 := 2) (n1 := 8192) (n2 := 1024) b r ⟨512 + 128 * g.val + j.val, by omega⟩) : EReal) * x12 (ix2 j k) := by
  rw [val_main_v8_apply, val_main_v5_apply, val_main_v7_apply]
  refine congrArg₂ (· + · : EReal → EReal → EReal) (Finset.sum_congr rfl fun j _ => ?_) (Finset.sum_congr rfl fun j _ => ?_)
  · rw [show lidx_main_v5 (ix4 b r g k) j = ix4 b r g j from ext4 rfl rfl rfl rfl, v1_at, val_main_v4_apply,
      show ridx_main_v5 (ix4 b r g k) j = ix2 j k from ext2 rfl rfl]
    rfl
  · rw [show lidx_main_v7 (ix4 b r g k) j = ix4 b r g j from ext4 rfl rfl rfl rfl, v3_at, val_main_v6_apply,
      show ridx_main_v7 (ix4 b r g k) j = ix2 j k from ext2 rfl rfl]
    rfl

theorem v10_at (g : Fin 4) (d : Fin 128) : val_main_v10 (F := Ideal) x0 x7 x11 x12 (ix4 b r g d)
    = fourE (fun k => x0 (ix3 b r k)) (fun j k => x11 (ix2 j k)) (fun j k => x12 (ix2 j k)) (fun g k d => x7 (ix3 g k d)) g d := by
  rw [val_main_v10_apply, val_main_v9_apply]
  refine Finset.sum_congr rfl fun k _ => ?_
  rw [show lidx_main_v9 (idx_main_v10 (ix4 b r g d)) k = ix3 g k d from ext3 rfl rfl rfl,
    show ridx_main_v9 (idx_main_v10 (ix4 b r g d)) k = ix4 b r g k from ext4 rfl rfl rfl rfl, v8_at]
  exact mul_comm (_ : EReal) _

theorem v11_at (m : Fin 512) : val_main_v11 (F := Ideal) x0 x7 x11 x12 (ix3 b r m)
    = partsA x0 x1 x2 x3 x6 x7 x11 x12 b r ⟨m.val, by omega⟩ := by
  rw [val_main_v11_apply]
  obtain ⟨h0, h1, h2, h3⟩ := flat3 b r m
  rw [show idx_main_v11 (ix3 b r m) = ix4 (n0 := 2) (n1 := 8192) (n2 := 4) (n3 := 128) b r ⟨m.val / 128, by omega⟩ ⟨m.val % 128, by omega⟩ from
    ext4 (Fin.ext h0) (Fin.ext h1) (Fin.ext h2) (Fin.ext h3), v10_at]
  exact (partE_four _ _ _ _ _ _ _ ⟨m.val, by omega⟩ ⟨m.val / 128, by omega⟩ ⟨m.val % 128, by omega⟩ (by change m.val = 128 * (m.val / 128) + m.val % 128; omega)).symm

theorem v15_at (g : Fin 4) (j : Fin 128) : val_main_v15 (F := Ideal) x1 x2 (ix4 b r g j)
    = (x1 (ix3 (n0 := 2) (n1 := 8192) (n2 := 512) b r ⟨128 * g.val + j.val, by omega⟩) : EReal) + x2 (ix3 (n0 := 2) (n1 := 8192) (n2 := 512) b r ⟨128 * g.val + j.val, by omega⟩) := by
  rw [val_main_v15_apply]
  obtain ⟨h0, h1, h2⟩ := flat4 b r g j
  rw [show idx_main_v15 (ix4 b r g j) = ix3 (n0 := 2) (n1 := 8192) (n2 := 512) b r ⟨128 * g.val + j.val, by omega⟩ from ext3 (Fin.ext h0) (Fin.ext h1) (Fin.ext h2),
    val_main_v14_apply, val_main_v12_apply, val_main_v13_apply]
  rfl

theorem v25_at (g : Fin 4) (d : Fin 128) (O : Fin 512 → EReal) (hO : ∀ m, O m = (x1 (ix3 b r m) : EReal) + x2 (ix3 b r m)) :
    val_main_v25 (F := Ideal) x1 x2 (ix4 b r g d) = O ⟨128 * g.val + d.val, by omega⟩
      * Ideal.rsqrt (Ideal.div (∑ j : Fin 128, O ⟨128 * g.val + j.val, by omega⟩ * O ⟨128 * g.val + j.val, by omega⟩) (Ideal.ofBits .f32 0x43000000#32) + Ideal.ofBits .f32 0x358637BD#32) := by
  rw [val_main_v25_apply, val_main_v24_apply, val_main_v23_apply, val_main_v22_apply, val_main_v21_apply, val_main_v20_apply, val_main_v19_apply, val_main_v18_apply,
    val_main_v17_apply, val_main_cst_apply, val_main_cst_0_apply, val_main_cst_1_apply, v15_at]
  have hi : ∀ k : Fin 128, idx_main_v17 (idx_main_v18 (idx_main_v24 (ix4 b r g d))) k = ix4 b r g k := fun k => ext4 rfl rfl rfl rfl
  simp only [hi, val_main_v16_apply, v15_at, ← hO]
  change _ * Ideal.rsqrt (Ideal.div (Ideal.ofBits .f32 0x00000000#32 + _) _ + _) = _
  rw [Ideal.ofBits_zero_f32, zero_add]
  rfl

theorem v31_at (m : Fin 512) : val_main_v31 (F := Ideal) x1 x2 x3 x6 (ix3 b r m)
    = partsA x0 x1 x2 x3 x6 x7 x11 x12 b r ⟨512 + m.val, by omega⟩ := by
  rw [val_main_v31_apply, val_main_v30_apply, val_main_v29_apply, val_main_v28_apply, val_main_v27_apply, val_main_v26_apply]
  obtain ⟨h0, h1, h2, h3⟩ := flat3 b r m
  have hm : 128 * (m.val / 128) + m.val % 128 = m.val := by omega
  rw [show idx_main_v26 (ix3 b r m) = ix4 (n0 := 2) (n1 := 8192) (n2 := 4) (n3 := 128) b r ⟨m.val / 128, by omega⟩ ⟨m.val % 128, by omega⟩ from
    ext4 (Fin.ext h0) (Fin.ext h1) (Fin.ext h2) (Fin.ext h3), v25_at x1 x2 b r _ _ (fun m => (x1 (ix3 b r m) : EReal) + x2 (ix3 b r m)) (fun _ => rfl),
    show idx_main_v27 (idx_main_v28 (ix3 b r m)) = ix1 m from ext1 rfl]
  refine Eq.trans ?_ (partE_head _ _ _ _ _ _ _ ⟨512 + m.val, by omega⟩ ⟨m.val / 128, by omega⟩ ⟨m.val % 128, by omega⟩ (by change 512 + m.val = 512 + 128 * (m.val / 128) + m.val % 128; omega)).symm
  unfold headE
  have hf : (⟨128 * (m.val / 128) + m.val % 128, by omega⟩ : Fin 512) = m := Fin.ext hm
  exact congrArg₂ (· * · : EReal → EReal → EReal) (congrArg (_ * · : EReal → EReal) (congrArg (fun m => (x6 (ix1 m) : EReal)) hf.symm)) (congrArg (fun m => (x3 (ix3 b r m) : EReal)) hf.symm)

theorem v32_at (k : Fin 1024) : val_main_v32 (F := Ideal) x0 x1 x2 x3 x6 x7 x11 x12 (ix3 b r k) = partsA x0 x1 x2 x3 x6 x7 x11 x12 b r k := by
  unfold val_main_v32
  by_cases h : k.val < 512
  · refine (concatenate_apply_piece (t := S2x8192x1024) 2 _ _ (ix3 b r k) 0 (by exact Nat.zero_lt_succ _) S2x8192x512 (val_main_v11 (F := Ideal) x0 x7 x11 x12) rfl rfl 0 rfl
      (ix3 (n0 := 2) (n1 := 8192) (n2 := 512) b r ⟨k.val, h⟩) (fun a ha => ?_) (Nat.zero_add _)).trans (v11_at x0 x1 x2 x3 x6 x7 x11 x12 b r ⟨k.val, h⟩)
    match a with
    | ⟨0, _⟩ => rfl
    | ⟨1, _⟩ => rfl
    | ⟨2, _⟩ => exact absurd rfl ha
  · have hk : 512 + (k.val - 512) = k.val := by omega
    refine (concatenate_apply_piece (t := S2x8192x1024) 2 _ _ (ix3 b r k) 1 (by exact Nat.one_lt_two) S2x8192x512 (val_main_v31 (F := Ideal) x1 x2 x3 x6) rfl rfl 512 rfl
      (ix3 (n0 := 2) (n1 := 8192) (n2 := 512) b r ⟨k.val - 512, by omega⟩) (fun a ha => ?_) hk).trans ((v31_at x0 x1 x2 x3 x6 x7 x11 x12 b r ⟨k.val - 512, by omega⟩).trans
        (congrArg (partsA x0 x1 x2 x3 x6 x7 x11 x12 b r) (Fin.ext hk)))
    match a with
    | ⟨0, _⟩ => rfl
    | ⟨1, _⟩ => rfl
    | ⟨2, _⟩ => exact absurd rfl ha

/-- The first result. -/
theorem v42_at (n : Fin 1024) : val_main_v42 (F := Ideal) x0 x1 x2 x3 x4 x5 x6 x7 x8 x11 x12 (ix3 b r n) = mixA x0 x1 x2 x3 x4 x5 x6 x7 x8 x11 x12 b r n := by
  rw [val_main_v42_apply, val_main_v41_apply, val_main_v40_apply, val_main_v35_apply, val_main_v34_apply, val_main_v33_apply,
    show idx_main_v34 (idx_main_v35 (idx_main_v40 (ix3 b r n))) = ix2 (n0 := 8) (n1 := 6144) ⟨b.val, by omega⟩ ⟨2048 + n.val, by omega⟩ from ext2 rfl rfl]
  refine congrArg (fun z : EReal => x4 (ix3 b r n) + x5 (ix2 (n0 := 8) (n1 := 6144) ⟨b.val, by omega⟩ ⟨2048 + n.val, by omega⟩) * z) (Finset.sum_congr rfl fun k _ => ?_)
  rw [show lidx_main_v33 (ix3 b r n) k = ix3 b r k from ext3 rfl rfl rfl, show ridx_main_v33 (ix3 b r n) k = ix2 k n from ext2 rfl rfl, v32_at]

theorem v52_at (n : Fin 1024) : val_main_v52 (F := Ideal) x0 x1 x2 x3 x4 x5 x6 x7 x8 x11 x12 (ix3 b r n) = rmsE (mixA x0 x1 x2 x3 x4 x5 x6 x7 x8 x11 x12 b r) n := by
  rw [val_main_v52_apply, val_main_v51_apply, val_main_v50_apply, val_main_v49_apply, val_main_v48_apply, val_main_v47_apply, val_main_v46_apply,
    val_main_v45_apply, val_main_v44_apply, val_main_cst_2_apply, val_main_cst_3_apply, val_main_cst_4_apply, v42_at]
  have hi : ∀ k : Fin 1024, idx_main_v44 (idx_main_v45 (idx_main_v51 (ix3 b r n))) k = ix3 b r k := fun k => ext3 rfl rfl rfl
  simp only [hi, val_main_v43_apply, v42_at]
  change _ * Ideal.rsqrt (Ideal.div (Ideal.ofBits .f32 0x00000000#32 + _) _ + _) = _
  rw [Ideal.ofBits_zero_f32, zero_add]
  rfl

/-- The second result. -/
theorem v61_at (n : Fin 1024) : val_main_v61 (F := Ideal) x0 x1 x2 x3 x4 x5 x6 x7 x8 x9 x11 x12 (ix3 b r n) = hidA x0 x1 x2 x3 x4 x5 x6 x7 x8 x9 x11 x12 b r n := by
  rw [val_main_v61_apply, val_main_v60_apply, val_main_v59_apply, val_main_v58_apply, val_main_v57_apply, val_main_v56_apply, val_main_v55_apply, val_main_v54_apply,
    val_main_v53_apply, val_main_v39_apply, val_main_v38_apply, val_main_v37_apply, val_main_v36_apply, val_main_cst_5_apply, v52_at,
    show idx_main_v36 (idx_main_v37 (idx_main_v60 (ix3 b r n))) = ix2 (n0 := 8) (n1 := 6144) ⟨b.val, by omega⟩ ⟨3072 + n.val, by omega⟩ from ext2 rfl rfl,
    show idx_main_v38 (idx_main_v39 (idx_main_v58 (ix3 b r n))) = ix2 (n0 := 8) (n1 := 6144) ⟨b.val, by omega⟩ ⟨4096 + n.val, by omega⟩ from ext2 rfl rfl,
    show idx_main_v53 (idx_main_v54 (ix3 b r n)) = ix1 n from ext1 rfl]
  rfl
end

end Cert.Reference3Ideal.Mix
-- ==== Proof.V3.Value.lean ====
/- What the output projection leaves in its first two results, at an element, over the reals with infinities. -/
module

public import proofs.«01_k».proof.Proof.V3.Out
public import proofs.«01_k».proof.Proof.V3.Ref
public import Idealize.ShloMosaic.Lib.Pipeline.ValueKit.Geometry

@[expose] public section

set_option maxRecDepth 16384

noncomputable section

namespace Cert.Kernel3Ideal.Mix

open Cert.Kernel3Ideal Cert.Kernel3Ideal.Gen Cert.InMath Cert.MixMath
open Idealize.ShloMosaic hiding ix1 ix2 ix3 ix4 eq_ix3 eq_ix4
open Idealize.ShloMosaic.ValueIdx (ix1 ix2 ix3 ix4 eq_ix3 eq_ix4)
open Idealize.ShloMosaic.TcCoe

theorem pt_lt (t : Fin grid0.N) : t.val < 32 := lt_of_lt_of_eq t.isLt N_0
theorem coord0 (t : Fin grid0.N) : (grid0.coords t 0).val = t.val / 16 := by
  have h : ∀ t : Fin grid0.N, (grid0.coords t 0).val = t.val / 16 := by decide +kernel
  exact h t
/-- Where the blocks of a point lie. -/
theorem idx_rows : ∀ t : Fin grid0.N, cc0_transform_0 (grid0.coords t) = ![t.val / 16, t.val % 16, 0] := by decide +kernel

/-- The batch and the row of a point's row. -/
abbrev bt (t : Fin grid0.N) : Fin 2 := ⟨t.val / 16, by have := pt_lt t; omega⟩
abbrev rt (t : Fin grid0.N) (r : Fin 512) : Fin 8192 := ⟨512 * (t.val % 16) + r.val, by omega⟩

/-- A block of rows begins at its point's first row. -/
theorem row_val (N : ℕ) (t : Fin grid0.N) (r : Fin 512) (k : Fin N) (a : Fin 3) :
    cc0_transform_0 (grid0.coords t) a * (![1, 512, N] : Fin 3 → ℕ) a + (ix3 (n0 := 1) (n1 := 512) (n2 := N) 0 r k a).val
      = (ix3 (n0 := 2) (n1 := 8192) (n2 := N) (bt t) (rt t r) k a).val := by
  rw [idx_rows]
  match a with
  | ⟨0, _⟩ => change t.val / 16 * 1 + 0 = t.val / 16; omega
  | ⟨1, _⟩ => change t.val % 16 * 512 + r.val = 512 * (t.val % 16) + r.val; omega
  | ⟨2, _⟩ => change 0 * N + k.val = k.val; omega
/-- A block that is its whole array begins at 0. -/
theorem all_val (t : Fin grid0.N) (s v : ℕ) (a : Fin 2) : cc0_transform_5 (grid0.coords t) a * s + v = v := by
  match a with
  | ⟨0, _⟩ => change 0 * s + v = v; omega
  | ⟨1, _⟩ => change 0 * s + v = v; omega
theorem all_val3 (t : Fin grid0.N) (s v : ℕ) (a : Fin 3) : cc0_transform_9 (grid0.coords t) a * s + v = v := by
  match a with
  | ⟨0, _⟩ => change 0 * s + v = v; omega
  | ⟨1, _⟩ => change 0 * s + v = v; omega
  | ⟨2, _⟩ => change 0 * s + v = v; omega

variable (m : (ℓ : Loc nD τ sig) → Buf (Elt Ideal) ℓ)

/-- The rounded weights. -/
theorem V_v1 (c : Dev nD) : V m c main_v1 = truncf (F := Ideal) .bf16 (m ((c : Thread nD τ).loc main_arg7)) bitsLt_bf16_f32 := by
  show StableHlo.after (List.flatten [hostOps0, hostOps0_1, hostOps0_2]) _ (Proc.devRef .tc main_v1) = _
  simp only [hostOps0, hostOps0_1, hostOps0_2, List.flatten_cons, List.flatten_nil, List.append_nil, List.cons_append, List.nil_append]
  after_results
theorem V_v2 (c : Dev nD) : V m c main_v2 = truncf (F := Ideal) .bf16 (m ((c : Thread nD τ).loc main_arg8)) bitsLt_bf16_f32 := by
  show StableHlo.after (List.flatten [hostOps0, hostOps0_1, hostOps0_2]) _ (Proc.devRef .tc main_v2) = _
  simp only [hostOps0, hostOps0_1, hostOps0_2, List.flatten_cons, List.flatten_nil, List.append_nil, List.cons_append, List.nil_append]
  after_results
/-- The gains as rows. -/
theorem V_v3 (c : Dev nD) : V m c main_v3 = shapeCast S1x512 (m ((c : Thread nD τ).loc main_arg6) : S512.Idx → EReal) shapeCasts_S512_S1x512 := by
  show StableHlo.after (List.flatten [hostOps0, hostOps0_1, hostOps0_2]) _ (Proc.devRef .tc main_v3) = _
  simp only [hostOps0, hostOps0_1, hostOps0_2, List.flatten_cons, List.flatten_nil, List.append_nil, List.cons_append, List.nil_append]
  after_results
  rfl
theorem V_v4 (c : Dev nD) : V m c main_v4 = shapeCast S1x1024 (m ((c : Thread nD τ).loc main_arg9) : S1024.Idx → EReal) shapeCasts_S1024_S1x1024 := by
  show StableHlo.after (List.flatten [hostOps0, hostOps0_1, hostOps0_2]) _ (Proc.devRef .tc main_v4) = _
  simp only [hostOps0, hostOps0_1, hostOps0_2, List.flatten_cons, List.flatten_nil, List.append_nil, List.cons_append, List.nil_append]
  after_results
  rfl

theorem blk0_at (c : Dev nD) (t : Fin grid0.N) (r : Fin 512) (k : Fin 1024) :
    iblk m c 0 t (ix3 (n0 := 1) (n1 := 512) 0 r k) = m ((c : Thread nD τ).loc main_arg0) (ix3 (n0 := 2) (n1 := 8192) (n2 := 1024) (bt t) (rt t r) k) :=
  (congrArg (V m c main_arg0) (funext fun a => Fin.ext ((Pipeline.Window.rect_emb_val (cfg0.win 0) t (ix3 (n0 := 1) (n1 := 512) 0 r k) a).trans (row_val 1024 t r k a)))).trans
    (congrFun (V_main_arg0 m c) _)
theorem blk1_at (c : Dev nD) (t : Fin grid0.N) (r : Fin 512) (k : Fin 512) :
    iblk m c 1 t (ix3 (n0 := 1) (n1 := 512) 0 r k) = m ((c : Thread nD τ).loc main_arg1) (ix3 (n0 := 2) (n1 := 8192) (n2 := 512) (bt t) (rt t r) k) :=
  (congrArg (V m c main_arg1) (funext fun a => Fin.ext ((Pipeline.Window.rect_emb_val (cfg0.win 1) t (ix3 (n0 := 1) (n1 := 512) 0 r k) a).trans (row_val 512 t r k a)))).trans
    (congrFun (V_main_arg1 m c) _)
theorem blk2_at (c : Dev nD) (t : Fin grid0.N) (r : Fin 512) (k : Fin 512) :
    iblk m c 2 t (ix3 (n0 := 1) (n1 := 512) 0 r k) = m ((c : Thread nD τ).loc main_arg2) (ix3 (n0 := 2) (n1 := 8192) (n2 := 512) (bt t) (rt t r) k) :=
  (congrArg (V m c main_arg2) (funext fun a => Fin.ext ((Pipeline.Window.rect_emb_val (cfg0.win 2) t (ix3 (n0 := 1) (n1 := 512) 0 r k) a).trans (row_val 512 t r k a)))).trans
    (congrFun (V_main_arg2 m c) _)
theorem blk3_at (c : Dev nD) (t : Fin grid0.N) (r : Fin 512) (k : Fin 512) :
    iblk m c 3 t (ix3 (n0 := 1) (n1 := 512) 0 r k) = m ((c : Thread nD τ).loc main_arg3) (ix3 (n0 := 2) (n1 := 8192) (n2 := 512) (bt t) (rt t r) k) :=
  (congrArg (V m c main_arg3) (funext fun a => Fin.ext ((Pipeline.Window.rect_emb_val (cfg0.win 3) t (ix3 (n0 := 1) (n1 := 512) 0 r k) a).trans (row_val 512 t r k a)))).trans
    (congrFun (V_main_arg3 m c) _)
theorem blk4_at (c : Dev nD) (t : Fin grid0.N) (r : Fin 512) (k : Fin 1024) :
    iblk m c 4 t (ix3 (n0 := 1) (n1 := 512) 0 r k) = m ((c : Thread nD τ).loc main_arg4) (ix3 (n0 := 2) (n1 := 8192) (n2 := 1024) (bt t) (rt t r) k) :=
  (congrArg (V m c main_arg4) (funext fun a => Fin.ext ((Pipeline.Window.rect_emb_val (cfg0.win 4) t (ix3 (n0 := 1) (n1 := 512) 0 r k) a).trans (row_val 1024 t r k a)))).trans
    (congrFun (V_main_arg4 m c) _)
theorem blk5_at (c : Dev nD) (t : Fin grid0.N) (j : Fin 8) (k : Fin 6144) :
    iblk m c 5 t (ix2 j k) = m ((c : Thread nD τ).loc main_arg5) (ix2 j k) :=
  (congrArg (V m c main_arg5) (funext fun a => Fin.ext ((Pipeline.Window.rect_emb_val (cfg0.win 5) t (ix2 j k) a).trans (all_val t _ _ a)))).trans (congrFun (V_main_arg5 m c) (ix2 j k))
theorem blk7_at (c : Dev nD) (t : Fin grid0.N) (j : Fin 128) (k : Fin 128) :
    iblk m c 7 t (ix2 j k) = m ((c : Thread nD τ).loc main_arg11) (ix2 j k) :=
  (congrArg (V m c main_arg11) (funext fun a => Fin.ext ((Pipeline.Window.rect_emb_val (cfg0.win 7) t (ix2 j k) a).trans (all_val t _ _ a)))).trans (congrFun (V_main_arg11 m c) (ix2 j k))
theorem blk8_at (c : Dev nD) (t : Fin grid0.N) (j : Fin 128) (k : Fin 128) :
    iblk m c 8 t (ix2 j k) = m ((c : Thread nD τ).loc main_arg12) (ix2 j k) :=
  (congrArg (V m c main_arg12) (funext fun a => Fin.ext ((Pipeline.Window.rect_emb_val (cfg0.win 8) t (ix2 j k) a).trans (all_val t _ _ a)))).trans (congrFun (V_main_arg12 m c) (ix2 j k))
theorem blk10_at (c : Dev nD) (t : Fin grid0.N) (j : Fin 1024) (k : Fin 1024) :
    iblk m c 10 t (ix2 j k) = m ((c : Thread nD τ).loc main_arg8) (ix2 j k) :=
  (congrArg (V m c main_v2) (funext fun a => Fin.ext ((Pipeline.Window.rect_emb_val (cfg0.win 10) t (ix2 j k) a).trans (all_val t _ _ a)))).trans (congrFun (V_v2 m c) (ix2 j k))
theorem blk9_at (c : Dev nD) (t : Fin grid0.N) (g : Fin 4) (j k : Fin 128) :
    iblk m c 9 t (ix3 g j k) = m ((c : Thread nD τ).loc main_arg7) (ix3 g j k) :=
  (congrArg (V m c main_v1) (funext fun a => Fin.ext ((Pipeline.Window.rect_emb_val (cfg0.win 9) t (ix3 g j k) a).trans (all_val3 t _ _ a)))).trans (congrFun (V_v1 m c) (ix3 g j k))
theorem blk6_at (c : Dev nD) (t : Fin grid0.N) (k : Fin 512) :
    iblk m c 6 t (ix2 (n0 := 1) 0 k) = m ((c : Thread nD τ).loc main_arg6) (ix1 (n := 512) k) := by
  refine Eq.trans ?_ ((congrFun (V_v3 m c) (ix2 (n0 := 1) 0 k)).trans (shapeCast_apply (s := S512) (t := S1x512) _ _ _ _ ?_))
  · exact congrArg (V m c main_v3) (funext fun a => Fin.ext ((Pipeline.Window.rect_emb_val (cfg0.win 6) t (ix2 (n0 := 1) 0 k) a).trans (all_val t _ _ a)))
  · rw [Shape.rowMajor_val_one, Shape.rowMajor_val_two]
    change k.val = 0 * 512 + k.val
    omega
theorem blk11_at (c : Dev nD) (t : Fin grid0.N) (k : Fin 1024) :
    iblk m c 11 t (ix2 (n0 := 1) 0 k) = m ((c : Thread nD τ).loc main_arg9) (ix1 (n := 1024) k) := by
  refine Eq.trans ?_ ((congrFun (V_v4 m c) (ix2 (n0 := 1) 0 k)).trans (shapeCast_apply (s := S1024) (t := S1x1024) _ _ _ _ ?_))
  · exact congrArg (V m c main_v4) (funext fun a => Fin.ext ((Pipeline.Window.rect_emb_val (cfg0.win 11) t (ix2 (n0 := 1) 0 k) a).trans (all_val t _ _ a)))
  · rw [Shape.rowMajor_val_one, Shape.rowMajor_val_two]
    change k.val = 0 * 1024 + k.val
    omega

/-- The first result from the arguments, and the second. -/
def mixM (c : Dev nD) (b : Fin 2) (r : Fin 8192) (n : Fin 1024) : EReal :=
  mixA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) b r n
def hidM (c : Dev nD) (b : Fin 2) (r : Fin 8192) (n : Fin 1024) : EReal :=
  hidA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) b r n

/-- A block's modulation is the arguments'. -/
theorem modB_at (c : Dev nD) (t : Fin grid0.N) (o : ℕ) (ho : o + 1024 ≤ 6144) (k : Fin 1024) :
    modB (grid0.coords t) (iblk m c 5 t) o ho k = m ((c : Thread nD τ).loc main_arg5) (ix2 (n0 := 8) (n1 := 6144) ⟨(bt t).val, by omega⟩ ⟨o + k.val, by omega⟩) :=
  (blk5_at m c t _ _).trans (congrArg (fun z => m ((c : Thread nD τ).loc main_arg5) (ix2 (n0 := 8) (n1 := 6144) z ⟨o + k.val, by omega⟩)) (Fin.ext (coord0 t)))
/-- A block's rows mixed are rows of the arguments mixed. -/
theorem mix_at (c : Dev nD) (t : Fin grid0.N) (r : Fin 512) (n : Fin 1024) :
    mixB (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) r n = mixM m c (bt t) (rt t r) n := by
  refine congr (congr (congr (congr (congrArg addE (funext fun k => ?_)) (funext fun k => blk4_at m c t r k)) (funext fun k => modB_at m c t 2048 (by omega) k))
    (funext fun k => funext fun n => blk10_at m c t k n)) rfl
  refine congr (congr (congr (congr (congr (congr (congr (congrArg partE (funext fun k => blk0_at m c t r k)) (funext fun k => ?_)) (funext fun k => blk6_at m c t k)) (funext fun k => blk3_at m c t r k))
    (funext fun j => funext fun k => blk7_at m c t j k)) (funext fun j => funext fun k => blk8_at m c t j k)) (funext fun g => funext fun j => funext fun k => blk9_at m c t g j k)) rfl
  exact congrArg₂ (· + · : EReal → EReal → EReal) (blk1_at m c t r k) (blk2_at m c t r k)
theorem hid_at (c : Dev nD) (t : Fin grid0.N) (r : Fin 512) (n : Fin 1024) :
    hidB (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) r n = hidM m c (bt t) (rt t r) n :=
  congr (congr (congr (congr (congrArg normE (funext fun k => mix_at m c t r k)) (funext fun k => blk11_at m c t k)) (funext fun k => modB_at m c t 4096 (by omega) k)) (funext fun k => modB_at m c t 3072 (by omega) k)) rfl

/-- The indices of a block of a result. -/
abbrev yB (r : Fin 512) (n : Fin 1024) : S1x512x1024.Idx := ix3 0 r n
/-- Every one is of this form. -/
theorem blk_ix (y : S1x512x1024.Idx) : ∃ (r : Fin 512) (n : Fin 1024), y = ix3 (n0 := 1) (n1 := 512) 0 r n := by
  have h1 : (y 0).val < 1 := (y 0).isLt
  refine ⟨y 1, y 2, ?_⟩
  funext a
  match a with
  | ⟨0, _⟩ => exact Fin.ext (by change (y 0).val = 0; omega)
  | ⟨1, _⟩ => rfl
  | ⟨2, _⟩ => rfl
/-- An index of a result. -/
theorem out_ix (i : S2x8192x1024.Idx) : ∃ (b : Fin 2) (r : Fin 8192) (n : Fin 1024), i = ix3 (n0 := 2) (n1 := 8192) b r n :=
  ⟨_, _, _, eq_ix3 (n0 := 2) (n1 := 8192) (n2 := 1024) i⟩
/-- A result from its elements. -/
def arrOf (f : Fin 2 → Fin 8192 → Fin 1024 → EReal) : S2x8192x1024.Idx → EReal := fun i => f (i 0) (i 1) (i 2)

/-- Where a block's elements lie in a result; the same for both. -/
theorem blk_emb (t : Fin grid0.N) (r : Fin 512) (n : Fin 1024) :
    ((cfg0.win 13).blk t).view.emb (ix3 (n0 := 1) (n1 := 512) 0 r n) = ix3 (n0 := 2) (n1 := 8192) (n2 := 1024) (bt t) (rt t r) n :=
  funext fun a => Fin.ext ((Pipeline.Window.rect_emb_val (cfg0.win 13) t (ix3 (n0 := 1) (n1 := 512) 0 r n) a).trans (row_val 1024 t r n a))
/-- Every element of a result lies in the block of a point. -/
theorem at_emb (b : Fin 2) (r : Fin 8192) (n : Fin 1024) (hN : 16 * b.val + r.val / 512 < grid0.N) :
    ix3 (n0 := 2) (n1 := 8192) b r n = ((cfg0.win 13).blk ⟨16 * b.val + r.val / 512, hN⟩).view.emb (ix3 (n0 := 1) (n1 := 512) (n2 := 1024) 0 ⟨r.val % 512, by omega⟩ n) := by
  refine (congrArg₂ (fun x y => ix3 (n0 := 2) (n1 := 8192) (n2 := 1024) x y n) (Fin.ext ?_) (Fin.ext ?_)).trans (blk_emb _ _ n).symm
  · change b.val = (16 * b.val + r.val / 512) / 16; omega
  · change r.val = 512 * ((16 * b.val + r.val / 512) % 16) + r.val % 512; omega

/-- The first result. -/
def res13 (c : Dev nD) : S2x8192x1024.Idx → EReal := arrOf (mixM m c)
theorem arr13 (c : Dev nD) : (dats m 0 c).arrAt 13 cfg0.N = res13 m c := by
  refine (dats m 0 c).arrAt_eq_of_emb 13 _ (fun t hf y => ?_) (fun i => ?_)
  · obtain ⟨r, n, rfl⟩ := blk_ix y
    refine Eq.trans ?_ (congrArg (res13 m c) (blk_emb t r n).symm)
    refine (congrFun (Cert.Kernel3Ideal.Value.flushed13_A m c t) (yB r n)).trans ?_
    exact (out13_at c _ _ _ _ _ _ _ _ _ _ _ _ _ _ _ _ _ _ _ _ _ _ _ _ _ _ _ _ _ _ _ _ _ _ _ _ _ _ _ _ _ _ _ _ _ _ r n).trans (mix_at m c t r n)
  · obtain ⟨b, r, n, rfl⟩ := out_ix i
    have hN : 16 * b.val + r.val / 512 < grid0.N := lt_of_lt_of_eq (by omega) N_0.symm
    refine ⟨⟨16 * b.val + r.val / 512, hN⟩, flush0_13 _, ?_⟩
    rw [show ix3 (n0 := 2) (n1 := 8192) b r n = ((cfg0.win 13).blk ⟨16 * b.val + r.val / 512, hN⟩).view.emb _ from at_emb b r n hN]
    exact View.emb_mem_set _ _

/-- The second result. -/
def res14 (c : Dev nD) : S2x8192x1024.Idx → EReal := arrOf (hidM m c)
theorem arr14 (c : Dev nD) : (dats m 0 c).arrAt 14 cfg0.N = res14 m c := by
  refine (dats m 0 c).arrAt_eq_of_emb 14 _ (fun t hf y => ?_) (fun i => ?_)
  · obtain ⟨r, n, rfl⟩ := blk_ix y
    refine Eq.trans ?_ (congrArg (res14 m c) (blk_emb t r n).symm)
    refine (congrFun (Cert.Kernel3Ideal.Value.flushed14_A m c t) (yB r n)).trans ?_
    exact (out14_at c _ _ _ _ _ _ _ _ _ _ _ _ _ _ _ _ _ _ _ _ _ _ _ _ _ _ _ _ _ _ _ _ _ _ _ _ _ _ _ _ _ _ _ _ _ _ r n).trans (hid_at m c t r n)
  · obtain ⟨b, r, n, rfl⟩ := out_ix i
    have hN : 16 * b.val + r.val / 512 < grid0.N := lt_of_lt_of_eq (by omega) N_0.symm
    refine ⟨⟨16 * b.val + r.val / 512, hN⟩, flush0_14 _, ?_⟩
    rw [show ix3 (n0 := 2) (n1 := 8192) b r n = ((cfg0.win 14).blk ⟨16 * b.val + r.val / 512, hN⟩).view.emb _ from at_emb b r n hN]
    exact View.emb_mem_set _ _

end Cert.Kernel3Ideal.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.K.Frame
public import proofs.«01_k».proof.Proof.V.Same
public import proofs.«01_k».proof.Proof.V.Ref
public import proofs.«01_k».proof.Proof.V.Value
public import proofs.«01_k».proof.Proof.V2.Value
public import proofs.«01_k».proof.Proof.V3.Value

@[expose] public section

set_option maxRecDepth 16384

noncomputable section

namespace Cert.Proof

open Idealize.ShloMosaic Idealize.ShloMosaic.TcCoe Idealize.SL.Sem

/-- The routed feed-forward call, at machine words: with tokens in range it ends, its arguments are as they were and
    no semaphore is left raised. -/
theorem frame_kernel : quiescent_Kernel (hKernel := Cert.Kernel.Gen.facts) (hPre_in_range := Cert.Pre_in_range.Gen.facts) := by
  intro m g h
  letI := Cert.Pre_in_range.Gen.facts
  exact Cert.Kernel.Ffn.run_frame m (fun c i => Cert.Kernel.Ffn.pre_at _ _ _ _ _ (h c) i) g

/-- The same of the exact reading. -/
theorem frame_ideal : quiescent_KernelIdeal (hKernelIdeal := Cert.KernelIdeal.Gen.facts) (hPre_in_range := Cert.Pre_in_range.Gen.facts) := by
  intro m g h
  letI := Cert.Pre_in_range.Gen.facts
  exact Cert.FfnSame.run_of (Cert.Kernel.Ffn.run_frame (F := Ideal) m (fun c i => Cert.Kernel.Ffn.pre_at _ _ _ _ _ (h c) i) g)

/-- The reference ends, its arguments are as they were, and it has no semaphore. -/
theorem frame_reference : quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- The same under the precondition. -/
theorem frame_reference_in_range : quiescent_ReferenceIdeal_pre_in_range (hReferenceIdeal := Cert.ReferenceIdeal.Gen.facts)
    (hPre_in_range := Cert.Pre_in_range.Gen.facts) := by
  intro m g _
  exact frame_reference m g trivial

/-- The reference's result read as an array: the feed-forward of its arguments. -/
theorem reference_value (x0 x1 x2 x3 x4) (h) :
    Cert.ReferenceIdeal.Read.val_main_v15 (F := Ideal) x0 x1 x2 x3 x4
      = fun i : Cert.ReferenceIdeal.S2x16x1024x1024.Idx => Cert.FfnMath.outE x0 x1 x2 x3 x4 h (i 0) (i 1) (i 2) (i 3) := by
  funext i
  refine (congrArg _ (ValueIdx.eq_ix4 (n0 := 2) (n1 := 16) (n2 := 1024) (n3 := 1024) i)).trans ?_
  exact Cert.ReferenceIdeal.Ffn.v15_at x0 x1 x2 x3 x4 h (i 0) (i 1) (i 2) (i 3)

/-- With tokens in range and equal arguments, the exact reading of the call and the reference end with the same
    result, and with their arguments as they were. -/
theorem same_values : algebraic_KernelIdeal_ReferenceIdeal (hKernelIdeal := Cert.KernelIdeal.Gen.facts) (hReferenceIdeal := Cert.ReferenceIdeal.Gen.facts)
    (hPre_in_range := Cert.Pre_in_range.Gen.facts) := by
  intro m g m' g' hp ha
  letI := Cert.Pre_in_range.Gen.facts
  have hh : ∀ (c : Dev Cert.KernelIdeal.nD) i, ((m ((c.tc : Thread Cert.KernelIdeal.nD Cert.KernelIdeal.τ).loc Cert.KernelIdeal.main_arg0) : IVec Cert.KernelIdeal.S2x16x1024 32) i).toNat < 8192 :=
    fun c i => Cert.Kernel.Ffn.pre_at _ _ _ _ _ (hp c) i
  refine ⟨fun c => Cert.Kernel.Ffn.outV m hh c, ?_, ?_⟩
  · refine Cert.FfnSame.run_of ((θ_run _ _ _).mono (fun r hr c => ?_) (Cert.Kernel.Ffn.run_main (F := Ideal) (Cert.Kernel.Ffn.inRows m hh) g))
    exact ⟨(Pipeline.FramePost.out_eq hr.1 c 3).trans (Cert.Kernel.Ffn.out_arr m hh c), Cert.Kernel.Ffn.frame_args m hr.1 c⟩
  · refine (θ_run _ _ _).mono (fun r hr c => ⟨?_, (hr c).2⟩) (Cert.ReferenceIdeal.Value.run m' g')
    obtain ⟨h0, h1, h2, h3, h4⟩ := ha c
    refine (hr c).1.trans ?_
    refine (Cert.ReferenceIdeal.Read.val_main_v15_eq _ _ _ _ _).trans ?_
    rw [h0, h1, h2, h3, h4]
    exact reference_value _ _ _ _ _ (hh c)

/-- The projection call ends, at machine words, with its arguments as they were and no semaphore left raised. -/
theorem frame_kernel2 : quiescent_Kernel2 (hKernel2 := Cert.Kernel2.Gen.facts) := fun m g _ => Cert.Kernel2.Gen.frame m g

/-- The same of the exact reading. -/
theorem frame_ideal2 : quiescent_Kernel2Ideal (hKernel2Ideal := Cert.Kernel2Ideal.Gen.facts) := fun m g _ => Cert.Kernel2Ideal.Gen.frame m g

/-- The projection's reference ends, its arguments are as they were, and it has no semaphore. -/
theorem frame_reference2 : quiescent_Reference2Ideal (hReference2Ideal := Cert.Reference2Ideal.Gen.facts) := by
  intro m g _
  exact (θ_run _ _ _).mono (fun r h => ⟨fun c => (h c).2.2.2.2.2.2, sem_eq_zero_of_no_sems (by decide) r.2⟩) (Cert.Reference2Ideal.Value.run m g)

/-- Two arrays of results agree where their elements do. -/
theorem arr_ext (f : Fin 2 → Fin 8192 → Fin 512 → EReal) (v : Cert.Reference2Ideal.S2x8192x512.Idx → EReal)
    (h : ∀ b r n, v (ValueIdx.ix3 (n0 := 2) (n1 := 8192) (n2 := 512) b r n) = f b r n) : v = Cert.Kernel2Ideal.Proj.arrOf f := by
  funext i
  exact (congrArg v (ValueIdx.eq_ix3 (n0 := 2) (n1 := 8192) (n2 := 512) i)).trans (h (i 0) (i 1) (i 2))

/-- With equal arguments, the exact reading of the projection call and its reference end with the same six results,
    and with their arguments as they were. -/
theorem same_values2 : algebraic_Kernel2Ideal_Reference2Ideal (hKernel2Ideal := Cert.Kernel2Ideal.Gen.facts) (hReference2Ideal := Cert.Reference2Ideal.Gen.facts) := by
  intro m g m' g' _ ha
  refine ⟨fun c => Cert.Kernel2Ideal.Proj.res5 m c, fun c => Cert.Kernel2Ideal.Proj.res6 m c, fun c => Cert.Kernel2Ideal.Proj.res7 m c,
    fun c => Cert.Kernel2Ideal.Proj.res8 m c, fun c => Cert.Kernel2Ideal.Proj.res9 m c, fun c => Cert.Kernel2Ideal.Proj.res10 m c, ?_, ?_⟩
  · refine (θ_run _ _ _).mono (fun r hr c => ?_) (Cert.Kernel2Ideal.Value.run_blocks m g)
    obtain ⟨h5, h6, h7, h8, h9, h10, hargs⟩ := hr c
    exact ⟨h5.trans (Cert.Kernel2Ideal.Proj.arr5 m c), h6.trans (Cert.Kernel2Ideal.Proj.arr6 m c), h7.trans (Cert.Kernel2Ideal.Proj.arr7 m c),
      h8.trans (Cert.Kernel2Ideal.Proj.arr8 m c), h9.trans (Cert.Kernel2Ideal.Proj.arr9 m c), h10.trans (Cert.Kernel2Ideal.Proj.arr10 m c), hargs⟩
  · refine (θ_run _ _ _).mono (fun r hr c => ?_) (Cert.Reference2Ideal.Value.run m' g')
    obtain ⟨h38, h45, h46, h63, h80, h82, hargs⟩ := hr c
    obtain ⟨h0, h1, h2, h3, h4⟩ := ha c
    refine ⟨h38.trans ?_, h45.trans ?_, h46.trans ?_, h63.trans ?_, h80.trans ?_, h82.trans ?_, hargs⟩
    · refine (Cert.Reference2Ideal.Read.val_main_v38_eq _ _ _ _).trans ?_
      rw [h0, h1, h2, h3]
      exact arr_ext _ _ fun b r n => (Cert.Reference2Ideal.Proj.v38_at _ _ _ _ b r n).trans (congrArg (Cert.Kernel2Ideal.Proj.projM m c b r) (Fin.ext (Nat.zero_add _).symm))
    · refine (Cert.Reference2Ideal.Read.val_main_v45_eq _ _ _ _).trans ?_
      rw [h0, h1, h2, h3]
      exact arr_ext _ _ fun b r n => Cert.Reference2Ideal.Proj.v45_at _ _ _ _ b r n
    · refine (Cert.Reference2Ideal.Read.val_main_v46_eq _ _ _ _).trans ?_
      rw [h0, h1, h2, h3]
      exact arr_ext _ _ fun b r n => Cert.Reference2Ideal.Proj.v46_at _ _ _ _ b r n
    · refine (Cert.Reference2Ideal.Read.val_main_v63_eq m' c).trans ?_
      rw [h0, h1, h2, h3, h4]
      exact arr_ext _ _ fun b r n => Cert.Reference2Ideal.Proj.v63_at _ _ _ _ _ b r n
    · refine (Cert.Reference2Ideal.Read.val_main_v80_eq m' c).trans ?_
      rw [h0, h1, h2, h3, h4]
      exact arr_ext _ _ fun b r n => Cert.Reference2Ideal.Proj.v80_at _ _ _ _ _ b r n
    · refine (Cert.Reference2Ideal.Read.val_main_v82_eq _ _ _ _).trans ?_
      rw [h0, h1, h2, h3]
      exact arr_ext _ _ fun b r n => Cert.Reference2Ideal.Proj.v82_at _ _ _ _ b r n

/-- The output projection call ends, at machine words, with its arguments as they were and no semaphore left raised. -/
theorem frame_kernel3 : quiescent_Kernel3 (hKernel3 := Cert.Kernel3.Gen.facts) := fun m g _ => Cert.Kernel3.Gen.frame m g

/-- The same of the exact reading. -/
theorem frame_ideal3 : quiescent_Kernel3Ideal (hKernel3Ideal := Cert.Kernel3Ideal.Gen.facts) := fun m g _ => Cert.Kernel3Ideal.Gen.frame m g

/-- The output projection's reference ends, its arguments are as they were, and it has no semaphore. -/
theorem frame_reference3 : quiescent_Reference3Ideal (hReference3Ideal := Cert.Reference3Ideal.Gen.facts) := by
  intro m g _
  exact (θ_run _ _ _).mono (fun r h => ⟨fun c => (h c).2.2, sem_eq_zero_of_no_sems (by decide) r.2⟩) (Cert.Reference3Ideal.Value.run m g)

/-- Two arrays of rows agree where their elements do. -/
theorem arr_ext3 (f : Fin 2 → Fin 8192 → Fin 1024 → EReal) (v : Cert.Reference3Ideal.S2x8192x1024.Idx → EReal)
    (h : ∀ b r n, v (ValueIdx.ix3 (n0 := 2) (n1 := 8192) (n2 := 1024) b r n) = f b r n) : v = Cert.Kernel3Ideal.Mix.arrOf f := by
  funext i
  exact (congrArg v (ValueIdx.eq_ix3 (n0 := 2) (n1 := 8192) (n2 := 1024) i)).trans (h (i 0) (i 1) (i 2))

/-- With equal arguments, the exact reading of the output projection call and its reference end with the same two
    results, and with their arguments as they were. -/
theorem same_values3 : algebraic_Kernel3Ideal_Reference3Ideal (hKernel3Ideal := Cert.Kernel3Ideal.Gen.facts) (hReference3Ideal := Cert.Reference3Ideal.Gen.facts) := by
  intro m g m' g' _ ha
  refine ⟨fun c => Cert.Kernel3Ideal.Mix.res13 m c, fun c => Cert.Kernel3Ideal.Mix.res14 m c, ?_, ?_⟩
  · refine (θ_run _ _ _).mono (fun r hr c => ?_) (Cert.Kernel3Ideal.Value.run_blocks m g)
    obtain ⟨h13, h14, -, hargs⟩ := hr c
    exact ⟨h13.trans (Cert.Kernel3Ideal.Mix.arr13 m c), h14.trans (Cert.Kernel3Ideal.Mix.arr14 m c), hargs⟩
  · refine (θ_run _ _ _).mono (fun r hr c => ?_) (Cert.Reference3Ideal.Value.run m' g')
    obtain ⟨h42, h61, hargs⟩ := hr c
    obtain ⟨h0, h1, h2, h3, h4, h5, h6, h7, h8, h9, h10, h11, h12⟩ := ha c
    refine ⟨h42.trans ?_, h61.trans ?_, hargs⟩
    · refine (Cert.Reference3Ideal.Read.val_main_v42_eq _ _ _ _ _ _ _ _ _ _ _).trans ?_
      rw [h0, h1, h2, h3, h4, h5, h6, h7, h8, h11, h12]
      exact arr_ext3 _ _ fun b r n => Cert.Reference3Ideal.Mix.v42_at _ _ _ _ _ _ _ _ _ _ _ b r n
    · refine (Cert.Reference3Ideal.Read.val_main_v61_eq m' c).trans ?_
      rw [h0, h1, h2, h3, h4, h5, h6, h7, h8, h9, h11, h12]
      exact arr_ext3 _ _ fun b r n => Cert.Reference3Ideal.Mix.v61_at _ _ _ _ _ _ _ _ _ _ _ _ b r n

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_in_range.Gen.facts,
    frame_kernel, frame_ideal, frame_reference, frame_reference_in_range, frame_kernel2, frame_ideal2, frame_reference2,
    frame_kernel3, frame_ideal3, frame_reference3, trivial, same_values, trivial, same_values2, trivial, same_values3⟩

end Cert.Proof
